-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S1024x1024 : Shape := ⟨2, ![1024, 1024]⟩
abbrev S128x1024 : Shape := ⟨2, ![128, 1024]⟩
abbrev S7x128x1024 : Shape := ⟨3, ![7, 128, 1024]⟩
abbrev S3x128x1024 : Shape := ⟨3, ![3, 128, 1024]⟩
abbrev S4x7 : Shape := ⟨2, ![4, 7]⟩
abbrev S4x3 : Shape := ⟨2, ![4, 3]⟩
abbrev S_ : Shape := ⟨0, ![]⟩
abbrev S1024x256 : Shape := ⟨2, ![1024, 256]⟩
abbrev S1x1 : Shape := ⟨2, ![1, 1]⟩
abbrev S1x128x256 : Shape := ⟨3, ![1, 128, 256]⟩
abbrev S128x256 : Shape := ⟨2, ![128, 256]⟩
abbrev S7x128x256 : Shape := ⟨3, ![7, 128, 256]⟩
abbrev S3x128x256 : Shape := ⟨3, ![3, 128, 256]⟩

abbrev nBuf : Space → Nat
  | .hbm => 3
  | .vmem => 9
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S1024x1024, .f32⟩
  | .local _ .vmem, ⟨0, _⟩ => ⟨S1024x32, .f32⟩
  | .local _ .vmem, ⟨1, _⟩ => ⟨S32x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S128x1024, .f32⟩
  | .local _ .vmem, ⟨6, _⟩ => ⟨S1024x1024, .bf16⟩
  | .local _ .vmem, ⟨7, _⟩ => ⟨S7x128x1024, .bf16⟩
  | .local _ .vmem, ⟨8, _⟩ => ⟨S3x128x1024, .bf16⟩
  | _, _ => ⟨S1024x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 139 → Bool
  | ⟨i, _⟩ => dmaSemScopedAt i

abbrev sig : RefSig :=
  (ofTc nBuf bufTy 1 139 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_140 : BitVec 32 := 0#32
  let c8_i32_137 : BitVec 32 := 8#32
  let c2_i32_116 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_110 : BitVec 32 := 0#32
  let v210 : BitVec 1 := Scalar.cmpi .sgt v75 c0_i32_110
  let v211 : BitVec 32 := Scalar.extui v210
  let c0_i32_111 : BitVec 32 := 0#32
  let v212 : BitVec 1 := Scalar.cmpi .slt v75 c0_i32_111
  let v213 : BitVec 32 := Scalar.extui v212
  let v214 : BitVec 32 := Scalar.subi v211 v213
  let c2_i32_109 : BitVec 32 := 2#32
  let c0_i32_112 : BitVec 32 := 0#32
  let v215 : BitVec 1 := Scalar.cmpi .sgt c2_i32_109 c0_i32_112
  let v216 : BitVec 32 := Scalar.extui v215
  let c0_i32_113 : BitVec 32 := 0#32
  let v217 : BitVec 1 := Scalar.cmpi .slt c2_i32_109 c0_i32_113
  let v218 : BitVec 32 := Scalar.extui v217
  let v219 : BitVec 32 := Scalar.subi v216 v218
  let v220 : BitVec 1 := Scalar.cmpi .ne v214 v219
  let v221 : BitVec 32 := Scalar.remsi v75 c2_i32_109
  let c0_i32_114 : BitVec 32 := 0#32
  let v222 : BitVec 1 := Scalar.cmpi .ne v221 c0_i32_114
  let v223 : BitVec 1 := Scalar.andi v220 v222
  let v209 : BitVec 32 := Scalar.divsi v75 c2_i32_109
  let c1_i32_115 : BitVec 32 := 1#32
  let v224 : BitVec 32 := Scalar.subi v209 c1_i32_115
  let v225 : BitVec 32 := Scalar.select v223 v224 v209
  let v226 : BitVec 32 := Scalar.muli c2_i32_116 v225
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_118 : BitVec 32 := 0#32
  let v228 : BitVec 1 := Scalar.cmpi .sgt v108 c0_i32_118
  let v229 : BitVec 32 := Scalar.extui v228
  let c0_i32_119 : BitVec 32 := 0#32
  let v230 : BitVec 1 := Scalar.cmpi .slt v108 c0_i32_119
  let v231 : BitVec 32 := Scalar.extui v230
  let v232 : BitVec 32 := Scalar.subi v229 v231
  let c4_i32_117 : BitVec 32 := 4#32
  let c0_i32_120 : BitVec 32 := 0#32
  let v233 : BitVec 1 := Scalar.cmpi .sgt c4_i32_117 c0_i32_120
  let v234 : BitVec 32 := Scalar.extui v233
  let c0_i32_121 : BitVec 32 := 0#32
  let v235 : BitVec 1 := Scalar.cmpi .slt c4_i32_117 c0_i32_121
  let v236 : BitVec 32 := Scalar.extui v235
  let v237 : BitVec 32 := Scalar.subi v234 v236
  let v238 : BitVec 1 := Scalar.cmpi .ne v232 v237
  let v239 : BitVec 32 := Scalar.remsi v108 c4_i32_117
  let c0_i32_122 : BitVec 32 := 0#32
  let v240 : BitVec 1 := Scalar.cmpi .ne v239 c0_i32_122
  let v241 : BitVec 1 := Scalar.andi v238 v240
  let v227 : BitVec 32 := Scalar.divsi v108 c4_i32_117
  let c1_i32_123 : BitVec 32 := 1#32
  let v242 : BitVec 32 := Scalar.subi v227 c1_i32_123
  let v243 : BitVec 32 := Scalar.select v241 v242 v227
  let v244 : BitVec 32 := Scalar.addi v226 v243
  let v267 : BitVec 32 := Scalar.muli c8_i32_137 v244
  let c4_i32_130 : BitVec 32 := 4#32
  let c2_i32_124 : BitVec 32 := 2#32
  let c0_i32_125 : BitVec 32 := 0#32
  let v245 : BitVec 1 := Scalar.cmpi .eq c2_i32_124 c0_i32_125
  let c1_i32_126 : BitVec 32 := 1#32
  let v246 : BitVec 32 := Scalar.select v245 c1_i32_126 c2_i32_124
  let v247 : BitVec 32 := Scalar.remsi v75 v246
  let c0_i32_128 : BitVec 32 := 0#32
  let v249 : BitVec 1 := Scalar.cmpi .slt v247 c0_i32_128
  let c0_i32_129 : BitVec 32 := 0#32
  let v250 : BitVec 1 := Scalar.cmpi .slt v246 c0_i32_129
  let v251 : BitVec 1 := Scalar.xori v249 v250
  let c0_i32_127 : BitVec 32 := 0#32
  let v248 : BitVec 1 := Scalar.cmpi .ne v247 c0_i32_127
  let v252 : BitVec 1 := Scalar.andi v251 v248
  let v253 : BitVec 32 := Scalar.addi v247 v246
  let v254 : BitVec 32 := Scalar.select v252 v253 v247
  let v255 : BitVec 32 := Scalar.muli c4_i32_130 v254
  let c4_i32_131 : BitVec 32 := 4#32
  let c0_i32_132 : BitVec 32 := 0#32
  let v256 : BitVec 1 := Scalar.cmpi .eq c4_i32_131 c0_i32_132
  let c1_i32_133 : BitVec 32 := 1#32
  let v257 : BitVec 32 := Scalar.select v256 c1_i32_133 c4_i32_131
  let v258 : BitVec 32 := Scalar.remsi v108 v257
  let c0_i32_135 : BitVec 32 := 0#32
  let v260 : BitVec 1 := Scalar.cmpi .slt v258 c0_i32_135
  let c0_i32_136 : BitVec 32 := 0#32
  let v261 : BitVec 1 := Scalar.cmpi .slt v257 c0_i32_136
  let v262 : BitVec 1 := Scalar.xori v260 v261
  let c0_i32_134 : BitVec 32 := 0#32
  let v259 : BitVec 1 := Scalar.cmpi .ne v258 c0_i32_134
  let v263 : BitVec 1 := Scalar.andi v262 v259
  let v264 : BitVec 32 := Scalar.addi v258 v257
  let v265 : BitVec 32 := Scalar.select v263 v264 v258
  let v266 : BitVec 32 := Scalar.addi v255 v265
  let v268 : BitVec 32 := Scalar.addi v267 v266
  let c1_i32_139 : BitVec 32 := 1#32
  let v269 : BitVec 32 := Scalar.muli v268 c1_i32_139
  let v270 : BitVec 32 := Scalar.addi c0_i32_140 v269
  v270.toNat
def k0_dev2 (d0 : Dev nD) : Nat :=
  let c0_i32_172 : BitVec 32 := 0#32
  let c8_i32_169 : BitVec 32 := 8#32
  let c2_i32_148 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_142 : BitVec 32 := 0#32
  let v272 : BitVec 1 := Scalar.cmpi .sgt v75 c0_i32_142
  let v273 : BitVec 32 := Scalar.extui v272
  let c0_i32_143 : BitVec 32 := 0#32
  let v274 : BitVec 1 := Scalar.cmpi .slt v75 c0_i32_143
  let v275 : BitVec 32 := Scalar.extui v274
  let v276 : BitVec 32 := Scalar.subi v273 v275
  let c2_i32_141 : BitVec 32 := 2#32
  let c0_i32_144 : BitVec 32 := 0#32
  let v277 : BitVec 1 := Scalar.cmpi .sgt c2_i32_141 c0_i32_144
  let v278 : BitVec 32 := Scalar.extui v277
  let c0_i32_145 : BitVec 32 := 0#32
  let v279 : BitVec 1 := Scalar.cmpi .slt c2_i32_141 c0_i32_145
  let v280 : BitVec 32 := Scalar.extui v279
  let v281 : BitVec 32 := Scalar.subi v278 v280
  let v282 : BitVec 1 := Scalar.cmpi .ne v276 v281
  let v283 : BitVec 32 := Scalar.remsi v75 c2_i32_141
  let c0_i32_146 : BitVec 32 := 0#32
  let v284 : BitVec 1 := Scalar.cmpi .ne v283 c0_i32_146
  let v285 : BitVec 1 := Scalar.andi v282 v284
  let v271 : BitVec 32 := Scalar.divsi v75 c2_i32_141
  let c1_i32_147 : BitVec 32 := 1#32
  let v286 : BitVec 32 := Scalar.subi v271 c1_i32_147
  let v287 : BitVec 32 := Scalar.select v285 v286 v271
  let v288 : BitVec 32 := Scalar.muli c2_i32_148 v287
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_150 : BitVec 32 := 0#32
  let v290 : BitVec 1 := Scalar.cmpi .sgt v119 c0_i32_150
  let v291 : BitVec 32 := Scalar.extui v290
  let c0_i32_151 : BitVec 32 := 0#32
  let v292 : BitVec 1 := Scalar.cmpi .slt v119 c0_i32_151
  let v293 : BitVec 32 := Scalar.extui v292
  let v294 : BitVec 32 := Scalar.subi v291 v293
  let c4_i32_149 : BitVec 32 := 4#32
  let c0_i32_152 : BitVec 32 := 0#32
  let v295 : BitVec 1 := Scalar.cmpi .sgt c4_i32_149 c0_i32_152
  let v296 : BitVec 32 := Scalar.extui v295
  let c0_i32_153 : BitVec 32 := 0#32
  let v297 : BitVec 1 := Scalar.cmpi .slt c4_i32_149 c0_i32_153
  let v298 : BitVec 32 := Scalar.extui v297
  let v299 : BitVec 32 := Scalar.subi v296 v298
  let v300 : BitVec 1 := Scalar.cmpi .ne v294 v299
  let v301 : BitVec 32 := Scalar.remsi v119 c4_i32_149
  let c0_i32_154 : BitVec 32 := 0#32
  let v302 : BitVec 1 := Scalar.cmpi .ne v301 c0_i32_154
  let v303 : BitVec 1 := Scalar.andi v300 v302
  let v289 : BitVec 32 := Scalar.divsi v119 c4_i32_149
  let c1_i32_155 : BitVec 32 := 1#32
  let v304 : BitVec 32 := Scalar.subi v289 c1_i32_155
  let v305 : BitVec 32 := Scalar.select v303 v304 v289
  let v306 : BitVec 32 := Scalar.addi v288 v305
  let v329 : BitVec 32 := Scalar.muli c8_i32_169 v306
  let c4_i32_162 : BitVec 32 := 4#32
  let c2_i32_156 : BitVec 32 := 2#32
  let c0_i32_157 : BitVec 32 := 0#32
  let v307 : BitVec 1 := Scalar.cmpi .eq c2_i32_156 c0_i32_157
  let c1_i32_158 : BitVec 32 := 1#32
  let v308 : BitVec 32 := Scalar.select v307 c1_i32_158 c2_i32_156
  let v309 : BitVec 32 := Scalar.remsi v75 v308
  let c0_i32_160 : BitVec 32 := 0#32
  let v311 : BitVec 1 := Scalar.cmpi .slt v309 c0_i32_160
  let c0_i32_161 : BitVec 32 := 0#32
  let v312 : BitVec 1 := Scalar.cmpi .slt v308 c0_i32_161
  let v313 : BitVec 1 := Scalar.xori v311 v312
  let c0_i32_159 : BitVec 32 := 0#32
  let v310 : BitVec 1 := Scalar.cmpi .ne v309 c0_i32_159
  let v314 : BitVec 1 := Scalar.andi v313 v310
  let v315 : BitVec 32 := Scalar.addi v309 v308
  let v316 : BitVec 32 := Scalar.select v314 v315 v309
  let v317 : BitVec 32 := Scalar.muli c4_i32_162 v316
  let c4_i32_163 : BitVec 32 := 4#32
  let c0_i32_164 : BitVec 32 := 0#32
  let v318 : BitVec 1 := Scalar.cmpi .eq c4_i32_163 c0_i32_164
  let c1_i32_165 : BitVec 32 := 1#32
  let v319 : BitVec 32 := Scalar.select v318 c1_i32_165 c4_i32_163
  let v320 : BitVec 32 := Scalar.remsi v119 v319
  let c0_i32_167 : BitVec 32 := 0#32
  let v322 : BitVec 1 := Scalar.cmpi .slt v320 c0_i32_167
  let c0_i32_168 : BitVec 32 := 0#32
  let v323 : BitVec 1 := Scalar.cmpi .slt v319 c0_i32_168
  let v324 : BitVec 1 := Scalar.xori v322 v323
  let c0_i32_166 : BitVec 32 := 0#32
  let v321 : BitVec 1 := Scalar.cmpi .ne v320 c0_i32_166
  let v325 : BitVec 1 := Scalar.andi v324 v321
  let v326 : BitVec 32 := Scalar.addi v320 v319
  let v327 : BitVec 32 := Scalar.select v325 v326 v320
  let v328 : BitVec 32 := Scalar.addi v317 v327
  let v330 : BitVec 32 := Scalar.addi v329 v328
  let c1_i32_171 : BitVec 32 := 1#32
  let v331 : BitVec 32 := Scalar.muli v330 c1_i32_171
  let v332 : BitVec 32 := Scalar.addi c0_i32_172 v331
  v332.toNat
def k0_dev3 (d0 : Dev nD) : Nat :=
  let c0_i32_204 : BitVec 32 := 0#32
  let c8_i32_201 : BitVec 32 := 8#32
  let c2_i32_180 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_174 : BitVec 32 := 0#32
  let v334 : BitVec 1 := Scalar.cmpi .sgt v75 c0_i32_174
  let v335 : BitVec 32 := Scalar.extui v334
  let c0_i32_175 : BitVec 32 := 0#32
  let v336 : BitVec 1 := Scalar.cmpi .slt v75 c0_i32_175
  let v337 : BitVec 32 := Scalar.extui v336
  let v338 : BitVec 32 := Scalar.subi v335 v337
  let c2_i32_173 : BitVec 32 := 2#32
  let c0_i32_176 : BitVec 32 := 0#32
  let v339 : BitVec 1 := Scalar.cmpi .sgt c2_i32_173 c0_i32_176
  let v340 : BitVec 32 := Scalar.extui v339
  let c0_i32_177 : BitVec 32 := 0#32
  let v341 : BitVec 1 := Scalar.cmpi .slt c2_i32_173 c0_i32_177
  let v342 : BitVec 32 := Scalar.extui v341
  let v343 : BitVec 32 := Scalar.subi v340 v342
  let v344 : BitVec 1 := Scalar.cmpi .ne v338 v343
  let v345 : BitVec 32 := Scalar.remsi v75 c2_i32_173
  let c0_i32_178 : BitVec 32 := 0#32
  let v346 : BitVec 1 := Scalar.cmpi .ne v345 c0_i32_178
  let v347 : BitVec 1 := Scalar.andi v344 v346
  let v333 : BitVec 32 := Scalar.divsi v75 c2_i32_173
  let c1_i32_179 : BitVec 32 := 1#32
  let v348 : BitVec 32 := Scalar.subi v333 c1_i32_179
  let v349 : BitVec 32 := Scalar.select v347 v348 v333
  let v350 : BitVec 32 := Scalar.muli c2_i32_180 v349
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_182 : BitVec 32 := 0#32
  let v352 : BitVec 1 := Scalar.cmpi .sgt v130 c0_i32_182
  let v353 : BitVec 32 := Scalar.extui v352
  let c0_i32_183 : BitVec 32 := 0#32
  let v354 : BitVec 1 := Scalar.cmpi .slt v130 c0_i32_183
  let v355 : BitVec 32 := Scalar.extui v354
  let v356 : BitVec 32 := Scalar.subi v353 v355
  let c4_i32_181 : BitVec 32 := 4#32
  let c0_i32_184 : BitVec 32 := 0#32
  let v357 : BitVec 1 := Scalar.cmpi .sgt c4_i32_181 c0_i32_184
  let v358 : BitVec 32 := Scalar.extui v357
  let c0_i32_185 : BitVec 32 := 0#32
  let v359 : BitVec 1 := Scalar.cmpi .slt c4_i32_181 c0_i32_185
  let v360 : BitVec 32 := Scalar.extui v359
  let v361 : BitVec 32 := Scalar.subi v358 v360
  let v362 : BitVec 1 := Scalar.cmpi .ne v356 v361
  let v363 : BitVec 32 := Scalar.remsi v130 c4_i32_181
  let c0_i32_186 : BitVec 32 := 0#32
  let v364 : BitVec 1 := Scalar.cmpi .ne v363 c0_i32_186
  let v365 : BitVec 1 := Scalar.andi v362 v364
  let v351 : BitVec 32 := Scalar.divsi v130 c4_i32_181
  let c1_i32_187 : BitVec 32 := 1#32
  let v366 : BitVec 32 := Scalar.subi v351 c1_i32_187
  let v367 : BitVec 32 := Scalar.select v365 v366 v351
  let v368 : BitVec 32 := Scalar.addi v350 v367
  let v391 : BitVec 32 := Scalar.muli c8_i32_201 v368
  let c4_i32_194 : BitVec 32 := 4#32
  let c2_i32_188 : BitVec 32 := 2#32
  let c0_i32_189 : BitVec 32 := 0#32
  let v369 : BitVec 1 := Scalar.cmpi .eq c2_i32_188 c0_i32_189
  let c1_i32_190 : BitVec 32 := 1#32
  let v370 : BitVec 32 := Scalar.select v369 c1_i32_190 c2_i32_188
  let v371 : BitVec 32 := Scalar.remsi v75 v370
  let c0_i32_192 : BitVec 32 := 0#32
  let v373 : BitVec 1 := Scalar.cmpi .slt v371 c0_i32_192
  let c0_i32_193 : BitVec 32 := 0#32
  let v374 : BitVec 1 := Scalar.cmpi .slt v370 c0_i32_193
  let v375 : BitVec 1 := Scalar.xori v373 v374
  let c0_i32_191 : BitVec 32 := 0#32
  let v372 : BitVec 1 := Scalar.cmpi .ne v371 c0_i32_191
  let v376 : BitVec 1 := Scalar.andi v375 v372
  let v377 : BitVec 32 := Scalar.addi v371 v370
  let v378 : BitVec 32 := Scalar.select v376 v377 v371
  let v379 : BitVec 32 := Scalar.muli c4_i32_194 v378
  let c4_i32_195 : BitVec 32 := 4#32
  let c0_i32_196 : BitVec 32 := 0#32
  let v380 : BitVec 1 := Scalar.cmpi .eq c4_i32_195 c0_i32_196
  let c1_i32_197 : BitVec 32 := 1#32
  let v381 : BitVec 32 := Scalar.select v380 c1_i32_197 c4_i32_195
  let v382 : BitVec 32 := Scalar.remsi v130 v381
  let c0_i32_199 : BitVec 32 := 0#32
  let v384 : BitVec 1 := Scalar.cmpi .slt v382 c0_i32_199
  let c0_i32_200 : BitVec 32 := 0#32
  let v385 : BitVec 1 := Scalar.cmpi .slt v381 c0_i32_200
  let v386 : BitVec 1 := Scalar.xori v384 v385
  let c0_i32_198 : BitVec 32 := 0#32
  let v383 : BitVec 1 := Scalar.cmpi .ne v382 c0_i32_198
  let v387 : BitVec 1 := Scalar.andi v386 v383
  let v388 : BitVec 32 := Scalar.addi v382 v381
  let v389 : BitVec 32 := Scalar.select v387 v388 v382
  let v390 : BitVec 32 := Scalar.addi v379 v389
  let v392 : BitVec 32 := Scalar.addi v391 v390
  let c1_i32_203 : BitVec 32 := 1#32
  let v393 : BitVec 32 := Scalar.muli v392 c1_i32_203
  let v394 : BitVec 32 := Scalar.addi c0_i32_204 v393
  v394.toNat
def k0_dev4 (d0 : Dev nD) : Nat :=
  let c0_i32_236 : BitVec 32 := 0#32
  let c8_i32_233 : BitVec 32 := 8#32
  let c2_i32_212 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_206 : BitVec 32 := 0#32
  let v396 : BitVec 1 := Scalar.cmpi .sgt v75 c0_i32_206
  let v397 : BitVec 32 := Scalar.extui v396
  let c0_i32_207 : BitVec 32 := 0#32
  let v398 : BitVec 1 := Scalar.cmpi .slt v75 c0_i32_207
  let v399 : BitVec 32 := Scalar.extui v398
  let v400 : BitVec 32 := Scalar.subi v397 v399
  let c2_i32_205 : BitVec 32 := 2#32
  let c0_i32_208 : BitVec 32 := 0#32
  let v401 : BitVec 1 := Scalar.cmpi .sgt c2_i32_205 c0_i32_208
  let v402 : BitVec 32 := Scalar.extui v401
  let c0_i32_209 : BitVec 32 := 0#32
  let v403 : BitVec 1 := Scalar.cmpi .slt c2_i32_205 c0_i32_209
  let v404 : BitVec 32 := Scalar.extui v403
  let v405 : BitVec 32 := Scalar.subi v402 v404
  let v406 : BitVec 1 := Scalar.cmpi .ne v400 v405
  let v407 : BitVec 32 := Scalar.remsi v75 c2_i32_205
  let c0_i32_210 : BitVec 32 := 0#32
  let v408 : BitVec 1 := Scalar.cmpi .ne v407 c0_i32_210
  let v409 : BitVec 1 := Scalar.andi v406 v408
  let v395 : BitVec 32 := Scalar.divsi v75 c2_i32_205
  let c1_i32_211 : BitVec 32 := 1#32
  let v410 : BitVec 32 := Scalar.subi v395 c1_i32_211
  let v411 : BitVec 32 := Scalar.select v409 v410 v395
  let v412 : BitVec 32 := Scalar.muli c2_i32_212 v411
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_214 : BitVec 32 := 0#32
  let v414 : BitVec 1 := Scalar.cmpi .sgt v141 c0_i32_214
  let v415 : BitVec 32 := Scalar.extui v414
  let c0_i32_215 : BitVec 32 := 0#32
  let v416 : BitVec 1 := Scalar.cmpi .slt v141 c0_i32_215
  let v417 : BitVec 32 := Scalar.extui v416
  let v418 : BitVec 32 := Scalar.subi v415 v417
  let c4_i32_213 : BitVec 32 := 4#32
  let c0_i32_216 : BitVec 32 := 0#32
  let v419 : BitVec 1 := Scalar.cmpi .sgt c4_i32_213 c0_i32_216
  let v420 : BitVec 32 := Scalar.extui v419
  let c0_i32_217 : BitVec 32 := 0#32
  let v421 : BitVec 1 := Scalar.cmpi .slt c4_i32_213 c0_i32_217
  let v422 : BitVec 32 := Scalar.extui v421
  let v423 : BitVec 32 := Scalar.subi v420 v422
  let v424 : BitVec 1 := Scalar.cmpi .ne v418 v423
  let v425 : BitVec 32 := Scalar.remsi v141 c4_i32_213
  let c0_i32_218 : BitVec 32 := 0#32
  let v426 : BitVec 1 := Scalar.cmpi .ne v425 c0_i32_218
  let v427 : BitVec 1 := Scalar.andi v424 v426
  let v413 : BitVec 32 := Scalar.divsi v141 c4_i32_213
  let c1_i32_219 : BitVec 32 := 1#32
  let v428 : BitVec 32 := Scalar.subi v413 c1_i32_219
  let v429 : BitVec 32 := Scalar.select v427 v428 v413
  let v430 : BitVec 32 := Scalar.addi v412 v429
  let v453 : BitVec 32 := Scalar.muli c8_i32_233 v430
  let c4_i32_226 : BitVec 32 := 4#32
  let c2_i32_220 : BitVec 32 := 2#32
  let c0_i32_221 : BitVec 32 := 0#32
  let v431 : BitVec 1 := Scalar.cmpi .eq c2_i32_220 c0_i32_221
  let c1_i32_222 : BitVec 32 := 1#32
  let v432 : BitVec 32 := Scalar.select v431 c1_i32_222 c2_i32_220
  let v433 : BitVec 32 := Scalar.remsi v75 v432
  let c0_i32_224 : BitVec 32 := 0#32
  let v435 : BitVec 1 := Scalar.cmpi .slt v433 c0_i32_224
  let c0_i32_225 : BitVec 32 := 0#32
  let v436 : BitVec 1 := Scalar.cmpi .slt v432 c0_i32_225
  let v437 : BitVec 1 := Scalar.xori v435 v436
  let c0_i32_223 : BitVec 32 := 0#32
  let v434 : BitVec 1 := Scalar.cmpi .ne v433 c0_i32_223
  let v438 : BitVec 1 := Scalar.andi v437 v434
  let v439 : BitVec 32 := Scalar.addi v433 v432
  let v440 : BitVec 32 := Scalar.select v438 v439 v433
  let v441 : BitVec 32 := Scalar.muli c4_i32_226 v440
  let c4_i32_227 : BitVec 32 := 4#32
  let c0_i32_228 : BitVec 32 := 0#32
  let v442 : BitVec 1 := Scalar.cmpi .eq c4_i32_227 c0_i32_228
  let c1_i32_229 : BitVec 32 := 1#32
  let v443 : BitVec 32 := Scalar.select v442 c1_i32_229 c4_i32_227
  let v444 : BitVec 32 := Scalar.remsi v141 v443
  let c0_i32_231 : BitVec 32 := 0#32
  let v446 : BitVec 1 := Scalar.cmpi .slt v444 c0_i32_231
  let c0_i32_232 : BitVec 32 := 0#32
  let v447 : BitVec 1 := Scalar.cmpi .slt v443 c0_i32_232
  let v448 : BitVec 1 := Scalar.xori v446 v447
  let c0_i32_230 : BitVec 32 := 0#32
  let v445 : BitVec 1 := Scalar.cmpi .ne v444 c0_i32_230
  let v449 : BitVec 1 := Scalar.andi v448 v445
  let v450 : BitVec 32 := Scalar.addi v444 v443
  let v451 : BitVec 32 := Scalar.select v449 v450 v444
  let v452 : BitVec 32 := Scalar.addi v441 v451
  let v454 : BitVec 32 := Scalar.addi v453 v452
  let c1_i32_235 : BitVec 32 := 1#32
  let v455 : BitVec 32 := Scalar.muli v454 c1_i32_235
  let v456 : BitVec 32 := Scalar.addi c0_i32_236 v455
  v456.toNat
def k0_dev5 (d0 : Dev nD) : Nat :=
  let c0_i32_268 : BitVec 32 := 0#32
  let c8_i32_265 : BitVec 32 := 8#32
  let c2_i32_244 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_238 : BitVec 32 := 0#32
  let v458 : BitVec 1 := Scalar.cmpi .sgt v75 c0_i32_238
  let v459 : BitVec 32 := Scalar.extui v458
  let c0_i32_239 : BitVec 32 := 0#32
  let v460 : BitVec 1 := Scalar.cmpi .slt v75 c0_i32_239
  let v461 : BitVec 32 := Scalar.extui v460
  let v462 : BitVec 32 := Scalar.subi v459 v461
  let c2_i32_237 : BitVec 32 := 2#32
  let c0_i32_240 : BitVec 32 := 0#32
  let v463 : BitVec 1 := Scalar.cmpi .sgt c2_i32_237 c0_i32_240
  let v464 : BitVec 32 := Scalar.extui v463
  let c0_i32_241 : BitVec 32 := 0#32
  let v465 : BitVec 1 := Scalar.cmpi .slt c2_i32_237 c0_i32_241
  let v466 : BitVec 32 := Scalar.extui v465
  let v467 : BitVec 32 := Scalar.subi v464 v466
  let v468 : BitVec 1 := Scalar.cmpi .ne v462 v467
  let v469 : BitVec 32 := Scalar.remsi v75 c2_i32_237
  let c0_i32_242 : BitVec 32 := 0#32
  let v470 : BitVec 1 := Scalar.cmpi .ne v469 c0_i32_242
  let v471 : BitVec 1 := Scalar.andi v468 v470
  let v457 : BitVec 32 := Scalar.divsi v75 c2_i32_237
  let c1_i32_243 : BitVec 32 := 1#32
  let v472 : BitVec 32 := Scalar.subi v457 c1_i32_243
  let v473 : BitVec 32 := Scalar.select v471 v472 v457
  let v474 : BitVec 32 := Scalar.muli c2_i32_244 v473
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_246 : BitVec 32 := 0#32
  let v476 : BitVec 1 := Scalar.cmpi .sgt v152 c0_i32_246
  let v477 : BitVec 32 := Scalar.extui v476
  let c0_i32_247 : BitVec 32 := 0#32
  let v478 : BitVec 1 := Scalar.cmpi .slt v152 c0_i32_247
  let v479 : BitVec 32 := Scalar.extui v478
  let v480 : BitVec 32 := Scalar.subi v477 v479
  let c4_i32_245 : BitVec 32 := 4#32
  let c0_i32_248 : BitVec 32 := 0#32
  let v481 : BitVec 1 := Scalar.cmpi .sgt c4_i32_245 c0_i32_248
  let v482 : BitVec 32 := Scalar.extui v481
  let c0_i32_249 : BitVec 32 := 0#32
  let v483 : BitVec 1 := Scalar.cmpi .slt c4_i32_245 c0_i32_249
  let v484 : BitVec 32 := Scalar.extui v483
  let v485 : BitVec 32 := Scalar.subi v482 v484
  let v486 : BitVec 1 := Scalar.cmpi .ne v480 v485
  let v487 : BitVec 32 := Scalar.remsi v152 c4_i32_245
  let c0_i32_250 : BitVec 32 := 0#32
  let v488 : BitVec 1 := Scalar.cmpi .ne v487 c0_i32_250
  let v489 : BitVec 1 := Scalar.andi v486 v488
  let v475 : BitVec 32 := Scalar.divsi v152 c4_i32_245
  let c1_i32_251 : BitVec 32 := 1#32
  let v490 : BitVec 32 := Scalar.subi v475 c1_i32_251
  let v491 : BitVec 32 := Scalar.select v489 v490 v475
  let v492 : BitVec 32 := Scalar.addi v474 v491
  let v515 : BitVec 32 := Scalar.muli c8_i32_265 v492
  let c4_i32_258 : BitVec 32 := 4#32
  let c2_i32_252 : BitVec 32 := 2#32
  let c0_i32_253 : BitVec 32 := 0#32
  let v493 : BitVec 1 := Scalar.cmpi .eq c2_i32_252 c0_i32_253
  let c1_i32_254 : BitVec 32 := 1#32
  let v494 : BitVec 32 := Scalar.select v493 c1_i32_254 c2_i32_252
  let v495 : BitVec 32 := Scalar.remsi v75 v494
  let c0_i32_256 : BitVec 32 := 0#32
  let v497 : BitVec 1 := Scalar.cmpi .slt v495 c0_i32_256
  let c0_i32_257 : BitVec 32 := 0#32
  let v498 : BitVec 1 := Scalar.cmpi .slt v494 c0_i32_257
  let v499 : BitVec 1 := Scalar.xori v497 v498
  let c0_i32_255 : BitVec 32 := 0#32
  let v496 : BitVec 1 := Scalar.cmpi .ne v495 c0_i32_255
  let v500 : BitVec 1 := Scalar.andi v499 v496
  let v501 : BitVec 32 := Scalar.addi v495 v494
  let v502 : BitVec 32 := Scalar.select v500 v501 v495
  let v503 : BitVec 32 := Scalar.muli c4_i32_258 v502
  let c4_i32_259 : BitVec 32 := 4#32
  let c0_i32_260 : BitVec 32 := 0#32
  let v504 : BitVec 1 := Scalar.cmpi .eq c4_i32_259 c0_i32_260
  let c1_i32_261 : BitVec 32 := 1#32
  let v505 : BitVec 32 := Scalar.select v504 c1_i32_261 c4_i32_259
  let v506 : BitVec 32 := Scalar.remsi v152 v505
  let c0_i32_263 : BitVec 32 := 0#32
  let v508 : BitVec 1 := Scalar.cmpi .slt v506 c0_i32_263
  let c0_i32_264 : BitVec 32 := 0#32
  let v509 : BitVec 1 := Scalar.cmpi .slt v505 c0_i32_264
  let v510 : BitVec 1 := Scalar.xori v508 v509
  let c0_i32_262 : BitVec 32 := 0#32
  let v507 : BitVec 1 := Scalar.cmpi .ne v506 c0_i32_262
  let v511 : BitVec 1 := Scalar.andi v510 v507
  let v512 : BitVec 32 := Scalar.addi v506 v505
  let v513 : BitVec 32 := Scalar.select v511 v512 v506
  let v514 : BitVec 32 := Scalar.addi v503 v513
  let v516 : BitVec 32 := Scalar.addi v515 v514
  let c1_i32_267 : BitVec 32 := 1#32
  let v517 : BitVec 32 := Scalar.muli v516 c1_i32_267
  let v518 : BitVec 32 := Scalar.addi c0_i32_268 v517
  v518.toNat
def k0_dev6 (d0 : Dev nD) : Nat :=
  let c0_i32_300 : BitVec 32 := 0#32
  let c8_i32_297 : BitVec 32 := 8#32
  let c2_i32_276 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_270 : BitVec 32 := 0#32
  let v520 : BitVec 1 := Scalar.cmpi .sgt v75 c0_i32_270
  let v521 : BitVec 32 := Scalar.extui v520
  let c0_i32_271 : BitVec 32 := 0#32
  let v522 : BitVec 1 := Scalar.cmpi .slt v75 c0_i32_271
  let v523 : BitVec 32 := Scalar.extui v522
  let v524 : BitVec 32 := Scalar.subi v521 v523
  let c2_i32_269 : BitVec 32 := 2#32
  let c0_i32_272 : BitVec 32 := 0#32
  let v525 : BitVec 1 := Scalar.cmpi .sgt c2_i32_269 c0_i32_272
  let v526 : BitVec 32 := Scalar.extui v525
  let c0_i32_273 : BitVec 32 := 0#32
  let v527 : BitVec 1 := Scalar.cmpi .slt c2_i32_269 c0_i32_273
  let v528 : BitVec 32 := Scalar.extui v527
  let v529 : BitVec 32 := Scalar.subi v526 v528
  let v530 : BitVec 1 := Scalar.cmpi .ne v524 v529
  let v531 : BitVec 32 := Scalar.remsi v75 c2_i32_269
  let c0_i32_274 : BitVec 32 := 0#32
  let v532 : BitVec 1 := Scalar.cmpi .ne v531 c0_i32_274
  let v533 : BitVec 1 := Scalar.andi v530 v532
  let v519 : BitVec 32 := Scalar.divsi v75 c2_i32_269
  let c1_i32_275 : BitVec 32 := 1#32
  let v534 : BitVec 32 := Scalar.subi v519 c1_i32_275
  let v535 : BitVec 32 := Scalar.select v533 v534 v519
  let v536 : BitVec 32 := Scalar.muli c2_i32_276 v535
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_278 : BitVec 32 := 0#32
  let v538 : BitVec 1 := Scalar.cmpi .sgt v163 c0_i32_278
  let v539 : BitVec 32 := Scalar.extui v538
  let c0_i32_279 : BitVec 32 := 0#32
  let v540 : BitVec 1 := Scalar.cmpi .slt v163 c0_i32_279
  let v541 : BitVec 32 := Scalar.extui v540
  let v542 : BitVec 32 := Scalar.subi v539 v541
  let c4_i32_277 : BitVec 32 := 4#32
  let c0_i32_280 : BitVec 32 := 0#32
  let v543 : BitVec 1 := Scalar.cmpi .sgt c4_i32_277 c0_i32_280
  let v544 : BitVec 32 := Scalar.extui v543
  let c0_i32_281 : BitVec 32 := 0#32
  let v545 : BitVec 1 := Scalar.cmpi .slt c4_i32_277 c0_i32_281
  let v546 : BitVec 32 := Scalar.extui v545
  let v547 : BitVec 32 := Scalar.subi v544 v546
  let v548 : BitVec 1 := Scalar.cmpi .ne v542 v547
  let v549 : BitVec 32 := Scalar.remsi v163 c4_i32_277
  let c0_i32_282 : BitVec 32 := 0#32
  let v550 : BitVec 1 := Scalar.cmpi .ne v549 c0_i32_282
  let v551 : BitVec 1 := Scalar.andi v548 v550
  let v537 : BitVec 32 := Scalar.divsi v163 c4_i32_277
  let c1_i32_283 : BitVec 32 := 1#32
  let v552 : BitVec 32 := Scalar.subi v537 c1_i32_283
  let v553 : BitVec 32 := Scalar.select v551 v552 v537
  let v554 : BitVec 32 := Scalar.addi v536 v553
  let v577 : BitVec 32 := Scalar.muli c8_i32_297 v554
  let c4_i32_290 : BitVec 32 := 4#32
  let c2_i32_284 : BitVec 32 := 2#32
  let c0_i32_285 : BitVec 32 := 0#32
  let v555 : BitVec 1 := Scalar.cmpi .eq c2_i32_284 c0_i32_285
  let c1_i32_286 : BitVec 32 := 1#32
  let v556 : BitVec 32 := Scalar.select v555 c1_i32_286 c2_i32_284
  let v557 : BitVec 32 := Scalar.remsi v75 v556
  let c0_i32_288 : BitVec 32 := 0#32
  let v559 : BitVec 1 := Scalar.cmpi .slt v557 c0_i32_288
  let c0_i32_289 : BitVec 32 := 0#32
  let v560 : BitVec 1 := Scalar.cmpi .slt v556 c0_i32_289
  let v561 : BitVec 1 := Scalar.xori v559 v560
  let c0_i32_287 : BitVec 32 := 0#32
  let v558 : BitVec 1 := Scalar.cmpi .ne v557 c0_i32_287
  let v562 : BitVec 1 := Scalar.andi v561 v558
  let v563 : BitVec 32 := Scalar.addi v557 v556
  let v564 : BitVec 32 := Scalar.select v562 v563 v557
  let v565 : BitVec 32 := Scalar.muli c4_i32_290 v564
  let c4_i32_291 : BitVec 32 := 4#32
  let c0_i32_292 : BitVec 32 := 0#32
  let v566 : BitVec 1 := Scalar.cmpi .eq c4_i32_291 c0_i32_292
  let c1_i32_293 : BitVec 32 := 1#32
  let v567 : BitVec 32 := Scalar.select v566 c1_i32_293 c4_i32_291
  let v568 : BitVec 32 := Scalar.remsi v163 v567
  let c0_i32_295 : BitVec 32 := 0#32
  let v570 : BitVec 1 := Scalar.cmpi .slt v568 c0_i32_295
  let c0_i32_296 : BitVec 32 := 0#32
  let v571 : BitVec 1 := Scalar.cmpi .slt v567 c0_i32_296
  let v572 : BitVec 1 := Scalar.xori v570 v571
  let c0_i32_294 : BitVec 32 := 0#32
  let v569 : BitVec 1 := Scalar.cmpi .ne v568 c0_i32_294
  let v573 : BitVec 1 := Scalar.andi v572 v569
  let v574 : BitVec 32 := Scalar.addi v568 v567
  let v575 : BitVec 32 := Scalar.select v573 v574 v568
  let v576 : BitVec 32 := Scalar.addi v565 v575
  let v578 : BitVec 32 := Scalar.addi v577 v576
  let c1_i32_299 : BitVec 32 := 1#32
  let v579 : BitVec 32 := Scalar.muli v578 c1_i32_299
  let v580 : BitVec 32 := Scalar.addi c0_i32_300 v579
  v580.toNat
def k0_dev7 (d0 : Dev nD) : Nat :=
  let c0_i32_332 : BitVec 32 := 0#32
  let c8_i32_329 : BitVec 32 := 8#32
  let c2_i32_308 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_302 : BitVec 32 := 0#32
  let v582 : BitVec 1 := Scalar.cmpi .sgt v75 c0_i32_302
  let v583 : BitVec 32 := Scalar.extui v582
  let c0_i32_303 : BitVec 32 := 0#32
  let v584 : BitVec 1 := Scalar.cmpi .slt v75 c0_i32_303
  let v585 : BitVec 32 := Scalar.extui v584
  let v586 : BitVec 32 := Scalar.subi v583 v585
  let c2_i32_301 : BitVec 32 := 2#32
  let c0_i32_304 : BitVec 32 := 0#32
  let v587 : BitVec 1 := Scalar.cmpi .sgt c2_i32_301 c0_i32_304
  let v588 : BitVec 32 := Scalar.extui v587
  let c0_i32_305 : BitVec 32 := 0#32
  let v589 : BitVec 1 := Scalar.cmpi .slt c2_i32_301 c0_i32_305
  let v590 : BitVec 32 := Scalar.extui v589
  let v591 : BitVec 32 := Scalar.subi v588 v590
  let v592 : BitVec 1 := Scalar.cmpi .ne v586 v591
  let v593 : BitVec 32 := Scalar.remsi v75 c2_i32_301
  let c0_i32_306 : BitVec 32 := 0#32
  let v594 : BitVec 1 := Scalar.cmpi .ne v593 c0_i32_306
  let v595 : BitVec 1 := Scalar.andi v592 v594
  let v581 : BitVec 32 := Scalar.divsi v75 c2_i32_301
  let c1_i32_307 : BitVec 32 := 1#32
  let v596 : BitVec 32 := Scalar.subi v581 c1_i32_307
  let v597 : BitVec 32 := Scalar.select v595 v596 v581
  let v598 : BitVec 32 := Scalar.muli c2_i32_308 v597
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_310 : BitVec 32 := 0#32
  let v600 : BitVec 1 := Scalar.cmpi .sgt v174 c0_i32_310
  let v601 : BitVec 32 := Scalar.extui v600
  let c0_i32_311 : BitVec 32 := 0#32
  let v602 : BitVec 1 := Scalar.cmpi .slt v174 c0_i32_311
  let v603 : BitVec 32 := Scalar.extui v602
  let v604 : BitVec 32 := Scalar.subi v601 v603
  let c4_i32_309 : BitVec 32 := 4#32
  let c0_i32_312 : BitVec 32 := 0#32
  let v605 : BitVec 1 := Scalar.cmpi .sgt c4_i32_309 c0_i32_312
  let v606 : BitVec 32 := Scalar.extui v605
  let c0_i32_313 : BitVec 32 := 0#32
  let v607 : BitVec 1 := Scalar.cmpi .slt c4_i32_309 c0_i32_313
  let v608 : BitVec 32 := Scalar.extui v607
  let v609 : BitVec 32 := Scalar.subi v606 v608
  let v610 : BitVec 1 := Scalar.cmpi .ne v604 v609
  let v611 : BitVec 32 := Scalar.remsi v174 c4_i32_309
  let c0_i32_314 : BitVec 32 := 0#32
  let v612 : BitVec 1 := Scalar.cmpi .ne v611 c0_i32_314
  let v613 : BitVec 1 := Scalar.andi v610 v612
  let v599 : BitVec 32 := Scalar.divsi v174 c4_i32_309
  let c1_i32_315 : BitVec 32 := 1#32
  let v614 : BitVec 32 := Scalar.subi v599 c1_i32_315
  let v615 : BitVec 32 := Scalar.select v613 v614 v599
  let v616 : BitVec 32 := Scalar.addi v598 v615
  let v639 : BitVec 32 := Scalar.muli c8_i32_329 v616
  let c4_i32_322 : BitVec 32 := 4#32
  let c2_i32_316 : BitVec 32 := 2#32
  let c0_i32_317 : BitVec 32 := 0#32
  let v617 : BitVec 1 := Scalar.cmpi .eq c2_i32_316 c0_i32_317
  let c1_i32_318 : BitVec 32 := 1#32
  let v618 : BitVec 32 := Scalar.select v617 c1_i32_318 c2_i32_316
  let v619 : BitVec 32 := Scalar.remsi v75 v618
  let c0_i32_320 : BitVec 32 := 0#32
  let v621 : BitVec 1 := Scalar.cmpi .slt v619 c0_i32_320
  let c0_i32_321 : BitVec 32 := 0#32
  let v622 : BitVec 1 := Scalar.cmpi .slt v618 c0_i32_321
  let v623 : BitVec 1 := Scalar.xori v621 v622
  let c0_i32_319 : BitVec 32 := 0#32
  let v620 : BitVec 1 := Scalar.cmpi .ne v619 c0_i32_319
  let v624 : BitVec 1 := Scalar.andi v623 v620
  let v625 : BitVec 32 := Scalar.addi v619 v618
  let v626 : BitVec 32 := Scalar.select v624 v625 v619
  let v627 : BitVec 32 := Scalar.muli c4_i32_322 v626
  let c4_i32_323 : BitVec 32 := 4#32
  let c0_i32_324 : BitVec 32 := 0#32
  let v628 : BitVec 1 := Scalar.cmpi .eq c4_i32_323 c0_i32_324
  let c1_i32_325 : BitVec 32 := 1#32
  let v629 : BitVec 32 := Scalar.select v628 c1_i32_325 c4_i32_323
  let v630 : BitVec 32 := Scalar.remsi v174 v629
  let c0_i32_327 : BitVec 32 := 0#32
  let v632 : BitVec 1 := Scalar.cmpi .slt v630 c0_i32_327
  let c0_i32_328 : BitVec 32 := 0#32
  let v633 : BitVec 1 := Scalar.cmpi .slt v629 c0_i32_328
  let v634 : BitVec 1 := Scalar.xori v632 v633
  let c0_i32_326 : BitVec 32 := 0#32
  let v631 : BitVec 1 := Scalar.cmpi .ne v630 c0_i32_326
  let v635 : BitVec 1 := Scalar.andi v634 v631
  let v636 : BitVec 32 := Scalar.addi v630 v629
  let v637 : BitVec 32 := Scalar.select v635 v636 v630
  let v638 : BitVec 32 := Scalar.addi v627 v637
  let v640 : BitVec 32 := Scalar.addi v639 v638
  let c1_i32_331 : BitVec 32 := 1#32
  let v641 : BitVec 32 := Scalar.muli v640 c1_i32_331
  let v642 : BitVec 32 := Scalar.addi c0_i32_332 v641
  v642.toNat
def k0_dev8 (d0 : Dev nD) : Nat :=
  let c0_i32_364 : BitVec 32 := 0#32
  let c8_i32_361 : BitVec 32 := 8#32
  let c2_i32_340 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c1_i32_88 : BitVec 32 := 1#32
  let v175 : BitVec 32 := Scalar.addi v75 c1_i32_88
  let c4_i32_89 : BitVec 32 := 4#32
  let c0_i32_90 : BitVec 32 := 0#32
  let v176 : BitVec 1 := Scalar.cmpi .eq c4_i32_89 c0_i32_90
  let c1_i32_91 : BitVec 32 := 1#32
  let v177 : BitVec 32 := Scalar.select v176 c1_i32_91 c4_i32_89
  let v178 : BitVec 32 := Scalar.remsi v175 v177
  let c0_i32_93 : BitVec 32 := 0#32
  let v180 : BitVec 1 := Scalar.cmpi .slt v178 c0_i32_93
  let c0_i32_94 : BitVec 32 := 0#32
  let v181 : BitVec 1 := Scalar.cmpi .slt v177 c0_i32_94
  let v182 : BitVec 1 := Scalar.xori v180 v181
  let c0_i32_92 : BitVec 32 := 0#32
  let v179 : BitVec 1 := Scalar.cmpi .ne v178 c0_i32_92
  let v183 : BitVec 1 := Scalar.andi v182 v179
  let v184 : BitVec 32 := Scalar.addi v178 v177
  let v185 : BitVec 32 := Scalar.select v183 v184 v178
  let c0_i32_334 : BitVec 32 := 0#32
  let v644 : BitVec 1 := Scalar.cmpi .sgt v185 c0_i32_334
  let v645 : BitVec 32 := Scalar.extui v644
  let c0_i32_335 : BitVec 32 := 0#32
  let v646 : BitVec 1 := Scalar.cmpi .slt v185 c0_i32_335
  let v647 : BitVec 32 := Scalar.extui v646
  let v648 : BitVec 32 := Scalar.subi v645 v647
  let c2_i32_333 : BitVec 32 := 2#32
  let c0_i32_336 : BitVec 32 := 0#32
  let v649 : BitVec 1 := Scalar.cmpi .sgt c2_i32_333 c0_i32_336
  let v650 : BitVec 32 := Scalar.extui v649
  let c0_i32_337 : BitVec 32 := 0#32
  let v651 : BitVec 1 := Scalar.cmpi .slt c2_i32_333 c0_i32_337
  let v652 : BitVec 32 := Scalar.extui v651
  let v653 : BitVec 32 := Scalar.subi v650 v652
  let v654 : BitVec 1 := Scalar.cmpi .ne v648 v653
  let v655 : BitVec 32 := Scalar.remsi v185 c2_i32_333
  let c0_i32_338 : BitVec 32 := 0#32
  let v656 : BitVec 1 := Scalar.cmpi .ne v655 c0_i32_338
  let v657 : BitVec 1 := Scalar.andi v654 v656
  let v643 : BitVec 32 := Scalar.divsi v185 c2_i32_333
  let c1_i32_339 : BitVec 32 := 1#32
  let v658 : BitVec 32 := Scalar.subi v643 c1_i32_339
  let v659 : BitVec 32 := Scalar.select v657 v658 v643
  let v660 : BitVec 32 := Scalar.muli c2_i32_340 v659
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_342 : BitVec 32 := 0#32
  let v662 : BitVec 1 := Scalar.cmpi .sgt v97 c0_i32_342
  let v663 : BitVec 32 := Scalar.extui v662
  let c0_i32_343 : BitVec 32 := 0#32
  let v664 : BitVec 1 := Scalar.cmpi .slt v97 c0_i32_343
  let v665 : BitVec 32 := Scalar.extui v664
  let v666 : BitVec 32 := Scalar.subi v663 v665
  let c4_i32_341 : BitVec 32 := 4#32
  let c0_i32_344 : BitVec 32 := 0#32
  let v667 : BitVec 1 := Scalar.cmpi .sgt c4_i32_341 c0_i32_344
  let v668 : BitVec 32 := Scalar.extui v667
  let c0_i32_345 : BitVec 32 := 0#32
  let v669 : BitVec 1 := Scalar.cmpi .slt c4_i32_341 c0_i32_345
  let v670 : BitVec 32 := Scalar.extui v669
  let v671 : BitVec 32 := Scalar.subi v668 v670
  let v672 : BitVec 1 := Scalar.cmpi .ne v666 v671
  let v673 : BitVec 32 := Scalar.remsi v97 c4_i32_341
  let c0_i32_346 : BitVec 32 := 0#32
  let v674 : BitVec 1 := Scalar.cmpi .ne v673 c0_i32_346
  let v675 : BitVec 1 := Scalar.andi v672 v674
  let v661 : BitVec 32 := Scalar.divsi v97 c4_i32_341
  let c1_i32_347 : BitVec 32 := 1#32
  let v676 : BitVec 32 := Scalar.subi v661 c1_i32_347
  let v677 : BitVec 32 := Scalar.select v675 v676 v661
  let v678 : BitVec 32 := Scalar.addi v660 v677
  let v701 : BitVec 32 := Scalar.muli c8_i32_361 v678
  let c4_i32_354 : BitVec 32 := 4#32
  let c2_i32_348 : BitVec 32 := 2#32
  let c0_i32_349 : BitVec 32 := 0#32
  let v679 : BitVec 1 := Scalar.cmpi .eq c2_i32_348 c0_i32_349
  let c1_i32_350 : BitVec 32 := 1#32
  let v680 : BitVec 32 := Scalar.select v679 c1_i32_350 c2_i32_348
  let v681 : BitVec 32 := Scalar.remsi v185 v680
  let c0_i32_352 : BitVec 32 := 0#32
  let v683 : BitVec 1 := Scalar.cmpi .slt v681 c0_i32_352
  let c0_i32_353 : BitVec 32 := 0#32
  let v684 : BitVec 1 := Scalar.cmpi .slt v680 c0_i32_353
  let v685 : BitVec 1 := Scalar.xori v683 v684
  let c0_i32_351 : BitVec 32 := 0#32
  let v682 : BitVec 1 := Scalar.cmpi .ne v681 c0_i32_351
  let v686 : BitVec 1 := Scalar.andi v685 v682
  let v687 : BitVec 32 := Scalar.addi v681 v680
  let v688 : BitVec 32 := Scalar.select v686 v687 v681
  let v689 : BitVec 32 := Scalar.muli c4_i32_354 v688
  let c4_i32_355 : BitVec 32 := 4#32
  let c0_i32_356 : BitVec 32 := 0#32
  let v690 : BitVec 1 := Scalar.cmpi .eq c4_i32_355 c0_i32_356
  let c1_i32_357 : BitVec 32 := 1#32
  let v691 : BitVec 32 := Scalar.select v690 c1_i32_357 c4_i32_355
  let v692 : BitVec 32 := Scalar.remsi v97 v691
  let c0_i32_359 : BitVec 32 := 0#32
  let v694 : BitVec 1 := Scalar.cmpi .slt v692 c0_i32_359
  let c0_i32_360 : BitVec 32 := 0#32
  let v695 : BitVec 1 := Scalar.cmpi .slt v691 c0_i32_360
  let v696 : BitVec 1 := Scalar.xori v694 v695
  let c0_i32_358 : BitVec 32 := 0#32
  let v693 : BitVec 1 := Scalar.cmpi .ne v692 c0_i32_358
  let v697 : BitVec 1 := Scalar.andi v696 v693
  let v698 : BitVec 32 := Scalar.addi v692 v691
  let v699 : BitVec 32 := Scalar.select v697 v698 v692
  let v700 : BitVec 32 := Scalar.addi v689 v699
  let v702 : BitVec 32 := Scalar.addi v701 v700
  let c1_i32_363 : BitVec 32 := 1#32
  let v703 : BitVec 32 := Scalar.muli v702 c1_i32_363
  let v704 : BitVec 32 := Scalar.addi c0_i32_364 v703
  v704.toNat
def k0_dev9 (d0 : Dev nD) : Nat :=
  let c0_i32_396 : BitVec 32 := 0#32
  let c8_i32_393 : BitVec 32 := 8#32
  let c2_i32_372 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c2_i32_95 : BitVec 32 := 2#32
  let v186 : BitVec 32 := Scalar.addi v75 c2_i32_95
  let c4_i32_96 : BitVec 32 := 4#32
  let c0_i32_97 : BitVec 32 := 0#32
  let v187 : BitVec 1 := Scalar.cmpi .eq c4_i32_96 c0_i32_97
  let c1_i32_98 : BitVec 32 := 1#32
  let v188 : BitVec 32 := Scalar.select v187 c1_i32_98 c4_i32_96
  let v189 : BitVec 32 := Scalar.remsi v186 v188
  let c0_i32_100 : BitVec 32 := 0#32
  let v191 : BitVec 1 := Scalar.cmpi .slt v189 c0_i32_100
  let c0_i32_101 : BitVec 32 := 0#32
  let v192 : BitVec 1 := Scalar.cmpi .slt v188 c0_i32_101
  let v193 : BitVec 1 := Scalar.xori v191 v192
  let c0_i32_99 : BitVec 32 := 0#32
  let v190 : BitVec 1 := Scalar.cmpi .ne v189 c0_i32_99
  let v194 : BitVec 1 := Scalar.andi v193 v190
  let v195 : BitVec 32 := Scalar.addi v189 v188
  let v196 : BitVec 32 := Scalar.select v194 v195 v189
  let c0_i32_366 : BitVec 32 := 0#32
  let v706 : BitVec 1 := Scalar.cmpi .sgt v196 c0_i32_366
  let v707 : BitVec 32 := Scalar.extui v706
  let c0_i32_367 : BitVec 32 := 0#32
  let v708 : BitVec 1 := Scalar.cmpi .slt v196 c0_i32_367
  let v709 : BitVec 32 := Scalar.extui v708
  let v710 : BitVec 32 := Scalar.subi v707 v709
  let c2_i32_365 : BitVec 32 := 2#32
  let c0_i32_368 : BitVec 32 := 0#32
  let v711 : BitVec 1 := Scalar.cmpi .sgt c2_i32_365 c0_i32_368
  let v712 : BitVec 32 := Scalar.extui v711
  let c0_i32_369 : BitVec 32 := 0#32
  let v713 : BitVec 1 := Scalar.cmpi .slt c2_i32_365 c0_i32_369
  let v714 : BitVec 32 := Scalar.extui v713
  let v715 : BitVec 32 := Scalar.subi v712 v714
  let v716 : BitVec 1 := Scalar.cmpi .ne v710 v715
  let v717 : BitVec 32 := Scalar.remsi v196 c2_i32_365
  let c0_i32_370 : BitVec 32 := 0#32
  let v718 : BitVec 1 := Scalar.cmpi .ne v717 c0_i32_370
  let v719 : BitVec 1 := Scalar.andi v716 v718
  let v705 : BitVec 32 := Scalar.divsi v196 c2_i32_365
  let c1_i32_371 : BitVec 32 := 1#32
  let v720 : BitVec 32 := Scalar.subi v705 c1_i32_371
  let v721 : BitVec 32 := Scalar.select v719 v720 v705
  let v722 : BitVec 32 := Scalar.muli c2_i32_372 v721
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_374 : BitVec 32 := 0#32
  let v724 : BitVec 1 := Scalar.cmpi .sgt v97 c0_i32_374
  let v725 : BitVec 32 := Scalar.extui v724
  let c0_i32_375 : BitVec 32 := 0#32
  let v726 : BitVec 1 := Scalar.cmpi .slt v97 c0_i32_375
  let v727 : BitVec 32 := Scalar.extui v726
  let v728 : BitVec 32 := Scalar.subi v725 v727
  let c4_i32_373 : BitVec 32 := 4#32
  let c0_i32_376 : BitVec 32 := 0#32
  let v729 : BitVec 1 := Scalar.cmpi .sgt c4_i32_373 c0_i32_376
  let v730 : BitVec 32 := Scalar.extui v729
  let c0_i32_377 : BitVec 32 := 0#32
  let v731 : BitVec 1 := Scalar.cmpi .slt c4_i32_373 c0_i32_377
  let v732 : BitVec 32 := Scalar.extui v731
  let v733 : BitVec 32 := Scalar.subi v730 v732
  let v734 : BitVec 1 := Scalar.cmpi .ne v728 v733
  let v735 : BitVec 32 := Scalar.remsi v97 c4_i32_373
  let c0_i32_378 : BitVec 32 := 0#32
  let v736 : BitVec 1 := Scalar.cmpi .ne v735 c0_i32_378
  let v737 : BitVec 1 := Scalar.andi v734 v736
  let v723 : BitVec 32 := Scalar.divsi v97 c4_i32_373
  let c1_i32_379 : BitVec 32 := 1#32
  let v738 : BitVec 32 := Scalar.subi v723 c1_i32_379
  let v739 : BitVec 32 := Scalar.select v737 v738 v723
  let v740 : BitVec 32 := Scalar.addi v722 v739
  let v763 : BitVec 32 := Scalar.muli c8_i32_393 v740
  let c4_i32_386 : BitVec 32 := 4#32
  let c2_i32_380 : BitVec 32 := 2#32
  let c0_i32_381 : BitVec 32 := 0#32
  let v741 : BitVec 1 := Scalar.cmpi .eq c2_i32_380 c0_i32_381
  let c1_i32_382 : BitVec 32 := 1#32
  let v742 : BitVec 32 := Scalar.select v741 c1_i32_382 c2_i32_380
  let v743 : BitVec 32 := Scalar.remsi v196 v742
  let c0_i32_384 : BitVec 32 := 0#32
  let v745 : BitVec 1 := Scalar.cmpi .slt v743 c0_i32_384
  let c0_i32_385 : BitVec 32 := 0#32
  let v746 : BitVec 1 := Scalar.cmpi .slt v742 c0_i32_385
  let v747 : BitVec 1 := Scalar.xori v745 v746
  let c0_i32_383 : BitVec 32 := 0#32
  let v744 : BitVec 1 := Scalar.cmpi .ne v743 c0_i32_383
  let v748 : BitVec 1 := Scalar.andi v747 v744
  let v749 : BitVec 32 := Scalar.addi v743 v742
  let v750 : BitVec 32 := Scalar.select v748 v749 v743
  let v751 : BitVec 32 := Scalar.muli c4_i32_386 v750
  let c4_i32_387 : BitVec 32 := 4#32
  let c0_i32_388 : BitVec 32 := 0#32
  let v752 : BitVec 1 := Scalar.cmpi .eq c4_i32_387 c0_i32_388
  let c1_i32_389 : BitVec 32 := 1#32
  let v753 : BitVec 32 := Scalar.select v752 c1_i32_389 c4_i32_387
  let v754 : BitVec 32 := Scalar.remsi v97 v753
  let c0_i32_391 : BitVec 32 := 0#32
  let v756 : BitVec 1 := Scalar.cmpi .slt v754 c0_i32_391
  let c0_i32_392 : BitVec 32 := 0#32
  let v757 : BitVec 1 := Scalar.cmpi .slt v753 c0_i32_392
  let v758 : BitVec 1 := Scalar.xori v756 v757
  let c0_i32_390 : BitVec 32 := 0#32
  let v755 : BitVec 1 := Scalar.cmpi .ne v754 c0_i32_390
  let v759 : BitVec 1 := Scalar.andi v758 v755
  let v760 : BitVec 32 := Scalar.addi v754 v753
  let v761 : BitVec 32 := Scalar.select v759 v760 v754
  let v762 : BitVec 32 := Scalar.addi v751 v761
  let v764 : BitVec 32 := Scalar.addi v763 v762
  let c1_i32_395 : BitVec 32 := 1#32
  let v765 : BitVec 32 := Scalar.muli v764 c1_i32_395
  let v766 : BitVec 32 := Scalar.addi c0_i32_396 v765
  v766.toNat
def k0_dev10 (d0 : Dev nD) : Nat :=
  let c0_i32_428 : BitVec 32 := 0#32
  let c8_i32_425 : BitVec 32 := 8#32
  let c2_i32_404 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c3_i32_102 : BitVec 32 := 3#32
  let v197 : BitVec 32 := Scalar.addi v75 c3_i32_102
  let c4_i32_103 : BitVec 32 := 4#32
  let c0_i32_104 : BitVec 32 := 0#32
  let v198 : BitVec 1 := Scalar.cmpi .eq c4_i32_103 c0_i32_104
  let c1_i32_105 : BitVec 32 := 1#32
  let v199 : BitVec 32 := Scalar.select v198 c1_i32_105 c4_i32_103
  let v200 : BitVec 32 := Scalar.remsi v197 v199
  let c0_i32_107 : BitVec 32 := 0#32
  let v202 : BitVec 1 := Scalar.cmpi .slt v200 c0_i32_107
  let c0_i32_108 : BitVec 32 := 0#32
  let v203 : BitVec 1 := Scalar.cmpi .slt v199 c0_i32_108
  let v204 : BitVec 1 := Scalar.xori v202 v203
  let c0_i32_106 : BitVec 32 := 0#32
  let v201 : BitVec 1 := Scalar.cmpi .ne v200 c0_i32_106
  let v205 : BitVec 1 := Scalar.andi v204 v201
  let v206 : BitVec 32 := Scalar.addi v200 v199
  let v207 : BitVec 32 := Scalar.select v205 v206 v200
  let c0_i32_398 : BitVec 32 := 0#32
  let v768 : BitVec 1 := Scalar.cmpi .sgt v207 c0_i32_398
  let v769 : BitVec 32 := Scalar.extui v768
  let c0_i32_399 : BitVec 32 := 0#32
  let v770 : BitVec 1 := Scalar.cmpi .slt v207 c0_i32_399
  let v771 : BitVec 32 := Scalar.extui v770
  let v772 : BitVec 32 := Scalar.subi v769 v771
  let c2_i32_397 : BitVec 32 := 2#32
  let c0_i32_400 : BitVec 32 := 0#32
  let v773 : BitVec 1 := Scalar.cmpi .sgt c2_i32_397 c0_i32_400
  let v774 : BitVec 32 := Scalar.extui v773
  let c0_i32_401 : BitVec 32 := 0#32
  let v775 : BitVec 1 := Scalar.cmpi .slt c2_i32_397 c0_i32_401
  let v776 : BitVec 32 := Scalar.extui v775
  let v777 : BitVec 32 := Scalar.subi v774 v776
  let v778 : BitVec 1 := Scalar.cmpi .ne v772 v777
  let v779 : BitVec 32 := Scalar.remsi v207 c2_i32_397
  let c0_i32_402 : BitVec 32 := 0#32
  let v780 : BitVec 1 := Scalar.cmpi .ne v779 c0_i32_402
  let v781 : BitVec 1 := Scalar.andi v778 v780
  let v767 : BitVec 32 := Scalar.divsi v207 c2_i32_397
  let c1_i32_403 : BitVec 32 := 1#32
  let v782 : BitVec 32 := Scalar.subi v767 c1_i32_403
  let v783 : BitVec 32 := Scalar.select v781 v782 v767
  let v784 : BitVec 32 := Scalar.muli c2_i32_404 v783
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_406 : BitVec 32 := 0#32
  let v786 : BitVec 1 := Scalar.cmpi .sgt v97 c0_i32_406
  let v787 : BitVec 32 := Scalar.extui v786
  let c0_i32_407 : BitVec 32 := 0#32
  let v788 : BitVec 1 := Scalar.cmpi .slt v97 c0_i32_407
  let v789 : BitVec 32 := Scalar.extui v788
  let v790 : BitVec 32 := Scalar.subi v787 v789
  let c4_i32_405 : BitVec 32 := 4#32
  let c0_i32_408 : BitVec 32 := 0#32
  let v791 : BitVec 1 := Scalar.cmpi .sgt c4_i32_405 c0_i32_408
  let v792 : BitVec 32 := Scalar.extui v791
  let c0_i32_409 : BitVec 32 := 0#32
  let v793 : BitVec 1 := Scalar.cmpi .slt c4_i32_405 c0_i32_409
  let v794 : BitVec 32 := Scalar.extui v793
  let v795 : BitVec 32 := Scalar.subi v792 v794
  let v796 : BitVec 1 := Scalar.cmpi .ne v790 v795
  let v797 : BitVec 32 := Scalar.remsi v97 c4_i32_405
  let c0_i32_410 : BitVec 32 := 0#32
  let v798 : BitVec 1 := Scalar.cmpi .ne v797 c0_i32_410
  let v799 : BitVec 1 := Scalar.andi v796 v798
  let v785 : BitVec 32 := Scalar.divsi v97 c4_i32_405
  let c1_i32_411 : BitVec 32 := 1#32
  let v800 : BitVec 32 := Scalar.subi v785 c1_i32_411
  let v801 : BitVec 32 := Scalar.select v799 v800 v785
  let v802 : BitVec 32 := Scalar.addi v784 v801
  let v825 : BitVec 32 := Scalar.muli c8_i32_425 v802
  let c4_i32_418 : BitVec 32 := 4#32
  let c2_i32_412 : BitVec 32 := 2#32
  let c0_i32_413 : BitVec 32 := 0#32
  let v803 : BitVec 1 := Scalar.cmpi .eq c2_i32_412 c0_i32_413
  let c1_i32_414 : BitVec 32 := 1#32
  let v804 : BitVec 32 := Scalar.select v803 c1_i32_414 c2_i32_412
  let v805 : BitVec 32 := Scalar.remsi v207 v804
  let c0_i32_416 : BitVec 32 := 0#32
  let v807 : BitVec 1 := Scalar.cmpi .slt v805 c0_i32_416
  let c0_i32_417 : BitVec 32 := 0#32
  let v808 : BitVec 1 := Scalar.cmpi .slt v804 c0_i32_417
  let v809 : BitVec 1 := Scalar.xori v807 v808
  let c0_i32_415 : BitVec 32 := 0#32
  let v806 : BitVec 1 := Scalar.cmpi .ne v805 c0_i32_415
  let v810 : BitVec 1 := Scalar.andi v809 v806
  let v811 : BitVec 32 := Scalar.addi v805 v804
  let v812 : BitVec 32 := Scalar.select v810 v811 v805
  let v813 : BitVec 32 := Scalar.muli c4_i32_418 v812
  let c4_i32_419 : BitVec 32 := 4#32
  let c0_i32_420 : BitVec 32 := 0#32
  let v814 : BitVec 1 := Scalar.cmpi .eq c4_i32_419 c0_i32_420
  let c1_i32_421 : BitVec 32 := 1#32
  let v815 : BitVec 32 := Scalar.select v814 c1_i32_421 c4_i32_419
  let v816 : BitVec 32 := Scalar.remsi v97 v815
  let c0_i32_423 : BitVec 32 := 0#32
  let v818 : BitVec 1 := Scalar.cmpi .slt v816 c0_i32_423
  let c0_i32_424 : BitVec 32 := 0#32
  let v819 : BitVec 1 := Scalar.cmpi .slt v815 c0_i32_424
  let v820 : BitVec 1 := Scalar.xori v818 v819
  let c0_i32_422 : BitVec 32 := 0#32
  let v817 : BitVec 1 := Scalar.cmpi .ne v816 c0_i32_422
  let v821 : BitVec 1 := Scalar.andi v820 v817
  let v822 : BitVec 32 := Scalar.addi v816 v815
  let v823 : BitVec 32 := Scalar.select v821 v822 v816
  let v824 : BitVec 32 := Scalar.addi v813 v823
  let v826 : BitVec 32 := Scalar.addi v825 v824
  let c1_i32_427 : BitVec 32 := 1#32
  let v827 : BitVec 32 := Scalar.muli v826 c1_i32_427
  let v828 : BitVec 32 := Scalar.addi c0_i32_428 v827
  v828.toNat
def k0_off1 (d0 : Dev nD) (c1_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c128_i32 : BitVec 32 := 128#32
  let v842 : BitVec 32 := Scalar.muli v108 c128_i32
  let c0_i32_476 : BitVec 32 := 0#32
  ![v842.toNat, 0]
def k0_dev11 (d0 : Dev nD) : Nat :=
  let c0_i32_473 : BitVec 32 := 0#32
  let c8_i32_466 : BitVec 32 := 8#32
  let c2_i32_445 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_439 : BitVec 32 := 0#32
  let v844 : BitVec 1 := Scalar.cmpi .sgt v75 c0_i32_439
  let v845 : BitVec 32 := Scalar.extui v844
  let c0_i32_440 : BitVec 32 := 0#32
  let v846 : BitVec 1 := Scalar.cmpi .slt v75 c0_i32_440
  let v847 : BitVec 32 := Scalar.extui v846
  let v848 : BitVec 32 := Scalar.subi v845 v847
  let c2_i32_438 : BitVec 32 := 2#32
  let c0_i32_441 : BitVec 32 := 0#32
  let v849 : BitVec 1 := Scalar.cmpi .sgt c2_i32_438 c0_i32_441
  let v850 : BitVec 32 := Scalar.extui v849
  let c0_i32_442 : BitVec 32 := 0#32
  let v851 : BitVec 1 := Scalar.cmpi .slt c2_i32_438 c0_i32_442
  let v852 : BitVec 32 := Scalar.extui v851
  let v853 : BitVec 32 := Scalar.subi v850 v852
  let v854 : BitVec 1 := Scalar.cmpi .ne v848 v853
  let v855 : BitVec 32 := Scalar.remsi v75 c2_i32_438
  let c0_i32_443 : BitVec 32 := 0#32
  let v856 : BitVec 1 := Scalar.cmpi .ne v855 c0_i32_443
  let v857 : BitVec 1 := Scalar.andi v854 v856
  let v843 : BitVec 32 := Scalar.divsi v75 c2_i32_438
  let c1_i32_444 : BitVec 32 := 1#32
  let v858 : BitVec 32 := Scalar.subi v843 c1_i32_444
  let v859 : BitVec 32 := Scalar.select v857 v858 v843
  let v860 : BitVec 32 := Scalar.muli c2_i32_445 v859
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_447 : BitVec 32 := 0#32
  let v862 : BitVec 1 := Scalar.cmpi .sgt v108 c0_i32_447
  let v863 : BitVec 32 := Scalar.extui v862
  let c0_i32_448 : BitVec 32 := 0#32
  let v864 : BitVec 1 := Scalar.cmpi .slt v108 c0_i32_448
  let v865 : BitVec 32 := Scalar.extui v864
  let v866 : BitVec 32 := Scalar.subi v863 v865
  let c4_i32_446 : BitVec 32 := 4#32
  let c0_i32_449 : BitVec 32 := 0#32
  let v867 : BitVec 1 := Scalar.cmpi .sgt c4_i32_446 c0_i32_449
  let v868 : BitVec 32 := Scalar.extui v867
  let c0_i32_450 : BitVec 32 := 0#32
  let v869 : BitVec 1 := Scalar.cmpi .slt c4_i32_446 c0_i32_450
  let v870 : BitVec 32 := Scalar.extui v869
  let v871 : BitVec 32 := Scalar.subi v868 v870
  let v872 : BitVec 1 := Scalar.cmpi .ne v866 v871
  let v873 : BitVec 32 := Scalar.remsi v108 c4_i32_446
  let c0_i32_451 : BitVec 32 := 0#32
  let v874 : BitVec 1 := Scalar.cmpi .ne v873 c0_i32_451
  let v875 : BitVec 1 := Scalar.andi v872 v874
  let v861 : BitVec 32 := Scalar.divsi v108 c4_i32_446
  let c1_i32_452 : BitVec 32 := 1#32
  let v876 : BitVec 32 := Scalar.subi v861 c1_i32_452
  let v877 : BitVec 32 := Scalar.select v875 v876 v861
  let v878 : BitVec 32 := Scalar.addi v860 v877
  let v901 : BitVec 32 := Scalar.muli c8_i32_466 v878
  let c4_i32_459 : BitVec 32 := 4#32
  let c2_i32_453 : BitVec 32 := 2#32
  let c0_i32_454 : BitVec 32 := 0#32
  let v879 : BitVec 1 := Scalar.cmpi .eq c2_i32_453 c0_i32_454
  let c1_i32_455 : BitVec 32 := 1#32
  let v880 : BitVec 32 := Scalar.select v879 c1_i32_455 c2_i32_453
  let v881 : BitVec 32 := Scalar.remsi v75 v880
  let c0_i32_457 : BitVec 32 := 0#32
  let v883 : BitVec 1 := Scalar.cmpi .slt v881 c0_i32_457
  let c0_i32_458 : BitVec 32 := 0#32
  let v884 : BitVec 1 := Scalar.cmpi .slt v880 c0_i32_458
  let v885 : BitVec 1 := Scalar.xori v883 v884
  let c0_i32_456 : BitVec 32 := 0#32
  let v882 : BitVec 1 := Scalar.cmpi .ne v881 c0_i32_456
  let v886 : BitVec 1 := Scalar.andi v885 v882
  let v887 : BitVec 32 := Scalar.addi v881 v880
  let v888 : BitVec 32 := Scalar.select v886 v887 v881
  let v889 : BitVec 32 := Scalar.muli c4_i32_459 v888
  let c4_i32_460 : BitVec 32 := 4#32
  let c0_i32_461 : BitVec 32 := 0#32
  let v890 : BitVec 1 := Scalar.cmpi .eq c4_i32_460 c0_i32_461
  let c1_i32_462 : BitVec 32 := 1#32
  let v891 : BitVec 32 := Scalar.select v890 c1_i32_462 c4_i32_460
  let v892 : BitVec 32 := Scalar.remsi v108 v891
  let c0_i32_464 : BitVec 32 := 0#32
  let v894 : BitVec 1 := Scalar.cmpi .slt v892 c0_i32_464
  let c0_i32_465 : BitVec 32 := 0#32
  let v895 : BitVec 1 := Scalar.cmpi .slt v891 c0_i32_465
  let v896 : BitVec 1 := Scalar.xori v894 v895
  let c0_i32_463 : BitVec 32 := 0#32
  let v893 : BitVec 1 := Scalar.cmpi .ne v892 c0_i32_463
  let v897 : BitVec 1 := Scalar.andi v896 v893
  let v898 : BitVec 32 := Scalar.addi v892 v891
  let v899 : BitVec 32 := Scalar.select v897 v898 v892
  let v900 : BitVec 32 := Scalar.addi v889 v899
  let v902 : BitVec 32 := Scalar.addi v901 v900
  let c1_i32_472 : BitVec 32 := 1#32
  let v903 : BitVec 32 := Scalar.muli v902 c1_i32_472
  let v904 : BitVec 32 := Scalar.addi c0_i32_473 v903
  v904.toNat
def k0_dev12 (d0 : Dev nD) : Nat :=
  let c0_i32_513 : BitVec 32 := 0#32
  let c8_i32_506 : BitVec 32 := 8#32
  let c2_i32_485 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_479 : BitVec 32 := 0#32
  let v914 : BitVec 1 := Scalar.cmpi .sgt v75 c0_i32_479
  let v915 : BitVec 32 := Scalar.extui v914
  let c0_i32_480 : BitVec 32 := 0#32
  let v916 : BitVec 1 := Scalar.cmpi .slt v75 c0_i32_480
  let v917 : BitVec 32 := Scalar.extui v916
  let v918 : BitVec 32 := Scalar.subi v915 v917
  let c2_i32_478 : BitVec 32 := 2#32
  let c0_i32_481 : BitVec 32 := 0#32
  let v919 : BitVec 1 := Scalar.cmpi .sgt c2_i32_478 c0_i32_481
  let v920 : BitVec 32 := Scalar.extui v919
  let c0_i32_482 : BitVec 32 := 0#32
  let v921 : BitVec 1 := Scalar.cmpi .slt c2_i32_478 c0_i32_482
  let v922 : BitVec 32 := Scalar.extui v921
  let v923 : BitVec 32 := Scalar.subi v920 v922
  let v924 : BitVec 1 := Scalar.cmpi .ne v918 v923
  let v925 : BitVec 32 := Scalar.remsi v75 c2_i32_478
  let c0_i32_483 : BitVec 32 := 0#32
  let v926 : BitVec 1 := Scalar.cmpi .ne v925 c0_i32_483
  let v927 : BitVec 1 := Scalar.andi v924 v926
  let v913 : BitVec 32 := Scalar.divsi v75 c2_i32_478
  let c1_i32_484 : BitVec 32 := 1#32
  let v928 : BitVec 32 := Scalar.subi v913 c1_i32_484
  let v929 : BitVec 32 := Scalar.select v927 v928 v913
  let v930 : BitVec 32 := Scalar.muli c2_i32_485 v929
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_487 : BitVec 32 := 0#32
  let v932 : BitVec 1 := Scalar.cmpi .sgt v119 c0_i32_487
  let v933 : BitVec 32 := Scalar.extui v932
  let c0_i32_488 : BitVec 32 := 0#32
  let v934 : BitVec 1 := Scalar.cmpi .slt v119 c0_i32_488
  let v935 : BitVec 32 := Scalar.extui v934
  let v936 : BitVec 32 := Scalar.subi v933 v935
  let c4_i32_486 : BitVec 32 := 4#32
  let c0_i32_489 : BitVec 32 := 0#32
  let v937 : BitVec 1 := Scalar.cmpi .sgt c4_i32_486 c0_i32_489
  let v938 : BitVec 32 := Scalar.extui v937
  let c0_i32_490 : BitVec 32 := 0#32
  let v939 : BitVec 1 := Scalar.cmpi .slt c4_i32_486 c0_i32_490
  let v940 : BitVec 32 := Scalar.extui v939
  let v941 : BitVec 32 := Scalar.subi v938 v940
  let v942 : BitVec 1 := Scalar.cmpi .ne v936 v941
  let v943 : BitVec 32 := Scalar.remsi v119 c4_i32_486
  let c0_i32_491 : BitVec 32 := 0#32
  let v944 : BitVec 1 := Scalar.cmpi .ne v943 c0_i32_491
  let v945 : BitVec 1 := Scalar.andi v942 v944
  let v931 : BitVec 32 := Scalar.divsi v119 c4_i32_486
  let c1_i32_492 : BitVec 32 := 1#32
  let v946 : BitVec 32 := Scalar.subi v931 c1_i32_492
  let v947 : BitVec 32 := Scalar.select v945 v946 v931
  let v948 : BitVec 32 := Scalar.addi v930 v947
  let v971 : BitVec 32 := Scalar.muli c8_i32_506 v948
  let c4_i32_499 : BitVec 32 := 4#32
  let c2_i32_493 : BitVec 32 := 2#32
  let c0_i32_494 : BitVec 32 := 0#32
  let v949 : BitVec 1 := Scalar.cmpi .eq c2_i32_493 c0_i32_494
  let c1_i32_495 : BitVec 32 := 1#32
  let v950 : BitVec 32 := Scalar.select v949 c1_i32_495 c2_i32_493
  let v951 : BitVec 32 := Scalar.remsi v75 v950
  let c0_i32_497 : BitVec 32 := 0#32
  let v953 : BitVec 1 := Scalar.cmpi .slt v951 c0_i32_497
  let c0_i32_498 : BitVec 32 := 0#32
  let v954 : BitVec 1 := Scalar.cmpi .slt v950 c0_i32_498
  let v955 : BitVec 1 := Scalar.xori v953 v954
  let c0_i32_496 : BitVec 32 := 0#32
  let v952 : BitVec 1 := Scalar.cmpi .ne v951 c0_i32_496
  let v956 : BitVec 1 := Scalar.andi v955 v952
  let v957 : BitVec 32 := Scalar.addi v951 v950
  let v958 : BitVec 32 := Scalar.select v956 v957 v951
  let v959 : BitVec 32 := Scalar.muli c4_i32_499 v958
  let c4_i32_500 : BitVec 32 := 4#32
  let c0_i32_501 : BitVec 32 := 0#32
  let v960 : BitVec 1 := Scalar.cmpi .eq c4_i32_500 c0_i32_501
  let c1_i32_502 : BitVec 32 := 1#32
  let v961 : BitVec 32 := Scalar.select v960 c1_i32_502 c4_i32_500
  let v962 : BitVec 32 := Scalar.remsi v119 v961
  let c0_i32_504 : BitVec 32 := 0#32
  let v964 : BitVec 1 := Scalar.cmpi .slt v962 c0_i32_504
  let c0_i32_505 : BitVec 32 := 0#32
  let v965 : BitVec 1 := Scalar.cmpi .slt v961 c0_i32_505
  let v966 : BitVec 1 := Scalar.xori v964 v965
  let c0_i32_503 : BitVec 32 := 0#32
  let v963 : BitVec 1 := Scalar.cmpi .ne v962 c0_i32_503
  let v967 : BitVec 1 := Scalar.andi v966 v963
  let v968 : BitVec 32 := Scalar.addi v962 v961
  let v969 : BitVec 32 := Scalar.select v967 v968 v962
  let v970 : BitVec 32 := Scalar.addi v959 v969
  let v972 : BitVec 32 := Scalar.addi v971 v970
  let c1_i32_512 : BitVec 32 := 1#32
  let v973 : BitVec 32 := Scalar.muli v972 c1_i32_512
  let v974 : BitVec 32 := Scalar.addi c0_i32_513 v973
  v974.toNat
def k0_dev13 (d0 : Dev nD) : Nat :=
  let c0_i32_553 : BitVec 32 := 0#32
  let c8_i32_546 : BitVec 32 := 8#32
  let c2_i32_525 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_519 : BitVec 32 := 0#32
  let v984 : BitVec 1 := Scalar.cmpi .sgt v75 c0_i32_519
  let v985 : BitVec 32 := Scalar.extui v984
  let c0_i32_520 : BitVec 32 := 0#32
  let v986 : BitVec 1 := Scalar.cmpi .slt v75 c0_i32_520
  let v987 : BitVec 32 := Scalar.extui v986
  let v988 : BitVec 32 := Scalar.subi v985 v987
  let c2_i32_518 : BitVec 32 := 2#32
  let c0_i32_521 : BitVec 32 := 0#32
  let v989 : BitVec 1 := Scalar.cmpi .sgt c2_i32_518 c0_i32_521
  let v990 : BitVec 32 := Scalar.extui v989
  let c0_i32_522 : BitVec 32 := 0#32
  let v991 : BitVec 1 := Scalar.cmpi .slt c2_i32_518 c0_i32_522
  let v992 : BitVec 32 := Scalar.extui v991
  let v993 : BitVec 32 := Scalar.subi v990 v992
  let v994 : BitVec 1 := Scalar.cmpi .ne v988 v993
  let v995 : BitVec 32 := Scalar.remsi v75 c2_i32_518
  let c0_i32_523 : BitVec 32 := 0#32
  let v996 : BitVec 1 := Scalar.cmpi .ne v995 c0_i32_523
  let v997 : BitVec 1 := Scalar.andi v994 v996
  let v983 : BitVec 32 := Scalar.divsi v75 c2_i32_518
  let c1_i32_524 : BitVec 32 := 1#32
  let v998 : BitVec 32 := Scalar.subi v983 c1_i32_524
  let v999 : BitVec 32 := Scalar.select v997 v998 v983
  let v1000 : BitVec 32 := Scalar.muli c2_i32_525 v999
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_527 : BitVec 32 := 0#32
  let v1002 : BitVec 1 := Scalar.cmpi .sgt v130 c0_i32_527
  let v1003 : BitVec 32 := Scalar.extui v1002
  let c0_i32_528 : BitVec 32 := 0#32
  let v1004 : BitVec 1 := Scalar.cmpi .slt v130 c0_i32_528
  let v1005 : BitVec 32 := Scalar.extui v1004
  let v1006 : BitVec 32 := Scalar.subi v1003 v1005
  let c4_i32_526 : BitVec 32 := 4#32
  let c0_i32_529 : BitVec 32 := 0#32
  let v1007 : BitVec 1 := Scalar.cmpi .sgt c4_i32_526 c0_i32_529
  let v1008 : BitVec 32 := Scalar.extui v1007
  let c0_i32_530 : BitVec 32 := 0#32
  let v1009 : BitVec 1 := Scalar.cmpi .slt c4_i32_526 c0_i32_530
  let v1010 : BitVec 32 := Scalar.extui v1009
  let v1011 : BitVec 32 := Scalar.subi v1008 v1010
  let v1012 : BitVec 1 := Scalar.cmpi .ne v1006 v1011
  let v1013 : BitVec 32 := Scalar.remsi v130 c4_i32_526
  let c0_i32_531 : BitVec 32 := 0#32
  let v1014 : BitVec 1 := Scalar.cmpi .ne v1013 c0_i32_531
  let v1015 : BitVec 1 := Scalar.andi v1012 v1014
  let v1001 : BitVec 32 := Scalar.divsi v130 c4_i32_526
  let c1_i32_532 : BitVec 32 := 1#32
  let v1016 : BitVec 32 := Scalar.subi v1001 c1_i32_532
  let v1017 : BitVec 32 := Scalar.select v1015 v1016 v1001
  let v1018 : BitVec 32 := Scalar.addi v1000 v1017
  let v1041 : BitVec 32 := Scalar.muli c8_i32_546 v1018
  let c4_i32_539 : BitVec 32 := 4#32
  let c2_i32_533 : BitVec 32 := 2#32
  let c0_i32_534 : BitVec 32 := 0#32
  let v1019 : BitVec 1 := Scalar.cmpi .eq c2_i32_533 c0_i32_534
  let c1_i32_535 : BitVec 32 := 1#32
  let v1020 : BitVec 32 := Scalar.select v1019 c1_i32_535 c2_i32_533
  let v1021 : BitVec 32 := Scalar.remsi v75 v1020
  let c0_i32_537 : BitVec 32 := 0#32
  let v1023 : BitVec 1 := Scalar.cmpi .slt v1021 c0_i32_537
  let c0_i32_538 : BitVec 32 := 0#32
  let v1024 : BitVec 1 := Scalar.cmpi .slt v1020 c0_i32_538
  let v1025 : BitVec 1 := Scalar.xori v1023 v1024
  let c0_i32_536 : BitVec 32 := 0#32
  let v1022 : BitVec 1 := Scalar.cmpi .ne v1021 c0_i32_536
  let v1026 : BitVec 1 := Scalar.andi v1025 v1022
  let v1027 : BitVec 32 := Scalar.addi v1021 v1020
  let v1028 : BitVec 32 := Scalar.select v1026 v1027 v1021
  let v1029 : BitVec 32 := Scalar.muli c4_i32_539 v1028
  let c4_i32_540 : BitVec 32 := 4#32
  let c0_i32_541 : BitVec 32 := 0#32
  let v1030 : BitVec 1 := Scalar.cmpi .eq c4_i32_540 c0_i32_541
  let c1_i32_542 : BitVec 32 := 1#32
  let v1031 : BitVec 32 := Scalar.select v1030 c1_i32_542 c4_i32_540
  let v1032 : BitVec 32 := Scalar.remsi v130 v1031
  let c0_i32_544 : BitVec 32 := 0#32
  let v1034 : BitVec 1 := Scalar.cmpi .slt v1032 c0_i32_544
  let c0_i32_545 : BitVec 32 := 0#32
  let v1035 : BitVec 1 := Scalar.cmpi .slt v1031 c0_i32_545
  let v1036 : BitVec 1 := Scalar.xori v1034 v1035
  let c0_i32_543 : BitVec 32 := 0#32
  let v1033 : BitVec 1 := Scalar.cmpi .ne v1032 c0_i32_543
  let v1037 : BitVec 1 := Scalar.andi v1036 v1033
  let v1038 : BitVec 32 := Scalar.addi v1032 v1031
  let v1039 : BitVec 32 := Scalar.select v1037 v1038 v1032
  let v1040 : BitVec 32 := Scalar.addi v1029 v1039
  let v1042 : BitVec 32 := Scalar.addi v1041 v1040
  let c1_i32_552 : BitVec 32 := 1#32
  let v1043 : BitVec 32 := Scalar.muli v1042 c1_i32_552
  let v1044 : BitVec 32 := Scalar.addi c0_i32_553 v1043
  v1044.toNat
def k0_dev14 (d0 : Dev nD) : Nat :=
  let c0_i32_593 : BitVec 32 := 0#32
  let c8_i32_586 : BitVec 32 := 8#32
  let c2_i32_565 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_559 : BitVec 32 := 0#32
  let v1054 : BitVec 1 := Scalar.cmpi .sgt v75 c0_i32_559
  let v1055 : BitVec 32 := Scalar.extui v1054
  let c0_i32_560 : BitVec 32 := 0#32
  let v1056 : BitVec 1 := Scalar.cmpi .slt v75 c0_i32_560
  let v1057 : BitVec 32 := Scalar.extui v1056
  let v1058 : BitVec 32 := Scalar.subi v1055 v1057
  let c2_i32_558 : BitVec 32 := 2#32
  let c0_i32_561 : BitVec 32 := 0#32
  let v1059 : BitVec 1 := Scalar.cmpi .sgt c2_i32_558 c0_i32_561
  let v1060 : BitVec 32 := Scalar.extui v1059
  let c0_i32_562 : BitVec 32 := 0#32
  let v1061 : BitVec 1 := Scalar.cmpi .slt c2_i32_558 c0_i32_562
  let v1062 : BitVec 32 := Scalar.extui v1061
  let v1063 : BitVec 32 := Scalar.subi v1060 v1062
  let v1064 : BitVec 1 := Scalar.cmpi .ne v1058 v1063
  let v1065 : BitVec 32 := Scalar.remsi v75 c2_i32_558
  let c0_i32_563 : BitVec 32 := 0#32
  let v1066 : BitVec 1 := Scalar.cmpi .ne v1065 c0_i32_563
  let v1067 : BitVec 1 := Scalar.andi v1064 v1066
  let v1053 : BitVec 32 := Scalar.divsi v75 c2_i32_558
  let c1_i32_564 : BitVec 32 := 1#32
  let v1068 : BitVec 32 := Scalar.subi v1053 c1_i32_564
  let v1069 : BitVec 32 := Scalar.select v1067 v1068 v1053
  let v1070 : BitVec 32 := Scalar.muli c2_i32_565 v1069
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_567 : BitVec 32 := 0#32
  let v1072 : BitVec 1 := Scalar.cmpi .sgt v141 c0_i32_567
  let v1073 : BitVec 32 := Scalar.extui v1072
  let c0_i32_568 : BitVec 32 := 0#32
  let v1074 : BitVec 1 := Scalar.cmpi .slt v141 c0_i32_568
  let v1075 : BitVec 32 := Scalar.extui v1074
  let v1076 : BitVec 32 := Scalar.subi v1073 v1075
  let c4_i32_566 : BitVec 32 := 4#32
  let c0_i32_569 : BitVec 32 := 0#32
  let v1077 : BitVec 1 := Scalar.cmpi .sgt c4_i32_566 c0_i32_569
  let v1078 : BitVec 32 := Scalar.extui v1077
  let c0_i32_570 : BitVec 32 := 0#32
  let v1079 : BitVec 1 := Scalar.cmpi .slt c4_i32_566 c0_i32_570
  let v1080 : BitVec 32 := Scalar.extui v1079
  let v1081 : BitVec 32 := Scalar.subi v1078 v1080
  let v1082 : BitVec 1 := Scalar.cmpi .ne v1076 v1081
  let v1083 : BitVec 32 := Scalar.remsi v141 c4_i32_566
  let c0_i32_571 : BitVec 32 := 0#32
  let v1084 : BitVec 1 := Scalar.cmpi .ne v1083 c0_i32_571
  let v1085 : BitVec 1 := Scalar.andi v1082 v1084
  let v1071 : BitVec 32 := Scalar.divsi v141 c4_i32_566
  let c1_i32_572 : BitVec 32 := 1#32
  let v1086 : BitVec 32 := Scalar.subi v1071 c1_i32_572
  let v1087 : BitVec 32 := Scalar.select v1085 v1086 v1071
  let v1088 : BitVec 32 := Scalar.addi v1070 v1087
  let v1111 : BitVec 32 := Scalar.muli c8_i32_586 v1088
  let c4_i32_579 : BitVec 32 := 4#32
  let c2_i32_573 : BitVec 32 := 2#32
  let c0_i32_574 : BitVec 32 := 0#32
  let v1089 : BitVec 1 := Scalar.cmpi .eq c2_i32_573 c0_i32_574
  let c1_i32_575 : BitVec 32 := 1#32
  let v1090 : BitVec 32 := Scalar.select v1089 c1_i32_575 c2_i32_573
  let v1091 : BitVec 32 := Scalar.remsi v75 v1090
  let c0_i32_577 : BitVec 32 := 0#32
  let v1093 : BitVec 1 := Scalar.cmpi .slt v1091 c0_i32_577
  let c0_i32_578 : BitVec 32 := 0#32
  let v1094 : BitVec 1 := Scalar.cmpi .slt v1090 c0_i32_578
  let v1095 : BitVec 1 := Scalar.xori v1093 v1094
  let c0_i32_576 : BitVec 32 := 0#32
  let v1092 : BitVec 1 := Scalar.cmpi .ne v1091 c0_i32_576
  let v1096 : BitVec 1 := Scalar.andi v1095 v1092
  let v1097 : BitVec 32 := Scalar.addi v1091 v1090
  let v1098 : BitVec 32 := Scalar.select v1096 v1097 v1091
  let v1099 : BitVec 32 := Scalar.muli c4_i32_579 v1098
  let c4_i32_580 : BitVec 32 := 4#32
  let c0_i32_581 : BitVec 32 := 0#32
  let v1100 : BitVec 1 := Scalar.cmpi .eq c4_i32_580 c0_i32_581
  let c1_i32_582 : BitVec 32 := 1#32
  let v1101 : BitVec 32 := Scalar.select v1100 c1_i32_582 c4_i32_580
  let v1102 : BitVec 32 := Scalar.remsi v141 v1101
  let c0_i32_584 : BitVec 32 := 0#32
  let v1104 : BitVec 1 := Scalar.cmpi .slt v1102 c0_i32_584
  let c0_i32_585 : BitVec 32 := 0#32
  let v1105 : BitVec 1 := Scalar.cmpi .slt v1101 c0_i32_585
  let v1106 : BitVec 1 := Scalar.xori v1104 v1105
  let c0_i32_583 : BitVec 32 := 0#32
  let v1103 : BitVec 1 := Scalar.cmpi .ne v1102 c0_i32_583
  let v1107 : BitVec 1 := Scalar.andi v1106 v1103
  let v1108 : BitVec 32 := Scalar.addi v1102 v1101
  let v1109 : BitVec 32 := Scalar.select v1107 v1108 v1102
  let v1110 : BitVec 32 := Scalar.addi v1099 v1109
  let v1112 : BitVec 32 := Scalar.addi v1111 v1110
  let c1_i32_592 : BitVec 32 := 1#32
  let v1113 : BitVec 32 := Scalar.muli v1112 c1_i32_592
  let v1114 : BitVec 32 := Scalar.addi c0_i32_593 v1113
  v1114.toNat
def k0_dev15 (d0 : Dev nD) : Nat :=
  let c0_i32_633 : BitVec 32 := 0#32
  let c8_i32_626 : BitVec 32 := 8#32
  let c2_i32_605 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_599 : BitVec 32 := 0#32
  let v1124 : BitVec 1 := Scalar.cmpi .sgt v75 c0_i32_599
  let v1125 : BitVec 32 := Scalar.extui v1124
  let c0_i32_600 : BitVec 32 := 0#32
  let v1126 : BitVec 1 := Scalar.cmpi .slt v75 c0_i32_600
  let v1127 : BitVec 32 := Scalar.extui v1126
  let v1128 : BitVec 32 := Scalar.subi v1125 v1127
  let c2_i32_598 : BitVec 32 := 2#32
  let c0_i32_601 : BitVec 32 := 0#32
  let v1129 : BitVec 1 := Scalar.cmpi .sgt c2_i32_598 c0_i32_601
  let v1130 : BitVec 32 := Scalar.extui v1129
  let c0_i32_602 : BitVec 32 := 0#32
  let v1131 : BitVec 1 := Scalar.cmpi .slt c2_i32_598 c0_i32_602
  let v1132 : BitVec 32 := Scalar.extui v1131
  let v1133 : BitVec 32 := Scalar.subi v1130 v1132
  let v1134 : BitVec 1 := Scalar.cmpi .ne v1128 v1133
  let v1135 : BitVec 32 := Scalar.remsi v75 c2_i32_598
  let c0_i32_603 : BitVec 32 := 0#32
  let v1136 : BitVec 1 := Scalar.cmpi .ne v1135 c0_i32_603
  let v1137 : BitVec 1 := Scalar.andi v1134 v1136
  let v1123 : BitVec 32 := Scalar.divsi v75 c2_i32_598
  let c1_i32_604 : BitVec 32 := 1#32
  let v1138 : BitVec 32 := Scalar.subi v1123 c1_i32_604
  let v1139 : BitVec 32 := Scalar.select v1137 v1138 v1123
  let v1140 : BitVec 32 := Scalar.muli c2_i32_605 v1139
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_607 : BitVec 32 := 0#32
  let v1142 : BitVec 1 := Scalar.cmpi .sgt v152 c0_i32_607
  let v1143 : BitVec 32 := Scalar.extui v1142
  let c0_i32_608 : BitVec 32 := 0#32
  let v1144 : BitVec 1 := Scalar.cmpi .slt v152 c0_i32_608
  let v1145 : BitVec 32 := Scalar.extui v1144
  let v1146 : BitVec 32 := Scalar.subi v1143 v1145
  let c4_i32_606 : BitVec 32 := 4#32
  let c0_i32_609 : BitVec 32 := 0#32
  let v1147 : BitVec 1 := Scalar.cmpi .sgt c4_i32_606 c0_i32_609
  let v1148 : BitVec 32 := Scalar.extui v1147
  let c0_i32_610 : BitVec 32 := 0#32
  let v1149 : BitVec 1 := Scalar.cmpi .slt c4_i32_606 c0_i32_610
  let v1150 : BitVec 32 := Scalar.extui v1149
  let v1151 : BitVec 32 := Scalar.subi v1148 v1150
  let v1152 : BitVec 1 := Scalar.cmpi .ne v1146 v1151
  let v1153 : BitVec 32 := Scalar.remsi v152 c4_i32_606
  let c0_i32_611 : BitVec 32 := 0#32
  let v1154 : BitVec 1 := Scalar.cmpi .ne v1153 c0_i32_611
  let v1155 : BitVec 1 := Scalar.andi v1152 v1154
  let v1141 : BitVec 32 := Scalar.divsi v152 c4_i32_606
  let c1_i32_612 : BitVec 32 := 1#32
  let v1156 : BitVec 32 := Scalar.subi v1141 c1_i32_612
  let v1157 : BitVec 32 := Scalar.select v1155 v1156 v1141
  let v1158 : BitVec 32 := Scalar.addi v1140 v1157
  let v1181 : BitVec 32 := Scalar.muli c8_i32_626 v1158
  let c4_i32_619 : BitVec 32 := 4#32
  let c2_i32_613 : BitVec 32 := 2#32
  let c0_i32_614 : BitVec 32 := 0#32
  let v1159 : BitVec 1 := Scalar.cmpi .eq c2_i32_613 c0_i32_614
  let c1_i32_615 : BitVec 32 := 1#32
  let v1160 : BitVec 32 := Scalar.select v1159 c1_i32_615 c2_i32_613
  let v1161 : BitVec 32 := Scalar.remsi v75 v1160
  let c0_i32_617 : BitVec 32 := 0#32
  let v1163 : BitVec 1 := Scalar.cmpi .slt v1161 c0_i32_617
  let c0_i32_618 : BitVec 32 := 0#32
  let v1164 : BitVec 1 := Scalar.cmpi .slt v1160 c0_i32_618
  let v1165 : BitVec 1 := Scalar.xori v1163 v1164
  let c0_i32_616 : BitVec 32 := 0#32
  let v1162 : BitVec 1 := Scalar.cmpi .ne v1161 c0_i32_616
  let v1166 : BitVec 1 := Scalar.andi v1165 v1162
  let v1167 : BitVec 32 := Scalar.addi v1161 v1160
  let v1168 : BitVec 32 := Scalar.select v1166 v1167 v1161
  let v1169 : BitVec 32 := Scalar.muli c4_i32_619 v1168
  let c4_i32_620 : BitVec 32 := 4#32
  let c0_i32_621 : BitVec 32 := 0#32
  let v1170 : BitVec 1 := Scalar.cmpi .eq c4_i32_620 c0_i32_621
  let c1_i32_622 : BitVec 32 := 1#32
  let v1171 : BitVec 32 := Scalar.select v1170 c1_i32_622 c4_i32_620
  let v1172 : BitVec 32 := Scalar.remsi v152 v1171
  let c0_i32_624 : BitVec 32 := 0#32
  let v1174 : BitVec 1 := Scalar.cmpi .slt v1172 c0_i32_624
  let c0_i32_625 : BitVec 32 := 0#32
  let v1175 : BitVec 1 := Scalar.cmpi .slt v1171 c0_i32_625
  let v1176 : BitVec 1 := Scalar.xori v1174 v1175
  let c0_i32_623 : BitVec 32 := 0#32
  let v1173 : BitVec 1 := Scalar.cmpi .ne v1172 c0_i32_623
  let v1177 : BitVec 1 := Scalar.andi v1176 v1173
  let v1178 : BitVec 32 := Scalar.addi v1172 v1171
  let v1179 : BitVec 32 := Scalar.select v1177 v1178 v1172
  let v1180 : BitVec 32 := Scalar.addi v1169 v1179
  let v1182 : BitVec 32 := Scalar.addi v1181 v1180
  let c1_i32_632 : BitVec 32 := 1#32
  let v1183 : BitVec 32 := Scalar.muli v1182 c1_i32_632
  let v1184 : BitVec 32 := Scalar.addi c0_i32_633 v1183
  v1184.toNat
def k0_dev16 (d0 : Dev nD) : Nat :=
  let c0_i32_673 : BitVec 32 := 0#32
  let c8_i32_666 : BitVec 32 := 8#32
  let c2_i32_645 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_639 : BitVec 32 := 0#32
  let v1194 : BitVec 1 := Scalar.cmpi .sgt v75 c0_i32_639
  let v1195 : BitVec 32 := Scalar.extui v1194
  let c0_i32_640 : BitVec 32 := 0#32
  let v1196 : BitVec 1 := Scalar.cmpi .slt v75 c0_i32_640
  let v1197 : BitVec 32 := Scalar.extui v1196
  let v1198 : BitVec 32 := Scalar.subi v1195 v1197
  let c2_i32_638 : BitVec 32 := 2#32
  let c0_i32_641 : BitVec 32 := 0#32
  let v1199 : BitVec 1 := Scalar.cmpi .sgt c2_i32_638 c0_i32_641
  let v1200 : BitVec 32 := Scalar.extui v1199
  let c0_i32_642 : BitVec 32 := 0#32
  let v1201 : BitVec 1 := Scalar.cmpi .slt c2_i32_638 c0_i32_642
  let v1202 : BitVec 32 := Scalar.extui v1201
  let v1203 : BitVec 32 := Scalar.subi v1200 v1202
  let v1204 : BitVec 1 := Scalar.cmpi .ne v1198 v1203
  let v1205 : BitVec 32 := Scalar.remsi v75 c2_i32_638
  let c0_i32_643 : BitVec 32 := 0#32
  let v1206 : BitVec 1 := Scalar.cmpi .ne v1205 c0_i32_643
  let v1207 : BitVec 1 := Scalar.andi v1204 v1206
  let v1193 : BitVec 32 := Scalar.divsi v75 c2_i32_638
  let c1_i32_644 : BitVec 32 := 1#32
  let v1208 : BitVec 32 := Scalar.subi v1193 c1_i32_644
  let v1209 : BitVec 32 := Scalar.select v1207 v1208 v1193
  let v1210 : BitVec 32 := Scalar.muli c2_i32_645 v1209
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_647 : BitVec 32 := 0#32
  let v1212 : BitVec 1 := Scalar.cmpi .sgt v163 c0_i32_647
  let v1213 : BitVec 32 := Scalar.extui v1212
  let c0_i32_648 : BitVec 32 := 0#32
  let v1214 : BitVec 1 := Scalar.cmpi .slt v163 c0_i32_648
  let v1215 : BitVec 32 := Scalar.extui v1214
  let v1216 : BitVec 32 := Scalar.subi v1213 v1215
  let c4_i32_646 : BitVec 32 := 4#32
  let c0_i32_649 : BitVec 32 := 0#32
  let v1217 : BitVec 1 := Scalar.cmpi .sgt c4_i32_646 c0_i32_649
  let v1218 : BitVec 32 := Scalar.extui v1217
  let c0_i32_650 : BitVec 32 := 0#32
  let v1219 : BitVec 1 := Scalar.cmpi .slt c4_i32_646 c0_i32_650
  let v1220 : BitVec 32 := Scalar.extui v1219
  let v1221 : BitVec 32 := Scalar.subi v1218 v1220
  let v1222 : BitVec 1 := Scalar.cmpi .ne v1216 v1221
  let v1223 : BitVec 32 := Scalar.remsi v163 c4_i32_646
  let c0_i32_651 : BitVec 32 := 0#32
  let v1224 : BitVec 1 := Scalar.cmpi .ne v1223 c0_i32_651
  let v1225 : BitVec 1 := Scalar.andi v1222 v1224
  let v1211 : BitVec 32 := Scalar.divsi v163 c4_i32_646
  let c1_i32_652 : BitVec 32 := 1#32
  let v1226 : BitVec 32 := Scalar.subi v1211 c1_i32_652
  let v1227 : BitVec 32 := Scalar.select v1225 v1226 v1211
  let v1228 : BitVec 32 := Scalar.addi v1210 v1227
  let v1251 : BitVec 32 := Scalar.muli c8_i32_666 v1228
  let c4_i32_659 : BitVec 32 := 4#32
  let c2_i32_653 : BitVec 32 := 2#32
  let c0_i32_654 : BitVec 32 := 0#32
  let v1229 : BitVec 1 := Scalar.cmpi .eq c2_i32_653 c0_i32_654
  let c1_i32_655 : BitVec 32 := 1#32
  let v1230 : BitVec 32 := Scalar.select v1229 c1_i32_655 c2_i32_653
  let v1231 : BitVec 32 := Scalar.remsi v75 v1230
  let c0_i32_657 : BitVec 32 := 0#32
  let v1233 : BitVec 1 := Scalar.cmpi .slt v1231 c0_i32_657
  let c0_i32_658 : BitVec 32 := 0#32
  let v1234 : BitVec 1 := Scalar.cmpi .slt v1230 c0_i32_658
  let v1235 : BitVec 1 := Scalar.xori v1233 v1234
  let c0_i32_656 : BitVec 32 := 0#32
  let v1232 : BitVec 1 := Scalar.cmpi .ne v1231 c0_i32_656
  let v1236 : BitVec 1 := Scalar.andi v1235 v1232
  let v1237 : BitVec 32 := Scalar.addi v1231 v1230
  let v1238 : BitVec 32 := Scalar.select v1236 v1237 v1231
  let v1239 : BitVec 32 := Scalar.muli c4_i32_659 v1238
  let c4_i32_660 : BitVec 32 := 4#32
  let c0_i32_661 : BitVec 32 := 0#32
  let v1240 : BitVec 1 := Scalar.cmpi .eq c4_i32_660 c0_i32_661
  let c1_i32_662 : BitVec 32 := 1#32
  let v1241 : BitVec 32 := Scalar.select v1240 c1_i32_662 c4_i32_660
  let v1242 : BitVec 32 := Scalar.remsi v163 v1241
  let c0_i32_664 : BitVec 32 := 0#32
  let v1244 : BitVec 1 := Scalar.cmpi .slt v1242 c0_i32_664
  let c0_i32_665 : BitVec 32 := 0#32
  let v1245 : BitVec 1 := Scalar.cmpi .slt v1241 c0_i32_665
  let v1246 : BitVec 1 := Scalar.xori v1244 v1245
  let c0_i32_663 : BitVec 32 := 0#32
  let v1243 : BitVec 1 := Scalar.cmpi .ne v1242 c0_i32_663
  let v1247 : BitVec 1 := Scalar.andi v1246 v1243
  let v1248 : BitVec 32 := Scalar.addi v1242 v1241
  let v1249 : BitVec 32 := Scalar.select v1247 v1248 v1242
  let v1250 : BitVec 32 := Scalar.addi v1239 v1249
  let v1252 : BitVec 32 := Scalar.addi v1251 v1250
  let c1_i32_672 : BitVec 32 := 1#32
  let v1253 : BitVec 32 := Scalar.muli v1252 c1_i32_672
  let v1254 : BitVec 32 := Scalar.addi c0_i32_673 v1253
  v1254.toNat
def k0_dev17 (d0 : Dev nD) : Nat :=
  let c0_i32_713 : BitVec 32 := 0#32
  let c8_i32_706 : BitVec 32 := 8#32
  let c2_i32_685 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_679 : BitVec 32 := 0#32
  let v1264 : BitVec 1 := Scalar.cmpi .sgt v75 c0_i32_679
  let v1265 : BitVec 32 := Scalar.extui v1264
  let c0_i32_680 : BitVec 32 := 0#32
  let v1266 : BitVec 1 := Scalar.cmpi .slt v75 c0_i32_680
  let v1267 : BitVec 32 := Scalar.extui v1266
  let v1268 : BitVec 32 := Scalar.subi v1265 v1267
  let c2_i32_678 : BitVec 32 := 2#32
  let c0_i32_681 : BitVec 32 := 0#32
  let v1269 : BitVec 1 := Scalar.cmpi .sgt c2_i32_678 c0_i32_681
  let v1270 : BitVec 32 := Scalar.extui v1269
  let c0_i32_682 : BitVec 32 := 0#32
  let v1271 : BitVec 1 := Scalar.cmpi .slt c2_i32_678 c0_i32_682
  let v1272 : BitVec 32 := Scalar.extui v1271
  let v1273 : BitVec 32 := Scalar.subi v1270 v1272
  let v1274 : BitVec 1 := Scalar.cmpi .ne v1268 v1273
  let v1275 : BitVec 32 := Scalar.remsi v75 c2_i32_678
  let c0_i32_683 : BitVec 32 := 0#32
  let v1276 : BitVec 1 := Scalar.cmpi .ne v1275 c0_i32_683
  let v1277 : BitVec 1 := Scalar.andi v1274 v1276
  let v1263 : BitVec 32 := Scalar.divsi v75 c2_i32_678
  let c1_i32_684 : BitVec 32 := 1#32
  let v1278 : BitVec 32 := Scalar.subi v1263 c1_i32_684
  let v1279 : BitVec 32 := Scalar.select v1277 v1278 v1263
  let v1280 : BitVec 32 := Scalar.muli c2_i32_685 v1279
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_687 : BitVec 32 := 0#32
  let v1282 : BitVec 1 := Scalar.cmpi .sgt v174 c0_i32_687
  let v1283 : BitVec 32 := Scalar.extui v1282
  let c0_i32_688 : BitVec 32 := 0#32
  let v1284 : BitVec 1 := Scalar.cmpi .slt v174 c0_i32_688
  let v1285 : BitVec 32 := Scalar.extui v1284
  let v1286 : BitVec 32 := Scalar.subi v1283 v1285
  let c4_i32_686 : BitVec 32 := 4#32
  let c0_i32_689 : BitVec 32 := 0#32
  let v1287 : BitVec 1 := Scalar.cmpi .sgt c4_i32_686 c0_i32_689
  let v1288 : BitVec 32 := Scalar.extui v1287
  let c0_i32_690 : BitVec 32 := 0#32
  let v1289 : BitVec 1 := Scalar.cmpi .slt c4_i32_686 c0_i32_690
  let v1290 : BitVec 32 := Scalar.extui v1289
  let v1291 : BitVec 32 := Scalar.subi v1288 v1290
  let v1292 : BitVec 1 := Scalar.cmpi .ne v1286 v1291
  let v1293 : BitVec 32 := Scalar.remsi v174 c4_i32_686
  let c0_i32_691 : BitVec 32 := 0#32
  let v1294 : BitVec 1 := Scalar.cmpi .ne v1293 c0_i32_691
  let v1295 : BitVec 1 := Scalar.andi v1292 v1294
  let v1281 : BitVec 32 := Scalar.divsi v174 c4_i32_686
  let c1_i32_692 : BitVec 32 := 1#32
  let v1296 : BitVec 32 := Scalar.subi v1281 c1_i32_692
  let v1297 : BitVec 32 := Scalar.select v1295 v1296 v1281
  let v1298 : BitVec 32 := Scalar.addi v1280 v1297
  let v1321 : BitVec 32 := Scalar.muli c8_i32_706 v1298
  let c4_i32_699 : BitVec 32 := 4#32
  let c2_i32_693 : BitVec 32 := 2#32
  let c0_i32_694 : BitVec 32 := 0#32
  let v1299 : BitVec 1 := Scalar.cmpi .eq c2_i32_693 c0_i32_694
  let c1_i32_695 : BitVec 32 := 1#32
  let v1300 : BitVec 32 := Scalar.select v1299 c1_i32_695 c2_i32_693
  let v1301 : BitVec 32 := Scalar.remsi v75 v1300
  let c0_i32_697 : BitVec 32 := 0#32
  let v1303 : BitVec 1 := Scalar.cmpi .slt v1301 c0_i32_697
  let c0_i32_698 : BitVec 32 := 0#32
  let v1304 : BitVec 1 := Scalar.cmpi .slt v1300 c0_i32_698
  let v1305 : BitVec 1 := Scalar.xori v1303 v1304
  let c0_i32_696 : BitVec 32 := 0#32
  let v1302 : BitVec 1 := Scalar.cmpi .ne v1301 c0_i32_696
  let v1306 : BitVec 1 := Scalar.andi v1305 v1302
  let v1307 : BitVec 32 := Scalar.addi v1301 v1300
  let v1308 : BitVec 32 := Scalar.select v1306 v1307 v1301
  let v1309 : BitVec 32 := Scalar.muli c4_i32_699 v1308
  let c4_i32_700 : BitVec 32 := 4#32
  let c0_i32_701 : BitVec 32 := 0#32
  let v1310 : BitVec 1 := Scalar.cmpi .eq c4_i32_700 c0_i32_701
  let c1_i32_702 : BitVec 32 := 1#32
  let v1311 : BitVec 32 := Scalar.select v1310 c1_i32_702 c4_i32_700
  let v1312 : BitVec 32 := Scalar.remsi v174 v1311
  let c0_i32_704 : BitVec 32 := 0#32
  let v1314 : BitVec 1 := Scalar.cmpi .slt v1312 c0_i32_704
  let c0_i32_705 : BitVec 32 := 0#32
  let v1315 : BitVec 1 := Scalar.cmpi .slt v1311 c0_i32_705
  let v1316 : BitVec 1 := Scalar.xori v1314 v1315
  let c0_i32_703 : BitVec 32 := 0#32
  let v1313 : BitVec 1 := Scalar.cmpi .ne v1312 c0_i32_703
  let v1317 : BitVec 1 := Scalar.andi v1316 v1313
  let v1318 : BitVec 32 := Scalar.addi v1312 v1311
  let v1319 : BitVec 32 := Scalar.select v1317 v1318 v1312
  let v1320 : BitVec 32 := Scalar.addi v1309 v1319
  let v1322 : BitVec 32 := Scalar.addi v1321 v1320
  let c1_i32_712 : BitVec 32 := 1#32
  let v1323 : BitVec 32 := Scalar.muli v1322 c1_i32_712
  let v1324 : BitVec 32 := Scalar.addi c0_i32_713 v1323
  v1324.toNat
def k0_off2 (d0 : Dev nD) (c1_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c128_i32_720 : BitVec 32 := 128#32
  let v1337 : BitVec 32 := Scalar.muli v108 c128_i32_720
  let c256_i32_758 : BitVec 32 := 256#32
  ![v1337.toNat, 256]
def k0_dev18 (d0 : Dev nD) : Nat :=
  let c0_i32_756 : BitVec 32 := 0#32
  let c8_i32_749 : BitVec 32 := 8#32
  let c2_i32_728 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_722 : BitVec 32 := 0#32
  let v1339 : BitVec 1 := Scalar.cmpi .sgt v75 c0_i32_722
  let v1340 : BitVec 32 := Scalar.extui v1339
  let c0_i32_723 : BitVec 32 := 0#32
  let v1341 : BitVec 1 := Scalar.cmpi .slt v75 c0_i32_723
  let v1342 : BitVec 32 := Scalar.extui v1341
  let v1343 : BitVec 32 := Scalar.subi v1340 v1342
  let c2_i32_721 : BitVec 32 := 2#32
  let c0_i32_724 : BitVec 32 := 0#32
  let v1344 : BitVec 1 := Scalar.cmpi .sgt c2_i32_721 c0_i32_724
  let v1345 : BitVec 32 := Scalar.extui v1344
  let c0_i32_725 : BitVec 32 := 0#32
  let v1346 : BitVec 1 := Scalar.cmpi .slt c2_i32_721 c0_i32_725
  let v1347 : BitVec 32 := Scalar.extui v1346
  let v1348 : BitVec 32 := Scalar.subi v1345 v1347
  let v1349 : BitVec 1 := Scalar.cmpi .ne v1343 v1348
  let v1350 : BitVec 32 := Scalar.remsi v75 c2_i32_721
  let c0_i32_726 : BitVec 32 := 0#32
  let v1351 : BitVec 1 := Scalar.cmpi .ne v1350 c0_i32_726
  let v1352 : BitVec 1 := Scalar.andi v1349 v1351
  let v1338 : BitVec 32 := Scalar.divsi v75 c2_i32_721
  let c1_i32_727 : BitVec 32 := 1#32
  let v1353 : BitVec 32 := Scalar.subi v1338 c1_i32_727
  let v1354 : BitVec 32 := Scalar.select v1352 v1353 v1338
  let v1355 : BitVec 32 := Scalar.muli c2_i32_728 v1354
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_730 : BitVec 32 := 0#32
  let v1357 : BitVec 1 := Scalar.cmpi .sgt v108 c0_i32_730
  let v1358 : BitVec 32 := Scalar.extui v1357
  let c0_i32_731 : BitVec 32 := 0#32
  let v1359 : BitVec 1 := Scalar.cmpi .slt v108 c0_i32_731
  let v1360 : BitVec 32 := Scalar.extui v1359
  let v1361 : BitVec 32 := Scalar.subi v1358 v1360
  let c4_i32_729 : BitVec 32 := 4#32
  let c0_i32_732 : BitVec 32 := 0#32
  let v1362 : BitVec 1 := Scalar.cmpi .sgt c4_i32_729 c0_i32_732
  let v1363 : BitVec 32 := Scalar.extui v1362
  let c0_i32_733 : BitVec 32 := 0#32
  let v1364 : BitVec 1 := Scalar.cmpi .slt c4_i32_729 c0_i32_733
  let v1365 : BitVec 32 := Scalar.extui v1364
  let v1366 : BitVec 32 := Scalar.subi v1363 v1365
  let v1367 : BitVec 1 := Scalar.cmpi .ne v1361 v1366
  let v1368 : BitVec 32 := Scalar.remsi v108 c4_i32_729
  let c0_i32_734 : BitVec 32 := 0#32
  let v1369 : BitVec 1 := Scalar.cmpi .ne v1368 c0_i32_734
  let v1370 : BitVec 1 := Scalar.andi v1367 v1369
  let v1356 : BitVec 32 := Scalar.divsi v108 c4_i32_729
  let c1_i32_735 : BitVec 32 := 1#32
  let v1371 : BitVec 32 := Scalar.subi v1356 c1_i32_735
  let v1372 : BitVec 32 := Scalar.select v1370 v1371 v1356
  let v1373 : BitVec 32 := Scalar.addi v1355 v1372
  let v1396 : BitVec 32 := Scalar.muli c8_i32_749 v1373
  let c4_i32_742 : BitVec 32 := 4#32
  let c2_i32_736 : BitVec 32 := 2#32
  let c0_i32_737 : BitVec 32 := 0#32
  let v1374 : BitVec 1 := Scalar.cmpi .eq c2_i32_736 c0_i32_737
  let c1_i32_738 : BitVec 32 := 1#32
  let v1375 : BitVec 32 := Scalar.select v1374 c1_i32_738 c2_i32_736
  let v1376 : BitVec 32 := Scalar.remsi v75 v1375
  let c0_i32_740 : BitVec 32 := 0#32
  let v1378 : BitVec 1 := Scalar.cmpi .slt v1376 c0_i32_740
  let c0_i32_741 : BitVec 32 := 0#32
  let v1379 : BitVec 1 := Scalar.cmpi .slt v1375 c0_i32_741
  let v1380 : BitVec 1 := Scalar.xori v1378 v1379
  let c0_i32_739 : BitVec 32 := 0#32
  let v1377 : BitVec 1 := Scalar.cmpi .ne v1376 c0_i32_739
  let v1381 : BitVec 1 := Scalar.andi v1380 v1377
  let v1382 : BitVec 32 := Scalar.addi v1376 v1375
  let v1383 : BitVec 32 := Scalar.select v1381 v1382 v1376
  let v1384 : BitVec 32 := Scalar.muli c4_i32_742 v1383
  let c4_i32_743 : BitVec 32 := 4#32
  let c0_i32_744 : BitVec 32 := 0#32
  let v1385 : BitVec 1 := Scalar.cmpi .eq c4_i32_743 c0_i32_744
  let c1_i32_745 : BitVec 32 := 1#32
  let v1386 : BitVec 32 := Scalar.select v1385 c1_i32_745 c4_i32_743
  let v1387 : BitVec 32 := Scalar.remsi v108 v1386
  let c0_i32_747 : BitVec 32 := 0#32
  let v1389 : BitVec 1 := Scalar.cmpi .slt v1387 c0_i32_747
  let c0_i32_748 : BitVec 32 := 0#32
  let v1390 : BitVec 1 := Scalar.cmpi .slt v1386 c0_i32_748
  let v1391 : BitVec 1 := Scalar.xori v1389 v1390
  let c0_i32_746 : BitVec 32 := 0#32
  let v1388 : BitVec 1 := Scalar.cmpi .ne v1387 c0_i32_746
  let v1392 : BitVec 1 := Scalar.andi v1391 v1388
  let v1393 : BitVec 32 := Scalar.addi v1387 v1386
  let v1394 : BitVec 32 := Scalar.select v1392 v1393 v1387
  let v1395 : BitVec 32 := Scalar.addi v1384 v1394
  let v1397 : BitVec 32 := Scalar.addi v1396 v1395
  let c1_i32_755 : BitVec 32 := 1#32
  let v1398 : BitVec 32 := Scalar.muli v1397 c1_i32_755
  let v1399 : BitVec 32 := Scalar.addi c0_i32_756 v1398
  v1399.toNat
def k0_dev19 (d0 : Dev nD) : Nat :=
  let c0_i32_795 : BitVec 32 := 0#32
  let c8_i32_788 : BitVec 32 := 8#32
  let c2_i32_767 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_761 : BitVec 32 := 0#32
  let v1409 : BitVec 1 := Scalar.cmpi .sgt v75 c0_i32_761
  let v1410 : BitVec 32 := Scalar.extui v1409
  let c0_i32_762 : BitVec 32 := 0#32
  let v1411 : BitVec 1 := Scalar.cmpi .slt v75 c0_i32_762
  let v1412 : BitVec 32 := Scalar.extui v1411
  let v1413 : BitVec 32 := Scalar.subi v1410 v1412
  let c2_i32_760 : BitVec 32 := 2#32
  let c0_i32_763 : BitVec 32 := 0#32
  let v1414 : BitVec 1 := Scalar.cmpi .sgt c2_i32_760 c0_i32_763
  let v1415 : BitVec 32 := Scalar.extui v1414
  let c0_i32_764 : BitVec 32 := 0#32
  let v1416 : BitVec 1 := Scalar.cmpi .slt c2_i32_760 c0_i32_764
  let v1417 : BitVec 32 := Scalar.extui v1416
  let v1418 : BitVec 32 := Scalar.subi v1415 v1417
  let v1419 : BitVec 1 := Scalar.cmpi .ne v1413 v1418
  let v1420 : BitVec 32 := Scalar.remsi v75 c2_i32_760
  let c0_i32_765 : BitVec 32 := 0#32
  let v1421 : BitVec 1 := Scalar.cmpi .ne v1420 c0_i32_765
  let v1422 : BitVec 1 := Scalar.andi v1419 v1421
  let v1408 : BitVec 32 := Scalar.divsi v75 c2_i32_760
  let c1_i32_766 : BitVec 32 := 1#32
  let v1423 : BitVec 32 := Scalar.subi v1408 c1_i32_766
  let v1424 : BitVec 32 := Scalar.select v1422 v1423 v1408
  let v1425 : BitVec 32 := Scalar.muli c2_i32_767 v1424
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_769 : BitVec 32 := 0#32
  let v1427 : BitVec 1 := Scalar.cmpi .sgt v119 c0_i32_769
  let v1428 : BitVec 32 := Scalar.extui v1427
  let c0_i32_770 : BitVec 32 := 0#32
  let v1429 : BitVec 1 := Scalar.cmpi .slt v119 c0_i32_770
  let v1430 : BitVec 32 := Scalar.extui v1429
  let v1431 : BitVec 32 := Scalar.subi v1428 v1430
  let c4_i32_768 : BitVec 32 := 4#32
  let c0_i32_771 : BitVec 32 := 0#32
  let v1432 : BitVec 1 := Scalar.cmpi .sgt c4_i32_768 c0_i32_771
  let v1433 : BitVec 32 := Scalar.extui v1432
  let c0_i32_772 : BitVec 32 := 0#32
  let v1434 : BitVec 1 := Scalar.cmpi .slt c4_i32_768 c0_i32_772
  let v1435 : BitVec 32 := Scalar.extui v1434
  let v1436 : BitVec 32 := Scalar.subi v1433 v1435
  let v1437 : BitVec 1 := Scalar.cmpi .ne v1431 v1436
  let v1438 : BitVec 32 := Scalar.remsi v119 c4_i32_768
  let c0_i32_773 : BitVec 32 := 0#32
  let v1439 : BitVec 1 := Scalar.cmpi .ne v1438 c0_i32_773
  let v1440 : BitVec 1 := Scalar.andi v1437 v1439
  let v1426 : BitVec 32 := Scalar.divsi v119 c4_i32_768
  let c1_i32_774 : BitVec 32 := 1#32
  let v1441 : BitVec 32 := Scalar.subi v1426 c1_i32_774
  let v1442 : BitVec 32 := Scalar.select v1440 v1441 v1426
  let v1443 : BitVec 32 := Scalar.addi v1425 v1442
  let v1466 : BitVec 32 := Scalar.muli c8_i32_788 v1443
  let c4_i32_781 : BitVec 32 := 4#32
  let c2_i32_775 : BitVec 32 := 2#32
  let c0_i32_776 : BitVec 32 := 0#32
  let v1444 : BitVec 1 := Scalar.cmpi .eq c2_i32_775 c0_i32_776
  let c1_i32_777 : BitVec 32 := 1#32
  let v1445 : BitVec 32 := Scalar.select v1444 c1_i32_777 c2_i32_775
  let v1446 : BitVec 32 := Scalar.remsi v75 v1445
  let c0_i32_779 : BitVec 32 := 0#32
  let v1448 : BitVec 1 := Scalar.cmpi .slt v1446 c0_i32_779
  let c0_i32_780 : BitVec 32 := 0#32
  let v1449 : BitVec 1 := Scalar.cmpi .slt v1445 c0_i32_780
  let v1450 : BitVec 1 := Scalar.xori v1448 v1449
  let c0_i32_778 : BitVec 32 := 0#32
  let v1447 : BitVec 1 := Scalar.cmpi .ne v1446 c0_i32_778
  let v1451 : BitVec 1 := Scalar.andi v1450 v1447
  let v1452 : BitVec 32 := Scalar.addi v1446 v1445
  let v1453 : BitVec 32 := Scalar.select v1451 v1452 v1446
  let v1454 : BitVec 32 := Scalar.muli c4_i32_781 v1453
  let c4_i32_782 : BitVec 32 := 4#32
  let c0_i32_783 : BitVec 32 := 0#32
  let v1455 : BitVec 1 := Scalar.cmpi .eq c4_i32_782 c0_i32_783
  let c1_i32_784 : BitVec 32 := 1#32
  let v1456 : BitVec 32 := Scalar.select v1455 c1_i32_784 c4_i32_782
  let v1457 : BitVec 32 := Scalar.remsi v119 v1456
  let c0_i32_786 : BitVec 32 := 0#32
  let v1459 : BitVec 1 := Scalar.cmpi .slt v1457 c0_i32_786
  let c0_i32_787 : BitVec 32 := 0#32
  let v1460 : BitVec 1 := Scalar.cmpi .slt v1456 c0_i32_787
  let v1461 : BitVec 1 := Scalar.xori v1459 v1460
  let c0_i32_785 : BitVec 32 := 0#32
  let v1458 : BitVec 1 := Scalar.cmpi .ne v1457 c0_i32_785
  let v1462 : BitVec 1 := Scalar.andi v1461 v1458
  let v1463 : BitVec 32 := Scalar.addi v1457 v1456
  let v1464 : BitVec 32 := Scalar.select v1462 v1463 v1457
  let v1465 : BitVec 32 := Scalar.addi v1454 v1464
  let v1467 : BitVec 32 := Scalar.addi v1466 v1465
  let c1_i32_794 : BitVec 32 := 1#32
  let v1468 : BitVec 32 := Scalar.muli v1467 c1_i32_794
  let v1469 : BitVec 32 := Scalar.addi c0_i32_795 v1468
  v1469.toNat
def k0_dev20 (d0 : Dev nD) : Nat :=
  let c0_i32_835 : BitVec 32 := 0#32
  let c8_i32_828 : BitVec 32 := 8#32
  let c2_i32_807 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_801 : BitVec 32 := 0#32
  let v1479 : BitVec 1 := Scalar.cmpi .sgt v75 c0_i32_801
  let v1480 : BitVec 32 := Scalar.extui v1479
  let c0_i32_802 : BitVec 32 := 0#32
  let v1481 : BitVec 1 := Scalar.cmpi .slt v75 c0_i32_802
  let v1482 : BitVec 32 := Scalar.extui v1481
  let v1483 : BitVec 32 := Scalar.subi v1480 v1482
  let c2_i32_800 : BitVec 32 := 2#32
  let c0_i32_803 : BitVec 32 := 0#32
  let v1484 : BitVec 1 := Scalar.cmpi .sgt c2_i32_800 c0_i32_803
  let v1485 : BitVec 32 := Scalar.extui v1484
  let c0_i32_804 : BitVec 32 := 0#32
  let v1486 : BitVec 1 := Scalar.cmpi .slt c2_i32_800 c0_i32_804
  let v1487 : BitVec 32 := Scalar.extui v1486
  let v1488 : BitVec 32 := Scalar.subi v1485 v1487
  let v1489 : BitVec 1 := Scalar.cmpi .ne v1483 v1488
  let v1490 : BitVec 32 := Scalar.remsi v75 c2_i32_800
  let c0_i32_805 : BitVec 32 := 0#32
  let v1491 : BitVec 1 := Scalar.cmpi .ne v1490 c0_i32_805
  let v1492 : BitVec 1 := Scalar.andi v1489 v1491
  let v1478 : BitVec 32 := Scalar.divsi v75 c2_i32_800
  let c1_i32_806 : BitVec 32 := 1#32
  let v1493 : BitVec 32 := Scalar.subi v1478 c1_i32_806
  let v1494 : BitVec 32 := Scalar.select v1492 v1493 v1478
  let v1495 : BitVec 32 := Scalar.muli c2_i32_807 v1494
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_809 : BitVec 32 := 0#32
  let v1497 : BitVec 1 := Scalar.cmpi .sgt v130 c0_i32_809
  let v1498 : BitVec 32 := Scalar.extui v1497
  let c0_i32_810 : BitVec 32 := 0#32
  let v1499 : BitVec 1 := Scalar.cmpi .slt v130 c0_i32_810
  let v1500 : BitVec 32 := Scalar.extui v1499
  let v1501 : BitVec 32 := Scalar.subi v1498 v1500
  let c4_i32_808 : BitVec 32 := 4#32
  let c0_i32_811 : BitVec 32 := 0#32
  let v1502 : BitVec 1 := Scalar.cmpi .sgt c4_i32_808 c0_i32_811
  let v1503 : BitVec 32 := Scalar.extui v1502
  let c0_i32_812 : BitVec 32 := 0#32
  let v1504 : BitVec 1 := Scalar.cmpi .slt c4_i32_808 c0_i32_812
  let v1505 : BitVec 32 := Scalar.extui v1504
  let v1506 : BitVec 32 := Scalar.subi v1503 v1505
  let v1507 : BitVec 1 := Scalar.cmpi .ne v1501 v1506
  let v1508 : BitVec 32 := Scalar.remsi v130 c4_i32_808
  let c0_i32_813 : BitVec 32 := 0#32
  let v1509 : BitVec 1 := Scalar.cmpi .ne v1508 c0_i32_813
  let v1510 : BitVec 1 := Scalar.andi v1507 v1509
  let v1496 : BitVec 32 := Scalar.divsi v130 c4_i32_808
  let c1_i32_814 : BitVec 32 := 1#32
  let v1511 : BitVec 32 := Scalar.subi v1496 c1_i32_814
  let v1512 : BitVec 32 := Scalar.select v1510 v1511 v1496
  let v1513 : BitVec 32 := Scalar.addi v1495 v1512
  let v1536 : BitVec 32 := Scalar.muli c8_i32_828 v1513
  let c4_i32_821 : BitVec 32 := 4#32
  let c2_i32_815 : BitVec 32 := 2#32
  let c0_i32_816 : BitVec 32 := 0#32
  let v1514 : BitVec 1 := Scalar.cmpi .eq c2_i32_815 c0_i32_816
  let c1_i32_817 : BitVec 32 := 1#32
  let v1515 : BitVec 32 := Scalar.select v1514 c1_i32_817 c2_i32_815
  let v1516 : BitVec 32 := Scalar.remsi v75 v1515
  let c0_i32_819 : BitVec 32 := 0#32
  let v1518 : BitVec 1 := Scalar.cmpi .slt v1516 c0_i32_819
  let c0_i32_820 : BitVec 32 := 0#32
  let v1519 : BitVec 1 := Scalar.cmpi .slt v1515 c0_i32_820
  let v1520 : BitVec 1 := Scalar.xori v1518 v1519
  let c0_i32_818 : BitVec 32 := 0#32
  let v1517 : BitVec 1 := Scalar.cmpi .ne v1516 c0_i32_818
  let v1521 : BitVec 1 := Scalar.andi v1520 v1517
  let v1522 : BitVec 32 := Scalar.addi v1516 v1515
  let v1523 : BitVec 32 := Scalar.select v1521 v1522 v1516
  let v1524 : BitVec 32 := Scalar.muli c4_i32_821 v1523
  let c4_i32_822 : BitVec 32 := 4#32
  let c0_i32_823 : BitVec 32 := 0#32
  let v1525 : BitVec 1 := Scalar.cmpi .eq c4_i32_822 c0_i32_823
  let c1_i32_824 : BitVec 32 := 1#32
  let v1526 : BitVec 32 := Scalar.select v1525 c1_i32_824 c4_i32_822
  let v1527 : BitVec 32 := Scalar.remsi v130 v1526
  let c0_i32_826 : BitVec 32 := 0#32
  let v1529 : BitVec 1 := Scalar.cmpi .slt v1527 c0_i32_826
  let c0_i32_827 : BitVec 32 := 0#32
  let v1530 : BitVec 1 := Scalar.cmpi .slt v1526 c0_i32_827
  let v1531 : BitVec 1 := Scalar.xori v1529 v1530
  let c0_i32_825 : BitVec 32 := 0#32
  let v1528 : BitVec 1 := Scalar.cmpi .ne v1527 c0_i32_825
  let v1532 : BitVec 1 := Scalar.andi v1531 v1528
  let v1533 : BitVec 32 := Scalar.addi v1527 v1526
  let v1534 : BitVec 32 := Scalar.select v1532 v1533 v1527
  let v1535 : BitVec 32 := Scalar.addi v1524 v1534
  let v1537 : BitVec 32 := Scalar.addi v1536 v1535
  let c1_i32_834 : BitVec 32 := 1#32
  let v1538 : BitVec 32 := Scalar.muli v1537 c1_i32_834
  let v1539 : BitVec 32 := Scalar.addi c0_i32_835 v1538
  v1539.toNat
def k0_dev21 (d0 : Dev nD) : Nat :=
  let c0_i32_875 : BitVec 32 := 0#32
  let c8_i32_868 : BitVec 32 := 8#32
  let c2_i32_847 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_841 : BitVec 32 := 0#32
  let v1549 : BitVec 1 := Scalar.cmpi .sgt v75 c0_i32_841
  let v1550 : BitVec 32 := Scalar.extui v1549
  let c0_i32_842 : BitVec 32 := 0#32
  let v1551 : BitVec 1 := Scalar.cmpi .slt v75 c0_i32_842
  let v1552 : BitVec 32 := Scalar.extui v1551
  let v1553 : BitVec 32 := Scalar.subi v1550 v1552
  let c2_i32_840 : BitVec 32 := 2#32
  let c0_i32_843 : BitVec 32 := 0#32
  let v1554 : BitVec 1 := Scalar.cmpi .sgt c2_i32_840 c0_i32_843
  let v1555 : BitVec 32 := Scalar.extui v1554
  let c0_i32_844 : BitVec 32 := 0#32
  let v1556 : BitVec 1 := Scalar.cmpi .slt c2_i32_840 c0_i32_844
  let v1557 : BitVec 32 := Scalar.extui v1556
  let v1558 : BitVec 32 := Scalar.subi v1555 v1557
  let v1559 : BitVec 1 := Scalar.cmpi .ne v1553 v1558
  let v1560 : BitVec 32 := Scalar.remsi v75 c2_i32_840
  let c0_i32_845 : BitVec 32 := 0#32
  let v1561 : BitVec 1 := Scalar.cmpi .ne v1560 c0_i32_845
  let v1562 : BitVec 1 := Scalar.andi v1559 v1561
  let v1548 : BitVec 32 := Scalar.divsi v75 c2_i32_840
  let c1_i32_846 : BitVec 32 := 1#32
  let v1563 : BitVec 32 := Scalar.subi v1548 c1_i32_846
  let v1564 : BitVec 32 := Scalar.select v1562 v1563 v1548
  let v1565 : BitVec 32 := Scalar.muli c2_i32_847 v1564
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_849 : BitVec 32 := 0#32
  let v1567 : BitVec 1 := Scalar.cmpi .sgt v141 c0_i32_849
  let v1568 : BitVec 32 := Scalar.extui v1567
  let c0_i32_850 : BitVec 32 := 0#32
  let v1569 : BitVec 1 := Scalar.cmpi .slt v141 c0_i32_850
  let v1570 : BitVec 32 := Scalar.extui v1569
  let v1571 : BitVec 32 := Scalar.subi v1568 v1570
  let c4_i32_848 : BitVec 32 := 4#32
  let c0_i32_851 : BitVec 32 := 0#32
  let v1572 : BitVec 1 := Scalar.cmpi .sgt c4_i32_848 c0_i32_851
  let v1573 : BitVec 32 := Scalar.extui v1572
  let c0_i32_852 : BitVec 32 := 0#32
  let v1574 : BitVec 1 := Scalar.cmpi .slt c4_i32_848 c0_i32_852
  let v1575 : BitVec 32 := Scalar.extui v1574
  let v1576 : BitVec 32 := Scalar.subi v1573 v1575
  let v1577 : BitVec 1 := Scalar.cmpi .ne v1571 v1576
  let v1578 : BitVec 32 := Scalar.remsi v141 c4_i32_848
  let c0_i32_853 : BitVec 32 := 0#32
  let v1579 : BitVec 1 := Scalar.cmpi .ne v1578 c0_i32_853
  let v1580 : BitVec 1 := Scalar.andi v1577 v1579
  let v1566 : BitVec 32 := Scalar.divsi v141 c4_i32_848
  let c1_i32_854 : BitVec 32 := 1#32
  let v1581 : BitVec 32 := Scalar.subi v1566 c1_i32_854
  let v1582 : BitVec 32 := Scalar.select v1580 v1581 v1566
  let v1583 : BitVec 32 := Scalar.addi v1565 v1582
  let v1606 : BitVec 32 := Scalar.muli c8_i32_868 v1583
  let c4_i32_861 : BitVec 32 := 4#32
  let c2_i32_855 : BitVec 32 := 2#32
  let c0_i32_856 : BitVec 32 := 0#32
  let v1584 : BitVec 1 := Scalar.cmpi .eq c2_i32_855 c0_i32_856
  let c1_i32_857 : BitVec 32 := 1#32
  let v1585 : BitVec 32 := Scalar.select v1584 c1_i32_857 c2_i32_855
  let v1586 : BitVec 32 := Scalar.remsi v75 v1585
  let c0_i32_859 : BitVec 32 := 0#32
  let v1588 : BitVec 1 := Scalar.cmpi .slt v1586 c0_i32_859
  let c0_i32_860 : BitVec 32 := 0#32
  let v1589 : BitVec 1 := Scalar.cmpi .slt v1585 c0_i32_860
  let v1590 : BitVec 1 := Scalar.xori v1588 v1589
  let c0_i32_858 : BitVec 32 := 0#32
  let v1587 : BitVec 1 := Scalar.cmpi .ne v1586 c0_i32_858
  let v1591 : BitVec 1 := Scalar.andi v1590 v1587
  let v1592 : BitVec 32 := Scalar.addi v1586 v1585
  let v1593 : BitVec 32 := Scalar.select v1591 v1592 v1586
  let v1594 : BitVec 32 := Scalar.muli c4_i32_861 v1593
  let c4_i32_862 : BitVec 32 := 4#32
  let c0_i32_863 : BitVec 32 := 0#32
  let v1595 : BitVec 1 := Scalar.cmpi .eq c4_i32_862 c0_i32_863
  let c1_i32_864 : BitVec 32 := 1#32
  let v1596 : BitVec 32 := Scalar.select v1595 c1_i32_864 c4_i32_862
  let v1597 : BitVec 32 := Scalar.remsi v141 v1596
  let c0_i32_866 : BitVec 32 := 0#32
  let v1599 : BitVec 1 := Scalar.cmpi .slt v1597 c0_i32_866
  let c0_i32_867 : BitVec 32 := 0#32
  let v1600 : BitVec 1 := Scalar.cmpi .slt v1596 c0_i32_867
  let v1601 : BitVec 1 := Scalar.xori v1599 v1600
  let c0_i32_865 : BitVec 32 := 0#32
  let v1598 : BitVec 1 := Scalar.cmpi .ne v1597 c0_i32_865
  let v1602 : BitVec 1 := Scalar.andi v1601 v1598
  let v1603 : BitVec 32 := Scalar.addi v1597 v1596
  let v1604 : BitVec 32 := Scalar.select v1602 v1603 v1597
  let v1605 : BitVec 32 := Scalar.addi v1594 v1604
  let v1607 : BitVec 32 := Scalar.addi v1606 v1605
  let c1_i32_874 : BitVec 32 := 1#32
  let v1608 : BitVec 32 := Scalar.muli v1607 c1_i32_874
  let v1609 : BitVec 32 := Scalar.addi c0_i32_875 v1608
  v1609.toNat
def k0_dev22 (d0 : Dev nD) : Nat :=
  let c0_i32_915 : BitVec 32 := 0#32
  let c8_i32_908 : BitVec 32 := 8#32
  let c2_i32_887 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_881 : BitVec 32 := 0#32
  let v1619 : BitVec 1 := Scalar.cmpi .sgt v75 c0_i32_881
  let v1620 : BitVec 32 := Scalar.extui v1619
  let c0_i32_882 : BitVec 32 := 0#32
  let v1621 : BitVec 1 := Scalar.cmpi .slt v75 c0_i32_882
  let v1622 : BitVec 32 := Scalar.extui v1621
  let v1623 : BitVec 32 := Scalar.subi v1620 v1622
  let c2_i32_880 : BitVec 32 := 2#32
  let c0_i32_883 : BitVec 32 := 0#32
  let v1624 : BitVec 1 := Scalar.cmpi .sgt c2_i32_880 c0_i32_883
  let v1625 : BitVec 32 := Scalar.extui v1624
  let c0_i32_884 : BitVec 32 := 0#32
  let v1626 : BitVec 1 := Scalar.cmpi .slt c2_i32_880 c0_i32_884
  let v1627 : BitVec 32 := Scalar.extui v1626
  let v1628 : BitVec 32 := Scalar.subi v1625 v1627
  let v1629 : BitVec 1 := Scalar.cmpi .ne v1623 v1628
  let v1630 : BitVec 32 := Scalar.remsi v75 c2_i32_880
  let c0_i32_885 : BitVec 32 := 0#32
  let v1631 : BitVec 1 := Scalar.cmpi .ne v1630 c0_i32_885
  let v1632 : BitVec 1 := Scalar.andi v1629 v1631
  let v1618 : BitVec 32 := Scalar.divsi v75 c2_i32_880
  let c1_i32_886 : BitVec 32 := 1#32
  let v1633 : BitVec 32 := Scalar.subi v1618 c1_i32_886
  let v1634 : BitVec 32 := Scalar.select v1632 v1633 v1618
  let v1635 : BitVec 32 := Scalar.muli c2_i32_887 v1634
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_889 : BitVec 32 := 0#32
  let v1637 : BitVec 1 := Scalar.cmpi .sgt v152 c0_i32_889
  let v1638 : BitVec 32 := Scalar.extui v1637
  let c0_i32_890 : BitVec 32 := 0#32
  let v1639 : BitVec 1 := Scalar.cmpi .slt v152 c0_i32_890
  let v1640 : BitVec 32 := Scalar.extui v1639
  let v1641 : BitVec 32 := Scalar.subi v1638 v1640
  let c4_i32_888 : BitVec 32 := 4#32
  let c0_i32_891 : BitVec 32 := 0#32
  let v1642 : BitVec 1 := Scalar.cmpi .sgt c4_i32_888 c0_i32_891
  let v1643 : BitVec 32 := Scalar.extui v1642
  let c0_i32_892 : BitVec 32 := 0#32
  let v1644 : BitVec 1 := Scalar.cmpi .slt c4_i32_888 c0_i32_892
  let v1645 : BitVec 32 := Scalar.extui v1644
  let v1646 : BitVec 32 := Scalar.subi v1643 v1645
  let v1647 : BitVec 1 := Scalar.cmpi .ne v1641 v1646
  let v1648 : BitVec 32 := Scalar.remsi v152 c4_i32_888
  let c0_i32_893 : BitVec 32 := 0#32
  let v1649 : BitVec 1 := Scalar.cmpi .ne v1648 c0_i32_893
  let v1650 : BitVec 1 := Scalar.andi v1647 v1649
  let v1636 : BitVec 32 := Scalar.divsi v152 c4_i32_888
  let c1_i32_894 : BitVec 32 := 1#32
  let v1651 : BitVec 32 := Scalar.subi v1636 c1_i32_894
  let v1652 : BitVec 32 := Scalar.select v1650 v1651 v1636
  let v1653 : BitVec 32 := Scalar.addi v1635 v1652
  let v1676 : BitVec 32 := Scalar.muli c8_i32_908 v1653
  let c4_i32_901 : BitVec 32 := 4#32
  let c2_i32_895 : BitVec 32 := 2#32
  let c0_i32_896 : BitVec 32 := 0#32
  let v1654 : BitVec 1 := Scalar.cmpi .eq c2_i32_895 c0_i32_896
  let c1_i32_897 : BitVec 32 := 1#32
  let v1655 : BitVec 32 := Scalar.select v1654 c1_i32_897 c2_i32_895
  let v1656 : BitVec 32 := Scalar.remsi v75 v1655
  let c0_i32_899 : BitVec 32 := 0#32
  let v1658 : BitVec 1 := Scalar.cmpi .slt v1656 c0_i32_899
  let c0_i32_900 : BitVec 32 := 0#32
  let v1659 : BitVec 1 := Scalar.cmpi .slt v1655 c0_i32_900
  let v1660 : BitVec 1 := Scalar.xori v1658 v1659
  let c0_i32_898 : BitVec 32 := 0#32
  let v1657 : BitVec 1 := Scalar.cmpi .ne v1656 c0_i32_898
  let v1661 : BitVec 1 := Scalar.andi v1660 v1657
  let v1662 : BitVec 32 := Scalar.addi v1656 v1655
  let v1663 : BitVec 32 := Scalar.select v1661 v1662 v1656
  let v1664 : BitVec 32 := Scalar.muli c4_i32_901 v1663
  let c4_i32_902 : BitVec 32 := 4#32
  let c0_i32_903 : BitVec 32 := 0#32
  let v1665 : BitVec 1 := Scalar.cmpi .eq c4_i32_902 c0_i32_903
  let c1_i32_904 : BitVec 32 := 1#32
  let v1666 : BitVec 32 := Scalar.select v1665 c1_i32_904 c4_i32_902
  let v1667 : BitVec 32 := Scalar.remsi v152 v1666
  let c0_i32_906 : BitVec 32 := 0#32
  let v1669 : BitVec 1 := Scalar.cmpi .slt v1667 c0_i32_906
  let c0_i32_907 : BitVec 32 := 0#32
  let v1670 : BitVec 1 := Scalar.cmpi .slt v1666 c0_i32_907
  let v1671 : BitVec 1 := Scalar.xori v1669 v1670
  let c0_i32_905 : BitVec 32 := 0#32
  let v1668 : BitVec 1 := Scalar.cmpi .ne v1667 c0_i32_905
  let v1672 : BitVec 1 := Scalar.andi v1671 v1668
  let v1673 : BitVec 32 := Scalar.addi v1667 v1666
  let v1674 : BitVec 32 := Scalar.select v1672 v1673 v1667
  let v1675 : BitVec 32 := Scalar.addi v1664 v1674
  let v1677 : BitVec 32 := Scalar.addi v1676 v1675
  let c1_i32_914 : BitVec 32 := 1#32
  let v1678 : BitVec 32 := Scalar.muli v1677 c1_i32_914
  let v1679 : BitVec 32 := Scalar.addi c0_i32_915 v1678
  v1679.toNat
def k0_dev23 (d0 : Dev nD) : Nat :=
  let c0_i32_955 : BitVec 32 := 0#32
  let c8_i32_948 : BitVec 32 := 8#32
  let c2_i32_927 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_921 : BitVec 32 := 0#32
  let v1689 : BitVec 1 := Scalar.cmpi .sgt v75 c0_i32_921
  let v1690 : BitVec 32 := Scalar.extui v1689
  let c0_i32_922 : BitVec 32 := 0#32
  let v1691 : BitVec 1 := Scalar.cmpi .slt v75 c0_i32_922
  let v1692 : BitVec 32 := Scalar.extui v1691
  let v1693 : BitVec 32 := Scalar.subi v1690 v1692
  let c2_i32_920 : BitVec 32 := 2#32
  let c0_i32_923 : BitVec 32 := 0#32
  let v1694 : BitVec 1 := Scalar.cmpi .sgt c2_i32_920 c0_i32_923
  let v1695 : BitVec 32 := Scalar.extui v1694
  let c0_i32_924 : BitVec 32 := 0#32
  let v1696 : BitVec 1 := Scalar.cmpi .slt c2_i32_920 c0_i32_924
  let v1697 : BitVec 32 := Scalar.extui v1696
  let v1698 : BitVec 32 := Scalar.subi v1695 v1697
  let v1699 : BitVec 1 := Scalar.cmpi .ne v1693 v1698
  let v1700 : BitVec 32 := Scalar.remsi v75 c2_i32_920
  let c0_i32_925 : BitVec 32 := 0#32
  let v1701 : BitVec 1 := Scalar.cmpi .ne v1700 c0_i32_925
  let v1702 : BitVec 1 := Scalar.andi v1699 v1701
  let v1688 : BitVec 32 := Scalar.divsi v75 c2_i32_920
  let c1_i32_926 : BitVec 32 := 1#32
  let v1703 : BitVec 32 := Scalar.subi v1688 c1_i32_926
  let v1704 : BitVec 32 := Scalar.select v1702 v1703 v1688
  let v1705 : BitVec 32 := Scalar.muli c2_i32_927 v1704
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_929 : BitVec 32 := 0#32
  let v1707 : BitVec 1 := Scalar.cmpi .sgt v163 c0_i32_929
  let v1708 : BitVec 32 := Scalar.extui v1707
  let c0_i32_930 : BitVec 32 := 0#32
  let v1709 : BitVec 1 := Scalar.cmpi .slt v163 c0_i32_930
  let v1710 : BitVec 32 := Scalar.extui v1709
  let v1711 : BitVec 32 := Scalar.subi v1708 v1710
  let c4_i32_928 : BitVec 32 := 4#32
  let c0_i32_931 : BitVec 32 := 0#32
  let v1712 : BitVec 1 := Scalar.cmpi .sgt c4_i32_928 c0_i32_931
  let v1713 : BitVec 32 := Scalar.extui v1712
  let c0_i32_932 : BitVec 32 := 0#32
  let v1714 : BitVec 1 := Scalar.cmpi .slt c4_i32_928 c0_i32_932
  let v1715 : BitVec 32 := Scalar.extui v1714
  let v1716 : BitVec 32 := Scalar.subi v1713 v1715
  let v1717 : BitVec 1 := Scalar.cmpi .ne v1711 v1716
  let v1718 : BitVec 32 := Scalar.remsi v163 c4_i32_928
  let c0_i32_933 : BitVec 32 := 0#32
  let v1719 : BitVec 1 := Scalar.cmpi .ne v1718 c0_i32_933
  let v1720 : BitVec 1 := Scalar.andi v1717 v1719
  let v1706 : BitVec 32 := Scalar.divsi v163 c4_i32_928
  let c1_i32_934 : BitVec 32 := 1#32
  let v1721 : BitVec 32 := Scalar.subi v1706 c1_i32_934
  let v1722 : BitVec 32 := Scalar.select v1720 v1721 v1706
  let v1723 : BitVec 32 := Scalar.addi v1705 v1722
  let v1746 : BitVec 32 := Scalar.muli c8_i32_948 v1723
  let c4_i32_941 : BitVec 32 := 4#32
  let c2_i32_935 : BitVec 32 := 2#32
  let c0_i32_936 : BitVec 32 := 0#32
  let v1724 : BitVec 1 := Scalar.cmpi .eq c2_i32_935 c0_i32_936
  let c1_i32_937 : BitVec 32 := 1#32
  let v1725 : BitVec 32 := Scalar.select v1724 c1_i32_937 c2_i32_935
  let v1726 : BitVec 32 := Scalar.remsi v75 v1725
  let c0_i32_939 : BitVec 32 := 0#32
  let v1728 : BitVec 1 := Scalar.cmpi .slt v1726 c0_i32_939
  let c0_i32_940 : BitVec 32 := 0#32
  let v1729 : BitVec 1 := Scalar.cmpi .slt v1725 c0_i32_940
  let v1730 : BitVec 1 := Scalar.xori v1728 v1729
  let c0_i32_938 : BitVec 32 := 0#32
  let v1727 : BitVec 1 := Scalar.cmpi .ne v1726 c0_i32_938
  let v1731 : BitVec 1 := Scalar.andi v1730 v1727
  let v1732 : BitVec 32 := Scalar.addi v1726 v1725
  let v1733 : BitVec 32 := Scalar.select v1731 v1732 v1726
  let v1734 : BitVec 32 := Scalar.muli c4_i32_941 v1733
  let c4_i32_942 : BitVec 32 := 4#32
  let c0_i32_943 : BitVec 32 := 0#32
  let v1735 : BitVec 1 := Scalar.cmpi .eq c4_i32_942 c0_i32_943
  let c1_i32_944 : BitVec 32 := 1#32
  let v1736 : BitVec 32 := Scalar.select v1735 c1_i32_944 c4_i32_942
  let v1737 : BitVec 32 := Scalar.remsi v163 v1736
  let c0_i32_946 : BitVec 32 := 0#32
  let v1739 : BitVec 1 := Scalar.cmpi .slt v1737 c0_i32_946
  let c0_i32_947 : BitVec 32 := 0#32
  let v1740 : BitVec 1 := Scalar.cmpi .slt v1736 c0_i32_947
  let v1741 : BitVec 1 := Scalar.xori v1739 v1740
  let c0_i32_945 : BitVec 32 := 0#32
  let v1738 : BitVec 1 := Scalar.cmpi .ne v1737 c0_i32_945
  let v1742 : BitVec 1 := Scalar.andi v1741 v1738
  let v1743 : BitVec 32 := Scalar.addi v1737 v1736
  let v1744 : BitVec 32 := Scalar.select v1742 v1743 v1737
  let v1745 : BitVec 32 := Scalar.addi v1734 v1744
  let v1747 : BitVec 32 := Scalar.addi v1746 v1745
  let c1_i32_954 : BitVec 32 := 1#32
  let v1748 : BitVec 32 := Scalar.muli v1747 c1_i32_954
  let v1749 : BitVec 32 := Scalar.addi c0_i32_955 v1748
  v1749.toNat
def k0_dev24 (d0 : Dev nD) : Nat :=
  let c0_i32_995 : BitVec 32 := 0#32
  let c8_i32_988 : BitVec 32 := 8#32
  let c2_i32_967 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_961 : BitVec 32 := 0#32
  let v1759 : BitVec 1 := Scalar.cmpi .sgt v75 c0_i32_961
  let v1760 : BitVec 32 := Scalar.extui v1759
  let c0_i32_962 : BitVec 32 := 0#32
  let v1761 : BitVec 1 := Scalar.cmpi .slt v75 c0_i32_962
  let v1762 : BitVec 32 := Scalar.extui v1761
  let v1763 : BitVec 32 := Scalar.subi v1760 v1762
  let c2_i32_960 : BitVec 32 := 2#32
  let c0_i32_963 : BitVec 32 := 0#32
  let v1764 : BitVec 1 := Scalar.cmpi .sgt c2_i32_960 c0_i32_963
  let v1765 : BitVec 32 := Scalar.extui v1764
  let c0_i32_964 : BitVec 32 := 0#32
  let v1766 : BitVec 1 := Scalar.cmpi .slt c2_i32_960 c0_i32_964
  let v1767 : BitVec 32 := Scalar.extui v1766
  let v1768 : BitVec 32 := Scalar.subi v1765 v1767
  let v1769 : BitVec 1 := Scalar.cmpi .ne v1763 v1768
  let v1770 : BitVec 32 := Scalar.remsi v75 c2_i32_960
  let c0_i32_965 : BitVec 32 := 0#32
  let v1771 : BitVec 1 := Scalar.cmpi .ne v1770 c0_i32_965
  let v1772 : BitVec 1 := Scalar.andi v1769 v1771
  let v1758 : BitVec 32 := Scalar.divsi v75 c2_i32_960
  let c1_i32_966 : BitVec 32 := 1#32
  let v1773 : BitVec 32 := Scalar.subi v1758 c1_i32_966
  let v1774 : BitVec 32 := Scalar.select v1772 v1773 v1758
  let v1775 : BitVec 32 := Scalar.muli c2_i32_967 v1774
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_969 : BitVec 32 := 0#32
  let v1777 : BitVec 1 := Scalar.cmpi .sgt v174 c0_i32_969
  let v1778 : BitVec 32 := Scalar.extui v1777
  let c0_i32_970 : BitVec 32 := 0#32
  let v1779 : BitVec 1 := Scalar.cmpi .slt v174 c0_i32_970
  let v1780 : BitVec 32 := Scalar.extui v1779
  let v1781 : BitVec 32 := Scalar.subi v1778 v1780
  let c4_i32_968 : BitVec 32 := 4#32
  let c0_i32_971 : BitVec 32 := 0#32
  let v1782 : BitVec 1 := Scalar.cmpi .sgt c4_i32_968 c0_i32_971
  let v1783 : BitVec 32 := Scalar.extui v1782
  let c0_i32_972 : BitVec 32 := 0#32
  let v1784 : BitVec 1 := Scalar.cmpi .slt c4_i32_968 c0_i32_972
  let v1785 : BitVec 32 := Scalar.extui v1784
  let v1786 : BitVec 32 := Scalar.subi v1783 v1785
  let v1787 : BitVec 1 := Scalar.cmpi .ne v1781 v1786
  let v1788 : BitVec 32 := Scalar.remsi v174 c4_i32_968
  let c0_i32_973 : BitVec 32 := 0#32
  let v1789 : BitVec 1 := Scalar.cmpi .ne v1788 c0_i32_973
  let v1790 : BitVec 1 := Scalar.andi v1787 v1789
  let v1776 : BitVec 32 := Scalar.divsi v174 c4_i32_968
  let c1_i32_974 : BitVec 32 := 1#32
  let v1791 : BitVec 32 := Scalar.subi v1776 c1_i32_974
  let v1792 : BitVec 32 := Scalar.select v1790 v1791 v1776
  let v1793 : BitVec 32 := Scalar.addi v1775 v1792
  let v1816 : BitVec 32 := Scalar.muli c8_i32_988 v1793
  let c4_i32_981 : BitVec 32 := 4#32
  let c2_i32_975 : BitVec 32 := 2#32
  let c0_i32_976 : BitVec 32 := 0#32
  let v1794 : BitVec 1 := Scalar.cmpi .eq c2_i32_975 c0_i32_976
  let c1_i32_977 : BitVec 32 := 1#32
  let v1795 : BitVec 32 := Scalar.select v1794 c1_i32_977 c2_i32_975
  let v1796 : BitVec 32 := Scalar.remsi v75 v1795
  let c0_i32_979 : BitVec 32 := 0#32
  let v1798 : BitVec 1 := Scalar.cmpi .slt v1796 c0_i32_979
  let c0_i32_980 : BitVec 32 := 0#32
  let v1799 : BitVec 1 := Scalar.cmpi .slt v1795 c0_i32_980
  let v1800 : BitVec 1 := Scalar.xori v1798 v1799
  let c0_i32_978 : BitVec 32 := 0#32
  let v1797 : BitVec 1 := Scalar.cmpi .ne v1796 c0_i32_978
  let v1801 : BitVec 1 := Scalar.andi v1800 v1797
  let v1802 : BitVec 32 := Scalar.addi v1796 v1795
  let v1803 : BitVec 32 := Scalar.select v1801 v1802 v1796
  let v1804 : BitVec 32 := Scalar.muli c4_i32_981 v1803
  let c4_i32_982 : BitVec 32 := 4#32
  let c0_i32_983 : BitVec 32 := 0#32
  let v1805 : BitVec 1 := Scalar.cmpi .eq c4_i32_982 c0_i32_983
  let c1_i32_984 : BitVec 32 := 1#32
  let v1806 : BitVec 32 := Scalar.select v1805 c1_i32_984 c4_i32_982
  let v1807 : BitVec 32 := Scalar.remsi v174 v1806
  let c0_i32_986 : BitVec 32 := 0#32
  let v1809 : BitVec 1 := Scalar.cmpi .slt v1807 c0_i32_986
  let c0_i32_987 : BitVec 32 := 0#32
  let v1810 : BitVec 1 := Scalar.cmpi .slt v1806 c0_i32_987
  let v1811 : BitVec 1 := Scalar.xori v1809 v1810
  let c0_i32_985 : BitVec 32 := 0#32
  let v1808 : BitVec 1 := Scalar.cmpi .ne v1807 c0_i32_985
  let v1812 : BitVec 1 := Scalar.andi v1811 v1808
  let v1813 : BitVec 32 := Scalar.addi v1807 v1806
  let v1814 : BitVec 32 := Scalar.select v1812 v1813 v1807
  let v1815 : BitVec 32 := Scalar.addi v1804 v1814
  let v1817 : BitVec 32 := Scalar.addi v1816 v1815
  let c1_i32_994 : BitVec 32 := 1#32
  let v1818 : BitVec 32 := Scalar.muli v1817 c1_i32_994
  let v1819 : BitVec 32 := Scalar.addi c0_i32_995 v1818
  v1819.toNat
def k0_off3 (d0 : Dev nD) (c1_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c128_i32_1002 : BitVec 32 := 128#32
  let v1832 : BitVec 32 := Scalar.muli v108 c128_i32_1002
  let c512_i32_1040 : BitVec 32 := 512#32
  ![v1832.toNat, 512]
def k0_dev25 (d0 : Dev nD) : Nat :=
  let c0_i32_1038 : BitVec 32 := 0#32
  let c8_i32_1031 : BitVec 32 := 8#32
  let c2_i32_1010 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1004 : BitVec 32 := 0#32
  let v1834 : BitVec 1 := Scalar.cmpi .sgt v75 c0_i32_1004
  let v1835 : BitVec 32 := Scalar.extui v1834
  let c0_i32_1005 : BitVec 32 := 0#32
  let v1836 : BitVec 1 := Scalar.cmpi .slt v75 c0_i32_1005
  let v1837 : BitVec 32 := Scalar.extui v1836
  let v1838 : BitVec 32 := Scalar.subi v1835 v1837
  let c2_i32_1003 : BitVec 32 := 2#32
  let c0_i32_1006 : BitVec 32 := 0#32
  let v1839 : BitVec 1 := Scalar.cmpi .sgt c2_i32_1003 c0_i32_1006
  let v1840 : BitVec 32 := Scalar.extui v1839
  let c0_i32_1007 : BitVec 32 := 0#32
  let v1841 : BitVec 1 := Scalar.cmpi .slt c2_i32_1003 c0_i32_1007
  let v1842 : BitVec 32 := Scalar.extui v1841
  let v1843 : BitVec 32 := Scalar.subi v1840 v1842
  let v1844 : BitVec 1 := Scalar.cmpi .ne v1838 v1843
  let v1845 : BitVec 32 := Scalar.remsi v75 c2_i32_1003
  let c0_i32_1008 : BitVec 32 := 0#32
  let v1846 : BitVec 1 := Scalar.cmpi .ne v1845 c0_i32_1008
  let v1847 : BitVec 1 := Scalar.andi v1844 v1846
  let v1833 : BitVec 32 := Scalar.divsi v75 c2_i32_1003
  let c1_i32_1009 : BitVec 32 := 1#32
  let v1848 : BitVec 32 := Scalar.subi v1833 c1_i32_1009
  let v1849 : BitVec 32 := Scalar.select v1847 v1848 v1833
  let v1850 : BitVec 32 := Scalar.muli c2_i32_1010 v1849
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_1012 : BitVec 32 := 0#32
  let v1852 : BitVec 1 := Scalar.cmpi .sgt v108 c0_i32_1012
  let v1853 : BitVec 32 := Scalar.extui v1852
  let c0_i32_1013 : BitVec 32 := 0#32
  let v1854 : BitVec 1 := Scalar.cmpi .slt v108 c0_i32_1013
  let v1855 : BitVec 32 := Scalar.extui v1854
  let v1856 : BitVec 32 := Scalar.subi v1853 v1855
  let c4_i32_1011 : BitVec 32 := 4#32
  let c0_i32_1014 : BitVec 32 := 0#32
  let v1857 : BitVec 1 := Scalar.cmpi .sgt c4_i32_1011 c0_i32_1014
  let v1858 : BitVec 32 := Scalar.extui v1857
  let c0_i32_1015 : BitVec 32 := 0#32
  let v1859 : BitVec 1 := Scalar.cmpi .slt c4_i32_1011 c0_i32_1015
  let v1860 : BitVec 32 := Scalar.extui v1859
  let v1861 : BitVec 32 := Scalar.subi v1858 v1860
  let v1862 : BitVec 1 := Scalar.cmpi .ne v1856 v1861
  let v1863 : BitVec 32 := Scalar.remsi v108 c4_i32_1011
  let c0_i32_1016 : BitVec 32 := 0#32
  let v1864 : BitVec 1 := Scalar.cmpi .ne v1863 c0_i32_1016
  let v1865 : BitVec 1 := Scalar.andi v1862 v1864
  let v1851 : BitVec 32 := Scalar.divsi v108 c4_i32_1011
  let c1_i32_1017 : BitVec 32 := 1#32
  let v1866 : BitVec 32 := Scalar.subi v1851 c1_i32_1017
  let v1867 : BitVec 32 := Scalar.select v1865 v1866 v1851
  let v1868 : BitVec 32 := Scalar.addi v1850 v1867
  let v1891 : BitVec 32 := Scalar.muli c8_i32_1031 v1868
  let c4_i32_1024 : BitVec 32 := 4#32
  let c2_i32_1018 : BitVec 32 := 2#32
  let c0_i32_1019 : BitVec 32 := 0#32
  let v1869 : BitVec 1 := Scalar.cmpi .eq c2_i32_1018 c0_i32_1019
  let c1_i32_1020 : BitVec 32 := 1#32
  let v1870 : BitVec 32 := Scalar.select v1869 c1_i32_1020 c2_i32_1018
  let v1871 : BitVec 32 := Scalar.remsi v75 v1870
  let c0_i32_1022 : BitVec 32 := 0#32
  let v1873 : BitVec 1 := Scalar.cmpi .slt v1871 c0_i32_1022
  let c0_i32_1023 : BitVec 32 := 0#32
  let v1874 : BitVec 1 := Scalar.cmpi .slt v1870 c0_i32_1023
  let v1875 : BitVec 1 := Scalar.xori v1873 v1874
  let c0_i32_1021 : BitVec 32 := 0#32
  let v1872 : BitVec 1 := Scalar.cmpi .ne v1871 c0_i32_1021
  let v1876 : BitVec 1 := Scalar.andi v1875 v1872
  let v1877 : BitVec 32 := Scalar.addi v1871 v1870
  let v1878 : BitVec 32 := Scalar.select v1876 v1877 v1871
  let v1879 : BitVec 32 := Scalar.muli c4_i32_1024 v1878
  let c4_i32_1025 : BitVec 32 := 4#32
  let c0_i32_1026 : BitVec 32 := 0#32
  let v1880 : BitVec 1 := Scalar.cmpi .eq c4_i32_1025 c0_i32_1026
  let c1_i32_1027 : BitVec 32 := 1#32
  let v1881 : BitVec 32 := Scalar.select v1880 c1_i32_1027 c4_i32_1025
  let v1882 : BitVec 32 := Scalar.remsi v108 v1881
  let c0_i32_1029 : BitVec 32 := 0#32
  let v1884 : BitVec 1 := Scalar.cmpi .slt v1882 c0_i32_1029
  let c0_i32_1030 : BitVec 32 := 0#32
  let v1885 : BitVec 1 := Scalar.cmpi .slt v1881 c0_i32_1030
  let v1886 : BitVec 1 := Scalar.xori v1884 v1885
  let c0_i32_1028 : BitVec 32 := 0#32
  let v1883 : BitVec 1 := Scalar.cmpi .ne v1882 c0_i32_1028
  let v1887 : BitVec 1 := Scalar.andi v1886 v1883
  let v1888 : BitVec 32 := Scalar.addi v1882 v1881
  let v1889 : BitVec 32 := Scalar.select v1887 v1888 v1882
  let v1890 : BitVec 32 := Scalar.addi v1879 v1889
  let v1892 : BitVec 32 := Scalar.addi v1891 v1890
  let c1_i32_1037 : BitVec 32 := 1#32
  let v1893 : BitVec 32 := Scalar.muli v1892 c1_i32_1037
  let v1894 : BitVec 32 := Scalar.addi c0_i32_1038 v1893
  v1894.toNat
def k0_dev26 (d0 : Dev nD) : Nat :=
  let c0_i32_1077 : BitVec 32 := 0#32
  let c8_i32_1070 : BitVec 32 := 8#32
  let c2_i32_1049 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1043 : BitVec 32 := 0#32
  let v1904 : BitVec 1 := Scalar.cmpi .sgt v75 c0_i32_1043
  let v1905 : BitVec 32 := Scalar.extui v1904
  let c0_i32_1044 : BitVec 32 := 0#32
  let v1906 : BitVec 1 := Scalar.cmpi .slt v75 c0_i32_1044
  let v1907 : BitVec 32 := Scalar.extui v1906
  let v1908 : BitVec 32 := Scalar.subi v1905 v1907
  let c2_i32_1042 : BitVec 32 := 2#32
  let c0_i32_1045 : BitVec 32 := 0#32
  let v1909 : BitVec 1 := Scalar.cmpi .sgt c2_i32_1042 c0_i32_1045
  let v1910 : BitVec 32 := Scalar.extui v1909
  let c0_i32_1046 : BitVec 32 := 0#32
  let v1911 : BitVec 1 := Scalar.cmpi .slt c2_i32_1042 c0_i32_1046
  let v1912 : BitVec 32 := Scalar.extui v1911
  let v1913 : BitVec 32 := Scalar.subi v1910 v1912
  let v1914 : BitVec 1 := Scalar.cmpi .ne v1908 v1913
  let v1915 : BitVec 32 := Scalar.remsi v75 c2_i32_1042
  let c0_i32_1047 : BitVec 32 := 0#32
  let v1916 : BitVec 1 := Scalar.cmpi .ne v1915 c0_i32_1047
  let v1917 : BitVec 1 := Scalar.andi v1914 v1916
  let v1903 : BitVec 32 := Scalar.divsi v75 c2_i32_1042
  let c1_i32_1048 : BitVec 32 := 1#32
  let v1918 : BitVec 32 := Scalar.subi v1903 c1_i32_1048
  let v1919 : BitVec 32 := Scalar.select v1917 v1918 v1903
  let v1920 : BitVec 32 := Scalar.muli c2_i32_1049 v1919
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_1051 : BitVec 32 := 0#32
  let v1922 : BitVec 1 := Scalar.cmpi .sgt v119 c0_i32_1051
  let v1923 : BitVec 32 := Scalar.extui v1922
  let c0_i32_1052 : BitVec 32 := 0#32
  let v1924 : BitVec 1 := Scalar.cmpi .slt v119 c0_i32_1052
  let v1925 : BitVec 32 := Scalar.extui v1924
  let v1926 : BitVec 32 := Scalar.subi v1923 v1925
  let c4_i32_1050 : BitVec 32 := 4#32
  let c0_i32_1053 : BitVec 32 := 0#32
  let v1927 : BitVec 1 := Scalar.cmpi .sgt c4_i32_1050 c0_i32_1053
  let v1928 : BitVec 32 := Scalar.extui v1927
  let c0_i32_1054 : BitVec 32 := 0#32
  let v1929 : BitVec 1 := Scalar.cmpi .slt c4_i32_1050 c0_i32_1054
  let v1930 : BitVec 32 := Scalar.extui v1929
  let v1931 : BitVec 32 := Scalar.subi v1928 v1930
  let v1932 : BitVec 1 := Scalar.cmpi .ne v1926 v1931
  let v1933 : BitVec 32 := Scalar.remsi v119 c4_i32_1050
  let c0_i32_1055 : BitVec 32 := 0#32
  let v1934 : BitVec 1 := Scalar.cmpi .ne v1933 c0_i32_1055
  let v1935 : BitVec 1 := Scalar.andi v1932 v1934
  let v1921 : BitVec 32 := Scalar.divsi v119 c4_i32_1050
  let c1_i32_1056 : BitVec 32 := 1#32
  let v1936 : BitVec 32 := Scalar.subi v1921 c1_i32_1056
  let v1937 : BitVec 32 := Scalar.select v1935 v1936 v1921
  let v1938 : BitVec 32 := Scalar.addi v1920 v1937
  let v1961 : BitVec 32 := Scalar.muli c8_i32_1070 v1938
  let c4_i32_1063 : BitVec 32 := 4#32
  let c2_i32_1057 : BitVec 32 := 2#32
  let c0_i32_1058 : BitVec 32 := 0#32
  let v1939 : BitVec 1 := Scalar.cmpi .eq c2_i32_1057 c0_i32_1058
  let c1_i32_1059 : BitVec 32 := 1#32
  let v1940 : BitVec 32 := Scalar.select v1939 c1_i32_1059 c2_i32_1057
  let v1941 : BitVec 32 := Scalar.remsi v75 v1940
  let c0_i32_1061 : BitVec 32 := 0#32
  let v1943 : BitVec 1 := Scalar.cmpi .slt v1941 c0_i32_1061
  let c0_i32_1062 : BitVec 32 := 0#32
  let v1944 : BitVec 1 := Scalar.cmpi .slt v1940 c0_i32_1062
  let v1945 : BitVec 1 := Scalar.xori v1943 v1944
  let c0_i32_1060 : BitVec 32 := 0#32
  let v1942 : BitVec 1 := Scalar.cmpi .ne v1941 c0_i32_1060
  let v1946 : BitVec 1 := Scalar.andi v1945 v1942
  let v1947 : BitVec 32 := Scalar.addi v1941 v1940
  let v1948 : BitVec 32 := Scalar.select v1946 v1947 v1941
  let v1949 : BitVec 32 := Scalar.muli c4_i32_1063 v1948
  let c4_i32_1064 : BitVec 32 := 4#32
  let c0_i32_1065 : BitVec 32 := 0#32
  let v1950 : BitVec 1 := Scalar.cmpi .eq c4_i32_1064 c0_i32_1065
  let c1_i32_1066 : BitVec 32 := 1#32
  let v1951 : BitVec 32 := Scalar.select v1950 c1_i32_1066 c4_i32_1064
  let v1952 : BitVec 32 := Scalar.remsi v119 v1951
  let c0_i32_1068 : BitVec 32 := 0#32
  let v1954 : BitVec 1 := Scalar.cmpi .slt v1952 c0_i32_1068
  let c0_i32_1069 : BitVec 32 := 0#32
  let v1955 : BitVec 1 := Scalar.cmpi .slt v1951 c0_i32_1069
  let v1956 : BitVec 1 := Scalar.xori v1954 v1955
  let c0_i32_1067 : BitVec 32 := 0#32
  let v1953 : BitVec 1 := Scalar.cmpi .ne v1952 c0_i32_1067
  let v1957 : BitVec 1 := Scalar.andi v1956 v1953
  let v1958 : BitVec 32 := Scalar.addi v1952 v1951
  let v1959 : BitVec 32 := Scalar.select v1957 v1958 v1952
  let v1960 : BitVec 32 := Scalar.addi v1949 v1959
  let v1962 : BitVec 32 := Scalar.addi v1961 v1960
  let c1_i32_1076 : BitVec 32 := 1#32
  let v1963 : BitVec 32 := Scalar.muli v1962 c1_i32_1076
  let v1964 : BitVec 32 := Scalar.addi c0_i32_1077 v1963
  v1964.toNat
def k0_dev27 (d0 : Dev nD) : Nat :=
  let c0_i32_1117 : BitVec 32 := 0#32
  let c8_i32_1110 : BitVec 32 := 8#32
  let c2_i32_1089 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1083 : BitVec 32 := 0#32
  let v1974 : BitVec 1 := Scalar.cmpi .sgt v75 c0_i32_1083
  let v1975 : BitVec 32 := Scalar.extui v1974
  let c0_i32_1084 : BitVec 32 := 0#32
  let v1976 : BitVec 1 := Scalar.cmpi .slt v75 c0_i32_1084
  let v1977 : BitVec 32 := Scalar.extui v1976
  let v1978 : BitVec 32 := Scalar.subi v1975 v1977
  let c2_i32_1082 : BitVec 32 := 2#32
  let c0_i32_1085 : BitVec 32 := 0#32
  let v1979 : BitVec 1 := Scalar.cmpi .sgt c2_i32_1082 c0_i32_1085
  let v1980 : BitVec 32 := Scalar.extui v1979
  let c0_i32_1086 : BitVec 32 := 0#32
  let v1981 : BitVec 1 := Scalar.cmpi .slt c2_i32_1082 c0_i32_1086
  let v1982 : BitVec 32 := Scalar.extui v1981
  let v1983 : BitVec 32 := Scalar.subi v1980 v1982
  let v1984 : BitVec 1 := Scalar.cmpi .ne v1978 v1983
  let v1985 : BitVec 32 := Scalar.remsi v75 c2_i32_1082
  let c0_i32_1087 : BitVec 32 := 0#32
  let v1986 : BitVec 1 := Scalar.cmpi .ne v1985 c0_i32_1087
  let v1987 : BitVec 1 := Scalar.andi v1984 v1986
  let v1973 : BitVec 32 := Scalar.divsi v75 c2_i32_1082
  let c1_i32_1088 : BitVec 32 := 1#32
  let v1988 : BitVec 32 := Scalar.subi v1973 c1_i32_1088
  let v1989 : BitVec 32 := Scalar.select v1987 v1988 v1973
  let v1990 : BitVec 32 := Scalar.muli c2_i32_1089 v1989
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_1091 : BitVec 32 := 0#32
  let v1992 : BitVec 1 := Scalar.cmpi .sgt v130 c0_i32_1091
  let v1993 : BitVec 32 := Scalar.extui v1992
  let c0_i32_1092 : BitVec 32 := 0#32
  let v1994 : BitVec 1 := Scalar.cmpi .slt v130 c0_i32_1092
  let v1995 : BitVec 32 := Scalar.extui v1994
  let v1996 : BitVec 32 := Scalar.subi v1993 v1995
  let c4_i32_1090 : BitVec 32 := 4#32
  let c0_i32_1093 : BitVec 32 := 0#32
  let v1997 : BitVec 1 := Scalar.cmpi .sgt c4_i32_1090 c0_i32_1093
  let v1998 : BitVec 32 := Scalar.extui v1997
  let c0_i32_1094 : BitVec 32 := 0#32
  let v1999 : BitVec 1 := Scalar.cmpi .slt c4_i32_1090 c0_i32_1094
  let v2000 : BitVec 32 := Scalar.extui v1999
  let v2001 : BitVec 32 := Scalar.subi v1998 v2000
  let v2002 : BitVec 1 := Scalar.cmpi .ne v1996 v2001
  let v2003 : BitVec 32 := Scalar.remsi v130 c4_i32_1090
  let c0_i32_1095 : BitVec 32 := 0#32
  let v2004 : BitVec 1 := Scalar.cmpi .ne v2003 c0_i32_1095
  let v2005 : BitVec 1 := Scalar.andi v2002 v2004
  let v1991 : BitVec 32 := Scalar.divsi v130 c4_i32_1090
  let c1_i32_1096 : BitVec 32 := 1#32
  let v2006 : BitVec 32 := Scalar.subi v1991 c1_i32_1096
  let v2007 : BitVec 32 := Scalar.select v2005 v2006 v1991
  let v2008 : BitVec 32 := Scalar.addi v1990 v2007
  let v2031 : BitVec 32 := Scalar.muli c8_i32_1110 v2008
  let c4_i32_1103 : BitVec 32 := 4#32
  let c2_i32_1097 : BitVec 32 := 2#32
  let c0_i32_1098 : BitVec 32 := 0#32
  let v2009 : BitVec 1 := Scalar.cmpi .eq c2_i32_1097 c0_i32_1098
  let c1_i32_1099 : BitVec 32 := 1#32
  let v2010 : BitVec 32 := Scalar.select v2009 c1_i32_1099 c2_i32_1097
  let v2011 : BitVec 32 := Scalar.remsi v75 v2010
  let c0_i32_1101 : BitVec 32 := 0#32
  let v2013 : BitVec 1 := Scalar.cmpi .slt v2011 c0_i32_1101
  let c0_i32_1102 : BitVec 32 := 0#32
  let v2014 : BitVec 1 := Scalar.cmpi .slt v2010 c0_i32_1102
  let v2015 : BitVec 1 := Scalar.xori v2013 v2014
  let c0_i32_1100 : BitVec 32 := 0#32
  let v2012 : BitVec 1 := Scalar.cmpi .ne v2011 c0_i32_1100
  let v2016 : BitVec 1 := Scalar.andi v2015 v2012
  let v2017 : BitVec 32 := Scalar.addi v2011 v2010
  let v2018 : BitVec 32 := Scalar.select v2016 v2017 v2011
  let v2019 : BitVec 32 := Scalar.muli c4_i32_1103 v2018
  let c4_i32_1104 : BitVec 32 := 4#32
  let c0_i32_1105 : BitVec 32 := 0#32
  let v2020 : BitVec 1 := Scalar.cmpi .eq c4_i32_1104 c0_i32_1105
  let c1_i32_1106 : BitVec 32 := 1#32
  let v2021 : BitVec 32 := Scalar.select v2020 c1_i32_1106 c4_i32_1104
  let v2022 : BitVec 32 := Scalar.remsi v130 v2021
  let c0_i32_1108 : BitVec 32 := 0#32
  let v2024 : BitVec 1 := Scalar.cmpi .slt v2022 c0_i32_1108
  let c0_i32_1109 : BitVec 32 := 0#32
  let v2025 : BitVec 1 := Scalar.cmpi .slt v2021 c0_i32_1109
  let v2026 : BitVec 1 := Scalar.xori v2024 v2025
  let c0_i32_1107 : BitVec 32 := 0#32
  let v2023 : BitVec 1 := Scalar.cmpi .ne v2022 c0_i32_1107
  let v2027 : BitVec 1 := Scalar.andi v2026 v2023
  let v2028 : BitVec 32 := Scalar.addi v2022 v2021
  let v2029 : BitVec 32 := Scalar.select v2027 v2028 v2022
  let v2030 : BitVec 32 := Scalar.addi v2019 v2029
  let v2032 : BitVec 32 := Scalar.addi v2031 v2030
  let c1_i32_1116 : BitVec 32 := 1#32
  let v2033 : BitVec 32 := Scalar.muli v2032 c1_i32_1116
  let v2034 : BitVec 32 := Scalar.addi c0_i32_1117 v2033
  v2034.toNat
def k0_dev28 (d0 : Dev nD) : Nat :=
  let c0_i32_1157 : BitVec 32 := 0#32
  let c8_i32_1150 : BitVec 32 := 8#32
  let c2_i32_1129 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1123 : BitVec 32 := 0#32
  let v2044 : BitVec 1 := Scalar.cmpi .sgt v75 c0_i32_1123
  let v2045 : BitVec 32 := Scalar.extui v2044
  let c0_i32_1124 : BitVec 32 := 0#32
  let v2046 : BitVec 1 := Scalar.cmpi .slt v75 c0_i32_1124
  let v2047 : BitVec 32 := Scalar.extui v2046
  let v2048 : BitVec 32 := Scalar.subi v2045 v2047
  let c2_i32_1122 : BitVec 32 := 2#32
  let c0_i32_1125 : BitVec 32 := 0#32
  let v2049 : BitVec 1 := Scalar.cmpi .sgt c2_i32_1122 c0_i32_1125
  let v2050 : BitVec 32 := Scalar.extui v2049
  let c0_i32_1126 : BitVec 32 := 0#32
  let v2051 : BitVec 1 := Scalar.cmpi .slt c2_i32_1122 c0_i32_1126
  let v2052 : BitVec 32 := Scalar.extui v2051
  let v2053 : BitVec 32 := Scalar.subi v2050 v2052
  let v2054 : BitVec 1 := Scalar.cmpi .ne v2048 v2053
  let v2055 : BitVec 32 := Scalar.remsi v75 c2_i32_1122
  let c0_i32_1127 : BitVec 32 := 0#32
  let v2056 : BitVec 1 := Scalar.cmpi .ne v2055 c0_i32_1127
  let v2057 : BitVec 1 := Scalar.andi v2054 v2056
  let v2043 : BitVec 32 := Scalar.divsi v75 c2_i32_1122
  let c1_i32_1128 : BitVec 32 := 1#32
  let v2058 : BitVec 32 := Scalar.subi v2043 c1_i32_1128
  let v2059 : BitVec 32 := Scalar.select v2057 v2058 v2043
  let v2060 : BitVec 32 := Scalar.muli c2_i32_1129 v2059
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_1131 : BitVec 32 := 0#32
  let v2062 : BitVec 1 := Scalar.cmpi .sgt v141 c0_i32_1131
  let v2063 : BitVec 32 := Scalar.extui v2062
  let c0_i32_1132 : BitVec 32 := 0#32
  let v2064 : BitVec 1 := Scalar.cmpi .slt v141 c0_i32_1132
  let v2065 : BitVec 32 := Scalar.extui v2064
  let v2066 : BitVec 32 := Scalar.subi v2063 v2065
  let c4_i32_1130 : BitVec 32 := 4#32
  let c0_i32_1133 : BitVec 32 := 0#32
  let v2067 : BitVec 1 := Scalar.cmpi .sgt c4_i32_1130 c0_i32_1133
  let v2068 : BitVec 32 := Scalar.extui v2067
  let c0_i32_1134 : BitVec 32 := 0#32
  let v2069 : BitVec 1 := Scalar.cmpi .slt c4_i32_1130 c0_i32_1134
  let v2070 : BitVec 32 := Scalar.extui v2069
  let v2071 : BitVec 32 := Scalar.subi v2068 v2070
  let v2072 : BitVec 1 := Scalar.cmpi .ne v2066 v2071
  let v2073 : BitVec 32 := Scalar.remsi v141 c4_i32_1130
  let c0_i32_1135 : BitVec 32 := 0#32
  let v2074 : BitVec 1 := Scalar.cmpi .ne v2073 c0_i32_1135
  let v2075 : BitVec 1 := Scalar.andi v2072 v2074
  let v2061 : BitVec 32 := Scalar.divsi v141 c4_i32_1130
  let c1_i32_1136 : BitVec 32 := 1#32
  let v2076 : BitVec 32 := Scalar.subi v2061 c1_i32_1136
  let v2077 : BitVec 32 := Scalar.select v2075 v2076 v2061
  let v2078 : BitVec 32 := Scalar.addi v2060 v2077
  let v2101 : BitVec 32 := Scalar.muli c8_i32_1150 v2078
  let c4_i32_1143 : BitVec 32 := 4#32
  let c2_i32_1137 : BitVec 32 := 2#32
  let c0_i32_1138 : BitVec 32 := 0#32
  let v2079 : BitVec 1 := Scalar.cmpi .eq c2_i32_1137 c0_i32_1138
  let c1_i32_1139 : BitVec 32 := 1#32
  let v2080 : BitVec 32 := Scalar.select v2079 c1_i32_1139 c2_i32_1137
  let v2081 : BitVec 32 := Scalar.remsi v75 v2080
  let c0_i32_1141 : BitVec 32 := 0#32
  let v2083 : BitVec 1 := Scalar.cmpi .slt v2081 c0_i32_1141
  let c0_i32_1142 : BitVec 32 := 0#32
  let v2084 : BitVec 1 := Scalar.cmpi .slt v2080 c0_i32_1142
  let v2085 : BitVec 1 := Scalar.xori v2083 v2084
  let c0_i32_1140 : BitVec 32 := 0#32
  let v2082 : BitVec 1 := Scalar.cmpi .ne v2081 c0_i32_1140
  let v2086 : BitVec 1 := Scalar.andi v2085 v2082
  let v2087 : BitVec 32 := Scalar.addi v2081 v2080
  let v2088 : BitVec 32 := Scalar.select v2086 v2087 v2081
  let v2089 : BitVec 32 := Scalar.muli c4_i32_1143 v2088
  let c4_i32_1144 : BitVec 32 := 4#32
  let c0_i32_1145 : BitVec 32 := 0#32
  let v2090 : BitVec 1 := Scalar.cmpi .eq c4_i32_1144 c0_i32_1145
  let c1_i32_1146 : BitVec 32 := 1#32
  let v2091 : BitVec 32 := Scalar.select v2090 c1_i32_1146 c4_i32_1144
  let v2092 : BitVec 32 := Scalar.remsi v141 v2091
  let c0_i32_1148 : BitVec 32 := 0#32
  let v2094 : BitVec 1 := Scalar.cmpi .slt v2092 c0_i32_1148
  let c0_i32_1149 : BitVec 32 := 0#32
  let v2095 : BitVec 1 := Scalar.cmpi .slt v2091 c0_i32_1149
  let v2096 : BitVec 1 := Scalar.xori v2094 v2095
  let c0_i32_1147 : BitVec 32 := 0#32
  let v2093 : BitVec 1 := Scalar.cmpi .ne v2092 c0_i32_1147
  let v2097 : BitVec 1 := Scalar.andi v2096 v2093
  let v2098 : BitVec 32 := Scalar.addi v2092 v2091
  let v2099 : BitVec 32 := Scalar.select v2097 v2098 v2092
  let v2100 : BitVec 32 := Scalar.addi v2089 v2099
  let v2102 : BitVec 32 := Scalar.addi v2101 v2100
  let c1_i32_1156 : BitVec 32 := 1#32
  let v2103 : BitVec 32 := Scalar.muli v2102 c1_i32_1156
  let v2104 : BitVec 32 := Scalar.addi c0_i32_1157 v2103
  v2104.toNat
def k0_dev29 (d0 : Dev nD) : Nat :=
  let c0_i32_1197 : BitVec 32 := 0#32
  let c8_i32_1190 : BitVec 32 := 8#32
  let c2_i32_1169 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1163 : BitVec 32 := 0#32
  let v2114 : BitVec 1 := Scalar.cmpi .sgt v75 c0_i32_1163
  let v2115 : BitVec 32 := Scalar.extui v2114
  let c0_i32_1164 : BitVec 32 := 0#32
  let v2116 : BitVec 1 := Scalar.cmpi .slt v75 c0_i32_1164
  let v2117 : BitVec 32 := Scalar.extui v2116
  let v2118 : BitVec 32 := Scalar.subi v2115 v2117
  let c2_i32_1162 : BitVec 32 := 2#32
  let c0_i32_1165 : BitVec 32 := 0#32
  let v2119 : BitVec 1 := Scalar.cmpi .sgt c2_i32_1162 c0_i32_1165
  let v2120 : BitVec 32 := Scalar.extui v2119
  let c0_i32_1166 : BitVec 32 := 0#32
  let v2121 : BitVec 1 := Scalar.cmpi .slt c2_i32_1162 c0_i32_1166
  let v2122 : BitVec 32 := Scalar.extui v2121
  let v2123 : BitVec 32 := Scalar.subi v2120 v2122
  let v2124 : BitVec 1 := Scalar.cmpi .ne v2118 v2123
  let v2125 : BitVec 32 := Scalar.remsi v75 c2_i32_1162
  let c0_i32_1167 : BitVec 32 := 0#32
  let v2126 : BitVec 1 := Scalar.cmpi .ne v2125 c0_i32_1167
  let v2127 : BitVec 1 := Scalar.andi v2124 v2126
  let v2113 : BitVec 32 := Scalar.divsi v75 c2_i32_1162
  let c1_i32_1168 : BitVec 32 := 1#32
  let v2128 : BitVec 32 := Scalar.subi v2113 c1_i32_1168
  let v2129 : BitVec 32 := Scalar.select v2127 v2128 v2113
  let v2130 : BitVec 32 := Scalar.muli c2_i32_1169 v2129
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_1171 : BitVec 32 := 0#32
  let v2132 : BitVec 1 := Scalar.cmpi .sgt v152 c0_i32_1171
  let v2133 : BitVec 32 := Scalar.extui v2132
  let c0_i32_1172 : BitVec 32 := 0#32
  let v2134 : BitVec 1 := Scalar.cmpi .slt v152 c0_i32_1172
  let v2135 : BitVec 32 := Scalar.extui v2134
  let v2136 : BitVec 32 := Scalar.subi v2133 v2135
  let c4_i32_1170 : BitVec 32 := 4#32
  let c0_i32_1173 : BitVec 32 := 0#32
  let v2137 : BitVec 1 := Scalar.cmpi .sgt c4_i32_1170 c0_i32_1173
  let v2138 : BitVec 32 := Scalar.extui v2137
  let c0_i32_1174 : BitVec 32 := 0#32
  let v2139 : BitVec 1 := Scalar.cmpi .slt c4_i32_1170 c0_i32_1174
  let v2140 : BitVec 32 := Scalar.extui v2139
  let v2141 : BitVec 32 := Scalar.subi v2138 v2140
  let v2142 : BitVec 1 := Scalar.cmpi .ne v2136 v2141
  let v2143 : BitVec 32 := Scalar.remsi v152 c4_i32_1170
  let c0_i32_1175 : BitVec 32 := 0#32
  let v2144 : BitVec 1 := Scalar.cmpi .ne v2143 c0_i32_1175
  let v2145 : BitVec 1 := Scalar.andi v2142 v2144
  let v2131 : BitVec 32 := Scalar.divsi v152 c4_i32_1170
  let c1_i32_1176 : BitVec 32 := 1#32
  let v2146 : BitVec 32 := Scalar.subi v2131 c1_i32_1176
  let v2147 : BitVec 32 := Scalar.select v2145 v2146 v2131
  let v2148 : BitVec 32 := Scalar.addi v2130 v2147
  let v2171 : BitVec 32 := Scalar.muli c8_i32_1190 v2148
  let c4_i32_1183 : BitVec 32 := 4#32
  let c2_i32_1177 : BitVec 32 := 2#32
  let c0_i32_1178 : BitVec 32 := 0#32
  let v2149 : BitVec 1 := Scalar.cmpi .eq c2_i32_1177 c0_i32_1178
  let c1_i32_1179 : BitVec 32 := 1#32
  let v2150 : BitVec 32 := Scalar.select v2149 c1_i32_1179 c2_i32_1177
  let v2151 : BitVec 32 := Scalar.remsi v75 v2150
  let c0_i32_1181 : BitVec 32 := 0#32
  let v2153 : BitVec 1 := Scalar.cmpi .slt v2151 c0_i32_1181
  let c0_i32_1182 : BitVec 32 := 0#32
  let v2154 : BitVec 1 := Scalar.cmpi .slt v2150 c0_i32_1182
  let v2155 : BitVec 1 := Scalar.xori v2153 v2154
  let c0_i32_1180 : BitVec 32 := 0#32
  let v2152 : BitVec 1 := Scalar.cmpi .ne v2151 c0_i32_1180
  let v2156 : BitVec 1 := Scalar.andi v2155 v2152
  let v2157 : BitVec 32 := Scalar.addi v2151 v2150
  let v2158 : BitVec 32 := Scalar.select v2156 v2157 v2151
  let v2159 : BitVec 32 := Scalar.muli c4_i32_1183 v2158
  let c4_i32_1184 : BitVec 32 := 4#32
  let c0_i32_1185 : BitVec 32 := 0#32
  let v2160 : BitVec 1 := Scalar.cmpi .eq c4_i32_1184 c0_i32_1185
  let c1_i32_1186 : BitVec 32 := 1#32
  let v2161 : BitVec 32 := Scalar.select v2160 c1_i32_1186 c4_i32_1184
  let v2162 : BitVec 32 := Scalar.remsi v152 v2161
  let c0_i32_1188 : BitVec 32 := 0#32
  let v2164 : BitVec 1 := Scalar.cmpi .slt v2162 c0_i32_1188
  let c0_i32_1189 : BitVec 32 := 0#32
  let v2165 : BitVec 1 := Scalar.cmpi .slt v2161 c0_i32_1189
  let v2166 : BitVec 1 := Scalar.xori v2164 v2165
  let c0_i32_1187 : BitVec 32 := 0#32
  let v2163 : BitVec 1 := Scalar.cmpi .ne v2162 c0_i32_1187
  let v2167 : BitVec 1 := Scalar.andi v2166 v2163
  let v2168 : BitVec 32 := Scalar.addi v2162 v2161
  let v2169 : BitVec 32 := Scalar.select v2167 v2168 v2162
  let v2170 : BitVec 32 := Scalar.addi v2159 v2169
  let v2172 : BitVec 32 := Scalar.addi v2171 v2170
  let c1_i32_1196 : BitVec 32 := 1#32
  let v2173 : BitVec 32 := Scalar.muli v2172 c1_i32_1196
  let v2174 : BitVec 32 := Scalar.addi c0_i32_1197 v2173
  v2174.toNat
def k0_dev30 (d0 : Dev nD) : Nat :=
  let c0_i32_1237 : BitVec 32 := 0#32
  let c8_i32_1230 : BitVec 32 := 8#32
  let c2_i32_1209 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1203 : BitVec 32 := 0#32
  let v2184 : BitVec 1 := Scalar.cmpi .sgt v75 c0_i32_1203
  let v2185 : BitVec 32 := Scalar.extui v2184
  let c0_i32_1204 : BitVec 32 := 0#32
  let v2186 : BitVec 1 := Scalar.cmpi .slt v75 c0_i32_1204
  let v2187 : BitVec 32 := Scalar.extui v2186
  let v2188 : BitVec 32 := Scalar.subi v2185 v2187
  let c2_i32_1202 : BitVec 32 := 2#32
  let c0_i32_1205 : BitVec 32 := 0#32
  let v2189 : BitVec 1 := Scalar.cmpi .sgt c2_i32_1202 c0_i32_1205
  let v2190 : BitVec 32 := Scalar.extui v2189
  let c0_i32_1206 : BitVec 32 := 0#32
  let v2191 : BitVec 1 := Scalar.cmpi .slt c2_i32_1202 c0_i32_1206
  let v2192 : BitVec 32 := Scalar.extui v2191
  let v2193 : BitVec 32 := Scalar.subi v2190 v2192
  let v2194 : BitVec 1 := Scalar.cmpi .ne v2188 v2193
  let v2195 : BitVec 32 := Scalar.remsi v75 c2_i32_1202
  let c0_i32_1207 : BitVec 32 := 0#32
  let v2196 : BitVec 1 := Scalar.cmpi .ne v2195 c0_i32_1207
  let v2197 : BitVec 1 := Scalar.andi v2194 v2196
  let v2183 : BitVec 32 := Scalar.divsi v75 c2_i32_1202
  let c1_i32_1208 : BitVec 32 := 1#32
  let v2198 : BitVec 32 := Scalar.subi v2183 c1_i32_1208
  let v2199 : BitVec 32 := Scalar.select v2197 v2198 v2183
  let v2200 : BitVec 32 := Scalar.muli c2_i32_1209 v2199
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_1211 : BitVec 32 := 0#32
  let v2202 : BitVec 1 := Scalar.cmpi .sgt v163 c0_i32_1211
  let v2203 : BitVec 32 := Scalar.extui v2202
  let c0_i32_1212 : BitVec 32 := 0#32
  let v2204 : BitVec 1 := Scalar.cmpi .slt v163 c0_i32_1212
  let v2205 : BitVec 32 := Scalar.extui v2204
  let v2206 : BitVec 32 := Scalar.subi v2203 v2205
  let c4_i32_1210 : BitVec 32 := 4#32
  let c0_i32_1213 : BitVec 32 := 0#32
  let v2207 : BitVec 1 := Scalar.cmpi .sgt c4_i32_1210 c0_i32_1213
  let v2208 : BitVec 32 := Scalar.extui v2207
  let c0_i32_1214 : BitVec 32 := 0#32
  let v2209 : BitVec 1 := Scalar.cmpi .slt c4_i32_1210 c0_i32_1214
  let v2210 : BitVec 32 := Scalar.extui v2209
  let v2211 : BitVec 32 := Scalar.subi v2208 v2210
  let v2212 : BitVec 1 := Scalar.cmpi .ne v2206 v2211
  let v2213 : BitVec 32 := Scalar.remsi v163 c4_i32_1210
  let c0_i32_1215 : BitVec 32 := 0#32
  let v2214 : BitVec 1 := Scalar.cmpi .ne v2213 c0_i32_1215
  let v2215 : BitVec 1 := Scalar.andi v2212 v2214
  let v2201 : BitVec 32 := Scalar.divsi v163 c4_i32_1210
  let c1_i32_1216 : BitVec 32 := 1#32
  let v2216 : BitVec 32 := Scalar.subi v2201 c1_i32_1216
  let v2217 : BitVec 32 := Scalar.select v2215 v2216 v2201
  let v2218 : BitVec 32 := Scalar.addi v2200 v2217
  let v2241 : BitVec 32 := Scalar.muli c8_i32_1230 v2218
  let c4_i32_1223 : BitVec 32 := 4#32
  let c2_i32_1217 : BitVec 32 := 2#32
  let c0_i32_1218 : BitVec 32 := 0#32
  let v2219 : BitVec 1 := Scalar.cmpi .eq c2_i32_1217 c0_i32_1218
  let c1_i32_1219 : BitVec 32 := 1#32
  let v2220 : BitVec 32 := Scalar.select v2219 c1_i32_1219 c2_i32_1217
  let v2221 : BitVec 32 := Scalar.remsi v75 v2220
  let c0_i32_1221 : BitVec 32 := 0#32
  let v2223 : BitVec 1 := Scalar.cmpi .slt v2221 c0_i32_1221
  let c0_i32_1222 : BitVec 32 := 0#32
  let v2224 : BitVec 1 := Scalar.cmpi .slt v2220 c0_i32_1222
  let v2225 : BitVec 1 := Scalar.xori v2223 v2224
  let c0_i32_1220 : BitVec 32 := 0#32
  let v2222 : BitVec 1 := Scalar.cmpi .ne v2221 c0_i32_1220
  let v2226 : BitVec 1 := Scalar.andi v2225 v2222
  let v2227 : BitVec 32 := Scalar.addi v2221 v2220
  let v2228 : BitVec 32 := Scalar.select v2226 v2227 v2221
  let v2229 : BitVec 32 := Scalar.muli c4_i32_1223 v2228
  let c4_i32_1224 : BitVec 32 := 4#32
  let c0_i32_1225 : BitVec 32 := 0#32
  let v2230 : BitVec 1 := Scalar.cmpi .eq c4_i32_1224 c0_i32_1225
  let c1_i32_1226 : BitVec 32 := 1#32
  let v2231 : BitVec 32 := Scalar.select v2230 c1_i32_1226 c4_i32_1224
  let v2232 : BitVec 32 := Scalar.remsi v163 v2231
  let c0_i32_1228 : BitVec 32 := 0#32
  let v2234 : BitVec 1 := Scalar.cmpi .slt v2232 c0_i32_1228
  let c0_i32_1229 : BitVec 32 := 0#32
  let v2235 : BitVec 1 := Scalar.cmpi .slt v2231 c0_i32_1229
  let v2236 : BitVec 1 := Scalar.xori v2234 v2235
  let c0_i32_1227 : BitVec 32 := 0#32
  let v2233 : BitVec 1 := Scalar.cmpi .ne v2232 c0_i32_1227
  let v2237 : BitVec 1 := Scalar.andi v2236 v2233
  let v2238 : BitVec 32 := Scalar.addi v2232 v2231
  let v2239 : BitVec 32 := Scalar.select v2237 v2238 v2232
  let v2240 : BitVec 32 := Scalar.addi v2229 v2239
  let v2242 : BitVec 32 := Scalar.addi v2241 v2240
  let c1_i32_1236 : BitVec 32 := 1#32
  let v2243 : BitVec 32 := Scalar.muli v2242 c1_i32_1236
  let v2244 : BitVec 32 := Scalar.addi c0_i32_1237 v2243
  v2244.toNat
def k0_dev31 (d0 : Dev nD) : Nat :=
  let c0_i32_1277 : BitVec 32 := 0#32
  let c8_i32_1270 : BitVec 32 := 8#32
  let c2_i32_1249 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1243 : BitVec 32 := 0#32
  let v2254 : BitVec 1 := Scalar.cmpi .sgt v75 c0_i32_1243
  let v2255 : BitVec 32 := Scalar.extui v2254
  let c0_i32_1244 : BitVec 32 := 0#32
  let v2256 : BitVec 1 := Scalar.cmpi .slt v75 c0_i32_1244
  let v2257 : BitVec 32 := Scalar.extui v2256
  let v2258 : BitVec 32 := Scalar.subi v2255 v2257
  let c2_i32_1242 : BitVec 32 := 2#32
  let c0_i32_1245 : BitVec 32 := 0#32
  let v2259 : BitVec 1 := Scalar.cmpi .sgt c2_i32_1242 c0_i32_1245
  let v2260 : BitVec 32 := Scalar.extui v2259
  let c0_i32_1246 : BitVec 32 := 0#32
  let v2261 : BitVec 1 := Scalar.cmpi .slt c2_i32_1242 c0_i32_1246
  let v2262 : BitVec 32 := Scalar.extui v2261
  let v2263 : BitVec 32 := Scalar.subi v2260 v2262
  let v2264 : BitVec 1 := Scalar.cmpi .ne v2258 v2263
  let v2265 : BitVec 32 := Scalar.remsi v75 c2_i32_1242
  let c0_i32_1247 : BitVec 32 := 0#32
  let v2266 : BitVec 1 := Scalar.cmpi .ne v2265 c0_i32_1247
  let v2267 : BitVec 1 := Scalar.andi v2264 v2266
  let v2253 : BitVec 32 := Scalar.divsi v75 c2_i32_1242
  let c1_i32_1248 : BitVec 32 := 1#32
  let v2268 : BitVec 32 := Scalar.subi v2253 c1_i32_1248
  let v2269 : BitVec 32 := Scalar.select v2267 v2268 v2253
  let v2270 : BitVec 32 := Scalar.muli c2_i32_1249 v2269
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_1251 : BitVec 32 := 0#32
  let v2272 : BitVec 1 := Scalar.cmpi .sgt v174 c0_i32_1251
  let v2273 : BitVec 32 := Scalar.extui v2272
  let c0_i32_1252 : BitVec 32 := 0#32
  let v2274 : BitVec 1 := Scalar.cmpi .slt v174 c0_i32_1252
  let v2275 : BitVec 32 := Scalar.extui v2274
  let v2276 : BitVec 32 := Scalar.subi v2273 v2275
  let c4_i32_1250 : BitVec 32 := 4#32
  let c0_i32_1253 : BitVec 32 := 0#32
  let v2277 : BitVec 1 := Scalar.cmpi .sgt c4_i32_1250 c0_i32_1253
  let v2278 : BitVec 32 := Scalar.extui v2277
  let c0_i32_1254 : BitVec 32 := 0#32
  let v2279 : BitVec 1 := Scalar.cmpi .slt c4_i32_1250 c0_i32_1254
  let v2280 : BitVec 32 := Scalar.extui v2279
  let v2281 : BitVec 32 := Scalar.subi v2278 v2280
  let v2282 : BitVec 1 := Scalar.cmpi .ne v2276 v2281
  let v2283 : BitVec 32 := Scalar.remsi v174 c4_i32_1250
  let c0_i32_1255 : BitVec 32 := 0#32
  let v2284 : BitVec 1 := Scalar.cmpi .ne v2283 c0_i32_1255
  let v2285 : BitVec 1 := Scalar.andi v2282 v2284
  let v2271 : BitVec 32 := Scalar.divsi v174 c4_i32_1250
  let c1_i32_1256 : BitVec 32 := 1#32
  let v2286 : BitVec 32 := Scalar.subi v2271 c1_i32_1256
  let v2287 : BitVec 32 := Scalar.select v2285 v2286 v2271
  let v2288 : BitVec 32 := Scalar.addi v2270 v2287
  let v2311 : BitVec 32 := Scalar.muli c8_i32_1270 v2288
  let c4_i32_1263 : BitVec 32 := 4#32
  let c2_i32_1257 : BitVec 32 := 2#32
  let c0_i32_1258 : BitVec 32 := 0#32
  let v2289 : BitVec 1 := Scalar.cmpi .eq c2_i32_1257 c0_i32_1258
  let c1_i32_1259 : BitVec 32 := 1#32
  let v2290 : BitVec 32 := Scalar.select v2289 c1_i32_1259 c2_i32_1257
  let v2291 : BitVec 32 := Scalar.remsi v75 v2290
  let c0_i32_1261 : BitVec 32 := 0#32
  let v2293 : BitVec 1 := Scalar.cmpi .slt v2291 c0_i32_1261
  let c0_i32_1262 : BitVec 32 := 0#32
  let v2294 : BitVec 1 := Scalar.cmpi .slt v2290 c0_i32_1262
  let v2295 : BitVec 1 := Scalar.xori v2293 v2294
  let c0_i32_1260 : BitVec 32 := 0#32
  let v2292 : BitVec 1 := Scalar.cmpi .ne v2291 c0_i32_1260
  let v2296 : BitVec 1 := Scalar.andi v2295 v2292
  let v2297 : BitVec 32 := Scalar.addi v2291 v2290
  let v2298 : BitVec 32 := Scalar.select v2296 v2297 v2291
  let v2299 : BitVec 32 := Scalar.muli c4_i32_1263 v2298
  let c4_i32_1264 : BitVec 32 := 4#32
  let c0_i32_1265 : BitVec 32 := 0#32
  let v2300 : BitVec 1 := Scalar.cmpi .eq c4_i32_1264 c0_i32_1265
  let c1_i32_1266 : BitVec 32 := 1#32
  let v2301 : BitVec 32 := Scalar.select v2300 c1_i32_1266 c4_i32_1264
  let v2302 : BitVec 32 := Scalar.remsi v174 v2301
  let c0_i32_1268 : BitVec 32 := 0#32
  let v2304 : BitVec 1 := Scalar.cmpi .slt v2302 c0_i32_1268
  let c0_i32_1269 : BitVec 32 := 0#32
  let v2305 : BitVec 1 := Scalar.cmpi .slt v2301 c0_i32_1269
  let v2306 : BitVec 1 := Scalar.xori v2304 v2305
  let c0_i32_1267 : BitVec 32 := 0#32
  let v2303 : BitVec 1 := Scalar.cmpi .ne v2302 c0_i32_1267
  let v2307 : BitVec 1 := Scalar.andi v2306 v2303
  let v2308 : BitVec 32 := Scalar.addi v2302 v2301
  let v2309 : BitVec 32 := Scalar.select v2307 v2308 v2302
  let v2310 : BitVec 32 := Scalar.addi v2299 v2309
  let v2312 : BitVec 32 := Scalar.addi v2311 v2310
  let c1_i32_1276 : BitVec 32 := 1#32
  let v2313 : BitVec 32 := Scalar.muli v2312 c1_i32_1276
  let v2314 : BitVec 32 := Scalar.addi c0_i32_1277 v2313
  v2314.toNat
def k0_off4 (d0 : Dev nD) (c1_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c128_i32_1284 : BitVec 32 := 128#32
  let v2327 : BitVec 32 := Scalar.muli v108 c128_i32_1284
  let c768_i32_1322 : BitVec 32 := 768#32
  ![v2327.toNat, 768]
def k0_dev32 (d0 : Dev nD) : Nat :=
  let c0_i32_1320 : BitVec 32 := 0#32
  let c8_i32_1313 : BitVec 32 := 8#32
  let c2_i32_1292 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1286 : BitVec 32 := 0#32
  let v2329 : BitVec 1 := Scalar.cmpi .sgt v75 c0_i32_1286
  let v2330 : BitVec 32 := Scalar.extui v2329
  let c0_i32_1287 : BitVec 32 := 0#32
  let v2331 : BitVec 1 := Scalar.cmpi .slt v75 c0_i32_1287
  let v2332 : BitVec 32 := Scalar.extui v2331
  let v2333 : BitVec 32 := Scalar.subi v2330 v2332
  let c2_i32_1285 : BitVec 32 := 2#32
  let c0_i32_1288 : BitVec 32 := 0#32
  let v2334 : BitVec 1 := Scalar.cmpi .sgt c2_i32_1285 c0_i32_1288
  let v2335 : BitVec 32 := Scalar.extui v2334
  let c0_i32_1289 : BitVec 32 := 0#32
  let v2336 : BitVec 1 := Scalar.cmpi .slt c2_i32_1285 c0_i32_1289
  let v2337 : BitVec 32 := Scalar.extui v2336
  let v2338 : BitVec 32 := Scalar.subi v2335 v2337
  let v2339 : BitVec 1 := Scalar.cmpi .ne v2333 v2338
  let v2340 : BitVec 32 := Scalar.remsi v75 c2_i32_1285
  let c0_i32_1290 : BitVec 32 := 0#32
  let v2341 : BitVec 1 := Scalar.cmpi .ne v2340 c0_i32_1290
  let v2342 : BitVec 1 := Scalar.andi v2339 v2341
  let v2328 : BitVec 32 := Scalar.divsi v75 c2_i32_1285
  let c1_i32_1291 : BitVec 32 := 1#32
  let v2343 : BitVec 32 := Scalar.subi v2328 c1_i32_1291
  let v2344 : BitVec 32 := Scalar.select v2342 v2343 v2328
  let v2345 : BitVec 32 := Scalar.muli c2_i32_1292 v2344
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_1294 : BitVec 32 := 0#32
  let v2347 : BitVec 1 := Scalar.cmpi .sgt v108 c0_i32_1294
  let v2348 : BitVec 32 := Scalar.extui v2347
  let c0_i32_1295 : BitVec 32 := 0#32
  let v2349 : BitVec 1 := Scalar.cmpi .slt v108 c0_i32_1295
  let v2350 : BitVec 32 := Scalar.extui v2349
  let v2351 : BitVec 32 := Scalar.subi v2348 v2350
  let c4_i32_1293 : BitVec 32 := 4#32
  let c0_i32_1296 : BitVec 32 := 0#32
  let v2352 : BitVec 1 := Scalar.cmpi .sgt c4_i32_1293 c0_i32_1296
  let v2353 : BitVec 32 := Scalar.extui v2352
  let c0_i32_1297 : BitVec 32 := 0#32
  let v2354 : BitVec 1 := Scalar.cmpi .slt c4_i32_1293 c0_i32_1297
  let v2355 : BitVec 32 := Scalar.extui v2354
  let v2356 : BitVec 32 := Scalar.subi v2353 v2355
  let v2357 : BitVec 1 := Scalar.cmpi .ne v2351 v2356
  let v2358 : BitVec 32 := Scalar.remsi v108 c4_i32_1293
  let c0_i32_1298 : BitVec 32 := 0#32
  let v2359 : BitVec 1 := Scalar.cmpi .ne v2358 c0_i32_1298
  let v2360 : BitVec 1 := Scalar.andi v2357 v2359
  let v2346 : BitVec 32 := Scalar.divsi v108 c4_i32_1293
  let c1_i32_1299 : BitVec 32 := 1#32
  let v2361 : BitVec 32 := Scalar.subi v2346 c1_i32_1299
  let v2362 : BitVec 32 := Scalar.select v2360 v2361 v2346
  let v2363 : BitVec 32 := Scalar.addi v2345 v2362
  let v2386 : BitVec 32 := Scalar.muli c8_i32_1313 v2363
  let c4_i32_1306 : BitVec 32 := 4#32
  let c2_i32_1300 : BitVec 32 := 2#32
  let c0_i32_1301 : BitVec 32 := 0#32
  let v2364 : BitVec 1 := Scalar.cmpi .eq c2_i32_1300 c0_i32_1301
  let c1_i32_1302 : BitVec 32 := 1#32
  let v2365 : BitVec 32 := Scalar.select v2364 c1_i32_1302 c2_i32_1300
  let v2366 : BitVec 32 := Scalar.remsi v75 v2365
  let c0_i32_1304 : BitVec 32 := 0#32
  let v2368 : BitVec 1 := Scalar.cmpi .slt v2366 c0_i32_1304
  let c0_i32_1305 : BitVec 32 := 0#32
  let v2369 : BitVec 1 := Scalar.cmpi .slt v2365 c0_i32_1305
  let v2370 : BitVec 1 := Scalar.xori v2368 v2369
  let c0_i32_1303 : BitVec 32 := 0#32
  let v2367 : BitVec 1 := Scalar.cmpi .ne v2366 c0_i32_1303
  let v2371 : BitVec 1 := Scalar.andi v2370 v2367
  let v2372 : BitVec 32 := Scalar.addi v2366 v2365
  let v2373 : BitVec 32 := Scalar.select v2371 v2372 v2366
  let v2374 : BitVec 32 := Scalar.muli c4_i32_1306 v2373
  let c4_i32_1307 : BitVec 32 := 4#32
  let c0_i32_1308 : BitVec 32 := 0#32
  let v2375 : BitVec 1 := Scalar.cmpi .eq c4_i32_1307 c0_i32_1308
  let c1_i32_1309 : BitVec 32 := 1#32
  let v2376 : BitVec 32 := Scalar.select v2375 c1_i32_1309 c4_i32_1307
  let v2377 : BitVec 32 := Scalar.remsi v108 v2376
  let c0_i32_1311 : BitVec 32 := 0#32
  let v2379 : BitVec 1 := Scalar.cmpi .slt v2377 c0_i32_1311
  let c0_i32_1312 : BitVec 32 := 0#32
  let v2380 : BitVec 1 := Scalar.cmpi .slt v2376 c0_i32_1312
  let v2381 : BitVec 1 := Scalar.xori v2379 v2380
  let c0_i32_1310 : BitVec 32 := 0#32
  let v2378 : BitVec 1 := Scalar.cmpi .ne v2377 c0_i32_1310
  let v2382 : BitVec 1 := Scalar.andi v2381 v2378
  let v2383 : BitVec 32 := Scalar.addi v2377 v2376
  let v2384 : BitVec 32 := Scalar.select v2382 v2383 v2377
  let v2385 : BitVec 32 := Scalar.addi v2374 v2384
  let v2387 : BitVec 32 := Scalar.addi v2386 v2385
  let c1_i32_1319 : BitVec 32 := 1#32
  let v2388 : BitVec 32 := Scalar.muli v2387 c1_i32_1319
  let v2389 : BitVec 32 := Scalar.addi c0_i32_1320 v2388
  v2389.toNat
def k0_dev33 (d0 : Dev nD) : Nat :=
  let c0_i32_1359 : BitVec 32 := 0#32
  let c8_i32_1352 : BitVec 32 := 8#32
  let c2_i32_1331 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1325 : BitVec 32 := 0#32
  let v2399 : BitVec 1 := Scalar.cmpi .sgt v75 c0_i32_1325
  let v2400 : BitVec 32 := Scalar.extui v2399
  let c0_i32_1326 : BitVec 32 := 0#32
  let v2401 : BitVec 1 := Scalar.cmpi .slt v75 c0_i32_1326
  let v2402 : BitVec 32 := Scalar.extui v2401
  let v2403 : BitVec 32 := Scalar.subi v2400 v2402
  let c2_i32_1324 : BitVec 32 := 2#32
  let c0_i32_1327 : BitVec 32 := 0#32
  let v2404 : BitVec 1 := Scalar.cmpi .sgt c2_i32_1324 c0_i32_1327
  let v2405 : BitVec 32 := Scalar.extui v2404
  let c0_i32_1328 : BitVec 32 := 0#32
  let v2406 : BitVec 1 := Scalar.cmpi .slt c2_i32_1324 c0_i32_1328
  let v2407 : BitVec 32 := Scalar.extui v2406
  let v2408 : BitVec 32 := Scalar.subi v2405 v2407
  let v2409 : BitVec 1 := Scalar.cmpi .ne v2403 v2408
  let v2410 : BitVec 32 := Scalar.remsi v75 c2_i32_1324
  let c0_i32_1329 : BitVec 32 := 0#32
  let v2411 : BitVec 1 := Scalar.cmpi .ne v2410 c0_i32_1329
  let v2412 : BitVec 1 := Scalar.andi v2409 v2411
  let v2398 : BitVec 32 := Scalar.divsi v75 c2_i32_1324
  let c1_i32_1330 : BitVec 32 := 1#32
  let v2413 : BitVec 32 := Scalar.subi v2398 c1_i32_1330
  let v2414 : BitVec 32 := Scalar.select v2412 v2413 v2398
  let v2415 : BitVec 32 := Scalar.muli c2_i32_1331 v2414
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_1333 : BitVec 32 := 0#32
  let v2417 : BitVec 1 := Scalar.cmpi .sgt v119 c0_i32_1333
  let v2418 : BitVec 32 := Scalar.extui v2417
  let c0_i32_1334 : BitVec 32 := 0#32
  let v2419 : BitVec 1 := Scalar.cmpi .slt v119 c0_i32_1334
  let v2420 : BitVec 32 := Scalar.extui v2419
  let v2421 : BitVec 32 := Scalar.subi v2418 v2420
  let c4_i32_1332 : BitVec 32 := 4#32
  let c0_i32_1335 : BitVec 32 := 0#32
  let v2422 : BitVec 1 := Scalar.cmpi .sgt c4_i32_1332 c0_i32_1335
  let v2423 : BitVec 32 := Scalar.extui v2422
  let c0_i32_1336 : BitVec 32 := 0#32
  let v2424 : BitVec 1 := Scalar.cmpi .slt c4_i32_1332 c0_i32_1336
  let v2425 : BitVec 32 := Scalar.extui v2424
  let v2426 : BitVec 32 := Scalar.subi v2423 v2425
  let v2427 : BitVec 1 := Scalar.cmpi .ne v2421 v2426
  let v2428 : BitVec 32 := Scalar.remsi v119 c4_i32_1332
  let c0_i32_1337 : BitVec 32 := 0#32
  let v2429 : BitVec 1 := Scalar.cmpi .ne v2428 c0_i32_1337
  let v2430 : BitVec 1 := Scalar.andi v2427 v2429
  let v2416 : BitVec 32 := Scalar.divsi v119 c4_i32_1332
  let c1_i32_1338 : BitVec 32 := 1#32
  let v2431 : BitVec 32 := Scalar.subi v2416 c1_i32_1338
  let v2432 : BitVec 32 := Scalar.select v2430 v2431 v2416
  let v2433 : BitVec 32 := Scalar.addi v2415 v2432
  let v2456 : BitVec 32 := Scalar.muli c8_i32_1352 v2433
  let c4_i32_1345 : BitVec 32 := 4#32
  let c2_i32_1339 : BitVec 32 := 2#32
  let c0_i32_1340 : BitVec 32 := 0#32
  let v2434 : BitVec 1 := Scalar.cmpi .eq c2_i32_1339 c0_i32_1340
  let c1_i32_1341 : BitVec 32 := 1#32
  let v2435 : BitVec 32 := Scalar.select v2434 c1_i32_1341 c2_i32_1339
  let v2436 : BitVec 32 := Scalar.remsi v75 v2435
  let c0_i32_1343 : BitVec 32 := 0#32
  let v2438 : BitVec 1 := Scalar.cmpi .slt v2436 c0_i32_1343
  let c0_i32_1344 : BitVec 32 := 0#32
  let v2439 : BitVec 1 := Scalar.cmpi .slt v2435 c0_i32_1344
  let v2440 : BitVec 1 := Scalar.xori v2438 v2439
  let c0_i32_1342 : BitVec 32 := 0#32
  let v2437 : BitVec 1 := Scalar.cmpi .ne v2436 c0_i32_1342
  let v2441 : BitVec 1 := Scalar.andi v2440 v2437
  let v2442 : BitVec 32 := Scalar.addi v2436 v2435
  let v2443 : BitVec 32 := Scalar.select v2441 v2442 v2436
  let v2444 : BitVec 32 := Scalar.muli c4_i32_1345 v2443
  let c4_i32_1346 : BitVec 32 := 4#32
  let c0_i32_1347 : BitVec 32 := 0#32
  let v2445 : BitVec 1 := Scalar.cmpi .eq c4_i32_1346 c0_i32_1347
  let c1_i32_1348 : BitVec 32 := 1#32
  let v2446 : BitVec 32 := Scalar.select v2445 c1_i32_1348 c4_i32_1346
  let v2447 : BitVec 32 := Scalar.remsi v119 v2446
  let c0_i32_1350 : BitVec 32 := 0#32
  let v2449 : BitVec 1 := Scalar.cmpi .slt v2447 c0_i32_1350
  let c0_i32_1351 : BitVec 32 := 0#32
  let v2450 : BitVec 1 := Scalar.cmpi .slt v2446 c0_i32_1351
  let v2451 : BitVec 1 := Scalar.xori v2449 v2450
  let c0_i32_1349 : BitVec 32 := 0#32
  let v2448 : BitVec 1 := Scalar.cmpi .ne v2447 c0_i32_1349
  let v2452 : BitVec 1 := Scalar.andi v2451 v2448
  let v2453 : BitVec 32 := Scalar.addi v2447 v2446
  let v2454 : BitVec 32 := Scalar.select v2452 v2453 v2447
  let v2455 : BitVec 32 := Scalar.addi v2444 v2454
  let v2457 : BitVec 32 := Scalar.addi v2456 v2455
  let c1_i32_1358 : BitVec 32 := 1#32
  let v2458 : BitVec 32 := Scalar.muli v2457 c1_i32_1358
  let v2459 : BitVec 32 := Scalar.addi c0_i32_1359 v2458
  v2459.toNat
def k0_dev34 (d0 : Dev nD) : Nat :=
  let c0_i32_1399 : BitVec 32 := 0#32
  let c8_i32_1392 : BitVec 32 := 8#32
  let c2_i32_1371 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1365 : BitVec 32 := 0#32
  let v2469 : BitVec 1 := Scalar.cmpi .sgt v75 c0_i32_1365
  let v2470 : BitVec 32 := Scalar.extui v2469
  let c0_i32_1366 : BitVec 32 := 0#32
  let v2471 : BitVec 1 := Scalar.cmpi .slt v75 c0_i32_1366
  let v2472 : BitVec 32 := Scalar.extui v2471
  let v2473 : BitVec 32 := Scalar.subi v2470 v2472
  let c2_i32_1364 : BitVec 32 := 2#32
  let c0_i32_1367 : BitVec 32 := 0#32
  let v2474 : BitVec 1 := Scalar.cmpi .sgt c2_i32_1364 c0_i32_1367
  let v2475 : BitVec 32 := Scalar.extui v2474
  let c0_i32_1368 : BitVec 32 := 0#32
  let v2476 : BitVec 1 := Scalar.cmpi .slt c2_i32_1364 c0_i32_1368
  let v2477 : BitVec 32 := Scalar.extui v2476
  let v2478 : BitVec 32 := Scalar.subi v2475 v2477
  let v2479 : BitVec 1 := Scalar.cmpi .ne v2473 v2478
  let v2480 : BitVec 32 := Scalar.remsi v75 c2_i32_1364
  let c0_i32_1369 : BitVec 32 := 0#32
  let v2481 : BitVec 1 := Scalar.cmpi .ne v2480 c0_i32_1369
  let v2482 : BitVec 1 := Scalar.andi v2479 v2481
  let v2468 : BitVec 32 := Scalar.divsi v75 c2_i32_1364
  let c1_i32_1370 : BitVec 32 := 1#32
  let v2483 : BitVec 32 := Scalar.subi v2468 c1_i32_1370
  let v2484 : BitVec 32 := Scalar.select v2482 v2483 v2468
  let v2485 : BitVec 32 := Scalar.muli c2_i32_1371 v2484
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_1373 : BitVec 32 := 0#32
  let v2487 : BitVec 1 := Scalar.cmpi .sgt v130 c0_i32_1373
  let v2488 : BitVec 32 := Scalar.extui v2487
  let c0_i32_1374 : BitVec 32 := 0#32
  let v2489 : BitVec 1 := Scalar.cmpi .slt v130 c0_i32_1374
  let v2490 : BitVec 32 := Scalar.extui v2489
  let v2491 : BitVec 32 := Scalar.subi v2488 v2490
  let c4_i32_1372 : BitVec 32 := 4#32
  let c0_i32_1375 : BitVec 32 := 0#32
  let v2492 : BitVec 1 := Scalar.cmpi .sgt c4_i32_1372 c0_i32_1375
  let v2493 : BitVec 32 := Scalar.extui v2492
  let c0_i32_1376 : BitVec 32 := 0#32
  let v2494 : BitVec 1 := Scalar.cmpi .slt c4_i32_1372 c0_i32_1376
  let v2495 : BitVec 32 := Scalar.extui v2494
  let v2496 : BitVec 32 := Scalar.subi v2493 v2495
  let v2497 : BitVec 1 := Scalar.cmpi .ne v2491 v2496
  let v2498 : BitVec 32 := Scalar.remsi v130 c4_i32_1372
  let c0_i32_1377 : BitVec 32 := 0#32
  let v2499 : BitVec 1 := Scalar.cmpi .ne v2498 c0_i32_1377
  let v2500 : BitVec 1 := Scalar.andi v2497 v2499
  let v2486 : BitVec 32 := Scalar.divsi v130 c4_i32_1372
  let c1_i32_1378 : BitVec 32 := 1#32
  let v2501 : BitVec 32 := Scalar.subi v2486 c1_i32_1378
  let v2502 : BitVec 32 := Scalar.select v2500 v2501 v2486
  let v2503 : BitVec 32 := Scalar.addi v2485 v2502
  let v2526 : BitVec 32 := Scalar.muli c8_i32_1392 v2503
  let c4_i32_1385 : BitVec 32 := 4#32
  let c2_i32_1379 : BitVec 32 := 2#32
  let c0_i32_1380 : BitVec 32 := 0#32
  let v2504 : BitVec 1 := Scalar.cmpi .eq c2_i32_1379 c0_i32_1380
  let c1_i32_1381 : BitVec 32 := 1#32
  let v2505 : BitVec 32 := Scalar.select v2504 c1_i32_1381 c2_i32_1379
  let v2506 : BitVec 32 := Scalar.remsi v75 v2505
  let c0_i32_1383 : BitVec 32 := 0#32
  let v2508 : BitVec 1 := Scalar.cmpi .slt v2506 c0_i32_1383
  let c0_i32_1384 : BitVec 32 := 0#32
  let v2509 : BitVec 1 := Scalar.cmpi .slt v2505 c0_i32_1384
  let v2510 : BitVec 1 := Scalar.xori v2508 v2509
  let c0_i32_1382 : BitVec 32 := 0#32
  let v2507 : BitVec 1 := Scalar.cmpi .ne v2506 c0_i32_1382
  let v2511 : BitVec 1 := Scalar.andi v2510 v2507
  let v2512 : BitVec 32 := Scalar.addi v2506 v2505
  let v2513 : BitVec 32 := Scalar.select v2511 v2512 v2506
  let v2514 : BitVec 32 := Scalar.muli c4_i32_1385 v2513
  let c4_i32_1386 : BitVec 32 := 4#32
  let c0_i32_1387 : BitVec 32 := 0#32
  let v2515 : BitVec 1 := Scalar.cmpi .eq c4_i32_1386 c0_i32_1387
  let c1_i32_1388 : BitVec 32 := 1#32
  let v2516 : BitVec 32 := Scalar.select v2515 c1_i32_1388 c4_i32_1386
  let v2517 : BitVec 32 := Scalar.remsi v130 v2516
  let c0_i32_1390 : BitVec 32 := 0#32
  let v2519 : BitVec 1 := Scalar.cmpi .slt v2517 c0_i32_1390
  let c0_i32_1391 : BitVec 32 := 0#32
  let v2520 : BitVec 1 := Scalar.cmpi .slt v2516 c0_i32_1391
  let v2521 : BitVec 1 := Scalar.xori v2519 v2520
  let c0_i32_1389 : BitVec 32 := 0#32
  let v2518 : BitVec 1 := Scalar.cmpi .ne v2517 c0_i32_1389
  let v2522 : BitVec 1 := Scalar.andi v2521 v2518
  let v2523 : BitVec 32 := Scalar.addi v2517 v2516
  let v2524 : BitVec 32 := Scalar.select v2522 v2523 v2517
  let v2525 : BitVec 32 := Scalar.addi v2514 v2524
  let v2527 : BitVec 32 := Scalar.addi v2526 v2525
  let c1_i32_1398 : BitVec 32 := 1#32
  let v2528 : BitVec 32 := Scalar.muli v2527 c1_i32_1398
  let v2529 : BitVec 32 := Scalar.addi c0_i32_1399 v2528
  v2529.toNat
def k0_dev35 (d0 : Dev nD) : Nat :=
  let c0_i32_1439 : BitVec 32 := 0#32
  let c8_i32_1432 : BitVec 32 := 8#32
  let c2_i32_1411 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1405 : BitVec 32 := 0#32
  let v2539 : BitVec 1 := Scalar.cmpi .sgt v75 c0_i32_1405
  let v2540 : BitVec 32 := Scalar.extui v2539
  let c0_i32_1406 : BitVec 32 := 0#32
  let v2541 : BitVec 1 := Scalar.cmpi .slt v75 c0_i32_1406
  let v2542 : BitVec 32 := Scalar.extui v2541
  let v2543 : BitVec 32 := Scalar.subi v2540 v2542
  let c2_i32_1404 : BitVec 32 := 2#32
  let c0_i32_1407 : BitVec 32 := 0#32
  let v2544 : BitVec 1 := Scalar.cmpi .sgt c2_i32_1404 c0_i32_1407
  let v2545 : BitVec 32 := Scalar.extui v2544
  let c0_i32_1408 : BitVec 32 := 0#32
  let v2546 : BitVec 1 := Scalar.cmpi .slt c2_i32_1404 c0_i32_1408
  let v2547 : BitVec 32 := Scalar.extui v2546
  let v2548 : BitVec 32 := Scalar.subi v2545 v2547
  let v2549 : BitVec 1 := Scalar.cmpi .ne v2543 v2548
  let v2550 : BitVec 32 := Scalar.remsi v75 c2_i32_1404
  let c0_i32_1409 : BitVec 32 := 0#32
  let v2551 : BitVec 1 := Scalar.cmpi .ne v2550 c0_i32_1409
  let v2552 : BitVec 1 := Scalar.andi v2549 v2551
  let v2538 : BitVec 32 := Scalar.divsi v75 c2_i32_1404
  let c1_i32_1410 : BitVec 32 := 1#32
  let v2553 : BitVec 32 := Scalar.subi v2538 c1_i32_1410
  let v2554 : BitVec 32 := Scalar.select v2552 v2553 v2538
  let v2555 : BitVec 32 := Scalar.muli c2_i32_1411 v2554
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_1413 : BitVec 32 := 0#32
  let v2557 : BitVec 1 := Scalar.cmpi .sgt v141 c0_i32_1413
  let v2558 : BitVec 32 := Scalar.extui v2557
  let c0_i32_1414 : BitVec 32 := 0#32
  let v2559 : BitVec 1 := Scalar.cmpi .slt v141 c0_i32_1414
  let v2560 : BitVec 32 := Scalar.extui v2559
  let v2561 : BitVec 32 := Scalar.subi v2558 v2560
  let c4_i32_1412 : BitVec 32 := 4#32
  let c0_i32_1415 : BitVec 32 := 0#32
  let v2562 : BitVec 1 := Scalar.cmpi .sgt c4_i32_1412 c0_i32_1415
  let v2563 : BitVec 32 := Scalar.extui v2562
  let c0_i32_1416 : BitVec 32 := 0#32
  let v2564 : BitVec 1 := Scalar.cmpi .slt c4_i32_1412 c0_i32_1416
  let v2565 : BitVec 32 := Scalar.extui v2564
  let v2566 : BitVec 32 := Scalar.subi v2563 v2565
  let v2567 : BitVec 1 := Scalar.cmpi .ne v2561 v2566
  let v2568 : BitVec 32 := Scalar.remsi v141 c4_i32_1412
  let c0_i32_1417 : BitVec 32 := 0#32
  let v2569 : BitVec 1 := Scalar.cmpi .ne v2568 c0_i32_1417
  let v2570 : BitVec 1 := Scalar.andi v2567 v2569
  let v2556 : BitVec 32 := Scalar.divsi v141 c4_i32_1412
  let c1_i32_1418 : BitVec 32 := 1#32
  let v2571 : BitVec 32 := Scalar.subi v2556 c1_i32_1418
  let v2572 : BitVec 32 := Scalar.select v2570 v2571 v2556
  let v2573 : BitVec 32 := Scalar.addi v2555 v2572
  let v2596 : BitVec 32 := Scalar.muli c8_i32_1432 v2573
  let c4_i32_1425 : BitVec 32 := 4#32
  let c2_i32_1419 : BitVec 32 := 2#32
  let c0_i32_1420 : BitVec 32 := 0#32
  let v2574 : BitVec 1 := Scalar.cmpi .eq c2_i32_1419 c0_i32_1420
  let c1_i32_1421 : BitVec 32 := 1#32
  let v2575 : BitVec 32 := Scalar.select v2574 c1_i32_1421 c2_i32_1419
  let v2576 : BitVec 32 := Scalar.remsi v75 v2575
  let c0_i32_1423 : BitVec 32 := 0#32
  let v2578 : BitVec 1 := Scalar.cmpi .slt v2576 c0_i32_1423
  let c0_i32_1424 : BitVec 32 := 0#32
  let v2579 : BitVec 1 := Scalar.cmpi .slt v2575 c0_i32_1424
  let v2580 : BitVec 1 := Scalar.xori v2578 v2579
  let c0_i32_1422 : BitVec 32 := 0#32
  let v2577 : BitVec 1 := Scalar.cmpi .ne v2576 c0_i32_1422
  let v2581 : BitVec 1 := Scalar.andi v2580 v2577
  let v2582 : BitVec 32 := Scalar.addi v2576 v2575
  let v2583 : BitVec 32 := Scalar.select v2581 v2582 v2576
  let v2584 : BitVec 32 := Scalar.muli c4_i32_1425 v2583
  let c4_i32_1426 : BitVec 32 := 4#32
  let c0_i32_1427 : BitVec 32 := 0#32
  let v2585 : BitVec 1 := Scalar.cmpi .eq c4_i32_1426 c0_i32_1427
  let c1_i32_1428 : BitVec 32 := 1#32
  let v2586 : BitVec 32 := Scalar.select v2585 c1_i32_1428 c4_i32_1426
  let v2587 : BitVec 32 := Scalar.remsi v141 v2586
  let c0_i32_1430 : BitVec 32 := 0#32
  let v2589 : BitVec 1 := Scalar.cmpi .slt v2587 c0_i32_1430
  let c0_i32_1431 : BitVec 32 := 0#32
  let v2590 : BitVec 1 := Scalar.cmpi .slt v2586 c0_i32_1431
  let v2591 : BitVec 1 := Scalar.xori v2589 v2590
  let c0_i32_1429 : BitVec 32 := 0#32
  let v2588 : BitVec 1 := Scalar.cmpi .ne v2587 c0_i32_1429
  let v2592 : BitVec 1 := Scalar.andi v2591 v2588
  let v2593 : BitVec 32 := Scalar.addi v2587 v2586
  let v2594 : BitVec 32 := Scalar.select v2592 v2593 v2587
  let v2595 : BitVec 32 := Scalar.addi v2584 v2594
  let v2597 : BitVec 32 := Scalar.addi v2596 v2595
  let c1_i32_1438 : BitVec 32 := 1#32
  let v2598 : BitVec 32 := Scalar.muli v2597 c1_i32_1438
  let v2599 : BitVec 32 := Scalar.addi c0_i32_1439 v2598
  v2599.toNat
def k0_dev36 (d0 : Dev nD) : Nat :=
  let c0_i32_1479 : BitVec 32 := 0#32
  let c8_i32_1472 : BitVec 32 := 8#32
  let c2_i32_1451 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1445 : BitVec 32 := 0#32
  let v2609 : BitVec 1 := Scalar.cmpi .sgt v75 c0_i32_1445
  let v2610 : BitVec 32 := Scalar.extui v2609
  let c0_i32_1446 : BitVec 32 := 0#32
  let v2611 : BitVec 1 := Scalar.cmpi .slt v75 c0_i32_1446
  let v2612 : BitVec 32 := Scalar.extui v2611
  let v2613 : BitVec 32 := Scalar.subi v2610 v2612
  let c2_i32_1444 : BitVec 32 := 2#32
  let c0_i32_1447 : BitVec 32 := 0#32
  let v2614 : BitVec 1 := Scalar.cmpi .sgt c2_i32_1444 c0_i32_1447
  let v2615 : BitVec 32 := Scalar.extui v2614
  let c0_i32_1448 : BitVec 32 := 0#32
  let v2616 : BitVec 1 := Scalar.cmpi .slt c2_i32_1444 c0_i32_1448
  let v2617 : BitVec 32 := Scalar.extui v2616
  let v2618 : BitVec 32 := Scalar.subi v2615 v2617
  let v2619 : BitVec 1 := Scalar.cmpi .ne v2613 v2618
  let v2620 : BitVec 32 := Scalar.remsi v75 c2_i32_1444
  let c0_i32_1449 : BitVec 32 := 0#32
  let v2621 : BitVec 1 := Scalar.cmpi .ne v2620 c0_i32_1449
  let v2622 : BitVec 1 := Scalar.andi v2619 v2621
  let v2608 : BitVec 32 := Scalar.divsi v75 c2_i32_1444
  let c1_i32_1450 : BitVec 32 := 1#32
  let v2623 : BitVec 32 := Scalar.subi v2608 c1_i32_1450
  let v2624 : BitVec 32 := Scalar.select v2622 v2623 v2608
  let v2625 : BitVec 32 := Scalar.muli c2_i32_1451 v2624
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_1453 : BitVec 32 := 0#32
  let v2627 : BitVec 1 := Scalar.cmpi .sgt v152 c0_i32_1453
  let v2628 : BitVec 32 := Scalar.extui v2627
  let c0_i32_1454 : BitVec 32 := 0#32
  let v2629 : BitVec 1 := Scalar.cmpi .slt v152 c0_i32_1454
  let v2630 : BitVec 32 := Scalar.extui v2629
  let v2631 : BitVec 32 := Scalar.subi v2628 v2630
  let c4_i32_1452 : BitVec 32 := 4#32
  let c0_i32_1455 : BitVec 32 := 0#32
  let v2632 : BitVec 1 := Scalar.cmpi .sgt c4_i32_1452 c0_i32_1455
  let v2633 : BitVec 32 := Scalar.extui v2632
  let c0_i32_1456 : BitVec 32 := 0#32
  let v2634 : BitVec 1 := Scalar.cmpi .slt c4_i32_1452 c0_i32_1456
  let v2635 : BitVec 32 := Scalar.extui v2634
  let v2636 : BitVec 32 := Scalar.subi v2633 v2635
  let v2637 : BitVec 1 := Scalar.cmpi .ne v2631 v2636
  let v2638 : BitVec 32 := Scalar.remsi v152 c4_i32_1452
  let c0_i32_1457 : BitVec 32 := 0#32
  let v2639 : BitVec 1 := Scalar.cmpi .ne v2638 c0_i32_1457
  let v2640 : BitVec 1 := Scalar.andi v2637 v2639
  let v2626 : BitVec 32 := Scalar.divsi v152 c4_i32_1452
  let c1_i32_1458 : BitVec 32 := 1#32
  let v2641 : BitVec 32 := Scalar.subi v2626 c1_i32_1458
  let v2642 : BitVec 32 := Scalar.select v2640 v2641 v2626
  let v2643 : BitVec 32 := Scalar.addi v2625 v2642
  let v2666 : BitVec 32 := Scalar.muli c8_i32_1472 v2643
  let c4_i32_1465 : BitVec 32 := 4#32
  let c2_i32_1459 : BitVec 32 := 2#32
  let c0_i32_1460 : BitVec 32 := 0#32
  let v2644 : BitVec 1 := Scalar.cmpi .eq c2_i32_1459 c0_i32_1460
  let c1_i32_1461 : BitVec 32 := 1#32
  let v2645 : BitVec 32 := Scalar.select v2644 c1_i32_1461 c2_i32_1459
  let v2646 : BitVec 32 := Scalar.remsi v75 v2645
  let c0_i32_1463 : BitVec 32 := 0#32
  let v2648 : BitVec 1 := Scalar.cmpi .slt v2646 c0_i32_1463
  let c0_i32_1464 : BitVec 32 := 0#32
  let v2649 : BitVec 1 := Scalar.cmpi .slt v2645 c0_i32_1464
  let v2650 : BitVec 1 := Scalar.xori v2648 v2649
  let c0_i32_1462 : BitVec 32 := 0#32
  let v2647 : BitVec 1 := Scalar.cmpi .ne v2646 c0_i32_1462
  let v2651 : BitVec 1 := Scalar.andi v2650 v2647
  let v2652 : BitVec 32 := Scalar.addi v2646 v2645
  let v2653 : BitVec 32 := Scalar.select v2651 v2652 v2646
  let v2654 : BitVec 32 := Scalar.muli c4_i32_1465 v2653
  let c4_i32_1466 : BitVec 32 := 4#32
  let c0_i32_1467 : BitVec 32 := 0#32
  let v2655 : BitVec 1 := Scalar.cmpi .eq c4_i32_1466 c0_i32_1467
  let c1_i32_1468 : BitVec 32 := 1#32
  let v2656 : BitVec 32 := Scalar.select v2655 c1_i32_1468 c4_i32_1466
  let v2657 : BitVec 32 := Scalar.remsi v152 v2656
  let c0_i32_1470 : BitVec 32 := 0#32
  let v2659 : BitVec 1 := Scalar.cmpi .slt v2657 c0_i32_1470
  let c0_i32_1471 : BitVec 32 := 0#32
  let v2660 : BitVec 1 := Scalar.cmpi .slt v2656 c0_i32_1471
  let v2661 : BitVec 1 := Scalar.xori v2659 v2660
  let c0_i32_1469 : BitVec 32 := 0#32
  let v2658 : BitVec 1 := Scalar.cmpi .ne v2657 c0_i32_1469
  let v2662 : BitVec 1 := Scalar.andi v2661 v2658
  let v2663 : BitVec 32 := Scalar.addi v2657 v2656
  let v2664 : BitVec 32 := Scalar.select v2662 v2663 v2657
  let v2665 : BitVec 32 := Scalar.addi v2654 v2664
  let v2667 : BitVec 32 := Scalar.addi v2666 v2665
  let c1_i32_1478 : BitVec 32 := 1#32
  let v2668 : BitVec 32 := Scalar.muli v2667 c1_i32_1478
  let v2669 : BitVec 32 := Scalar.addi c0_i32_1479 v2668
  v2669.toNat
def k0_dev37 (d0 : Dev nD) : Nat :=
  let c0_i32_1519 : BitVec 32 := 0#32
  let c8_i32_1512 : BitVec 32 := 8#32
  let c2_i32_1491 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1485 : BitVec 32 := 0#32
  let v2679 : BitVec 1 := Scalar.cmpi .sgt v75 c0_i32_1485
  let v2680 : BitVec 32 := Scalar.extui v2679
  let c0_i32_1486 : BitVec 32 := 0#32
  let v2681 : BitVec 1 := Scalar.cmpi .slt v75 c0_i32_1486
  let v2682 : BitVec 32 := Scalar.extui v2681
  let v2683 : BitVec 32 := Scalar.subi v2680 v2682
  let c2_i32_1484 : BitVec 32 := 2#32
  let c0_i32_1487 : BitVec 32 := 0#32
  let v2684 : BitVec 1 := Scalar.cmpi .sgt c2_i32_1484 c0_i32_1487
  let v2685 : BitVec 32 := Scalar.extui v2684
  let c0_i32_1488 : BitVec 32 := 0#32
  let v2686 : BitVec 1 := Scalar.cmpi .slt c2_i32_1484 c0_i32_1488
  let v2687 : BitVec 32 := Scalar.extui v2686
  let v2688 : BitVec 32 := Scalar.subi v2685 v2687
  let v2689 : BitVec 1 := Scalar.cmpi .ne v2683 v2688
  let v2690 : BitVec 32 := Scalar.remsi v75 c2_i32_1484
  let c0_i32_1489 : BitVec 32 := 0#32
  let v2691 : BitVec 1 := Scalar.cmpi .ne v2690 c0_i32_1489
  let v2692 : BitVec 1 := Scalar.andi v2689 v2691
  let v2678 : BitVec 32 := Scalar.divsi v75 c2_i32_1484
  let c1_i32_1490 : BitVec 32 := 1#32
  let v2693 : BitVec 32 := Scalar.subi v2678 c1_i32_1490
  let v2694 : BitVec 32 := Scalar.select v2692 v2693 v2678
  let v2695 : BitVec 32 := Scalar.muli c2_i32_1491 v2694
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_1493 : BitVec 32 := 0#32
  let v2697 : BitVec 1 := Scalar.cmpi .sgt v163 c0_i32_1493
  let v2698 : BitVec 32 := Scalar.extui v2697
  let c0_i32_1494 : BitVec 32 := 0#32
  let v2699 : BitVec 1 := Scalar.cmpi .slt v163 c0_i32_1494
  let v2700 : BitVec 32 := Scalar.extui v2699
  let v2701 : BitVec 32 := Scalar.subi v2698 v2700
  let c4_i32_1492 : BitVec 32 := 4#32
  let c0_i32_1495 : BitVec 32 := 0#32
  let v2702 : BitVec 1 := Scalar.cmpi .sgt c4_i32_1492 c0_i32_1495
  let v2703 : BitVec 32 := Scalar.extui v2702
  let c0_i32_1496 : BitVec 32 := 0#32
  let v2704 : BitVec 1 := Scalar.cmpi .slt c4_i32_1492 c0_i32_1496
  let v2705 : BitVec 32 := Scalar.extui v2704
  let v2706 : BitVec 32 := Scalar.subi v2703 v2705
  let v2707 : BitVec 1 := Scalar.cmpi .ne v2701 v2706
  let v2708 : BitVec 32 := Scalar.remsi v163 c4_i32_1492
  let c0_i32_1497 : BitVec 32 := 0#32
  let v2709 : BitVec 1 := Scalar.cmpi .ne v2708 c0_i32_1497
  let v2710 : BitVec 1 := Scalar.andi v2707 v2709
  let v2696 : BitVec 32 := Scalar.divsi v163 c4_i32_1492
  let c1_i32_1498 : BitVec 32 := 1#32
  let v2711 : BitVec 32 := Scalar.subi v2696 c1_i32_1498
  let v2712 : BitVec 32 := Scalar.select v2710 v2711 v2696
  let v2713 : BitVec 32 := Scalar.addi v2695 v2712
  let v2736 : BitVec 32 := Scalar.muli c8_i32_1512 v2713
  let c4_i32_1505 : BitVec 32 := 4#32
  let c2_i32_1499 : BitVec 32 := 2#32
  let c0_i32_1500 : BitVec 32 := 0#32
  let v2714 : BitVec 1 := Scalar.cmpi .eq c2_i32_1499 c0_i32_1500
  let c1_i32_1501 : BitVec 32 := 1#32
  let v2715 : BitVec 32 := Scalar.select v2714 c1_i32_1501 c2_i32_1499
  let v2716 : BitVec 32 := Scalar.remsi v75 v2715
  let c0_i32_1503 : BitVec 32 := 0#32
  let v2718 : BitVec 1 := Scalar.cmpi .slt v2716 c0_i32_1503
  let c0_i32_1504 : BitVec 32 := 0#32
  let v2719 : BitVec 1 := Scalar.cmpi .slt v2715 c0_i32_1504
  let v2720 : BitVec 1 := Scalar.xori v2718 v2719
  let c0_i32_1502 : BitVec 32 := 0#32
  let v2717 : BitVec 1 := Scalar.cmpi .ne v2716 c0_i32_1502
  let v2721 : BitVec 1 := Scalar.andi v2720 v2717
  let v2722 : BitVec 32 := Scalar.addi v2716 v2715
  let v2723 : BitVec 32 := Scalar.select v2721 v2722 v2716
  let v2724 : BitVec 32 := Scalar.muli c4_i32_1505 v2723
  let c4_i32_1506 : BitVec 32 := 4#32
  let c0_i32_1507 : BitVec 32 := 0#32
  let v2725 : BitVec 1 := Scalar.cmpi .eq c4_i32_1506 c0_i32_1507
  let c1_i32_1508 : BitVec 32 := 1#32
  let v2726 : BitVec 32 := Scalar.select v2725 c1_i32_1508 c4_i32_1506
  let v2727 : BitVec 32 := Scalar.remsi v163 v2726
  let c0_i32_1510 : BitVec 32 := 0#32
  let v2729 : BitVec 1 := Scalar.cmpi .slt v2727 c0_i32_1510
  let c0_i32_1511 : BitVec 32 := 0#32
  let v2730 : BitVec 1 := Scalar.cmpi .slt v2726 c0_i32_1511
  let v2731 : BitVec 1 := Scalar.xori v2729 v2730
  let c0_i32_1509 : BitVec 32 := 0#32
  let v2728 : BitVec 1 := Scalar.cmpi .ne v2727 c0_i32_1509
  let v2732 : BitVec 1 := Scalar.andi v2731 v2728
  let v2733 : BitVec 32 := Scalar.addi v2727 v2726
  let v2734 : BitVec 32 := Scalar.select v2732 v2733 v2727
  let v2735 : BitVec 32 := Scalar.addi v2724 v2734
  let v2737 : BitVec 32 := Scalar.addi v2736 v2735
  let c1_i32_1518 : BitVec 32 := 1#32
  let v2738 : BitVec 32 := Scalar.muli v2737 c1_i32_1518
  let v2739 : BitVec 32 := Scalar.addi c0_i32_1519 v2738
  v2739.toNat
def k0_dev38 (d0 : Dev nD) : Nat :=
  let c0_i32_1559 : BitVec 32 := 0#32
  let c8_i32_1552 : BitVec 32 := 8#32
  let c2_i32_1531 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_1525 : BitVec 32 := 0#32
  let v2749 : BitVec 1 := Scalar.cmpi .sgt v75 c0_i32_1525
  let v2750 : BitVec 32 := Scalar.extui v2749
  let c0_i32_1526 : BitVec 32 := 0#32
  let v2751 : BitVec 1 := Scalar.cmpi .slt v75 c0_i32_1526
  let v2752 : BitVec 32 := Scalar.extui v2751
  let v2753 : BitVec 32 := Scalar.subi v2750 v2752
  let c2_i32_1524 : BitVec 32 := 2#32
  let c0_i32_1527 : BitVec 32 := 0#32
  let v2754 : BitVec 1 := Scalar.cmpi .sgt c2_i32_1524 c0_i32_1527
  let v2755 : BitVec 32 := Scalar.extui v2754
  let c0_i32_1528 : BitVec 32 := 0#32
  let v2756 : BitVec 1 := Scalar.cmpi .slt c2_i32_1524 c0_i32_1528
  let v2757 : BitVec 32 := Scalar.extui v2756
  let v2758 : BitVec 32 := Scalar.subi v2755 v2757
  let v2759 : BitVec 1 := Scalar.cmpi .ne v2753 v2758
  let v2760 : BitVec 32 := Scalar.remsi v75 c2_i32_1524
  let c0_i32_1529 : BitVec 32 := 0#32
  let v2761 : BitVec 1 := Scalar.cmpi .ne v2760 c0_i32_1529
  let v2762 : BitVec 1 := Scalar.andi v2759 v2761
  let v2748 : BitVec 32 := Scalar.divsi v75 c2_i32_1524
  let c1_i32_1530 : BitVec 32 := 1#32
  let v2763 : BitVec 32 := Scalar.subi v2748 c1_i32_1530
  let v2764 : BitVec 32 := Scalar.select v2762 v2763 v2748
  let v2765 : BitVec 32 := Scalar.muli c2_i32_1531 v2764
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_1533 : BitVec 32 := 0#32
  let v2767 : BitVec 1 := Scalar.cmpi .sgt v174 c0_i32_1533
  let v2768 : BitVec 32 := Scalar.extui v2767
  let c0_i32_1534 : BitVec 32 := 0#32
  let v2769 : BitVec 1 := Scalar.cmpi .slt v174 c0_i32_1534
  let v2770 : BitVec 32 := Scalar.extui v2769
  let v2771 : BitVec 32 := Scalar.subi v2768 v2770
  let c4_i32_1532 : BitVec 32 := 4#32
  let c0_i32_1535 : BitVec 32 := 0#32
  let v2772 : BitVec 1 := Scalar.cmpi .sgt c4_i32_1532 c0_i32_1535
  let v2773 : BitVec 32 := Scalar.extui v2772
  let c0_i32_1536 : BitVec 32 := 0#32
  let v2774 : BitVec 1 := Scalar.cmpi .slt c4_i32_1532 c0_i32_1536
  let v2775 : BitVec 32 := Scalar.extui v2774
  let v2776 : BitVec 32 := Scalar.subi v2773 v2775
  let v2777 : BitVec 1 := Scalar.cmpi .ne v2771 v2776
  let v2778 : BitVec 32 := Scalar.remsi v174 c4_i32_1532
  let c0_i32_1537 : BitVec 32 := 0#32
  let v2779 : BitVec 1 := Scalar.cmpi .ne v2778 c0_i32_1537
  let v2780 : BitVec 1 := Scalar.andi v2777 v2779
  let v2766 : BitVec 32 := Scalar.divsi v174 c4_i32_1532
  let c1_i32_1538 : BitVec 32 := 1#32
  let v2781 : BitVec 32 := Scalar.subi v2766 c1_i32_1538
  let v2782 : BitVec 32 := Scalar.select v2780 v2781 v2766
  let v2783 : BitVec 32 := Scalar.addi v2765 v2782
  let v2806 : BitVec 32 := Scalar.muli c8_i32_1552 v2783
  let c4_i32_1545 : BitVec 32 := 4#32
  let c2_i32_1539 : BitVec 32 := 2#32
  let c0_i32_1540 : BitVec 32 := 0#32
  let v2784 : BitVec 1 := Scalar.cmpi .eq c2_i32_1539 c0_i32_1540
  let c1_i32_1541 : BitVec 32 := 1#32
  let v2785 : BitVec 32 := Scalar.select v2784 c1_i32_1541 c2_i32_1539
  let v2786 : BitVec 32 := Scalar.remsi v75 v2785
  let c0_i32_1543 : BitVec 32 := 0#32
  let v2788 : BitVec 1 := Scalar.cmpi .slt v2786 c0_i32_1543
  let c0_i32_1544 : BitVec 32 := 0#32
  let v2789 : BitVec 1 := Scalar.cmpi .slt v2785 c0_i32_1544
  let v2790 : BitVec 1 := Scalar.xori v2788 v2789
  let c0_i32_1542 : BitVec 32 := 0#32
  let v2787 : BitVec 1 := Scalar.cmpi .ne v2786 c0_i32_1542
  let v2791 : BitVec 1 := Scalar.andi v2790 v2787
  let v2792 : BitVec 32 := Scalar.addi v2786 v2785
  let v2793 : BitVec 32 := Scalar.select v2791 v2792 v2786
  let v2794 : BitVec 32 := Scalar.muli c4_i32_1545 v2793
  let c4_i32_1546 : BitVec 32 := 4#32
  let c0_i32_1547 : BitVec 32 := 0#32
  let v2795 : BitVec 1 := Scalar.cmpi .eq c4_i32_1546 c0_i32_1547
  let c1_i32_1548 : BitVec 32 := 1#32
  let v2796 : BitVec 32 := Scalar.select v2795 c1_i32_1548 c4_i32_1546
  let v2797 : BitVec 32 := Scalar.remsi v174 v2796
  let c0_i32_1550 : BitVec 32 := 0#32
  let v2799 : BitVec 1 := Scalar.cmpi .slt v2797 c0_i32_1550
  let c0_i32_1551 : BitVec 32 := 0#32
  let v2800 : BitVec 1 := Scalar.cmpi .slt v2796 c0_i32_1551
  let v2801 : BitVec 1 := Scalar.xori v2799 v2800
  let c0_i32_1549 : BitVec 32 := 0#32
  let v2798 : BitVec 1 := Scalar.cmpi .ne v2797 c0_i32_1549
  let v2802 : BitVec 1 := Scalar.andi v2801 v2798
  let v2803 : BitVec 32 := Scalar.addi v2797 v2796
  let v2804 : BitVec 32 := Scalar.select v2802 v2803 v2797
  let v2805 : BitVec 32 := Scalar.addi v2794 v2804
  let v2807 : BitVec 32 := Scalar.addi v2806 v2805
  let c1_i32_1558 : BitVec 32 := 1#32
  let v2808 : BitVec 32 := Scalar.muli v2807 c1_i32_1558
  let v2809 : BitVec 32 := Scalar.addi c0_i32_1559 v2808
  v2809.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_1633 : BitVec 32 := 128#32
  let v2866 : BitVec 32 := Scalar.muli v97 c128_i32_1633
  let v2867 : Index := Scalar.indexCast v2866
  let c0_1634 : Index := 0#32
  ![v2867.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_1643 : BitVec 32 := 128#32
  let v2882 : BitVec 32 := Scalar.muli v97 c128_i32_1643
  let c0_i32_1682 : BitVec 32 := 0#32
  ![v2882.toNat, 0]
def k0_dev39 (d0 : Dev nD) : Nat :=
  let c0_i32_1679 : BitVec 32 := 0#32
  let c8_i32_1672 : BitVec 32 := 8#32
  let c2_i32_1651 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c1_i32_88 : BitVec 32 := 1#32
  let v175 : BitVec 32 := Scalar.addi v75 c1_i32_88
  let c4_i32_89 : BitVec 32 := 4#32
  let c0_i32_90 : BitVec 32 := 0#32
  let v176 : BitVec 1 := Scalar.cmpi .eq c4_i32_89 c0_i32_90
  let c1_i32_91 : BitVec 32 := 1#32
  let v177 : BitVec 32 := Scalar.select v176 c1_i32_91 c4_i32_89
  let v178 : BitVec 32 := Scalar.remsi v175 v177
  let c0_i32_93 : BitVec 32 := 0#32
  let v180 : BitVec 1 := Scalar.cmpi .slt v178 c0_i32_93
  let c0_i32_94 : BitVec 32 := 0#32
  let v181 : BitVec 1 := Scalar.cmpi .slt v177 c0_i32_94
  let v182 : BitVec 1 := Scalar.xori v180 v181
  let c0_i32_92 : BitVec 32 := 0#32
  let v179 : BitVec 1 := Scalar.cmpi .ne v178 c0_i32_92
  let v183 : BitVec 1 := Scalar.andi v182 v179
  let v184 : BitVec 32 := Scalar.addi v178 v177
  let v185 : BitVec 32 := Scalar.select v183 v184 v178
  let c0_i32_1645 : BitVec 32 := 0#32
  let v2884 : BitVec 1 := Scalar.cmpi .sgt v185 c0_i32_1645
  let v2885 : BitVec 32 := Scalar.extui v2884
  let c0_i32_1646 : BitVec 32 := 0#32
  let v2886 : BitVec 1 := Scalar.cmpi .slt v185 c0_i32_1646
  let v2887 : BitVec 32 := Scalar.extui v2886
  let v2888 : BitVec 32 := Scalar.subi v2885 v2887
  let c2_i32_1644 : BitVec 32 := 2#32
  let c0_i32_1647 : BitVec 32 := 0#32
  let v2889 : BitVec 1 := Scalar.cmpi .sgt c2_i32_1644 c0_i32_1647
  let v2890 : BitVec 32 := Scalar.extui v2889
  let c0_i32_1648 : BitVec 32 := 0#32
  let v2891 : BitVec 1 := Scalar.cmpi .slt c2_i32_1644 c0_i32_1648
  let v2892 : BitVec 32 := Scalar.extui v2891
  let v2893 : BitVec 32 := Scalar.subi v2890 v2892
  let v2894 : BitVec 1 := Scalar.cmpi .ne v2888 v2893
  let v2895 : BitVec 32 := Scalar.remsi v185 c2_i32_1644
  let c0_i32_1649 : BitVec 32 := 0#32
  let v2896 : BitVec 1 := Scalar.cmpi .ne v2895 c0_i32_1649
  let v2897 : BitVec 1 := Scalar.andi v2894 v2896
  let v2883 : BitVec 32 := Scalar.divsi v185 c2_i32_1644
  let c1_i32_1650 : BitVec 32 := 1#32
  let v2898 : BitVec 32 := Scalar.subi v2883 c1_i32_1650
  let v2899 : BitVec 32 := Scalar.select v2897 v2898 v2883
  let v2900 : BitVec 32 := Scalar.muli c2_i32_1651 v2899
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_1653 : BitVec 32 := 0#32
  let v2902 : BitVec 1 := Scalar.cmpi .sgt v97 c0_i32_1653
  let v2903 : BitVec 32 := Scalar.extui v2902
  let c0_i32_1654 : BitVec 32 := 0#32
  let v2904 : BitVec 1 := Scalar.cmpi .slt v97 c0_i32_1654
  let v2905 : BitVec 32 := Scalar.extui v2904
  let v2906 : BitVec 32 := Scalar.subi v2903 v2905
  let c4_i32_1652 : BitVec 32 := 4#32
  let c0_i32_1655 : BitVec 32 := 0#32
  let v2907 : BitVec 1 := Scalar.cmpi .sgt c4_i32_1652 c0_i32_1655
  let v2908 : BitVec 32 := Scalar.extui v2907
  let c0_i32_1656 : BitVec 32 := 0#32
  let v2909 : BitVec 1 := Scalar.cmpi .slt c4_i32_1652 c0_i32_1656
  let v2910 : BitVec 32 := Scalar.extui v2909
  let v2911 : BitVec 32 := Scalar.subi v2908 v2910
  let v2912 : BitVec 1 := Scalar.cmpi .ne v2906 v2911
  let v2913 : BitVec 32 := Scalar.remsi v97 c4_i32_1652
  let c0_i32_1657 : BitVec 32 := 0#32
  let v2914 : BitVec 1 := Scalar.cmpi .ne v2913 c0_i32_1657
  let v2915 : BitVec 1 := Scalar.andi v2912 v2914
  let v2901 : BitVec 32 := Scalar.divsi v97 c4_i32_1652
  let c1_i32_1658 : BitVec 32 := 1#32
  let v2916 : BitVec 32 := Scalar.subi v2901 c1_i32_1658
  let v2917 : BitVec 32 := Scalar.select v2915 v2916 v2901
  let v2918 : BitVec 32 := Scalar.addi v2900 v2917
  let v2941 : BitVec 32 := Scalar.muli c8_i32_1672 v2918
  let c4_i32_1665 : BitVec 32 := 4#32
  let c2_i32_1659 : BitVec 32 := 2#32
  let c0_i32_1660 : BitVec 32 := 0#32
  let v2919 : BitVec 1 := Scalar.cmpi .eq c2_i32_1659 c0_i32_1660
  let c1_i32_1661 : BitVec 32 := 1#32
  let v2920 : BitVec 32 := Scalar.select v2919 c1_i32_1661 c2_i32_1659
  let v2921 : BitVec 32 := Scalar.remsi v185 v2920
  let c0_i32_1663 : BitVec 32 := 0#32
  let v2923 : BitVec 1 := Scalar.cmpi .slt v2921 c0_i32_1663
  let c0_i32_1664 : BitVec 32 := 0#32
  let v2924 : BitVec 1 := Scalar.cmpi .slt v2920 c0_i32_1664
  let v2925 : BitVec 1 := Scalar.xori v2923 v2924
  let c0_i32_1662 : BitVec 32 := 0#32
  let v2922 : BitVec 1 := Scalar.cmpi .ne v2921 c0_i32_1662
  let v2926 : BitVec 1 := Scalar.andi v2925 v2922
  let v2927 : BitVec 32 := Scalar.addi v2921 v2920
  let v2928 : BitVec 32 := Scalar.select v2926 v2927 v2921
  let v2929 : BitVec 32 := Scalar.muli c4_i32_1665 v2928
  let c4_i32_1666 : BitVec 32 := 4#32
  let c0_i32_1667 : BitVec 32 := 0#32
  let v2930 : BitVec 1 := Scalar.cmpi .eq c4_i32_1666 c0_i32_1667
  let c1_i32_1668 : BitVec 32 := 1#32
  let v2931 : BitVec 32 := Scalar.select v2930 c1_i32_1668 c4_i32_1666
  let v2932 : BitVec 32 := Scalar.remsi v97 v2931
  let c0_i32_1670 : BitVec 32 := 0#32
  let v2934 : BitVec 1 := Scalar.cmpi .slt v2932 c0_i32_1670
  let c0_i32_1671 : BitVec 32 := 0#32
  let v2935 : BitVec 1 := Scalar.cmpi .slt v2931 c0_i32_1671
  let v2936 : BitVec 1 := Scalar.xori v2934 v2935
  let c0_i32_1669 : BitVec 32 := 0#32
  let v2933 : BitVec 1 := Scalar.cmpi .ne v2932 c0_i32_1669
  let v2937 : BitVec 1 := Scalar.andi v2936 v2933
  let v2938 : BitVec 32 := Scalar.addi v2932 v2931
  let v2939 : BitVec 32 := Scalar.select v2937 v2938 v2932
  let v2940 : BitVec 32 := Scalar.addi v2929 v2939
  let v2942 : BitVec 32 := Scalar.addi v2941 v2940
  let c1_i32_1678 : BitVec 32 := 1#32
  let v2943 : BitVec 32 := Scalar.muli v2942 c1_i32_1678
  let v2944 : BitVec 32 := Scalar.addi c0_i32_1679 v2943
  v2944.toNat
def k0_dev40 (d0 : Dev nD) : Nat :=
  let c0_i32_1719 : BitVec 32 := 0#32
  let c8_i32_1712 : BitVec 32 := 8#32
  let c2_i32_1691 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c2_i32_95 : BitVec 32 := 2#32
  let v186 : BitVec 32 := Scalar.addi v75 c2_i32_95
  let c4_i32_96 : BitVec 32 := 4#32
  let c0_i32_97 : BitVec 32 := 0#32
  let v187 : BitVec 1 := Scalar.cmpi .eq c4_i32_96 c0_i32_97
  let c1_i32_98 : BitVec 32 := 1#32
  let v188 : BitVec 32 := Scalar.select v187 c1_i32_98 c4_i32_96
  let v189 : BitVec 32 := Scalar.remsi v186 v188
  let c0_i32_100 : BitVec 32 := 0#32
  let v191 : BitVec 1 := Scalar.cmpi .slt v189 c0_i32_100
  let c0_i32_101 : BitVec 32 := 0#32
  let v192 : BitVec 1 := Scalar.cmpi .slt v188 c0_i32_101
  let v193 : BitVec 1 := Scalar.xori v191 v192
  let c0_i32_99 : BitVec 32 := 0#32
  let v190 : BitVec 1 := Scalar.cmpi .ne v189 c0_i32_99
  let v194 : BitVec 1 := Scalar.andi v193 v190
  let v195 : BitVec 32 := Scalar.addi v189 v188
  let v196 : BitVec 32 := Scalar.select v194 v195 v189
  let c0_i32_1685 : BitVec 32 := 0#32
  let v2954 : BitVec 1 := Scalar.cmpi .sgt v196 c0_i32_1685
  let v2955 : BitVec 32 := Scalar.extui v2954
  let c0_i32_1686 : BitVec 32 := 0#32
  let v2956 : BitVec 1 := Scalar.cmpi .slt v196 c0_i32_1686
  let v2957 : BitVec 32 := Scalar.extui v2956
  let v2958 : BitVec 32 := Scalar.subi v2955 v2957
  let c2_i32_1684 : BitVec 32 := 2#32
  let c0_i32_1687 : BitVec 32 := 0#32
  let v2959 : BitVec 1 := Scalar.cmpi .sgt c2_i32_1684 c0_i32_1687
  let v2960 : BitVec 32 := Scalar.extui v2959
  let c0_i32_1688 : BitVec 32 := 0#32
  let v2961 : BitVec 1 := Scalar.cmpi .slt c2_i32_1684 c0_i32_1688
  let v2962 : BitVec 32 := Scalar.extui v2961
  let v2963 : BitVec 32 := Scalar.subi v2960 v2962
  let v2964 : BitVec 1 := Scalar.cmpi .ne v2958 v2963
  let v2965 : BitVec 32 := Scalar.remsi v196 c2_i32_1684
  let c0_i32_1689 : BitVec 32 := 0#32
  let v2966 : BitVec 1 := Scalar.cmpi .ne v2965 c0_i32_1689
  let v2967 : BitVec 1 := Scalar.andi v2964 v2966
  let v2953 : BitVec 32 := Scalar.divsi v196 c2_i32_1684
  let c1_i32_1690 : BitVec 32 := 1#32
  let v2968 : BitVec 32 := Scalar.subi v2953 c1_i32_1690
  let v2969 : BitVec 32 := Scalar.select v2967 v2968 v2953
  let v2970 : BitVec 32 := Scalar.muli c2_i32_1691 v2969
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_1693 : BitVec 32 := 0#32
  let v2972 : BitVec 1 := Scalar.cmpi .sgt v97 c0_i32_1693
  let v2973 : BitVec 32 := Scalar.extui v2972
  let c0_i32_1694 : BitVec 32 := 0#32
  let v2974 : BitVec 1 := Scalar.cmpi .slt v97 c0_i32_1694
  let v2975 : BitVec 32 := Scalar.extui v2974
  let v2976 : BitVec 32 := Scalar.subi v2973 v2975
  let c4_i32_1692 : BitVec 32 := 4#32
  let c0_i32_1695 : BitVec 32 := 0#32
  let v2977 : BitVec 1 := Scalar.cmpi .sgt c4_i32_1692 c0_i32_1695
  let v2978 : BitVec 32 := Scalar.extui v2977
  let c0_i32_1696 : BitVec 32 := 0#32
  let v2979 : BitVec 1 := Scalar.cmpi .slt c4_i32_1692 c0_i32_1696
  let v2980 : BitVec 32 := Scalar.extui v2979
  let v2981 : BitVec 32 := Scalar.subi v2978 v2980
  let v2982 : BitVec 1 := Scalar.cmpi .ne v2976 v2981
  let v2983 : BitVec 32 := Scalar.remsi v97 c4_i32_1692
  let c0_i32_1697 : BitVec 32 := 0#32
  let v2984 : BitVec 1 := Scalar.cmpi .ne v2983 c0_i32_1697
  let v2985 : BitVec 1 := Scalar.andi v2982 v2984
  let v2971 : BitVec 32 := Scalar.divsi v97 c4_i32_1692
  let c1_i32_1698 : BitVec 32 := 1#32
  let v2986 : BitVec 32 := Scalar.subi v2971 c1_i32_1698
  let v2987 : BitVec 32 := Scalar.select v2985 v2986 v2971
  let v2988 : BitVec 32 := Scalar.addi v2970 v2987
  let v3011 : BitVec 32 := Scalar.muli c8_i32_1712 v2988
  let c4_i32_1705 : BitVec 32 := 4#32
  let c2_i32_1699 : BitVec 32 := 2#32
  let c0_i32_1700 : BitVec 32 := 0#32
  let v2989 : BitVec 1 := Scalar.cmpi .eq c2_i32_1699 c0_i32_1700
  let c1_i32_1701 : BitVec 32 := 1#32
  let v2990 : BitVec 32 := Scalar.select v2989 c1_i32_1701 c2_i32_1699
  let v2991 : BitVec 32 := Scalar.remsi v196 v2990
  let c0_i32_1703 : BitVec 32 := 0#32
  let v2993 : BitVec 1 := Scalar.cmpi .slt v2991 c0_i32_1703
  let c0_i32_1704 : BitVec 32 := 0#32
  let v2994 : BitVec 1 := Scalar.cmpi .slt v2990 c0_i32_1704
  let v2995 : BitVec 1 := Scalar.xori v2993 v2994
  let c0_i32_1702 : BitVec 32 := 0#32
  let v2992 : BitVec 1 := Scalar.cmpi .ne v2991 c0_i32_1702
  let v2996 : BitVec 1 := Scalar.andi v2995 v2992
  let v2997 : BitVec 32 := Scalar.addi v2991 v2990
  let v2998 : BitVec 32 := Scalar.select v2996 v2997 v2991
  let v2999 : BitVec 32 := Scalar.muli c4_i32_1705 v2998
  let c4_i32_1706 : BitVec 32 := 4#32
  let c0_i32_1707 : BitVec 32 := 0#32
  let v3000 : BitVec 1 := Scalar.cmpi .eq c4_i32_1706 c0_i32_1707
  let c1_i32_1708 : BitVec 32 := 1#32
  let v3001 : BitVec 32 := Scalar.select v3000 c1_i32_1708 c4_i32_1706
  let v3002 : BitVec 32 := Scalar.remsi v97 v3001
  let c0_i32_1710 : BitVec 32 := 0#32
  let v3004 : BitVec 1 := Scalar.cmpi .slt v3002 c0_i32_1710
  let c0_i32_1711 : BitVec 32 := 0#32
  let v3005 : BitVec 1 := Scalar.cmpi .slt v3001 c0_i32_1711
  let v3006 : BitVec 1 := Scalar.xori v3004 v3005
  let c0_i32_1709 : BitVec 32 := 0#32
  let v3003 : BitVec 1 := Scalar.cmpi .ne v3002 c0_i32_1709
  let v3007 : BitVec 1 := Scalar.andi v3006 v3003
  let v3008 : BitVec 32 := Scalar.addi v3002 v3001
  let v3009 : BitVec 32 := Scalar.select v3007 v3008 v3002
  let v3010 : BitVec 32 := Scalar.addi v2999 v3009
  let v3012 : BitVec 32 := Scalar.addi v3011 v3010
  let c1_i32_1718 : BitVec 32 := 1#32
  let v3013 : BitVec 32 := Scalar.muli v3012 c1_i32_1718
  let v3014 : BitVec 32 := Scalar.addi c0_i32_1719 v3013
  v3014.toNat
def k0_dev41 (d0 : Dev nD) : Nat :=
  let c0_i32_1759 : BitVec 32 := 0#32
  let c8_i32_1752 : BitVec 32 := 8#32
  let c2_i32_1731 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c3_i32_102 : BitVec 32 := 3#32
  let v197 : BitVec 32 := Scalar.addi v75 c3_i32_102
  let c4_i32_103 : BitVec 32 := 4#32
  let c0_i32_104 : BitVec 32 := 0#32
  let v198 : BitVec 1 := Scalar.cmpi .eq c4_i32_103 c0_i32_104
  let c1_i32_105 : BitVec 32 := 1#32
  let v199 : BitVec 32 := Scalar.select v198 c1_i32_105 c4_i32_103
  let v200 : BitVec 32 := Scalar.remsi v197 v199
  let c0_i32_107 : BitVec 32 := 0#32
  let v202 : BitVec 1 := Scalar.cmpi .slt v200 c0_i32_107
  let c0_i32_108 : BitVec 32 := 0#32
  let v203 : BitVec 1 := Scalar.cmpi .slt v199 c0_i32_108
  let v204 : BitVec 1 := Scalar.xori v202 v203
  let c0_i32_106 : BitVec 32 := 0#32
  let v201 : BitVec 1 := Scalar.cmpi .ne v200 c0_i32_106
  let v205 : BitVec 1 := Scalar.andi v204 v201
  let v206 : BitVec 32 := Scalar.addi v200 v199
  let v207 : BitVec 32 := Scalar.select v205 v206 v200
  let c0_i32_1725 : BitVec 32 := 0#32
  let v3024 : BitVec 1 := Scalar.cmpi .sgt v207 c0_i32_1725
  let v3025 : BitVec 32 := Scalar.extui v3024
  let c0_i32_1726 : BitVec 32 := 0#32
  let v3026 : BitVec 1 := Scalar.cmpi .slt v207 c0_i32_1726
  let v3027 : BitVec 32 := Scalar.extui v3026
  let v3028 : BitVec 32 := Scalar.subi v3025 v3027
  let c2_i32_1724 : BitVec 32 := 2#32
  let c0_i32_1727 : BitVec 32 := 0#32
  let v3029 : BitVec 1 := Scalar.cmpi .sgt c2_i32_1724 c0_i32_1727
  let v3030 : BitVec 32 := Scalar.extui v3029
  let c0_i32_1728 : BitVec 32 := 0#32
  let v3031 : BitVec 1 := Scalar.cmpi .slt c2_i32_1724 c0_i32_1728
  let v3032 : BitVec 32 := Scalar.extui v3031
  let v3033 : BitVec 32 := Scalar.subi v3030 v3032
  let v3034 : BitVec 1 := Scalar.cmpi .ne v3028 v3033
  let v3035 : BitVec 32 := Scalar.remsi v207 c2_i32_1724
  let c0_i32_1729 : BitVec 32 := 0#32
  let v3036 : BitVec 1 := Scalar.cmpi .ne v3035 c0_i32_1729
  let v3037 : BitVec 1 := Scalar.andi v3034 v3036
  let v3023 : BitVec 32 := Scalar.divsi v207 c2_i32_1724
  let c1_i32_1730 : BitVec 32 := 1#32
  let v3038 : BitVec 32 := Scalar.subi v3023 c1_i32_1730
  let v3039 : BitVec 32 := Scalar.select v3037 v3038 v3023
  let v3040 : BitVec 32 := Scalar.muli c2_i32_1731 v3039
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_1733 : BitVec 32 := 0#32
  let v3042 : BitVec 1 := Scalar.cmpi .sgt v97 c0_i32_1733
  let v3043 : BitVec 32 := Scalar.extui v3042
  let c0_i32_1734 : BitVec 32 := 0#32
  let v3044 : BitVec 1 := Scalar.cmpi .slt v97 c0_i32_1734
  let v3045 : BitVec 32 := Scalar.extui v3044
  let v3046 : BitVec 32 := Scalar.subi v3043 v3045
  let c4_i32_1732 : BitVec 32 := 4#32
  let c0_i32_1735 : BitVec 32 := 0#32
  let v3047 : BitVec 1 := Scalar.cmpi .sgt c4_i32_1732 c0_i32_1735
  let v3048 : BitVec 32 := Scalar.extui v3047
  let c0_i32_1736 : BitVec 32 := 0#32
  let v3049 : BitVec 1 := Scalar.cmpi .slt c4_i32_1732 c0_i32_1736
  let v3050 : BitVec 32 := Scalar.extui v3049
  let v3051 : BitVec 32 := Scalar.subi v3048 v3050
  let v3052 : BitVec 1 := Scalar.cmpi .ne v3046 v3051
  let v3053 : BitVec 32 := Scalar.remsi v97 c4_i32_1732
  let c0_i32_1737 : BitVec 32 := 0#32
  let v3054 : BitVec 1 := Scalar.cmpi .ne v3053 c0_i32_1737
  let v3055 : BitVec 1 := Scalar.andi v3052 v3054
  let v3041 : BitVec 32 := Scalar.divsi v97 c4_i32_1732
  let c1_i32_1738 : BitVec 32 := 1#32
  let v3056 : BitVec 32 := Scalar.subi v3041 c1_i32_1738
  let v3057 : BitVec 32 := Scalar.select v3055 v3056 v3041
  let v3058 : BitVec 32 := Scalar.addi v3040 v3057
  let v3081 : BitVec 32 := Scalar.muli c8_i32_1752 v3058
  let c4_i32_1745 : BitVec 32 := 4#32
  let c2_i32_1739 : BitVec 32 := 2#32
  let c0_i32_1740 : BitVec 32 := 0#32
  let v3059 : BitVec 1 := Scalar.cmpi .eq c2_i32_1739 c0_i32_1740
  let c1_i32_1741 : BitVec 32 := 1#32
  let v3060 : BitVec 32 := Scalar.select v3059 c1_i32_1741 c2_i32_1739
  let v3061 : BitVec 32 := Scalar.remsi v207 v3060
  let c0_i32_1743 : BitVec 32 := 0#32
  let v3063 : BitVec 1 := Scalar.cmpi .slt v3061 c0_i32_1743
  let c0_i32_1744 : BitVec 32 := 0#32
  let v3064 : BitVec 1 := Scalar.cmpi .slt v3060 c0_i32_1744
  let v3065 : BitVec 1 := Scalar.xori v3063 v3064
  let c0_i32_1742 : BitVec 32 := 0#32
  let v3062 : BitVec 1 := Scalar.cmpi .ne v3061 c0_i32_1742
  let v3066 : BitVec 1 := Scalar.andi v3065 v3062
  let v3067 : BitVec 32 := Scalar.addi v3061 v3060
  let v3068 : BitVec 32 := Scalar.select v3066 v3067 v3061
  let v3069 : BitVec 32 := Scalar.muli c4_i32_1745 v3068
  let c4_i32_1746 : BitVec 32 := 4#32
  let c0_i32_1747 : BitVec 32 := 0#32
  let v3070 : BitVec 1 := Scalar.cmpi .eq c4_i32_1746 c0_i32_1747
  let c1_i32_1748 : BitVec 32 := 1#32
  let v3071 : BitVec 32 := Scalar.select v3070 c1_i32_1748 c4_i32_1746
  let v3072 : BitVec 32 := Scalar.remsi v97 v3071
  let c0_i32_1750 : BitVec 32 := 0#32
  let v3074 : BitVec 1 := Scalar.cmpi .slt v3072 c0_i32_1750
  let c0_i32_1751 : BitVec 32 := 0#32
  let v3075 : BitVec 1 := Scalar.cmpi .slt v3071 c0_i32_1751
  let v3076 : BitVec 1 := Scalar.xori v3074 v3075
  let c0_i32_1749 : BitVec 32 := 0#32
  let v3073 : BitVec 1 := Scalar.cmpi .ne v3072 c0_i32_1749
  let v3077 : BitVec 1 := Scalar.andi v3076 v3073
  let v3078 : BitVec 32 := Scalar.addi v3072 v3071
  let v3079 : BitVec 32 := Scalar.select v3077 v3078 v3072
  let v3080 : BitVec 32 := Scalar.addi v3069 v3079
  let v3082 : BitVec 32 := Scalar.addi v3081 v3080
  let c1_i32_1758 : BitVec 32 := 1#32
  let v3083 : BitVec 32 := Scalar.muli v3082 c1_i32_1758
  let v3084 : BitVec 32 := Scalar.addi c0_i32_1759 v3083
  v3084.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_1833 : BitVec 32 := 128#32
  let v3141 : BitVec 32 := Scalar.muli v97 c128_i32_1833
  let v3142 : Index := Scalar.indexCast v3141
  let c256_1834 : Index := 256#32
  ![v3142.toNat, 256]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_1843 : BitVec 32 := 128#32
  let v3157 : BitVec 32 := Scalar.muli v97 c128_i32_1843
  let c256_i32_1882 : BitVec 32 := 256#32
  ![v3157.toNat, 256]
def k0_dev42 (d0 : Dev nD) : Nat :=
  let c0_i32_1879 : BitVec 32 := 0#32
  let c8_i32_1872 : BitVec 32 := 8#32
  let c2_i32_1851 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c1_i32_88 : BitVec 32 := 1#32
  let v175 : BitVec 32 := Scalar.addi v75 c1_i32_88
  let c4_i32_89 : BitVec 32 := 4#32
  let c0_i32_90 : BitVec 32 := 0#32
  let v176 : BitVec 1 := Scalar.cmpi .eq c4_i32_89 c0_i32_90
  let c1_i32_91 : BitVec 32 := 1#32
  let v177 : BitVec 32 := Scalar.select v176 c1_i32_91 c4_i32_89
  let v178 : BitVec 32 := Scalar.remsi v175 v177
  let c0_i32_93 : BitVec 32 := 0#32
  let v180 : BitVec 1 := Scalar.cmpi .slt v178 c0_i32_93
  let c0_i32_94 : BitVec 32 := 0#32
  let v181 : BitVec 1 := Scalar.cmpi .slt v177 c0_i32_94
  let v182 : BitVec 1 := Scalar.xori v180 v181
  let c0_i32_92 : BitVec 32 := 0#32
  let v179 : BitVec 1 := Scalar.cmpi .ne v178 c0_i32_92
  let v183 : BitVec 1 := Scalar.andi v182 v179
  let v184 : BitVec 32 := Scalar.addi v178 v177
  let v185 : BitVec 32 := Scalar.select v183 v184 v178
  let c0_i32_1845 : BitVec 32 := 0#32
  let v3159 : BitVec 1 := Scalar.cmpi .sgt v185 c0_i32_1845
  let v3160 : BitVec 32 := Scalar.extui v3159
  let c0_i32_1846 : BitVec 32 := 0#32
  let v3161 : BitVec 1 := Scalar.cmpi .slt v185 c0_i32_1846
  let v3162 : BitVec 32 := Scalar.extui v3161
  let v3163 : BitVec 32 := Scalar.subi v3160 v3162
  let c2_i32_1844 : BitVec 32 := 2#32
  let c0_i32_1847 : BitVec 32 := 0#32
  let v3164 : BitVec 1 := Scalar.cmpi .sgt c2_i32_1844 c0_i32_1847
  let v3165 : BitVec 32 := Scalar.extui v3164
  let c0_i32_1848 : BitVec 32 := 0#32
  let v3166 : BitVec 1 := Scalar.cmpi .slt c2_i32_1844 c0_i32_1848
  let v3167 : BitVec 32 := Scalar.extui v3166
  let v3168 : BitVec 32 := Scalar.subi v3165 v3167
  let v3169 : BitVec 1 := Scalar.cmpi .ne v3163 v3168
  let v3170 : BitVec 32 := Scalar.remsi v185 c2_i32_1844
  let c0_i32_1849 : BitVec 32 := 0#32
  let v3171 : BitVec 1 := Scalar.cmpi .ne v3170 c0_i32_1849
  let v3172 : BitVec 1 := Scalar.andi v3169 v3171
  let v3158 : BitVec 32 := Scalar.divsi v185 c2_i32_1844
  let c1_i32_1850 : BitVec 32 := 1#32
  let v3173 : BitVec 32 := Scalar.subi v3158 c1_i32_1850
  let v3174 : BitVec 32 := Scalar.select v3172 v3173 v3158
  let v3175 : BitVec 32 := Scalar.muli c2_i32_1851 v3174
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_1853 : BitVec 32 := 0#32
  let v3177 : BitVec 1 := Scalar.cmpi .sgt v97 c0_i32_1853
  let v3178 : BitVec 32 := Scalar.extui v3177
  let c0_i32_1854 : BitVec 32 := 0#32
  let v3179 : BitVec 1 := Scalar.cmpi .slt v97 c0_i32_1854
  let v3180 : BitVec 32 := Scalar.extui v3179
  let v3181 : BitVec 32 := Scalar.subi v3178 v3180
  let c4_i32_1852 : BitVec 32 := 4#32
  let c0_i32_1855 : BitVec 32 := 0#32
  let v3182 : BitVec 1 := Scalar.cmpi .sgt c4_i32_1852 c0_i32_1855
  let v3183 : BitVec 32 := Scalar.extui v3182
  let c0_i32_1856 : BitVec 32 := 0#32
  let v3184 : BitVec 1 := Scalar.cmpi .slt c4_i32_1852 c0_i32_1856
  let v3185 : BitVec 32 := Scalar.extui v3184
  let v3186 : BitVec 32 := Scalar.subi v3183 v3185
  let v3187 : BitVec 1 := Scalar.cmpi .ne v3181 v3186
  let v3188 : BitVec 32 := Scalar.remsi v97 c4_i32_1852
  let c0_i32_1857 : BitVec 32 := 0#32
  let v3189 : BitVec 1 := Scalar.cmpi .ne v3188 c0_i32_1857
  let v3190 : BitVec 1 := Scalar.andi v3187 v3189
  let v3176 : BitVec 32 := Scalar.divsi v97 c4_i32_1852
  let c1_i32_1858 : BitVec 32 := 1#32
  let v3191 : BitVec 32 := Scalar.subi v3176 c1_i32_1858
  let v3192 : BitVec 32 := Scalar.select v3190 v3191 v3176
  let v3193 : BitVec 32 := Scalar.addi v3175 v3192
  let v3216 : BitVec 32 := Scalar.muli c8_i32_1872 v3193
  let c4_i32_1865 : BitVec 32 := 4#32
  let c2_i32_1859 : BitVec 32 := 2#32
  let c0_i32_1860 : BitVec 32 := 0#32
  let v3194 : BitVec 1 := Scalar.cmpi .eq c2_i32_1859 c0_i32_1860
  let c1_i32_1861 : BitVec 32 := 1#32
  let v3195 : BitVec 32 := Scalar.select v3194 c1_i32_1861 c2_i32_1859
  let v3196 : BitVec 32 := Scalar.remsi v185 v3195
  let c0_i32_1863 : BitVec 32 := 0#32
  let v3198 : BitVec 1 := Scalar.cmpi .slt v3196 c0_i32_1863
  let c0_i32_1864 : BitVec 32 := 0#32
  let v3199 : BitVec 1 := Scalar.cmpi .slt v3195 c0_i32_1864
  let v3200 : BitVec 1 := Scalar.xori v3198 v3199
  let c0_i32_1862 : BitVec 32 := 0#32
  let v3197 : BitVec 1 := Scalar.cmpi .ne v3196 c0_i32_1862
  let v3201 : BitVec 1 := Scalar.andi v3200 v3197
  let v3202 : BitVec 32 := Scalar.addi v3196 v3195
  let v3203 : BitVec 32 := Scalar.select v3201 v3202 v3196
  let v3204 : BitVec 32 := Scalar.muli c4_i32_1865 v3203
  let c4_i32_1866 : BitVec 32 := 4#32
  let c0_i32_1867 : BitVec 32 := 0#32
  let v3205 : BitVec 1 := Scalar.cmpi .eq c4_i32_1866 c0_i32_1867
  let c1_i32_1868 : BitVec 32 := 1#32
  let v3206 : BitVec 32 := Scalar.select v3205 c1_i32_1868 c4_i32_1866
  let v3207 : BitVec 32 := Scalar.remsi v97 v3206
  let c0_i32_1870 : BitVec 32 := 0#32
  let v3209 : BitVec 1 := Scalar.cmpi .slt v3207 c0_i32_1870
  let c0_i32_1871 : BitVec 32 := 0#32
  let v3210 : BitVec 1 := Scalar.cmpi .slt v3206 c0_i32_1871
  let v3211 : BitVec 1 := Scalar.xori v3209 v3210
  let c0_i32_1869 : BitVec 32 := 0#32
  let v3208 : BitVec 1 := Scalar.cmpi .ne v3207 c0_i32_1869
  let v3212 : BitVec 1 := Scalar.andi v3211 v3208
  let v3213 : BitVec 32 := Scalar.addi v3207 v3206
  let v3214 : BitVec 32 := Scalar.select v3212 v3213 v3207
  let v3215 : BitVec 32 := Scalar.addi v3204 v3214
  let v3217 : BitVec 32 := Scalar.addi v3216 v3215
  let c1_i32_1878 : BitVec 32 := 1#32
  let v3218 : BitVec 32 := Scalar.muli v3217 c1_i32_1878
  let v3219 : BitVec 32 := Scalar.addi c0_i32_1879 v3218
  v3219.toNat
def k0_dev43 (d0 : Dev nD) : Nat :=
  let c0_i32_1919 : BitVec 32 := 0#32
  let c8_i32_1912 : BitVec 32 := 8#32
  let c2_i32_1891 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c2_i32_95 : BitVec 32 := 2#32
  let v186 : BitVec 32 := Scalar.addi v75 c2_i32_95
  let c4_i32_96 : BitVec 32 := 4#32
  let c0_i32_97 : BitVec 32 := 0#32
  let v187 : BitVec 1 := Scalar.cmpi .eq c4_i32_96 c0_i32_97
  let c1_i32_98 : BitVec 32 := 1#32
  let v188 : BitVec 32 := Scalar.select v187 c1_i32_98 c4_i32_96
  let v189 : BitVec 32 := Scalar.remsi v186 v188
  let c0_i32_100 : BitVec 32 := 0#32
  let v191 : BitVec 1 := Scalar.cmpi .slt v189 c0_i32_100
  let c0_i32_101 : BitVec 32 := 0#32
  let v192 : BitVec 1 := Scalar.cmpi .slt v188 c0_i32_101
  let v193 : BitVec 1 := Scalar.xori v191 v192
  let c0_i32_99 : BitVec 32 := 0#32
  let v190 : BitVec 1 := Scalar.cmpi .ne v189 c0_i32_99
  let v194 : BitVec 1 := Scalar.andi v193 v190
  let v195 : BitVec 32 := Scalar.addi v189 v188
  let v196 : BitVec 32 := Scalar.select v194 v195 v189
  let c0_i32_1885 : BitVec 32 := 0#32
  let v3229 : BitVec 1 := Scalar.cmpi .sgt v196 c0_i32_1885
  let v3230 : BitVec 32 := Scalar.extui v3229
  let c0_i32_1886 : BitVec 32 := 0#32
  let v3231 : BitVec 1 := Scalar.cmpi .slt v196 c0_i32_1886
  let v3232 : BitVec 32 := Scalar.extui v3231
  let v3233 : BitVec 32 := Scalar.subi v3230 v3232
  let c2_i32_1884 : BitVec 32 := 2#32
  let c0_i32_1887 : BitVec 32 := 0#32
  let v3234 : BitVec 1 := Scalar.cmpi .sgt c2_i32_1884 c0_i32_1887
  let v3235 : BitVec 32 := Scalar.extui v3234
  let c0_i32_1888 : BitVec 32 := 0#32
  let v3236 : BitVec 1 := Scalar.cmpi .slt c2_i32_1884 c0_i32_1888
  let v3237 : BitVec 32 := Scalar.extui v3236
  let v3238 : BitVec 32 := Scalar.subi v3235 v3237
  let v3239 : BitVec 1 := Scalar.cmpi .ne v3233 v3238
  let v3240 : BitVec 32 := Scalar.remsi v196 c2_i32_1884
  let c0_i32_1889 : BitVec 32 := 0#32
  let v3241 : BitVec 1 := Scalar.cmpi .ne v3240 c0_i32_1889
  let v3242 : BitVec 1 := Scalar.andi v3239 v3241
  let v3228 : BitVec 32 := Scalar.divsi v196 c2_i32_1884
  let c1_i32_1890 : BitVec 32 := 1#32
  let v3243 : BitVec 32 := Scalar.subi v3228 c1_i32_1890
  let v3244 : BitVec 32 := Scalar.select v3242 v3243 v3228
  let v3245 : BitVec 32 := Scalar.muli c2_i32_1891 v3244
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_1893 : BitVec 32 := 0#32
  let v3247 : BitVec 1 := Scalar.cmpi .sgt v97 c0_i32_1893
  let v3248 : BitVec 32 := Scalar.extui v3247
  let c0_i32_1894 : BitVec 32 := 0#32
  let v3249 : BitVec 1 := Scalar.cmpi .slt v97 c0_i32_1894
  let v3250 : BitVec 32 := Scalar.extui v3249
  let v3251 : BitVec 32 := Scalar.subi v3248 v3250
  let c4_i32_1892 : BitVec 32 := 4#32
  let c0_i32_1895 : BitVec 32 := 0#32
  let v3252 : BitVec 1 := Scalar.cmpi .sgt c4_i32_1892 c0_i32_1895
  let v3253 : BitVec 32 := Scalar.extui v3252
  let c0_i32_1896 : BitVec 32 := 0#32
  let v3254 : BitVec 1 := Scalar.cmpi .slt c4_i32_1892 c0_i32_1896
  let v3255 : BitVec 32 := Scalar.extui v3254
  let v3256 : BitVec 32 := Scalar.subi v3253 v3255
  let v3257 : BitVec 1 := Scalar.cmpi .ne v3251 v3256
  let v3258 : BitVec 32 := Scalar.remsi v97 c4_i32_1892
  let c0_i32_1897 : BitVec 32 := 0#32
  let v3259 : BitVec 1 := Scalar.cmpi .ne v3258 c0_i32_1897
  let v3260 : BitVec 1 := Scalar.andi v3257 v3259
  let v3246 : BitVec 32 := Scalar.divsi v97 c4_i32_1892
  let c1_i32_1898 : BitVec 32 := 1#32
  let v3261 : BitVec 32 := Scalar.subi v3246 c1_i32_1898
  let v3262 : BitVec 32 := Scalar.select v3260 v3261 v3246
  let v3263 : BitVec 32 := Scalar.addi v3245 v3262
  let v3286 : BitVec 32 := Scalar.muli c8_i32_1912 v3263
  let c4_i32_1905 : BitVec 32 := 4#32
  let c2_i32_1899 : BitVec 32 := 2#32
  let c0_i32_1900 : BitVec 32 := 0#32
  let v3264 : BitVec 1 := Scalar.cmpi .eq c2_i32_1899 c0_i32_1900
  let c1_i32_1901 : BitVec 32 := 1#32
  let v3265 : BitVec 32 := Scalar.select v3264 c1_i32_1901 c2_i32_1899
  let v3266 : BitVec 32 := Scalar.remsi v196 v3265
  let c0_i32_1903 : BitVec 32 := 0#32
  let v3268 : BitVec 1 := Scalar.cmpi .slt v3266 c0_i32_1903
  let c0_i32_1904 : BitVec 32 := 0#32
  let v3269 : BitVec 1 := Scalar.cmpi .slt v3265 c0_i32_1904
  let v3270 : BitVec 1 := Scalar.xori v3268 v3269
  let c0_i32_1902 : BitVec 32 := 0#32
  let v3267 : BitVec 1 := Scalar.cmpi .ne v3266 c0_i32_1902
  let v3271 : BitVec 1 := Scalar.andi v3270 v3267
  let v3272 : BitVec 32 := Scalar.addi v3266 v3265
  let v3273 : BitVec 32 := Scalar.select v3271 v3272 v3266
  let v3274 : BitVec 32 := Scalar.muli c4_i32_1905 v3273
  let c4_i32_1906 : BitVec 32 := 4#32
  let c0_i32_1907 : BitVec 32 := 0#32
  let v3275 : BitVec 1 := Scalar.cmpi .eq c4_i32_1906 c0_i32_1907
  let c1_i32_1908 : BitVec 32 := 1#32
  let v3276 : BitVec 32 := Scalar.select v3275 c1_i32_1908 c4_i32_1906
  let v3277 : BitVec 32 := Scalar.remsi v97 v3276
  let c0_i32_1910 : BitVec 32 := 0#32
  let v3279 : BitVec 1 := Scalar.cmpi .slt v3277 c0_i32_1910
  let c0_i32_1911 : BitVec 32 := 0#32
  let v3280 : BitVec 1 := Scalar.cmpi .slt v3276 c0_i32_1911
  let v3281 : BitVec 1 := Scalar.xori v3279 v3280
  let c0_i32_1909 : BitVec 32 := 0#32
  let v3278 : BitVec 1 := Scalar.cmpi .ne v3277 c0_i32_1909
  let v3282 : BitVec 1 := Scalar.andi v3281 v3278
  let v3283 : BitVec 32 := Scalar.addi v3277 v3276
  let v3284 : BitVec 32 := Scalar.select v3282 v3283 v3277
  let v3285 : BitVec 32 := Scalar.addi v3274 v3284
  let v3287 : BitVec 32 := Scalar.addi v3286 v3285
  let c1_i32_1918 : BitVec 32 := 1#32
  let v3288 : BitVec 32 := Scalar.muli v3287 c1_i32_1918
  let v3289 : BitVec 32 := Scalar.addi c0_i32_1919 v3288
  v3289.toNat
def k0_dev44 (d0 : Dev nD) : Nat :=
  let c0_i32_1959 : BitVec 32 := 0#32
  let c8_i32_1952 : BitVec 32 := 8#32
  let c2_i32_1931 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c3_i32_102 : BitVec 32 := 3#32
  let v197 : BitVec 32 := Scalar.addi v75 c3_i32_102
  let c4_i32_103 : BitVec 32 := 4#32
  let c0_i32_104 : BitVec 32 := 0#32
  let v198 : BitVec 1 := Scalar.cmpi .eq c4_i32_103 c0_i32_104
  let c1_i32_105 : BitVec 32 := 1#32
  let v199 : BitVec 32 := Scalar.select v198 c1_i32_105 c4_i32_103
  let v200 : BitVec 32 := Scalar.remsi v197 v199
  let c0_i32_107 : BitVec 32 := 0#32
  let v202 : BitVec 1 := Scalar.cmpi .slt v200 c0_i32_107
  let c0_i32_108 : BitVec 32 := 0#32
  let v203 : BitVec 1 := Scalar.cmpi .slt v199 c0_i32_108
  let v204 : BitVec 1 := Scalar.xori v202 v203
  let c0_i32_106 : BitVec 32 := 0#32
  let v201 : BitVec 1 := Scalar.cmpi .ne v200 c0_i32_106
  let v205 : BitVec 1 := Scalar.andi v204 v201
  let v206 : BitVec 32 := Scalar.addi v200 v199
  let v207 : BitVec 32 := Scalar.select v205 v206 v200
  let c0_i32_1925 : BitVec 32 := 0#32
  let v3299 : BitVec 1 := Scalar.cmpi .sgt v207 c0_i32_1925
  let v3300 : BitVec 32 := Scalar.extui v3299
  let c0_i32_1926 : BitVec 32 := 0#32
  let v3301 : BitVec 1 := Scalar.cmpi .slt v207 c0_i32_1926
  let v3302 : BitVec 32 := Scalar.extui v3301
  let v3303 : BitVec 32 := Scalar.subi v3300 v3302
  let c2_i32_1924 : BitVec 32 := 2#32
  let c0_i32_1927 : BitVec 32 := 0#32
  let v3304 : BitVec 1 := Scalar.cmpi .sgt c2_i32_1924 c0_i32_1927
  let v3305 : BitVec 32 := Scalar.extui v3304
  let c0_i32_1928 : BitVec 32 := 0#32
  let v3306 : BitVec 1 := Scalar.cmpi .slt c2_i32_1924 c0_i32_1928
  let v3307 : BitVec 32 := Scalar.extui v3306
  let v3308 : BitVec 32 := Scalar.subi v3305 v3307
  let v3309 : BitVec 1 := Scalar.cmpi .ne v3303 v3308
  let v3310 : BitVec 32 := Scalar.remsi v207 c2_i32_1924
  let c0_i32_1929 : BitVec 32 := 0#32
  let v3311 : BitVec 1 := Scalar.cmpi .ne v3310 c0_i32_1929
  let v3312 : BitVec 1 := Scalar.andi v3309 v3311
  let v3298 : BitVec 32 := Scalar.divsi v207 c2_i32_1924
  let c1_i32_1930 : BitVec 32 := 1#32
  let v3313 : BitVec 32 := Scalar.subi v3298 c1_i32_1930
  let v3314 : BitVec 32 := Scalar.select v3312 v3313 v3298
  let v3315 : BitVec 32 := Scalar.muli c2_i32_1931 v3314
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_1933 : BitVec 32 := 0#32
  let v3317 : BitVec 1 := Scalar.cmpi .sgt v97 c0_i32_1933
  let v3318 : BitVec 32 := Scalar.extui v3317
  let c0_i32_1934 : BitVec 32 := 0#32
  let v3319 : BitVec 1 := Scalar.cmpi .slt v97 c0_i32_1934
  let v3320 : BitVec 32 := Scalar.extui v3319
  let v3321 : BitVec 32 := Scalar.subi v3318 v3320
  let c4_i32_1932 : BitVec 32 := 4#32
  let c0_i32_1935 : BitVec 32 := 0#32
  let v3322 : BitVec 1 := Scalar.cmpi .sgt c4_i32_1932 c0_i32_1935
  let v3323 : BitVec 32 := Scalar.extui v3322
  let c0_i32_1936 : BitVec 32 := 0#32
  let v3324 : BitVec 1 := Scalar.cmpi .slt c4_i32_1932 c0_i32_1936
  let v3325 : BitVec 32 := Scalar.extui v3324
  let v3326 : BitVec 32 := Scalar.subi v3323 v3325
  let v3327 : BitVec 1 := Scalar.cmpi .ne v3321 v3326
  let v3328 : BitVec 32 := Scalar.remsi v97 c4_i32_1932
  let c0_i32_1937 : BitVec 32 := 0#32
  let v3329 : BitVec 1 := Scalar.cmpi .ne v3328 c0_i32_1937
  let v3330 : BitVec 1 := Scalar.andi v3327 v3329
  let v3316 : BitVec 32 := Scalar.divsi v97 c4_i32_1932
  let c1_i32_1938 : BitVec 32 := 1#32
  let v3331 : BitVec 32 := Scalar.subi v3316 c1_i32_1938
  let v3332 : BitVec 32 := Scalar.select v3330 v3331 v3316
  let v3333 : BitVec 32 := Scalar.addi v3315 v3332
  let v3356 : BitVec 32 := Scalar.muli c8_i32_1952 v3333
  let c4_i32_1945 : BitVec 32 := 4#32
  let c2_i32_1939 : BitVec 32 := 2#32
  let c0_i32_1940 : BitVec 32 := 0#32
  let v3334 : BitVec 1 := Scalar.cmpi .eq c2_i32_1939 c0_i32_1940
  let c1_i32_1941 : BitVec 32 := 1#32
  let v3335 : BitVec 32 := Scalar.select v3334 c1_i32_1941 c2_i32_1939
  let v3336 : BitVec 32 := Scalar.remsi v207 v3335
  let c0_i32_1943 : BitVec 32 := 0#32
  let v3338 : BitVec 1 := Scalar.cmpi .slt v3336 c0_i32_1943
  let c0_i32_1944 : BitVec 32 := 0#32
  let v3339 : BitVec 1 := Scalar.cmpi .slt v3335 c0_i32_1944
  let v3340 : BitVec 1 := Scalar.xori v3338 v3339
  let c0_i32_1942 : BitVec 32 := 0#32
  let v3337 : BitVec 1 := Scalar.cmpi .ne v3336 c0_i32_1942
  let v3341 : BitVec 1 := Scalar.andi v3340 v3337
  let v3342 : BitVec 32 := Scalar.addi v3336 v3335
  let v3343 : BitVec 32 := Scalar.select v3341 v3342 v3336
  let v3344 : BitVec 32 := Scalar.muli c4_i32_1945 v3343
  let c4_i32_1946 : BitVec 32 := 4#32
  let c0_i32_1947 : BitVec 32 := 0#32
  let v3345 : BitVec 1 := Scalar.cmpi .eq c4_i32_1946 c0_i32_1947
  let c1_i32_1948 : BitVec 32 := 1#32
  let v3346 : BitVec 32 := Scalar.select v3345 c1_i32_1948 c4_i32_1946
  let v3347 : BitVec 32 := Scalar.remsi v97 v3346
  let c0_i32_1950 : BitVec 32 := 0#32
  let v3349 : BitVec 1 := Scalar.cmpi .slt v3347 c0_i32_1950
  let c0_i32_1951 : BitVec 32 := 0#32
  let v3350 : BitVec 1 := Scalar.cmpi .slt v3346 c0_i32_1951
  let v3351 : BitVec 1 := Scalar.xori v3349 v3350
  let c0_i32_1949 : BitVec 32 := 0#32
  let v3348 : BitVec 1 := Scalar.cmpi .ne v3347 c0_i32_1949
  let v3352 : BitVec 1 := Scalar.andi v3351 v3348
  let v3353 : BitVec 32 := Scalar.addi v3347 v3346
  let v3354 : BitVec 32 := Scalar.select v3352 v3353 v3347
  let v3355 : BitVec 32 := Scalar.addi v3344 v3354
  let v3357 : BitVec 32 := Scalar.addi v3356 v3355
  let c1_i32_1958 : BitVec 32 := 1#32
  let v3358 : BitVec 32 := Scalar.muli v3357 c1_i32_1958
  let v3359 : BitVec 32 := Scalar.addi c0_i32_1959 v3358
  v3359.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_2033 : BitVec 32 := 128#32
  let v3416 : BitVec 32 := Scalar.muli v97 c128_i32_2033
  let v3417 : Index := Scalar.indexCast v3416
  let c512_2034 : Index := 512#32
  ![v3417.toNat, 512]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_2043 : BitVec 32 := 128#32
  let v3432 : BitVec 32 := Scalar.muli v97 c128_i32_2043
  let c512_i32_2082 : BitVec 32 := 512#32
  ![v3432.toNat, 512]
def k0_dev45 (d0 : Dev nD) : Nat :=
  let c0_i32_2079 : BitVec 32 := 0#32
  let c8_i32_2072 : BitVec 32 := 8#32
  let c2_i32_2051 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c1_i32_88 : BitVec 32 := 1#32
  let v175 : BitVec 32 := Scalar.addi v75 c1_i32_88
  let c4_i32_89 : BitVec 32 := 4#32
  let c0_i32_90 : BitVec 32 := 0#32
  let v176 : BitVec 1 := Scalar.cmpi .eq c4_i32_89 c0_i32_90
  let c1_i32_91 : BitVec 32 := 1#32
  let v177 : BitVec 32 := Scalar.select v176 c1_i32_91 c4_i32_89
  let v178 : BitVec 32 := Scalar.remsi v175 v177
  let c0_i32_93 : BitVec 32 := 0#32
  let v180 : BitVec 1 := Scalar.cmpi .slt v178 c0_i32_93
  let c0_i32_94 : BitVec 32 := 0#32
  let v181 : BitVec 1 := Scalar.cmpi .slt v177 c0_i32_94
  let v182 : BitVec 1 := Scalar.xori v180 v181
  let c0_i32_92 : BitVec 32 := 0#32
  let v179 : BitVec 1 := Scalar.cmpi .ne v178 c0_i32_92
  let v183 : BitVec 1 := Scalar.andi v182 v179
  let v184 : BitVec 32 := Scalar.addi v178 v177
  let v185 : BitVec 32 := Scalar.select v183 v184 v178
  let c0_i32_2045 : BitVec 32 := 0#32
  let v3434 : BitVec 1 := Scalar.cmpi .sgt v185 c0_i32_2045
  let v3435 : BitVec 32 := Scalar.extui v3434
  let c0_i32_2046 : BitVec 32 := 0#32
  let v3436 : BitVec 1 := Scalar.cmpi .slt v185 c0_i32_2046
  let v3437 : BitVec 32 := Scalar.extui v3436
  let v3438 : BitVec 32 := Scalar.subi v3435 v3437
  let c2_i32_2044 : BitVec 32 := 2#32
  let c0_i32_2047 : BitVec 32 := 0#32
  let v3439 : BitVec 1 := Scalar.cmpi .sgt c2_i32_2044 c0_i32_2047
  let v3440 : BitVec 32 := Scalar.extui v3439
  let c0_i32_2048 : BitVec 32 := 0#32
  let v3441 : BitVec 1 := Scalar.cmpi .slt c2_i32_2044 c0_i32_2048
  let v3442 : BitVec 32 := Scalar.extui v3441
  let v3443 : BitVec 32 := Scalar.subi v3440 v3442
  let v3444 : BitVec 1 := Scalar.cmpi .ne v3438 v3443
  let v3445 : BitVec 32 := Scalar.remsi v185 c2_i32_2044
  let c0_i32_2049 : BitVec 32 := 0#32
  let v3446 : BitVec 1 := Scalar.cmpi .ne v3445 c0_i32_2049
  let v3447 : BitVec 1 := Scalar.andi v3444 v3446
  let v3433 : BitVec 32 := Scalar.divsi v185 c2_i32_2044
  let c1_i32_2050 : BitVec 32 := 1#32
  let v3448 : BitVec 32 := Scalar.subi v3433 c1_i32_2050
  let v3449 : BitVec 32 := Scalar.select v3447 v3448 v3433
  let v3450 : BitVec 32 := Scalar.muli c2_i32_2051 v3449
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_2053 : BitVec 32 := 0#32
  let v3452 : BitVec 1 := Scalar.cmpi .sgt v97 c0_i32_2053
  let v3453 : BitVec 32 := Scalar.extui v3452
  let c0_i32_2054 : BitVec 32 := 0#32
  let v3454 : BitVec 1 := Scalar.cmpi .slt v97 c0_i32_2054
  let v3455 : BitVec 32 := Scalar.extui v3454
  let v3456 : BitVec 32 := Scalar.subi v3453 v3455
  let c4_i32_2052 : BitVec 32 := 4#32
  let c0_i32_2055 : BitVec 32 := 0#32
  let v3457 : BitVec 1 := Scalar.cmpi .sgt c4_i32_2052 c0_i32_2055
  let v3458 : BitVec 32 := Scalar.extui v3457
  let c0_i32_2056 : BitVec 32 := 0#32
  let v3459 : BitVec 1 := Scalar.cmpi .slt c4_i32_2052 c0_i32_2056
  let v3460 : BitVec 32 := Scalar.extui v3459
  let v3461 : BitVec 32 := Scalar.subi v3458 v3460
  let v3462 : BitVec 1 := Scalar.cmpi .ne v3456 v3461
  let v3463 : BitVec 32 := Scalar.remsi v97 c4_i32_2052
  let c0_i32_2057 : BitVec 32 := 0#32
  let v3464 : BitVec 1 := Scalar.cmpi .ne v3463 c0_i32_2057
  let v3465 : BitVec 1 := Scalar.andi v3462 v3464
  let v3451 : BitVec 32 := Scalar.divsi v97 c4_i32_2052
  let c1_i32_2058 : BitVec 32 := 1#32
  let v3466 : BitVec 32 := Scalar.subi v3451 c1_i32_2058
  let v3467 : BitVec 32 := Scalar.select v3465 v3466 v3451
  let v3468 : BitVec 32 := Scalar.addi v3450 v3467
  let v3491 : BitVec 32 := Scalar.muli c8_i32_2072 v3468
  let c4_i32_2065 : BitVec 32 := 4#32
  let c2_i32_2059 : BitVec 32 := 2#32
  let c0_i32_2060 : BitVec 32 := 0#32
  let v3469 : BitVec 1 := Scalar.cmpi .eq c2_i32_2059 c0_i32_2060
  let c1_i32_2061 : BitVec 32 := 1#32
  let v3470 : BitVec 32 := Scalar.select v3469 c1_i32_2061 c2_i32_2059
  let v3471 : BitVec 32 := Scalar.remsi v185 v3470
  let c0_i32_2063 : BitVec 32 := 0#32
  let v3473 : BitVec 1 := Scalar.cmpi .slt v3471 c0_i32_2063
  let c0_i32_2064 : BitVec 32 := 0#32
  let v3474 : BitVec 1 := Scalar.cmpi .slt v3470 c0_i32_2064
  let v3475 : BitVec 1 := Scalar.xori v3473 v3474
  let c0_i32_2062 : BitVec 32 := 0#32
  let v3472 : BitVec 1 := Scalar.cmpi .ne v3471 c0_i32_2062
  let v3476 : BitVec 1 := Scalar.andi v3475 v3472
  let v3477 : BitVec 32 := Scalar.addi v3471 v3470
  let v3478 : BitVec 32 := Scalar.select v3476 v3477 v3471
  let v3479 : BitVec 32 := Scalar.muli c4_i32_2065 v3478
  let c4_i32_2066 : BitVec 32 := 4#32
  let c0_i32_2067 : BitVec 32 := 0#32
  let v3480 : BitVec 1 := Scalar.cmpi .eq c4_i32_2066 c0_i32_2067
  let c1_i32_2068 : BitVec 32 := 1#32
  let v3481 : BitVec 32 := Scalar.select v3480 c1_i32_2068 c4_i32_2066
  let v3482 : BitVec 32 := Scalar.remsi v97 v3481
  let c0_i32_2070 : BitVec 32 := 0#32
  let v3484 : BitVec 1 := Scalar.cmpi .slt v3482 c0_i32_2070
  let c0_i32_2071 : BitVec 32 := 0#32
  let v3485 : BitVec 1 := Scalar.cmpi .slt v3481 c0_i32_2071
  let v3486 : BitVec 1 := Scalar.xori v3484 v3485
  let c0_i32_2069 : BitVec 32 := 0#32
  let v3483 : BitVec 1 := Scalar.cmpi .ne v3482 c0_i32_2069
  let v3487 : BitVec 1 := Scalar.andi v3486 v3483
  let v3488 : BitVec 32 := Scalar.addi v3482 v3481
  let v3489 : BitVec 32 := Scalar.select v3487 v3488 v3482
  let v3490 : BitVec 32 := Scalar.addi v3479 v3489
  let v3492 : BitVec 32 := Scalar.addi v3491 v3490
  let c1_i32_2078 : BitVec 32 := 1#32
  let v3493 : BitVec 32 := Scalar.muli v3492 c1_i32_2078
  let v3494 : BitVec 32 := Scalar.addi c0_i32_2079 v3493
  v3494.toNat
def k0_dev46 (d0 : Dev nD) : Nat :=
  let c0_i32_2119 : BitVec 32 := 0#32
  let c8_i32_2112 : BitVec 32 := 8#32
  let c2_i32_2091 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c2_i32_95 : BitVec 32 := 2#32
  let v186 : BitVec 32 := Scalar.addi v75 c2_i32_95
  let c4_i32_96 : BitVec 32 := 4#32
  let c0_i32_97 : BitVec 32 := 0#32
  let v187 : BitVec 1 := Scalar.cmpi .eq c4_i32_96 c0_i32_97
  let c1_i32_98 : BitVec 32 := 1#32
  let v188 : BitVec 32 := Scalar.select v187 c1_i32_98 c4_i32_96
  let v189 : BitVec 32 := Scalar.remsi v186 v188
  let c0_i32_100 : BitVec 32 := 0#32
  let v191 : BitVec 1 := Scalar.cmpi .slt v189 c0_i32_100
  let c0_i32_101 : BitVec 32 := 0#32
  let v192 : BitVec 1 := Scalar.cmpi .slt v188 c0_i32_101
  let v193 : BitVec 1 := Scalar.xori v191 v192
  let c0_i32_99 : BitVec 32 := 0#32
  let v190 : BitVec 1 := Scalar.cmpi .ne v189 c0_i32_99
  let v194 : BitVec 1 := Scalar.andi v193 v190
  let v195 : BitVec 32 := Scalar.addi v189 v188
  let v196 : BitVec 32 := Scalar.select v194 v195 v189
  let c0_i32_2085 : BitVec 32 := 0#32
  let v3504 : BitVec 1 := Scalar.cmpi .sgt v196 c0_i32_2085
  let v3505 : BitVec 32 := Scalar.extui v3504
  let c0_i32_2086 : BitVec 32 := 0#32
  let v3506 : BitVec 1 := Scalar.cmpi .slt v196 c0_i32_2086
  let v3507 : BitVec 32 := Scalar.extui v3506
  let v3508 : BitVec 32 := Scalar.subi v3505 v3507
  let c2_i32_2084 : BitVec 32 := 2#32
  let c0_i32_2087 : BitVec 32 := 0#32
  let v3509 : BitVec 1 := Scalar.cmpi .sgt c2_i32_2084 c0_i32_2087
  let v3510 : BitVec 32 := Scalar.extui v3509
  let c0_i32_2088 : BitVec 32 := 0#32
  let v3511 : BitVec 1 := Scalar.cmpi .slt c2_i32_2084 c0_i32_2088
  let v3512 : BitVec 32 := Scalar.extui v3511
  let v3513 : BitVec 32 := Scalar.subi v3510 v3512
  let v3514 : BitVec 1 := Scalar.cmpi .ne v3508 v3513
  let v3515 : BitVec 32 := Scalar.remsi v196 c2_i32_2084
  let c0_i32_2089 : BitVec 32 := 0#32
  let v3516 : BitVec 1 := Scalar.cmpi .ne v3515 c0_i32_2089
  let v3517 : BitVec 1 := Scalar.andi v3514 v3516
  let v3503 : BitVec 32 := Scalar.divsi v196 c2_i32_2084
  let c1_i32_2090 : BitVec 32 := 1#32
  let v3518 : BitVec 32 := Scalar.subi v3503 c1_i32_2090
  let v3519 : BitVec 32 := Scalar.select v3517 v3518 v3503
  let v3520 : BitVec 32 := Scalar.muli c2_i32_2091 v3519
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_2093 : BitVec 32 := 0#32
  let v3522 : BitVec 1 := Scalar.cmpi .sgt v97 c0_i32_2093
  let v3523 : BitVec 32 := Scalar.extui v3522
  let c0_i32_2094 : BitVec 32 := 0#32
  let v3524 : BitVec 1 := Scalar.cmpi .slt v97 c0_i32_2094
  let v3525 : BitVec 32 := Scalar.extui v3524
  let v3526 : BitVec 32 := Scalar.subi v3523 v3525
  let c4_i32_2092 : BitVec 32 := 4#32
  let c0_i32_2095 : BitVec 32 := 0#32
  let v3527 : BitVec 1 := Scalar.cmpi .sgt c4_i32_2092 c0_i32_2095
  let v3528 : BitVec 32 := Scalar.extui v3527
  let c0_i32_2096 : BitVec 32 := 0#32
  let v3529 : BitVec 1 := Scalar.cmpi .slt c4_i32_2092 c0_i32_2096
  let v3530 : BitVec 32 := Scalar.extui v3529
  let v3531 : BitVec 32 := Scalar.subi v3528 v3530
  let v3532 : BitVec 1 := Scalar.cmpi .ne v3526 v3531
  let v3533 : BitVec 32 := Scalar.remsi v97 c4_i32_2092
  let c0_i32_2097 : BitVec 32 := 0#32
  let v3534 : BitVec 1 := Scalar.cmpi .ne v3533 c0_i32_2097
  let v3535 : BitVec 1 := Scalar.andi v3532 v3534
  let v3521 : BitVec 32 := Scalar.divsi v97 c4_i32_2092
  let c1_i32_2098 : BitVec 32 := 1#32
  let v3536 : BitVec 32 := Scalar.subi v3521 c1_i32_2098
  let v3537 : BitVec 32 := Scalar.select v3535 v3536 v3521
  let v3538 : BitVec 32 := Scalar.addi v3520 v3537
  let v3561 : BitVec 32 := Scalar.muli c8_i32_2112 v3538
  let c4_i32_2105 : BitVec 32 := 4#32
  let c2_i32_2099 : BitVec 32 := 2#32
  let c0_i32_2100 : BitVec 32 := 0#32
  let v3539 : BitVec 1 := Scalar.cmpi .eq c2_i32_2099 c0_i32_2100
  let c1_i32_2101 : BitVec 32 := 1#32
  let v3540 : BitVec 32 := Scalar.select v3539 c1_i32_2101 c2_i32_2099
  let v3541 : BitVec 32 := Scalar.remsi v196 v3540
  let c0_i32_2103 : BitVec 32 := 0#32
  let v3543 : BitVec 1 := Scalar.cmpi .slt v3541 c0_i32_2103
  let c0_i32_2104 : BitVec 32 := 0#32
  let v3544 : BitVec 1 := Scalar.cmpi .slt v3540 c0_i32_2104
  let v3545 : BitVec 1 := Scalar.xori v3543 v3544
  let c0_i32_2102 : BitVec 32 := 0#32
  let v3542 : BitVec 1 := Scalar.cmpi .ne v3541 c0_i32_2102
  let v3546 : BitVec 1 := Scalar.andi v3545 v3542
  let v3547 : BitVec 32 := Scalar.addi v3541 v3540
  let v3548 : BitVec 32 := Scalar.select v3546 v3547 v3541
  let v3549 : BitVec 32 := Scalar.muli c4_i32_2105 v3548
  let c4_i32_2106 : BitVec 32 := 4#32
  let c0_i32_2107 : BitVec 32 := 0#32
  let v3550 : BitVec 1 := Scalar.cmpi .eq c4_i32_2106 c0_i32_2107
  let c1_i32_2108 : BitVec 32 := 1#32
  let v3551 : BitVec 32 := Scalar.select v3550 c1_i32_2108 c4_i32_2106
  let v3552 : BitVec 32 := Scalar.remsi v97 v3551
  let c0_i32_2110 : BitVec 32 := 0#32
  let v3554 : BitVec 1 := Scalar.cmpi .slt v3552 c0_i32_2110
  let c0_i32_2111 : BitVec 32 := 0#32
  let v3555 : BitVec 1 := Scalar.cmpi .slt v3551 c0_i32_2111
  let v3556 : BitVec 1 := Scalar.xori v3554 v3555
  let c0_i32_2109 : BitVec 32 := 0#32
  let v3553 : BitVec 1 := Scalar.cmpi .ne v3552 c0_i32_2109
  let v3557 : BitVec 1 := Scalar.andi v3556 v3553
  let v3558 : BitVec 32 := Scalar.addi v3552 v3551
  let v3559 : BitVec 32 := Scalar.select v3557 v3558 v3552
  let v3560 : BitVec 32 := Scalar.addi v3549 v3559
  let v3562 : BitVec 32 := Scalar.addi v3561 v3560
  let c1_i32_2118 : BitVec 32 := 1#32
  let v3563 : BitVec 32 := Scalar.muli v3562 c1_i32_2118
  let v3564 : BitVec 32 := Scalar.addi c0_i32_2119 v3563
  v3564.toNat
def k0_dev47 (d0 : Dev nD) : Nat :=
  let c0_i32_2159 : BitVec 32 := 0#32
  let c8_i32_2152 : BitVec 32 := 8#32
  let c2_i32_2131 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c3_i32_102 : BitVec 32 := 3#32
  let v197 : BitVec 32 := Scalar.addi v75 c3_i32_102
  let c4_i32_103 : BitVec 32 := 4#32
  let c0_i32_104 : BitVec 32 := 0#32
  let v198 : BitVec 1 := Scalar.cmpi .eq c4_i32_103 c0_i32_104
  let c1_i32_105 : BitVec 32 := 1#32
  let v199 : BitVec 32 := Scalar.select v198 c1_i32_105 c4_i32_103
  let v200 : BitVec 32 := Scalar.remsi v197 v199
  let c0_i32_107 : BitVec 32 := 0#32
  let v202 : BitVec 1 := Scalar.cmpi .slt v200 c0_i32_107
  let c0_i32_108 : BitVec 32 := 0#32
  let v203 : BitVec 1 := Scalar.cmpi .slt v199 c0_i32_108
  let v204 : BitVec 1 := Scalar.xori v202 v203
  let c0_i32_106 : BitVec 32 := 0#32
  let v201 : BitVec 1 := Scalar.cmpi .ne v200 c0_i32_106
  let v205 : BitVec 1 := Scalar.andi v204 v201
  let v206 : BitVec 32 := Scalar.addi v200 v199
  let v207 : BitVec 32 := Scalar.select v205 v206 v200
  let c0_i32_2125 : BitVec 32 := 0#32
  let v3574 : BitVec 1 := Scalar.cmpi .sgt v207 c0_i32_2125
  let v3575 : BitVec 32 := Scalar.extui v3574
  let c0_i32_2126 : BitVec 32 := 0#32
  let v3576 : BitVec 1 := Scalar.cmpi .slt v207 c0_i32_2126
  let v3577 : BitVec 32 := Scalar.extui v3576
  let v3578 : BitVec 32 := Scalar.subi v3575 v3577
  let c2_i32_2124 : BitVec 32 := 2#32
  let c0_i32_2127 : BitVec 32 := 0#32
  let v3579 : BitVec 1 := Scalar.cmpi .sgt c2_i32_2124 c0_i32_2127
  let v3580 : BitVec 32 := Scalar.extui v3579
  let c0_i32_2128 : BitVec 32 := 0#32
  let v3581 : BitVec 1 := Scalar.cmpi .slt c2_i32_2124 c0_i32_2128
  let v3582 : BitVec 32 := Scalar.extui v3581
  let v3583 : BitVec 32 := Scalar.subi v3580 v3582
  let v3584 : BitVec 1 := Scalar.cmpi .ne v3578 v3583
  let v3585 : BitVec 32 := Scalar.remsi v207 c2_i32_2124
  let c0_i32_2129 : BitVec 32 := 0#32
  let v3586 : BitVec 1 := Scalar.cmpi .ne v3585 c0_i32_2129
  let v3587 : BitVec 1 := Scalar.andi v3584 v3586
  let v3573 : BitVec 32 := Scalar.divsi v207 c2_i32_2124
  let c1_i32_2130 : BitVec 32 := 1#32
  let v3588 : BitVec 32 := Scalar.subi v3573 c1_i32_2130
  let v3589 : BitVec 32 := Scalar.select v3587 v3588 v3573
  let v3590 : BitVec 32 := Scalar.muli c2_i32_2131 v3589
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_2133 : BitVec 32 := 0#32
  let v3592 : BitVec 1 := Scalar.cmpi .sgt v97 c0_i32_2133
  let v3593 : BitVec 32 := Scalar.extui v3592
  let c0_i32_2134 : BitVec 32 := 0#32
  let v3594 : BitVec 1 := Scalar.cmpi .slt v97 c0_i32_2134
  let v3595 : BitVec 32 := Scalar.extui v3594
  let v3596 : BitVec 32 := Scalar.subi v3593 v3595
  let c4_i32_2132 : BitVec 32 := 4#32
  let c0_i32_2135 : BitVec 32 := 0#32
  let v3597 : BitVec 1 := Scalar.cmpi .sgt c4_i32_2132 c0_i32_2135
  let v3598 : BitVec 32 := Scalar.extui v3597
  let c0_i32_2136 : BitVec 32 := 0#32
  let v3599 : BitVec 1 := Scalar.cmpi .slt c4_i32_2132 c0_i32_2136
  let v3600 : BitVec 32 := Scalar.extui v3599
  let v3601 : BitVec 32 := Scalar.subi v3598 v3600
  let v3602 : BitVec 1 := Scalar.cmpi .ne v3596 v3601
  let v3603 : BitVec 32 := Scalar.remsi v97 c4_i32_2132
  let c0_i32_2137 : BitVec 32 := 0#32
  let v3604 : BitVec 1 := Scalar.cmpi .ne v3603 c0_i32_2137
  let v3605 : BitVec 1 := Scalar.andi v3602 v3604
  let v3591 : BitVec 32 := Scalar.divsi v97 c4_i32_2132
  let c1_i32_2138 : BitVec 32 := 1#32
  let v3606 : BitVec 32 := Scalar.subi v3591 c1_i32_2138
  let v3607 : BitVec 32 := Scalar.select v3605 v3606 v3591
  let v3608 : BitVec 32 := Scalar.addi v3590 v3607
  let v3631 : BitVec 32 := Scalar.muli c8_i32_2152 v3608
  let c4_i32_2145 : BitVec 32 := 4#32
  let c2_i32_2139 : BitVec 32 := 2#32
  let c0_i32_2140 : BitVec 32 := 0#32
  let v3609 : BitVec 1 := Scalar.cmpi .eq c2_i32_2139 c0_i32_2140
  let c1_i32_2141 : BitVec 32 := 1#32
  let v3610 : BitVec 32 := Scalar.select v3609 c1_i32_2141 c2_i32_2139
  let v3611 : BitVec 32 := Scalar.remsi v207 v3610
  let c0_i32_2143 : BitVec 32 := 0#32
  let v3613 : BitVec 1 := Scalar.cmpi .slt v3611 c0_i32_2143
  let c0_i32_2144 : BitVec 32 := 0#32
  let v3614 : BitVec 1 := Scalar.cmpi .slt v3610 c0_i32_2144
  let v3615 : BitVec 1 := Scalar.xori v3613 v3614
  let c0_i32_2142 : BitVec 32 := 0#32
  let v3612 : BitVec 1 := Scalar.cmpi .ne v3611 c0_i32_2142
  let v3616 : BitVec 1 := Scalar.andi v3615 v3612
  let v3617 : BitVec 32 := Scalar.addi v3611 v3610
  let v3618 : BitVec 32 := Scalar.select v3616 v3617 v3611
  let v3619 : BitVec 32 := Scalar.muli c4_i32_2145 v3618
  let c4_i32_2146 : BitVec 32 := 4#32
  let c0_i32_2147 : BitVec 32 := 0#32
  let v3620 : BitVec 1 := Scalar.cmpi .eq c4_i32_2146 c0_i32_2147
  let c1_i32_2148 : BitVec 32 := 1#32
  let v3621 : BitVec 32 := Scalar.select v3620 c1_i32_2148 c4_i32_2146
  let v3622 : BitVec 32 := Scalar.remsi v97 v3621
  let c0_i32_2150 : BitVec 32 := 0#32
  let v3624 : BitVec 1 := Scalar.cmpi .slt v3622 c0_i32_2150
  let c0_i32_2151 : BitVec 32 := 0#32
  let v3625 : BitVec 1 := Scalar.cmpi .slt v3621 c0_i32_2151
  let v3626 : BitVec 1 := Scalar.xori v3624 v3625
  let c0_i32_2149 : BitVec 32 := 0#32
  let v3623 : BitVec 1 := Scalar.cmpi .ne v3622 c0_i32_2149
  let v3627 : BitVec 1 := Scalar.andi v3626 v3623
  let v3628 : BitVec 32 := Scalar.addi v3622 v3621
  let v3629 : BitVec 32 := Scalar.select v3627 v3628 v3622
  let v3630 : BitVec 32 := Scalar.addi v3619 v3629
  let v3632 : BitVec 32 := Scalar.addi v3631 v3630
  let c1_i32_2158 : BitVec 32 := 1#32
  let v3633 : BitVec 32 := Scalar.muli v3632 c1_i32_2158
  let v3634 : BitVec 32 := Scalar.addi c0_i32_2159 v3633
  v3634.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_2233 : BitVec 32 := 128#32
  let v3691 : BitVec 32 := Scalar.muli v97 c128_i32_2233
  let v3692 : Index := Scalar.indexCast v3691
  let c768_2234 : Index := 768#32
  ![v3692.toNat, 768]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c128_i32_2243 : BitVec 32 := 128#32
  let v3707 : BitVec 32 := Scalar.muli v97 c128_i32_2243
  let c768_i32_2282 : BitVec 32 := 768#32
  ![v3707.toNat, 768]
def k0_dev48 (d0 : Dev nD) : Nat :=
  let c0_i32_2279 : BitVec 32 := 0#32
  let c8_i32_2272 : BitVec 32 := 8#32
  let c2_i32_2251 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c1_i32_88 : BitVec 32 := 1#32
  let v175 : BitVec 32 := Scalar.addi v75 c1_i32_88
  let c4_i32_89 : BitVec 32 := 4#32
  let c0_i32_90 : BitVec 32 := 0#32
  let v176 : BitVec 1 := Scalar.cmpi .eq c4_i32_89 c0_i32_90
  let c1_i32_91 : BitVec 32 := 1#32
  let v177 : BitVec 32 := Scalar.select v176 c1_i32_91 c4_i32_89
  let v178 : BitVec 32 := Scalar.remsi v175 v177
  let c0_i32_93 : BitVec 32 := 0#32
  let v180 : BitVec 1 := Scalar.cmpi .slt v178 c0_i32_93
  let c0_i32_94 : BitVec 32 := 0#32
  let v181 : BitVec 1 := Scalar.cmpi .slt v177 c0_i32_94
  let v182 : BitVec 1 := Scalar.xori v180 v181
  let c0_i32_92 : BitVec 32 := 0#32
  let v179 : BitVec 1 := Scalar.cmpi .ne v178 c0_i32_92
  let v183 : BitVec 1 := Scalar.andi v182 v179
  let v184 : BitVec 32 := Scalar.addi v178 v177
  let v185 : BitVec 32 := Scalar.select v183 v184 v178
  let c0_i32_2245 : BitVec 32 := 0#32
  let v3709 : BitVec 1 := Scalar.cmpi .sgt v185 c0_i32_2245
  let v3710 : BitVec 32 := Scalar.extui v3709
  let c0_i32_2246 : BitVec 32 := 0#32
  let v3711 : BitVec 1 := Scalar.cmpi .slt v185 c0_i32_2246
  let v3712 : BitVec 32 := Scalar.extui v3711
  let v3713 : BitVec 32 := Scalar.subi v3710 v3712
  let c2_i32_2244 : BitVec 32 := 2#32
  let c0_i32_2247 : BitVec 32 := 0#32
  let v3714 : BitVec 1 := Scalar.cmpi .sgt c2_i32_2244 c0_i32_2247
  let v3715 : BitVec 32 := Scalar.extui v3714
  let c0_i32_2248 : BitVec 32 := 0#32
  let v3716 : BitVec 1 := Scalar.cmpi .slt c2_i32_2244 c0_i32_2248
  let v3717 : BitVec 32 := Scalar.extui v3716
  let v3718 : BitVec 32 := Scalar.subi v3715 v3717
  let v3719 : BitVec 1 := Scalar.cmpi .ne v3713 v3718
  let v3720 : BitVec 32 := Scalar.remsi v185 c2_i32_2244
  let c0_i32_2249 : BitVec 32 := 0#32
  let v3721 : BitVec 1 := Scalar.cmpi .ne v3720 c0_i32_2249
  let v3722 : BitVec 1 := Scalar.andi v3719 v3721
  let v3708 : BitVec 32 := Scalar.divsi v185 c2_i32_2244
  let c1_i32_2250 : BitVec 32 := 1#32
  let v3723 : BitVec 32 := Scalar.subi v3708 c1_i32_2250
  let v3724 : BitVec 32 := Scalar.select v3722 v3723 v3708
  let v3725 : BitVec 32 := Scalar.muli c2_i32_2251 v3724
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_2253 : BitVec 32 := 0#32
  let v3727 : BitVec 1 := Scalar.cmpi .sgt v97 c0_i32_2253
  let v3728 : BitVec 32 := Scalar.extui v3727
  let c0_i32_2254 : BitVec 32 := 0#32
  let v3729 : BitVec 1 := Scalar.cmpi .slt v97 c0_i32_2254
  let v3730 : BitVec 32 := Scalar.extui v3729
  let v3731 : BitVec 32 := Scalar.subi v3728 v3730
  let c4_i32_2252 : BitVec 32 := 4#32
  let c0_i32_2255 : BitVec 32 := 0#32
  let v3732 : BitVec 1 := Scalar.cmpi .sgt c4_i32_2252 c0_i32_2255
  let v3733 : BitVec 32 := Scalar.extui v3732
  let c0_i32_2256 : BitVec 32 := 0#32
  let v3734 : BitVec 1 := Scalar.cmpi .slt c4_i32_2252 c0_i32_2256
  let v3735 : BitVec 32 := Scalar.extui v3734
  let v3736 : BitVec 32 := Scalar.subi v3733 v3735
  let v3737 : BitVec 1 := Scalar.cmpi .ne v3731 v3736
  let v3738 : BitVec 32 := Scalar.remsi v97 c4_i32_2252
  let c0_i32_2257 : BitVec 32 := 0#32
  let v3739 : BitVec 1 := Scalar.cmpi .ne v3738 c0_i32_2257
  let v3740 : BitVec 1 := Scalar.andi v3737 v3739
  let v3726 : BitVec 32 := Scalar.divsi v97 c4_i32_2252
  let c1_i32_2258 : BitVec 32 := 1#32
  let v3741 : BitVec 32 := Scalar.subi v3726 c1_i32_2258
  let v3742 : BitVec 32 := Scalar.select v3740 v3741 v3726
  let v3743 : BitVec 32 := Scalar.addi v3725 v3742
  let v3766 : BitVec 32 := Scalar.muli c8_i32_2272 v3743
  let c4_i32_2265 : BitVec 32 := 4#32
  let c2_i32_2259 : BitVec 32 := 2#32
  let c0_i32_2260 : BitVec 32 := 0#32
  let v3744 : BitVec 1 := Scalar.cmpi .eq c2_i32_2259 c0_i32_2260
  let c1_i32_2261 : BitVec 32 := 1#32
  let v3745 : BitVec 32 := Scalar.select v3744 c1_i32_2261 c2_i32_2259
  let v3746 : BitVec 32 := Scalar.remsi v185 v3745
  let c0_i32_2263 : BitVec 32 := 0#32
  let v3748 : BitVec 1 := Scalar.cmpi .slt v3746 c0_i32_2263
  let c0_i32_2264 : BitVec 32 := 0#32
  let v3749 : BitVec 1 := Scalar.cmpi .slt v3745 c0_i32_2264
  let v3750 : BitVec 1 := Scalar.xori v3748 v3749
  let c0_i32_2262 : BitVec 32 := 0#32
  let v3747 : BitVec 1 := Scalar.cmpi .ne v3746 c0_i32_2262
  let v3751 : BitVec 1 := Scalar.andi v3750 v3747
  let v3752 : BitVec 32 := Scalar.addi v3746 v3745
  let v3753 : BitVec 32 := Scalar.select v3751 v3752 v3746
  let v3754 : BitVec 32 := Scalar.muli c4_i32_2265 v3753
  let c4_i32_2266 : BitVec 32 := 4#32
  let c0_i32_2267 : BitVec 32 := 0#32
  let v3755 : BitVec 1 := Scalar.cmpi .eq c4_i32_2266 c0_i32_2267
  let c1_i32_2268 : BitVec 32 := 1#32
  let v3756 : BitVec 32 := Scalar.select v3755 c1_i32_2268 c4_i32_2266
  let v3757 : BitVec 32 := Scalar.remsi v97 v3756
  let c0_i32_2270 : BitVec 32 := 0#32
  let v3759 : BitVec 1 := Scalar.cmpi .slt v3757 c0_i32_2270
  let c0_i32_2271 : BitVec 32 := 0#32
  let v3760 : BitVec 1 := Scalar.cmpi .slt v3756 c0_i32_2271
  let v3761 : BitVec 1 := Scalar.xori v3759 v3760
  let c0_i32_2269 : BitVec 32 := 0#32
  let v3758 : BitVec 1 := Scalar.cmpi .ne v3757 c0_i32_2269
  let v3762 : BitVec 1 := Scalar.andi v3761 v3758
  let v3763 : BitVec 32 := Scalar.addi v3757 v3756
  let v3764 : BitVec 32 := Scalar.select v3762 v3763 v3757
  let v3765 : BitVec 32 := Scalar.addi v3754 v3764
  let v3767 : BitVec 32 := Scalar.addi v3766 v3765
  let c1_i32_2278 : BitVec 32 := 1#32
  let v3768 : BitVec 32 := Scalar.muli v3767 c1_i32_2278
  let v3769 : BitVec 32 := Scalar.addi c0_i32_2279 v3768
  v3769.toNat
def k0_dev49 (d0 : Dev nD) : Nat :=
  let c0_i32_2319 : BitVec 32 := 0#32
  let c8_i32_2312 : BitVec 32 := 8#32
  let c2_i32_2291 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c2_i32_95 : BitVec 32 := 2#32
  let v186 : BitVec 32 := Scalar.addi v75 c2_i32_95
  let c4_i32_96 : BitVec 32 := 4#32
  let c0_i32_97 : BitVec 32 := 0#32
  let v187 : BitVec 1 := Scalar.cmpi .eq c4_i32_96 c0_i32_97
  let c1_i32_98 : BitVec 32 := 1#32
  let v188 : BitVec 32 := Scalar.select v187 c1_i32_98 c4_i32_96
  let v189 : BitVec 32 := Scalar.remsi v186 v188
  let c0_i32_100 : BitVec 32 := 0#32
  let v191 : BitVec 1 := Scalar.cmpi .slt v189 c0_i32_100
  let c0_i32_101 : BitVec 32 := 0#32
  let v192 : BitVec 1 := Scalar.cmpi .slt v188 c0_i32_101
  let v193 : BitVec 1 := Scalar.xori v191 v192
  let c0_i32_99 : BitVec 32 := 0#32
  let v190 : BitVec 1 := Scalar.cmpi .ne v189 c0_i32_99
  let v194 : BitVec 1 := Scalar.andi v193 v190
  let v195 : BitVec 32 := Scalar.addi v189 v188
  let v196 : BitVec 32 := Scalar.select v194 v195 v189
  let c0_i32_2285 : BitVec 32 := 0#32
  let v3779 : BitVec 1 := Scalar.cmpi .sgt v196 c0_i32_2285
  let v3780 : BitVec 32 := Scalar.extui v3779
  let c0_i32_2286 : BitVec 32 := 0#32
  let v3781 : BitVec 1 := Scalar.cmpi .slt v196 c0_i32_2286
  let v3782 : BitVec 32 := Scalar.extui v3781
  let v3783 : BitVec 32 := Scalar.subi v3780 v3782
  let c2_i32_2284 : BitVec 32 := 2#32
  let c0_i32_2287 : BitVec 32 := 0#32
  let v3784 : BitVec 1 := Scalar.cmpi .sgt c2_i32_2284 c0_i32_2287
  let v3785 : BitVec 32 := Scalar.extui v3784
  let c0_i32_2288 : BitVec 32 := 0#32
  let v3786 : BitVec 1 := Scalar.cmpi .slt c2_i32_2284 c0_i32_2288
  let v3787 : BitVec 32 := Scalar.extui v3786
  let v3788 : BitVec 32 := Scalar.subi v3785 v3787
  let v3789 : BitVec 1 := Scalar.cmpi .ne v3783 v3788
  let v3790 : BitVec 32 := Scalar.remsi v196 c2_i32_2284
  let c0_i32_2289 : BitVec 32 := 0#32
  let v3791 : BitVec 1 := Scalar.cmpi .ne v3790 c0_i32_2289
  let v3792 : BitVec 1 := Scalar.andi v3789 v3791
  let v3778 : BitVec 32 := Scalar.divsi v196 c2_i32_2284
  let c1_i32_2290 : BitVec 32 := 1#32
  let v3793 : BitVec 32 := Scalar.subi v3778 c1_i32_2290
  let v3794 : BitVec 32 := Scalar.select v3792 v3793 v3778
  let v3795 : BitVec 32 := Scalar.muli c2_i32_2291 v3794
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_2293 : BitVec 32 := 0#32
  let v3797 : BitVec 1 := Scalar.cmpi .sgt v97 c0_i32_2293
  let v3798 : BitVec 32 := Scalar.extui v3797
  let c0_i32_2294 : BitVec 32 := 0#32
  let v3799 : BitVec 1 := Scalar.cmpi .slt v97 c0_i32_2294
  let v3800 : BitVec 32 := Scalar.extui v3799
  let v3801 : BitVec 32 := Scalar.subi v3798 v3800
  let c4_i32_2292 : BitVec 32 := 4#32
  let c0_i32_2295 : BitVec 32 := 0#32
  let v3802 : BitVec 1 := Scalar.cmpi .sgt c4_i32_2292 c0_i32_2295
  let v3803 : BitVec 32 := Scalar.extui v3802
  let c0_i32_2296 : BitVec 32 := 0#32
  let v3804 : BitVec 1 := Scalar.cmpi .slt c4_i32_2292 c0_i32_2296
  let v3805 : BitVec 32 := Scalar.extui v3804
  let v3806 : BitVec 32 := Scalar.subi v3803 v3805
  let v3807 : BitVec 1 := Scalar.cmpi .ne v3801 v3806
  let v3808 : BitVec 32 := Scalar.remsi v97 c4_i32_2292
  let c0_i32_2297 : BitVec 32 := 0#32
  let v3809 : BitVec 1 := Scalar.cmpi .ne v3808 c0_i32_2297
  let v3810 : BitVec 1 := Scalar.andi v3807 v3809
  let v3796 : BitVec 32 := Scalar.divsi v97 c4_i32_2292
  let c1_i32_2298 : BitVec 32 := 1#32
  let v3811 : BitVec 32 := Scalar.subi v3796 c1_i32_2298
  let v3812 : BitVec 32 := Scalar.select v3810 v3811 v3796
  let v3813 : BitVec 32 := Scalar.addi v3795 v3812
  let v3836 : BitVec 32 := Scalar.muli c8_i32_2312 v3813
  let c4_i32_2305 : BitVec 32 := 4#32
  let c2_i32_2299 : BitVec 32 := 2#32
  let c0_i32_2300 : BitVec 32 := 0#32
  let v3814 : BitVec 1 := Scalar.cmpi .eq c2_i32_2299 c0_i32_2300
  let c1_i32_2301 : BitVec 32 := 1#32
  let v3815 : BitVec 32 := Scalar.select v3814 c1_i32_2301 c2_i32_2299
  let v3816 : BitVec 32 := Scalar.remsi v196 v3815
  let c0_i32_2303 : BitVec 32 := 0#32
  let v3818 : BitVec 1 := Scalar.cmpi .slt v3816 c0_i32_2303
  let c0_i32_2304 : BitVec 32 := 0#32
  let v3819 : BitVec 1 := Scalar.cmpi .slt v3815 c0_i32_2304
  let v3820 : BitVec 1 := Scalar.xori v3818 v3819
  let c0_i32_2302 : BitVec 32 := 0#32
  let v3817 : BitVec 1 := Scalar.cmpi .ne v3816 c0_i32_2302
  let v3821 : BitVec 1 := Scalar.andi v3820 v3817
  let v3822 : BitVec 32 := Scalar.addi v3816 v3815
  let v3823 : BitVec 32 := Scalar.select v3821 v3822 v3816
  let v3824 : BitVec 32 := Scalar.muli c4_i32_2305 v3823
  let c4_i32_2306 : BitVec 32 := 4#32
  let c0_i32_2307 : BitVec 32 := 0#32
  let v3825 : BitVec 1 := Scalar.cmpi .eq c4_i32_2306 c0_i32_2307
  let c1_i32_2308 : BitVec 32 := 1#32
  let v3826 : BitVec 32 := Scalar.select v3825 c1_i32_2308 c4_i32_2306
  let v3827 : BitVec 32 := Scalar.remsi v97 v3826
  let c0_i32_2310 : BitVec 32 := 0#32
  let v3829 : BitVec 1 := Scalar.cmpi .slt v3827 c0_i32_2310
  let c0_i32_2311 : BitVec 32 := 0#32
  let v3830 : BitVec 1 := Scalar.cmpi .slt v3826 c0_i32_2311
  let v3831 : BitVec 1 := Scalar.xori v3829 v3830
  let c0_i32_2309 : BitVec 32 := 0#32
  let v3828 : BitVec 1 := Scalar.cmpi .ne v3827 c0_i32_2309
  let v3832 : BitVec 1 := Scalar.andi v3831 v3828
  let v3833 : BitVec 32 := Scalar.addi v3827 v3826
  let v3834 : BitVec 32 := Scalar.select v3832 v3833 v3827
  let v3835 : BitVec 32 := Scalar.addi v3824 v3834
  let v3837 : BitVec 32 := Scalar.addi v3836 v3835
  let c1_i32_2318 : BitVec 32 := 1#32
  let v3838 : BitVec 32 := Scalar.muli v3837 c1_i32_2318
  let v3839 : BitVec 32 := Scalar.addi c0_i32_2319 v3838
  v3839.toNat
def k0_dev50 (d0 : Dev nD) : Nat :=
  let c0_i32_2359 : BitVec 32 := 0#32
  let c8_i32_2352 : BitVec 32 := 8#32
  let c2_i32_2331 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c3_i32_102 : BitVec 32 := 3#32
  let v197 : BitVec 32 := Scalar.addi v75 c3_i32_102
  let c4_i32_103 : BitVec 32 := 4#32
  let c0_i32_104 : BitVec 32 := 0#32
  let v198 : BitVec 1 := Scalar.cmpi .eq c4_i32_103 c0_i32_104
  let c1_i32_105 : BitVec 32 := 1#32
  let v199 : BitVec 32 := Scalar.select v198 c1_i32_105 c4_i32_103
  let v200 : BitVec 32 := Scalar.remsi v197 v199
  let c0_i32_107 : BitVec 32 := 0#32
  let v202 : BitVec 1 := Scalar.cmpi .slt v200 c0_i32_107
  let c0_i32_108 : BitVec 32 := 0#32
  let v203 : BitVec 1 := Scalar.cmpi .slt v199 c0_i32_108
  let v204 : BitVec 1 := Scalar.xori v202 v203
  let c0_i32_106 : BitVec 32 := 0#32
  let v201 : BitVec 1 := Scalar.cmpi .ne v200 c0_i32_106
  let v205 : BitVec 1 := Scalar.andi v204 v201
  let v206 : BitVec 32 := Scalar.addi v200 v199
  let v207 : BitVec 32 := Scalar.select v205 v206 v200
  let c0_i32_2325 : BitVec 32 := 0#32
  let v3849 : BitVec 1 := Scalar.cmpi .sgt v207 c0_i32_2325
  let v3850 : BitVec 32 := Scalar.extui v3849
  let c0_i32_2326 : BitVec 32 := 0#32
  let v3851 : BitVec 1 := Scalar.cmpi .slt v207 c0_i32_2326
  let v3852 : BitVec 32 := Scalar.extui v3851
  let v3853 : BitVec 32 := Scalar.subi v3850 v3852
  let c2_i32_2324 : BitVec 32 := 2#32
  let c0_i32_2327 : BitVec 32 := 0#32
  let v3854 : BitVec 1 := Scalar.cmpi .sgt c2_i32_2324 c0_i32_2327
  let v3855 : BitVec 32 := Scalar.extui v3854
  let c0_i32_2328 : BitVec 32 := 0#32
  let v3856 : BitVec 1 := Scalar.cmpi .slt c2_i32_2324 c0_i32_2328
  let v3857 : BitVec 32 := Scalar.extui v3856
  let v3858 : BitVec 32 := Scalar.subi v3855 v3857
  let v3859 : BitVec 1 := Scalar.cmpi .ne v3853 v3858
  let v3860 : BitVec 32 := Scalar.remsi v207 c2_i32_2324
  let c0_i32_2329 : BitVec 32 := 0#32
  let v3861 : BitVec 1 := Scalar.cmpi .ne v3860 c0_i32_2329
  let v3862 : BitVec 1 := Scalar.andi v3859 v3861
  let v3848 : BitVec 32 := Scalar.divsi v207 c2_i32_2324
  let c1_i32_2330 : BitVec 32 := 1#32
  let v3863 : BitVec 32 := Scalar.subi v3848 c1_i32_2330
  let v3864 : BitVec 32 := Scalar.select v3862 v3863 v3848
  let v3865 : BitVec 32 := Scalar.muli c2_i32_2331 v3864
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c0_i32_2333 : BitVec 32 := 0#32
  let v3867 : BitVec 1 := Scalar.cmpi .sgt v97 c0_i32_2333
  let v3868 : BitVec 32 := Scalar.extui v3867
  let c0_i32_2334 : BitVec 32 := 0#32
  let v3869 : BitVec 1 := Scalar.cmpi .slt v97 c0_i32_2334
  let v3870 : BitVec 32 := Scalar.extui v3869
  let v3871 : BitVec 32 := Scalar.subi v3868 v3870
  let c4_i32_2332 : BitVec 32 := 4#32
  let c0_i32_2335 : BitVec 32 := 0#32
  let v3872 : BitVec 1 := Scalar.cmpi .sgt c4_i32_2332 c0_i32_2335
  let v3873 : BitVec 32 := Scalar.extui v3872
  let c0_i32_2336 : BitVec 32 := 0#32
  let v3874 : BitVec 1 := Scalar.cmpi .slt c4_i32_2332 c0_i32_2336
  let v3875 : BitVec 32 := Scalar.extui v3874
  let v3876 : BitVec 32 := Scalar.subi v3873 v3875
  let v3877 : BitVec 1 := Scalar.cmpi .ne v3871 v3876
  let v3878 : BitVec 32 := Scalar.remsi v97 c4_i32_2332
  let c0_i32_2337 : BitVec 32 := 0#32
  let v3879 : BitVec 1 := Scalar.cmpi .ne v3878 c0_i32_2337
  let v3880 : BitVec 1 := Scalar.andi v3877 v3879
  let v3866 : BitVec 32 := Scalar.divsi v97 c4_i32_2332
  let c1_i32_2338 : BitVec 32 := 1#32
  let v3881 : BitVec 32 := Scalar.subi v3866 c1_i32_2338
  let v3882 : BitVec 32 := Scalar.select v3880 v3881 v3866
  let v3883 : BitVec 32 := Scalar.addi v3865 v3882
  let v3906 : BitVec 32 := Scalar.muli c8_i32_2352 v3883
  let c4_i32_2345 : BitVec 32 := 4#32
  let c2_i32_2339 : BitVec 32 := 2#32
  let c0_i32_2340 : BitVec 32 := 0#32
  let v3884 : BitVec 1 := Scalar.cmpi .eq c2_i32_2339 c0_i32_2340
  let c1_i32_2341 : BitVec 32 := 1#32
  let v3885 : BitVec 32 := Scalar.select v3884 c1_i32_2341 c2_i32_2339
  let v3886 : BitVec 32 := Scalar.remsi v207 v3885
  let c0_i32_2343 : BitVec 32 := 0#32
  let v3888 : BitVec 1 := Scalar.cmpi .slt v3886 c0_i32_2343
  let c0_i32_2344 : BitVec 32 := 0#32
  let v3889 : BitVec 1 := Scalar.cmpi .slt v3885 c0_i32_2344
  let v3890 : BitVec 1 := Scalar.xori v3888 v3889
  let c0_i32_2342 : BitVec 32 := 0#32
  let v3887 : BitVec 1 := Scalar.cmpi .ne v3886 c0_i32_2342
  let v3891 : BitVec 1 := Scalar.andi v3890 v3887
  let v3892 : BitVec 32 := Scalar.addi v3886 v3885
  let v3893 : BitVec 32 := Scalar.select v3891 v3892 v3886
  let v3894 : BitVec 32 := Scalar.muli c4_i32_2345 v3893
  let c4_i32_2346 : BitVec 32 := 4#32
  let c0_i32_2347 : BitVec 32 := 0#32
  let v3895 : BitVec 1 := Scalar.cmpi .eq c4_i32_2346 c0_i32_2347
  let c1_i32_2348 : BitVec 32 := 1#32
  let v3896 : BitVec 32 := Scalar.select v3895 c1_i32_2348 c4_i32_2346
  let v3897 : BitVec 32 := Scalar.remsi v97 v3896
  let c0_i32_2350 : BitVec 32 := 0#32
  let v3899 : BitVec 1 := Scalar.cmpi .slt v3897 c0_i32_2350
  let c0_i32_2351 : BitVec 32 := 0#32
  let v3900 : BitVec 1 := Scalar.cmpi .slt v3896 c0_i32_2351
  let v3901 : BitVec 1 := Scalar.xori v3899 v3900
  let c0_i32_2349 : BitVec 32 := 0#32
  let v3898 : BitVec 1 := Scalar.cmpi .ne v3897 c0_i32_2349
  let v3902 : BitVec 1 := Scalar.andi v3901 v3898
  let v3903 : BitVec 32 := Scalar.addi v3897 v3896
  let v3904 : BitVec 32 := Scalar.select v3902 v3903 v3897
  let v3905 : BitVec 32 := Scalar.addi v3894 v3904
  let v3907 : BitVec 32 := Scalar.addi v3906 v3905
  let c1_i32_2358 : BitVec 32 := 1#32
  let v3908 : BitVec 32 := Scalar.muli v3907 c1_i32_2358
  let v3909 : BitVec 32 := Scalar.addi c0_i32_2359 v3908
  v3909.toNat
def k0_dev51 (d0 : Dev nD) : Nat :=
  let c0_i32_2438 : BitVec 32 := 0#32
  let c8_i32_2432 : BitVec 32 := 8#32
  let c2_i32_2411 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2405 : BitVec 32 := 0#32
  let v3954 : BitVec 1 := Scalar.cmpi .sgt v75 c0_i32_2405
  let v3955 : BitVec 32 := Scalar.extui v3954
  let c0_i32_2406 : BitVec 32 := 0#32
  let v3956 : BitVec 1 := Scalar.cmpi .slt v75 c0_i32_2406
  let v3957 : BitVec 32 := Scalar.extui v3956
  let v3958 : BitVec 32 := Scalar.subi v3955 v3957
  let c2_i32_2404 : BitVec 32 := 2#32
  let c0_i32_2407 : BitVec 32 := 0#32
  let v3959 : BitVec 1 := Scalar.cmpi .sgt c2_i32_2404 c0_i32_2407
  let v3960 : BitVec 32 := Scalar.extui v3959
  let c0_i32_2408 : BitVec 32 := 0#32
  let v3961 : BitVec 1 := Scalar.cmpi .slt c2_i32_2404 c0_i32_2408
  let v3962 : BitVec 32 := Scalar.extui v3961
  let v3963 : BitVec 32 := Scalar.subi v3960 v3962
  let v3964 : BitVec 1 := Scalar.cmpi .ne v3958 v3963
  let v3965 : BitVec 32 := Scalar.remsi v75 c2_i32_2404
  let c0_i32_2409 : BitVec 32 := 0#32
  let v3966 : BitVec 1 := Scalar.cmpi .ne v3965 c0_i32_2409
  let v3967 : BitVec 1 := Scalar.andi v3964 v3966
  let v3953 : BitVec 32 := Scalar.divsi v75 c2_i32_2404
  let c1_i32_2410 : BitVec 32 := 1#32
  let v3968 : BitVec 32 := Scalar.subi v3953 c1_i32_2410
  let v3969 : BitVec 32 := Scalar.select v3967 v3968 v3953
  let v3970 : BitVec 32 := Scalar.muli c2_i32_2411 v3969
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_2413 : BitVec 32 := 0#32
  let v3972 : BitVec 1 := Scalar.cmpi .sgt v108 c0_i32_2413
  let v3973 : BitVec 32 := Scalar.extui v3972
  let c0_i32_2414 : BitVec 32 := 0#32
  let v3974 : BitVec 1 := Scalar.cmpi .slt v108 c0_i32_2414
  let v3975 : BitVec 32 := Scalar.extui v3974
  let v3976 : BitVec 32 := Scalar.subi v3973 v3975
  let c4_i32_2412 : BitVec 32 := 4#32
  let c0_i32_2415 : BitVec 32 := 0#32
  let v3977 : BitVec 1 := Scalar.cmpi .sgt c4_i32_2412 c0_i32_2415
  let v3978 : BitVec 32 := Scalar.extui v3977
  let c0_i32_2416 : BitVec 32 := 0#32
  let v3979 : BitVec 1 := Scalar.cmpi .slt c4_i32_2412 c0_i32_2416
  let v3980 : BitVec 32 := Scalar.extui v3979
  let v3981 : BitVec 32 := Scalar.subi v3978 v3980
  let v3982 : BitVec 1 := Scalar.cmpi .ne v3976 v3981
  let v3983 : BitVec 32 := Scalar.remsi v108 c4_i32_2412
  let c0_i32_2417 : BitVec 32 := 0#32
  let v3984 : BitVec 1 := Scalar.cmpi .ne v3983 c0_i32_2417
  let v3985 : BitVec 1 := Scalar.andi v3982 v3984
  let v3971 : BitVec 32 := Scalar.divsi v108 c4_i32_2412
  let c1_i32_2418 : BitVec 32 := 1#32
  let v3986 : BitVec 32 := Scalar.subi v3971 c1_i32_2418
  let v3987 : BitVec 32 := Scalar.select v3985 v3986 v3971
  let v3988 : BitVec 32 := Scalar.addi v3970 v3987
  let v4011 : BitVec 32 := Scalar.muli c8_i32_2432 v3988
  let c4_i32_2425 : BitVec 32 := 4#32
  let c2_i32_2419 : BitVec 32 := 2#32
  let c0_i32_2420 : BitVec 32 := 0#32
  let v3989 : BitVec 1 := Scalar.cmpi .eq c2_i32_2419 c0_i32_2420
  let c1_i32_2421 : BitVec 32 := 1#32
  let v3990 : BitVec 32 := Scalar.select v3989 c1_i32_2421 c2_i32_2419
  let v3991 : BitVec 32 := Scalar.remsi v75 v3990
  let c0_i32_2423 : BitVec 32 := 0#32
  let v3993 : BitVec 1 := Scalar.cmpi .slt v3991 c0_i32_2423
  let c0_i32_2424 : BitVec 32 := 0#32
  let v3994 : BitVec 1 := Scalar.cmpi .slt v3990 c0_i32_2424
  let v3995 : BitVec 1 := Scalar.xori v3993 v3994
  let c0_i32_2422 : BitVec 32 := 0#32
  let v3992 : BitVec 1 := Scalar.cmpi .ne v3991 c0_i32_2422
  let v3996 : BitVec 1 := Scalar.andi v3995 v3992
  let v3997 : BitVec 32 := Scalar.addi v3991 v3990
  let v3998 : BitVec 32 := Scalar.select v3996 v3997 v3991
  let v3999 : BitVec 32 := Scalar.muli c4_i32_2425 v3998
  let c4_i32_2426 : BitVec 32 := 4#32
  let c0_i32_2427 : BitVec 32 := 0#32
  let v4000 : BitVec 1 := Scalar.cmpi .eq c4_i32_2426 c0_i32_2427
  let c1_i32_2428 : BitVec 32 := 1#32
  let v4001 : BitVec 32 := Scalar.select v4000 c1_i32_2428 c4_i32_2426
  let v4002 : BitVec 32 := Scalar.remsi v108 v4001
  let c0_i32_2430 : BitVec 32 := 0#32
  let v4004 : BitVec 1 := Scalar.cmpi .slt v4002 c0_i32_2430
  let c0_i32_2431 : BitVec 32 := 0#32
  let v4005 : BitVec 1 := Scalar.cmpi .slt v4001 c0_i32_2431
  let v4006 : BitVec 1 := Scalar.xori v4004 v4005
  let c0_i32_2429 : BitVec 32 := 0#32
  let v4003 : BitVec 1 := Scalar.cmpi .ne v4002 c0_i32_2429
  let v4007 : BitVec 1 := Scalar.andi v4006 v4003
  let v4008 : BitVec 32 := Scalar.addi v4002 v4001
  let v4009 : BitVec 32 := Scalar.select v4007 v4008 v4002
  let v4010 : BitVec 32 := Scalar.addi v3999 v4009
  let v4012 : BitVec 32 := Scalar.addi v4011 v4010
  let c1_i32_2437 : BitVec 32 := 1#32
  let v4013 : BitVec 32 := Scalar.muli v4012 c1_i32_2437
  let v4014 : BitVec 32 := Scalar.addi c0_i32_2438 v4013
  v4014.toNat
def k0_dev52 (d0 : Dev nD) : Nat :=
  let c0_i32_2477 : BitVec 32 := 0#32
  let c8_i32_2471 : BitVec 32 := 8#32
  let c2_i32_2450 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2444 : BitVec 32 := 0#32
  let v4024 : BitVec 1 := Scalar.cmpi .sgt v75 c0_i32_2444
  let v4025 : BitVec 32 := Scalar.extui v4024
  let c0_i32_2445 : BitVec 32 := 0#32
  let v4026 : BitVec 1 := Scalar.cmpi .slt v75 c0_i32_2445
  let v4027 : BitVec 32 := Scalar.extui v4026
  let v4028 : BitVec 32 := Scalar.subi v4025 v4027
  let c2_i32_2443 : BitVec 32 := 2#32
  let c0_i32_2446 : BitVec 32 := 0#32
  let v4029 : BitVec 1 := Scalar.cmpi .sgt c2_i32_2443 c0_i32_2446
  let v4030 : BitVec 32 := Scalar.extui v4029
  let c0_i32_2447 : BitVec 32 := 0#32
  let v4031 : BitVec 1 := Scalar.cmpi .slt c2_i32_2443 c0_i32_2447
  let v4032 : BitVec 32 := Scalar.extui v4031
  let v4033 : BitVec 32 := Scalar.subi v4030 v4032
  let v4034 : BitVec 1 := Scalar.cmpi .ne v4028 v4033
  let v4035 : BitVec 32 := Scalar.remsi v75 c2_i32_2443
  let c0_i32_2448 : BitVec 32 := 0#32
  let v4036 : BitVec 1 := Scalar.cmpi .ne v4035 c0_i32_2448
  let v4037 : BitVec 1 := Scalar.andi v4034 v4036
  let v4023 : BitVec 32 := Scalar.divsi v75 c2_i32_2443
  let c1_i32_2449 : BitVec 32 := 1#32
  let v4038 : BitVec 32 := Scalar.subi v4023 c1_i32_2449
  let v4039 : BitVec 32 := Scalar.select v4037 v4038 v4023
  let v4040 : BitVec 32 := Scalar.muli c2_i32_2450 v4039
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_2452 : BitVec 32 := 0#32
  let v4042 : BitVec 1 := Scalar.cmpi .sgt v119 c0_i32_2452
  let v4043 : BitVec 32 := Scalar.extui v4042
  let c0_i32_2453 : BitVec 32 := 0#32
  let v4044 : BitVec 1 := Scalar.cmpi .slt v119 c0_i32_2453
  let v4045 : BitVec 32 := Scalar.extui v4044
  let v4046 : BitVec 32 := Scalar.subi v4043 v4045
  let c4_i32_2451 : BitVec 32 := 4#32
  let c0_i32_2454 : BitVec 32 := 0#32
  let v4047 : BitVec 1 := Scalar.cmpi .sgt c4_i32_2451 c0_i32_2454
  let v4048 : BitVec 32 := Scalar.extui v4047
  let c0_i32_2455 : BitVec 32 := 0#32
  let v4049 : BitVec 1 := Scalar.cmpi .slt c4_i32_2451 c0_i32_2455
  let v4050 : BitVec 32 := Scalar.extui v4049
  let v4051 : BitVec 32 := Scalar.subi v4048 v4050
  let v4052 : BitVec 1 := Scalar.cmpi .ne v4046 v4051
  let v4053 : BitVec 32 := Scalar.remsi v119 c4_i32_2451
  let c0_i32_2456 : BitVec 32 := 0#32
  let v4054 : BitVec 1 := Scalar.cmpi .ne v4053 c0_i32_2456
  let v4055 : BitVec 1 := Scalar.andi v4052 v4054
  let v4041 : BitVec 32 := Scalar.divsi v119 c4_i32_2451
  let c1_i32_2457 : BitVec 32 := 1#32
  let v4056 : BitVec 32 := Scalar.subi v4041 c1_i32_2457
  let v4057 : BitVec 32 := Scalar.select v4055 v4056 v4041
  let v4058 : BitVec 32 := Scalar.addi v4040 v4057
  let v4081 : BitVec 32 := Scalar.muli c8_i32_2471 v4058
  let c4_i32_2464 : BitVec 32 := 4#32
  let c2_i32_2458 : BitVec 32 := 2#32
  let c0_i32_2459 : BitVec 32 := 0#32
  let v4059 : BitVec 1 := Scalar.cmpi .eq c2_i32_2458 c0_i32_2459
  let c1_i32_2460 : BitVec 32 := 1#32
  let v4060 : BitVec 32 := Scalar.select v4059 c1_i32_2460 c2_i32_2458
  let v4061 : BitVec 32 := Scalar.remsi v75 v4060
  let c0_i32_2462 : BitVec 32 := 0#32
  let v4063 : BitVec 1 := Scalar.cmpi .slt v4061 c0_i32_2462
  let c0_i32_2463 : BitVec 32 := 0#32
  let v4064 : BitVec 1 := Scalar.cmpi .slt v4060 c0_i32_2463
  let v4065 : BitVec 1 := Scalar.xori v4063 v4064
  let c0_i32_2461 : BitVec 32 := 0#32
  let v4062 : BitVec 1 := Scalar.cmpi .ne v4061 c0_i32_2461
  let v4066 : BitVec 1 := Scalar.andi v4065 v4062
  let v4067 : BitVec 32 := Scalar.addi v4061 v4060
  let v4068 : BitVec 32 := Scalar.select v4066 v4067 v4061
  let v4069 : BitVec 32 := Scalar.muli c4_i32_2464 v4068
  let c4_i32_2465 : BitVec 32 := 4#32
  let c0_i32_2466 : BitVec 32 := 0#32
  let v4070 : BitVec 1 := Scalar.cmpi .eq c4_i32_2465 c0_i32_2466
  let c1_i32_2467 : BitVec 32 := 1#32
  let v4071 : BitVec 32 := Scalar.select v4070 c1_i32_2467 c4_i32_2465
  let v4072 : BitVec 32 := Scalar.remsi v119 v4071
  let c0_i32_2469 : BitVec 32 := 0#32
  let v4074 : BitVec 1 := Scalar.cmpi .slt v4072 c0_i32_2469
  let c0_i32_2470 : BitVec 32 := 0#32
  let v4075 : BitVec 1 := Scalar.cmpi .slt v4071 c0_i32_2470
  let v4076 : BitVec 1 := Scalar.xori v4074 v4075
  let c0_i32_2468 : BitVec 32 := 0#32
  let v4073 : BitVec 1 := Scalar.cmpi .ne v4072 c0_i32_2468
  let v4077 : BitVec 1 := Scalar.andi v4076 v4073
  let v4078 : BitVec 32 := Scalar.addi v4072 v4071
  let v4079 : BitVec 32 := Scalar.select v4077 v4078 v4072
  let v4080 : BitVec 32 := Scalar.addi v4069 v4079
  let v4082 : BitVec 32 := Scalar.addi v4081 v4080
  let c1_i32_2476 : BitVec 32 := 1#32
  let v4083 : BitVec 32 := Scalar.muli v4082 c1_i32_2476
  let v4084 : BitVec 32 := Scalar.addi c0_i32_2477 v4083
  v4084.toNat
def k0_dev53 (d0 : Dev nD) : Nat :=
  let c0_i32_2516 : BitVec 32 := 0#32
  let c8_i32_2510 : BitVec 32 := 8#32
  let c2_i32_2489 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2483 : BitVec 32 := 0#32
  let v4094 : BitVec 1 := Scalar.cmpi .sgt v75 c0_i32_2483
  let v4095 : BitVec 32 := Scalar.extui v4094
  let c0_i32_2484 : BitVec 32 := 0#32
  let v4096 : BitVec 1 := Scalar.cmpi .slt v75 c0_i32_2484
  let v4097 : BitVec 32 := Scalar.extui v4096
  let v4098 : BitVec 32 := Scalar.subi v4095 v4097
  let c2_i32_2482 : BitVec 32 := 2#32
  let c0_i32_2485 : BitVec 32 := 0#32
  let v4099 : BitVec 1 := Scalar.cmpi .sgt c2_i32_2482 c0_i32_2485
  let v4100 : BitVec 32 := Scalar.extui v4099
  let c0_i32_2486 : BitVec 32 := 0#32
  let v4101 : BitVec 1 := Scalar.cmpi .slt c2_i32_2482 c0_i32_2486
  let v4102 : BitVec 32 := Scalar.extui v4101
  let v4103 : BitVec 32 := Scalar.subi v4100 v4102
  let v4104 : BitVec 1 := Scalar.cmpi .ne v4098 v4103
  let v4105 : BitVec 32 := Scalar.remsi v75 c2_i32_2482
  let c0_i32_2487 : BitVec 32 := 0#32
  let v4106 : BitVec 1 := Scalar.cmpi .ne v4105 c0_i32_2487
  let v4107 : BitVec 1 := Scalar.andi v4104 v4106
  let v4093 : BitVec 32 := Scalar.divsi v75 c2_i32_2482
  let c1_i32_2488 : BitVec 32 := 1#32
  let v4108 : BitVec 32 := Scalar.subi v4093 c1_i32_2488
  let v4109 : BitVec 32 := Scalar.select v4107 v4108 v4093
  let v4110 : BitVec 32 := Scalar.muli c2_i32_2489 v4109
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_2491 : BitVec 32 := 0#32
  let v4112 : BitVec 1 := Scalar.cmpi .sgt v130 c0_i32_2491
  let v4113 : BitVec 32 := Scalar.extui v4112
  let c0_i32_2492 : BitVec 32 := 0#32
  let v4114 : BitVec 1 := Scalar.cmpi .slt v130 c0_i32_2492
  let v4115 : BitVec 32 := Scalar.extui v4114
  let v4116 : BitVec 32 := Scalar.subi v4113 v4115
  let c4_i32_2490 : BitVec 32 := 4#32
  let c0_i32_2493 : BitVec 32 := 0#32
  let v4117 : BitVec 1 := Scalar.cmpi .sgt c4_i32_2490 c0_i32_2493
  let v4118 : BitVec 32 := Scalar.extui v4117
  let c0_i32_2494 : BitVec 32 := 0#32
  let v4119 : BitVec 1 := Scalar.cmpi .slt c4_i32_2490 c0_i32_2494
  let v4120 : BitVec 32 := Scalar.extui v4119
  let v4121 : BitVec 32 := Scalar.subi v4118 v4120
  let v4122 : BitVec 1 := Scalar.cmpi .ne v4116 v4121
  let v4123 : BitVec 32 := Scalar.remsi v130 c4_i32_2490
  let c0_i32_2495 : BitVec 32 := 0#32
  let v4124 : BitVec 1 := Scalar.cmpi .ne v4123 c0_i32_2495
  let v4125 : BitVec 1 := Scalar.andi v4122 v4124
  let v4111 : BitVec 32 := Scalar.divsi v130 c4_i32_2490
  let c1_i32_2496 : BitVec 32 := 1#32
  let v4126 : BitVec 32 := Scalar.subi v4111 c1_i32_2496
  let v4127 : BitVec 32 := Scalar.select v4125 v4126 v4111
  let v4128 : BitVec 32 := Scalar.addi v4110 v4127
  let v4151 : BitVec 32 := Scalar.muli c8_i32_2510 v4128
  let c4_i32_2503 : BitVec 32 := 4#32
  let c2_i32_2497 : BitVec 32 := 2#32
  let c0_i32_2498 : BitVec 32 := 0#32
  let v4129 : BitVec 1 := Scalar.cmpi .eq c2_i32_2497 c0_i32_2498
  let c1_i32_2499 : BitVec 32 := 1#32
  let v4130 : BitVec 32 := Scalar.select v4129 c1_i32_2499 c2_i32_2497
  let v4131 : BitVec 32 := Scalar.remsi v75 v4130
  let c0_i32_2501 : BitVec 32 := 0#32
  let v4133 : BitVec 1 := Scalar.cmpi .slt v4131 c0_i32_2501
  let c0_i32_2502 : BitVec 32 := 0#32
  let v4134 : BitVec 1 := Scalar.cmpi .slt v4130 c0_i32_2502
  let v4135 : BitVec 1 := Scalar.xori v4133 v4134
  let c0_i32_2500 : BitVec 32 := 0#32
  let v4132 : BitVec 1 := Scalar.cmpi .ne v4131 c0_i32_2500
  let v4136 : BitVec 1 := Scalar.andi v4135 v4132
  let v4137 : BitVec 32 := Scalar.addi v4131 v4130
  let v4138 : BitVec 32 := Scalar.select v4136 v4137 v4131
  let v4139 : BitVec 32 := Scalar.muli c4_i32_2503 v4138
  let c4_i32_2504 : BitVec 32 := 4#32
  let c0_i32_2505 : BitVec 32 := 0#32
  let v4140 : BitVec 1 := Scalar.cmpi .eq c4_i32_2504 c0_i32_2505
  let c1_i32_2506 : BitVec 32 := 1#32
  let v4141 : BitVec 32 := Scalar.select v4140 c1_i32_2506 c4_i32_2504
  let v4142 : BitVec 32 := Scalar.remsi v130 v4141
  let c0_i32_2508 : BitVec 32 := 0#32
  let v4144 : BitVec 1 := Scalar.cmpi .slt v4142 c0_i32_2508
  let c0_i32_2509 : BitVec 32 := 0#32
  let v4145 : BitVec 1 := Scalar.cmpi .slt v4141 c0_i32_2509
  let v4146 : BitVec 1 := Scalar.xori v4144 v4145
  let c0_i32_2507 : BitVec 32 := 0#32
  let v4143 : BitVec 1 := Scalar.cmpi .ne v4142 c0_i32_2507
  let v4147 : BitVec 1 := Scalar.andi v4146 v4143
  let v4148 : BitVec 32 := Scalar.addi v4142 v4141
  let v4149 : BitVec 32 := Scalar.select v4147 v4148 v4142
  let v4150 : BitVec 32 := Scalar.addi v4139 v4149
  let v4152 : BitVec 32 := Scalar.addi v4151 v4150
  let c1_i32_2515 : BitVec 32 := 1#32
  let v4153 : BitVec 32 := Scalar.muli v4152 c1_i32_2515
  let v4154 : BitVec 32 := Scalar.addi c0_i32_2516 v4153
  v4154.toNat
def k0_dev54 (d0 : Dev nD) : Nat :=
  let c0_i32_2555 : BitVec 32 := 0#32
  let c8_i32_2549 : BitVec 32 := 8#32
  let c2_i32_2528 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2522 : BitVec 32 := 0#32
  let v4164 : BitVec 1 := Scalar.cmpi .sgt v75 c0_i32_2522
  let v4165 : BitVec 32 := Scalar.extui v4164
  let c0_i32_2523 : BitVec 32 := 0#32
  let v4166 : BitVec 1 := Scalar.cmpi .slt v75 c0_i32_2523
  let v4167 : BitVec 32 := Scalar.extui v4166
  let v4168 : BitVec 32 := Scalar.subi v4165 v4167
  let c2_i32_2521 : BitVec 32 := 2#32
  let c0_i32_2524 : BitVec 32 := 0#32
  let v4169 : BitVec 1 := Scalar.cmpi .sgt c2_i32_2521 c0_i32_2524
  let v4170 : BitVec 32 := Scalar.extui v4169
  let c0_i32_2525 : BitVec 32 := 0#32
  let v4171 : BitVec 1 := Scalar.cmpi .slt c2_i32_2521 c0_i32_2525
  let v4172 : BitVec 32 := Scalar.extui v4171
  let v4173 : BitVec 32 := Scalar.subi v4170 v4172
  let v4174 : BitVec 1 := Scalar.cmpi .ne v4168 v4173
  let v4175 : BitVec 32 := Scalar.remsi v75 c2_i32_2521
  let c0_i32_2526 : BitVec 32 := 0#32
  let v4176 : BitVec 1 := Scalar.cmpi .ne v4175 c0_i32_2526
  let v4177 : BitVec 1 := Scalar.andi v4174 v4176
  let v4163 : BitVec 32 := Scalar.divsi v75 c2_i32_2521
  let c1_i32_2527 : BitVec 32 := 1#32
  let v4178 : BitVec 32 := Scalar.subi v4163 c1_i32_2527
  let v4179 : BitVec 32 := Scalar.select v4177 v4178 v4163
  let v4180 : BitVec 32 := Scalar.muli c2_i32_2528 v4179
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_2530 : BitVec 32 := 0#32
  let v4182 : BitVec 1 := Scalar.cmpi .sgt v141 c0_i32_2530
  let v4183 : BitVec 32 := Scalar.extui v4182
  let c0_i32_2531 : BitVec 32 := 0#32
  let v4184 : BitVec 1 := Scalar.cmpi .slt v141 c0_i32_2531
  let v4185 : BitVec 32 := Scalar.extui v4184
  let v4186 : BitVec 32 := Scalar.subi v4183 v4185
  let c4_i32_2529 : BitVec 32 := 4#32
  let c0_i32_2532 : BitVec 32 := 0#32
  let v4187 : BitVec 1 := Scalar.cmpi .sgt c4_i32_2529 c0_i32_2532
  let v4188 : BitVec 32 := Scalar.extui v4187
  let c0_i32_2533 : BitVec 32 := 0#32
  let v4189 : BitVec 1 := Scalar.cmpi .slt c4_i32_2529 c0_i32_2533
  let v4190 : BitVec 32 := Scalar.extui v4189
  let v4191 : BitVec 32 := Scalar.subi v4188 v4190
  let v4192 : BitVec 1 := Scalar.cmpi .ne v4186 v4191
  let v4193 : BitVec 32 := Scalar.remsi v141 c4_i32_2529
  let c0_i32_2534 : BitVec 32 := 0#32
  let v4194 : BitVec 1 := Scalar.cmpi .ne v4193 c0_i32_2534
  let v4195 : BitVec 1 := Scalar.andi v4192 v4194
  let v4181 : BitVec 32 := Scalar.divsi v141 c4_i32_2529
  let c1_i32_2535 : BitVec 32 := 1#32
  let v4196 : BitVec 32 := Scalar.subi v4181 c1_i32_2535
  let v4197 : BitVec 32 := Scalar.select v4195 v4196 v4181
  let v4198 : BitVec 32 := Scalar.addi v4180 v4197
  let v4221 : BitVec 32 := Scalar.muli c8_i32_2549 v4198
  let c4_i32_2542 : BitVec 32 := 4#32
  let c2_i32_2536 : BitVec 32 := 2#32
  let c0_i32_2537 : BitVec 32 := 0#32
  let v4199 : BitVec 1 := Scalar.cmpi .eq c2_i32_2536 c0_i32_2537
  let c1_i32_2538 : BitVec 32 := 1#32
  let v4200 : BitVec 32 := Scalar.select v4199 c1_i32_2538 c2_i32_2536
  let v4201 : BitVec 32 := Scalar.remsi v75 v4200
  let c0_i32_2540 : BitVec 32 := 0#32
  let v4203 : BitVec 1 := Scalar.cmpi .slt v4201 c0_i32_2540
  let c0_i32_2541 : BitVec 32 := 0#32
  let v4204 : BitVec 1 := Scalar.cmpi .slt v4200 c0_i32_2541
  let v4205 : BitVec 1 := Scalar.xori v4203 v4204
  let c0_i32_2539 : BitVec 32 := 0#32
  let v4202 : BitVec 1 := Scalar.cmpi .ne v4201 c0_i32_2539
  let v4206 : BitVec 1 := Scalar.andi v4205 v4202
  let v4207 : BitVec 32 := Scalar.addi v4201 v4200
  let v4208 : BitVec 32 := Scalar.select v4206 v4207 v4201
  let v4209 : BitVec 32 := Scalar.muli c4_i32_2542 v4208
  let c4_i32_2543 : BitVec 32 := 4#32
  let c0_i32_2544 : BitVec 32 := 0#32
  let v4210 : BitVec 1 := Scalar.cmpi .eq c4_i32_2543 c0_i32_2544
  let c1_i32_2545 : BitVec 32 := 1#32
  let v4211 : BitVec 32 := Scalar.select v4210 c1_i32_2545 c4_i32_2543
  let v4212 : BitVec 32 := Scalar.remsi v141 v4211
  let c0_i32_2547 : BitVec 32 := 0#32
  let v4214 : BitVec 1 := Scalar.cmpi .slt v4212 c0_i32_2547
  let c0_i32_2548 : BitVec 32 := 0#32
  let v4215 : BitVec 1 := Scalar.cmpi .slt v4211 c0_i32_2548
  let v4216 : BitVec 1 := Scalar.xori v4214 v4215
  let c0_i32_2546 : BitVec 32 := 0#32
  let v4213 : BitVec 1 := Scalar.cmpi .ne v4212 c0_i32_2546
  let v4217 : BitVec 1 := Scalar.andi v4216 v4213
  let v4218 : BitVec 32 := Scalar.addi v4212 v4211
  let v4219 : BitVec 32 := Scalar.select v4217 v4218 v4212
  let v4220 : BitVec 32 := Scalar.addi v4209 v4219
  let v4222 : BitVec 32 := Scalar.addi v4221 v4220
  let c1_i32_2554 : BitVec 32 := 1#32
  let v4223 : BitVec 32 := Scalar.muli v4222 c1_i32_2554
  let v4224 : BitVec 32 := Scalar.addi c0_i32_2555 v4223
  v4224.toNat
def k0_dev55 (d0 : Dev nD) : Nat :=
  let c0_i32_2594 : BitVec 32 := 0#32
  let c8_i32_2588 : BitVec 32 := 8#32
  let c2_i32_2567 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2561 : BitVec 32 := 0#32
  let v4234 : BitVec 1 := Scalar.cmpi .sgt v75 c0_i32_2561
  let v4235 : BitVec 32 := Scalar.extui v4234
  let c0_i32_2562 : BitVec 32 := 0#32
  let v4236 : BitVec 1 := Scalar.cmpi .slt v75 c0_i32_2562
  let v4237 : BitVec 32 := Scalar.extui v4236
  let v4238 : BitVec 32 := Scalar.subi v4235 v4237
  let c2_i32_2560 : BitVec 32 := 2#32
  let c0_i32_2563 : BitVec 32 := 0#32
  let v4239 : BitVec 1 := Scalar.cmpi .sgt c2_i32_2560 c0_i32_2563
  let v4240 : BitVec 32 := Scalar.extui v4239
  let c0_i32_2564 : BitVec 32 := 0#32
  let v4241 : BitVec 1 := Scalar.cmpi .slt c2_i32_2560 c0_i32_2564
  let v4242 : BitVec 32 := Scalar.extui v4241
  let v4243 : BitVec 32 := Scalar.subi v4240 v4242
  let v4244 : BitVec 1 := Scalar.cmpi .ne v4238 v4243
  let v4245 : BitVec 32 := Scalar.remsi v75 c2_i32_2560
  let c0_i32_2565 : BitVec 32 := 0#32
  let v4246 : BitVec 1 := Scalar.cmpi .ne v4245 c0_i32_2565
  let v4247 : BitVec 1 := Scalar.andi v4244 v4246
  let v4233 : BitVec 32 := Scalar.divsi v75 c2_i32_2560
  let c1_i32_2566 : BitVec 32 := 1#32
  let v4248 : BitVec 32 := Scalar.subi v4233 c1_i32_2566
  let v4249 : BitVec 32 := Scalar.select v4247 v4248 v4233
  let v4250 : BitVec 32 := Scalar.muli c2_i32_2567 v4249
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_2569 : BitVec 32 := 0#32
  let v4252 : BitVec 1 := Scalar.cmpi .sgt v152 c0_i32_2569
  let v4253 : BitVec 32 := Scalar.extui v4252
  let c0_i32_2570 : BitVec 32 := 0#32
  let v4254 : BitVec 1 := Scalar.cmpi .slt v152 c0_i32_2570
  let v4255 : BitVec 32 := Scalar.extui v4254
  let v4256 : BitVec 32 := Scalar.subi v4253 v4255
  let c4_i32_2568 : BitVec 32 := 4#32
  let c0_i32_2571 : BitVec 32 := 0#32
  let v4257 : BitVec 1 := Scalar.cmpi .sgt c4_i32_2568 c0_i32_2571
  let v4258 : BitVec 32 := Scalar.extui v4257
  let c0_i32_2572 : BitVec 32 := 0#32
  let v4259 : BitVec 1 := Scalar.cmpi .slt c4_i32_2568 c0_i32_2572
  let v4260 : BitVec 32 := Scalar.extui v4259
  let v4261 : BitVec 32 := Scalar.subi v4258 v4260
  let v4262 : BitVec 1 := Scalar.cmpi .ne v4256 v4261
  let v4263 : BitVec 32 := Scalar.remsi v152 c4_i32_2568
  let c0_i32_2573 : BitVec 32 := 0#32
  let v4264 : BitVec 1 := Scalar.cmpi .ne v4263 c0_i32_2573
  let v4265 : BitVec 1 := Scalar.andi v4262 v4264
  let v4251 : BitVec 32 := Scalar.divsi v152 c4_i32_2568
  let c1_i32_2574 : BitVec 32 := 1#32
  let v4266 : BitVec 32 := Scalar.subi v4251 c1_i32_2574
  let v4267 : BitVec 32 := Scalar.select v4265 v4266 v4251
  let v4268 : BitVec 32 := Scalar.addi v4250 v4267
  let v4291 : BitVec 32 := Scalar.muli c8_i32_2588 v4268
  let c4_i32_2581 : BitVec 32 := 4#32
  let c2_i32_2575 : BitVec 32 := 2#32
  let c0_i32_2576 : BitVec 32 := 0#32
  let v4269 : BitVec 1 := Scalar.cmpi .eq c2_i32_2575 c0_i32_2576
  let c1_i32_2577 : BitVec 32 := 1#32
  let v4270 : BitVec 32 := Scalar.select v4269 c1_i32_2577 c2_i32_2575
  let v4271 : BitVec 32 := Scalar.remsi v75 v4270
  let c0_i32_2579 : BitVec 32 := 0#32
  let v4273 : BitVec 1 := Scalar.cmpi .slt v4271 c0_i32_2579
  let c0_i32_2580 : BitVec 32 := 0#32
  let v4274 : BitVec 1 := Scalar.cmpi .slt v4270 c0_i32_2580
  let v4275 : BitVec 1 := Scalar.xori v4273 v4274
  let c0_i32_2578 : BitVec 32 := 0#32
  let v4272 : BitVec 1 := Scalar.cmpi .ne v4271 c0_i32_2578
  let v4276 : BitVec 1 := Scalar.andi v4275 v4272
  let v4277 : BitVec 32 := Scalar.addi v4271 v4270
  let v4278 : BitVec 32 := Scalar.select v4276 v4277 v4271
  let v4279 : BitVec 32 := Scalar.muli c4_i32_2581 v4278
  let c4_i32_2582 : BitVec 32 := 4#32
  let c0_i32_2583 : BitVec 32 := 0#32
  let v4280 : BitVec 1 := Scalar.cmpi .eq c4_i32_2582 c0_i32_2583
  let c1_i32_2584 : BitVec 32 := 1#32
  let v4281 : BitVec 32 := Scalar.select v4280 c1_i32_2584 c4_i32_2582
  let v4282 : BitVec 32 := Scalar.remsi v152 v4281
  let c0_i32_2586 : BitVec 32 := 0#32
  let v4284 : BitVec 1 := Scalar.cmpi .slt v4282 c0_i32_2586
  let c0_i32_2587 : BitVec 32 := 0#32
  let v4285 : BitVec 1 := Scalar.cmpi .slt v4281 c0_i32_2587
  let v4286 : BitVec 1 := Scalar.xori v4284 v4285
  let c0_i32_2585 : BitVec 32 := 0#32
  let v4283 : BitVec 1 := Scalar.cmpi .ne v4282 c0_i32_2585
  let v4287 : BitVec 1 := Scalar.andi v4286 v4283
  let v4288 : BitVec 32 := Scalar.addi v4282 v4281
  let v4289 : BitVec 32 := Scalar.select v4287 v4288 v4282
  let v4290 : BitVec 32 := Scalar.addi v4279 v4289
  let v4292 : BitVec 32 := Scalar.addi v4291 v4290
  let c1_i32_2593 : BitVec 32 := 1#32
  let v4293 : BitVec 32 := Scalar.muli v4292 c1_i32_2593
  let v4294 : BitVec 32 := Scalar.addi c0_i32_2594 v4293
  v4294.toNat
def k0_dev56 (d0 : Dev nD) : Nat :=
  let c0_i32_2633 : BitVec 32 := 0#32
  let c8_i32_2627 : BitVec 32 := 8#32
  let c2_i32_2606 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2600 : BitVec 32 := 0#32
  let v4304 : BitVec 1 := Scalar.cmpi .sgt v75 c0_i32_2600
  let v4305 : BitVec 32 := Scalar.extui v4304
  let c0_i32_2601 : BitVec 32 := 0#32
  let v4306 : BitVec 1 := Scalar.cmpi .slt v75 c0_i32_2601
  let v4307 : BitVec 32 := Scalar.extui v4306
  let v4308 : BitVec 32 := Scalar.subi v4305 v4307
  let c2_i32_2599 : BitVec 32 := 2#32
  let c0_i32_2602 : BitVec 32 := 0#32
  let v4309 : BitVec 1 := Scalar.cmpi .sgt c2_i32_2599 c0_i32_2602
  let v4310 : BitVec 32 := Scalar.extui v4309
  let c0_i32_2603 : BitVec 32 := 0#32
  let v4311 : BitVec 1 := Scalar.cmpi .slt c2_i32_2599 c0_i32_2603
  let v4312 : BitVec 32 := Scalar.extui v4311
  let v4313 : BitVec 32 := Scalar.subi v4310 v4312
  let v4314 : BitVec 1 := Scalar.cmpi .ne v4308 v4313
  let v4315 : BitVec 32 := Scalar.remsi v75 c2_i32_2599
  let c0_i32_2604 : BitVec 32 := 0#32
  let v4316 : BitVec 1 := Scalar.cmpi .ne v4315 c0_i32_2604
  let v4317 : BitVec 1 := Scalar.andi v4314 v4316
  let v4303 : BitVec 32 := Scalar.divsi v75 c2_i32_2599
  let c1_i32_2605 : BitVec 32 := 1#32
  let v4318 : BitVec 32 := Scalar.subi v4303 c1_i32_2605
  let v4319 : BitVec 32 := Scalar.select v4317 v4318 v4303
  let v4320 : BitVec 32 := Scalar.muli c2_i32_2606 v4319
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_2608 : BitVec 32 := 0#32
  let v4322 : BitVec 1 := Scalar.cmpi .sgt v163 c0_i32_2608
  let v4323 : BitVec 32 := Scalar.extui v4322
  let c0_i32_2609 : BitVec 32 := 0#32
  let v4324 : BitVec 1 := Scalar.cmpi .slt v163 c0_i32_2609
  let v4325 : BitVec 32 := Scalar.extui v4324
  let v4326 : BitVec 32 := Scalar.subi v4323 v4325
  let c4_i32_2607 : BitVec 32 := 4#32
  let c0_i32_2610 : BitVec 32 := 0#32
  let v4327 : BitVec 1 := Scalar.cmpi .sgt c4_i32_2607 c0_i32_2610
  let v4328 : BitVec 32 := Scalar.extui v4327
  let c0_i32_2611 : BitVec 32 := 0#32
  let v4329 : BitVec 1 := Scalar.cmpi .slt c4_i32_2607 c0_i32_2611
  let v4330 : BitVec 32 := Scalar.extui v4329
  let v4331 : BitVec 32 := Scalar.subi v4328 v4330
  let v4332 : BitVec 1 := Scalar.cmpi .ne v4326 v4331
  let v4333 : BitVec 32 := Scalar.remsi v163 c4_i32_2607
  let c0_i32_2612 : BitVec 32 := 0#32
  let v4334 : BitVec 1 := Scalar.cmpi .ne v4333 c0_i32_2612
  let v4335 : BitVec 1 := Scalar.andi v4332 v4334
  let v4321 : BitVec 32 := Scalar.divsi v163 c4_i32_2607
  let c1_i32_2613 : BitVec 32 := 1#32
  let v4336 : BitVec 32 := Scalar.subi v4321 c1_i32_2613
  let v4337 : BitVec 32 := Scalar.select v4335 v4336 v4321
  let v4338 : BitVec 32 := Scalar.addi v4320 v4337
  let v4361 : BitVec 32 := Scalar.muli c8_i32_2627 v4338
  let c4_i32_2620 : BitVec 32 := 4#32
  let c2_i32_2614 : BitVec 32 := 2#32
  let c0_i32_2615 : BitVec 32 := 0#32
  let v4339 : BitVec 1 := Scalar.cmpi .eq c2_i32_2614 c0_i32_2615
  let c1_i32_2616 : BitVec 32 := 1#32
  let v4340 : BitVec 32 := Scalar.select v4339 c1_i32_2616 c2_i32_2614
  let v4341 : BitVec 32 := Scalar.remsi v75 v4340
  let c0_i32_2618 : BitVec 32 := 0#32
  let v4343 : BitVec 1 := Scalar.cmpi .slt v4341 c0_i32_2618
  let c0_i32_2619 : BitVec 32 := 0#32
  let v4344 : BitVec 1 := Scalar.cmpi .slt v4340 c0_i32_2619
  let v4345 : BitVec 1 := Scalar.xori v4343 v4344
  let c0_i32_2617 : BitVec 32 := 0#32
  let v4342 : BitVec 1 := Scalar.cmpi .ne v4341 c0_i32_2617
  let v4346 : BitVec 1 := Scalar.andi v4345 v4342
  let v4347 : BitVec 32 := Scalar.addi v4341 v4340
  let v4348 : BitVec 32 := Scalar.select v4346 v4347 v4341
  let v4349 : BitVec 32 := Scalar.muli c4_i32_2620 v4348
  let c4_i32_2621 : BitVec 32 := 4#32
  let c0_i32_2622 : BitVec 32 := 0#32
  let v4350 : BitVec 1 := Scalar.cmpi .eq c4_i32_2621 c0_i32_2622
  let c1_i32_2623 : BitVec 32 := 1#32
  let v4351 : BitVec 32 := Scalar.select v4350 c1_i32_2623 c4_i32_2621
  let v4352 : BitVec 32 := Scalar.remsi v163 v4351
  let c0_i32_2625 : BitVec 32 := 0#32
  let v4354 : BitVec 1 := Scalar.cmpi .slt v4352 c0_i32_2625
  let c0_i32_2626 : BitVec 32 := 0#32
  let v4355 : BitVec 1 := Scalar.cmpi .slt v4351 c0_i32_2626
  let v4356 : BitVec 1 := Scalar.xori v4354 v4355
  let c0_i32_2624 : BitVec 32 := 0#32
  let v4353 : BitVec 1 := Scalar.cmpi .ne v4352 c0_i32_2624
  let v4357 : BitVec 1 := Scalar.andi v4356 v4353
  let v4358 : BitVec 32 := Scalar.addi v4352 v4351
  let v4359 : BitVec 32 := Scalar.select v4357 v4358 v4352
  let v4360 : BitVec 32 := Scalar.addi v4349 v4359
  let v4362 : BitVec 32 := Scalar.addi v4361 v4360
  let c1_i32_2632 : BitVec 32 := 1#32
  let v4363 : BitVec 32 := Scalar.muli v4362 c1_i32_2632
  let v4364 : BitVec 32 := Scalar.addi c0_i32_2633 v4363
  v4364.toNat
def k0_dev57 (d0 : Dev nD) : Nat :=
  let c0_i32_2672 : BitVec 32 := 0#32
  let c8_i32_2666 : BitVec 32 := 8#32
  let c2_i32_2645 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2639 : BitVec 32 := 0#32
  let v4374 : BitVec 1 := Scalar.cmpi .sgt v75 c0_i32_2639
  let v4375 : BitVec 32 := Scalar.extui v4374
  let c0_i32_2640 : BitVec 32 := 0#32
  let v4376 : BitVec 1 := Scalar.cmpi .slt v75 c0_i32_2640
  let v4377 : BitVec 32 := Scalar.extui v4376
  let v4378 : BitVec 32 := Scalar.subi v4375 v4377
  let c2_i32_2638 : BitVec 32 := 2#32
  let c0_i32_2641 : BitVec 32 := 0#32
  let v4379 : BitVec 1 := Scalar.cmpi .sgt c2_i32_2638 c0_i32_2641
  let v4380 : BitVec 32 := Scalar.extui v4379
  let c0_i32_2642 : BitVec 32 := 0#32
  let v4381 : BitVec 1 := Scalar.cmpi .slt c2_i32_2638 c0_i32_2642
  let v4382 : BitVec 32 := Scalar.extui v4381
  let v4383 : BitVec 32 := Scalar.subi v4380 v4382
  let v4384 : BitVec 1 := Scalar.cmpi .ne v4378 v4383
  let v4385 : BitVec 32 := Scalar.remsi v75 c2_i32_2638
  let c0_i32_2643 : BitVec 32 := 0#32
  let v4386 : BitVec 1 := Scalar.cmpi .ne v4385 c0_i32_2643
  let v4387 : BitVec 1 := Scalar.andi v4384 v4386
  let v4373 : BitVec 32 := Scalar.divsi v75 c2_i32_2638
  let c1_i32_2644 : BitVec 32 := 1#32
  let v4388 : BitVec 32 := Scalar.subi v4373 c1_i32_2644
  let v4389 : BitVec 32 := Scalar.select v4387 v4388 v4373
  let v4390 : BitVec 32 := Scalar.muli c2_i32_2645 v4389
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_2647 : BitVec 32 := 0#32
  let v4392 : BitVec 1 := Scalar.cmpi .sgt v174 c0_i32_2647
  let v4393 : BitVec 32 := Scalar.extui v4392
  let c0_i32_2648 : BitVec 32 := 0#32
  let v4394 : BitVec 1 := Scalar.cmpi .slt v174 c0_i32_2648
  let v4395 : BitVec 32 := Scalar.extui v4394
  let v4396 : BitVec 32 := Scalar.subi v4393 v4395
  let c4_i32_2646 : BitVec 32 := 4#32
  let c0_i32_2649 : BitVec 32 := 0#32
  let v4397 : BitVec 1 := Scalar.cmpi .sgt c4_i32_2646 c0_i32_2649
  let v4398 : BitVec 32 := Scalar.extui v4397
  let c0_i32_2650 : BitVec 32 := 0#32
  let v4399 : BitVec 1 := Scalar.cmpi .slt c4_i32_2646 c0_i32_2650
  let v4400 : BitVec 32 := Scalar.extui v4399
  let v4401 : BitVec 32 := Scalar.subi v4398 v4400
  let v4402 : BitVec 1 := Scalar.cmpi .ne v4396 v4401
  let v4403 : BitVec 32 := Scalar.remsi v174 c4_i32_2646
  let c0_i32_2651 : BitVec 32 := 0#32
  let v4404 : BitVec 1 := Scalar.cmpi .ne v4403 c0_i32_2651
  let v4405 : BitVec 1 := Scalar.andi v4402 v4404
  let v4391 : BitVec 32 := Scalar.divsi v174 c4_i32_2646
  let c1_i32_2652 : BitVec 32 := 1#32
  let v4406 : BitVec 32 := Scalar.subi v4391 c1_i32_2652
  let v4407 : BitVec 32 := Scalar.select v4405 v4406 v4391
  let v4408 : BitVec 32 := Scalar.addi v4390 v4407
  let v4431 : BitVec 32 := Scalar.muli c8_i32_2666 v4408
  let c4_i32_2659 : BitVec 32 := 4#32
  let c2_i32_2653 : BitVec 32 := 2#32
  let c0_i32_2654 : BitVec 32 := 0#32
  let v4409 : BitVec 1 := Scalar.cmpi .eq c2_i32_2653 c0_i32_2654
  let c1_i32_2655 : BitVec 32 := 1#32
  let v4410 : BitVec 32 := Scalar.select v4409 c1_i32_2655 c2_i32_2653
  let v4411 : BitVec 32 := Scalar.remsi v75 v4410
  let c0_i32_2657 : BitVec 32 := 0#32
  let v4413 : BitVec 1 := Scalar.cmpi .slt v4411 c0_i32_2657
  let c0_i32_2658 : BitVec 32 := 0#32
  let v4414 : BitVec 1 := Scalar.cmpi .slt v4410 c0_i32_2658
  let v4415 : BitVec 1 := Scalar.xori v4413 v4414
  let c0_i32_2656 : BitVec 32 := 0#32
  let v4412 : BitVec 1 := Scalar.cmpi .ne v4411 c0_i32_2656
  let v4416 : BitVec 1 := Scalar.andi v4415 v4412
  let v4417 : BitVec 32 := Scalar.addi v4411 v4410
  let v4418 : BitVec 32 := Scalar.select v4416 v4417 v4411
  let v4419 : BitVec 32 := Scalar.muli c4_i32_2659 v4418
  let c4_i32_2660 : BitVec 32 := 4#32
  let c0_i32_2661 : BitVec 32 := 0#32
  let v4420 : BitVec 1 := Scalar.cmpi .eq c4_i32_2660 c0_i32_2661
  let c1_i32_2662 : BitVec 32 := 1#32
  let v4421 : BitVec 32 := Scalar.select v4420 c1_i32_2662 c4_i32_2660
  let v4422 : BitVec 32 := Scalar.remsi v174 v4421
  let c0_i32_2664 : BitVec 32 := 0#32
  let v4424 : BitVec 1 := Scalar.cmpi .slt v4422 c0_i32_2664
  let c0_i32_2665 : BitVec 32 := 0#32
  let v4425 : BitVec 1 := Scalar.cmpi .slt v4421 c0_i32_2665
  let v4426 : BitVec 1 := Scalar.xori v4424 v4425
  let c0_i32_2663 : BitVec 32 := 0#32
  let v4423 : BitVec 1 := Scalar.cmpi .ne v4422 c0_i32_2663
  let v4427 : BitVec 1 := Scalar.andi v4426 v4423
  let v4428 : BitVec 32 := Scalar.addi v4422 v4421
  let v4429 : BitVec 32 := Scalar.select v4427 v4428 v4422
  let v4430 : BitVec 32 := Scalar.addi v4419 v4429
  let v4432 : BitVec 32 := Scalar.addi v4431 v4430
  let c1_i32_2671 : BitVec 32 := 1#32
  let v4433 : BitVec 32 := Scalar.muli v4432 c1_i32_2671
  let v4434 : BitVec 32 := Scalar.addi c0_i32_2672 v4433
  v4434.toNat
def k0_dev58 (d0 : Dev nD) : Nat :=
  let c0_i32_2750 : BitVec 32 := 0#32
  let c8_i32_2744 : BitVec 32 := 8#32
  let c2_i32_2723 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2717 : BitVec 32 := 0#32
  let v4478 : BitVec 1 := Scalar.cmpi .sgt v75 c0_i32_2717
  let v4479 : BitVec 32 := Scalar.extui v4478
  let c0_i32_2718 : BitVec 32 := 0#32
  let v4480 : BitVec 1 := Scalar.cmpi .slt v75 c0_i32_2718
  let v4481 : BitVec 32 := Scalar.extui v4480
  let v4482 : BitVec 32 := Scalar.subi v4479 v4481
  let c2_i32_2716 : BitVec 32 := 2#32
  let c0_i32_2719 : BitVec 32 := 0#32
  let v4483 : BitVec 1 := Scalar.cmpi .sgt c2_i32_2716 c0_i32_2719
  let v4484 : BitVec 32 := Scalar.extui v4483
  let c0_i32_2720 : BitVec 32 := 0#32
  let v4485 : BitVec 1 := Scalar.cmpi .slt c2_i32_2716 c0_i32_2720
  let v4486 : BitVec 32 := Scalar.extui v4485
  let v4487 : BitVec 32 := Scalar.subi v4484 v4486
  let v4488 : BitVec 1 := Scalar.cmpi .ne v4482 v4487
  let v4489 : BitVec 32 := Scalar.remsi v75 c2_i32_2716
  let c0_i32_2721 : BitVec 32 := 0#32
  let v4490 : BitVec 1 := Scalar.cmpi .ne v4489 c0_i32_2721
  let v4491 : BitVec 1 := Scalar.andi v4488 v4490
  let v4477 : BitVec 32 := Scalar.divsi v75 c2_i32_2716
  let c1_i32_2722 : BitVec 32 := 1#32
  let v4492 : BitVec 32 := Scalar.subi v4477 c1_i32_2722
  let v4493 : BitVec 32 := Scalar.select v4491 v4492 v4477
  let v4494 : BitVec 32 := Scalar.muli c2_i32_2723 v4493
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_2725 : BitVec 32 := 0#32
  let v4496 : BitVec 1 := Scalar.cmpi .sgt v108 c0_i32_2725
  let v4497 : BitVec 32 := Scalar.extui v4496
  let c0_i32_2726 : BitVec 32 := 0#32
  let v4498 : BitVec 1 := Scalar.cmpi .slt v108 c0_i32_2726
  let v4499 : BitVec 32 := Scalar.extui v4498
  let v4500 : BitVec 32 := Scalar.subi v4497 v4499
  let c4_i32_2724 : BitVec 32 := 4#32
  let c0_i32_2727 : BitVec 32 := 0#32
  let v4501 : BitVec 1 := Scalar.cmpi .sgt c4_i32_2724 c0_i32_2727
  let v4502 : BitVec 32 := Scalar.extui v4501
  let c0_i32_2728 : BitVec 32 := 0#32
  let v4503 : BitVec 1 := Scalar.cmpi .slt c4_i32_2724 c0_i32_2728
  let v4504 : BitVec 32 := Scalar.extui v4503
  let v4505 : BitVec 32 := Scalar.subi v4502 v4504
  let v4506 : BitVec 1 := Scalar.cmpi .ne v4500 v4505
  let v4507 : BitVec 32 := Scalar.remsi v108 c4_i32_2724
  let c0_i32_2729 : BitVec 32 := 0#32
  let v4508 : BitVec 1 := Scalar.cmpi .ne v4507 c0_i32_2729
  let v4509 : BitVec 1 := Scalar.andi v4506 v4508
  let v4495 : BitVec 32 := Scalar.divsi v108 c4_i32_2724
  let c1_i32_2730 : BitVec 32 := 1#32
  let v4510 : BitVec 32 := Scalar.subi v4495 c1_i32_2730
  let v4511 : BitVec 32 := Scalar.select v4509 v4510 v4495
  let v4512 : BitVec 32 := Scalar.addi v4494 v4511
  let v4535 : BitVec 32 := Scalar.muli c8_i32_2744 v4512
  let c4_i32_2737 : BitVec 32 := 4#32
  let c2_i32_2731 : BitVec 32 := 2#32
  let c0_i32_2732 : BitVec 32 := 0#32
  let v4513 : BitVec 1 := Scalar.cmpi .eq c2_i32_2731 c0_i32_2732
  let c1_i32_2733 : BitVec 32 := 1#32
  let v4514 : BitVec 32 := Scalar.select v4513 c1_i32_2733 c2_i32_2731
  let v4515 : BitVec 32 := Scalar.remsi v75 v4514
  let c0_i32_2735 : BitVec 32 := 0#32
  let v4517 : BitVec 1 := Scalar.cmpi .slt v4515 c0_i32_2735
  let c0_i32_2736 : BitVec 32 := 0#32
  let v4518 : BitVec 1 := Scalar.cmpi .slt v4514 c0_i32_2736
  let v4519 : BitVec 1 := Scalar.xori v4517 v4518
  let c0_i32_2734 : BitVec 32 := 0#32
  let v4516 : BitVec 1 := Scalar.cmpi .ne v4515 c0_i32_2734
  let v4520 : BitVec 1 := Scalar.andi v4519 v4516
  let v4521 : BitVec 32 := Scalar.addi v4515 v4514
  let v4522 : BitVec 32 := Scalar.select v4520 v4521 v4515
  let v4523 : BitVec 32 := Scalar.muli c4_i32_2737 v4522
  let c4_i32_2738 : BitVec 32 := 4#32
  let c0_i32_2739 : BitVec 32 := 0#32
  let v4524 : BitVec 1 := Scalar.cmpi .eq c4_i32_2738 c0_i32_2739
  let c1_i32_2740 : BitVec 32 := 1#32
  let v4525 : BitVec 32 := Scalar.select v4524 c1_i32_2740 c4_i32_2738
  let v4526 : BitVec 32 := Scalar.remsi v108 v4525
  let c0_i32_2742 : BitVec 32 := 0#32
  let v4528 : BitVec 1 := Scalar.cmpi .slt v4526 c0_i32_2742
  let c0_i32_2743 : BitVec 32 := 0#32
  let v4529 : BitVec 1 := Scalar.cmpi .slt v4525 c0_i32_2743
  let v4530 : BitVec 1 := Scalar.xori v4528 v4529
  let c0_i32_2741 : BitVec 32 := 0#32
  let v4527 : BitVec 1 := Scalar.cmpi .ne v4526 c0_i32_2741
  let v4531 : BitVec 1 := Scalar.andi v4530 v4527
  let v4532 : BitVec 32 := Scalar.addi v4526 v4525
  let v4533 : BitVec 32 := Scalar.select v4531 v4532 v4526
  let v4534 : BitVec 32 := Scalar.addi v4523 v4533
  let v4536 : BitVec 32 := Scalar.addi v4535 v4534
  let c1_i32_2749 : BitVec 32 := 1#32
  let v4537 : BitVec 32 := Scalar.muli v4536 c1_i32_2749
  let v4538 : BitVec 32 := Scalar.addi c0_i32_2750 v4537
  v4538.toNat
def k0_dev59 (d0 : Dev nD) : Nat :=
  let c0_i32_2789 : BitVec 32 := 0#32
  let c8_i32_2783 : BitVec 32 := 8#32
  let c2_i32_2762 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2756 : BitVec 32 := 0#32
  let v4548 : BitVec 1 := Scalar.cmpi .sgt v75 c0_i32_2756
  let v4549 : BitVec 32 := Scalar.extui v4548
  let c0_i32_2757 : BitVec 32 := 0#32
  let v4550 : BitVec 1 := Scalar.cmpi .slt v75 c0_i32_2757
  let v4551 : BitVec 32 := Scalar.extui v4550
  let v4552 : BitVec 32 := Scalar.subi v4549 v4551
  let c2_i32_2755 : BitVec 32 := 2#32
  let c0_i32_2758 : BitVec 32 := 0#32
  let v4553 : BitVec 1 := Scalar.cmpi .sgt c2_i32_2755 c0_i32_2758
  let v4554 : BitVec 32 := Scalar.extui v4553
  let c0_i32_2759 : BitVec 32 := 0#32
  let v4555 : BitVec 1 := Scalar.cmpi .slt c2_i32_2755 c0_i32_2759
  let v4556 : BitVec 32 := Scalar.extui v4555
  let v4557 : BitVec 32 := Scalar.subi v4554 v4556
  let v4558 : BitVec 1 := Scalar.cmpi .ne v4552 v4557
  let v4559 : BitVec 32 := Scalar.remsi v75 c2_i32_2755
  let c0_i32_2760 : BitVec 32 := 0#32
  let v4560 : BitVec 1 := Scalar.cmpi .ne v4559 c0_i32_2760
  let v4561 : BitVec 1 := Scalar.andi v4558 v4560
  let v4547 : BitVec 32 := Scalar.divsi v75 c2_i32_2755
  let c1_i32_2761 : BitVec 32 := 1#32
  let v4562 : BitVec 32 := Scalar.subi v4547 c1_i32_2761
  let v4563 : BitVec 32 := Scalar.select v4561 v4562 v4547
  let v4564 : BitVec 32 := Scalar.muli c2_i32_2762 v4563
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_2764 : BitVec 32 := 0#32
  let v4566 : BitVec 1 := Scalar.cmpi .sgt v119 c0_i32_2764
  let v4567 : BitVec 32 := Scalar.extui v4566
  let c0_i32_2765 : BitVec 32 := 0#32
  let v4568 : BitVec 1 := Scalar.cmpi .slt v119 c0_i32_2765
  let v4569 : BitVec 32 := Scalar.extui v4568
  let v4570 : BitVec 32 := Scalar.subi v4567 v4569
  let c4_i32_2763 : BitVec 32 := 4#32
  let c0_i32_2766 : BitVec 32 := 0#32
  let v4571 : BitVec 1 := Scalar.cmpi .sgt c4_i32_2763 c0_i32_2766
  let v4572 : BitVec 32 := Scalar.extui v4571
  let c0_i32_2767 : BitVec 32 := 0#32
  let v4573 : BitVec 1 := Scalar.cmpi .slt c4_i32_2763 c0_i32_2767
  let v4574 : BitVec 32 := Scalar.extui v4573
  let v4575 : BitVec 32 := Scalar.subi v4572 v4574
  let v4576 : BitVec 1 := Scalar.cmpi .ne v4570 v4575
  let v4577 : BitVec 32 := Scalar.remsi v119 c4_i32_2763
  let c0_i32_2768 : BitVec 32 := 0#32
  let v4578 : BitVec 1 := Scalar.cmpi .ne v4577 c0_i32_2768
  let v4579 : BitVec 1 := Scalar.andi v4576 v4578
  let v4565 : BitVec 32 := Scalar.divsi v119 c4_i32_2763
  let c1_i32_2769 : BitVec 32 := 1#32
  let v4580 : BitVec 32 := Scalar.subi v4565 c1_i32_2769
  let v4581 : BitVec 32 := Scalar.select v4579 v4580 v4565
  let v4582 : BitVec 32 := Scalar.addi v4564 v4581
  let v4605 : BitVec 32 := Scalar.muli c8_i32_2783 v4582
  let c4_i32_2776 : BitVec 32 := 4#32
  let c2_i32_2770 : BitVec 32 := 2#32
  let c0_i32_2771 : BitVec 32 := 0#32
  let v4583 : BitVec 1 := Scalar.cmpi .eq c2_i32_2770 c0_i32_2771
  let c1_i32_2772 : BitVec 32 := 1#32
  let v4584 : BitVec 32 := Scalar.select v4583 c1_i32_2772 c2_i32_2770
  let v4585 : BitVec 32 := Scalar.remsi v75 v4584
  let c0_i32_2774 : BitVec 32 := 0#32
  let v4587 : BitVec 1 := Scalar.cmpi .slt v4585 c0_i32_2774
  let c0_i32_2775 : BitVec 32 := 0#32
  let v4588 : BitVec 1 := Scalar.cmpi .slt v4584 c0_i32_2775
  let v4589 : BitVec 1 := Scalar.xori v4587 v4588
  let c0_i32_2773 : BitVec 32 := 0#32
  let v4586 : BitVec 1 := Scalar.cmpi .ne v4585 c0_i32_2773
  let v4590 : BitVec 1 := Scalar.andi v4589 v4586
  let v4591 : BitVec 32 := Scalar.addi v4585 v4584
  let v4592 : BitVec 32 := Scalar.select v4590 v4591 v4585
  let v4593 : BitVec 32 := Scalar.muli c4_i32_2776 v4592
  let c4_i32_2777 : BitVec 32 := 4#32
  let c0_i32_2778 : BitVec 32 := 0#32
  let v4594 : BitVec 1 := Scalar.cmpi .eq c4_i32_2777 c0_i32_2778
  let c1_i32_2779 : BitVec 32 := 1#32
  let v4595 : BitVec 32 := Scalar.select v4594 c1_i32_2779 c4_i32_2777
  let v4596 : BitVec 32 := Scalar.remsi v119 v4595
  let c0_i32_2781 : BitVec 32 := 0#32
  let v4598 : BitVec 1 := Scalar.cmpi .slt v4596 c0_i32_2781
  let c0_i32_2782 : BitVec 32 := 0#32
  let v4599 : BitVec 1 := Scalar.cmpi .slt v4595 c0_i32_2782
  let v4600 : BitVec 1 := Scalar.xori v4598 v4599
  let c0_i32_2780 : BitVec 32 := 0#32
  let v4597 : BitVec 1 := Scalar.cmpi .ne v4596 c0_i32_2780
  let v4601 : BitVec 1 := Scalar.andi v4600 v4597
  let v4602 : BitVec 32 := Scalar.addi v4596 v4595
  let v4603 : BitVec 32 := Scalar.select v4601 v4602 v4596
  let v4604 : BitVec 32 := Scalar.addi v4593 v4603
  let v4606 : BitVec 32 := Scalar.addi v4605 v4604
  let c1_i32_2788 : BitVec 32 := 1#32
  let v4607 : BitVec 32 := Scalar.muli v4606 c1_i32_2788
  let v4608 : BitVec 32 := Scalar.addi c0_i32_2789 v4607
  v4608.toNat
def k0_dev60 (d0 : Dev nD) : Nat :=
  let c0_i32_2828 : BitVec 32 := 0#32
  let c8_i32_2822 : BitVec 32 := 8#32
  let c2_i32_2801 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2795 : BitVec 32 := 0#32
  let v4618 : BitVec 1 := Scalar.cmpi .sgt v75 c0_i32_2795
  let v4619 : BitVec 32 := Scalar.extui v4618
  let c0_i32_2796 : BitVec 32 := 0#32
  let v4620 : BitVec 1 := Scalar.cmpi .slt v75 c0_i32_2796
  let v4621 : BitVec 32 := Scalar.extui v4620
  let v4622 : BitVec 32 := Scalar.subi v4619 v4621
  let c2_i32_2794 : BitVec 32 := 2#32
  let c0_i32_2797 : BitVec 32 := 0#32
  let v4623 : BitVec 1 := Scalar.cmpi .sgt c2_i32_2794 c0_i32_2797
  let v4624 : BitVec 32 := Scalar.extui v4623
  let c0_i32_2798 : BitVec 32 := 0#32
  let v4625 : BitVec 1 := Scalar.cmpi .slt c2_i32_2794 c0_i32_2798
  let v4626 : BitVec 32 := Scalar.extui v4625
  let v4627 : BitVec 32 := Scalar.subi v4624 v4626
  let v4628 : BitVec 1 := Scalar.cmpi .ne v4622 v4627
  let v4629 : BitVec 32 := Scalar.remsi v75 c2_i32_2794
  let c0_i32_2799 : BitVec 32 := 0#32
  let v4630 : BitVec 1 := Scalar.cmpi .ne v4629 c0_i32_2799
  let v4631 : BitVec 1 := Scalar.andi v4628 v4630
  let v4617 : BitVec 32 := Scalar.divsi v75 c2_i32_2794
  let c1_i32_2800 : BitVec 32 := 1#32
  let v4632 : BitVec 32 := Scalar.subi v4617 c1_i32_2800
  let v4633 : BitVec 32 := Scalar.select v4631 v4632 v4617
  let v4634 : BitVec 32 := Scalar.muli c2_i32_2801 v4633
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_2803 : BitVec 32 := 0#32
  let v4636 : BitVec 1 := Scalar.cmpi .sgt v130 c0_i32_2803
  let v4637 : BitVec 32 := Scalar.extui v4636
  let c0_i32_2804 : BitVec 32 := 0#32
  let v4638 : BitVec 1 := Scalar.cmpi .slt v130 c0_i32_2804
  let v4639 : BitVec 32 := Scalar.extui v4638
  let v4640 : BitVec 32 := Scalar.subi v4637 v4639
  let c4_i32_2802 : BitVec 32 := 4#32
  let c0_i32_2805 : BitVec 32 := 0#32
  let v4641 : BitVec 1 := Scalar.cmpi .sgt c4_i32_2802 c0_i32_2805
  let v4642 : BitVec 32 := Scalar.extui v4641
  let c0_i32_2806 : BitVec 32 := 0#32
  let v4643 : BitVec 1 := Scalar.cmpi .slt c4_i32_2802 c0_i32_2806
  let v4644 : BitVec 32 := Scalar.extui v4643
  let v4645 : BitVec 32 := Scalar.subi v4642 v4644
  let v4646 : BitVec 1 := Scalar.cmpi .ne v4640 v4645
  let v4647 : BitVec 32 := Scalar.remsi v130 c4_i32_2802
  let c0_i32_2807 : BitVec 32 := 0#32
  let v4648 : BitVec 1 := Scalar.cmpi .ne v4647 c0_i32_2807
  let v4649 : BitVec 1 := Scalar.andi v4646 v4648
  let v4635 : BitVec 32 := Scalar.divsi v130 c4_i32_2802
  let c1_i32_2808 : BitVec 32 := 1#32
  let v4650 : BitVec 32 := Scalar.subi v4635 c1_i32_2808
  let v4651 : BitVec 32 := Scalar.select v4649 v4650 v4635
  let v4652 : BitVec 32 := Scalar.addi v4634 v4651
  let v4675 : BitVec 32 := Scalar.muli c8_i32_2822 v4652
  let c4_i32_2815 : BitVec 32 := 4#32
  let c2_i32_2809 : BitVec 32 := 2#32
  let c0_i32_2810 : BitVec 32 := 0#32
  let v4653 : BitVec 1 := Scalar.cmpi .eq c2_i32_2809 c0_i32_2810
  let c1_i32_2811 : BitVec 32 := 1#32
  let v4654 : BitVec 32 := Scalar.select v4653 c1_i32_2811 c2_i32_2809
  let v4655 : BitVec 32 := Scalar.remsi v75 v4654
  let c0_i32_2813 : BitVec 32 := 0#32
  let v4657 : BitVec 1 := Scalar.cmpi .slt v4655 c0_i32_2813
  let c0_i32_2814 : BitVec 32 := 0#32
  let v4658 : BitVec 1 := Scalar.cmpi .slt v4654 c0_i32_2814
  let v4659 : BitVec 1 := Scalar.xori v4657 v4658
  let c0_i32_2812 : BitVec 32 := 0#32
  let v4656 : BitVec 1 := Scalar.cmpi .ne v4655 c0_i32_2812
  let v4660 : BitVec 1 := Scalar.andi v4659 v4656
  let v4661 : BitVec 32 := Scalar.addi v4655 v4654
  let v4662 : BitVec 32 := Scalar.select v4660 v4661 v4655
  let v4663 : BitVec 32 := Scalar.muli c4_i32_2815 v4662
  let c4_i32_2816 : BitVec 32 := 4#32
  let c0_i32_2817 : BitVec 32 := 0#32
  let v4664 : BitVec 1 := Scalar.cmpi .eq c4_i32_2816 c0_i32_2817
  let c1_i32_2818 : BitVec 32 := 1#32
  let v4665 : BitVec 32 := Scalar.select v4664 c1_i32_2818 c4_i32_2816
  let v4666 : BitVec 32 := Scalar.remsi v130 v4665
  let c0_i32_2820 : BitVec 32 := 0#32
  let v4668 : BitVec 1 := Scalar.cmpi .slt v4666 c0_i32_2820
  let c0_i32_2821 : BitVec 32 := 0#32
  let v4669 : BitVec 1 := Scalar.cmpi .slt v4665 c0_i32_2821
  let v4670 : BitVec 1 := Scalar.xori v4668 v4669
  let c0_i32_2819 : BitVec 32 := 0#32
  let v4667 : BitVec 1 := Scalar.cmpi .ne v4666 c0_i32_2819
  let v4671 : BitVec 1 := Scalar.andi v4670 v4667
  let v4672 : BitVec 32 := Scalar.addi v4666 v4665
  let v4673 : BitVec 32 := Scalar.select v4671 v4672 v4666
  let v4674 : BitVec 32 := Scalar.addi v4663 v4673
  let v4676 : BitVec 32 := Scalar.addi v4675 v4674
  let c1_i32_2827 : BitVec 32 := 1#32
  let v4677 : BitVec 32 := Scalar.muli v4676 c1_i32_2827
  let v4678 : BitVec 32 := Scalar.addi c0_i32_2828 v4677
  v4678.toNat
def k0_dev61 (d0 : Dev nD) : Nat :=
  let c0_i32_2867 : BitVec 32 := 0#32
  let c8_i32_2861 : BitVec 32 := 8#32
  let c2_i32_2840 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2834 : BitVec 32 := 0#32
  let v4688 : BitVec 1 := Scalar.cmpi .sgt v75 c0_i32_2834
  let v4689 : BitVec 32 := Scalar.extui v4688
  let c0_i32_2835 : BitVec 32 := 0#32
  let v4690 : BitVec 1 := Scalar.cmpi .slt v75 c0_i32_2835
  let v4691 : BitVec 32 := Scalar.extui v4690
  let v4692 : BitVec 32 := Scalar.subi v4689 v4691
  let c2_i32_2833 : BitVec 32 := 2#32
  let c0_i32_2836 : BitVec 32 := 0#32
  let v4693 : BitVec 1 := Scalar.cmpi .sgt c2_i32_2833 c0_i32_2836
  let v4694 : BitVec 32 := Scalar.extui v4693
  let c0_i32_2837 : BitVec 32 := 0#32
  let v4695 : BitVec 1 := Scalar.cmpi .slt c2_i32_2833 c0_i32_2837
  let v4696 : BitVec 32 := Scalar.extui v4695
  let v4697 : BitVec 32 := Scalar.subi v4694 v4696
  let v4698 : BitVec 1 := Scalar.cmpi .ne v4692 v4697
  let v4699 : BitVec 32 := Scalar.remsi v75 c2_i32_2833
  let c0_i32_2838 : BitVec 32 := 0#32
  let v4700 : BitVec 1 := Scalar.cmpi .ne v4699 c0_i32_2838
  let v4701 : BitVec 1 := Scalar.andi v4698 v4700
  let v4687 : BitVec 32 := Scalar.divsi v75 c2_i32_2833
  let c1_i32_2839 : BitVec 32 := 1#32
  let v4702 : BitVec 32 := Scalar.subi v4687 c1_i32_2839
  let v4703 : BitVec 32 := Scalar.select v4701 v4702 v4687
  let v4704 : BitVec 32 := Scalar.muli c2_i32_2840 v4703
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_2842 : BitVec 32 := 0#32
  let v4706 : BitVec 1 := Scalar.cmpi .sgt v141 c0_i32_2842
  let v4707 : BitVec 32 := Scalar.extui v4706
  let c0_i32_2843 : BitVec 32 := 0#32
  let v4708 : BitVec 1 := Scalar.cmpi .slt v141 c0_i32_2843
  let v4709 : BitVec 32 := Scalar.extui v4708
  let v4710 : BitVec 32 := Scalar.subi v4707 v4709
  let c4_i32_2841 : BitVec 32 := 4#32
  let c0_i32_2844 : BitVec 32 := 0#32
  let v4711 : BitVec 1 := Scalar.cmpi .sgt c4_i32_2841 c0_i32_2844
  let v4712 : BitVec 32 := Scalar.extui v4711
  let c0_i32_2845 : BitVec 32 := 0#32
  let v4713 : BitVec 1 := Scalar.cmpi .slt c4_i32_2841 c0_i32_2845
  let v4714 : BitVec 32 := Scalar.extui v4713
  let v4715 : BitVec 32 := Scalar.subi v4712 v4714
  let v4716 : BitVec 1 := Scalar.cmpi .ne v4710 v4715
  let v4717 : BitVec 32 := Scalar.remsi v141 c4_i32_2841
  let c0_i32_2846 : BitVec 32 := 0#32
  let v4718 : BitVec 1 := Scalar.cmpi .ne v4717 c0_i32_2846
  let v4719 : BitVec 1 := Scalar.andi v4716 v4718
  let v4705 : BitVec 32 := Scalar.divsi v141 c4_i32_2841
  let c1_i32_2847 : BitVec 32 := 1#32
  let v4720 : BitVec 32 := Scalar.subi v4705 c1_i32_2847
  let v4721 : BitVec 32 := Scalar.select v4719 v4720 v4705
  let v4722 : BitVec 32 := Scalar.addi v4704 v4721
  let v4745 : BitVec 32 := Scalar.muli c8_i32_2861 v4722
  let c4_i32_2854 : BitVec 32 := 4#32
  let c2_i32_2848 : BitVec 32 := 2#32
  let c0_i32_2849 : BitVec 32 := 0#32
  let v4723 : BitVec 1 := Scalar.cmpi .eq c2_i32_2848 c0_i32_2849
  let c1_i32_2850 : BitVec 32 := 1#32
  let v4724 : BitVec 32 := Scalar.select v4723 c1_i32_2850 c2_i32_2848
  let v4725 : BitVec 32 := Scalar.remsi v75 v4724
  let c0_i32_2852 : BitVec 32 := 0#32
  let v4727 : BitVec 1 := Scalar.cmpi .slt v4725 c0_i32_2852
  let c0_i32_2853 : BitVec 32 := 0#32
  let v4728 : BitVec 1 := Scalar.cmpi .slt v4724 c0_i32_2853
  let v4729 : BitVec 1 := Scalar.xori v4727 v4728
  let c0_i32_2851 : BitVec 32 := 0#32
  let v4726 : BitVec 1 := Scalar.cmpi .ne v4725 c0_i32_2851
  let v4730 : BitVec 1 := Scalar.andi v4729 v4726
  let v4731 : BitVec 32 := Scalar.addi v4725 v4724
  let v4732 : BitVec 32 := Scalar.select v4730 v4731 v4725
  let v4733 : BitVec 32 := Scalar.muli c4_i32_2854 v4732
  let c4_i32_2855 : BitVec 32 := 4#32
  let c0_i32_2856 : BitVec 32 := 0#32
  let v4734 : BitVec 1 := Scalar.cmpi .eq c4_i32_2855 c0_i32_2856
  let c1_i32_2857 : BitVec 32 := 1#32
  let v4735 : BitVec 32 := Scalar.select v4734 c1_i32_2857 c4_i32_2855
  let v4736 : BitVec 32 := Scalar.remsi v141 v4735
  let c0_i32_2859 : BitVec 32 := 0#32
  let v4738 : BitVec 1 := Scalar.cmpi .slt v4736 c0_i32_2859
  let c0_i32_2860 : BitVec 32 := 0#32
  let v4739 : BitVec 1 := Scalar.cmpi .slt v4735 c0_i32_2860
  let v4740 : BitVec 1 := Scalar.xori v4738 v4739
  let c0_i32_2858 : BitVec 32 := 0#32
  let v4737 : BitVec 1 := Scalar.cmpi .ne v4736 c0_i32_2858
  let v4741 : BitVec 1 := Scalar.andi v4740 v4737
  let v4742 : BitVec 32 := Scalar.addi v4736 v4735
  let v4743 : BitVec 32 := Scalar.select v4741 v4742 v4736
  let v4744 : BitVec 32 := Scalar.addi v4733 v4743
  let v4746 : BitVec 32 := Scalar.addi v4745 v4744
  let c1_i32_2866 : BitVec 32 := 1#32
  let v4747 : BitVec 32 := Scalar.muli v4746 c1_i32_2866
  let v4748 : BitVec 32 := Scalar.addi c0_i32_2867 v4747
  v4748.toNat
def k0_dev62 (d0 : Dev nD) : Nat :=
  let c0_i32_2906 : BitVec 32 := 0#32
  let c8_i32_2900 : BitVec 32 := 8#32
  let c2_i32_2879 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2873 : BitVec 32 := 0#32
  let v4758 : BitVec 1 := Scalar.cmpi .sgt v75 c0_i32_2873
  let v4759 : BitVec 32 := Scalar.extui v4758
  let c0_i32_2874 : BitVec 32 := 0#32
  let v4760 : BitVec 1 := Scalar.cmpi .slt v75 c0_i32_2874
  let v4761 : BitVec 32 := Scalar.extui v4760
  let v4762 : BitVec 32 := Scalar.subi v4759 v4761
  let c2_i32_2872 : BitVec 32 := 2#32
  let c0_i32_2875 : BitVec 32 := 0#32
  let v4763 : BitVec 1 := Scalar.cmpi .sgt c2_i32_2872 c0_i32_2875
  let v4764 : BitVec 32 := Scalar.extui v4763
  let c0_i32_2876 : BitVec 32 := 0#32
  let v4765 : BitVec 1 := Scalar.cmpi .slt c2_i32_2872 c0_i32_2876
  let v4766 : BitVec 32 := Scalar.extui v4765
  let v4767 : BitVec 32 := Scalar.subi v4764 v4766
  let v4768 : BitVec 1 := Scalar.cmpi .ne v4762 v4767
  let v4769 : BitVec 32 := Scalar.remsi v75 c2_i32_2872
  let c0_i32_2877 : BitVec 32 := 0#32
  let v4770 : BitVec 1 := Scalar.cmpi .ne v4769 c0_i32_2877
  let v4771 : BitVec 1 := Scalar.andi v4768 v4770
  let v4757 : BitVec 32 := Scalar.divsi v75 c2_i32_2872
  let c1_i32_2878 : BitVec 32 := 1#32
  let v4772 : BitVec 32 := Scalar.subi v4757 c1_i32_2878
  let v4773 : BitVec 32 := Scalar.select v4771 v4772 v4757
  let v4774 : BitVec 32 := Scalar.muli c2_i32_2879 v4773
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_2881 : BitVec 32 := 0#32
  let v4776 : BitVec 1 := Scalar.cmpi .sgt v152 c0_i32_2881
  let v4777 : BitVec 32 := Scalar.extui v4776
  let c0_i32_2882 : BitVec 32 := 0#32
  let v4778 : BitVec 1 := Scalar.cmpi .slt v152 c0_i32_2882
  let v4779 : BitVec 32 := Scalar.extui v4778
  let v4780 : BitVec 32 := Scalar.subi v4777 v4779
  let c4_i32_2880 : BitVec 32 := 4#32
  let c0_i32_2883 : BitVec 32 := 0#32
  let v4781 : BitVec 1 := Scalar.cmpi .sgt c4_i32_2880 c0_i32_2883
  let v4782 : BitVec 32 := Scalar.extui v4781
  let c0_i32_2884 : BitVec 32 := 0#32
  let v4783 : BitVec 1 := Scalar.cmpi .slt c4_i32_2880 c0_i32_2884
  let v4784 : BitVec 32 := Scalar.extui v4783
  let v4785 : BitVec 32 := Scalar.subi v4782 v4784
  let v4786 : BitVec 1 := Scalar.cmpi .ne v4780 v4785
  let v4787 : BitVec 32 := Scalar.remsi v152 c4_i32_2880
  let c0_i32_2885 : BitVec 32 := 0#32
  let v4788 : BitVec 1 := Scalar.cmpi .ne v4787 c0_i32_2885
  let v4789 : BitVec 1 := Scalar.andi v4786 v4788
  let v4775 : BitVec 32 := Scalar.divsi v152 c4_i32_2880
  let c1_i32_2886 : BitVec 32 := 1#32
  let v4790 : BitVec 32 := Scalar.subi v4775 c1_i32_2886
  let v4791 : BitVec 32 := Scalar.select v4789 v4790 v4775
  let v4792 : BitVec 32 := Scalar.addi v4774 v4791
  let v4815 : BitVec 32 := Scalar.muli c8_i32_2900 v4792
  let c4_i32_2893 : BitVec 32 := 4#32
  let c2_i32_2887 : BitVec 32 := 2#32
  let c0_i32_2888 : BitVec 32 := 0#32
  let v4793 : BitVec 1 := Scalar.cmpi .eq c2_i32_2887 c0_i32_2888
  let c1_i32_2889 : BitVec 32 := 1#32
  let v4794 : BitVec 32 := Scalar.select v4793 c1_i32_2889 c2_i32_2887
  let v4795 : BitVec 32 := Scalar.remsi v75 v4794
  let c0_i32_2891 : BitVec 32 := 0#32
  let v4797 : BitVec 1 := Scalar.cmpi .slt v4795 c0_i32_2891
  let c0_i32_2892 : BitVec 32 := 0#32
  let v4798 : BitVec 1 := Scalar.cmpi .slt v4794 c0_i32_2892
  let v4799 : BitVec 1 := Scalar.xori v4797 v4798
  let c0_i32_2890 : BitVec 32 := 0#32
  let v4796 : BitVec 1 := Scalar.cmpi .ne v4795 c0_i32_2890
  let v4800 : BitVec 1 := Scalar.andi v4799 v4796
  let v4801 : BitVec 32 := Scalar.addi v4795 v4794
  let v4802 : BitVec 32 := Scalar.select v4800 v4801 v4795
  let v4803 : BitVec 32 := Scalar.muli c4_i32_2893 v4802
  let c4_i32_2894 : BitVec 32 := 4#32
  let c0_i32_2895 : BitVec 32 := 0#32
  let v4804 : BitVec 1 := Scalar.cmpi .eq c4_i32_2894 c0_i32_2895
  let c1_i32_2896 : BitVec 32 := 1#32
  let v4805 : BitVec 32 := Scalar.select v4804 c1_i32_2896 c4_i32_2894
  let v4806 : BitVec 32 := Scalar.remsi v152 v4805
  let c0_i32_2898 : BitVec 32 := 0#32
  let v4808 : BitVec 1 := Scalar.cmpi .slt v4806 c0_i32_2898
  let c0_i32_2899 : BitVec 32 := 0#32
  let v4809 : BitVec 1 := Scalar.cmpi .slt v4805 c0_i32_2899
  let v4810 : BitVec 1 := Scalar.xori v4808 v4809
  let c0_i32_2897 : BitVec 32 := 0#32
  let v4807 : BitVec 1 := Scalar.cmpi .ne v4806 c0_i32_2897
  let v4811 : BitVec 1 := Scalar.andi v4810 v4807
  let v4812 : BitVec 32 := Scalar.addi v4806 v4805
  let v4813 : BitVec 32 := Scalar.select v4811 v4812 v4806
  let v4814 : BitVec 32 := Scalar.addi v4803 v4813
  let v4816 : BitVec 32 := Scalar.addi v4815 v4814
  let c1_i32_2905 : BitVec 32 := 1#32
  let v4817 : BitVec 32 := Scalar.muli v4816 c1_i32_2905
  let v4818 : BitVec 32 := Scalar.addi c0_i32_2906 v4817
  v4818.toNat
def k0_dev63 (d0 : Dev nD) : Nat :=
  let c0_i32_2945 : BitVec 32 := 0#32
  let c8_i32_2939 : BitVec 32 := 8#32
  let c2_i32_2918 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2912 : BitVec 32 := 0#32
  let v4828 : BitVec 1 := Scalar.cmpi .sgt v75 c0_i32_2912
  let v4829 : BitVec 32 := Scalar.extui v4828
  let c0_i32_2913 : BitVec 32 := 0#32
  let v4830 : BitVec 1 := Scalar.cmpi .slt v75 c0_i32_2913
  let v4831 : BitVec 32 := Scalar.extui v4830
  let v4832 : BitVec 32 := Scalar.subi v4829 v4831
  let c2_i32_2911 : BitVec 32 := 2#32
  let c0_i32_2914 : BitVec 32 := 0#32
  let v4833 : BitVec 1 := Scalar.cmpi .sgt c2_i32_2911 c0_i32_2914
  let v4834 : BitVec 32 := Scalar.extui v4833
  let c0_i32_2915 : BitVec 32 := 0#32
  let v4835 : BitVec 1 := Scalar.cmpi .slt c2_i32_2911 c0_i32_2915
  let v4836 : BitVec 32 := Scalar.extui v4835
  let v4837 : BitVec 32 := Scalar.subi v4834 v4836
  let v4838 : BitVec 1 := Scalar.cmpi .ne v4832 v4837
  let v4839 : BitVec 32 := Scalar.remsi v75 c2_i32_2911
  let c0_i32_2916 : BitVec 32 := 0#32
  let v4840 : BitVec 1 := Scalar.cmpi .ne v4839 c0_i32_2916
  let v4841 : BitVec 1 := Scalar.andi v4838 v4840
  let v4827 : BitVec 32 := Scalar.divsi v75 c2_i32_2911
  let c1_i32_2917 : BitVec 32 := 1#32
  let v4842 : BitVec 32 := Scalar.subi v4827 c1_i32_2917
  let v4843 : BitVec 32 := Scalar.select v4841 v4842 v4827
  let v4844 : BitVec 32 := Scalar.muli c2_i32_2918 v4843
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_2920 : BitVec 32 := 0#32
  let v4846 : BitVec 1 := Scalar.cmpi .sgt v163 c0_i32_2920
  let v4847 : BitVec 32 := Scalar.extui v4846
  let c0_i32_2921 : BitVec 32 := 0#32
  let v4848 : BitVec 1 := Scalar.cmpi .slt v163 c0_i32_2921
  let v4849 : BitVec 32 := Scalar.extui v4848
  let v4850 : BitVec 32 := Scalar.subi v4847 v4849
  let c4_i32_2919 : BitVec 32 := 4#32
  let c0_i32_2922 : BitVec 32 := 0#32
  let v4851 : BitVec 1 := Scalar.cmpi .sgt c4_i32_2919 c0_i32_2922
  let v4852 : BitVec 32 := Scalar.extui v4851
  let c0_i32_2923 : BitVec 32 := 0#32
  let v4853 : BitVec 1 := Scalar.cmpi .slt c4_i32_2919 c0_i32_2923
  let v4854 : BitVec 32 := Scalar.extui v4853
  let v4855 : BitVec 32 := Scalar.subi v4852 v4854
  let v4856 : BitVec 1 := Scalar.cmpi .ne v4850 v4855
  let v4857 : BitVec 32 := Scalar.remsi v163 c4_i32_2919
  let c0_i32_2924 : BitVec 32 := 0#32
  let v4858 : BitVec 1 := Scalar.cmpi .ne v4857 c0_i32_2924
  let v4859 : BitVec 1 := Scalar.andi v4856 v4858
  let v4845 : BitVec 32 := Scalar.divsi v163 c4_i32_2919
  let c1_i32_2925 : BitVec 32 := 1#32
  let v4860 : BitVec 32 := Scalar.subi v4845 c1_i32_2925
  let v4861 : BitVec 32 := Scalar.select v4859 v4860 v4845
  let v4862 : BitVec 32 := Scalar.addi v4844 v4861
  let v4885 : BitVec 32 := Scalar.muli c8_i32_2939 v4862
  let c4_i32_2932 : BitVec 32 := 4#32
  let c2_i32_2926 : BitVec 32 := 2#32
  let c0_i32_2927 : BitVec 32 := 0#32
  let v4863 : BitVec 1 := Scalar.cmpi .eq c2_i32_2926 c0_i32_2927
  let c1_i32_2928 : BitVec 32 := 1#32
  let v4864 : BitVec 32 := Scalar.select v4863 c1_i32_2928 c2_i32_2926
  let v4865 : BitVec 32 := Scalar.remsi v75 v4864
  let c0_i32_2930 : BitVec 32 := 0#32
  let v4867 : BitVec 1 := Scalar.cmpi .slt v4865 c0_i32_2930
  let c0_i32_2931 : BitVec 32 := 0#32
  let v4868 : BitVec 1 := Scalar.cmpi .slt v4864 c0_i32_2931
  let v4869 : BitVec 1 := Scalar.xori v4867 v4868
  let c0_i32_2929 : BitVec 32 := 0#32
  let v4866 : BitVec 1 := Scalar.cmpi .ne v4865 c0_i32_2929
  let v4870 : BitVec 1 := Scalar.andi v4869 v4866
  let v4871 : BitVec 32 := Scalar.addi v4865 v4864
  let v4872 : BitVec 32 := Scalar.select v4870 v4871 v4865
  let v4873 : BitVec 32 := Scalar.muli c4_i32_2932 v4872
  let c4_i32_2933 : BitVec 32 := 4#32
  let c0_i32_2934 : BitVec 32 := 0#32
  let v4874 : BitVec 1 := Scalar.cmpi .eq c4_i32_2933 c0_i32_2934
  let c1_i32_2935 : BitVec 32 := 1#32
  let v4875 : BitVec 32 := Scalar.select v4874 c1_i32_2935 c4_i32_2933
  let v4876 : BitVec 32 := Scalar.remsi v163 v4875
  let c0_i32_2937 : BitVec 32 := 0#32
  let v4878 : BitVec 1 := Scalar.cmpi .slt v4876 c0_i32_2937
  let c0_i32_2938 : BitVec 32 := 0#32
  let v4879 : BitVec 1 := Scalar.cmpi .slt v4875 c0_i32_2938
  let v4880 : BitVec 1 := Scalar.xori v4878 v4879
  let c0_i32_2936 : BitVec 32 := 0#32
  let v4877 : BitVec 1 := Scalar.cmpi .ne v4876 c0_i32_2936
  let v4881 : BitVec 1 := Scalar.andi v4880 v4877
  let v4882 : BitVec 32 := Scalar.addi v4876 v4875
  let v4883 : BitVec 32 := Scalar.select v4881 v4882 v4876
  let v4884 : BitVec 32 := Scalar.addi v4873 v4883
  let v4886 : BitVec 32 := Scalar.addi v4885 v4884
  let c1_i32_2944 : BitVec 32 := 1#32
  let v4887 : BitVec 32 := Scalar.muli v4886 c1_i32_2944
  let v4888 : BitVec 32 := Scalar.addi c0_i32_2945 v4887
  v4888.toNat
def k0_dev64 (d0 : Dev nD) : Nat :=
  let c0_i32_2984 : BitVec 32 := 0#32
  let c8_i32_2978 : BitVec 32 := 8#32
  let c2_i32_2957 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_2951 : BitVec 32 := 0#32
  let v4898 : BitVec 1 := Scalar.cmpi .sgt v75 c0_i32_2951
  let v4899 : BitVec 32 := Scalar.extui v4898
  let c0_i32_2952 : BitVec 32 := 0#32
  let v4900 : BitVec 1 := Scalar.cmpi .slt v75 c0_i32_2952
  let v4901 : BitVec 32 := Scalar.extui v4900
  let v4902 : BitVec 32 := Scalar.subi v4899 v4901
  let c2_i32_2950 : BitVec 32 := 2#32
  let c0_i32_2953 : BitVec 32 := 0#32
  let v4903 : BitVec 1 := Scalar.cmpi .sgt c2_i32_2950 c0_i32_2953
  let v4904 : BitVec 32 := Scalar.extui v4903
  let c0_i32_2954 : BitVec 32 := 0#32
  let v4905 : BitVec 1 := Scalar.cmpi .slt c2_i32_2950 c0_i32_2954
  let v4906 : BitVec 32 := Scalar.extui v4905
  let v4907 : BitVec 32 := Scalar.subi v4904 v4906
  let v4908 : BitVec 1 := Scalar.cmpi .ne v4902 v4907
  let v4909 : BitVec 32 := Scalar.remsi v75 c2_i32_2950
  let c0_i32_2955 : BitVec 32 := 0#32
  let v4910 : BitVec 1 := Scalar.cmpi .ne v4909 c0_i32_2955
  let v4911 : BitVec 1 := Scalar.andi v4908 v4910
  let v4897 : BitVec 32 := Scalar.divsi v75 c2_i32_2950
  let c1_i32_2956 : BitVec 32 := 1#32
  let v4912 : BitVec 32 := Scalar.subi v4897 c1_i32_2956
  let v4913 : BitVec 32 := Scalar.select v4911 v4912 v4897
  let v4914 : BitVec 32 := Scalar.muli c2_i32_2957 v4913
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_2959 : BitVec 32 := 0#32
  let v4916 : BitVec 1 := Scalar.cmpi .sgt v174 c0_i32_2959
  let v4917 : BitVec 32 := Scalar.extui v4916
  let c0_i32_2960 : BitVec 32 := 0#32
  let v4918 : BitVec 1 := Scalar.cmpi .slt v174 c0_i32_2960
  let v4919 : BitVec 32 := Scalar.extui v4918
  let v4920 : BitVec 32 := Scalar.subi v4917 v4919
  let c4_i32_2958 : BitVec 32 := 4#32
  let c0_i32_2961 : BitVec 32 := 0#32
  let v4921 : BitVec 1 := Scalar.cmpi .sgt c4_i32_2958 c0_i32_2961
  let v4922 : BitVec 32 := Scalar.extui v4921
  let c0_i32_2962 : BitVec 32 := 0#32
  let v4923 : BitVec 1 := Scalar.cmpi .slt c4_i32_2958 c0_i32_2962
  let v4924 : BitVec 32 := Scalar.extui v4923
  let v4925 : BitVec 32 := Scalar.subi v4922 v4924
  let v4926 : BitVec 1 := Scalar.cmpi .ne v4920 v4925
  let v4927 : BitVec 32 := Scalar.remsi v174 c4_i32_2958
  let c0_i32_2963 : BitVec 32 := 0#32
  let v4928 : BitVec 1 := Scalar.cmpi .ne v4927 c0_i32_2963
  let v4929 : BitVec 1 := Scalar.andi v4926 v4928
  let v4915 : BitVec 32 := Scalar.divsi v174 c4_i32_2958
  let c1_i32_2964 : BitVec 32 := 1#32
  let v4930 : BitVec 32 := Scalar.subi v4915 c1_i32_2964
  let v4931 : BitVec 32 := Scalar.select v4929 v4930 v4915
  let v4932 : BitVec 32 := Scalar.addi v4914 v4931
  let v4955 : BitVec 32 := Scalar.muli c8_i32_2978 v4932
  let c4_i32_2971 : BitVec 32 := 4#32
  let c2_i32_2965 : BitVec 32 := 2#32
  let c0_i32_2966 : BitVec 32 := 0#32
  let v4933 : BitVec 1 := Scalar.cmpi .eq c2_i32_2965 c0_i32_2966
  let c1_i32_2967 : BitVec 32 := 1#32
  let v4934 : BitVec 32 := Scalar.select v4933 c1_i32_2967 c2_i32_2965
  let v4935 : BitVec 32 := Scalar.remsi v75 v4934
  let c0_i32_2969 : BitVec 32 := 0#32
  let v4937 : BitVec 1 := Scalar.cmpi .slt v4935 c0_i32_2969
  let c0_i32_2970 : BitVec 32 := 0#32
  let v4938 : BitVec 1 := Scalar.cmpi .slt v4934 c0_i32_2970
  let v4939 : BitVec 1 := Scalar.xori v4937 v4938
  let c0_i32_2968 : BitVec 32 := 0#32
  let v4936 : BitVec 1 := Scalar.cmpi .ne v4935 c0_i32_2968
  let v4940 : BitVec 1 := Scalar.andi v4939 v4936
  let v4941 : BitVec 32 := Scalar.addi v4935 v4934
  let v4942 : BitVec 32 := Scalar.select v4940 v4941 v4935
  let v4943 : BitVec 32 := Scalar.muli c4_i32_2971 v4942
  let c4_i32_2972 : BitVec 32 := 4#32
  let c0_i32_2973 : BitVec 32 := 0#32
  let v4944 : BitVec 1 := Scalar.cmpi .eq c4_i32_2972 c0_i32_2973
  let c1_i32_2974 : BitVec 32 := 1#32
  let v4945 : BitVec 32 := Scalar.select v4944 c1_i32_2974 c4_i32_2972
  let v4946 : BitVec 32 := Scalar.remsi v174 v4945
  let c0_i32_2976 : BitVec 32 := 0#32
  let v4948 : BitVec 1 := Scalar.cmpi .slt v4946 c0_i32_2976
  let c0_i32_2977 : BitVec 32 := 0#32
  let v4949 : BitVec 1 := Scalar.cmpi .slt v4945 c0_i32_2977
  let v4950 : BitVec 1 := Scalar.xori v4948 v4949
  let c0_i32_2975 : BitVec 32 := 0#32
  let v4947 : BitVec 1 := Scalar.cmpi .ne v4946 c0_i32_2975
  let v4951 : BitVec 1 := Scalar.andi v4950 v4947
  let v4952 : BitVec 32 := Scalar.addi v4946 v4945
  let v4953 : BitVec 32 := Scalar.select v4951 v4952 v4946
  let v4954 : BitVec 32 := Scalar.addi v4943 v4953
  let v4956 : BitVec 32 := Scalar.addi v4955 v4954
  let c1_i32_2983 : BitVec 32 := 1#32
  let v4957 : BitVec 32 := Scalar.muli v4956 c1_i32_2983
  let v4958 : BitVec 32 := Scalar.addi c0_i32_2984 v4957
  v4958.toNat
def k0_dev65 (d0 : Dev nD) : Nat :=
  let c0_i32_3062 : BitVec 32 := 0#32
  let c8_i32_3056 : BitVec 32 := 8#32
  let c2_i32_3035 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3029 : BitVec 32 := 0#32
  let v5002 : BitVec 1 := Scalar.cmpi .sgt v75 c0_i32_3029
  let v5003 : BitVec 32 := Scalar.extui v5002
  let c0_i32_3030 : BitVec 32 := 0#32
  let v5004 : BitVec 1 := Scalar.cmpi .slt v75 c0_i32_3030
  let v5005 : BitVec 32 := Scalar.extui v5004
  let v5006 : BitVec 32 := Scalar.subi v5003 v5005
  let c2_i32_3028 : BitVec 32 := 2#32
  let c0_i32_3031 : BitVec 32 := 0#32
  let v5007 : BitVec 1 := Scalar.cmpi .sgt c2_i32_3028 c0_i32_3031
  let v5008 : BitVec 32 := Scalar.extui v5007
  let c0_i32_3032 : BitVec 32 := 0#32
  let v5009 : BitVec 1 := Scalar.cmpi .slt c2_i32_3028 c0_i32_3032
  let v5010 : BitVec 32 := Scalar.extui v5009
  let v5011 : BitVec 32 := Scalar.subi v5008 v5010
  let v5012 : BitVec 1 := Scalar.cmpi .ne v5006 v5011
  let v5013 : BitVec 32 := Scalar.remsi v75 c2_i32_3028
  let c0_i32_3033 : BitVec 32 := 0#32
  let v5014 : BitVec 1 := Scalar.cmpi .ne v5013 c0_i32_3033
  let v5015 : BitVec 1 := Scalar.andi v5012 v5014
  let v5001 : BitVec 32 := Scalar.divsi v75 c2_i32_3028
  let c1_i32_3034 : BitVec 32 := 1#32
  let v5016 : BitVec 32 := Scalar.subi v5001 c1_i32_3034
  let v5017 : BitVec 32 := Scalar.select v5015 v5016 v5001
  let v5018 : BitVec 32 := Scalar.muli c2_i32_3035 v5017
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_3037 : BitVec 32 := 0#32
  let v5020 : BitVec 1 := Scalar.cmpi .sgt v108 c0_i32_3037
  let v5021 : BitVec 32 := Scalar.extui v5020
  let c0_i32_3038 : BitVec 32 := 0#32
  let v5022 : BitVec 1 := Scalar.cmpi .slt v108 c0_i32_3038
  let v5023 : BitVec 32 := Scalar.extui v5022
  let v5024 : BitVec 32 := Scalar.subi v5021 v5023
  let c4_i32_3036 : BitVec 32 := 4#32
  let c0_i32_3039 : BitVec 32 := 0#32
  let v5025 : BitVec 1 := Scalar.cmpi .sgt c4_i32_3036 c0_i32_3039
  let v5026 : BitVec 32 := Scalar.extui v5025
  let c0_i32_3040 : BitVec 32 := 0#32
  let v5027 : BitVec 1 := Scalar.cmpi .slt c4_i32_3036 c0_i32_3040
  let v5028 : BitVec 32 := Scalar.extui v5027
  let v5029 : BitVec 32 := Scalar.subi v5026 v5028
  let v5030 : BitVec 1 := Scalar.cmpi .ne v5024 v5029
  let v5031 : BitVec 32 := Scalar.remsi v108 c4_i32_3036
  let c0_i32_3041 : BitVec 32 := 0#32
  let v5032 : BitVec 1 := Scalar.cmpi .ne v5031 c0_i32_3041
  let v5033 : BitVec 1 := Scalar.andi v5030 v5032
  let v5019 : BitVec 32 := Scalar.divsi v108 c4_i32_3036
  let c1_i32_3042 : BitVec 32 := 1#32
  let v5034 : BitVec 32 := Scalar.subi v5019 c1_i32_3042
  let v5035 : BitVec 32 := Scalar.select v5033 v5034 v5019
  let v5036 : BitVec 32 := Scalar.addi v5018 v5035
  let v5059 : BitVec 32 := Scalar.muli c8_i32_3056 v5036
  let c4_i32_3049 : BitVec 32 := 4#32
  let c2_i32_3043 : BitVec 32 := 2#32
  let c0_i32_3044 : BitVec 32 := 0#32
  let v5037 : BitVec 1 := Scalar.cmpi .eq c2_i32_3043 c0_i32_3044
  let c1_i32_3045 : BitVec 32 := 1#32
  let v5038 : BitVec 32 := Scalar.select v5037 c1_i32_3045 c2_i32_3043
  let v5039 : BitVec 32 := Scalar.remsi v75 v5038
  let c0_i32_3047 : BitVec 32 := 0#32
  let v5041 : BitVec 1 := Scalar.cmpi .slt v5039 c0_i32_3047
  let c0_i32_3048 : BitVec 32 := 0#32
  let v5042 : BitVec 1 := Scalar.cmpi .slt v5038 c0_i32_3048
  let v5043 : BitVec 1 := Scalar.xori v5041 v5042
  let c0_i32_3046 : BitVec 32 := 0#32
  let v5040 : BitVec 1 := Scalar.cmpi .ne v5039 c0_i32_3046
  let v5044 : BitVec 1 := Scalar.andi v5043 v5040
  let v5045 : BitVec 32 := Scalar.addi v5039 v5038
  let v5046 : BitVec 32 := Scalar.select v5044 v5045 v5039
  let v5047 : BitVec 32 := Scalar.muli c4_i32_3049 v5046
  let c4_i32_3050 : BitVec 32 := 4#32
  let c0_i32_3051 : BitVec 32 := 0#32
  let v5048 : BitVec 1 := Scalar.cmpi .eq c4_i32_3050 c0_i32_3051
  let c1_i32_3052 : BitVec 32 := 1#32
  let v5049 : BitVec 32 := Scalar.select v5048 c1_i32_3052 c4_i32_3050
  let v5050 : BitVec 32 := Scalar.remsi v108 v5049
  let c0_i32_3054 : BitVec 32 := 0#32
  let v5052 : BitVec 1 := Scalar.cmpi .slt v5050 c0_i32_3054
  let c0_i32_3055 : BitVec 32 := 0#32
  let v5053 : BitVec 1 := Scalar.cmpi .slt v5049 c0_i32_3055
  let v5054 : BitVec 1 := Scalar.xori v5052 v5053
  let c0_i32_3053 : BitVec 32 := 0#32
  let v5051 : BitVec 1 := Scalar.cmpi .ne v5050 c0_i32_3053
  let v5055 : BitVec 1 := Scalar.andi v5054 v5051
  let v5056 : BitVec 32 := Scalar.addi v5050 v5049
  let v5057 : BitVec 32 := Scalar.select v5055 v5056 v5050
  let v5058 : BitVec 32 := Scalar.addi v5047 v5057
  let v5060 : BitVec 32 := Scalar.addi v5059 v5058
  let c1_i32_3061 : BitVec 32 := 1#32
  let v5061 : BitVec 32 := Scalar.muli v5060 c1_i32_3061
  let v5062 : BitVec 32 := Scalar.addi c0_i32_3062 v5061
  v5062.toNat
def k0_dev66 (d0 : Dev nD) : Nat :=
  let c0_i32_3101 : BitVec 32 := 0#32
  let c8_i32_3095 : BitVec 32 := 8#32
  let c2_i32_3074 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3068 : BitVec 32 := 0#32
  let v5072 : BitVec 1 := Scalar.cmpi .sgt v75 c0_i32_3068
  let v5073 : BitVec 32 := Scalar.extui v5072
  let c0_i32_3069 : BitVec 32 := 0#32
  let v5074 : BitVec 1 := Scalar.cmpi .slt v75 c0_i32_3069
  let v5075 : BitVec 32 := Scalar.extui v5074
  let v5076 : BitVec 32 := Scalar.subi v5073 v5075
  let c2_i32_3067 : BitVec 32 := 2#32
  let c0_i32_3070 : BitVec 32 := 0#32
  let v5077 : BitVec 1 := Scalar.cmpi .sgt c2_i32_3067 c0_i32_3070
  let v5078 : BitVec 32 := Scalar.extui v5077
  let c0_i32_3071 : BitVec 32 := 0#32
  let v5079 : BitVec 1 := Scalar.cmpi .slt c2_i32_3067 c0_i32_3071
  let v5080 : BitVec 32 := Scalar.extui v5079
  let v5081 : BitVec 32 := Scalar.subi v5078 v5080
  let v5082 : BitVec 1 := Scalar.cmpi .ne v5076 v5081
  let v5083 : BitVec 32 := Scalar.remsi v75 c2_i32_3067
  let c0_i32_3072 : BitVec 32 := 0#32
  let v5084 : BitVec 1 := Scalar.cmpi .ne v5083 c0_i32_3072
  let v5085 : BitVec 1 := Scalar.andi v5082 v5084
  let v5071 : BitVec 32 := Scalar.divsi v75 c2_i32_3067
  let c1_i32_3073 : BitVec 32 := 1#32
  let v5086 : BitVec 32 := Scalar.subi v5071 c1_i32_3073
  let v5087 : BitVec 32 := Scalar.select v5085 v5086 v5071
  let v5088 : BitVec 32 := Scalar.muli c2_i32_3074 v5087
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_3076 : BitVec 32 := 0#32
  let v5090 : BitVec 1 := Scalar.cmpi .sgt v119 c0_i32_3076
  let v5091 : BitVec 32 := Scalar.extui v5090
  let c0_i32_3077 : BitVec 32 := 0#32
  let v5092 : BitVec 1 := Scalar.cmpi .slt v119 c0_i32_3077
  let v5093 : BitVec 32 := Scalar.extui v5092
  let v5094 : BitVec 32 := Scalar.subi v5091 v5093
  let c4_i32_3075 : BitVec 32 := 4#32
  let c0_i32_3078 : BitVec 32 := 0#32
  let v5095 : BitVec 1 := Scalar.cmpi .sgt c4_i32_3075 c0_i32_3078
  let v5096 : BitVec 32 := Scalar.extui v5095
  let c0_i32_3079 : BitVec 32 := 0#32
  let v5097 : BitVec 1 := Scalar.cmpi .slt c4_i32_3075 c0_i32_3079
  let v5098 : BitVec 32 := Scalar.extui v5097
  let v5099 : BitVec 32 := Scalar.subi v5096 v5098
  let v5100 : BitVec 1 := Scalar.cmpi .ne v5094 v5099
  let v5101 : BitVec 32 := Scalar.remsi v119 c4_i32_3075
  let c0_i32_3080 : BitVec 32 := 0#32
  let v5102 : BitVec 1 := Scalar.cmpi .ne v5101 c0_i32_3080
  let v5103 : BitVec 1 := Scalar.andi v5100 v5102
  let v5089 : BitVec 32 := Scalar.divsi v119 c4_i32_3075
  let c1_i32_3081 : BitVec 32 := 1#32
  let v5104 : BitVec 32 := Scalar.subi v5089 c1_i32_3081
  let v5105 : BitVec 32 := Scalar.select v5103 v5104 v5089
  let v5106 : BitVec 32 := Scalar.addi v5088 v5105
  let v5129 : BitVec 32 := Scalar.muli c8_i32_3095 v5106
  let c4_i32_3088 : BitVec 32 := 4#32
  let c2_i32_3082 : BitVec 32 := 2#32
  let c0_i32_3083 : BitVec 32 := 0#32
  let v5107 : BitVec 1 := Scalar.cmpi .eq c2_i32_3082 c0_i32_3083
  let c1_i32_3084 : BitVec 32 := 1#32
  let v5108 : BitVec 32 := Scalar.select v5107 c1_i32_3084 c2_i32_3082
  let v5109 : BitVec 32 := Scalar.remsi v75 v5108
  let c0_i32_3086 : BitVec 32 := 0#32
  let v5111 : BitVec 1 := Scalar.cmpi .slt v5109 c0_i32_3086
  let c0_i32_3087 : BitVec 32 := 0#32
  let v5112 : BitVec 1 := Scalar.cmpi .slt v5108 c0_i32_3087
  let v5113 : BitVec 1 := Scalar.xori v5111 v5112
  let c0_i32_3085 : BitVec 32 := 0#32
  let v5110 : BitVec 1 := Scalar.cmpi .ne v5109 c0_i32_3085
  let v5114 : BitVec 1 := Scalar.andi v5113 v5110
  let v5115 : BitVec 32 := Scalar.addi v5109 v5108
  let v5116 : BitVec 32 := Scalar.select v5114 v5115 v5109
  let v5117 : BitVec 32 := Scalar.muli c4_i32_3088 v5116
  let c4_i32_3089 : BitVec 32 := 4#32
  let c0_i32_3090 : BitVec 32 := 0#32
  let v5118 : BitVec 1 := Scalar.cmpi .eq c4_i32_3089 c0_i32_3090
  let c1_i32_3091 : BitVec 32 := 1#32
  let v5119 : BitVec 32 := Scalar.select v5118 c1_i32_3091 c4_i32_3089
  let v5120 : BitVec 32 := Scalar.remsi v119 v5119
  let c0_i32_3093 : BitVec 32 := 0#32
  let v5122 : BitVec 1 := Scalar.cmpi .slt v5120 c0_i32_3093
  let c0_i32_3094 : BitVec 32 := 0#32
  let v5123 : BitVec 1 := Scalar.cmpi .slt v5119 c0_i32_3094
  let v5124 : BitVec 1 := Scalar.xori v5122 v5123
  let c0_i32_3092 : BitVec 32 := 0#32
  let v5121 : BitVec 1 := Scalar.cmpi .ne v5120 c0_i32_3092
  let v5125 : BitVec 1 := Scalar.andi v5124 v5121
  let v5126 : BitVec 32 := Scalar.addi v5120 v5119
  let v5127 : BitVec 32 := Scalar.select v5125 v5126 v5120
  let v5128 : BitVec 32 := Scalar.addi v5117 v5127
  let v5130 : BitVec 32 := Scalar.addi v5129 v5128
  let c1_i32_3100 : BitVec 32 := 1#32
  let v5131 : BitVec 32 := Scalar.muli v5130 c1_i32_3100
  let v5132 : BitVec 32 := Scalar.addi c0_i32_3101 v5131
  v5132.toNat
def k0_dev67 (d0 : Dev nD) : Nat :=
  let c0_i32_3140 : BitVec 32 := 0#32
  let c8_i32_3134 : BitVec 32 := 8#32
  let c2_i32_3113 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3107 : BitVec 32 := 0#32
  let v5142 : BitVec 1 := Scalar.cmpi .sgt v75 c0_i32_3107
  let v5143 : BitVec 32 := Scalar.extui v5142
  let c0_i32_3108 : BitVec 32 := 0#32
  let v5144 : BitVec 1 := Scalar.cmpi .slt v75 c0_i32_3108
  let v5145 : BitVec 32 := Scalar.extui v5144
  let v5146 : BitVec 32 := Scalar.subi v5143 v5145
  let c2_i32_3106 : BitVec 32 := 2#32
  let c0_i32_3109 : BitVec 32 := 0#32
  let v5147 : BitVec 1 := Scalar.cmpi .sgt c2_i32_3106 c0_i32_3109
  let v5148 : BitVec 32 := Scalar.extui v5147
  let c0_i32_3110 : BitVec 32 := 0#32
  let v5149 : BitVec 1 := Scalar.cmpi .slt c2_i32_3106 c0_i32_3110
  let v5150 : BitVec 32 := Scalar.extui v5149
  let v5151 : BitVec 32 := Scalar.subi v5148 v5150
  let v5152 : BitVec 1 := Scalar.cmpi .ne v5146 v5151
  let v5153 : BitVec 32 := Scalar.remsi v75 c2_i32_3106
  let c0_i32_3111 : BitVec 32 := 0#32
  let v5154 : BitVec 1 := Scalar.cmpi .ne v5153 c0_i32_3111
  let v5155 : BitVec 1 := Scalar.andi v5152 v5154
  let v5141 : BitVec 32 := Scalar.divsi v75 c2_i32_3106
  let c1_i32_3112 : BitVec 32 := 1#32
  let v5156 : BitVec 32 := Scalar.subi v5141 c1_i32_3112
  let v5157 : BitVec 32 := Scalar.select v5155 v5156 v5141
  let v5158 : BitVec 32 := Scalar.muli c2_i32_3113 v5157
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_3115 : BitVec 32 := 0#32
  let v5160 : BitVec 1 := Scalar.cmpi .sgt v130 c0_i32_3115
  let v5161 : BitVec 32 := Scalar.extui v5160
  let c0_i32_3116 : BitVec 32 := 0#32
  let v5162 : BitVec 1 := Scalar.cmpi .slt v130 c0_i32_3116
  let v5163 : BitVec 32 := Scalar.extui v5162
  let v5164 : BitVec 32 := Scalar.subi v5161 v5163
  let c4_i32_3114 : BitVec 32 := 4#32
  let c0_i32_3117 : BitVec 32 := 0#32
  let v5165 : BitVec 1 := Scalar.cmpi .sgt c4_i32_3114 c0_i32_3117
  let v5166 : BitVec 32 := Scalar.extui v5165
  let c0_i32_3118 : BitVec 32 := 0#32
  let v5167 : BitVec 1 := Scalar.cmpi .slt c4_i32_3114 c0_i32_3118
  let v5168 : BitVec 32 := Scalar.extui v5167
  let v5169 : BitVec 32 := Scalar.subi v5166 v5168
  let v5170 : BitVec 1 := Scalar.cmpi .ne v5164 v5169
  let v5171 : BitVec 32 := Scalar.remsi v130 c4_i32_3114
  let c0_i32_3119 : BitVec 32 := 0#32
  let v5172 : BitVec 1 := Scalar.cmpi .ne v5171 c0_i32_3119
  let v5173 : BitVec 1 := Scalar.andi v5170 v5172
  let v5159 : BitVec 32 := Scalar.divsi v130 c4_i32_3114
  let c1_i32_3120 : BitVec 32 := 1#32
  let v5174 : BitVec 32 := Scalar.subi v5159 c1_i32_3120
  let v5175 : BitVec 32 := Scalar.select v5173 v5174 v5159
  let v5176 : BitVec 32 := Scalar.addi v5158 v5175
  let v5199 : BitVec 32 := Scalar.muli c8_i32_3134 v5176
  let c4_i32_3127 : BitVec 32 := 4#32
  let c2_i32_3121 : BitVec 32 := 2#32
  let c0_i32_3122 : BitVec 32 := 0#32
  let v5177 : BitVec 1 := Scalar.cmpi .eq c2_i32_3121 c0_i32_3122
  let c1_i32_3123 : BitVec 32 := 1#32
  let v5178 : BitVec 32 := Scalar.select v5177 c1_i32_3123 c2_i32_3121
  let v5179 : BitVec 32 := Scalar.remsi v75 v5178
  let c0_i32_3125 : BitVec 32 := 0#32
  let v5181 : BitVec 1 := Scalar.cmpi .slt v5179 c0_i32_3125
  let c0_i32_3126 : BitVec 32 := 0#32
  let v5182 : BitVec 1 := Scalar.cmpi .slt v5178 c0_i32_3126
  let v5183 : BitVec 1 := Scalar.xori v5181 v5182
  let c0_i32_3124 : BitVec 32 := 0#32
  let v5180 : BitVec 1 := Scalar.cmpi .ne v5179 c0_i32_3124
  let v5184 : BitVec 1 := Scalar.andi v5183 v5180
  let v5185 : BitVec 32 := Scalar.addi v5179 v5178
  let v5186 : BitVec 32 := Scalar.select v5184 v5185 v5179
  let v5187 : BitVec 32 := Scalar.muli c4_i32_3127 v5186
  let c4_i32_3128 : BitVec 32 := 4#32
  let c0_i32_3129 : BitVec 32 := 0#32
  let v5188 : BitVec 1 := Scalar.cmpi .eq c4_i32_3128 c0_i32_3129
  let c1_i32_3130 : BitVec 32 := 1#32
  let v5189 : BitVec 32 := Scalar.select v5188 c1_i32_3130 c4_i32_3128
  let v5190 : BitVec 32 := Scalar.remsi v130 v5189
  let c0_i32_3132 : BitVec 32 := 0#32
  let v5192 : BitVec 1 := Scalar.cmpi .slt v5190 c0_i32_3132
  let c0_i32_3133 : BitVec 32 := 0#32
  let v5193 : BitVec 1 := Scalar.cmpi .slt v5189 c0_i32_3133
  let v5194 : BitVec 1 := Scalar.xori v5192 v5193
  let c0_i32_3131 : BitVec 32 := 0#32
  let v5191 : BitVec 1 := Scalar.cmpi .ne v5190 c0_i32_3131
  let v5195 : BitVec 1 := Scalar.andi v5194 v5191
  let v5196 : BitVec 32 := Scalar.addi v5190 v5189
  let v5197 : BitVec 32 := Scalar.select v5195 v5196 v5190
  let v5198 : BitVec 32 := Scalar.addi v5187 v5197
  let v5200 : BitVec 32 := Scalar.addi v5199 v5198
  let c1_i32_3139 : BitVec 32 := 1#32
  let v5201 : BitVec 32 := Scalar.muli v5200 c1_i32_3139
  let v5202 : BitVec 32 := Scalar.addi c0_i32_3140 v5201
  v5202.toNat
def k0_dev68 (d0 : Dev nD) : Nat :=
  let c0_i32_3179 : BitVec 32 := 0#32
  let c8_i32_3173 : BitVec 32 := 8#32
  let c2_i32_3152 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3146 : BitVec 32 := 0#32
  let v5212 : BitVec 1 := Scalar.cmpi .sgt v75 c0_i32_3146
  let v5213 : BitVec 32 := Scalar.extui v5212
  let c0_i32_3147 : BitVec 32 := 0#32
  let v5214 : BitVec 1 := Scalar.cmpi .slt v75 c0_i32_3147
  let v5215 : BitVec 32 := Scalar.extui v5214
  let v5216 : BitVec 32 := Scalar.subi v5213 v5215
  let c2_i32_3145 : BitVec 32 := 2#32
  let c0_i32_3148 : BitVec 32 := 0#32
  let v5217 : BitVec 1 := Scalar.cmpi .sgt c2_i32_3145 c0_i32_3148
  let v5218 : BitVec 32 := Scalar.extui v5217
  let c0_i32_3149 : BitVec 32 := 0#32
  let v5219 : BitVec 1 := Scalar.cmpi .slt c2_i32_3145 c0_i32_3149
  let v5220 : BitVec 32 := Scalar.extui v5219
  let v5221 : BitVec 32 := Scalar.subi v5218 v5220
  let v5222 : BitVec 1 := Scalar.cmpi .ne v5216 v5221
  let v5223 : BitVec 32 := Scalar.remsi v75 c2_i32_3145
  let c0_i32_3150 : BitVec 32 := 0#32
  let v5224 : BitVec 1 := Scalar.cmpi .ne v5223 c0_i32_3150
  let v5225 : BitVec 1 := Scalar.andi v5222 v5224
  let v5211 : BitVec 32 := Scalar.divsi v75 c2_i32_3145
  let c1_i32_3151 : BitVec 32 := 1#32
  let v5226 : BitVec 32 := Scalar.subi v5211 c1_i32_3151
  let v5227 : BitVec 32 := Scalar.select v5225 v5226 v5211
  let v5228 : BitVec 32 := Scalar.muli c2_i32_3152 v5227
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_3154 : BitVec 32 := 0#32
  let v5230 : BitVec 1 := Scalar.cmpi .sgt v141 c0_i32_3154
  let v5231 : BitVec 32 := Scalar.extui v5230
  let c0_i32_3155 : BitVec 32 := 0#32
  let v5232 : BitVec 1 := Scalar.cmpi .slt v141 c0_i32_3155
  let v5233 : BitVec 32 := Scalar.extui v5232
  let v5234 : BitVec 32 := Scalar.subi v5231 v5233
  let c4_i32_3153 : BitVec 32 := 4#32
  let c0_i32_3156 : BitVec 32 := 0#32
  let v5235 : BitVec 1 := Scalar.cmpi .sgt c4_i32_3153 c0_i32_3156
  let v5236 : BitVec 32 := Scalar.extui v5235
  let c0_i32_3157 : BitVec 32 := 0#32
  let v5237 : BitVec 1 := Scalar.cmpi .slt c4_i32_3153 c0_i32_3157
  let v5238 : BitVec 32 := Scalar.extui v5237
  let v5239 : BitVec 32 := Scalar.subi v5236 v5238
  let v5240 : BitVec 1 := Scalar.cmpi .ne v5234 v5239
  let v5241 : BitVec 32 := Scalar.remsi v141 c4_i32_3153
  let c0_i32_3158 : BitVec 32 := 0#32
  let v5242 : BitVec 1 := Scalar.cmpi .ne v5241 c0_i32_3158
  let v5243 : BitVec 1 := Scalar.andi v5240 v5242
  let v5229 : BitVec 32 := Scalar.divsi v141 c4_i32_3153
  let c1_i32_3159 : BitVec 32 := 1#32
  let v5244 : BitVec 32 := Scalar.subi v5229 c1_i32_3159
  let v5245 : BitVec 32 := Scalar.select v5243 v5244 v5229
  let v5246 : BitVec 32 := Scalar.addi v5228 v5245
  let v5269 : BitVec 32 := Scalar.muli c8_i32_3173 v5246
  let c4_i32_3166 : BitVec 32 := 4#32
  let c2_i32_3160 : BitVec 32 := 2#32
  let c0_i32_3161 : BitVec 32 := 0#32
  let v5247 : BitVec 1 := Scalar.cmpi .eq c2_i32_3160 c0_i32_3161
  let c1_i32_3162 : BitVec 32 := 1#32
  let v5248 : BitVec 32 := Scalar.select v5247 c1_i32_3162 c2_i32_3160
  let v5249 : BitVec 32 := Scalar.remsi v75 v5248
  let c0_i32_3164 : BitVec 32 := 0#32
  let v5251 : BitVec 1 := Scalar.cmpi .slt v5249 c0_i32_3164
  let c0_i32_3165 : BitVec 32 := 0#32
  let v5252 : BitVec 1 := Scalar.cmpi .slt v5248 c0_i32_3165
  let v5253 : BitVec 1 := Scalar.xori v5251 v5252
  let c0_i32_3163 : BitVec 32 := 0#32
  let v5250 : BitVec 1 := Scalar.cmpi .ne v5249 c0_i32_3163
  let v5254 : BitVec 1 := Scalar.andi v5253 v5250
  let v5255 : BitVec 32 := Scalar.addi v5249 v5248
  let v5256 : BitVec 32 := Scalar.select v5254 v5255 v5249
  let v5257 : BitVec 32 := Scalar.muli c4_i32_3166 v5256
  let c4_i32_3167 : BitVec 32 := 4#32
  let c0_i32_3168 : BitVec 32 := 0#32
  let v5258 : BitVec 1 := Scalar.cmpi .eq c4_i32_3167 c0_i32_3168
  let c1_i32_3169 : BitVec 32 := 1#32
  let v5259 : BitVec 32 := Scalar.select v5258 c1_i32_3169 c4_i32_3167
  let v5260 : BitVec 32 := Scalar.remsi v141 v5259
  let c0_i32_3171 : BitVec 32 := 0#32
  let v5262 : BitVec 1 := Scalar.cmpi .slt v5260 c0_i32_3171
  let c0_i32_3172 : BitVec 32 := 0#32
  let v5263 : BitVec 1 := Scalar.cmpi .slt v5259 c0_i32_3172
  let v5264 : BitVec 1 := Scalar.xori v5262 v5263
  let c0_i32_3170 : BitVec 32 := 0#32
  let v5261 : BitVec 1 := Scalar.cmpi .ne v5260 c0_i32_3170
  let v5265 : BitVec 1 := Scalar.andi v5264 v5261
  let v5266 : BitVec 32 := Scalar.addi v5260 v5259
  let v5267 : BitVec 32 := Scalar.select v5265 v5266 v5260
  let v5268 : BitVec 32 := Scalar.addi v5257 v5267
  let v5270 : BitVec 32 := Scalar.addi v5269 v5268
  let c1_i32_3178 : BitVec 32 := 1#32
  let v5271 : BitVec 32 := Scalar.muli v5270 c1_i32_3178
  let v5272 : BitVec 32 := Scalar.addi c0_i32_3179 v5271
  v5272.toNat
def k0_dev69 (d0 : Dev nD) : Nat :=
  let c0_i32_3218 : BitVec 32 := 0#32
  let c8_i32_3212 : BitVec 32 := 8#32
  let c2_i32_3191 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3185 : BitVec 32 := 0#32
  let v5282 : BitVec 1 := Scalar.cmpi .sgt v75 c0_i32_3185
  let v5283 : BitVec 32 := Scalar.extui v5282
  let c0_i32_3186 : BitVec 32 := 0#32
  let v5284 : BitVec 1 := Scalar.cmpi .slt v75 c0_i32_3186
  let v5285 : BitVec 32 := Scalar.extui v5284
  let v5286 : BitVec 32 := Scalar.subi v5283 v5285
  let c2_i32_3184 : BitVec 32 := 2#32
  let c0_i32_3187 : BitVec 32 := 0#32
  let v5287 : BitVec 1 := Scalar.cmpi .sgt c2_i32_3184 c0_i32_3187
  let v5288 : BitVec 32 := Scalar.extui v5287
  let c0_i32_3188 : BitVec 32 := 0#32
  let v5289 : BitVec 1 := Scalar.cmpi .slt c2_i32_3184 c0_i32_3188
  let v5290 : BitVec 32 := Scalar.extui v5289
  let v5291 : BitVec 32 := Scalar.subi v5288 v5290
  let v5292 : BitVec 1 := Scalar.cmpi .ne v5286 v5291
  let v5293 : BitVec 32 := Scalar.remsi v75 c2_i32_3184
  let c0_i32_3189 : BitVec 32 := 0#32
  let v5294 : BitVec 1 := Scalar.cmpi .ne v5293 c0_i32_3189
  let v5295 : BitVec 1 := Scalar.andi v5292 v5294
  let v5281 : BitVec 32 := Scalar.divsi v75 c2_i32_3184
  let c1_i32_3190 : BitVec 32 := 1#32
  let v5296 : BitVec 32 := Scalar.subi v5281 c1_i32_3190
  let v5297 : BitVec 32 := Scalar.select v5295 v5296 v5281
  let v5298 : BitVec 32 := Scalar.muli c2_i32_3191 v5297
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_3193 : BitVec 32 := 0#32
  let v5300 : BitVec 1 := Scalar.cmpi .sgt v152 c0_i32_3193
  let v5301 : BitVec 32 := Scalar.extui v5300
  let c0_i32_3194 : BitVec 32 := 0#32
  let v5302 : BitVec 1 := Scalar.cmpi .slt v152 c0_i32_3194
  let v5303 : BitVec 32 := Scalar.extui v5302
  let v5304 : BitVec 32 := Scalar.subi v5301 v5303
  let c4_i32_3192 : BitVec 32 := 4#32
  let c0_i32_3195 : BitVec 32 := 0#32
  let v5305 : BitVec 1 := Scalar.cmpi .sgt c4_i32_3192 c0_i32_3195
  let v5306 : BitVec 32 := Scalar.extui v5305
  let c0_i32_3196 : BitVec 32 := 0#32
  let v5307 : BitVec 1 := Scalar.cmpi .slt c4_i32_3192 c0_i32_3196
  let v5308 : BitVec 32 := Scalar.extui v5307
  let v5309 : BitVec 32 := Scalar.subi v5306 v5308
  let v5310 : BitVec 1 := Scalar.cmpi .ne v5304 v5309
  let v5311 : BitVec 32 := Scalar.remsi v152 c4_i32_3192
  let c0_i32_3197 : BitVec 32 := 0#32
  let v5312 : BitVec 1 := Scalar.cmpi .ne v5311 c0_i32_3197
  let v5313 : BitVec 1 := Scalar.andi v5310 v5312
  let v5299 : BitVec 32 := Scalar.divsi v152 c4_i32_3192
  let c1_i32_3198 : BitVec 32 := 1#32
  let v5314 : BitVec 32 := Scalar.subi v5299 c1_i32_3198
  let v5315 : BitVec 32 := Scalar.select v5313 v5314 v5299
  let v5316 : BitVec 32 := Scalar.addi v5298 v5315
  let v5339 : BitVec 32 := Scalar.muli c8_i32_3212 v5316
  let c4_i32_3205 : BitVec 32 := 4#32
  let c2_i32_3199 : BitVec 32 := 2#32
  let c0_i32_3200 : BitVec 32 := 0#32
  let v5317 : BitVec 1 := Scalar.cmpi .eq c2_i32_3199 c0_i32_3200
  let c1_i32_3201 : BitVec 32 := 1#32
  let v5318 : BitVec 32 := Scalar.select v5317 c1_i32_3201 c2_i32_3199
  let v5319 : BitVec 32 := Scalar.remsi v75 v5318
  let c0_i32_3203 : BitVec 32 := 0#32
  let v5321 : BitVec 1 := Scalar.cmpi .slt v5319 c0_i32_3203
  let c0_i32_3204 : BitVec 32 := 0#32
  let v5322 : BitVec 1 := Scalar.cmpi .slt v5318 c0_i32_3204
  let v5323 : BitVec 1 := Scalar.xori v5321 v5322
  let c0_i32_3202 : BitVec 32 := 0#32
  let v5320 : BitVec 1 := Scalar.cmpi .ne v5319 c0_i32_3202
  let v5324 : BitVec 1 := Scalar.andi v5323 v5320
  let v5325 : BitVec 32 := Scalar.addi v5319 v5318
  let v5326 : BitVec 32 := Scalar.select v5324 v5325 v5319
  let v5327 : BitVec 32 := Scalar.muli c4_i32_3205 v5326
  let c4_i32_3206 : BitVec 32 := 4#32
  let c0_i32_3207 : BitVec 32 := 0#32
  let v5328 : BitVec 1 := Scalar.cmpi .eq c4_i32_3206 c0_i32_3207
  let c1_i32_3208 : BitVec 32 := 1#32
  let v5329 : BitVec 32 := Scalar.select v5328 c1_i32_3208 c4_i32_3206
  let v5330 : BitVec 32 := Scalar.remsi v152 v5329
  let c0_i32_3210 : BitVec 32 := 0#32
  let v5332 : BitVec 1 := Scalar.cmpi .slt v5330 c0_i32_3210
  let c0_i32_3211 : BitVec 32 := 0#32
  let v5333 : BitVec 1 := Scalar.cmpi .slt v5329 c0_i32_3211
  let v5334 : BitVec 1 := Scalar.xori v5332 v5333
  let c0_i32_3209 : BitVec 32 := 0#32
  let v5331 : BitVec 1 := Scalar.cmpi .ne v5330 c0_i32_3209
  let v5335 : BitVec 1 := Scalar.andi v5334 v5331
  let v5336 : BitVec 32 := Scalar.addi v5330 v5329
  let v5337 : BitVec 32 := Scalar.select v5335 v5336 v5330
  let v5338 : BitVec 32 := Scalar.addi v5327 v5337
  let v5340 : BitVec 32 := Scalar.addi v5339 v5338
  let c1_i32_3217 : BitVec 32 := 1#32
  let v5341 : BitVec 32 := Scalar.muli v5340 c1_i32_3217
  let v5342 : BitVec 32 := Scalar.addi c0_i32_3218 v5341
  v5342.toNat
def k0_dev70 (d0 : Dev nD) : Nat :=
  let c0_i32_3257 : BitVec 32 := 0#32
  let c8_i32_3251 : BitVec 32 := 8#32
  let c2_i32_3230 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3224 : BitVec 32 := 0#32
  let v5352 : BitVec 1 := Scalar.cmpi .sgt v75 c0_i32_3224
  let v5353 : BitVec 32 := Scalar.extui v5352
  let c0_i32_3225 : BitVec 32 := 0#32
  let v5354 : BitVec 1 := Scalar.cmpi .slt v75 c0_i32_3225
  let v5355 : BitVec 32 := Scalar.extui v5354
  let v5356 : BitVec 32 := Scalar.subi v5353 v5355
  let c2_i32_3223 : BitVec 32 := 2#32
  let c0_i32_3226 : BitVec 32 := 0#32
  let v5357 : BitVec 1 := Scalar.cmpi .sgt c2_i32_3223 c0_i32_3226
  let v5358 : BitVec 32 := Scalar.extui v5357
  let c0_i32_3227 : BitVec 32 := 0#32
  let v5359 : BitVec 1 := Scalar.cmpi .slt c2_i32_3223 c0_i32_3227
  let v5360 : BitVec 32 := Scalar.extui v5359
  let v5361 : BitVec 32 := Scalar.subi v5358 v5360
  let v5362 : BitVec 1 := Scalar.cmpi .ne v5356 v5361
  let v5363 : BitVec 32 := Scalar.remsi v75 c2_i32_3223
  let c0_i32_3228 : BitVec 32 := 0#32
  let v5364 : BitVec 1 := Scalar.cmpi .ne v5363 c0_i32_3228
  let v5365 : BitVec 1 := Scalar.andi v5362 v5364
  let v5351 : BitVec 32 := Scalar.divsi v75 c2_i32_3223
  let c1_i32_3229 : BitVec 32 := 1#32
  let v5366 : BitVec 32 := Scalar.subi v5351 c1_i32_3229
  let v5367 : BitVec 32 := Scalar.select v5365 v5366 v5351
  let v5368 : BitVec 32 := Scalar.muli c2_i32_3230 v5367
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_3232 : BitVec 32 := 0#32
  let v5370 : BitVec 1 := Scalar.cmpi .sgt v163 c0_i32_3232
  let v5371 : BitVec 32 := Scalar.extui v5370
  let c0_i32_3233 : BitVec 32 := 0#32
  let v5372 : BitVec 1 := Scalar.cmpi .slt v163 c0_i32_3233
  let v5373 : BitVec 32 := Scalar.extui v5372
  let v5374 : BitVec 32 := Scalar.subi v5371 v5373
  let c4_i32_3231 : BitVec 32 := 4#32
  let c0_i32_3234 : BitVec 32 := 0#32
  let v5375 : BitVec 1 := Scalar.cmpi .sgt c4_i32_3231 c0_i32_3234
  let v5376 : BitVec 32 := Scalar.extui v5375
  let c0_i32_3235 : BitVec 32 := 0#32
  let v5377 : BitVec 1 := Scalar.cmpi .slt c4_i32_3231 c0_i32_3235
  let v5378 : BitVec 32 := Scalar.extui v5377
  let v5379 : BitVec 32 := Scalar.subi v5376 v5378
  let v5380 : BitVec 1 := Scalar.cmpi .ne v5374 v5379
  let v5381 : BitVec 32 := Scalar.remsi v163 c4_i32_3231
  let c0_i32_3236 : BitVec 32 := 0#32
  let v5382 : BitVec 1 := Scalar.cmpi .ne v5381 c0_i32_3236
  let v5383 : BitVec 1 := Scalar.andi v5380 v5382
  let v5369 : BitVec 32 := Scalar.divsi v163 c4_i32_3231
  let c1_i32_3237 : BitVec 32 := 1#32
  let v5384 : BitVec 32 := Scalar.subi v5369 c1_i32_3237
  let v5385 : BitVec 32 := Scalar.select v5383 v5384 v5369
  let v5386 : BitVec 32 := Scalar.addi v5368 v5385
  let v5409 : BitVec 32 := Scalar.muli c8_i32_3251 v5386
  let c4_i32_3244 : BitVec 32 := 4#32
  let c2_i32_3238 : BitVec 32 := 2#32
  let c0_i32_3239 : BitVec 32 := 0#32
  let v5387 : BitVec 1 := Scalar.cmpi .eq c2_i32_3238 c0_i32_3239
  let c1_i32_3240 : BitVec 32 := 1#32
  let v5388 : BitVec 32 := Scalar.select v5387 c1_i32_3240 c2_i32_3238
  let v5389 : BitVec 32 := Scalar.remsi v75 v5388
  let c0_i32_3242 : BitVec 32 := 0#32
  let v5391 : BitVec 1 := Scalar.cmpi .slt v5389 c0_i32_3242
  let c0_i32_3243 : BitVec 32 := 0#32
  let v5392 : BitVec 1 := Scalar.cmpi .slt v5388 c0_i32_3243
  let v5393 : BitVec 1 := Scalar.xori v5391 v5392
  let c0_i32_3241 : BitVec 32 := 0#32
  let v5390 : BitVec 1 := Scalar.cmpi .ne v5389 c0_i32_3241
  let v5394 : BitVec 1 := Scalar.andi v5393 v5390
  let v5395 : BitVec 32 := Scalar.addi v5389 v5388
  let v5396 : BitVec 32 := Scalar.select v5394 v5395 v5389
  let v5397 : BitVec 32 := Scalar.muli c4_i32_3244 v5396
  let c4_i32_3245 : BitVec 32 := 4#32
  let c0_i32_3246 : BitVec 32 := 0#32
  let v5398 : BitVec 1 := Scalar.cmpi .eq c4_i32_3245 c0_i32_3246
  let c1_i32_3247 : BitVec 32 := 1#32
  let v5399 : BitVec 32 := Scalar.select v5398 c1_i32_3247 c4_i32_3245
  let v5400 : BitVec 32 := Scalar.remsi v163 v5399
  let c0_i32_3249 : BitVec 32 := 0#32
  let v5402 : BitVec 1 := Scalar.cmpi .slt v5400 c0_i32_3249
  let c0_i32_3250 : BitVec 32 := 0#32
  let v5403 : BitVec 1 := Scalar.cmpi .slt v5399 c0_i32_3250
  let v5404 : BitVec 1 := Scalar.xori v5402 v5403
  let c0_i32_3248 : BitVec 32 := 0#32
  let v5401 : BitVec 1 := Scalar.cmpi .ne v5400 c0_i32_3248
  let v5405 : BitVec 1 := Scalar.andi v5404 v5401
  let v5406 : BitVec 32 := Scalar.addi v5400 v5399
  let v5407 : BitVec 32 := Scalar.select v5405 v5406 v5400
  let v5408 : BitVec 32 := Scalar.addi v5397 v5407
  let v5410 : BitVec 32 := Scalar.addi v5409 v5408
  let c1_i32_3256 : BitVec 32 := 1#32
  let v5411 : BitVec 32 := Scalar.muli v5410 c1_i32_3256
  let v5412 : BitVec 32 := Scalar.addi c0_i32_3257 v5411
  v5412.toNat
def k0_dev71 (d0 : Dev nD) : Nat :=
  let c0_i32_3296 : BitVec 32 := 0#32
  let c8_i32_3290 : BitVec 32 := 8#32
  let c2_i32_3269 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3263 : BitVec 32 := 0#32
  let v5422 : BitVec 1 := Scalar.cmpi .sgt v75 c0_i32_3263
  let v5423 : BitVec 32 := Scalar.extui v5422
  let c0_i32_3264 : BitVec 32 := 0#32
  let v5424 : BitVec 1 := Scalar.cmpi .slt v75 c0_i32_3264
  let v5425 : BitVec 32 := Scalar.extui v5424
  let v5426 : BitVec 32 := Scalar.subi v5423 v5425
  let c2_i32_3262 : BitVec 32 := 2#32
  let c0_i32_3265 : BitVec 32 := 0#32
  let v5427 : BitVec 1 := Scalar.cmpi .sgt c2_i32_3262 c0_i32_3265
  let v5428 : BitVec 32 := Scalar.extui v5427
  let c0_i32_3266 : BitVec 32 := 0#32
  let v5429 : BitVec 1 := Scalar.cmpi .slt c2_i32_3262 c0_i32_3266
  let v5430 : BitVec 32 := Scalar.extui v5429
  let v5431 : BitVec 32 := Scalar.subi v5428 v5430
  let v5432 : BitVec 1 := Scalar.cmpi .ne v5426 v5431
  let v5433 : BitVec 32 := Scalar.remsi v75 c2_i32_3262
  let c0_i32_3267 : BitVec 32 := 0#32
  let v5434 : BitVec 1 := Scalar.cmpi .ne v5433 c0_i32_3267
  let v5435 : BitVec 1 := Scalar.andi v5432 v5434
  let v5421 : BitVec 32 := Scalar.divsi v75 c2_i32_3262
  let c1_i32_3268 : BitVec 32 := 1#32
  let v5436 : BitVec 32 := Scalar.subi v5421 c1_i32_3268
  let v5437 : BitVec 32 := Scalar.select v5435 v5436 v5421
  let v5438 : BitVec 32 := Scalar.muli c2_i32_3269 v5437
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_3271 : BitVec 32 := 0#32
  let v5440 : BitVec 1 := Scalar.cmpi .sgt v174 c0_i32_3271
  let v5441 : BitVec 32 := Scalar.extui v5440
  let c0_i32_3272 : BitVec 32 := 0#32
  let v5442 : BitVec 1 := Scalar.cmpi .slt v174 c0_i32_3272
  let v5443 : BitVec 32 := Scalar.extui v5442
  let v5444 : BitVec 32 := Scalar.subi v5441 v5443
  let c4_i32_3270 : BitVec 32 := 4#32
  let c0_i32_3273 : BitVec 32 := 0#32
  let v5445 : BitVec 1 := Scalar.cmpi .sgt c4_i32_3270 c0_i32_3273
  let v5446 : BitVec 32 := Scalar.extui v5445
  let c0_i32_3274 : BitVec 32 := 0#32
  let v5447 : BitVec 1 := Scalar.cmpi .slt c4_i32_3270 c0_i32_3274
  let v5448 : BitVec 32 := Scalar.extui v5447
  let v5449 : BitVec 32 := Scalar.subi v5446 v5448
  let v5450 : BitVec 1 := Scalar.cmpi .ne v5444 v5449
  let v5451 : BitVec 32 := Scalar.remsi v174 c4_i32_3270
  let c0_i32_3275 : BitVec 32 := 0#32
  let v5452 : BitVec 1 := Scalar.cmpi .ne v5451 c0_i32_3275
  let v5453 : BitVec 1 := Scalar.andi v5450 v5452
  let v5439 : BitVec 32 := Scalar.divsi v174 c4_i32_3270
  let c1_i32_3276 : BitVec 32 := 1#32
  let v5454 : BitVec 32 := Scalar.subi v5439 c1_i32_3276
  let v5455 : BitVec 32 := Scalar.select v5453 v5454 v5439
  let v5456 : BitVec 32 := Scalar.addi v5438 v5455
  let v5479 : BitVec 32 := Scalar.muli c8_i32_3290 v5456
  let c4_i32_3283 : BitVec 32 := 4#32
  let c2_i32_3277 : BitVec 32 := 2#32
  let c0_i32_3278 : BitVec 32 := 0#32
  let v5457 : BitVec 1 := Scalar.cmpi .eq c2_i32_3277 c0_i32_3278
  let c1_i32_3279 : BitVec 32 := 1#32
  let v5458 : BitVec 32 := Scalar.select v5457 c1_i32_3279 c2_i32_3277
  let v5459 : BitVec 32 := Scalar.remsi v75 v5458
  let c0_i32_3281 : BitVec 32 := 0#32
  let v5461 : BitVec 1 := Scalar.cmpi .slt v5459 c0_i32_3281
  let c0_i32_3282 : BitVec 32 := 0#32
  let v5462 : BitVec 1 := Scalar.cmpi .slt v5458 c0_i32_3282
  let v5463 : BitVec 1 := Scalar.xori v5461 v5462
  let c0_i32_3280 : BitVec 32 := 0#32
  let v5460 : BitVec 1 := Scalar.cmpi .ne v5459 c0_i32_3280
  let v5464 : BitVec 1 := Scalar.andi v5463 v5460
  let v5465 : BitVec 32 := Scalar.addi v5459 v5458
  let v5466 : BitVec 32 := Scalar.select v5464 v5465 v5459
  let v5467 : BitVec 32 := Scalar.muli c4_i32_3283 v5466
  let c4_i32_3284 : BitVec 32 := 4#32
  let c0_i32_3285 : BitVec 32 := 0#32
  let v5468 : BitVec 1 := Scalar.cmpi .eq c4_i32_3284 c0_i32_3285
  let c1_i32_3286 : BitVec 32 := 1#32
  let v5469 : BitVec 32 := Scalar.select v5468 c1_i32_3286 c4_i32_3284
  let v5470 : BitVec 32 := Scalar.remsi v174 v5469
  let c0_i32_3288 : BitVec 32 := 0#32
  let v5472 : BitVec 1 := Scalar.cmpi .slt v5470 c0_i32_3288
  let c0_i32_3289 : BitVec 32 := 0#32
  let v5473 : BitVec 1 := Scalar.cmpi .slt v5469 c0_i32_3289
  let v5474 : BitVec 1 := Scalar.xori v5472 v5473
  let c0_i32_3287 : BitVec 32 := 0#32
  let v5471 : BitVec 1 := Scalar.cmpi .ne v5470 c0_i32_3287
  let v5475 : BitVec 1 := Scalar.andi v5474 v5471
  let v5476 : BitVec 32 := Scalar.addi v5470 v5469
  let v5477 : BitVec 32 := Scalar.select v5475 v5476 v5470
  let v5478 : BitVec 32 := Scalar.addi v5467 v5477
  let v5480 : BitVec 32 := Scalar.addi v5479 v5478
  let c1_i32_3295 : BitVec 32 := 1#32
  let v5481 : BitVec 32 := Scalar.muli v5480 c1_i32_3295
  let v5482 : BitVec 32 := Scalar.addi c0_i32_3296 v5481
  v5482.toNat
def k0_dev72 (d0 : Dev nD) : Nat :=
  let c0_i32_3374 : BitVec 32 := 0#32
  let c8_i32_3368 : BitVec 32 := 8#32
  let c2_i32_3347 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3341 : BitVec 32 := 0#32
  let v5526 : BitVec 1 := Scalar.cmpi .sgt v75 c0_i32_3341
  let v5527 : BitVec 32 := Scalar.extui v5526
  let c0_i32_3342 : BitVec 32 := 0#32
  let v5528 : BitVec 1 := Scalar.cmpi .slt v75 c0_i32_3342
  let v5529 : BitVec 32 := Scalar.extui v5528
  let v5530 : BitVec 32 := Scalar.subi v5527 v5529
  let c2_i32_3340 : BitVec 32 := 2#32
  let c0_i32_3343 : BitVec 32 := 0#32
  let v5531 : BitVec 1 := Scalar.cmpi .sgt c2_i32_3340 c0_i32_3343
  let v5532 : BitVec 32 := Scalar.extui v5531
  let c0_i32_3344 : BitVec 32 := 0#32
  let v5533 : BitVec 1 := Scalar.cmpi .slt c2_i32_3340 c0_i32_3344
  let v5534 : BitVec 32 := Scalar.extui v5533
  let v5535 : BitVec 32 := Scalar.subi v5532 v5534
  let v5536 : BitVec 1 := Scalar.cmpi .ne v5530 v5535
  let v5537 : BitVec 32 := Scalar.remsi v75 c2_i32_3340
  let c0_i32_3345 : BitVec 32 := 0#32
  let v5538 : BitVec 1 := Scalar.cmpi .ne v5537 c0_i32_3345
  let v5539 : BitVec 1 := Scalar.andi v5536 v5538
  let v5525 : BitVec 32 := Scalar.divsi v75 c2_i32_3340
  let c1_i32_3346 : BitVec 32 := 1#32
  let v5540 : BitVec 32 := Scalar.subi v5525 c1_i32_3346
  let v5541 : BitVec 32 := Scalar.select v5539 v5540 v5525
  let v5542 : BitVec 32 := Scalar.muli c2_i32_3347 v5541
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c1_i32_43 : BitVec 32 := 1#32
  let v98 : BitVec 32 := Scalar.addi v97 c1_i32_43
  let c8_i32_44 : BitVec 32 := 8#32
  let c0_i32_45 : BitVec 32 := 0#32
  let v99 : BitVec 1 := Scalar.cmpi .eq c8_i32_44 c0_i32_45
  let c1_i32_46 : BitVec 32 := 1#32
  let v100 : BitVec 32 := Scalar.select v99 c1_i32_46 c8_i32_44
  let v101 : BitVec 32 := Scalar.remsi v98 v100
  let c0_i32_48 : BitVec 32 := 0#32
  let v103 : BitVec 1 := Scalar.cmpi .slt v101 c0_i32_48
  let c0_i32_49 : BitVec 32 := 0#32
  let v104 : BitVec 1 := Scalar.cmpi .slt v100 c0_i32_49
  let v105 : BitVec 1 := Scalar.xori v103 v104
  let c0_i32_47 : BitVec 32 := 0#32
  let v102 : BitVec 1 := Scalar.cmpi .ne v101 c0_i32_47
  let v106 : BitVec 1 := Scalar.andi v105 v102
  let v107 : BitVec 32 := Scalar.addi v101 v100
  let v108 : BitVec 32 := Scalar.select v106 v107 v101
  let c0_i32_3349 : BitVec 32 := 0#32
  let v5544 : BitVec 1 := Scalar.cmpi .sgt v108 c0_i32_3349
  let v5545 : BitVec 32 := Scalar.extui v5544
  let c0_i32_3350 : BitVec 32 := 0#32
  let v5546 : BitVec 1 := Scalar.cmpi .slt v108 c0_i32_3350
  let v5547 : BitVec 32 := Scalar.extui v5546
  let v5548 : BitVec 32 := Scalar.subi v5545 v5547
  let c4_i32_3348 : BitVec 32 := 4#32
  let c0_i32_3351 : BitVec 32 := 0#32
  let v5549 : BitVec 1 := Scalar.cmpi .sgt c4_i32_3348 c0_i32_3351
  let v5550 : BitVec 32 := Scalar.extui v5549
  let c0_i32_3352 : BitVec 32 := 0#32
  let v5551 : BitVec 1 := Scalar.cmpi .slt c4_i32_3348 c0_i32_3352
  let v5552 : BitVec 32 := Scalar.extui v5551
  let v5553 : BitVec 32 := Scalar.subi v5550 v5552
  let v5554 : BitVec 1 := Scalar.cmpi .ne v5548 v5553
  let v5555 : BitVec 32 := Scalar.remsi v108 c4_i32_3348
  let c0_i32_3353 : BitVec 32 := 0#32
  let v5556 : BitVec 1 := Scalar.cmpi .ne v5555 c0_i32_3353
  let v5557 : BitVec 1 := Scalar.andi v5554 v5556
  let v5543 : BitVec 32 := Scalar.divsi v108 c4_i32_3348
  let c1_i32_3354 : BitVec 32 := 1#32
  let v5558 : BitVec 32 := Scalar.subi v5543 c1_i32_3354
  let v5559 : BitVec 32 := Scalar.select v5557 v5558 v5543
  let v5560 : BitVec 32 := Scalar.addi v5542 v5559
  let v5583 : BitVec 32 := Scalar.muli c8_i32_3368 v5560
  let c4_i32_3361 : BitVec 32 := 4#32
  let c2_i32_3355 : BitVec 32 := 2#32
  let c0_i32_3356 : BitVec 32 := 0#32
  let v5561 : BitVec 1 := Scalar.cmpi .eq c2_i32_3355 c0_i32_3356
  let c1_i32_3357 : BitVec 32 := 1#32
  let v5562 : BitVec 32 := Scalar.select v5561 c1_i32_3357 c2_i32_3355
  let v5563 : BitVec 32 := Scalar.remsi v75 v5562
  let c0_i32_3359 : BitVec 32 := 0#32
  let v5565 : BitVec 1 := Scalar.cmpi .slt v5563 c0_i32_3359
  let c0_i32_3360 : BitVec 32 := 0#32
  let v5566 : BitVec 1 := Scalar.cmpi .slt v5562 c0_i32_3360
  let v5567 : BitVec 1 := Scalar.xori v5565 v5566
  let c0_i32_3358 : BitVec 32 := 0#32
  let v5564 : BitVec 1 := Scalar.cmpi .ne v5563 c0_i32_3358
  let v5568 : BitVec 1 := Scalar.andi v5567 v5564
  let v5569 : BitVec 32 := Scalar.addi v5563 v5562
  let v5570 : BitVec 32 := Scalar.select v5568 v5569 v5563
  let v5571 : BitVec 32 := Scalar.muli c4_i32_3361 v5570
  let c4_i32_3362 : BitVec 32 := 4#32
  let c0_i32_3363 : BitVec 32 := 0#32
  let v5572 : BitVec 1 := Scalar.cmpi .eq c4_i32_3362 c0_i32_3363
  let c1_i32_3364 : BitVec 32 := 1#32
  let v5573 : BitVec 32 := Scalar.select v5572 c1_i32_3364 c4_i32_3362
  let v5574 : BitVec 32 := Scalar.remsi v108 v5573
  let c0_i32_3366 : BitVec 32 := 0#32
  let v5576 : BitVec 1 := Scalar.cmpi .slt v5574 c0_i32_3366
  let c0_i32_3367 : BitVec 32 := 0#32
  let v5577 : BitVec 1 := Scalar.cmpi .slt v5573 c0_i32_3367
  let v5578 : BitVec 1 := Scalar.xori v5576 v5577
  let c0_i32_3365 : BitVec 32 := 0#32
  let v5575 : BitVec 1 := Scalar.cmpi .ne v5574 c0_i32_3365
  let v5579 : BitVec 1 := Scalar.andi v5578 v5575
  let v5580 : BitVec 32 := Scalar.addi v5574 v5573
  let v5581 : BitVec 32 := Scalar.select v5579 v5580 v5574
  let v5582 : BitVec 32 := Scalar.addi v5571 v5581
  let v5584 : BitVec 32 := Scalar.addi v5583 v5582
  let c1_i32_3373 : BitVec 32 := 1#32
  let v5585 : BitVec 32 := Scalar.muli v5584 c1_i32_3373
  let v5586 : BitVec 32 := Scalar.addi c0_i32_3374 v5585
  v5586.toNat
def k0_dev73 (d0 : Dev nD) : Nat :=
  let c0_i32_3413 : BitVec 32 := 0#32
  let c8_i32_3407 : BitVec 32 := 8#32
  let c2_i32_3386 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3380 : BitVec 32 := 0#32
  let v5596 : BitVec 1 := Scalar.cmpi .sgt v75 c0_i32_3380
  let v5597 : BitVec 32 := Scalar.extui v5596
  let c0_i32_3381 : BitVec 32 := 0#32
  let v5598 : BitVec 1 := Scalar.cmpi .slt v75 c0_i32_3381
  let v5599 : BitVec 32 := Scalar.extui v5598
  let v5600 : BitVec 32 := Scalar.subi v5597 v5599
  let c2_i32_3379 : BitVec 32 := 2#32
  let c0_i32_3382 : BitVec 32 := 0#32
  let v5601 : BitVec 1 := Scalar.cmpi .sgt c2_i32_3379 c0_i32_3382
  let v5602 : BitVec 32 := Scalar.extui v5601
  let c0_i32_3383 : BitVec 32 := 0#32
  let v5603 : BitVec 1 := Scalar.cmpi .slt c2_i32_3379 c0_i32_3383
  let v5604 : BitVec 32 := Scalar.extui v5603
  let v5605 : BitVec 32 := Scalar.subi v5602 v5604
  let v5606 : BitVec 1 := Scalar.cmpi .ne v5600 v5605
  let v5607 : BitVec 32 := Scalar.remsi v75 c2_i32_3379
  let c0_i32_3384 : BitVec 32 := 0#32
  let v5608 : BitVec 1 := Scalar.cmpi .ne v5607 c0_i32_3384
  let v5609 : BitVec 1 := Scalar.andi v5606 v5608
  let v5595 : BitVec 32 := Scalar.divsi v75 c2_i32_3379
  let c1_i32_3385 : BitVec 32 := 1#32
  let v5610 : BitVec 32 := Scalar.subi v5595 c1_i32_3385
  let v5611 : BitVec 32 := Scalar.select v5609 v5610 v5595
  let v5612 : BitVec 32 := Scalar.muli c2_i32_3386 v5611
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c2_i32_50 : BitVec 32 := 2#32
  let v109 : BitVec 32 := Scalar.addi v97 c2_i32_50
  let c8_i32_51 : BitVec 32 := 8#32
  let c0_i32_52 : BitVec 32 := 0#32
  let v110 : BitVec 1 := Scalar.cmpi .eq c8_i32_51 c0_i32_52
  let c1_i32_53 : BitVec 32 := 1#32
  let v111 : BitVec 32 := Scalar.select v110 c1_i32_53 c8_i32_51
  let v112 : BitVec 32 := Scalar.remsi v109 v111
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let c0_i32_54 : BitVec 32 := 0#32
  let v113 : BitVec 1 := Scalar.cmpi .ne v112 c0_i32_54
  let v117 : BitVec 1 := Scalar.andi v116 v113
  let v118 : BitVec 32 := Scalar.addi v112 v111
  let v119 : BitVec 32 := Scalar.select v117 v118 v112
  let c0_i32_3388 : BitVec 32 := 0#32
  let v5614 : BitVec 1 := Scalar.cmpi .sgt v119 c0_i32_3388
  let v5615 : BitVec 32 := Scalar.extui v5614
  let c0_i32_3389 : BitVec 32 := 0#32
  let v5616 : BitVec 1 := Scalar.cmpi .slt v119 c0_i32_3389
  let v5617 : BitVec 32 := Scalar.extui v5616
  let v5618 : BitVec 32 := Scalar.subi v5615 v5617
  let c4_i32_3387 : BitVec 32 := 4#32
  let c0_i32_3390 : BitVec 32 := 0#32
  let v5619 : BitVec 1 := Scalar.cmpi .sgt c4_i32_3387 c0_i32_3390
  let v5620 : BitVec 32 := Scalar.extui v5619
  let c0_i32_3391 : BitVec 32 := 0#32
  let v5621 : BitVec 1 := Scalar.cmpi .slt c4_i32_3387 c0_i32_3391
  let v5622 : BitVec 32 := Scalar.extui v5621
  let v5623 : BitVec 32 := Scalar.subi v5620 v5622
  let v5624 : BitVec 1 := Scalar.cmpi .ne v5618 v5623
  let v5625 : BitVec 32 := Scalar.remsi v119 c4_i32_3387
  let c0_i32_3392 : BitVec 32 := 0#32
  let v5626 : BitVec 1 := Scalar.cmpi .ne v5625 c0_i32_3392
  let v5627 : BitVec 1 := Scalar.andi v5624 v5626
  let v5613 : BitVec 32 := Scalar.divsi v119 c4_i32_3387
  let c1_i32_3393 : BitVec 32 := 1#32
  let v5628 : BitVec 32 := Scalar.subi v5613 c1_i32_3393
  let v5629 : BitVec 32 := Scalar.select v5627 v5628 v5613
  let v5630 : BitVec 32 := Scalar.addi v5612 v5629
  let v5653 : BitVec 32 := Scalar.muli c8_i32_3407 v5630
  let c4_i32_3400 : BitVec 32 := 4#32
  let c2_i32_3394 : BitVec 32 := 2#32
  let c0_i32_3395 : BitVec 32 := 0#32
  let v5631 : BitVec 1 := Scalar.cmpi .eq c2_i32_3394 c0_i32_3395
  let c1_i32_3396 : BitVec 32 := 1#32
  let v5632 : BitVec 32 := Scalar.select v5631 c1_i32_3396 c2_i32_3394
  let v5633 : BitVec 32 := Scalar.remsi v75 v5632
  let c0_i32_3398 : BitVec 32 := 0#32
  let v5635 : BitVec 1 := Scalar.cmpi .slt v5633 c0_i32_3398
  let c0_i32_3399 : BitVec 32 := 0#32
  let v5636 : BitVec 1 := Scalar.cmpi .slt v5632 c0_i32_3399
  let v5637 : BitVec 1 := Scalar.xori v5635 v5636
  let c0_i32_3397 : BitVec 32 := 0#32
  let v5634 : BitVec 1 := Scalar.cmpi .ne v5633 c0_i32_3397
  let v5638 : BitVec 1 := Scalar.andi v5637 v5634
  let v5639 : BitVec 32 := Scalar.addi v5633 v5632
  let v5640 : BitVec 32 := Scalar.select v5638 v5639 v5633
  let v5641 : BitVec 32 := Scalar.muli c4_i32_3400 v5640
  let c4_i32_3401 : BitVec 32 := 4#32
  let c0_i32_3402 : BitVec 32 := 0#32
  let v5642 : BitVec 1 := Scalar.cmpi .eq c4_i32_3401 c0_i32_3402
  let c1_i32_3403 : BitVec 32 := 1#32
  let v5643 : BitVec 32 := Scalar.select v5642 c1_i32_3403 c4_i32_3401
  let v5644 : BitVec 32 := Scalar.remsi v119 v5643
  let c0_i32_3405 : BitVec 32 := 0#32
  let v5646 : BitVec 1 := Scalar.cmpi .slt v5644 c0_i32_3405
  let c0_i32_3406 : BitVec 32 := 0#32
  let v5647 : BitVec 1 := Scalar.cmpi .slt v5643 c0_i32_3406
  let v5648 : BitVec 1 := Scalar.xori v5646 v5647
  let c0_i32_3404 : BitVec 32 := 0#32
  let v5645 : BitVec 1 := Scalar.cmpi .ne v5644 c0_i32_3404
  let v5649 : BitVec 1 := Scalar.andi v5648 v5645
  let v5650 : BitVec 32 := Scalar.addi v5644 v5643
  let v5651 : BitVec 32 := Scalar.select v5649 v5650 v5644
  let v5652 : BitVec 32 := Scalar.addi v5641 v5651
  let v5654 : BitVec 32 := Scalar.addi v5653 v5652
  let c1_i32_3412 : BitVec 32 := 1#32
  let v5655 : BitVec 32 := Scalar.muli v5654 c1_i32_3412
  let v5656 : BitVec 32 := Scalar.addi c0_i32_3413 v5655
  v5656.toNat
def k0_dev74 (d0 : Dev nD) : Nat :=
  let c0_i32_3452 : BitVec 32 := 0#32
  let c8_i32_3446 : BitVec 32 := 8#32
  let c2_i32_3425 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3419 : BitVec 32 := 0#32
  let v5666 : BitVec 1 := Scalar.cmpi .sgt v75 c0_i32_3419
  let v5667 : BitVec 32 := Scalar.extui v5666
  let c0_i32_3420 : BitVec 32 := 0#32
  let v5668 : BitVec 1 := Scalar.cmpi .slt v75 c0_i32_3420
  let v5669 : BitVec 32 := Scalar.extui v5668
  let v5670 : BitVec 32 := Scalar.subi v5667 v5669
  let c2_i32_3418 : BitVec 32 := 2#32
  let c0_i32_3421 : BitVec 32 := 0#32
  let v5671 : BitVec 1 := Scalar.cmpi .sgt c2_i32_3418 c0_i32_3421
  let v5672 : BitVec 32 := Scalar.extui v5671
  let c0_i32_3422 : BitVec 32 := 0#32
  let v5673 : BitVec 1 := Scalar.cmpi .slt c2_i32_3418 c0_i32_3422
  let v5674 : BitVec 32 := Scalar.extui v5673
  let v5675 : BitVec 32 := Scalar.subi v5672 v5674
  let v5676 : BitVec 1 := Scalar.cmpi .ne v5670 v5675
  let v5677 : BitVec 32 := Scalar.remsi v75 c2_i32_3418
  let c0_i32_3423 : BitVec 32 := 0#32
  let v5678 : BitVec 1 := Scalar.cmpi .ne v5677 c0_i32_3423
  let v5679 : BitVec 1 := Scalar.andi v5676 v5678
  let v5665 : BitVec 32 := Scalar.divsi v75 c2_i32_3418
  let c1_i32_3424 : BitVec 32 := 1#32
  let v5680 : BitVec 32 := Scalar.subi v5665 c1_i32_3424
  let v5681 : BitVec 32 := Scalar.select v5679 v5680 v5665
  let v5682 : BitVec 32 := Scalar.muli c2_i32_3425 v5681
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c3_i32 : BitVec 32 := 3#32
  let v120 : BitVec 32 := Scalar.addi v97 c3_i32
  let c8_i32_57 : BitVec 32 := 8#32
  let c0_i32_58 : BitVec 32 := 0#32
  let v121 : BitVec 1 := Scalar.cmpi .eq c8_i32_57 c0_i32_58
  let c1_i32_59 : BitVec 32 := 1#32
  let v122 : BitVec 32 := Scalar.select v121 c1_i32_59 c8_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c0_i32_3427 : BitVec 32 := 0#32
  let v5684 : BitVec 1 := Scalar.cmpi .sgt v130 c0_i32_3427
  let v5685 : BitVec 32 := Scalar.extui v5684
  let c0_i32_3428 : BitVec 32 := 0#32
  let v5686 : BitVec 1 := Scalar.cmpi .slt v130 c0_i32_3428
  let v5687 : BitVec 32 := Scalar.extui v5686
  let v5688 : BitVec 32 := Scalar.subi v5685 v5687
  let c4_i32_3426 : BitVec 32 := 4#32
  let c0_i32_3429 : BitVec 32 := 0#32
  let v5689 : BitVec 1 := Scalar.cmpi .sgt c4_i32_3426 c0_i32_3429
  let v5690 : BitVec 32 := Scalar.extui v5689
  let c0_i32_3430 : BitVec 32 := 0#32
  let v5691 : BitVec 1 := Scalar.cmpi .slt c4_i32_3426 c0_i32_3430
  let v5692 : BitVec 32 := Scalar.extui v5691
  let v5693 : BitVec 32 := Scalar.subi v5690 v5692
  let v5694 : BitVec 1 := Scalar.cmpi .ne v5688 v5693
  let v5695 : BitVec 32 := Scalar.remsi v130 c4_i32_3426
  let c0_i32_3431 : BitVec 32 := 0#32
  let v5696 : BitVec 1 := Scalar.cmpi .ne v5695 c0_i32_3431
  let v5697 : BitVec 1 := Scalar.andi v5694 v5696
  let v5683 : BitVec 32 := Scalar.divsi v130 c4_i32_3426
  let c1_i32_3432 : BitVec 32 := 1#32
  let v5698 : BitVec 32 := Scalar.subi v5683 c1_i32_3432
  let v5699 : BitVec 32 := Scalar.select v5697 v5698 v5683
  let v5700 : BitVec 32 := Scalar.addi v5682 v5699
  let v5723 : BitVec 32 := Scalar.muli c8_i32_3446 v5700
  let c4_i32_3439 : BitVec 32 := 4#32
  let c2_i32_3433 : BitVec 32 := 2#32
  let c0_i32_3434 : BitVec 32 := 0#32
  let v5701 : BitVec 1 := Scalar.cmpi .eq c2_i32_3433 c0_i32_3434
  let c1_i32_3435 : BitVec 32 := 1#32
  let v5702 : BitVec 32 := Scalar.select v5701 c1_i32_3435 c2_i32_3433
  let v5703 : BitVec 32 := Scalar.remsi v75 v5702
  let c0_i32_3437 : BitVec 32 := 0#32
  let v5705 : BitVec 1 := Scalar.cmpi .slt v5703 c0_i32_3437
  let c0_i32_3438 : BitVec 32 := 0#32
  let v5706 : BitVec 1 := Scalar.cmpi .slt v5702 c0_i32_3438
  let v5707 : BitVec 1 := Scalar.xori v5705 v5706
  let c0_i32_3436 : BitVec 32 := 0#32
  let v5704 : BitVec 1 := Scalar.cmpi .ne v5703 c0_i32_3436
  let v5708 : BitVec 1 := Scalar.andi v5707 v5704
  let v5709 : BitVec 32 := Scalar.addi v5703 v5702
  let v5710 : BitVec 32 := Scalar.select v5708 v5709 v5703
  let v5711 : BitVec 32 := Scalar.muli c4_i32_3439 v5710
  let c4_i32_3440 : BitVec 32 := 4#32
  let c0_i32_3441 : BitVec 32 := 0#32
  let v5712 : BitVec 1 := Scalar.cmpi .eq c4_i32_3440 c0_i32_3441
  let c1_i32_3442 : BitVec 32 := 1#32
  let v5713 : BitVec 32 := Scalar.select v5712 c1_i32_3442 c4_i32_3440
  let v5714 : BitVec 32 := Scalar.remsi v130 v5713
  let c0_i32_3444 : BitVec 32 := 0#32
  let v5716 : BitVec 1 := Scalar.cmpi .slt v5714 c0_i32_3444
  let c0_i32_3445 : BitVec 32 := 0#32
  let v5717 : BitVec 1 := Scalar.cmpi .slt v5713 c0_i32_3445
  let v5718 : BitVec 1 := Scalar.xori v5716 v5717
  let c0_i32_3443 : BitVec 32 := 0#32
  let v5715 : BitVec 1 := Scalar.cmpi .ne v5714 c0_i32_3443
  let v5719 : BitVec 1 := Scalar.andi v5718 v5715
  let v5720 : BitVec 32 := Scalar.addi v5714 v5713
  let v5721 : BitVec 32 := Scalar.select v5719 v5720 v5714
  let v5722 : BitVec 32 := Scalar.addi v5711 v5721
  let v5724 : BitVec 32 := Scalar.addi v5723 v5722
  let c1_i32_3451 : BitVec 32 := 1#32
  let v5725 : BitVec 32 := Scalar.muli v5724 c1_i32_3451
  let v5726 : BitVec 32 := Scalar.addi c0_i32_3452 v5725
  v5726.toNat
def k0_dev75 (d0 : Dev nD) : Nat :=
  let c0_i32_3491 : BitVec 32 := 0#32
  let c8_i32_3485 : BitVec 32 := 8#32
  let c2_i32_3464 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3458 : BitVec 32 := 0#32
  let v5736 : BitVec 1 := Scalar.cmpi .sgt v75 c0_i32_3458
  let v5737 : BitVec 32 := Scalar.extui v5736
  let c0_i32_3459 : BitVec 32 := 0#32
  let v5738 : BitVec 1 := Scalar.cmpi .slt v75 c0_i32_3459
  let v5739 : BitVec 32 := Scalar.extui v5738
  let v5740 : BitVec 32 := Scalar.subi v5737 v5739
  let c2_i32_3457 : BitVec 32 := 2#32
  let c0_i32_3460 : BitVec 32 := 0#32
  let v5741 : BitVec 1 := Scalar.cmpi .sgt c2_i32_3457 c0_i32_3460
  let v5742 : BitVec 32 := Scalar.extui v5741
  let c0_i32_3461 : BitVec 32 := 0#32
  let v5743 : BitVec 1 := Scalar.cmpi .slt c2_i32_3457 c0_i32_3461
  let v5744 : BitVec 32 := Scalar.extui v5743
  let v5745 : BitVec 32 := Scalar.subi v5742 v5744
  let v5746 : BitVec 1 := Scalar.cmpi .ne v5740 v5745
  let v5747 : BitVec 32 := Scalar.remsi v75 c2_i32_3457
  let c0_i32_3462 : BitVec 32 := 0#32
  let v5748 : BitVec 1 := Scalar.cmpi .ne v5747 c0_i32_3462
  let v5749 : BitVec 1 := Scalar.andi v5746 v5748
  let v5735 : BitVec 32 := Scalar.divsi v75 c2_i32_3457
  let c1_i32_3463 : BitVec 32 := 1#32
  let v5750 : BitVec 32 := Scalar.subi v5735 c1_i32_3463
  let v5751 : BitVec 32 := Scalar.select v5749 v5750 v5735
  let v5752 : BitVec 32 := Scalar.muli c2_i32_3464 v5751
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c4_i32_63 : BitVec 32 := 4#32
  let v131 : BitVec 32 := Scalar.addi v97 c4_i32_63
  let c8_i32_64 : BitVec 32 := 8#32
  let c0_i32_65 : BitVec 32 := 0#32
  let v132 : BitVec 1 := Scalar.cmpi .eq c8_i32_64 c0_i32_65
  let c1_i32_66 : BitVec 32 := 1#32
  let v133 : BitVec 32 := Scalar.select v132 c1_i32_66 c8_i32_64
  let v134 : BitVec 32 := Scalar.remsi v131 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c0_i32_3466 : BitVec 32 := 0#32
  let v5754 : BitVec 1 := Scalar.cmpi .sgt v141 c0_i32_3466
  let v5755 : BitVec 32 := Scalar.extui v5754
  let c0_i32_3467 : BitVec 32 := 0#32
  let v5756 : BitVec 1 := Scalar.cmpi .slt v141 c0_i32_3467
  let v5757 : BitVec 32 := Scalar.extui v5756
  let v5758 : BitVec 32 := Scalar.subi v5755 v5757
  let c4_i32_3465 : BitVec 32 := 4#32
  let c0_i32_3468 : BitVec 32 := 0#32
  let v5759 : BitVec 1 := Scalar.cmpi .sgt c4_i32_3465 c0_i32_3468
  let v5760 : BitVec 32 := Scalar.extui v5759
  let c0_i32_3469 : BitVec 32 := 0#32
  let v5761 : BitVec 1 := Scalar.cmpi .slt c4_i32_3465 c0_i32_3469
  let v5762 : BitVec 32 := Scalar.extui v5761
  let v5763 : BitVec 32 := Scalar.subi v5760 v5762
  let v5764 : BitVec 1 := Scalar.cmpi .ne v5758 v5763
  let v5765 : BitVec 32 := Scalar.remsi v141 c4_i32_3465
  let c0_i32_3470 : BitVec 32 := 0#32
  let v5766 : BitVec 1 := Scalar.cmpi .ne v5765 c0_i32_3470
  let v5767 : BitVec 1 := Scalar.andi v5764 v5766
  let v5753 : BitVec 32 := Scalar.divsi v141 c4_i32_3465
  let c1_i32_3471 : BitVec 32 := 1#32
  let v5768 : BitVec 32 := Scalar.subi v5753 c1_i32_3471
  let v5769 : BitVec 32 := Scalar.select v5767 v5768 v5753
  let v5770 : BitVec 32 := Scalar.addi v5752 v5769
  let v5793 : BitVec 32 := Scalar.muli c8_i32_3485 v5770
  let c4_i32_3478 : BitVec 32 := 4#32
  let c2_i32_3472 : BitVec 32 := 2#32
  let c0_i32_3473 : BitVec 32 := 0#32
  let v5771 : BitVec 1 := Scalar.cmpi .eq c2_i32_3472 c0_i32_3473
  let c1_i32_3474 : BitVec 32 := 1#32
  let v5772 : BitVec 32 := Scalar.select v5771 c1_i32_3474 c2_i32_3472
  let v5773 : BitVec 32 := Scalar.remsi v75 v5772
  let c0_i32_3476 : BitVec 32 := 0#32
  let v5775 : BitVec 1 := Scalar.cmpi .slt v5773 c0_i32_3476
  let c0_i32_3477 : BitVec 32 := 0#32
  let v5776 : BitVec 1 := Scalar.cmpi .slt v5772 c0_i32_3477
  let v5777 : BitVec 1 := Scalar.xori v5775 v5776
  let c0_i32_3475 : BitVec 32 := 0#32
  let v5774 : BitVec 1 := Scalar.cmpi .ne v5773 c0_i32_3475
  let v5778 : BitVec 1 := Scalar.andi v5777 v5774
  let v5779 : BitVec 32 := Scalar.addi v5773 v5772
  let v5780 : BitVec 32 := Scalar.select v5778 v5779 v5773
  let v5781 : BitVec 32 := Scalar.muli c4_i32_3478 v5780
  let c4_i32_3479 : BitVec 32 := 4#32
  let c0_i32_3480 : BitVec 32 := 0#32
  let v5782 : BitVec 1 := Scalar.cmpi .eq c4_i32_3479 c0_i32_3480
  let c1_i32_3481 : BitVec 32 := 1#32
  let v5783 : BitVec 32 := Scalar.select v5782 c1_i32_3481 c4_i32_3479
  let v5784 : BitVec 32 := Scalar.remsi v141 v5783
  let c0_i32_3483 : BitVec 32 := 0#32
  let v5786 : BitVec 1 := Scalar.cmpi .slt v5784 c0_i32_3483
  let c0_i32_3484 : BitVec 32 := 0#32
  let v5787 : BitVec 1 := Scalar.cmpi .slt v5783 c0_i32_3484
  let v5788 : BitVec 1 := Scalar.xori v5786 v5787
  let c0_i32_3482 : BitVec 32 := 0#32
  let v5785 : BitVec 1 := Scalar.cmpi .ne v5784 c0_i32_3482
  let v5789 : BitVec 1 := Scalar.andi v5788 v5785
  let v5790 : BitVec 32 := Scalar.addi v5784 v5783
  let v5791 : BitVec 32 := Scalar.select v5789 v5790 v5784
  let v5792 : BitVec 32 := Scalar.addi v5781 v5791
  let v5794 : BitVec 32 := Scalar.addi v5793 v5792
  let c1_i32_3490 : BitVec 32 := 1#32
  let v5795 : BitVec 32 := Scalar.muli v5794 c1_i32_3490
  let v5796 : BitVec 32 := Scalar.addi c0_i32_3491 v5795
  v5796.toNat
def k0_dev76 (d0 : Dev nD) : Nat :=
  let c0_i32_3530 : BitVec 32 := 0#32
  let c8_i32_3524 : BitVec 32 := 8#32
  let c2_i32_3503 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3497 : BitVec 32 := 0#32
  let v5806 : BitVec 1 := Scalar.cmpi .sgt v75 c0_i32_3497
  let v5807 : BitVec 32 := Scalar.extui v5806
  let c0_i32_3498 : BitVec 32 := 0#32
  let v5808 : BitVec 1 := Scalar.cmpi .slt v75 c0_i32_3498
  let v5809 : BitVec 32 := Scalar.extui v5808
  let v5810 : BitVec 32 := Scalar.subi v5807 v5809
  let c2_i32_3496 : BitVec 32 := 2#32
  let c0_i32_3499 : BitVec 32 := 0#32
  let v5811 : BitVec 1 := Scalar.cmpi .sgt c2_i32_3496 c0_i32_3499
  let v5812 : BitVec 32 := Scalar.extui v5811
  let c0_i32_3500 : BitVec 32 := 0#32
  let v5813 : BitVec 1 := Scalar.cmpi .slt c2_i32_3496 c0_i32_3500
  let v5814 : BitVec 32 := Scalar.extui v5813
  let v5815 : BitVec 32 := Scalar.subi v5812 v5814
  let v5816 : BitVec 1 := Scalar.cmpi .ne v5810 v5815
  let v5817 : BitVec 32 := Scalar.remsi v75 c2_i32_3496
  let c0_i32_3501 : BitVec 32 := 0#32
  let v5818 : BitVec 1 := Scalar.cmpi .ne v5817 c0_i32_3501
  let v5819 : BitVec 1 := Scalar.andi v5816 v5818
  let v5805 : BitVec 32 := Scalar.divsi v75 c2_i32_3496
  let c1_i32_3502 : BitVec 32 := 1#32
  let v5820 : BitVec 32 := Scalar.subi v5805 c1_i32_3502
  let v5821 : BitVec 32 := Scalar.select v5819 v5820 v5805
  let v5822 : BitVec 32 := Scalar.muli c2_i32_3503 v5821
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c5_i32 : BitVec 32 := 5#32
  let v142 : BitVec 32 := Scalar.addi v97 c5_i32
  let c8_i32_70 : BitVec 32 := 8#32
  let c0_i32_71 : BitVec 32 := 0#32
  let v143 : BitVec 1 := Scalar.cmpi .eq c8_i32_70 c0_i32_71
  let c1_i32_72 : BitVec 32 := 1#32
  let v144 : BitVec 32 := Scalar.select v143 c1_i32_72 c8_i32_70
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_3505 : BitVec 32 := 0#32
  let v5824 : BitVec 1 := Scalar.cmpi .sgt v152 c0_i32_3505
  let v5825 : BitVec 32 := Scalar.extui v5824
  let c0_i32_3506 : BitVec 32 := 0#32
  let v5826 : BitVec 1 := Scalar.cmpi .slt v152 c0_i32_3506
  let v5827 : BitVec 32 := Scalar.extui v5826
  let v5828 : BitVec 32 := Scalar.subi v5825 v5827
  let c4_i32_3504 : BitVec 32 := 4#32
  let c0_i32_3507 : BitVec 32 := 0#32
  let v5829 : BitVec 1 := Scalar.cmpi .sgt c4_i32_3504 c0_i32_3507
  let v5830 : BitVec 32 := Scalar.extui v5829
  let c0_i32_3508 : BitVec 32 := 0#32
  let v5831 : BitVec 1 := Scalar.cmpi .slt c4_i32_3504 c0_i32_3508
  let v5832 : BitVec 32 := Scalar.extui v5831
  let v5833 : BitVec 32 := Scalar.subi v5830 v5832
  let v5834 : BitVec 1 := Scalar.cmpi .ne v5828 v5833
  let v5835 : BitVec 32 := Scalar.remsi v152 c4_i32_3504
  let c0_i32_3509 : BitVec 32 := 0#32
  let v5836 : BitVec 1 := Scalar.cmpi .ne v5835 c0_i32_3509
  let v5837 : BitVec 1 := Scalar.andi v5834 v5836
  let v5823 : BitVec 32 := Scalar.divsi v152 c4_i32_3504
  let c1_i32_3510 : BitVec 32 := 1#32
  let v5838 : BitVec 32 := Scalar.subi v5823 c1_i32_3510
  let v5839 : BitVec 32 := Scalar.select v5837 v5838 v5823
  let v5840 : BitVec 32 := Scalar.addi v5822 v5839
  let v5863 : BitVec 32 := Scalar.muli c8_i32_3524 v5840
  let c4_i32_3517 : BitVec 32 := 4#32
  let c2_i32_3511 : BitVec 32 := 2#32
  let c0_i32_3512 : BitVec 32 := 0#32
  let v5841 : BitVec 1 := Scalar.cmpi .eq c2_i32_3511 c0_i32_3512
  let c1_i32_3513 : BitVec 32 := 1#32
  let v5842 : BitVec 32 := Scalar.select v5841 c1_i32_3513 c2_i32_3511
  let v5843 : BitVec 32 := Scalar.remsi v75 v5842
  let c0_i32_3515 : BitVec 32 := 0#32
  let v5845 : BitVec 1 := Scalar.cmpi .slt v5843 c0_i32_3515
  let c0_i32_3516 : BitVec 32 := 0#32
  let v5846 : BitVec 1 := Scalar.cmpi .slt v5842 c0_i32_3516
  let v5847 : BitVec 1 := Scalar.xori v5845 v5846
  let c0_i32_3514 : BitVec 32 := 0#32
  let v5844 : BitVec 1 := Scalar.cmpi .ne v5843 c0_i32_3514
  let v5848 : BitVec 1 := Scalar.andi v5847 v5844
  let v5849 : BitVec 32 := Scalar.addi v5843 v5842
  let v5850 : BitVec 32 := Scalar.select v5848 v5849 v5843
  let v5851 : BitVec 32 := Scalar.muli c4_i32_3517 v5850
  let c4_i32_3518 : BitVec 32 := 4#32
  let c0_i32_3519 : BitVec 32 := 0#32
  let v5852 : BitVec 1 := Scalar.cmpi .eq c4_i32_3518 c0_i32_3519
  let c1_i32_3520 : BitVec 32 := 1#32
  let v5853 : BitVec 32 := Scalar.select v5852 c1_i32_3520 c4_i32_3518
  let v5854 : BitVec 32 := Scalar.remsi v152 v5853
  let c0_i32_3522 : BitVec 32 := 0#32
  let v5856 : BitVec 1 := Scalar.cmpi .slt v5854 c0_i32_3522
  let c0_i32_3523 : BitVec 32 := 0#32
  let v5857 : BitVec 1 := Scalar.cmpi .slt v5853 c0_i32_3523
  let v5858 : BitVec 1 := Scalar.xori v5856 v5857
  let c0_i32_3521 : BitVec 32 := 0#32
  let v5855 : BitVec 1 := Scalar.cmpi .ne v5854 c0_i32_3521
  let v5859 : BitVec 1 := Scalar.andi v5858 v5855
  let v5860 : BitVec 32 := Scalar.addi v5854 v5853
  let v5861 : BitVec 32 := Scalar.select v5859 v5860 v5854
  let v5862 : BitVec 32 := Scalar.addi v5851 v5861
  let v5864 : BitVec 32 := Scalar.addi v5863 v5862
  let c1_i32_3529 : BitVec 32 := 1#32
  let v5865 : BitVec 32 := Scalar.muli v5864 c1_i32_3529
  let v5866 : BitVec 32 := Scalar.addi c0_i32_3530 v5865
  v5866.toNat
def k0_dev77 (d0 : Dev nD) : Nat :=
  let c0_i32_3569 : BitVec 32 := 0#32
  let c8_i32_3563 : BitVec 32 := 8#32
  let c2_i32_3542 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3536 : BitVec 32 := 0#32
  let v5876 : BitVec 1 := Scalar.cmpi .sgt v75 c0_i32_3536
  let v5877 : BitVec 32 := Scalar.extui v5876
  let c0_i32_3537 : BitVec 32 := 0#32
  let v5878 : BitVec 1 := Scalar.cmpi .slt v75 c0_i32_3537
  let v5879 : BitVec 32 := Scalar.extui v5878
  let v5880 : BitVec 32 := Scalar.subi v5877 v5879
  let c2_i32_3535 : BitVec 32 := 2#32
  let c0_i32_3538 : BitVec 32 := 0#32
  let v5881 : BitVec 1 := Scalar.cmpi .sgt c2_i32_3535 c0_i32_3538
  let v5882 : BitVec 32 := Scalar.extui v5881
  let c0_i32_3539 : BitVec 32 := 0#32
  let v5883 : BitVec 1 := Scalar.cmpi .slt c2_i32_3535 c0_i32_3539
  let v5884 : BitVec 32 := Scalar.extui v5883
  let v5885 : BitVec 32 := Scalar.subi v5882 v5884
  let v5886 : BitVec 1 := Scalar.cmpi .ne v5880 v5885
  let v5887 : BitVec 32 := Scalar.remsi v75 c2_i32_3535
  let c0_i32_3540 : BitVec 32 := 0#32
  let v5888 : BitVec 1 := Scalar.cmpi .ne v5887 c0_i32_3540
  let v5889 : BitVec 1 := Scalar.andi v5886 v5888
  let v5875 : BitVec 32 := Scalar.divsi v75 c2_i32_3535
  let c1_i32_3541 : BitVec 32 := 1#32
  let v5890 : BitVec 32 := Scalar.subi v5875 c1_i32_3541
  let v5891 : BitVec 32 := Scalar.select v5889 v5890 v5875
  let v5892 : BitVec 32 := Scalar.muli c2_i32_3542 v5891
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c6_i32 : BitVec 32 := 6#32
  let v153 : BitVec 32 := Scalar.addi v97 c6_i32
  let c8_i32_76 : BitVec 32 := 8#32
  let c0_i32_77 : BitVec 32 := 0#32
  let v154 : BitVec 1 := Scalar.cmpi .eq c8_i32_76 c0_i32_77
  let c1_i32_78 : BitVec 32 := 1#32
  let v155 : BitVec 32 := Scalar.select v154 c1_i32_78 c8_i32_76
  let v156 : BitVec 32 := Scalar.remsi v153 v155
  let c0_i32_80 : BitVec 32 := 0#32
  let v158 : BitVec 1 := Scalar.cmpi .slt v156 c0_i32_80
  let c0_i32_81 : BitVec 32 := 0#32
  let v159 : BitVec 1 := Scalar.cmpi .slt v155 c0_i32_81
  let v160 : BitVec 1 := Scalar.xori v158 v159
  let c0_i32_79 : BitVec 32 := 0#32
  let v157 : BitVec 1 := Scalar.cmpi .ne v156 c0_i32_79
  let v161 : BitVec 1 := Scalar.andi v160 v157
  let v162 : BitVec 32 := Scalar.addi v156 v155
  let v163 : BitVec 32 := Scalar.select v161 v162 v156
  let c0_i32_3544 : BitVec 32 := 0#32
  let v5894 : BitVec 1 := Scalar.cmpi .sgt v163 c0_i32_3544
  let v5895 : BitVec 32 := Scalar.extui v5894
  let c0_i32_3545 : BitVec 32 := 0#32
  let v5896 : BitVec 1 := Scalar.cmpi .slt v163 c0_i32_3545
  let v5897 : BitVec 32 := Scalar.extui v5896
  let v5898 : BitVec 32 := Scalar.subi v5895 v5897
  let c4_i32_3543 : BitVec 32 := 4#32
  let c0_i32_3546 : BitVec 32 := 0#32
  let v5899 : BitVec 1 := Scalar.cmpi .sgt c4_i32_3543 c0_i32_3546
  let v5900 : BitVec 32 := Scalar.extui v5899
  let c0_i32_3547 : BitVec 32 := 0#32
  let v5901 : BitVec 1 := Scalar.cmpi .slt c4_i32_3543 c0_i32_3547
  let v5902 : BitVec 32 := Scalar.extui v5901
  let v5903 : BitVec 32 := Scalar.subi v5900 v5902
  let v5904 : BitVec 1 := Scalar.cmpi .ne v5898 v5903
  let v5905 : BitVec 32 := Scalar.remsi v163 c4_i32_3543
  let c0_i32_3548 : BitVec 32 := 0#32
  let v5906 : BitVec 1 := Scalar.cmpi .ne v5905 c0_i32_3548
  let v5907 : BitVec 1 := Scalar.andi v5904 v5906
  let v5893 : BitVec 32 := Scalar.divsi v163 c4_i32_3543
  let c1_i32_3549 : BitVec 32 := 1#32
  let v5908 : BitVec 32 := Scalar.subi v5893 c1_i32_3549
  let v5909 : BitVec 32 := Scalar.select v5907 v5908 v5893
  let v5910 : BitVec 32 := Scalar.addi v5892 v5909
  let v5933 : BitVec 32 := Scalar.muli c8_i32_3563 v5910
  let c4_i32_3556 : BitVec 32 := 4#32
  let c2_i32_3550 : BitVec 32 := 2#32
  let c0_i32_3551 : BitVec 32 := 0#32
  let v5911 : BitVec 1 := Scalar.cmpi .eq c2_i32_3550 c0_i32_3551
  let c1_i32_3552 : BitVec 32 := 1#32
  let v5912 : BitVec 32 := Scalar.select v5911 c1_i32_3552 c2_i32_3550
  let v5913 : BitVec 32 := Scalar.remsi v75 v5912
  let c0_i32_3554 : BitVec 32 := 0#32
  let v5915 : BitVec 1 := Scalar.cmpi .slt v5913 c0_i32_3554
  let c0_i32_3555 : BitVec 32 := 0#32
  let v5916 : BitVec 1 := Scalar.cmpi .slt v5912 c0_i32_3555
  let v5917 : BitVec 1 := Scalar.xori v5915 v5916
  let c0_i32_3553 : BitVec 32 := 0#32
  let v5914 : BitVec 1 := Scalar.cmpi .ne v5913 c0_i32_3553
  let v5918 : BitVec 1 := Scalar.andi v5917 v5914
  let v5919 : BitVec 32 := Scalar.addi v5913 v5912
  let v5920 : BitVec 32 := Scalar.select v5918 v5919 v5913
  let v5921 : BitVec 32 := Scalar.muli c4_i32_3556 v5920
  let c4_i32_3557 : BitVec 32 := 4#32
  let c0_i32_3558 : BitVec 32 := 0#32
  let v5922 : BitVec 1 := Scalar.cmpi .eq c4_i32_3557 c0_i32_3558
  let c1_i32_3559 : BitVec 32 := 1#32
  let v5923 : BitVec 32 := Scalar.select v5922 c1_i32_3559 c4_i32_3557
  let v5924 : BitVec 32 := Scalar.remsi v163 v5923
  let c0_i32_3561 : BitVec 32 := 0#32
  let v5926 : BitVec 1 := Scalar.cmpi .slt v5924 c0_i32_3561
  let c0_i32_3562 : BitVec 32 := 0#32
  let v5927 : BitVec 1 := Scalar.cmpi .slt v5923 c0_i32_3562
  let v5928 : BitVec 1 := Scalar.xori v5926 v5927
  let c0_i32_3560 : BitVec 32 := 0#32
  let v5925 : BitVec 1 := Scalar.cmpi .ne v5924 c0_i32_3560
  let v5929 : BitVec 1 := Scalar.andi v5928 v5925
  let v5930 : BitVec 32 := Scalar.addi v5924 v5923
  let v5931 : BitVec 32 := Scalar.select v5929 v5930 v5924
  let v5932 : BitVec 32 := Scalar.addi v5921 v5931
  let v5934 : BitVec 32 := Scalar.addi v5933 v5932
  let c1_i32_3568 : BitVec 32 := 1#32
  let v5935 : BitVec 32 := Scalar.muli v5934 c1_i32_3568
  let v5936 : BitVec 32 := Scalar.addi c0_i32_3569 v5935
  v5936.toNat
def k0_dev78 (d0 : Dev nD) : Nat :=
  let c0_i32_3608 : BitVec 32 := 0#32
  let c8_i32_3602 : BitVec 32 := 8#32
  let c2_i32_3581 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c4_i32 : BitVec 32 := 4#32
  let c0_i32_13 : BitVec 32 := 0#32
  let v36 : BitVec 1 := Scalar.cmpi .sgt c4_i32 c0_i32_13
  let v37 : BitVec 32 := Scalar.extui v36
  let c0_i32_14 : BitVec 32 := 0#32
  let v38 : BitVec 1 := Scalar.cmpi .slt c4_i32 c0_i32_14
  let v39 : BitVec 32 := Scalar.extui v38
  let v40 : BitVec 32 := Scalar.subi v37 v39
  let v41 : BitVec 1 := Scalar.cmpi .ne v35 v40
  let v42 : BitVec 32 := Scalar.remsi v12 c4_i32
  let c0_i32_15 : BitVec 32 := 0#32
  let v43 : BitVec 1 := Scalar.cmpi .ne v42 c0_i32_15
  let v44 : BitVec 1 := Scalar.andi v41 v43
  let v30 : BitVec 32 := Scalar.divsi v12 c4_i32
  let c1_i32_16 : BitVec 32 := 1#32
  let v45 : BitVec 32 := Scalar.subi v30 c1_i32_16
  let v46 : BitVec 32 := Scalar.select v44 v45 v30
  let c2_i32 : BitVec 32 := 2#32
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v46 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_29 : BitVec 32 := 2#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c0_i32_23 : BitVec 32 := 0#32
  let v58 : BitVec 1 := Scalar.cmpi .sgt v29 c0_i32_23
  let v59 : BitVec 32 := Scalar.extui v58
  let c0_i32_24 : BitVec 32 := 0#32
  let v60 : BitVec 1 := Scalar.cmpi .slt v29 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v29 c2_i32_22
  let c0_i32_27 : BitVec 32 := 0#32
  let v70 : BitVec 1 := Scalar.cmpi .ne v69 c0_i32_27
  let v71 : BitVec 1 := Scalar.andi v68 v70
  let v57 : BitVec 32 := Scalar.divsi v29 c2_i32_22
  let c1_i32_28 : BitVec 32 := 1#32
  let v72 : BitVec 32 := Scalar.subi v57 c1_i32_28
  let v73 : BitVec 32 := Scalar.select v71 v72 v57
  let v74 : BitVec 32 := Scalar.muli c2_i32_29 v73
  let v75 : BitVec 32 := Scalar.addi v56 v74
  let c0_i32_3575 : BitVec 32 := 0#32
  let v5946 : BitVec 1 := Scalar.cmpi .sgt v75 c0_i32_3575
  let v5947 : BitVec 32 := Scalar.extui v5946
  let c0_i32_3576 : BitVec 32 := 0#32
  let v5948 : BitVec 1 := Scalar.cmpi .slt v75 c0_i32_3576
  let v5949 : BitVec 32 := Scalar.extui v5948
  let v5950 : BitVec 32 := Scalar.subi v5947 v5949
  let c2_i32_3574 : BitVec 32 := 2#32
  let c0_i32_3577 : BitVec 32 := 0#32
  let v5951 : BitVec 1 := Scalar.cmpi .sgt c2_i32_3574 c0_i32_3577
  let v5952 : BitVec 32 := Scalar.extui v5951
  let c0_i32_3578 : BitVec 32 := 0#32
  let v5953 : BitVec 1 := Scalar.cmpi .slt c2_i32_3574 c0_i32_3578
  let v5954 : BitVec 32 := Scalar.extui v5953
  let v5955 : BitVec 32 := Scalar.subi v5952 v5954
  let v5956 : BitVec 1 := Scalar.cmpi .ne v5950 v5955
  let v5957 : BitVec 32 := Scalar.remsi v75 c2_i32_3574
  let c0_i32_3579 : BitVec 32 := 0#32
  let v5958 : BitVec 1 := Scalar.cmpi .ne v5957 c0_i32_3579
  let v5959 : BitVec 1 := Scalar.andi v5956 v5958
  let v5945 : BitVec 32 := Scalar.divsi v75 c2_i32_3574
  let c1_i32_3580 : BitVec 32 := 1#32
  let v5960 : BitVec 32 := Scalar.subi v5945 c1_i32_3580
  let v5961 : BitVec 32 := Scalar.select v5959 v5960 v5945
  let v5962 : BitVec 32 := Scalar.muli c2_i32_3581 v5961
  let c4_i32_30 : BitVec 32 := 4#32
  let c0_i32_31 : BitVec 32 := 0#32
  let v76 : BitVec 1 := Scalar.cmpi .eq c4_i32_30 c0_i32_31
  let c1_i32_32 : BitVec 32 := 1#32
  let v77 : BitVec 32 := Scalar.select v76 c1_i32_32 c4_i32_30
  let v78 : BitVec 32 := Scalar.remsi v12 v77
  let c0_i32_34 : BitVec 32 := 0#32
  let v80 : BitVec 1 := Scalar.cmpi .slt v78 c0_i32_34
  let c0_i32_35 : BitVec 32 := 0#32
  let v81 : BitVec 1 := Scalar.cmpi .slt v77 c0_i32_35
  let v82 : BitVec 1 := Scalar.xori v80 v81
  let c0_i32_33 : BitVec 32 := 0#32
  let v79 : BitVec 1 := Scalar.cmpi .ne v78 c0_i32_33
  let v83 : BitVec 1 := Scalar.andi v82 v79
  let v84 : BitVec 32 := Scalar.addi v78 v77
  let v85 : BitVec 32 := Scalar.select v83 v84 v78
  let c4_i32_42 : BitVec 32 := 4#32
  let c2_i32_36 : BitVec 32 := 2#32
  let c0_i32_37 : BitVec 32 := 0#32
  let v86 : BitVec 1 := Scalar.cmpi .eq c2_i32_36 c0_i32_37
  let c1_i32_38 : BitVec 32 := 1#32
  let v87 : BitVec 32 := Scalar.select v86 c1_i32_38 c2_i32_36
  let v88 : BitVec 32 := Scalar.remsi v29 v87
  let c0_i32_40 : BitVec 32 := 0#32
  let v90 : BitVec 1 := Scalar.cmpi .slt v88 c0_i32_40
  let c0_i32_41 : BitVec 32 := 0#32
  let v91 : BitVec 1 := Scalar.cmpi .slt v87 c0_i32_41
  let v92 : BitVec 1 := Scalar.xori v90 v91
  let c0_i32_39 : BitVec 32 := 0#32
  let v89 : BitVec 1 := Scalar.cmpi .ne v88 c0_i32_39
  let v93 : BitVec 1 := Scalar.andi v92 v89
  let v94 : BitVec 32 := Scalar.addi v88 v87
  let v95 : BitVec 32 := Scalar.select v93 v94 v88
  let v96 : BitVec 32 := Scalar.muli c4_i32_42 v95
  let v97 : BitVec 32 := Scalar.addi v85 v96
  let c7_i32 : BitVec 32 := 7#32
  let v164 : BitVec 32 := Scalar.addi v97 c7_i32
  let c8_i32_82 : BitVec 32 := 8#32
  let c0_i32_83 : BitVec 32 := 0#32
  let v165 : BitVec 1 := Scalar.cmpi .eq c8_i32_82 c0_i32_83
  let c1_i32_84 : BitVec 32 := 1#32
  let v166 : BitVec 32 := Scalar.select v165 c1_i32_84 c8_i32_82
  let v167 : BitVec 32 := Scalar.remsi v164 v166
  let c0_i32_86 : BitVec 32 := 0#32
  let v169 : BitVec 1 := Scalar.cmpi .slt v167 c0_i32_86
  let c0_i32_87 : BitVec 32 := 0#32
  let v170 : BitVec 1 := Scalar.cmpi .slt v166 c0_i32_87
  let v171 : BitVec 1 := Scalar.xori v169 v170
  let c0_i32_85 : BitVec 32 := 0#32
  let v168 : BitVec 1 := Scalar.cmpi .ne v167 c0_i32_85
  let v172 : BitVec 1 := Scalar.andi v171 v168
  let v173 : BitVec 32 := Scalar.addi v167 v166
  let v174 : BitVec 32 := Scalar.select v172 v173 v167
  let c0_i32_3583 : BitVec 32 := 0#32
  let v5964 : BitVec 1 := Scalar.cmpi .sgt v174 c0_i32_3583
  let v5965 : BitVec 32 := Scalar.extui v5964
  let c0_i32_3584 : BitVec 32 := 0#32
  let v5966 : BitVec 1 := Scalar.cmpi .slt v174 c0_i32_3584
  let v5967 : BitVec 32 := Scalar.extui v5966
  let v5968 : BitVec 32 := Scalar.subi v5965 v5967
  let c4_i32_3582 : BitVec 32 := 4#32
  let c0_i32_3585 : BitVec 32 := 0#32
  let v5969 : BitVec 1 := Scalar.cmpi .sgt c4_i32_3582 c0_i32_3585
  let v5970 : BitVec 32 := Scalar.extui v5969
  let c0_i32_3586 : BitVec 32 := 0#32
  let v5971 : BitVec 1 := Scalar.cmpi .slt c4_i32_3582 c0_i32_3586
  let v5972 : BitVec 32 := Scalar.extui v5971
  let v5973 : BitVec 32 := Scalar.subi v5970 v5972
  let v5974 : BitVec 1 := Scalar.cmpi .ne v5968 v5973
  let v5975 : BitVec 32 := Scalar.remsi v174 c4_i32_3582
  let c0_i32_3587 : BitVec 32 := 0#32
  let v5976 : BitVec 1 := Scalar.cmpi .ne v5975 c0_i32_3587
  let v5977 : BitVec 1 := Scalar.andi v5974 v5976
  let v5963 : BitVec 32 := Scalar.divsi v174 c4_i32_3582
  let c1_i32_3588 : BitVec 32 := 1#32
  let v5978 : BitVec 32 := Scalar.subi v5963 c1_i32_3588
  let v5979 : BitVec 32 := Scalar.select v5977 v5978 v5963
  let v5980 : BitVec 32 := Scalar.addi v5962 v5979
  let v6003 : BitVec 32 := Scalar.muli c8_i32_3602 v5980
  let c4_i32_3595 : BitVec 32 := 4#32
  let c2_i32_3589 : BitVec 32 := 2#32
  let c0_i32_3590 : BitVec 32 := 0#32
  let v5981 : BitVec 1 := Scalar.cmpi .eq c2_i32_3589 c0_i32_3590
  let c1_i32_3591 : BitVec 32 := 1#32
  let v5982 : BitVec 32 := Scalar.select v5981 c1_i32_3591 c2_i32_3589
  let v5983 : BitVec 32 := Scalar.remsi v75 v5982
  let c0_i32_3593 : BitVec 32 := 0#32
  let v5985 : BitVec 1 := Scalar.cmpi .slt v5983 c0_i32_3593
  let c0_i32_3594 : BitVec 32 := 0#32
  let v5986 : BitVec 1 := Scalar.cmpi .slt v5982 c0_i32_3594
  let v5987 : BitVec 1 := Scalar.xori v5985 v5986
  let c0_i32_3592 : BitVec 32 := 0#32
  let v5984 : BitVec 1 := Scalar.cmpi .ne v5983 c0_i32_3592
  let v5988 : BitVec 1 := Scalar.andi v5987 v5984
  let v5989 : BitVec 32 := Scalar.addi v5983 v5982
  let v5990 : BitVec 32 := Scalar.select v5988 v5989 v5983
  let v5991 : BitVec 32 := Scalar.muli c4_i32_3595 v5990
  let c4_i32_3596 : BitVec 32 := 4#32
  let c0_i32_3597 : BitVec 32 := 0#32
  let v5992 : BitVec 1 := Scalar.cmpi .eq c4_i32_3596 c0_i32_3597
  let c1_i32_3598 : BitVec 32 := 1#32
  let v5993 : BitVec 32 := Scalar.select v5992 c1_i32_3598 c4_i32_3596
  let v5994 : BitVec 32 := Scalar.remsi v174 v5993
  let c0_i32_3600 : BitVec 32 := 0#32
  let v5996 : BitVec 1 := Scalar.cmpi .slt v5994 c0_i32_3600
  let c0_i32_3601 : BitVec 32 := 0#32
  let v5997 : BitVec 1 := Scalar.cmpi .slt v5993 c0_i32_3601
  let v5998 : BitVec 1 := Scalar.xori v5996 v5997
  let c0_i32_3599 : BitVec 32 := 0#32
  let v5995 : BitVec 1 := Scalar.cmpi .ne v5994 c0_i32_3599
  let v5999 : BitVec 1 := Scalar.andi v5998 v5995
  let v6000 : BitVec 32 := Scalar.addi v5994 v5993
  let v6001 : BitVec 32 := Scalar.select v5999 v6000 v5994
  let v6002 : BitVec 32 := Scalar.addi v5991 v6001
  let v6004 : BitVec 32 := Scalar.addi v6003 v6002
  let c1_i32_3607 : BitVec 32 := 1#32
  let v6005 : BitVec 32 := Scalar.muli v6004 c1_i32_3607
  let v6006 : BitVec 32 := Scalar.addi c0_i32_3608 v6005
  v6006.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Bits.BodyEq.lean ====
/-
The printed body is the looped program of `Loops`.
-/
module

public import proofs.«01_k».proof.Proof.Bits.Loops

@[expose] public section

noncomputable section

namespace Cert.BitsRun

open Cert.Kernel Cert.Kernel.Gen
open Idealize.ShloMosaic Idealize.SL.Sem

variable {F : FTy → Type} [FloatOps F]

set_option maxRecDepth 1000000 in
set_option maxHeartbeats 0 in
/-- The printed body reads its device number and then runs the looped program at the printed table. -/
theorem body_printed :
    cc0_body (F := F) xM (Memref.isWhole_whole _) wM (Memref.isWhole_whole _) oM (Memref.isWhole_whole _)
      accM (Memref.isWhole_whole _) achM (Memref.isWhole_whole _) redM (Memref.isWhole_whole _)
      outM (Memref.isWhole_whole _) g1M (Memref.isWhole_whole _) g2M (Memref.isWhole_whole _)
      cc0_scratch6 cc0_scratch7 cc0_scratch8 cc0_scratch9 cc0_scratch10 cc0_scratch11
      = Prog.op .deviceId (fun d => bodyP (printed d)) := by
  rw [cc0_body_eq_skeleton]
  rfl

end Cert.BitsRun

end

end
-- ==== Proof.Ideal.Loops.lean ====
/-
The kernel's body as nested loops.

The printed body is one straight line of some three hundred memory operations: every Python loop of the kernel is
unrolled. Here the same program is written with its loops (over the four column chunks and over the peers of a
device), with the devices it addresses and the offsets it slices at collected in a table `Route`. `body_eq` says that
the printed body, at the table its own address arithmetic computes, is that looped program; `route_eq` says what the
table is: a device `c` stands at place `plc c` of cube `grp c`, its cube peers are at the other seven places of the
same cube, its group peers at the same place of the other three cubes.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.IdealRun

open Cert.KernelIdeal Cert.KernelIdeal.Gen
open Idealize.ShloMosaic Idealize.SL.Sem

/-- Do `f` at each member of a list, in order. -/
def each {E : Type → Type} {ι : Type} (f : ι → Prog E PUnit) : List ι → Prog E PUnit
  | [] => .ret ⟨⟩
  | i :: l => f i >>= fun _ => each f l

/-- The column chunks, the cube peers and the group peers, in the kernel's order. -/
def l4 : List (Fin 4) := [0, 1, 2, 3]
def l7 : List (Fin 7) := [0, 1, 2, 3, 4, 5, 6]
def l3 : List (Fin 3) := [0, 1, 2]
def l10 : List (Fin 10) := [0, 1, 2, 3, 4, 5, 6, 7, 8, 9]

variable {F : FTy → Type} [FloatOps F]

/-! ## The buffers -/

abbrev xM : Memref sig .tc .vmem S1024x32 .f32 := Memref.whole cc0_stg0_0
abbrev wM : Memref sig .tc .vmem S32x1024 .f32 := Memref.whole cc0_stg1_0
abbrev oM : Memref sig .tc .vmem S1024x1024 .f32 := Memref.whole cc0_stg2_0
abbrev accM : Memref sig .tc .vmem S1024x1024 .f32 := Memref.whole cc0_scratch0
abbrev achM : Memref sig .tc .vmem S1024x1024 .bf16 := Memref.whole cc0_scratch1
abbrev redM : Memref sig .tc .vmem S128x1024 .f32 := Memref.whole cc0_scratch2
abbrev outM : Memref sig .tc .vmem S1024x1024 .bf16 := Memref.whole cc0_scratch3
abbrev g1M : Memref sig .tc .vmem S7x128x1024 .bf16 := Memref.whole cc0_scratch4
abbrev g2M : Memref sig .tc .vmem S3x128x1024 .bf16 := Memref.whole cc0_scratch5

/-- The runtime's barrier semaphore. -/
abbrev barS : Sem sig := (SemArray.scalar (sig.barrier 0 rfl) : Sems sig S_).sem

/-! ## Tiles -/

/-- An offset of a 128 × 256 tile of a 1024 × 1024 buffer. -/
def IsTile (off : Fin 2 → ℕ) : Prop := ∃ r : Fin 8, ∃ k : Fin 4, off = ![128 * r.val, 256 * k.val]

instance (off : Fin 2 → ℕ) : Decidable (IsTile off) := by unfold IsTile; infer_instance

theorem tile_inb (r : Fin 8) (k : Fin 4) :
    ∀ a, (![128 * r.val, 256 * k.val] : Fin 2 → ℕ) a + S128x256.size a ≤ S1024x1024.size a := by
  revert r k; decide +kernel

theorem tile_words : ∀ (r : Fin 8) (k : Fin 4),
    (Rect.unit (s := S1024x1024) ![128 * r.val, 256 * k.val] S128x256.size (tile_inb r k)).WholeWords
      (EltTy.packing .bf16) := by decide +kernel

theorem tile_packed : ∀ (r : Fin 8) (k : Fin 4),
    (Rect.unit (s := S1024x1024) ![128 * r.val, 256 * k.val] S128x256.size (tile_inb r k)).PackedRows
      (EltTy.packing .bf16) := by decide +kernel

theorem IsTile.inb {off : Fin 2 → ℕ} (h : IsTile off) : ∀ a, off a + S128x256.size a ≤ S1024x1024.size a := by
  obtain ⟨r, k, rfl⟩ := h; exact tile_inb r k

theorem IsTile.words {off : Fin 2 → ℕ} (h : IsTile off) :
    (Rect.unit (s := S1024x1024) off S128x256.size h.inb).WholeWords (EltTy.packing .bf16) := by
  obtain ⟨r, k, rfl⟩ := h; exact tile_words r k

theorem IsTile.packed {off : Fin 2 → ℕ} (h : IsTile off) :
    (Rect.unit (s := S1024x1024) off S128x256.size h.inb).PackedRows (EltTy.packing .bf16) := by
  obtain ⟨r, k, rfl⟩ := h; exact tile_packed r k

theorem col_inb (k : Fin 4) :
    ∀ a, (![0, 256 * k.val] : Fin 2 → ℕ) a + S1024x256.size a ≤ S1024x1024.size a := by revert k; decide +kernel
theorem col_packed : ∀ k : Fin 4,
    (Rect.unit (s := S1024x1024) ![0, 256 * k.val] S1024x256.size (col_inb k)).PackedRows (EltTy.packing .bf16) := by
  decide +kernel
theorem rcol_inb (k : Fin 4) :
    ∀ a, (![0, 256 * k.val] : Fin 2 → ℕ) a + S128x256.size a ≤ S128x1024.size a := by revert k; decide +kernel
theorem g1col_inb (k : Fin 4) :
    ∀ a, (![0, 0, 256 * k.val] : Fin 3 → ℕ) a + S7x128x256.size a ≤ S7x128x1024.size a := by revert k; decide +kernel
theorem g2col_inb (k : Fin 4) :
    ∀ a, (![0, 0, 256 * k.val] : Fin 3 → ℕ) a + S3x128x256.size a ≤ S3x128x1024.size a := by revert k; decide +kernel

theorem slot1_inb (o : Fin 7) (k : Fin 4) :
    ∀ a, (![o.val, 0, 256 * k.val] : Fin 3 → ℕ) a + S1x128x256.size a ≤ S7x128x1024.size a := by
  revert o k; decide +kernel
theorem slot1_words : ∀ (o : Fin 7) (k : Fin 4),
    (Rect.unit (s := S7x128x1024) ![o.val, 0, 256 * k.val] S1x128x256.size (slot1_inb o k)).WholeWords
      (EltTy.packing .bf16) := by decide +kernel
theorem slot2_inb (o : Fin 3) (k : Fin 4) :
    ∀ a, (![o.val, 0, 256 * k.val] : Fin 3 → ℕ) a + S1x128x256.size a ≤ S3x128x1024.size a := by
  revert o k; decide +kernel
theorem slot2_words : ∀ (o : Fin 3) (k : Fin 4),
    (Rect.unit (s := S3x128x1024) ![o.val, 0, 256 * k.val] S1x128x256.size (slot2_inb o k)).WholeWords
      (EltTy.packing .bf16) := by decide +kernel

theorem s47_inb (k : Fin 4) (o : Fin 7) :
    ∀ a, (![k.val, o.val] : Fin 2 → ℕ) a + S1x1.size a ≤ S4x7.size a := by revert k o; decide +kernel
theorem s43_inb (k : Fin 4) (o : Fin 3) :
    ∀ a, (![k.val, o.val] : Fin 2 → ℕ) a + S1x1.size a ≤ S4x3.size a := by revert k o; decide +kernel

/-- The tile of a 1024 × 1024 buffer at an offset. -/
abbrev tileM (b : Memref sig .tc .vmem S1024x1024 .bf16) (off : Fin 2 → ℕ) (h : IsTile off) :
    Memref sig .tc .vmem S128x256 .bf16 :=
  b.slice (Rect.unit (s := S1024x1024) off S128x256.size h.inb) (fun _ => rfl)

/-- Chunk `k` of landing slot `o` of the first exchange, and of the second. -/
abbrev slot1 (o : Fin 7) (k : Fin 4) : Memref sig .tc .vmem S128x256 .bf16 :=
  (g1M.slice (Rect.unit (s := S7x128x1024) ![o.val, 0, 256 * k.val] S1x128x256.size (slot1_inb o k))
    (fun _ => rfl)).squeeze S128x256 squeezes_S1x128x256_S128x256
abbrev slot2 (o : Fin 3) (k : Fin 4) : Memref sig .tc .vmem S128x256 .bf16 :=
  (g2M.slice (Rect.unit (s := S3x128x1024) ![o.val, 0, 256 * k.val] S1x128x256.size (slot2_inb o k))
    (fun _ => rfl)).squeeze S128x256 squeezes_S1x128x256_S128x256

/-- Semaphore `(k, o)` of an array. -/
abbrev s47 (a : DmaSems sig S4x7) (k : Fin 4) (o : Fin 7) : DmaSem sig :=
  ((a.slice (Rect.unit (s := S4x7) ![k.val, o.val] S1x1.size (s47_inb k o))).squeeze S_ squeezes_S1x1_S_).sem
abbrev s43 (a : DmaSems sig S4x3) (k : Fin 4) (o : Fin 3) : DmaSem sig :=
  ((a.slice (Rect.unit (s := S4x3) ![k.val, o.val] S1x1.size (s43_inb k o))).squeeze S_ squeezes_S1x1_S_).sem

theorem tile_exact (b : Memref sig .tc .vmem S1024x1024 .bf16) (hb : b.IsWhole) {off : Fin 2 → ℕ} (h : IsTile off) :
    (tileM b off h).view.WordExact := hb.wordExact_slice rfl _ h.words
theorem slot1_exact (o : Fin 7) (k : Fin 4) : (slot1 o k).view.WordExact :=
  ((Memref.isWhole_whole cc0_scratch4).wordExact_slice rfl _ (slot1_words o k)).reshape _ _
theorem slot2_exact (o : Fin 3) (k : Fin 4) : (slot2 o k).view.WordExact :=
  ((Memref.isWhole_whole cc0_scratch5).wordExact_slice rfl _ (slot2_words o k)).reshape _ _

/-! ## The looped program -/

/-- The devices a device addresses and the tile offsets it slices at. -/
@[ext] structure Route where
  bar : Fin 10 → Dev nD
  dev1 : Fin 4 → Fin 7 → Dev nD
  dev2 : Fin 4 → Fin 3 → Dev nD
  dev4 : Fin 4 → Fin 7 → Dev nD
  off1 : Fin 4 → Fin 7 → Fin 2 → ℕ
  own : Fin 4 → Fin 2 → ℕ
  own' : Fin 4 → Fin 2 → ℕ
  h1 : ∀ k o, IsTile (off1 k o)
  h2 : ∀ k, IsTile (own k)
  h3 : ∀ k, IsTile (own' k)

section Program

variable (T : Route)

abbrev Pg (F : FTy → Type) := Prog (TpuEff nD τ sig (Elt F) Λ₀ .tc) PUnit

/-- Signal one barrier partner. -/
def sigP (i : Fin 10) : Pg F := semSignalWord (T.bar i) barS 1#32

/-- First exchange: the tile for cube peer `o` of chunk `k` into the peer's landing slot. -/
def send1P (k : Fin 4) (o : Fin 7) : Pg F :=
  Prog.lift (.enqueueDma (tileM achM (T.off1 k o) (T.h1 k o))
    (.remote (Dev.tc (T.dev1 k o)) (slot1 o k) (.dma (s47 cc0_scratch6 k o))) (.dma (s47 cc0_scratch9 k o))
    (tile_exact achM (Memref.isWhole_whole _) (T.h1 k o)) (slot1_exact o k) ⟨⟨rfl, Or.inl rfl⟩, trivial⟩)

/-- Second exchange: the device's own reduced tile of chunk `k` into group peer `o`'s landing slot. -/
def send2P (k : Fin 4) (o : Fin 3) : Pg F :=
  Prog.lift (.enqueueDma (tileM achM (T.own' k) (T.h3 k))
    (.remote (Dev.tc (T.dev2 k o)) (slot2 o k) (.dma (s43 cc0_scratch7 k o))) (.dma (s43 cc0_scratch10 k o))
    (tile_exact achM (Memref.isWhole_whole _) (T.h3 k)) (slot2_exact o k) ⟨⟨rfl, Or.inl rfl⟩, trivial⟩)

/-- Third exchange: the device's own finished tile of chunk `k` into the same place of cube peer `o`. -/
def send4P (k : Fin 4) (o : Fin 7) : Pg F :=
  Prog.lift (.enqueueDma (tileM outM (T.own' k) (T.h3 k))
    (.remote (Dev.tc (T.dev4 k o)) (tileM outM (T.own' k) (T.h3 k)) (.dma (s47 cc0_scratch8 k o)))
    (.dma (s47 cc0_scratch11 k o))
    (tile_exact outM (Memref.isWhole_whole _) (T.h3 k)) (tile_exact outM (Memref.isWhole_whole _) (T.h3 k))
    ⟨⟨rfl, Or.inl rfl⟩, trivial⟩)

/-- The waits for what lands, -/
def recv1P (k : Fin 4) (o : Fin 7) : Pg F :=
  Prog.lift (.waitDma2 (s47 cc0_scratch9 k o) (tileM achM (T.off1 k o) (T.h1 k o)) (slot1 o k)
    (tile_exact achM (Memref.isWhole_whole _) (T.h1 k o)) (slot1_exact o k))
def recv2P (k : Fin 4) (o : Fin 3) : Pg F :=
  Prog.lift (.waitDma2 (s43 cc0_scratch10 k o) (tileM achM (T.own' k) (T.h3 k)) (slot2 o k)
    (tile_exact achM (Memref.isWhole_whole _) (T.h3 k)) (slot2_exact o k))
def recv4P (k : Fin 4) (o : Fin 7) : Pg F :=
  Prog.lift (.waitDma2 (s47 cc0_scratch11 k o) (tileM outM (T.own' k) (T.h3 k)) (tileM outM (T.own' k) (T.h3 k))
    (tile_exact outM (Memref.isWhole_whole _) (T.h3 k)) (tile_exact outM (Memref.isWhole_whole _) (T.h3 k)))

/-- and for what left. -/
def done1P (k : Fin 4) (o : Fin 7) : Pg F :=
  Prog.lift (.waitDma2 (s47 cc0_scratch6 k o) (slot1 o k) (tileM achM (T.off1 k o) (T.h1 k o))
    (slot1_exact o k) (tile_exact achM (Memref.isWhole_whole _) (T.h1 k o)))
def done2P (k : Fin 4) (o : Fin 3) : Pg F :=
  Prog.lift (.waitDma2 (s43 cc0_scratch7 k o) (slot2 o k) (tileM achM (T.own' k) (T.h3 k))
    (slot2_exact o k) (tile_exact achM (Memref.isWhole_whole _) (T.h3 k)))
def done4P (k : Fin 4) (o : Fin 7) : Pg F :=
  Prog.lift (.waitDma2 (s47 cc0_scratch8 k o) (tileM outM (T.own' k) (T.h3 k)) (tileM outM (T.own' k) (T.h3 k))
    (tile_exact outM (Memref.isWhole_whole _) (T.h3 k)) (tile_exact outM (Memref.isWhole_whole _) (T.h3 k)))

/-- The local product. -/
def dotP : Pg F := do
  let x : Vec F S1024x32 .f32 ← Prog.lift (.load xM (Rect.unit (s := S1024x32) ![0, 0] S1024x32.size
    inb_S1024x32_S1024x32_0_0).toLoadRect (View.loadsAt_vmem h_S1024x32))
  let w : Vec F S32x1024 .f32 ← Prog.lift (.load wM (Rect.unit (s := S32x1024) ![0, 0] S32x1024.size
    inb_S32x1024_S32x1024_0_0).toLoadRect (View.loadsAt_vmem h_S32x1024))
  let _ : Vec F S1024x1024 .f32 ← Prog.lift (.load accM (Rect.unit (s := S1024x1024) ![0, 0] S1024x1024.size
    inb_S1024x1024_S1024x1024_0_0).toLoadRect (View.loadsAt_vmem h_S1024x1024))
  Prog.lift (.store accM (Rect.unit (s := S1024x1024) ![0, 0] S1024x1024.size inb_S1024x1024_S1024x1024_0_0)
    (k0_pay1 x w) Finset.univ (View.stores_vmem_bits_univ h_S1024x1024 rfl) (.inl rfl))

/-- Chunk `k` of the product, rounded. -/
def cast1P (k : Fin 4) : Pg F := do
  let v : Vec F S1024x256 .f32 ← Prog.lift (.load accM (Rect.unit (s := S1024x1024) ![0, 256 * k.val] S1024x256.size
    (col_inb k)).toLoadRect (View.loadsAt_vmem h_S1024x256))
  let _ : Vec F S1024x256 .bf16 ← Prog.lift (.load achM (Rect.unit (s := S1024x1024) ![0, 256 * k.val] S1024x256.size
    (col_inb k)).toLoadRect (View.loadsAt_vmem h_S1024x256))
  Prog.lift (.store achM (Rect.unit (s := S1024x1024) ![0, 256 * k.val] S1024x256.size (col_inb k)) (k0_pay2 v)
    Finset.univ (View.stores_vmem h_S1024x256 ((Memref.isWhole_whole cc0_scratch1).storeExact_slice rfl _
      (col_packed k)) (fun _ => rfl)) (.inl rfl))

/-- The sum over the cube, kept and rounded. -/
def sum1P (k : Fin 4) : Pg F := do
  let v : Vec F S128x256 .f32 ← Prog.lift (.load accM (Rect.unit (s := S1024x1024) (T.own k) S128x256.size
    (T.h2 k).inb).toLoadRect (View.loadsAt_vmem h_S128x256))
  let g : Vec F S7x128x256 .bf16 ← Prog.lift (.load g1M (Rect.unit (s := S7x128x1024) ![0, 0, 256 * k.val]
    S7x128x256.size (g1col_inb k)).toLoadRect (View.loadsAt_vmem h_S7x128x256))
  let _ : Vec F S128x256 .f32 ← Prog.lift (.load redM (Rect.unit (s := S128x1024) ![0, 256 * k.val] S128x256.size
    (rcol_inb k)).toLoadRect (View.loadsAt_vmem h_S128x256))
  Prog.lift (.store redM (Rect.unit (s := S128x1024) ![0, 256 * k.val] S128x256.size (rcol_inb k)) (k0_pay8 v g)
    Finset.univ (View.stores_vmem_bits_univ h_S128x256 rfl) (.inl rfl))
  let _ : Vec F S128x256 .bf16 ← Prog.lift (.load achM (Rect.unit (s := S1024x1024) (T.own k) S128x256.size
    (T.h2 k).inb).toLoadRect (View.loadsAt_vmem h_S128x256))
  Prog.lift (.store achM (Rect.unit (s := S1024x1024) (T.own k) S128x256.size (T.h2 k).inb) (k0_pay9 v g)
    Finset.univ (View.stores_vmem h_S128x256 ((Memref.isWhole_whole cc0_scratch1).storeExact_slice rfl _
      (T.h2 k).packed) (fun _ => rfl)) (.inl rfl))

/-- The sum over the cubes, its positive part rounded. -/
def sum2P (k : Fin 4) : Pg F := do
  let v : Vec F S128x256 .f32 ← Prog.lift (.load redM (Rect.unit (s := S128x1024) ![0, 256 * k.val] S128x256.size
    (rcol_inb k)).toLoadRect (View.loadsAt_vmem h_S128x256))
  let g : Vec F S3x128x256 .bf16 ← Prog.lift (.load g2M (Rect.unit (s := S3x128x1024) ![0, 0, 256 * k.val]
    S3x128x256.size (g2col_inb k)).toLoadRect (View.loadsAt_vmem h_S3x128x256))
  let _ : Vec F S128x256 .bf16 ← Prog.lift (.load outM (Rect.unit (s := S1024x1024) (T.own k) S128x256.size
    (T.h2 k).inb).toLoadRect (View.loadsAt_vmem h_S128x256))
  Prog.lift (.store outM (Rect.unit (s := S1024x1024) (T.own k) S128x256.size (T.h2 k).inb) (k0_pay19 v g)
    Finset.univ (View.stores_vmem h_S128x256 ((Memref.isWhole_whole cc0_scratch3).storeExact_slice rfl _
      (T.h2 k).packed) (fun _ => rfl)) (.inl rfl))

/-- Chunk `k` of the result, widened. -/
def outP (k : Fin 4) : Pg F := do
  let v : Vec F S1024x256 .bf16 ← Prog.lift (.load outM (Rect.unit (s := S1024x1024) ![0, 256 * k.val] S1024x256.size
    (col_inb k)).toLoadRect (View.loadsAt_vmem h_S1024x256))
  let _ : Vec F S1024x256 .f32 ← Prog.lift (.load oM (Rect.unit (s := S1024x1024) ![0, 256 * k.val] S1024x256.size
    (col_inb k)).toLoadRect (View.loadsAt_vmem h_S1024x256))
  Prog.lift (.store oM (Rect.unit (s := S1024x1024) ![0, 256 * k.val] S1024x256.size (col_inb k)) (k0_pay25 v)
    Finset.univ (View.stores_vmem_bits_univ h_S1024x256 rfl) (.inl rfl))

def phase1 (k : Fin 4) : Pg F := cast1P k >>= fun _ => each (send1P T k) l7
def phase2 (k : Fin 4) : Pg F := each (recv1P T k) l7 >>= fun _ => sum1P T k >>= fun _ => each (send2P T k) l3
def phase3 (k : Fin 4) : Pg F := each (recv2P T k) l3 >>= fun _ => sum2P T k >>= fun _ => each (send4P T k) l7
def phase4 (k : Fin 4) : Pg F := each (recv4P T k) l7 >>= fun _ => outP k

/-- The whole body after the device has read its own number. -/
def bodyP : Pg F :=
  each (sigP T) l10 >>= fun _ =>
  semWaitWord barS 10#32 >>= fun _ =>
  dotP >>= fun _ =>
  each (phase1 T) l4 >>= fun _ =>
  each (phase2 T) l4 >>= fun _ =>
  each (phase3 T) l4 >>= fun _ =>
  each (phase4 T) l4 >>= fun _ =>
  each (fun k => each (done1P T k) l7) l4 >>= fun _ =>
  each (fun k => each (done2P T k) l3) l4 >>= fun _ =>
  each (fun k => each (done4P T k) l7) l4

end Program

/-! ## The table the printed address arithmetic computes -/

/-- A device's place in its cube and its cube, and the device at a place of a cube. -/
def plc (c : Dev nD) : Fin 8 := ⟨(c.val % 4 + 4 * (c.val / 8 % 2)) % 8, Nat.mod_lt _ (by decide)⟩
def grp (c : Dev nD) : Fin 4 := ⟨(c.val / 4 % 2 + 2 * (c.val / 16)) % 4, Nat.mod_lt _ (by decide)⟩
def dev (q : Fin 4) (p : Fin 8) : Dev nD :=
  ⟨(16 * (q.val / 2) + 8 * (p.val / 4) + 4 * (q.val % 2) + p.val % 4) % 32, Nat.mod_lt _ (by decide)⟩

/-- The cube peer `o + 1` places on, and the group peer `o + 1` cubes on. -/
def cub (o : Fin 7) (c : Dev nD) : Dev nD :=
  dev (grp c) ⟨((plc c).val + o.val + 1) % 8, Nat.mod_lt _ (by decide)⟩
def col (o : Fin 3) (c : Dev nD) : Dev nD :=
  dev ⟨((grp c).val + o.val + 1) % 4, Nat.mod_lt _ (by decide)⟩ (plc c)

/-- The barrier partners: the seven cube peers, then the three group peers. -/
def bar (i : Fin 10) (c : Dev nD) : Dev nD :=
  if h : i.val < 7 then cub ⟨i.val, h⟩ c else col ⟨i.val - 7, by omega⟩ c

def devTab1 (d : Dev nD) : Fin 4 → Fin 7 → Dev nD
  | 0, 0 => ⟨k0_dev11 d, k0_dev11_lt d⟩ | 0, 1 => ⟨k0_dev12 d, k0_dev12_lt d⟩ | 0, 2 => ⟨k0_dev13 d, k0_dev13_lt d⟩
  | 0, 3 => ⟨k0_dev14 d, k0_dev14_lt d⟩ | 0, 4 => ⟨k0_dev15 d, k0_dev15_lt d⟩ | 0, 5 => ⟨k0_dev16 d, k0_dev16_lt d⟩
  | 0, 6 => ⟨k0_dev17 d, k0_dev17_lt d⟩
  | 1, 0 => ⟨k0_dev18 d, k0_dev18_lt d⟩ | 1, 1 => ⟨k0_dev19 d, k0_dev19_lt d⟩ | 1, 2 => ⟨k0_dev20 d, k0_dev20_lt d⟩
  | 1, 3 => ⟨k0_dev21 d, k0_dev21_lt d⟩ | 1, 4 => ⟨k0_dev22 d, k0_dev22_lt d⟩ | 1, 5 => ⟨k0_dev23 d, k0_dev23_lt d⟩
  | 1, 6 => ⟨k0_dev24 d, k0_dev24_lt d⟩
  | 2, 0 => ⟨k0_dev25 d, k0_dev25_lt d⟩ | 2, 1 => ⟨k0_dev26 d, k0_dev26_lt d⟩ | 2, 2 => ⟨k0_dev27 d, k0_dev27_lt d⟩
  | 2, 3 => ⟨k0_dev28 d, k0_dev28_lt d⟩ | 2, 4 => ⟨k0_dev29 d, k0_dev29_lt d⟩ | 2, 5 => ⟨k0_dev30 d, k0_dev30_lt d⟩
  | 2, 6 => ⟨k0_dev31 d, k0_dev31_lt d⟩
  | 3, 0 => ⟨k0_dev32 d, k0_dev32_lt d⟩ | 3, 1 => ⟨k0_dev33 d, k0_dev33_lt d⟩ | 3, 2 => ⟨k0_dev34 d, k0_dev34_lt d⟩
  | 3, 3 => ⟨k0_dev35 d, k0_dev35_lt d⟩ | 3, 4 => ⟨k0_dev36 d, k0_dev36_lt d⟩ | 3, 5 => ⟨k0_dev37 d, k0_dev37_lt d⟩
  | 3, 6 => ⟨k0_dev38 d, k0_dev38_lt d⟩

def devTab2 (d : Dev nD) : Fin 4 → Fin 3 → Dev nD
  | 0, 0 => ⟨k0_dev39 d, k0_dev39_lt d⟩ | 0, 1 => ⟨k0_dev40 d, k0_dev40_lt d⟩ | 0, 2 => ⟨k0_dev41 d, k0_dev41_lt d⟩
  | 1, 0 => ⟨k0_dev42 d, k0_dev42_lt d⟩ | 1, 1 => ⟨k0_dev43 d, k0_dev43_lt d⟩ | 1, 2 => ⟨k0_dev44 d, k0_dev44_lt d⟩
  | 2, 0 => ⟨k0_dev45 d, k0_dev45_lt d⟩ | 2, 1 => ⟨k0_dev46 d, k0_dev46_lt d⟩ | 2, 2 => ⟨k0_dev47 d, k0_dev47_lt d⟩
  | 3, 0 => ⟨k0_dev48 d, k0_dev48_lt d⟩ | 3, 1 => ⟨k0_dev49 d, k0_dev49_lt d⟩ | 3, 2 => ⟨k0_dev50 d, k0_dev50_lt d⟩

def devTab4 (d : Dev nD) : Fin 4 → Fin 7 → Dev nD
  | 0, 0 => ⟨k0_dev51 d, k0_dev51_lt d⟩ | 0, 1 => ⟨k0_dev52 d, k0_dev52_lt d⟩ | 0, 2 => ⟨k0_dev53 d, k0_dev53_lt d⟩
  | 0, 3 => ⟨k0_dev54 d, k0_dev54_lt d⟩ | 0, 4 => ⟨k0_dev55 d, k0_dev55_lt d⟩ | 0, 5 => ⟨k0_dev56 d, k0_dev56_lt d⟩
  | 0, 6 => ⟨k0_dev57 d, k0_dev57_lt d⟩
  | 1, 0 => ⟨k0_dev58 d, k0_dev58_lt d⟩ | 1, 1 => ⟨k0_dev59 d, k0_dev59_lt d⟩ | 1, 2 => ⟨k0_dev60 d, k0_dev60_lt d⟩
  | 1, 3 => ⟨k0_dev61 d, k0_dev61_lt d⟩ | 1, 4 => ⟨k0_dev62 d, k0_dev62_lt d⟩ | 1, 5 => ⟨k0_dev63 d, k0_dev63_lt d⟩
  | 1, 6 => ⟨k0_dev64 d, k0_dev64_lt d⟩
  | 2, 0 => ⟨k0_dev65 d, k0_dev65_lt d⟩ | 2, 1 => ⟨k0_dev66 d, k0_dev66_lt d⟩ | 2, 2 => ⟨k0_dev67 d, k0_dev67_lt d⟩
  | 2, 3 => ⟨k0_dev68 d, k0_dev68_lt d⟩ | 2, 4 => ⟨k0_dev69 d, k0_dev69_lt d⟩ | 2, 5 => ⟨k0_dev70 d, k0_dev70_lt d⟩
  | 2, 6 => ⟨k0_dev71 d, k0_dev71_lt d⟩
  | 3, 0 => ⟨k0_dev72 d, k0_dev72_lt d⟩ | 3, 1 => ⟨k0_dev73 d, k0_dev73_lt d⟩ | 3, 2 => ⟨k0_dev74 d, k0_dev74_lt d⟩
  | 3, 3 => ⟨k0_dev75 d, k0_dev75_lt d⟩ | 3, 4 => ⟨k0_dev76 d, k0_dev76_lt d⟩ | 3, 5 => ⟨k0_dev77 d, k0_dev77_lt d⟩
  | 3, 6 => ⟨k0_dev78 d, k0_dev78_lt d⟩

def barTab (d : Dev nD) : Fin 10 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩ | 7 => ⟨k0_dev8 d, k0_dev8_lt d⟩ | 8 => ⟨k0_dev9 d, k0_dev9_lt d⟩
  | 9 => ⟨k0_dev10 d, k0_dev10_lt d⟩

def offTab1 (d : Dev nD) : Fin 4 → Fin 7 → Fin 2 → ℕ
  | 0, o => k0_off1 d (BitVec.ofNat 32 (1 + o.val)) | 1, o => k0_off2 d (BitVec.ofNat 32 (1 + o.val))
  | 2, o => k0_off3 d (BitVec.ofNat 32 (1 + o.val)) | 3, o => k0_off4 d (BitVec.ofNat 32 (1 + o.val))

def ownTab (d : Dev nD) : Fin 4 → Fin 2 → ℕ
  | 0 => k0_off5 d | 1 => k0_off7 d | 2 => k0_off9 d | 3 => k0_off11 d
def ownTab' (d : Dev nD) : Fin 4 → Fin 2 → ℕ
  | 0 => k0_off6 d | 1 => k0_off8 d | 2 => k0_off10 d | 3 => k0_off12 d

theorem barTab_eq : ∀ (d : Dev nD) (i : Fin 10), barTab d i = bar i d := by decide +kernel
theorem devTab1_eq : ∀ (d : Dev nD) (k : Fin 4) (o : Fin 7), devTab1 d k o = cub o d := by decide +kernel
theorem devTab2_eq : ∀ (d : Dev nD) (k : Fin 4) (o : Fin 3), devTab2 d k o = col o d := by decide +kernel
theorem devTab4_eq : ∀ (d : Dev nD) (k : Fin 4) (o : Fin 7), devTab4 d k o = cub o d := by decide +kernel
theorem offTab1_eq : ∀ (d : Dev nD) (k : Fin 4) (o : Fin 7),
    offTab1 d k o = ![128 * (plc (cub o d)).val, 256 * k.val] := by decide +kernel
theorem ownTab_eq : ∀ (d : Dev nD) (k : Fin 4), ownTab d k = ![128 * (plc d).val, 256 * k.val] := by decide +kernel
theorem ownTab'_eq : ∀ (d : Dev nD) (k : Fin 4), ownTab' d k = ![128 * (plc d).val, 256 * k.val] := by decide +kernel

/-- The table as the program computes it, and as it is. -/
def printed (d : Dev nD) : Route where
  bar := barTab d
  dev1 := devTab1 d
  dev2 := devTab2 d
  dev4 := devTab4 d
  off1 := offTab1 d
  own := ownTab d
  own' := ownTab' d
  h1 k o := ⟨_, _, offTab1_eq d k o⟩
  h2 k := ⟨_, _, ownTab_eq d k⟩
  h3 k := ⟨_, _, ownTab'_eq d k⟩

def route (d : Dev nD) : Route where
  bar i := bar i d
  dev1 _ o := cub o d
  dev2 _ o := col o d
  dev4 _ o := cub o d
  off1 k o := ![128 * (plc (cub o d)).val, 256 * k.val]
  own k := ![128 * (plc d).val, 256 * k.val]
  own' k := ![128 * (plc d).val, 256 * k.val]
  h1 k o := ⟨_, _, rfl⟩
  h2 k := ⟨_, _, rfl⟩
  h3 k := ⟨_, _, rfl⟩

/-- The printed address arithmetic computes the table. -/
theorem route_eq (d : Dev nD) : printed d = route d :=
  Route.ext (funext fun i => barTab_eq d i) (funext fun k => funext fun o => devTab1_eq d k o)
    (funext fun k => funext fun o => devTab2_eq d k o) (funext fun k => funext fun o => devTab4_eq d k o)
    (funext fun k => funext fun o => offTab1_eq d k o) (funext fun k => ownTab_eq d k)
    (funext fun k => ownTab'_eq d k)

end Cert.IdealRun

end

end
-- ==== Proof.Ideal.Contents.lean ====
/-
What every buffer of the kernel holds, stage by stage.

Each scratch buffer of a device has one final content, a function of the blocks `X c`, `W c` of the two operands the
devices start from. A buffer is filled block by block; the whole content is the blocks glued together, and the lemmas
here say that reading a block of the glued content gives that block back. So a store or a landing of a block brings the
buffer to the final content on that block's elements (`write_agree`), whatever it held before.
-/
module

public import proofs.«01_k».proof.Proof.Ideal.Loops
public import Idealize.ShloMosaic.Lib.ValueLayout

@[expose] public section

noncomputable section

namespace Cert.IdealRun

open Cert.KernelIdeal Cert.KernelIdeal.Gen
open Idealize.ShloMosaic Idealize.ShloMosaic.ValueIdx

variable {F : FTy → Type} [FloatOps F]

/-! ## Blocks of arrays -/

section Blocks

variable {α : Type}

/-- Column chunk `k` of a 1024 × 1024 array. -/
def colOf (k : Fin 4) (f : S1024x1024.Idx → α) : S1024x256.Idx → α :=
  fun j => f (ix2 (j 0) (⟨256 * k.val + (j 1).val, by have := k.isLt; have := idx2_lt1 j; omega⟩ : Fin 1024))

/-- The 128 × 256 tile at row block `p`, column chunk `k`. -/
def tileOf (p : Fin 8) (k : Fin 4) (f : S1024x1024.Idx → α) : S128x256.Idx → α :=
  fun j => f (ix2 (⟨128 * p.val + (j 0).val, by have := p.isLt; have := idx2_lt0 j; omega⟩ : Fin 1024)
    (⟨256 * k.val + (j 1).val, by have := k.isLt; have := idx2_lt1 j; omega⟩ : Fin 1024))

/-- Column chunk `k` of a 128 × 1024 array, and of the two landing arrays. -/
def rcolOf (k : Fin 4) (f : S128x1024.Idx → α) : S128x256.Idx → α :=
  fun j => f (ix2 (j 0) (⟨256 * k.val + (j 1).val, by have := k.isLt; have := idx2_lt1 j; omega⟩ : Fin 1024))
def g1colOf (k : Fin 4) (f : S7x128x1024.Idx → α) : S7x128x256.Idx → α :=
  fun j => f (ix3 (j 0) (j 1) (⟨256 * k.val + (j 2).val, by
    have := k.isLt; have : (j 2).val < 256 := (j 2).isLt; omega⟩ : Fin 1024))
def g2colOf (k : Fin 4) (f : S3x128x1024.Idx → α) : S3x128x256.Idx → α :=
  fun j => f (ix3 (j 0) (j 1) (⟨256 * k.val + (j 2).val, by
    have := k.isLt; have : (j 2).val < 256 := (j 2).isLt; omega⟩ : Fin 1024))

/-- Chunk `k` of slot `o` of a landing array. -/
def slot1Of (o : Fin 7) (k : Fin 4) (f : S7x128x1024.Idx → α) : S128x256.Idx → α :=
  fun j => f (ix3 o (j 0) (⟨256 * k.val + (j 1).val, by have := k.isLt; have := idx2_lt1 j; omega⟩ : Fin 1024))
def slot2Of (o : Fin 3) (k : Fin 4) (f : S3x128x1024.Idx → α) : S128x256.Idx → α :=
  fun j => f (ix3 o (j 0) (⟨256 * k.val + (j 1).val, by have := k.isLt; have := idx2_lt1 j; omega⟩ : Fin 1024))

/-- An index's column chunk and its column in it; its row block and its row in it. -/
def chunk (y : Fin 1024) : Fin 4 := ⟨y.val / 256, by omega⟩
def inChunk (y : Fin 1024) : Fin 256 := ⟨y.val % 256, Nat.mod_lt _ (by decide)⟩
def rowBlk (x : Fin 1024) : Fin 8 := ⟨x.val / 128, by omega⟩
def inRow (x : Fin 1024) : Fin 128 := ⟨x.val % 128, Nat.mod_lt _ (by decide)⟩

theorem chunk_at (k : Fin 4) (j : Fin 256) (h) : chunk ⟨256 * k.val + j.val, h⟩ = k :=
  Fin.ext (by show (256 * k.val + j.val) / 256 = k.val; omega)
theorem inChunk_at (k : Fin 4) (j : Fin 256) (h) : inChunk ⟨256 * k.val + j.val, h⟩ = j :=
  Fin.ext (by show (256 * k.val + j.val) % 256 = j.val; omega)
theorem rowBlk_at (p : Fin 8) (j : Fin 128) (h) : rowBlk ⟨128 * p.val + j.val, h⟩ = p :=
  Fin.ext (by show (128 * p.val + j.val) / 128 = p.val; omega)
theorem inRow_at (p : Fin 8) (j : Fin 128) (h) : inRow ⟨128 * p.val + j.val, h⟩ = j :=
  Fin.ext (by show (128 * p.val + j.val) % 128 = j.val; omega)

/-- Four column chunks side by side; thirty-two tiles; four column chunks of a 128 × 1024 array. -/
def glueCols (v : Fin 4 → S1024x256.Idx → α) : S1024x1024.Idx → α :=
  fun i => v (chunk (i 1)) (ix2 (i 0) (inChunk (i 1)))
def glueTiles (v : Fin 8 → Fin 4 → S128x256.Idx → α) : S1024x1024.Idx → α :=
  fun i => v (rowBlk (i 0)) (chunk (i 1)) (ix2 (inRow (i 0)) (inChunk (i 1)))
def glueRcols (v : Fin 4 → S128x256.Idx → α) : S128x1024.Idx → α :=
  fun i => v (chunk (i 1)) (ix2 (i 0) (inChunk (i 1)))

theorem colOf_glue (v : Fin 4 → S1024x256.Idx → α) (k : Fin 4) : colOf k (glueCols v) = v k := by
  funext j
  show v (chunk ⟨256 * k.val + (j 1).val, _⟩) (ix2 (j 0) (inChunk ⟨256 * k.val + (j 1).val, _⟩)) = v k j
  rw [chunk_at k (j 1), inChunk_at k (j 1)]
  exact congrArg (v k) (eq_ix2 j).symm
theorem rcolOf_glue (v : Fin 4 → S128x256.Idx → α) (k : Fin 4) : rcolOf k (glueRcols v) = v k := by
  funext j
  show v (chunk ⟨256 * k.val + (j 1).val, _⟩) (ix2 (j 0) (inChunk ⟨256 * k.val + (j 1).val, _⟩)) = v k j
  rw [chunk_at k (j 1), inChunk_at k (j 1)]
  exact congrArg (v k) (eq_ix2 j).symm
theorem tileOf_glue (v : Fin 8 → Fin 4 → S128x256.Idx → α) (p : Fin 8) (k : Fin 4) :
    tileOf p k (glueTiles v) = v p k := by
  funext j
  show v (rowBlk ⟨128 * p.val + (j 0).val, _⟩) (chunk ⟨256 * k.val + (j 1).val, _⟩)
    (ix2 (inRow ⟨128 * p.val + (j 0).val, _⟩) (inChunk ⟨256 * k.val + (j 1).val, _⟩)) = v p k j
  rw [chunk_at k (j 1), inChunk_at k (j 1), rowBlk_at p (j 0), inRow_at p (j 0)]
  exact congrArg (v p k) (eq_ix2 j).symm

end Blocks

/-! ## The rectangles' indices -/

theorem col_emb (k : Fin 4) (j : S1024x256.Idx) :
    (Rect.unit (s := S1024x1024) ![0, 256 * k.val] S1024x256.size (col_inb k)).emb j
      = ix2 (j 0) (⟨256 * k.val + (j 1).val, by have := k.isLt; have := idx2_lt1 j; omega⟩ : Fin 1024) := by
  funext a
  match a with
  | ⟨0, _⟩ => exact Fin.ext (show 0 + 1 * (j 0).val = (j 0).val by omega)
  | ⟨1, _⟩ => exact Fin.ext (show 256 * k.val + 1 * (j 1).val = 256 * k.val + (j 1).val by omega)

theorem tile_emb (p : Fin 8) (k : Fin 4) (h) (j : S128x256.Idx) :
    (Rect.unit (s := S1024x1024) ![128 * p.val, 256 * k.val] S128x256.size h).emb j
      = ix2 (⟨128 * p.val + (j 0).val, by have := p.isLt; have := idx2_lt0 j; omega⟩ : Fin 1024)
        (⟨256 * k.val + (j 1).val, by have := k.isLt; have := idx2_lt1 j; omega⟩ : Fin 1024) := by
  funext a
  match a with
  | ⟨0, _⟩ => exact Fin.ext (show 128 * p.val + 1 * (j 0).val = 128 * p.val + (j 0).val by omega)
  | ⟨1, _⟩ => exact Fin.ext (show 256 * k.val + 1 * (j 1).val = 256 * k.val + (j 1).val by omega)

theorem rcol_emb (k : Fin 4) (j : S128x256.Idx) :
    (Rect.unit (s := S128x1024) ![0, 256 * k.val] S128x256.size (rcol_inb k)).emb j
      = ix2 (j 0) (⟨256 * k.val + (j 1).val, by have := k.isLt; have := idx2_lt1 j; omega⟩ : Fin 1024) := by
  funext a
  match a with
  | ⟨0, _⟩ => exact Fin.ext (show 0 + 1 * (j 0).val = (j 0).val by omega)
  | ⟨1, _⟩ => exact Fin.ext (show 256 * k.val + 1 * (j 1).val = 256 * k.val + (j 1).val by omega)

theorem g1col_emb (k : Fin 4) (j : S7x128x256.Idx) :
    (Rect.unit (s := S7x128x1024) ![0, 0, 256 * k.val] S7x128x256.size (g1col_inb k)).emb j
      = ix3 (j 0) (j 1) (⟨256 * k.val + (j 2).val, by
        have := k.isLt; have : (j 2).val < 256 := (j 2).isLt; omega⟩ : Fin 1024) := by
  funext a
  match a with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 256 * k.val + 1 * (j 2).val = 256 * k.val + (j 2).val by omega)

theorem g2col_emb (k : Fin 4) (j : S3x128x256.Idx) :
    (Rect.unit (s := S3x128x1024) ![0, 0, 256 * k.val] S3x128x256.size (g2col_inb k)).emb j
      = ix3 (j 0) (j 1) (⟨256 * k.val + (j 2).val, by
        have := k.isLt; have : (j 2).val < 256 := (j 2).isLt; omega⟩ : Fin 1024) := by
  funext a
  match a with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 256 * k.val + 1 * (j 2).val = 256 * k.val + (j 2).val by omega)

/-- The index of a squeezed slice before the squeeze. -/
theorem squeeze_ix (j : S128x256.Idx) : Shape.reshapeEquiv squeezes_S1x128x256_S128x256.numel_eq j
    = (ix3 (⟨0, Nat.one_pos⟩ : Fin 1) (j 0) (j 1) : S1x128x256.Idx) :=
  (congrArg (Shape.reshapeEquiv squeezes_S1x128x256_S128x256.numel_eq) (eq_ix2 (n0 := 128) (n1 := 256) j)).trans
    (reshapeEquiv_ix2_1ab (a := 128) (b := 256) _ (j 0) (j 1))

theorem slot1_emb (o : Fin 7) (k : Fin 4) (j : S128x256.Idx) :
    (slot1 o k).view.emb j
      = ix3 o (j 0) (⟨256 * k.val + (j 1).val, by have := k.isLt; have := idx2_lt1 j; omega⟩ : Fin 1024) := by
  show (Rect.unit (s := S7x128x1024) ![o.val, 0, 256 * k.val] S1x128x256.size (slot1_inb o k)).emb
    (Shape.reshapeEquiv squeezes_S1x128x256_S128x256.numel_eq j) = _
  rw [squeeze_ix]
  funext a
  match a with
  | ⟨0, _⟩ => exact Fin.ext (show o.val + 1 * 0 = o.val by omega)
  | ⟨1, _⟩ => exact Fin.ext (show 0 + 1 * (j 0).val = (j 0).val by omega)
  | ⟨2, _⟩ => exact Fin.ext (show 256 * k.val + 1 * (j 1).val = 256 * k.val + (j 1).val by omega)

theorem slot2_emb (o : Fin 3) (k : Fin 4) (j : S128x256.Idx) :
    (slot2 o k).view.emb j
      = ix3 o (j 0) (⟨256 * k.val + (j 1).val, by have := k.isLt; have := idx2_lt1 j; omega⟩ : Fin 1024) := by
  show (Rect.unit (s := S3x128x1024) ![o.val, 0, 256 * k.val] S1x128x256.size (slot2_inb o k)).emb
    (Shape.reshapeEquiv squeezes_S1x128x256_S128x256.numel_eq j) = _
  rw [squeeze_ix]
  funext a
  match a with
  | ⟨0, _⟩ => exact Fin.ext (show o.val + 1 * 0 = o.val by omega)
  | ⟨1, _⟩ => exact Fin.ext (show 0 + 1 * (j 0).val = (j 0).val by omega)
  | ⟨2, _⟩ => exact Fin.ext (show 256 * k.val + 1 * (j 1).val = 256 * k.val + (j 1).val by omega)

/-! ## What a view of a buffer reads -/

abbrev colR (k : Fin 4) : Rect S1024x1024 := Rect.unit (s := S1024x1024) ![0, 256 * k.val] S1024x256.size (col_inb k)
abbrev tileR (p : Fin 8) (k : Fin 4) : Rect S1024x1024 :=
  Rect.unit (s := S1024x1024) ![128 * p.val, 256 * k.val] S128x256.size (tile_inb p k)
abbrev rcolR (k : Fin 4) : Rect S128x1024 := Rect.unit (s := S128x1024) ![0, 256 * k.val] S128x256.size (rcol_inb k)
abbrev g1colR (k : Fin 4) : Rect S7x128x1024 :=
  Rect.unit (s := S7x128x1024) ![0, 0, 256 * k.val] S7x128x256.size (g1col_inb k)
abbrev g2colR (k : Fin 4) : Rect S3x128x1024 :=
  Rect.unit (s := S3x128x1024) ![0, 0, 256 * k.val] S3x128x256.size (g2col_inb k)

theorem read_acc_col (k : Fin 4) (f : Vec F S1024x1024 .f32) : (accM.access (colR k)).read (Elt F) f = colOf k f :=
  funext fun j => congrArg f (col_emb k j)
theorem read_ach_col (k : Fin 4) (f : Vec F S1024x1024 .bf16) : (achM.access (colR k)).read (Elt F) f = colOf k f :=
  funext fun j => congrArg f (col_emb k j)
theorem read_out_col (k : Fin 4) (f : Vec F S1024x1024 .bf16) : (outM.access (colR k)).read (Elt F) f = colOf k f :=
  funext fun j => congrArg f (col_emb k j)
theorem read_res_col (k : Fin 4) (f : Vec F S1024x1024 .f32) : (oM.access (colR k)).read (Elt F) f = colOf k f :=
  funext fun j => congrArg f (col_emb k j)
theorem read_acc_tile (p : Fin 8) (k : Fin 4) (f : Vec F S1024x1024 .f32) :
    (accM.access (tileR p k)).read (Elt F) f = tileOf p k f := funext fun j => congrArg f (tile_emb p k _ j)
theorem read_ach_tile (p : Fin 8) (k : Fin 4) (f : Vec F S1024x1024 .bf16) :
    (achM.access (tileR p k)).read (Elt F) f = tileOf p k f := funext fun j => congrArg f (tile_emb p k _ j)
theorem read_out_tile (p : Fin 8) (k : Fin 4) (f : Vec F S1024x1024 .bf16) :
    (outM.access (tileR p k)).read (Elt F) f = tileOf p k f := funext fun j => congrArg f (tile_emb p k _ j)
theorem read_red_col (k : Fin 4) (f : Vec F S128x1024 .f32) : (redM.access (rcolR k)).read (Elt F) f = rcolOf k f :=
  funext fun j => congrArg f (rcol_emb k j)
theorem read_g1_col (k : Fin 4) (f : Vec F S7x128x1024 .bf16) : (g1M.access (g1colR k)).read (Elt F) f = g1colOf k f :=
  funext fun j => congrArg f (g1col_emb k j)
theorem read_g2_col (k : Fin 4) (f : Vec F S3x128x1024 .bf16) : (g2M.access (g2colR k)).read (Elt F) f = g2colOf k f :=
  funext fun j => congrArg f (g2col_emb k j)
theorem read_slot1 (o : Fin 7) (k : Fin 4) (f : Vec F S7x128x1024 .bf16) :
    (slot1 o k).view.read (Elt F) f = slot1Of o k f := funext fun j => congrArg f (slot1_emb o k j)
theorem read_slot2 (o : Fin 3) (k : Fin 4) (f : Vec F S3x128x1024 .bf16) :
    (slot2 o k).view.read (Elt F) f = slot2Of o k f := funext fun j => congrArg f (slot2_emb o k j)

/-- Writing through a view what the view reads off `g` brings the view's elements to `g`. -/
theorem write_agree {κ : Kind} {sp : Space} {s : Shape} {e : EltTy} {v : View sig κ sp s e} {Val : EltTy → Type}
    (f g : v.ty.Contents Val) {w : s.Idx → Val e} (h : v.read Val g = w) :
    ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

/-! ## The peers -/

/-- The cube peer whose transfer `o` comes here, and the group peer. -/
def cubFrom (o : Fin 7) (c : Dev nD) : Dev nD := cub (Fin.rev o) c
def colFrom (o : Fin 3) (c : Dev nD) : Dev nD := col (Fin.rev o) c

theorem cub_cubFrom : ∀ (o : Fin 7) (c : Dev nD), cub o (cubFrom o c) = c := by decide +kernel
theorem cubFrom_cub : ∀ (o : Fin 7) (c : Dev nD), cubFrom o (cub o c) = c := by decide +kernel
theorem col_colFrom : ∀ (o : Fin 3) (c : Dev nD), col o (colFrom o c) = c := by decide +kernel
theorem colFrom_col : ∀ (o : Fin 3) (c : Dev nD), colFrom o (col o c) = c := by decide +kernel
theorem grp_cub : ∀ (o : Fin 7) (c : Dev nD), grp (cub o c) = grp c := by decide +kernel
theorem plc_col : ∀ (o : Fin 3) (c : Dev nD), plc (col o c) = plc c := by decide +kernel
theorem dev_grp_plc : ∀ c : Dev nD, dev (grp c) (plc c) = c := by decide +kernel

/-! ## The buffers' final contents -/

section Stages

variable (X : Dev nD → Vec F S1024x32 .f32) (W : Dev nD → Vec F S32x1024 .f32)

/-- A device's product, and the same rounded. -/
def accC (c : Dev nD) : Vec F S1024x1024 .f32 := k0_pay1 (X c) (W c)
def achC (c : Dev nD) : Vec F S1024x1024 .bf16 := glueCols fun k => k0_pay2 (colOf k (accC X W c))

/-- What lands in the first exchange: in slot `o` the rows of the device's place, of the product of the peer the
    transfer comes from. -/
def g1C (c : Dev nD) : Vec F S7x128x1024 .bf16 := fun i =>
  achC X W (cubFrom (i 0) c) (ix2 (⟨128 * (plc c).val + (i 1).val, by
    have := (plc c).isLt; have : (i 1).val < 128 := (i 1).isLt; omega⟩ : Fin 1024) (i 2))

/-- The sum over the cube of the rows of the device's place, and the same rounded, as a tile of each row block. -/
def redC (c : Dev nD) : Vec F S128x1024 .f32 :=
  glueRcols fun k => k0_pay8 (tileOf (plc c) k (accC X W c)) (g1colOf k (g1C X W c))
def rchC (c : Dev nD) : Vec F S1024x1024 .bf16 :=
  glueTiles fun _ k => k0_pay9 (tileOf (plc c) k (accC X W c)) (g1colOf k (g1C X W c))

/-- What lands in the second exchange. -/
def g2C (c : Dev nD) : Vec F S3x128x1024 .bf16 := fun i =>
  rchC X W (colFrom (i 0) c) (ix2 (⟨128 * (plc c).val + (i 1).val, by
    have := (plc c).isLt; have : (i 1).val < 128 := (i 1).isLt; omega⟩ : Fin 1024) (i 2))

/-- A finished tile of a device, and the finished tiles of the eight devices of its cube. -/
def finT (c : Dev nD) (k : Fin 4) : Vec F S128x256 .bf16 :=
  k0_pay19 (rcolOf k (redC X W c)) (g2colOf k (g2C X W c))
def outC (c : Dev nD) : Vec F S1024x1024 .bf16 := glueTiles fun p k => finT X W (dev (grp c) p) k

/-- The kernel's result. -/
def resC (c : Dev nD) : Vec F S1024x1024 .f32 := glueCols fun k => k0_pay25 (colOf k (outC X W c))

theorem outC_cub (o : Fin 7) (c : Dev nD) : outC X W (cub o c) = outC X W c := by
  unfold outC; rw [grp_cub]

theorem outC_own (c : Dev nD) (k : Fin 4) : tileOf (plc c) k (outC X W c) = finT X W c k := by
  unfold outC; rw [tileOf_glue, dev_grp_plc]

/-- Slot `o` of the landing array holds the tile the sender `s` of transfer `o` sent. -/
theorem slot1_land (s : Dev nD) (o : Fin 7) (k : Fin 4) :
    slot1Of o k (g1C X W (cub o s)) = tileOf (plc (cub o s)) k (achC X W s) := by
  funext j
  show achC X W (cubFrom o (cub o s)) _ = achC X W s _
  rw [cubFrom_cub]

theorem slot2_land (s : Dev nD) (o : Fin 3) (k : Fin 4) :
    slot2Of o k (g2C X W (col o s)) = tileOf (plc s) k (rchC X W s) := by
  funext j
  have hp := plc_col o s
  show rchC X W (colFrom o (col o s)) _ = rchC X W s _
  rw [colFrom_col]
  congr 1
  funext a
  match a with
  | ⟨0, _⟩ => exact Fin.ext (by show 128 * (plc (col o s)).val + (j 0).val = 128 * (plc s).val + (j 0).val; rw [hp])
  | ⟨1, _⟩ => rfl

end Stages

end Cert.IdealRun

end

end
-- ==== Proof.Ideal.Sums.lean ====
/-
What the final contents are over the extended reals: sums of the devices' products.

A cast between the two float formats is the identity there and a sum may be taken in any order, so the two levels of the
reduction give, at every element, the sum of the thirty-two partial products, and the result is that sum or zero,
whichever is greater.
-/
module

public import proofs.«01_k».proof.Proof.Ideal.Contents
public import Idealize.ShloMosaic.Lib.Pointwise

@[expose] public section

noncomputable section

namespace Cert.IdealRun

open Cert.KernelIdeal Cert.KernelIdeal.Gen
open Idealize.ShloMosaic hiding ix2 ix3
open Idealize.ShloMosaic.ValueIdx

variable (X : Dev nD → Vec Ideal S1024x32 .f32) (W : Dev nD → Vec Ideal S32x1024 .f32)

/-! ## The kernel's arithmetic at an element -/

/-- A device's partial product. -/
theorem pay1_at (x : Vec Ideal S1024x32 .f32) (w : Vec Ideal S32x1024 .f32) (r y : Fin 1024) :
    k0_pay1 x w (ix2 r y) = ∑ k : Fin 32, x (ix2 r k) * w (ix2 k y) := by
  unfold k0_pay1
  pointwise
  rfl

/-- A cast down, and a cast up, of a block. -/
theorem pay2_at (v : Vec Ideal S1024x256 .f32) (j : S1024x256.Idx) : k0_pay2 v j = v j := by
  unfold k0_pay2
  pointwise
theorem pay25_at (v : Vec Ideal S1024x256 .bf16) (j : S1024x256.Idx) : k0_pay25 v j = v j := by
  unfold k0_pay25
  pointwise

/-- A tile and the seven tiles that landed, added; the same rounded. -/
theorem pay8_at (v : Vec Ideal S128x256 .f32) (g : Vec Ideal S7x128x256 .bf16) (r : Fin 128) (y : Fin 256) :
    k0_pay8 v g (ix2 r y) = v (ix2 r y) + ∑ o : Fin 7, g (ix3 o r y) := by
  unfold k0_pay8 k0_pay7
  pointwise
  rfl
theorem pay9_at (v : Vec Ideal S128x256 .f32) (g : Vec Ideal S7x128x256 .bf16) (r : Fin 128) (y : Fin 256) :
    k0_pay9 v g (ix2 r y) = v (ix2 r y) + ∑ o : Fin 7, g (ix3 o r y) := by
  unfold k0_pay9 k0_pay7
  pointwise
  rfl

/-- A tile and the three tiles that landed, added and cut off at zero. -/
theorem pay19_at (v : Vec Ideal S128x256 .f32) (g : Vec Ideal S3x128x256 .bf16) (r : Fin 128) (y : Fin 256) :
    k0_pay19 v g (ix2 r y) = max (v (ix2 r y) + ∑ o : Fin 3, g (ix3 o r y)) (0 : EReal) := by
  unfold k0_pay19
  pointwise
  rfl

/-! ## Blocks of glued arrays at an element -/

/-- Row `r` of row block `p`, and column `j` of chunk `k`. -/
def rowAt (p : Fin 8) (r : Fin 128) : Fin 1024 := ⟨128 * p.val + r.val, by have := p.isLt; have := r.isLt; omega⟩
def colAt (k : Fin 4) (j : Fin 256) : Fin 1024 := ⟨256 * k.val + j.val, by have := k.isLt; have := j.isLt; omega⟩

theorem rowAt_split (x : Fin 1024) : rowAt (rowBlk x) (inRow x) = x := Fin.ext (Nat.div_add_mod x.val 128)
theorem colAt_split (y : Fin 1024) : colAt (chunk y) (inChunk y) = y := Fin.ext (Nat.div_add_mod y.val 256)
theorem inRow_rowAt (p : Fin 8) (r : Fin 128) : inRow (rowAt p r) = r := inRow_at p r _

section Blocks

variable {α : Type}

theorem colOf_at (f : S1024x1024.Idx → α) (x y : Fin 1024) : colOf (chunk y) f (ix2 x (inChunk y)) = f (ix2 x y) :=
  congrArg (fun z => f (ix2 x z)) (colAt_split y)
theorem rcolOf_at (f : S128x1024.Idx → α) (r : Fin 128) (y : Fin 1024) :
    rcolOf (chunk y) f (ix2 r (inChunk y)) = f (ix2 r y) := congrArg (fun z => f (ix2 r z)) (colAt_split y)
theorem tileOf_at (p : Fin 8) (f : S1024x1024.Idx → α) (r : Fin 128) (y : Fin 1024) :
    tileOf p (chunk y) f (ix2 r (inChunk y)) = f (ix2 (rowAt p r) y) :=
  congrArg (fun z => f (ix2 (rowAt p r) z)) (colAt_split y)
theorem g1colOf_at (f : S7x128x1024.Idx → α) (o : Fin 7) (r : Fin 128) (y : Fin 1024) :
    g1colOf (chunk y) f (ix3 o r (inChunk y)) = f (ix3 o r y) := congrArg (fun z => f (ix3 o r z)) (colAt_split y)
theorem g2colOf_at (f : S3x128x1024.Idx → α) (o : Fin 3) (r : Fin 128) (y : Fin 1024) :
    g2colOf (chunk y) f (ix3 o r (inChunk y)) = f (ix3 o r y) := congrArg (fun z => f (ix3 o r z)) (colAt_split y)

end Blocks

/-! ## Sums over the devices -/

theorem grp_dev : ∀ (q : Fin 4) (p : Fin 8), grp (dev q p) = q := by decide +kernel
theorem plc_dev : ∀ (q : Fin 4) (p : Fin 8), plc (dev q p) = p := by decide +kernel
theorem cubFrom_eq : ∀ (o : Fin 7) (c : Dev nD), cubFrom (Fin.rev o) c = dev (grp c) (plc c + o.succ) := by decide +kernel
theorem colFrom_eq : ∀ (o : Fin 3) (c : Dev nD), colFrom (Fin.rev o) c = dev (grp c + o.succ) (plc c) := by decide +kernel

/-- Every device is one place of one cube. -/
def devEquiv : Fin 4 × Fin 8 ≃ Dev nD where
  toFun a := dev a.1 a.2
  invFun c := (grp c, plc c)
  left_inv a := Prod.ext (grp_dev a.1 a.2) (plc_dev a.1 a.2)
  right_inv c := dev_grp_plc c

section Devices

variable {M : Type} [AddCommMonoid M]

/-- A device and the seven cube peers are its cube; a device and the three group peers are its group; and the groups
    and places are the mesh. -/
theorem sum_cube (f : Dev nD → M) (c : Dev nD) :
    f c + ∑ o : Fin 7, f (cubFrom o c) = ∑ p : Fin 8, f (dev (grp c) p) := by
  rw [← Equiv.sum_comp Fin.revPerm fun o => f (cubFrom o c), ← Equiv.sum_comp (Equiv.addLeft (plc c)) fun p => f (dev (grp c) p),
    Fin.sum_univ_succ (n := 7)]
  refine congrArg₂ (· + ·) (congrArg f ?_) (Finset.sum_congr rfl fun o _ => congrArg f (cubFrom_eq o c))
  show c = dev (grp c) (plc c + 0)
  rw [add_zero, dev_grp_plc]
theorem sum_group (f : Dev nD → M) (c : Dev nD) :
    f c + ∑ o : Fin 3, f (colFrom o c) = ∑ q : Fin 4, f (dev q (plc c)) := by
  rw [← Equiv.sum_comp Fin.revPerm fun o => f (colFrom o c), ← Equiv.sum_comp (Equiv.addLeft (grp c)) fun q => f (dev q (plc c)),
    Fin.sum_univ_succ (n := 3)]
  refine congrArg₂ (· + ·) (congrArg f ?_) (Finset.sum_congr rfl fun o _ => congrArg f (colFrom_eq o c))
  show c = dev (grp c + 0) (plc c)
  rw [add_zero, dev_grp_plc]
theorem sum_mesh (f : Dev nD → M) : ∑ q : Fin 4, ∑ p : Fin 8, f (dev q p) = ∑ d : Dev nD, f d := by
  rw [← Equiv.sum_comp devEquiv f, Fintype.sum_prod_type]
  rfl

end Devices

/-! ## The contents at an element -/

theorem accC_at (c : Dev nD) (x y : Fin 1024) :
    accC X W c (ix2 x y) = ∑ k : Fin 32, X c (ix2 x k) * W c (ix2 k y) := pay1_at (X c) (W c) x y

theorem achC_at (c : Dev nD) (x y : Fin 1024) : achC X W c (ix2 x y) = accC X W c (ix2 x y) :=
  (pay2_at _ _).trans (colOf_at (accC X W c) x y)

theorem g1C_at (c : Dev nD) (o : Fin 7) (r : Fin 128) (y : Fin 1024) :
    g1C X W c (ix3 o r y) = accC X W (cubFrom o c) (ix2 (rowAt (plc c) r) y) := achC_at X W _ _ y

/-- The first exchange sums a cube's partial products. -/
theorem redC_at (c : Dev nD) (r : Fin 128) (y : Fin 1024) :
    redC X W c (ix2 r y) = ∑ p : Fin 8, accC X W (dev (grp c) p) (ix2 (rowAt (plc c) r) y) := by
  refine (pay8_at _ _ r (inChunk y)).trans ?_
  rw [← sum_cube (fun d => accC X W d (ix2 (rowAt (plc c) r) y)) c]
  refine congrArg₂ (· + ·) (tileOf_at (plc c) (accC X W c) r y) (Finset.sum_congr rfl fun o _ => ?_)
  exact (g1colOf_at (g1C X W c) o r y).trans (g1C_at X W c o r y)

theorem rchC_at (c : Dev nD) (p : Fin 8) (r : Fin 128) (y : Fin 1024) :
    rchC X W c (ix2 (rowAt p r) y) = redC X W c (ix2 r y) := by
  refine (pay9_at _ _ (inRow (rowAt p r)) (inChunk y)).trans (Eq.trans ?_ (pay8_at _ _ r (inChunk y)).symm)
  rw [inRow_rowAt]

theorem g2C_at (c : Dev nD) (o : Fin 3) (r : Fin 128) (y : Fin 1024) :
    g2C X W c (ix3 o r y) = redC X W (colFrom o c) (ix2 r y) := rchC_at X W _ (plc c) r y

/-- The second exchange sums over the cubes, and the relu follows. -/
theorem finT_at (c : Dev nD) (r : Fin 128) (y : Fin 1024) : finT X W c (chunk y) (ix2 r (inChunk y))
    = max (∑ d : Dev nD, accC X W d (ix2 (rowAt (plc c) r) y)) (0 : EReal) := by
  refine (pay19_at _ _ r (inChunk y)).trans (congrArg (fun s : EReal => max s 0) ?_)
  rw [← sum_mesh fun d => accC X W d (ix2 (rowAt (plc c) r) y)]
  refine Eq.trans (congrArg₂ (· + ·) (rcolOf_at (redC X W c) r y) (Finset.sum_congr rfl fun o _ =>
    (g2colOf_at (g2C X W c) o r y).trans (g2C_at X W c o r y)))
    ((sum_group (fun d => redC X W d (ix2 r y)) c).trans (Finset.sum_congr rfl fun q _ => ?_))
  rw [redC_at, grp_dev, plc_dev]

/-- The result: at every element the sum of the thirty-two partial products, or zero. -/
theorem resC_at (c : Dev nD) (x y : Fin 1024) : resC X W c (ix2 x y)
    = max (∑ d : Dev nD, ∑ k : Fin 32, X d (ix2 x k) * W d (ix2 k y)) (0 : EReal) := by
  refine (pay25_at _ _).trans ((colOf_at (outC X W c) x y).trans ?_)
  refine (finT_at X W (dev (grp c) (rowBlk x)) (inRow x) y).trans (congrArg (fun s : EReal => max s 0) ?_)
  rw [plc_dev, rowAt_split]
  exact Finset.sum_congr rfl fun d _ => accC_at X W d x y

end Cert.IdealRun

end

end
-- ==== Proof.Ideal.Cells.lean ====
/-
The protocol: the semaphores, who pays onto them, and what each payment hands over.

A device makes 68 transfers: 28 in the first exchange (chunk `k` to cube peer `o`), 12 in the second (chunk `k` to group
peer `o`), 28 in the third. `Xf` names them; every transfer has its own pair of semaphores on each device.

* The barrier semaphore of a device is paid one unit by each of its ten partners. A partner's unit hands over every place
  of the partner's buffers this device will write: its landing slot and, for a cube peer, its tiles of this device's row
  block. The device waits for all ten before it sends anything.
* The receive semaphore of a transfer is paid once, by the landing: it hands over the place written, at its final content.
* The send semaphore of a transfer is paid once, when the source has been read: it hands the source back.

No device waits below what it owes: staging and send semaphores stand at level 0, barriers at 1, the receive semaphores of
the three exchanges at 2, 3 and 4, and a device that waits at a level owes only transfers of later levels.
-/
module

public import proofs.«01_k».proof.Proof.Ideal.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the pipeline's rounds beside the exchange's, whose duties are numbered -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The transfers -/

/-- First exchange, second exchange, third exchange: the chunk and the peer. -/
abbrev Xf : Type := (Fin 4 × Fin 7) ⊕ (Fin 4 × Fin 3) ⊕ (Fin 4 × Fin 7)

abbrev t1 (k : Fin 4) (o : Fin 7) : Xf := .inl (k, o)
abbrev t2 (k : Fin 4) (o : Fin 3) : Xf := .inr (.inl (k, o))
abbrev t4 (k : Fin 4) (o : Fin 7) : Xf := .inr (.inr (k, o))

instance decXf : DecidableEq Xf := inferInstance
instance decOwn : DecidableEq (Xf ⊕ Xf) := inferInstance
instance decAll : DecidableEq (Unit ⊕ (Xf ⊕ Xf)) := inferInstance

/-- Where a device's transfer goes, and where the transfer of that name comes from. -/
def peer : Xf → Dev nD → Dev nD
  | .inl (_, o) => cub o
  | .inr (.inl (_, o)) => col o
  | .inr (.inr (_, o)) => cub o
def sender : Xf → Dev nD → Dev nD
  | .inl (_, o) => cubFrom o
  | .inr (.inl (_, o)) => colFrom o
  | .inr (.inr (_, o)) => cubFrom o

theorem peer_sender (x : Xf) (c : Dev nD) : peer x (sender x c) = c := by
  rcases x with ⟨k, o⟩ | ⟨k, o⟩ | ⟨k, o⟩
  · exact cub_cubFrom o c
  · exact col_colFrom o c
  · exact cub_cubFrom o c
theorem sender_peer (x : Xf) (c : Dev nD) : sender x (peer x c) = c := by
  rcases x with ⟨k, o⟩ | ⟨k, o⟩ | ⟨k, o⟩
  · exact cubFrom_cub o c
  · exact colFrom_col o c
  · exact cubFrom_cub o c

/-- Its send semaphore and its receive semaphore. -/
def sS : Xf → DmaSem sig
  | .inl (k, o) => s47 cc0_scratch6 k o
  | .inr (.inl (k, o)) => s43 cc0_scratch7 k o
  | .inr (.inr (k, o)) => s47 cc0_scratch8 k o
def rS : Xf → DmaSem sig
  | .inl (k, o) => s47 cc0_scratch9 k o
  | .inr (.inl (k, o)) => s43 cc0_scratch10 k o
  | .inr (.inr (k, o)) => s47 cc0_scratch11 k o

/-- What device `c` sends, and the place it writes on the peer. -/
def srcM : Xf → Dev nD → Memref sig .tc .vmem S128x256 .bf16
  | .inl (k, o), c => tileM achM ((route c).off1 k o) ((route c).h1 k o)
  | .inr (.inl (k, _)), c => tileM achM ((route c).own' k) ((route c).h3 k)
  | .inr (.inr (k, _)), c => tileM outM ((route c).own' k) ((route c).h3 k)
def dstM : Xf → Dev nD → Memref sig .tc .vmem S128x256 .bf16
  | .inl (k, o), _ => slot1 o k
  | .inr (.inl (k, o)), _ => slot2 o k
  | .inr (.inr (k, _)), c => tileM outM ((route c).own' k) ((route c).h3 k)

/-- The share of the source a transfer holds: a tile read by several transfers is dealt among them. -/
def shr : Xf → PosShare TreeShare
  | .inl _ => fullShare
  | .inr (.inl (_, o)) => shareTok fullShare 3 o
  | .inr (.inr (_, o)) => shareTok fullShare.right 7 o

/-! ## The semaphores -/

/-- A device's own semaphores of the exchange, and all of them. -/
abbrev osem : Xf ⊕ Xf → SemLoc sig
  | .inl x => .dma (sS x)
  | .inr x => .dma (rS x)
abbrev csem : Unit ⊕ (Xf ⊕ Xf) → SemLoc sig
  | .inl _ => .reg barS
  | .inr k => osem k

abbrev bcell (c : Dev nD) : GSem nD τ sig := ((c : Thread nD τ), .reg barS)
abbrev scell (x : Xf) (c : Dev nD) : GSem nD τ sig := ((c : Thread nD τ), .dma (sS x))
abbrev rcell (x : Xf) (c : Dev nD) : GSem nD τ sig := ((c : Thread nD τ), .dma (rS x))
abbrev kcell (ck : Dev nD × (Unit ⊕ (Xf ⊕ Xf))) : GSem nD τ sig := ((ck.1 : Thread nD τ), csem ck.2)

theorem sS_sep : ∀ a b : Xf, sS a = sS b → a = b := by decide +kernel
theorem rS_sep : ∀ a b : Xf, rS a = rS b → a = b := by decide +kernel
theorem sS_rS : ∀ a b : Xf, sS a ≠ rS b := by decide +kernel
theorem osem_inj : Function.Injective osem := by
  rintro (a | a) (b | b) h
  · exact congrArg Sum.inl (sS_sep a b (SemLoc.dma.inj h))
  · exact absurd (SemLoc.dma.inj h) (sS_rS a b)
  · exact absurd (SemLoc.dma.inj h).symm (sS_rS b a)
  · exact congrArg Sum.inr (rS_sep a b (SemLoc.dma.inj h))

theorem csem_inj : Function.Injective csem := by
  rintro (⟨⟩ | a) (⟨⟩ | b) h
  · rfl
  · rcases b with b | b <;> cases h
  · rcases a with a | a <;> cases h
  · exact congrArg Sum.inr (osem_inj h)

/-- Which semaphore of the exchange a semaphore is. -/
def which (s : SemLoc sig) : Option (Unit ⊕ (Xf ⊕ Xf)) := Function.partialInv csem s

theorem which_csem (k : Unit ⊕ (Xf ⊕ Xf)) : which (csem k) = some k := Function.partialInv_left csem_inj k
theorem which_bar : which (.reg barS) = some (.inl ()) := which_csem (.inl ())
theorem which_snd (x : Xf) : which (.dma (sS x)) = some (.inr (.inl x)) := which_csem (.inr (.inl x))
theorem which_rcv (x : Xf) : which (.dma (rS x)) = some (.inr (.inr x)) := which_csem (.inr (.inr x))

/-- A transfer's credit: a 128 × 256 tile's, whatever the tile. -/
abbrev N : ℕ := (slot1 0 0).view.dmaCredit
theorem N_pos : 0 < N := View.dmaCredit_pos _ (by decide)

theorem dst_credit (x : Xf) (c : Dev nD) : (dstM x c).view.dmaCredit = N := by
  rcases x with ⟨k, o⟩ | ⟨k, o⟩ | ⟨k, o⟩ <;> rfl
theorem src_credit (x : Xf) (c : Dev nD) : (srcM x c).view.dmaCredit = N := by
  rcases x with ⟨k, o⟩ | ⟨k, o⟩ | ⟨k, o⟩ <;> rfl

section Protocol

variable (X : Dev nD → Vec F S1024x32 .f32) (W : Dev nD → Vec F S32x1024 .f32)

/-! ## What is handed over -/

/-- The final content of the buffer a transfer of device `c` reads, and of the buffer of device `d` it writes. -/
def srcF : (x : Xf) → (c : Dev nD) → Buf (Elt F) ((srcM x c).view.loc (c : Thread nD τ))
  | .inl (_, _), c => achC X W c
  | .inr (.inl (_, _)), c => rchC X W c
  | .inr (.inr (_, _)), c => outC X W c
def dstF : (x : Xf) → (c d : Dev nD) → Buf (Elt F) ((dstM x c).view.loc (d : Thread nD τ))
  | .inl (_, _), _, d => g1C X W d
  | .inr (.inl (_, _)), _, d => g2C X W d
  | .inr (.inr (_, _)), _, d => outC X W d

/-- What device `d` receives is what device `c` sent. -/
theorem land_read (x : Xf) (c : Dev nD) :
    (dstM x c).view.read (Elt F) (dstF X W x c (peer x c)) = (srcM x c).view.read (Elt F) (srcF X W x c) := by
  rcases x with ⟨k, o⟩ | ⟨k, o⟩ | ⟨k, o⟩
  · exact (read_slot1 o k _).trans ((slot1_land X W c o k).trans (read_ach_tile (plc (cub o c)) k _).symm)
  · exact (read_slot2 o k _).trans ((slot2_land X W c o k).trans (read_ach_tile (plc c) k _).symm)
  · exact (read_out_tile (plc c) k _).trans
      ((congrArg (tileOf (plc c) k) (outC_cub X W o c)).trans (read_out_tile (plc c) k _).symm)

/-- The source of a transfer at its final content. -/
def srcPts (x : Xf) (c : Dev nD) : sProp 𝕄 :=
  (srcM x c).view.loc (c : Thread nD τ) ↦[(srcM x c).view.set]{shr x} srcF X W x c

/-- The place device `c`'s transfer writes on device `d`, at its final content, -/
def land (x : Xf) (c d : Dev nD) : sProp 𝕄 :=
  (dstM x c).view.loc (d : Thread nD τ) ↦[(dstM x c).view.set]{fullShare} dstF X W x c d

end Protocol

/-- and at any. -/
def free (x : Xf) (c d : Dev nD) : sProp 𝕄 :=
  iprop(∃ f : Buf (Elt F) ((dstM x c).view.loc (d : Thread nD τ)),
    (dstM x c).view.loc (d : Thread nD τ) ↦[(dstM x c).view.set]{fullShare} f)

/-- What partner `i`'s unit hands device `c`: every place of the partner `c` will write. -/
def barPay (c : Dev nD) (i : Fin 10) : sProp 𝕄 :=
  if h : i.val < 7 then
    bigSepL l4 fun k => iprop(free (F := F) (t1 k ⟨i.val, h⟩) c (bar i c) ∗ free (F := F) (t4 k ⟨i.val, h⟩) c (bar i c))
  else bigSepL l4 fun k => free (F := F) (t2 k ⟨i.val - 7, by omega⟩) c (bar i c)

section Schedule

variable (X : Dev nD → Vec F S1024x32 .f32) (W : Dev nD → Vec F S32x1024 .f32)

instance srcPts_storable (x : Xf) (c : Dev nD) : BI.Storable (upEmb : UEmb _ 𝕄) (srcPts X W x c) := by
  unfold srcPts; infer_instance
instance land_storable (x : Xf) (c d : Dev nD) : BI.Storable (upEmb : UEmb _ 𝕄) (land X W x c d) := by
  unfold land; infer_instance
instance free_storable (x : Xf) (c d : Dev nD) : BI.Storable (upEmb : UEmb _ 𝕄) (free (F := F) x c d) := by
  unfold free; infer_instance
theorem bigSepL_storable {ι : Type} (Φ : ι → sProp 𝕄) (h : ∀ i, BI.Storable (upEmb : UEmb _ 𝕄) (Φ i)) :
    ∀ l, BI.Storable (upEmb : UEmb _ 𝕄) (bigSepL l Φ)
  | [] => inferInstanceAs (BI.Storable (upEmb : UEmb _ 𝕄) iprop(emp))
  | i :: l => by
    have := bigSepL_storable Φ h l
    rw [bigSepL_cons]
    exact inferInstanceAs (BI.Storable (upEmb : UEmb _ 𝕄) iprop(Φ i ∗ bigSepL l Φ))
instance barPay_storable (c : Dev nD) (i : Fin 10) : BI.Storable (upEmb : UEmb _ 𝕄) (barPay (F := F) c i) := by
  unfold barPay; split <;> exact bigSepL_storable _ (fun k => inferInstance) _

/-- One round, round 0: a barrier has a duty of one unit per partner, a transfer's semaphore one duty of its credit. -/
def Rd : Rounds.Schedule (GSem nD τ sig) (Fin 10) 𝕄 where
  duties g r := if r = 0 ∧ g.1.2 = .tc then
      match which g.2 with
      | some (.inl _) => Finset.univ
      | some (.inr _) => {0}
      | none => ∅
    else ∅
  unitless _ := False
  amount g _ _ := match which g.2 with
    | some (.inl _) => 1
    | _ => N
  payload g _ d := match which g.2 with
    | some (.inl _) => barPay g.1.1 d
    | some (.inr (.inl x)) => srcPts X W x g.1.1
    | some (.inr (.inr x)) => land X W x (sender x g.1.1) g.1.1
    | none => iprop(emp)
  amount_pos g _ _ _ := by
    rcases h : which g.2 with _ | _ | _
    · exact N_pos
    · exact Nat.one_pos
    · exact N_pos

instance Rd_storable (g : GSem nD τ sig) (r : ℕ) (d : Fin 10) :
    BI.Storable (upEmb : UEmb _ 𝕄) ((Rd (F := F) X W).payload g r d) := by
  dsimp only [Rd]
  split <;> infer_instance

theorem duties_later (g : GSem nD τ sig) : ∀ r, 1 ≤ r → (Rd (F := F) X W).duties g r = ∅ :=
  fun r hr => if_neg fun h => by omega

theorem duties_bar (c : Dev nD) : (Rd (F := F) X W).duties (bcell c) 0 = Finset.univ := by
  dsimp only [Rd]; rw [if_pos ⟨rfl, rfl⟩, which_bar]
theorem duties_snd (x : Xf) (c : Dev nD) : (Rd (F := F) X W).duties (scell x c) 0 = {0} := by
  dsimp only [Rd]; rw [if_pos ⟨rfl, rfl⟩, which_snd]
theorem duties_rcv (x : Xf) (c : Dev nD) : (Rd (F := F) X W).duties (rcell x c) 0 = {0} := by
  dsimp only [Rd]; rw [if_pos ⟨rfl, rfl⟩, which_rcv]

theorem amount_bar (c : Dev nD) (d : Fin 10) : (Rd (F := F) X W).amount (bcell c) 0 d = 1 := by
  dsimp only [Rd]; rw [which_bar]
theorem amount_snd (x : Xf) (c : Dev nD) (d : Fin 10) : (Rd (F := F) X W).amount (scell x c) 0 d = N := by
  dsimp only [Rd]; rw [which_snd]
theorem amount_rcv (x : Xf) (c : Dev nD) (d : Fin 10) : (Rd (F := F) X W).amount (rcell x c) 0 d = N := by
  dsimp only [Rd]; rw [which_rcv]

theorem expect_bar (c : Dev nD) : (Rd (F := F) X W).expect (bcell c) 0 = 10 := by
  unfold Schedule.expect Schedule.amountOf
  rw [duties_bar, Finset.sum_congr rfl fun d _ => amount_bar X W c d]; rfl
theorem expect_snd (x : Xf) (c : Dev nD) : (Rd (F := F) X W).expect (scell x c) 0 = N := by
  unfold Schedule.expect Schedule.amountOf; rw [duties_snd, Finset.sum_singleton, amount_snd]
theorem expect_rcv (x : Xf) (c : Dev nD) : (Rd (F := F) X W).expect (rcell x c) 0 = N := by
  unfold Schedule.expect Schedule.amountOf; rw [duties_rcv, Finset.sum_singleton, amount_rcv]

theorem payload_bar (c : Dev nD) (d : Fin 10) : (Rd (F := F) X W).payload (bcell c) 0 d = barPay c d := by
  dsimp only [Rd]; rw [which_bar]
theorem payload_snd (x : Xf) (c : Dev nD) (d : Fin 10) :
    (Rd (F := F) X W).payload (scell x c) 0 d = srcPts X W x c := by
  dsimp only [Rd]; rw [which_snd]
theorem payload_rcv (x : Xf) (c : Dev nD) (d : Fin 10) :
    (Rd (F := F) X W).payload (rcell x c) 0 d = land X W x (sender x c) c := by
  dsimp only [Rd]; rw [which_rcv]

theorem rest_bar (c : Dev nD) : bigSep ((Rd (F := F) X W).duties (bcell c) 0 \ ∅)
    (fun d => (Rd (F := F) X W).payload (bcell c) 0 d) = bigSepL l10 (barPay c) := by
  rw [Finset.sdiff_empty, duties_bar, bigSep_congr fun d _ => payload_bar X W c d,
    bigSep_univ_eq_bigSepL l10 (by decide) (by decide)]
theorem rest_snd (x : Xf) (c : Dev nD) : bigSep ((Rd (F := F) X W).duties (scell x c) 0 \ ∅)
    (fun d => (Rd (F := F) X W).payload (scell x c) 0 d) = srcPts X W x c := by
  rw [Finset.sdiff_empty, duties_snd, bigSep_singleton, payload_snd]
theorem rest_rcv (x : Xf) (c : Dev nD) : bigSep ((Rd (F := F) X W).duties (rcell x c) 0 \ ∅)
    (fun d => (Rd (F := F) X W).payload (rcell x c) 0 d) = land X W x (sender x c) c := by
  rw [Finset.sdiff_empty, duties_rcv, bigSep_singleton, payload_rcv]

end Schedule

/-! ## What a device owes, and the levels -/

/-- The sum of a tally over a list. -/
def obs {ι : Type} (f : ι → CellTallies nD τ sig Unit) : List ι → CellTallies nD τ sig Unit
  | [] => 0
  | i :: l => f i + obs f l

/-- A transfer owes the peer's receive semaphore its credit. -/
def tx (c : Dev nD) (x : Xf) : CellTallies nD τ sig Unit := tallyAt (rcell x (peer x c)) () N
def ox1 (c : Dev nD) (k : Fin 4) : CellTallies nD τ sig Unit := obs (fun o => tx c (t1 k o)) l7
def ox2 (c : Dev nD) (k : Fin 4) : CellTallies nD τ sig Unit := obs (fun o => tx c (t2 k o)) l3
def ox4 (c : Dev nD) (k : Fin 4) : CellTallies nD τ sig Unit := obs (fun o => tx c (t4 k o)) l7
/-- A signal owes the partner's barrier one unit. -/
def ob (c : Dev nD) (i : Fin 10) : CellTallies nD τ sig Unit := tallyAt (bcell (bar i c)) () 1

/-- All a device owes at launch, and what is left after its signals. -/
def Otx (c : Dev nD) : CellTallies nD τ sig Unit := obs (ox1 c) l4 + (obs (ox2 c) l4 + obs (ox4 c) l4)
def O₀ (c : Dev nD) : CellTallies nD τ sig Unit := obs (ob c) l10 + Otx c

def L (g : GSem nD τ sig) : Finset Unit := if g.1.2 = .tc then {()} else ∅

def lvs (s : SemLoc sig) : ℕ := match which s with
  | some (.inl _) => 1
  | some (.inr (.inr (.inl _))) => 2
  | some (.inr (.inr (.inr (.inl _)))) => 3
  | some (.inr (.inr (.inr (.inr _)))) => 4
  | _ => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lvs_bar : lvs (.reg barS) = 1 := by unfold lvs; rw [which_bar]
theorem lvs_snd (x : Xf) : lvs (.dma (sS x)) = 0 := by unfold lvs; rw [which_snd]
theorem lvs_r1 (k : Fin 4) (o : Fin 7) : lvs (.dma (rS (t1 k o))) = 2 := by unfold lvs; rw [which_rcv]
theorem lvs_r2 (k : Fin 4) (o : Fin 3) : lvs (.dma (rS (t2 k o))) = 3 := by unfold lvs; rw [which_rcv]
theorem lvs_r4 (k : Fin 4) (o : Fin 7) : lvs (.dma (rS (t4 k o))) = 4 := by unfold lvs; rw [which_rcv]

/-- Everything owed stands above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {A B : CellTallies nD τ sig Unit} (hA : Above n A) (hB : Above n B) : Above n (A + B) := by
  intro g u h
  rw [Pi.add_apply, Finsupp.add_apply] at h
  rcases Nat.eq_zero_or_pos (A g u) with h0 | h0
  · exact hB g u (by omega)
  · exact hA g u h0
theorem above_obs {ι : Type} {n : ℕ} {f : ι → CellTallies nD τ sig Unit} (h : ∀ i, Above n (f i)) :
    ∀ l, Above n (obs f l)
  | [] => above_zero n
  | i :: l => above_add (h i) (above_obs h l)
theorem above_tally {n : ℕ} {c : Dev nD} {sm : SemLoc sig} {k : ℕ} (h : n < lvs sm) :
    Above n (tallyAt ((c : Thread nD τ), sm) () k) := by
  intro g u hg
  rw [tallyAt_apply] at hg
  by_cases he : g = ((c : Thread nD τ), sm) ∧ u = ()
  · rw [he.1, L_tc]; exact ⟨Finset.mem_singleton_self _, h⟩
  · rw [if_neg he] at hg; exact absurd hg (Nat.lt_irrefl 0)

theorem above_ox1 {n : ℕ} (h : n < 2) (c : Dev nD) (k : Fin 4) : Above n (ox1 c k) :=
  above_obs (fun o => above_tally (by rw [lvs_r1]; exact h)) l7
theorem above_ox2 {n : ℕ} (h : n < 3) (c : Dev nD) (k : Fin 4) : Above n (ox2 c k) :=
  above_obs (fun o => above_tally (by rw [lvs_r2]; exact h)) l3
theorem above_ox4 {n : ℕ} (h : n < 4) (c : Dev nD) (k : Fin 4) : Above n (ox4 c k) :=
  above_obs (fun o => above_tally (by rw [lvs_r4]; exact h)) l7
theorem above_Otx {n : ℕ} (h : n < 2) (c : Dev nD) : Above n (Otx c) :=
  above_add (above_obs (above_ox1 h c) _)
    (above_add (above_obs (above_ox2 (by omega) c) _) (above_obs (above_ox4 (by omega) c) _))
theorem above_O₀ (c : Dev nD) : Above 0 (O₀ c) :=
  above_add (above_obs (fun i => above_tally (by rw [lvs_bar]; decide)) _) (above_Otx (by decide) c)

/-- The levels, as a fact to hold. -/
@[irreducible] def levs : sProp 𝕄 := levAts L lv
theorem levs_eq : levs (F := F) = levAts L lv := by unfold levs; rfl
instance levs_persistent : BI.Persistent (levs (F := F)) := by unfold levs; infer_instance

/-- A device may wait at a level below everything it owes. -/
theorem mayWait (c : Dev nD) (sm : SemLoc sig) {n : ℕ} (h : lvs sm ≤ n) {O : CellTallies nD τ sig Unit}
    (hO : Above n O) : levs (F := F) ⊢ MayWait (c : Thread nD τ) sm () O := by
  rw [levs_eq]
  exact MayOwe.of_cut (L := L) (lev := lv) n
    (fun p hp => by rw [Finset.mem_singleton.mp hp, L_tc]; exact Finset.mem_singleton_self _)
    (fun g u hg => (hO g u hg).1) (fun p hp => by rw [Finset.mem_singleton.mp hp]; exact h)
    (fun g u hg => (hO g u hg).2)

end Cert.IdealRun

end

end
-- ==== Proof.Ideal.Steps.lean ====
/-
One operation of the body at a time, and the loop rule.

Every lemma here has the form "what the operation needs, with what the device owes ⊢ the operation runs to what it
leaves". The transfers are treated once for all three exchanges.
-/
module

public import proofs.«01_k».proof.Proof.Ideal.Cells

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

abbrev 𝒱₀ : Variants := Variants.none

/-- A program of device `c` runs to `Q`. -/
abbrev runs (c : Dev nD) (p : Pg F) (Q : sProp 𝕄) : sProp 𝕄 :=
  wp frame (wpE (defs₀ (F := F)) 𝒱₀ (c : Thread nD τ) none) Set.univ p (fun _ => Q)

theorem runs_bind (c : Dev nD) (p : Pg F) (q : Pg F) (Q : sProp 𝕄) :
    runs c (p >>= fun _ => q) Q = runs c p (runs c q Q) := wp_bind _ _ _ _ _ _

theorem runs_mono (c : Dev nD) (p : Pg F) {Q Q' : sProp 𝕄} (h : Q ⊢ Q') : runs c p Q ⊢ runs c p Q' :=
  wp_mono _ _ _ fun _ => h

theorem runs_frame (c : Dev nD) (p : Pg F) (Q R : sProp 𝕄) : iprop(runs c p Q ∗ R) ⊢ runs c p iprop(Q ∗ R) :=
  wp_frame_r _ _ _

theorem runs_wand (c : Dev nD) (p : Pg F) (Q Q' : sProp 𝕄) : iprop(runs c p Q ∗ (Q -∗ Q')) ⊢ runs c p Q' :=
  (runs_frame c p Q _).trans (runs_mono c p (by iintro ⟨H, Hw⟩; iapply Hw; iexact H))

theorem sepL_cons {ι : Type} (i : ι) (l : List ι) (Φ : ι → sProp 𝕄) :
    bigSepL (i :: l) Φ = iprop(Φ i ∗ bigSepL l Φ) := bigSepL_cons i l Φ

/-- The loop rule: with the persistent `P`, a step takes its own `R i` and the running `C` to its own `T i` and the
    next `C`; the loop takes all of the first to all of the second. -/
theorem runs_each {ι : Type} (c : Dev nD) (f : ι → Pg F) (P : sProp 𝕄) [BI.Persistent P] (R T : ι → sProp 𝕄)
    (C : List ι → sProp 𝕄)
    (h : ∀ i rest, iprop(P ∗ R i ∗ C (i :: rest)) ⊢ runs c (f i) iprop(T i ∗ C rest)) :
    ∀ l, iprop(P ∗ bigSepL l R ∗ C l) ⊢ runs c (each f l) iprop(bigSepL l T ∗ C [])
  | [] => by
    show _ ⊢ wp frame _ Set.univ (Prog.ret PUnit.unit) _
    rw [wp_ret]
    iintro ⟨-, HR, HC⟩
    imodintro
    isplitl [HR]; · iexact HR
    iexact HC
  | i :: l => by
    show _ ⊢ runs c (f i >>= fun _ => each f l) _
    rw [runs_bind, sepL_cons, sepL_cons]
    iintro ⟨#HP, ⟨HRi, HR⟩, HC⟩
    iapply (runs_wand c (f i) iprop(T i ∗ C l))
    isplitl [HRi HC]
    · iapply (h i l)
      isplitr; · iexact HP
      isplitl [HRi]; · iexact HRi
      iexact HC
    iintro ⟨HT, HC⟩
    iapply (runs_wand c (each f l) iprop(bigSepL l T ∗ C []))
    isplitl [HR HC]
    · iapply (runs_each c f P R T C h l)
      isplitr; · iexact HP
      isplitl [HR]; · iexact HR
      iexact HC
    iintro ⟨HTs, HC⟩
    isplitl [HT HTs]
    · isplitl [HT]; · iexact HT
      iexact HTs
    iexact HC

/-- What a device owes, whatever it has waited for. -/
def ow (c : Dev nD) (O : CellTallies nD τ sig Unit) : sProp 𝕄 :=
  iprop(∃ W : Waits sig Unit, owes (c : Thread nD τ) O W)

section Protocol

variable (X : Dev nD → Vec F S1024x32 .f32) (W : Dev nD → Vec F S32x1024 .f32)
variable (K : Dev nD × (Unit ⊕ (Xf ⊕ Xf)) → ℕ)

/-- What every device knows: every cell's invariant, that every cell is at round 0, and the levels. -/
def records : sProp 𝕄 :=
  iprop((bigSep Finset.univ fun ck => cellInv ER (Rd (F := F) X W) (K ck) (kcell ck))
    ∗ bigSep Finset.univ fun ck : Dev nD × (Unit ⊕ (Xf ⊕ Xf)) => reached ER (kcell ck) 0)
def ctx : sProp 𝕄 := iprop(records X W K ∗ levs (F := F))

instance records_persistent : BI.Persistent (records X W K) := by unfold records; infer_instance
instance ctx_persistent : BI.Persistent (ctx X W K) := by unfold ctx; infer_instance

theorem inv_at (ck : Dev nD × (Unit ⊕ (Xf ⊕ Xf))) : ctx X W K ⊢ cellInv ER (Rd (F := F) X W) (K ck) (kcell ck) := by
  unfold ctx records
  iintro ⟨⟨H, -⟩, -⟩
  iapply (show (bigSep Finset.univ fun ck => (cellInv ER (Rd (F := F) X W) (K ck) (kcell ck) : sProp 𝕄))
    ⊢ cellInv ER (Rd (F := F) X W) (K ck) (kcell ck) from bigSep_elim (Finset.mem_univ ck))
  iexact H
theorem reached_at (ck : Dev nD × (Unit ⊕ (Xf ⊕ Xf))) : ctx X W K ⊢ reached ER (kcell ck) 0 := by
  unfold ctx records
  iintro ⟨⟨-, H⟩, -⟩
  iapply (show (bigSep Finset.univ fun ck : Dev nD × (Unit ⊕ (Xf ⊕ Xf)) => (reached ER (kcell ck) 0 : sProp 𝕄))
    ⊢ reached ER (kcell ck) 0 from bigSep_elim (Finset.mem_univ ck))
  iexact H
theorem ctx_levs : ctx X W K ⊢ levs (F := F) := by
  unfold ctx
  iintro ⟨-, H⟩
  iexact H

theorem may_wait (c : Dev nD) (sm : SemLoc sig) {n : ℕ} (h : lvs sm ≤ n) {O : CellTallies nD τ sig Unit}
    (hO : Above n O) : ctx X W K ⊢ (MayWait (c : Thread nD τ) sm () O : sProp 𝕄) :=
  by have h2 := mayWait (F := F) c sm h hO; exact (ctx_levs X W K).trans h2

/-! ## The barrier -/

/-- The duty a device pays on its partner `i`'s barrier: it is the partner's partner of that number. -/
def back (i : Fin 10) : Fin 10 := if h : i.val < 7 then ⟨6 - i.val, by omega⟩ else ⟨16 - i.val, by omega⟩

theorem bar_back : ∀ (i : Fin 10) (c : Dev nD), bar (back i) (bar i c) = c := by decide +kernel

/-- What a device signals partner `i` with. -/
def sigR (c : Dev nD) (i : Fin 10) : sProp 𝕄 :=
  iprop(dutyTok ER (bcell (bar i c)) 0 (back i) ∗ barPay (bar i c) (back i))

theorem sig_step (c : Dev nD) (i : Fin 10) (O : CellTallies nD τ sig Unit) :
    iprop(ctx X W K ∗ sigR (F := F) c i ∗ ow c (ob c i + O)) ⊢ runs c (sigP (route c) i) (ow c O) := by
  unfold sigP ow sigR runs
  simp only [semSignalWord, Prog.lift]
  iintro ⟨#Hc, ⟨Ht, Hp⟩, ⟨%V, HO⟩⟩
  ihave #HI := (inv_at X W K (bar i c, .inl ())) $$ Hc
  ihave #HR := (reached_at X W K (bar i c, .inl ())) $$ Hc
  iapply (Rounds.wp_signal 𝒱₀ ER (Rd X W) (c : Thread nD τ) none (dst := (bar i c : Thread nD τ))
      (κ := K (bar i c, .inl ())) (d := back i) (by rw [duties_bar]; exact Finset.mem_univ _)
      ((amount_bar X W (bar i c) (back i)).trans (by decide)) () O (add_comm _ _)) $$ [HO Ht Hp]
  · isplitr; · iexact HI
    isplitl [HO]; · iexact HO
    isplitl [Ht]; · iexact Ht
    isplitl [Hp]; · rw [payload_bar]; iexact Hp
    iexact HR
  iintro HO
  rw [wp_ret]; imodintro
  iexists V; iexact HO

theorem bar_step (c : Dev nD) :
    iprop(ctx X W K ∗ (atPos ER (bcell c) 0 ∅ 0 ∗ cred (tallyAt (bcell c) () 10)) ∗ ow c (Otx c))
      ⊢ runs c (semWaitWord barS 10#32) iprop((bigSepL l10 (barPay c) ∗ semVal (bcell c) 0) ∗ ow c (Otx c)) := by
  unfold ow runs
  simp only [semWaitWord, Prog.lift]
  iintro ⟨#Hc, ⟨Ha, Hcr⟩, ⟨%V, HO⟩⟩
  ihave #HI := (inv_at X W K (c, .inl ())) $$ Hc
  iapply (Rounds.wp_wait_rest_token 𝒱₀ ER (Rd X W) (c : Thread nD τ) none (κ := K (c, .inl ()))
      (wpE_semWait_eq 𝒱₀ (c : Thread nD τ) none Set.univ) (Set.mem_univ _) () (O := Otx c) (W := V) (R := 0) (m := 0)
      (T := ∅) (by rw [expect_bar]; decide)) $$ [Ha Hcr HO]
  · isplitr; · iexact HI
    isplitl [Hcr]; · iexact Hcr
    isplitl [HO]; · iexact HO
    isplitr
    · iapply (may_wait X W K c (.reg barS) (n := 1) (le_of_eq lvs_bar) (above_Otx (by decide) c))
      iexact Hc
    iexact Ha
  iintro ⟨HO, Ha, -, Hp⟩
  ihave Hp := (Entails.of_eq (rest_bar X W c)) $$ Hp
  rw [wp_ret]
  imod (Rounds.cell_close ER (Rd X W) (Set.mem_univ (K (c, .inl ()))) (fun h => h) (R := 0 + 1)
    (duties_later X W (bcell c))) $$ [Ha] with Hz
  · isplitr; · iexact HI
    iexact Ha
  imodintro
  isplitl [Hp Hz]
  · isplitl [Hp]; · iexact Hp
    iexact Hz
  iexists _; iexact HO

/-! ## The transfers -/

/-- The three operations of a transfer. -/
def sendP (c : Dev nD) : Xf → Pg F
  | .inl (k, o) => send1P (route c) k o
  | .inr (.inl (k, o)) => send2P (route c) k o
  | .inr (.inr (k, o)) => send4P (route c) k o
def recvP (c : Dev nD) : Xf → Pg F
  | .inl (k, o) => recv1P (route c) k o
  | .inr (.inl (k, o)) => recv2P (route c) k o
  | .inr (.inr (k, o)) => recv4P (route c) k o
def doneP (c : Dev nD) : Xf → Pg F
  | .inl (k, o) => done1P (route c) k o
  | .inr (.inl (k, o)) => done2P (route c) k o
  | .inr (.inr (k, o)) => done4P (route c) k o

/-- The tokens of the two duties a transfer pays. -/
def sendT (x : Xf) (c : Dev nD) : sProp 𝕄 :=
  iprop(dutyTok ER (scell x c) 0 0 ∗ dutyTok ER (rcell x (peer x c)) 0 0)

/-- What is handed over lands: the place written holds its final content. -/
theorem land_intro (x : Xf) (c : Dev nD) (f : Buf (Elt F) ((dstM x c).view.loc (peer x c : Thread nD τ))) :
    ((dstM x c).view.loc (peer x c : Thread nD τ) ↦[(dstM x c).view.set]{fullShare}
        (dstM x c).view.write (Elt F) f ((srcM x c).view.read (Elt F) (srcF X W x c)) Finset.univ)
      ⊢ (Rd X W).payload (rcell x (peer x c)) 0 0 := by
  rw [payload_rcv, sender_peer]
  unfold land
  exact Entails.of_eq (pointsTo_congr (write_agree f _ (land_read X W x c)))

theorem send_step (c : Dev nD) (x : Xf) (O : CellTallies nD τ sig Unit) :
    iprop(ctx X W K ∗ (srcPts X W x c ∗ free (F := F) x c (peer x c) ∗ sendT (F := F) x c) ∗ ow c (tx c x + O))
      ⊢ runs c (sendP c x) iprop(cred (tallyAt (scell x c) () N) ∗ ow c O) := by
  unfold ow sendT free runs
  iintro ⟨#Hc, ⟨Hs, ⟨%f, Hd⟩, Ht1, Ht2⟩, ⟨%V, HO⟩⟩
  ihave #HI1 := (inv_at X W K (c, .inr (.inl x))) $$ Hc
  ihave #HI2 := (inv_at X W K (peer x c, .inr (.inr x))) $$ Hc
  ihave #HR1 := (reached_at X W K (c, .inr (.inl x))) $$ Hc
  ihave #HR2 := (reached_at X W K (peer x c, .inr (.inr x))) $$ Hc
  have key : iprop(cellInv ER (Rd X W) (K (c, .inr (.inl x))) (scell x c)
        ∗ cellInv ER (Rd X W) (K (peer x c, .inr (.inr x))) (rcell x (peer x c))
        ∗ srcPts X W x c
        ∗ ((dstM x c).view.loc (peer x c : Thread nD τ) ↦[(dstM x c).view.set]{fullShare} f)
        ∗ owes (c : Thread nD τ) (tx c x + O) V
        ∗ dutyTok ER (scell x c) 0 0 ∗ reached ER (scell x c) 0
        ∗ dutyTok ER (rcell x (peer x c)) 0 0 ∗ reached ER (rcell x (peer x c)) 0)
      ⊢ iprop(((cred (tallyAt (scell x c) () N) ∗ owes (c : Thread nD τ) O V) -∗
            iprop(cred (tallyAt (scell x c) () N) ∗ owes (c : Thread nD τ) O V))
          -∗ wp frame (wpE (defs₀ (F := F)) 𝒱₀ (c : Thread nD τ) none) Set.univ (sendP c x)
            (fun _ => iprop(cred (tallyAt (scell x c) () N) ∗ owes (c : Thread nD τ) O V))) := by
    have hs : ((srcM x c).view.loc (c : Thread nD τ) ↦[(srcM x c).view.set]{shr x} srcF X W x c)
        ⊢ (Rd X W).payload (scell x c) 0 0 := by rw [payload_snd]; exact BI.Entails.refl _
    have hd := land_intro X W x c f
    have h1 : (0 : Fin 10) ∈ (Rd X W).duties (scell x c) 0 := by
      rw [duties_snd]; exact Finset.mem_singleton_self _
    have h2 : (0 : Fin 10) ∈ (Rd X W).duties (rcell x (peer x c)) 0 := by
      rw [duties_rcv]; exact Finset.mem_singleton_self _
    have a1 := amount_snd X W x c 0
    have a2 := amount_rcv X W x (peer x c) 0
    have base : ∀ Q : sProp 𝕄, Q ⊢ wp frame (wpE (defs₀ (F := F)) 𝒱₀ (c : Thread nD τ) none) Set.univ
        (Prog.ret PUnit.unit) (fun _ => Q) := fun Q => by rw [wp_ret]; exact fupd_intro
    unfold srcPts
    refine BI.Entails.trans ?_ (wand_mono_left (wand_mono_right (base _)))
    rcases x with ⟨k, o⟩ | ⟨k, o⟩ | ⟨k, o⟩ <;>
      exact Rounds.wp_send_pointsTo 𝒱₀ ER (Rd X W) (c : Thread nD τ) none (r₁ := 0) (r₂ := 0) (d₁ := 0) (d₂ := 0)
        (fd := f) h1 h2 () () N rfl a1 a2 O (add_comm _ _) (W := V) hs hd
  iapply (runs_wand c (sendP c x) iprop(cred (tallyAt (scell x c) () N) ∗ owes (c : Thread nD τ) O V))
  isplitl
  · iapply key $$ [Hs Hd HO Ht1 Ht2]
    · isplitr; · iexact HI1
      isplitr; · iexact HI2
      isplitl [Hs]; · iexact Hs
      isplitl [Hd]; · iexact Hd
      isplitl [HO]; · iexact HO
      isplitl [Ht1]; · iexact Ht1
      isplitr; · iexact HR1
      isplitl [Ht2]; · iexact Ht2
      iexact HR2
    iintro H; iexact H
  iintro ⟨H1, H2⟩
  isplitl [H1]; · iexact H1
  iexists V; iexact H2

/-- A wait on one of the device's own transfer semaphores: the payload, and the semaphore closed. -/
theorem wait_step (c : Dev nD) (y : Xf ⊕ Xf) (w : TpuEff nD τ sig (Elt F) Λ₀ .tc PUnit)
    (k' : ℕ) (hk : k' = N) (hw : ∀ Q : PUnit → sProp 𝕄, wpE (defs₀ (F := F)) 𝒱₀ (c : Thread nD τ) none Set.univ w Q
      = waitSpec (c : Thread nD τ) Set.univ (osem y) k' Q)
    (hx : (Rd X W).expect (kcell (c, .inr y)) 0 = N)
    {n : ℕ} (hn : lvs (osem y) ≤ n) (O : CellTallies nD τ sig Unit) (hO : Above n O) :
    iprop(ctx X W K ∗ (cred (tallyAt (kcell (c, .inr y)) () N) ∗ atPos ER (kcell (c, .inr y)) 0 ∅ 0) ∗ ow c O)
      ⊢ runs c (Prog.lift w) iprop(((bigSep ((Rd X W).duties (kcell (c, .inr y)) 0 \ ∅)
          fun d => (Rd X W).payload (kcell (c, .inr y)) 0 d) ∗ semVal (kcell (c, .inr y)) 0) ∗ ow c O) := by
  subst hk
  unfold ow runs
  simp only [Prog.lift]
  iintro ⟨#Hc, ⟨Hcr, Ha⟩, ⟨%V, HO⟩⟩
  ihave #HI := (inv_at X W K (c, .inr y)) $$ Hc
  iapply (Rounds.wp_wait_rest_token 𝒱₀ ER (Rd X W) (c : Thread nD τ) none (κ := K (c, .inr y)) hw (Set.mem_univ _) ()
      (O := O) (W := V) (R := 0) (m := 0) (T := ∅) (by rw [Nat.zero_add]; exact hx.symm)) $$ [Hcr Ha HO]
  · isplitr; · iexact HI
    isplitl [Hcr]; · iexact Hcr
    isplitl [HO]; · iexact HO
    isplitr; · iapply (may_wait X W K c (osem y) hn hO); iexact Hc
    iexact Ha
  iintro ⟨HO, Ha, -, Hp⟩
  rw [wp_ret]
  imod (Rounds.cell_close ER (Rd X W) (Set.mem_univ (K (c, .inr y))) (fun h => h) (R := 0 + 1)
    (duties_later X W (kcell (c, .inr y)))) $$ [Ha] with Hz
  · isplitr; · iexact HI
    iexact Ha
  imodintro
  isplitl [Hp Hz]
  · isplitl [Hp]; · iexact Hp
    iexact Hz
  iexists _; iexact HO

/-- What a wait needs. -/
def waitR (y : Xf ⊕ Xf) (c : Dev nD) : sProp 𝕄 :=
  iprop(cred (tallyAt (kcell (c, .inr y)) () N) ∗ atPos ER (kcell (c, .inr y)) 0 ∅ 0)

theorem recv_step (c : Dev nD) (x : Xf) {n : ℕ} (hn : lvs (.dma (rS x)) ≤ n) (O : CellTallies nD τ sig Unit)
    (hO : Above n O) :
    iprop(ctx X W K ∗ waitR (F := F) (.inr x) c ∗ ow c O)
      ⊢ runs c (recvP c x) iprop((land X W x (sender x c) c ∗ semVal (rcell x c) 0) ∗ ow c O) := by
  have hx := expect_rcv X W x c
  rw [← rest_rcv X W x c]
  have hk := dst_credit x c
  rcases x with ⟨k, o⟩ | ⟨k, o⟩ | ⟨k, o⟩ <;>
    (dsimp only [recvP, recv1P, recv2P, recv4P]
     refine wait_step X W K c (.inr _) _ _ hk ?_ hx hn O hO
     exact wpE_waitDma2_eq 𝒱₀ (c : Thread nD τ) none Set.univ)

theorem done_step (c : Dev nD) (x : Xf) :
    iprop(ctx X W K ∗ waitR (F := F) (.inl x) c ∗ ow c 0)
      ⊢ runs c (doneP c x) iprop((srcPts X W x c ∗ semVal (scell x c) 0) ∗ ow c 0) := by
  have hx := expect_snd X W x c
  have hn : lvs (.dma (sS x)) ≤ 0 := le_of_eq (lvs_snd x)
  rw [← rest_snd X W x c]
  have hk := src_credit x c
  rcases x with ⟨k, o⟩ | ⟨k, o⟩ | ⟨k, o⟩ <;>
    (dsimp only [doneP, done1P, done2P, done4P]
     refine wait_step X W K c (.inl _) _ _ hk ?_ hx hn 0 (above_zero 0)
     exact wpE_waitDma2_eq 𝒱₀ (c : Thread nD τ) none Set.univ)

end Protocol

end Cert.IdealRun

end

end
-- ==== Proof.Ideal.Pieces.lean ====
/-
The buffers cut into the pieces the body holds.

A 1024 × 1024 buffer is four column chunks and a column chunk is eight tiles; a landing buffer is four column chunks, each
a slot of every peer. Cutting a buffer held at one content, and putting pieces together again, is one lemma each
(`cut`, `join_some`), stated for pieces told apart by a key of the index.
-/
module

public import proofs.«01_k».proof.Proof.Ideal.Steps

@[expose] public section

noncomputable section

namespace Cert.IdealRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## The element sets -/

abbrev colS (k : Fin 4) : Finset S1024x1024.Idx := (colR k).set
abbrev tileS (p : Fin 8) (k : Fin 4) : Finset S1024x1024.Idx := (tileR p k).set
abbrev rcolS (k : Fin 4) : Finset S128x1024.Idx := (rcolR k).set
abbrev g1S (k : Fin 4) : Finset S7x128x1024.Idx := (g1colR k).set
abbrev g2S (k : Fin 4) : Finset S3x128x1024.Idx := (g2colR k).set
abbrev slot1S (o : Fin 7) (k : Fin 4) : Finset S7x128x1024.Idx :=
  (Rect.unit (s := S7x128x1024) ![o.val, 0, 256 * k.val] S1x128x256.size (slot1_inb o k)).set
abbrev slot2S (o : Fin 3) (k : Fin 4) : Finset S3x128x1024.Idx :=
  (Rect.unit (s := S3x128x1024) ![o.val, 0, 256 * k.val] S1x128x256.size (slot2_inb o k)).set

theorem mem_col (k : Fin 4) (i : S1024x1024.Idx) : Iff (i ∈ colS k) (chunk (i 1) = k) := by
  rw [Rect.mem_set_unit]
  have h0 : (i 0).val < 1024 := (i 0).isLt
  have hk := Fin.ext_iff (a := chunk (i 1)) (b := k)
  have hd : (chunk (i 1)).val = (i 1).val / 256 := rfl
  constructor
  · intro h
    have h1 : 256 * k.val ≤ (i 1).val ∧ (i 1).val < 256 * k.val + 256 := h 1
    exact hk.mpr (by omega)
  · intro h
    have := hk.mp h
    intro a
    match a with
    | ⟨0, _⟩ => exact (show 0 ≤ (i 0).val ∧ (i 0).val < 0 + 1024 by omega)
    | ⟨1, _⟩ => exact (show 256 * k.val ≤ (i 1).val ∧ (i 1).val < 256 * k.val + 256 by omega)

theorem mem_tile (p : Fin 8) (k : Fin 4) (i : S1024x1024.Idx) :
    Iff (i ∈ tileS p k) (chunk (i 1) = k ∧ rowBlk (i 0) = p) := by
  rw [Rect.mem_set_unit]
  have hk := Fin.ext_iff (a := chunk (i 1)) (b := k)
  have hp := Fin.ext_iff (a := rowBlk (i 0)) (b := p)
  have hd : (chunk (i 1)).val = (i 1).val / 256 := rfl
  have hr : (rowBlk (i 0)).val = (i 0).val / 128 := rfl
  constructor
  · intro h
    have h0 : 128 * p.val ≤ (i 0).val ∧ (i 0).val < 128 * p.val + 128 := h 0
    have h1 : 256 * k.val ≤ (i 1).val ∧ (i 1).val < 256 * k.val + 256 := h 1
    exact ⟨hk.mpr (by omega), hp.mpr (by omega)⟩
  · rintro ⟨h1, h2⟩
    have := hk.mp h1
    have := hp.mp h2
    intro a
    match a with
    | ⟨0, _⟩ => exact (show 128 * p.val ≤ (i 0).val ∧ (i 0).val < 128 * p.val + 128 by omega)
    | ⟨1, _⟩ => exact (show 256 * k.val ≤ (i 1).val ∧ (i 1).val < 256 * k.val + 256 by omega)

theorem mem_rcol (k : Fin 4) (i : S128x1024.Idx) : Iff (i ∈ rcolS k) (chunk (i 1) = k) := by
  rw [Rect.mem_set_unit]
  have h0 : (i 0).val < 128 := (i 0).isLt
  have hk := Fin.ext_iff (a := chunk (i 1)) (b := k)
  have hd : (chunk (i 1)).val = (i 1).val / 256 := rfl
  constructor
  · intro h
    have h1 : 256 * k.val ≤ (i 1).val ∧ (i 1).val < 256 * k.val + 256 := h 1
    exact hk.mpr (by omega)
  · intro h
    have := hk.mp h
    intro a
    match a with
    | ⟨0, _⟩ => exact (show 0 ≤ (i 0).val ∧ (i 0).val < 0 + 128 by omega)
    | ⟨1, _⟩ => exact (show 256 * k.val ≤ (i 1).val ∧ (i 1).val < 256 * k.val + 256 by omega)

/-- The last two axes of a landing buffer, as `mem_rcol`, with any first axis. -/
theorem mem_land {n a : ℕ} (o : ℕ) (k : Fin 4)
    (h : ∀ b, (![o, 0, 256 * k.val] : Fin 3 → ℕ) b + (![a, 128, 256] : Fin 3 → ℕ) b ≤ (⟨3, ![n, 128, 1024]⟩ : Shape).size b)
    (i : (⟨3, ![n, 128, 1024]⟩ : Shape).Idx) :
    Iff (i ∈ (Rect.unit (s := ⟨3, ![n, 128, 1024]⟩) ![o, 0, 256 * k.val] ![a, 128, 256] h).set)
      (chunk (i 2) = k ∧ o ≤ (i 0).val ∧ (i 0).val < o + a) := by
  rw [Rect.mem_set_unit]
  have h1 : (i 1).val < 128 := (i 1).isLt
  have hk := Fin.ext_iff (a := chunk (i 2)) (b := k)
  have hd : (chunk (i 2)).val = (i 2).val / 256 := rfl
  constructor
  · intro h
    have h0 : o ≤ (i 0).val ∧ (i 0).val < o + a := h 0
    have h2 : 256 * k.val ≤ (i 2).val ∧ (i 2).val < 256 * k.val + 256 := h 2
    exact ⟨hk.mpr (by omega), h0⟩
  · rintro ⟨h0, h2⟩
    have := hk.mp h0
    intro b
    match b with
    | ⟨0, _⟩ => exact h2
    | ⟨1, _⟩ => exact (show 0 ≤ (i 1).val ∧ (i 1).val < 0 + 128 by omega)
    | ⟨2, _⟩ => exact (show 256 * k.val ≤ (i 2).val ∧ (i 2).val < 256 * k.val + 256 by omega)

theorem mem_g1 (k : Fin 4) (i : S7x128x1024.Idx) : Iff (i ∈ g1S k) (chunk (i 2) = k) := by
  refine (mem_land (n := 7) (a := 7) 0 k (g1col_inb k) i).trans ⟨fun h => h.1, fun h => ⟨h, Nat.zero_le _, ?_⟩⟩
  have : (i 0).val < 7 := (i 0).isLt
  omega
theorem mem_g2 (k : Fin 4) (i : S3x128x1024.Idx) : Iff (i ∈ g2S k) (chunk (i 2) = k) := by
  refine (mem_land (n := 3) (a := 3) 0 k (g2col_inb k) i).trans ⟨fun h => h.1, fun h => ⟨h, Nat.zero_le _, ?_⟩⟩
  have : (i 0).val < 3 := (i 0).isLt
  omega
theorem mem_slot1 (o : Fin 7) (k : Fin 4) (i : S7x128x1024.Idx) :
    Iff (i ∈ slot1S o k) (chunk (i 2) = k ∧ (i 0 : Fin 7) = o) := by
  refine (mem_land (n := 7) (a := 1) o.val k (slot1_inb o k) i).trans
    ⟨fun h => ⟨h.1, Fin.ext (by omega)⟩, fun h => ⟨h.1, ?_⟩⟩
  have := Fin.ext_iff.mp h.2
  omega
theorem mem_slot2 (o : Fin 3) (k : Fin 4) (i : S3x128x1024.Idx) :
    Iff (i ∈ slot2S o k) (chunk (i 2) = k ∧ (i 0 : Fin 3) = o) := by
  refine (mem_land (n := 3) (a := 1) o.val k (slot2_inb o k) i).trans
    ⟨fun h => ⟨h.1, Fin.ext (by omega)⟩, fun h => ⟨h.1, ?_⟩⟩
  have := Fin.ext_iff.mp h.2
  omega

/-! ## Cutting and joining -/

section Cut

variable {ℓ : Loc nD τ sig} {T : Type} [Fintype T] [DecidableEq T]

theorem keyed_disjoint {S : Finset (Idx ℓ)} {Kf : T → Finset (Idx ℓ)} {key : Idx ℓ → T}
    (h : ∀ t i, Iff (i ∈ Kf t) (i ∈ S ∧ key i = t)) :
    ∀ t ∈ (Finset.univ : Finset T), ∀ t' ∈ (Finset.univ : Finset T), t ≠ t' → Disjoint (Kf t) (Kf t') :=
  fun t _ t' _ hne => Finset.disjoint_left.mpr fun i hi hi' =>
    hne (((h t i).mp hi).2.symm.trans ((h t' i).mp hi').2)

theorem keyed_union {S : Finset (Idx ℓ)} {Kf : T → Finset (Idx ℓ)} {key : Idx ℓ → T}
    (h : ∀ t i, Iff (i ∈ Kf t) (i ∈ S ∧ key i = t)) : S = Finset.univ.biUnion Kf :=
  Finset.ext fun i => ⟨fun hi => Finset.mem_biUnion.mpr ⟨key i, Finset.mem_univ _, (h _ i).mpr ⟨hi, rfl⟩⟩,
    fun hi => by obtain ⟨t, -, ht⟩ := Finset.mem_biUnion.mp hi; exact ((h t i).mp ht).1⟩

/-- A buffer's elements `S` cut by a key, at one content. -/
theorem cut {S : Finset (Idx ℓ)} {Kf : T → Finset (Idx ℓ)} (key : Idx ℓ → T)
    (h : ∀ t i, Iff (i ∈ Kf t) (i ∈ S ∧ key i = t)) (q : PosShare TreeShare) (f : Buf (Elt F) ℓ) :
    (ℓ ↦[S]{q} f : sProp 𝕄) = bigSep Finset.univ fun t => ℓ ↦[Kf t]{q} f := by
  rw [keyed_union h]
  exact pointsTo_biUnion _ _ (keyed_disjoint h)

/-- Elements held at some content. -/
abbrev some' (ℓ : Loc nD τ sig) (S : Finset (Idx ℓ)) : sProp 𝕄 :=
  iprop(∃ f : Buf (Elt F) ℓ, ℓ ↦[S]{fullShare} f)

theorem some_intro (S : Finset (Idx ℓ)) (f : Buf (Elt F) ℓ) : (ℓ ↦[S]{fullShare} f : sProp 𝕄) ⊢ some' ℓ S := by
  iintro H; iexists f; iexact H

/-- Cutting elements held at some content, and joining pieces held at some contents. -/
theorem cut_some {S : Finset (Idx ℓ)} {Kf : T → Finset (Idx ℓ)} (key : Idx ℓ → T)
    (h : ∀ t i, Iff (i ∈ Kf t) (i ∈ S ∧ key i = t)) :
    some' (F := F) ℓ S ⊢ bigSep Finset.univ fun t => some' (F := F) ℓ (Kf t) := by
  iintro ⟨%f, H⟩
  ihave H := (Entails.of_eq (cut (F := F) key h fullShare f)) $$ H
  iapply (show (bigSep Finset.univ fun t => (ℓ ↦[Kf t]{fullShare} f : sProp 𝕄))
    ⊢ bigSep Finset.univ fun t => some' (F := F) ℓ (Kf t) from bigSep_mono fun t _ => some_intro (Kf t) f)
  iexact H

theorem join_some {S : Finset (Idx ℓ)} {Kf : T → Finset (Idx ℓ)} (key : Idx ℓ → T) (t₀ : T)
    (h : ∀ t i, Iff (i ∈ Kf t) (i ∈ S ∧ key i = t)) :
    (bigSep Finset.univ fun t => some' (F := F) ℓ (Kf t)) ⊢ some' (F := F) ℓ S := by
  iintro H
  ihave HK := (BI.bigSep_exists_pi Finset.univ (fun (t : T) (f : Buf (Elt F) ℓ) => (ℓ ↦[Kf t]{fullShare} f : sProp 𝕄))) $$ H
  icases HK with ⟨%fs, H⟩
  ihave H := (pointsTo_biUnion_join Finset.univ Kf fs (fs t₀) (keyed_disjoint h)) $$ H
  icases H with ⟨%g, -, H⟩
  iexists g
  rw [keyed_union h]
  iexact H

end Cut

/-! ## A list of peers as a finite type -/

theorem all4 (Φ : Fin 4 → sProp 𝕄) : bigSep Finset.univ Φ = bigSepL l4 Φ :=
  bigSep_univ_eq_bigSepL l4 (by decide) (by decide) Φ
theorem all7 (Φ : Fin 7 → sProp 𝕄) : bigSep Finset.univ Φ = bigSepL l7 Φ :=
  bigSep_univ_eq_bigSepL l7 (by decide) (by decide) Φ
theorem all3 (Φ : Fin 3 → sProp 𝕄) : bigSep Finset.univ Φ = bigSepL l3 Φ :=
  bigSep_univ_eq_bigSepL l3 (by decide) (by decide) Φ
theorem all10 (Φ : Fin 10 → sProp 𝕄) : bigSep Finset.univ Φ = bigSepL l10 Φ :=
  bigSep_univ_eq_bigSepL l10 (by decide) (by decide) Φ

/-- The ten partners: the seven cube peers, then the three group peers. -/
theorem ten (Φ : Fin 10 → sProp 𝕄) : bigSep Finset.univ Φ
    = iprop((bigSep Finset.univ fun o : Fin 7 => Φ (Fin.castAdd 3 o)) ∗ bigSep Finset.univ fun o : Fin 3 => Φ (Fin.natAdd 7 o)) := by
  rw [bigSep_univ_equiv (finSumFinEquiv (m := 7) (n := 3)), bigSep_univ_sum]
  rfl

/-- The eight places: a device's own, and its cube peers', in either order of the peers. -/
theorem places (c : Dev nD) (Φ : Fin 8 → sProp 𝕄) :
    bigSep Finset.univ Φ = iprop(Φ (plc c) ∗ bigSep Finset.univ fun o : Fin 7 => Φ (plc (cub o c))) := by
  have h : ∀ c : Dev nD, (Finset.univ : Finset (Fin 8)) = (plc c :: l7.map fun o => plc (cub o c)).toFinset
      ∧ (plc c :: l7.map fun o => plc (cub o c)).Nodup := by decide +kernel
  rw [bigSep_univ_eq_bigSepL _ (h c).1 (h c).2, sepL_cons, all7]
  rfl
theorem places_from (c : Dev nD) (Φ : Fin 8 → sProp 𝕄) :
    bigSep Finset.univ Φ = iprop(Φ (plc c) ∗ bigSep Finset.univ fun o : Fin 7 => Φ (plc (cubFrom o c))) := by
  rw [places c, bigSep_univ_equiv Fin.revPerm (fun o : Fin 7 => Φ (plc (cub o c)))]
  rfl

/-- The transfers: three families. -/
theorem xfers (Φ : Xf → sProp 𝕄) : bigSep Finset.univ Φ
    = iprop((bigSep Finset.univ fun k : Fin 4 => bigSep Finset.univ fun o : Fin 7 => Φ (t1 k o))
      ∗ (bigSep Finset.univ fun k : Fin 4 => bigSep Finset.univ fun o : Fin 3 => Φ (t2 k o))
      ∗ bigSep Finset.univ fun k : Fin 4 => bigSep Finset.univ fun o : Fin 7 => Φ (t4 k o)) := by
  rw [bigSep_univ_sum, bigSep_univ_sum, bigSep_univ_prod, bigSep_univ_prod, bigSep_univ_prod]
  rfl

end Cert.IdealRun

end

end
-- ==== Proof.Ideal.Compute.lean ====
/-
The body's own arithmetic: the local product, the rounding, the two sums and the widening, each reading pieces of buffers
at their final contents and leaving the piece it writes at its own.
-/
module

public import proofs.«01_k».proof.Proof.Ideal.Pieces

@[expose] public section

noncomputable section

namespace Cert.IdealRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## A device's buffers -/

section Buffers

variable (c : Dev nD)

abbrev xL : Loc nD τ sig := (c : Thread nD τ).loc cc0_stg0_0
abbrev wL : Loc nD τ sig := (c : Thread nD τ).loc cc0_stg1_0
abbrev oL : Loc nD τ sig := (c : Thread nD τ).loc cc0_stg2_0
abbrev accL : Loc nD τ sig := (c : Thread nD τ).loc cc0_scratch0
abbrev achL : Loc nD τ sig := (c : Thread nD τ).loc cc0_scratch1
abbrev redL : Loc nD τ sig := (c : Thread nD τ).loc cc0_scratch2
abbrev outL : Loc nD τ sig := (c : Thread nD τ).loc cc0_scratch3
abbrev g1L : Loc nD τ sig := (c : Thread nD τ).loc cc0_scratch4
abbrev g2L : Loc nD τ sig := (c : Thread nD τ).loc cc0_scratch5

/-- Elements of a buffer, at a share and a content. -/
abbrev at' (ℓ : Loc nD τ sig) (S : Finset (Idx ℓ)) (q : PosShare TreeShare) (f : Buf (Elt F) ℓ) : sProp 𝕄 := ℓ ↦[S]{q} f

end Buffers

theorem zeros2 : (![0, 0] : Fin 2 → Nat) = fun _ => 0 := funext fun a => by fin_cases a <;> rfl

section Steps

variable (X : Dev nD → Vec F S1024x32 .f32) (W : Dev nD → Vec F S32x1024 .f32)

theorem dot_step (c : Dev nD) :
    iprop(at' (xL c) Finset.univ fullShare (X c) ∗ at' (wL c) Finset.univ fullShare (W c) ∗ some' (F := F) (accL c) Finset.univ)
      ⊢ runs c dotP iprop(at' (xL c) Finset.univ fullShare (X c) ∗ at' (wL c) Finset.univ fullShare (W c)
          ∗ at' (accL c) Finset.univ fullShare (accC X W c)) := by
  unfold dotP runs
  simp only [Prog.lift, Prog.bind_op, Prog.bind_ret]
  iintro ⟨Hx, Hw, ⟨%f, Ha⟩⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := accM) (Finset.subset_univ _)) $$ Ha; iintro Ha
  iapply (wp_store 𝒱₀ (c : Thread nD τ) none Set.univ (m := accM)
    (r := Rect.unit (s := S1024x1024) ![0, 0] S1024x1024.size inb_S1024x1024_S1024x1024_0_0) (Mk := Finset.univ) (Finset.subset_univ _)) $$ Ha; iintro Ha
  have hx : xM.view.readAt (Elt F) (Rect.unit (s := S1024x32) ![0, 0] S1024x32.size inb_S1024x32_S1024x32_0_0).toLoadRect (X c)
      = X c := Memref.readAt_unit_zero (Elt F) cc0_stg0_0 zeros2 _ (X c)
  have hw : wM.view.readAt (Elt F) (Rect.unit (s := S32x1024) ![0, 0] S32x1024.size inb_S32x1024_S32x1024_0_0).toLoadRect (W c)
      = W c := Memref.readAt_unit_zero (Elt F) cc0_stg1_0 zeros2 _ (W c)
  have ha : (accM.access (Rect.unit (s := S1024x1024) ![0, 0] S1024x1024.size inb_S1024x1024_S1024x1024_0_0)).write (Elt F) f
      (k0_pay1 (X c) (W c)) Finset.univ = k0_pay1 (X c) (W c) :=
    Memref.write_access_unit_zero_univ (Elt F) cc0_scratch0 zeros2 _ f _
  rw [wp_ret, hx, hw, ha]
  imodintro
  isplitl [Hx]; · iexact Hx
  isplitl [Hw]; · iexact Hw
  iexact Ha

theorem cast1_step (c : Dev nD) (k : Fin 4) :
    iprop(at' (accL c) Finset.univ fullShare (accC X W c) ∗ some' (F := F) (achL c) (colS k))
      ⊢ runs c (cast1P k) iprop(at' (accL c) Finset.univ fullShare (accC X W c)
          ∗ at' (achL c) (colS k) fullShare (achC X W c)) := by
  have hs : (achM.access (colR k)).set = colS k := View.set_slice_whole _ _
  unfold cast1P runs
  simp only [Prog.lift, Prog.bind_op, Prog.bind_ret]
  iintro ⟨Ha, ⟨%f, Hh⟩⟩
  iapply (wp_load_rect 𝒱₀ (c : Thread nD τ) none Set.univ (m := accM) (r := colR k) (Finset.subset_univ _)) $$ Ha; iintro Ha
  iapply (wp_load_rect 𝒱₀ (c : Thread nD τ) none Set.univ (m := achM) (r := colR k) (le_of_eq hs)) $$ Hh; iintro Hh
  iapply (wp_store 𝒱₀ (c : Thread nD τ) none Set.univ (m := achM) (r := colR k) (Mk := Finset.univ)
    (by rw [View.setOn_univ]; exact le_of_eq hs)) $$ Hh; iintro Hh
  rw [wp_ret, read_acc_col]
  imodintro
  isplitl [Ha]; · iexact Ha
  iapply (show _ ⊢ at' (achL c) (colS k) fullShare (achC X W c) from Entails.of_eq (pointsTo_congr fun i hi =>
    write_agree (v := achM.access (colR k)) f (achC X W c) ((read_ach_col k _).trans (colOf_glue _ k)) i (hs.symm ▸ hi)))
  iexact Hh

theorem sum1_step (c : Dev nD) (k : Fin 4) :
    iprop(at' (accL c) Finset.univ fullShare (accC X W c) ∗ at' (g1L c) (g1S k) fullShare (g1C X W c)
        ∗ some' (F := F) (redL c) (rcolS k) ∗ some' (F := F) (achL c) (tileS (plc c) k))
      ⊢ runs c (sum1P (route c) k) iprop(at' (accL c) Finset.univ fullShare (accC X W c)
          ∗ at' (g1L c) (g1S k) fullShare (g1C X W c) ∗ at' (redL c) (rcolS k) fullShare (redC X W c)
          ∗ at' (achL c) (tileS (plc c) k) fullShare (rchC X W c)) := by
  have hg : (g1M.access (g1colR k)).set = g1S k := View.set_slice_whole _ _
  have hr : (redM.access (rcolR k)).set = rcolS k := View.set_slice_whole _ _
  have hs : (achM.access (tileR (plc c) k)).set = tileS (plc c) k := View.set_slice_whole _ _
  unfold sum1P runs
  simp only [Prog.lift, Prog.bind_op, Prog.bind_ret]
  iintro ⟨Ha, Hg, ⟨%fr, Hr⟩, ⟨%f, Hh⟩⟩
  iapply (wp_load_rect 𝒱₀ (c : Thread nD τ) none Set.univ (m := accM) (r := tileR (plc c) k) (Finset.subset_univ _)) $$ Ha; iintro Ha
  iapply (wp_load_rect 𝒱₀ (c : Thread nD τ) none Set.univ (m := g1M) (r := g1colR k) (le_of_eq hg)) $$ Hg; iintro Hg
  iapply (wp_load_rect 𝒱₀ (c : Thread nD τ) none Set.univ (m := redM) (r := rcolR k) (le_of_eq hr)) $$ Hr; iintro Hr
  iapply (wp_store 𝒱₀ (c : Thread nD τ) none Set.univ (m := redM) (r := rcolR k) (Mk := Finset.univ)
    (by rw [View.setOn_univ]; exact le_of_eq hr)) $$ Hr; iintro Hr
  iapply (wp_load_rect 𝒱₀ (c : Thread nD τ) none Set.univ (m := achM) (r := tileR (plc c) k) (le_of_eq hs)) $$ Hh; iintro Hh
  iapply (wp_store 𝒱₀ (c : Thread nD τ) none Set.univ (m := achM) (r := tileR (plc c) k) (Mk := Finset.univ)
    (by rw [View.setOn_univ]; exact le_of_eq hs)) $$ Hh; iintro Hh
  rw [wp_ret, read_acc_tile, read_g1_col]
  imodintro
  isplitl [Ha]; · iexact Ha
  isplitl [Hg]; · iexact Hg
  isplitl [Hr]
  · iapply (show _ ⊢ at' (redL c) (rcolS k) fullShare (redC X W c) from Entails.of_eq (pointsTo_congr fun i hi =>
      write_agree (v := redM.access (rcolR k)) fr (redC X W c) ((read_red_col k _).trans (rcolOf_glue _ k)) i (hr.symm ▸ hi)))
    iexact Hr
  iapply (show _ ⊢ at' (achL c) (tileS (plc c) k) fullShare (rchC X W c) from Entails.of_eq (pointsTo_congr fun i hi =>
    write_agree (v := achM.access (tileR (plc c) k)) f (rchC X W c) ((read_ach_tile (plc c) k _).trans (tileOf_glue _ _ k)) i (hs.symm ▸ hi)))
  iexact Hh

theorem sum2_step (c : Dev nD) (k : Fin 4) :
    iprop(at' (redL c) (rcolS k) fullShare (redC X W c) ∗ at' (g2L c) (g2S k) fullShare (g2C X W c)
        ∗ some' (F := F) (outL c) (tileS (plc c) k))
      ⊢ runs c (sum2P (route c) k) iprop(at' (redL c) (rcolS k) fullShare (redC X W c)
          ∗ at' (g2L c) (g2S k) fullShare (g2C X W c) ∗ at' (outL c) (tileS (plc c) k) fullShare (outC X W c)) := by
  have hg : (g2M.access (g2colR k)).set = g2S k := View.set_slice_whole _ _
  have hr : (redM.access (rcolR k)).set = rcolS k := View.set_slice_whole _ _
  have hs : (outM.access (tileR (plc c) k)).set = tileS (plc c) k := View.set_slice_whole _ _
  unfold sum2P runs
  simp only [Prog.lift, Prog.bind_op, Prog.bind_ret]
  iintro ⟨Hr, Hg, ⟨%f, Hh⟩⟩
  iapply (wp_load_rect 𝒱₀ (c : Thread nD τ) none Set.univ (m := redM) (r := rcolR k) (le_of_eq hr)) $$ Hr; iintro Hr
  iapply (wp_load_rect 𝒱₀ (c : Thread nD τ) none Set.univ (m := g2M) (r := g2colR k) (le_of_eq hg)) $$ Hg; iintro Hg
  iapply (wp_load_rect 𝒱₀ (c : Thread nD τ) none Set.univ (m := outM) (r := tileR (plc c) k) (le_of_eq hs)) $$ Hh; iintro Hh
  iapply (wp_store 𝒱₀ (c : Thread nD τ) none Set.univ (m := outM) (r := tileR (plc c) k) (Mk := Finset.univ)
    (by rw [View.setOn_univ]; exact le_of_eq hs)) $$ Hh; iintro Hh
  rw [wp_ret, read_red_col, read_g2_col]
  imodintro
  isplitl [Hr]; · iexact Hr
  isplitl [Hg]; · iexact Hg
  iapply (show _ ⊢ at' (outL c) (tileS (plc c) k) fullShare (outC X W c) from Entails.of_eq (pointsTo_congr fun i hi =>
    write_agree (v := outM.access (tileR (plc c) k)) f (outC X W c) ((read_out_tile (plc c) k _).trans (outC_own X W c k)) i (hs.symm ▸ hi)))
  iexact Hh

theorem out_step (c : Dev nD) (k : Fin 4) (q : PosShare TreeShare) :
    iprop(at' (outL c) (colS k) q (outC X W c) ∗ some' (F := F) (oL c) (colS k))
      ⊢ runs c (outP k) iprop(at' (outL c) (colS k) q (outC X W c) ∗ at' (oL c) (colS k) fullShare (resC X W c)) := by
  have hr : (outM.access (colR k)).set = colS k := View.set_slice_whole _ _
  have hs : (oM.access (colR k)).set = colS k := View.set_slice_whole _ _
  unfold outP runs
  simp only [Prog.lift, Prog.bind_op, Prog.bind_ret]
  iintro ⟨Hr, ⟨%f, Hh⟩⟩
  iapply (wp_load_rect 𝒱₀ (c : Thread nD τ) none Set.univ (m := outM) (r := colR k) (le_of_eq hr)) $$ Hr; iintro Hr
  iapply (wp_load_rect 𝒱₀ (c : Thread nD τ) none Set.univ (m := oM) (r := colR k) (le_of_eq hs)) $$ Hh; iintro Hh
  iapply (wp_store 𝒱₀ (c : Thread nD τ) none Set.univ (m := oM) (r := colR k) (Mk := Finset.univ)
    (by rw [View.setOn_univ]; exact le_of_eq hs)) $$ Hh; iintro Hh
  rw [wp_ret, read_out_col]
  imodintro
  isplitl [Hr]; · iexact Hr
  iapply (show _ ⊢ at' (oL c) (colS k) fullShare (resC X W c) from Entails.of_eq (pointsTo_congr fun i hi =>
    write_agree (v := oM.access (colR k)) f (resC X W c) ((read_res_col k _).trans (colOf_glue _ k)) i (hs.symm ▸ hi)))
  iexact Hh

end Steps

end Cert.IdealRun

end

end
-- ==== Proof.Ideal.Phases.lean ====
/-
The four phases of a chunk, and the waits at the end.

Each phase's lemma states what the phase needs for its chunk, what runs through all chunks (the product, what the device
still owes) and what the phase leaves of the chunk.
-/
module

public import proofs.«01_k».proof.Proof.Ideal.Compute

@[expose] public section

noncomputable section

namespace Cert.IdealRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## A transfer's places as pieces of buffers -/

section Places

variable (X : Dev nD → Vec F S1024x32 .f32) (W : Dev nD → Vec F S32x1024 .f32) (c d : Dev nD) (k : Fin 4)

theorem slot1_set (o : Fin 7) : (slot1 o k).view.set = slot1S o k :=
  (View.set_reshape _ _).trans (View.set_slice_whole _ _)
theorem slot2_set (o : Fin 3) : (slot2 o k).view.set = slot2S o k :=
  (View.set_reshape _ _).trans (View.set_slice_whole _ _)

theorem src_t1 (o : Fin 7) : srcPts X W (t1 k o) c = at' (achL c) (tileS (plc (cub o c)) k) fullShare (achC X W c) :=
  congrArg (fun S : Finset S1024x1024.Idx => at' (achL c) S fullShare (achC X W c)) (View.set_slice_whole _ _)
theorem src_t2 (o : Fin 3) : srcPts X W (t2 k o) c = at' (achL c) (tileS (plc c) k) (shareTok fullShare 3 o) (rchC X W c) :=
  congrArg (fun S : Finset S1024x1024.Idx => at' (achL c) S (shareTok fullShare 3 o) (rchC X W c)) (View.set_slice_whole _ _)
theorem src_t4 (o : Fin 7) :
    srcPts X W (t4 k o) c = at' (outL c) (tileS (plc c) k) (shareTok fullShare.right 7 o) (outC X W c) :=
  congrArg (fun S : Finset S1024x1024.Idx => at' (outL c) S (shareTok fullShare.right 7 o) (outC X W c)) (View.set_slice_whole _ _)

theorem land_t1 (o : Fin 7) : land X W (t1 k o) c d = at' (g1L d) (slot1S o k) fullShare (g1C X W d) :=
  congrArg (fun S : Finset S7x128x1024.Idx => at' (g1L d) S fullShare (g1C X W d)) (slot1_set k o)
theorem land_t2 (o : Fin 3) : land X W (t2 k o) c d = at' (g2L d) (slot2S o k) fullShare (g2C X W d) :=
  congrArg (fun S : Finset S3x128x1024.Idx => at' (g2L d) S fullShare (g2C X W d)) (slot2_set k o)
theorem land_t4 (o : Fin 7) : land X W (t4 k o) c d = at' (outL d) (tileS (plc c) k) fullShare (outC X W d) :=
  congrArg (fun S : Finset S1024x1024.Idx => at' (outL d) S fullShare (outC X W d)) (View.set_slice_whole _ _)

theorem free_t1 (o : Fin 7) : free (F := F) (t1 k o) c d = some' (g1L d) (slot1S o k) :=
  congrArg (fun S : Finset S7x128x1024.Idx => some' (F := F) (g1L d) S) (slot1_set k o)
theorem free_t2 (o : Fin 3) : free (F := F) (t2 k o) c d = some' (g2L d) (slot2S o k) :=
  congrArg (fun S : Finset S3x128x1024.Idx => some' (F := F) (g2L d) S) (slot2_set k o)
theorem free_t4 (o : Fin 7) : free (F := F) (t4 k o) c d = some' (outL d) (tileS (plc c) k) :=
  congrArg (fun S : Finset S1024x1024.Idx => some' (F := F) (outL d) S) (View.set_slice_whole _ _)

end Places

/-! ## Families -/

section Families

variable {ι : Type} [Fintype ι]

theorem deal (Φ Ψ : ι → sProp 𝕄) : bigSep Finset.univ (fun i => iprop(Φ i ∗ Ψ i))
    = iprop(bigSep Finset.univ Φ ∗ bigSep Finset.univ Ψ) := BI.bigSep_sep _ _ _
theorem same {Φ Ψ : ι → sProp 𝕄} (h : ∀ i, Φ i = Ψ i) : bigSep Finset.univ Φ = bigSep Finset.univ Ψ :=
  bigSep_congr fun i _ => h i
theorem each_of {Φ Ψ : ι → sProp 𝕄} (h : ∀ i, Φ i ⊢ Ψ i) : bigSep Finset.univ Φ ⊢ bigSep Finset.univ Ψ :=
  bigSep_mono fun i _ => h i

end Families

section Shares

variable {ℓ : Loc nD τ sig} (S : Finset (Idx ℓ)) (f : Buf (Elt F) ℓ)

/-- A full share is a left half and a right half. -/
theorem halves : (ℓ ↦[S]{fullShare} f : sProp 𝕄) ⊣⊢ iprop((ℓ ↦[S]{fullShare.left} f) ∗ ℓ ↦[S]{fullShare.right} f) :=
  pointsTo_share (PosShare.mem_left_op_right fullShare)

end Shares

/-! ## Cutting a chunk's column into tiles, and a chunk's slots -/

section Cuts

variable (c : Dev nD) (k : Fin 4) (q : PosShare TreeShare)

theorem ach_cut (f : Buf (Elt F) (achL c)) : at' (achL c) (colS k) q f = bigSep Finset.univ fun p : Fin 8 => at' (achL c) (tileS p k) q f :=
  cut (ℓ := achL c) (Kf := fun p : Fin 8 => tileS p k) (fun i : S1024x1024.Idx => rowBlk (i 0))
    (fun p i => (mem_tile p k i).trans (and_congr_left' (mem_col k i).symm)) q f
theorem out_cut (f : Buf (Elt F) (outL c)) : at' (outL c) (colS k) q f = bigSep Finset.univ fun p : Fin 8 => at' (outL c) (tileS p k) q f :=
  cut (ℓ := outL c) (Kf := fun p : Fin 8 => tileS p k) (fun i : S1024x1024.Idx => rowBlk (i 0))
    (fun p i => (mem_tile p k i).trans (and_congr_left' (mem_col k i).symm)) q f
theorem g1_cut (f : Buf (Elt F) (g1L c)) : at' (g1L c) (g1S k) q f = bigSep Finset.univ fun o : Fin 7 => at' (g1L c) (slot1S o k) q f :=
  cut (ℓ := g1L c) (Kf := fun o : Fin 7 => slot1S o k) (fun i : S7x128x1024.Idx => (i 0 : Fin 7))
    (fun o i => (mem_slot1 o k i).trans (and_congr_left' (mem_g1 k i).symm)) q f
theorem g2_cut (f : Buf (Elt F) (g2L c)) : at' (g2L c) (g2S k) q f = bigSep Finset.univ fun o : Fin 3 => at' (g2L c) (slot2S o k) q f :=
  cut (ℓ := g2L c) (Kf := fun o : Fin 3 => slot2S o k) (fun i : S3x128x1024.Idx => (i 0 : Fin 3))
    (fun o i => (mem_slot2 o k i).trans (and_congr_left' (mem_g2 k i).symm)) q f

end Cuts

section Phases

variable (X : Dev nD → Vec F S1024x32 .f32) (W : Dev nD → Vec F S32x1024 .f32)
variable (K : Dev nD × (Unit ⊕ (Xf ⊕ Xf)) → ℕ) (c : Dev nD)

/-- A transfer's target and tokens; its landing and its closed semaphore; its send semaphore's credit; its source back. -/
def sendF (x : Xf) : sProp 𝕄 := iprop(free (F := F) x c (peer x c) ∗ sendT (F := F) x c)
def gotR (x : Xf) : sProp 𝕄 := iprop(land X W x (sender x c) c ∗ semVal (rcell x c) 0)
def credS (x : Xf) : sProp 𝕄 := cred (tallyAt (scell x c) () N)
def backR (x : Xf) : sProp 𝕄 := iprop(srcPts X W x c ∗ semVal (scell x c) 0)

section Loops

variable {ι : Type} [Fintype ι]

/-- A loop over all of a finite type. -/
theorem runs_all (l : List ι) (hl : ∀ Φ : ι → sProp 𝕄, bigSep Finset.univ Φ = bigSepL l Φ)
    (f : ι → Pg F) (P : sProp 𝕄) [BI.Persistent P] (R T : ι → sProp 𝕄) (C : List ι → sProp 𝕄)
    (h : ∀ i rest, iprop(P ∗ R i ∗ C (i :: rest)) ⊢ runs c (f i) iprop(T i ∗ C rest)) :
    iprop(P ∗ bigSep Finset.univ R ∗ C l) ⊢ runs c (each f l) iprop(bigSep Finset.univ T ∗ C []) := by
  rw [hl R, hl T]
  exact runs_each c f P R T C h l

theorem send_all (l : List ι) (hl : ∀ Φ : ι → sProp 𝕄, bigSep Finset.univ Φ = bigSepL l Φ)
    (xs : ι → Xf) (O : CellTallies nD τ sig Unit) :
    iprop(ctx X W K ∗ (bigSep Finset.univ fun o => iprop(srcPts X W (xs o) c ∗ sendF (F := F) c (xs o)))
        ∗ ow c (obs (fun o => tx c (xs o)) l + O))
      ⊢ runs c (each (fun o => sendP c (xs o)) l) iprop((bigSep Finset.univ fun o => credS (F := F) c (xs o)) ∗ ow c O) := by
  have h := runs_all c l hl (fun o => sendP (F := F) c (xs o)) (ctx X W K)
    (fun o => iprop(srcPts X W (xs o) c ∗ sendF (F := F) c (xs o))) (fun o => credS (F := F) c (xs o))
    (fun r => ow c (obs (fun o => tx c (xs o)) r + O)) (fun i rest => by
      have e : obs (fun o => tx c (xs o)) (i :: rest) + O = tx c (xs i) + (obs (fun o => tx c (xs o)) rest + O) :=
        add_assoc _ _ _
      rw [e]
      exact send_step X W K c (xs i) _)
  have e0 : obs (fun o => tx c (xs o)) [] + O = O := zero_add O
  rwa [e0] at h

theorem recv_all (l : List ι) (hl : ∀ Φ : ι → sProp 𝕄, bigSep Finset.univ Φ = bigSepL l Φ)
    (xs : ι → Xf) {n : ℕ} (hn : ∀ o, lvs (.dma (rS (xs o))) ≤ n) (O : CellTallies nD τ sig Unit) (hO : Above n O) :
    iprop(ctx X W K ∗ (bigSep Finset.univ fun o => waitR (F := F) (.inr (xs o)) c) ∗ ow c O)
      ⊢ runs c (each (fun o => recvP c (xs o)) l) iprop((bigSep Finset.univ fun o => gotR X W c (xs o)) ∗ ow c O) :=
  runs_all c l hl (fun o => recvP (F := F) c (xs o)) (ctx X W K) _ (fun o => gotR X W c (xs o)) (fun _ => ow c O)
    fun i rest => recv_step X W K c (xs i) (hn i) O hO

theorem done_all (l : List ι) (hl : ∀ Φ : ι → sProp 𝕄, bigSep Finset.univ Φ = bigSepL l Φ)
    (xs : ι → Xf) :
    iprop(ctx X W K ∗ (bigSep Finset.univ fun o => waitR (F := F) (.inl (xs o)) c) ∗ ow c 0)
      ⊢ runs c (each (fun o => doneP c (xs o)) l) iprop((bigSep Finset.univ fun o => backR X W c (xs o)) ∗ ow c 0) :=
  runs_all c l hl (fun o => doneP (F := F) c (xs o)) (ctx X W K) _ (fun o => backR X W c (xs o)) (fun _ => ow c 0)
    fun i rest => done_step X W K c (xs i)

end Loops

/-! ## First phase: round a chunk of the product and send its tiles -/

/-- A rounded chunk: the device's own tile, and the seven tiles it sends. -/
theorem ach_deal (k : Fin 4) : at' (achL c) (colS k) fullShare (achC X W c)
    = iprop(at' (achL c) (tileS (plc c) k) fullShare (achC X W c) ∗ bigSep Finset.univ fun o : Fin 7 => srcPts X W (t1 k o) c) := by
  rw [ach_cut, places c, same fun o => src_t1 X W c k o]

def R1 (k : Fin 4) : sProp 𝕄 :=
  iprop(some' (F := F) (achL c) (colS k) ∗ bigSep Finset.univ fun o : Fin 7 => sendF (F := F) c (t1 k o))
def T1 (k : Fin 4) : sProp 𝕄 :=
  iprop(at' (achL c) (tileS (plc c) k) fullShare (achC X W c) ∗ bigSep Finset.univ fun o : Fin 7 => credS (F := F) c (t1 k o))

theorem phase1_step (k : Fin 4) (O : CellTallies nD τ sig Unit) :
    iprop(ctx X W K ∗ R1 (F := F) c k ∗ at' (accL c) Finset.univ fullShare (accC X W c) ∗ ow c (ox1 c k + O))
      ⊢ runs c (phase1 (route c) k) iprop(T1 X W c k ∗ at' (accL c) Finset.univ fullShare (accC X W c) ∗ ow c O) := by
  unfold phase1 R1 T1
  rw [runs_bind]
  iintro ⟨#Hc, ⟨Hh, Hf⟩, Ha, HO⟩
  iapply (runs_wand c (cast1P k) _ _)
  isplitl [Ha Hh]
  · iapply (cast1_step X W c k)
    isplitl [Ha]; · iexact Ha
    iexact Hh
  iintro ⟨Ha, Hh⟩
  ihave Hh := (Entails.of_eq (ach_deal X W c k)) $$ Hh
  icases Hh with ⟨Hown, Hs⟩
  iapply (runs_wand c (each (send1P (route c) k) l7) _ _)
  isplitl [Hs Hf HO]
  · iapply (send_all X W K c l7 all7 (t1 k) O)
    isplitr; · iexact Hc
    isplitl [Hs Hf]
    · rw [deal]
      isplitl [Hs]; · iexact Hs
      iexact Hf
    iexact HO
  iintro ⟨Hcr, HO⟩
  isplitl [Hown Hcr]
  · isplitl [Hown]; · iexact Hown
    iexact Hcr
  isplitl [Ha]; · iexact Ha
  iexact HO

/-! ## Second phase: receive the chunk's tiles, sum them and send the sum -/

/-- The seven slots of a chunk, landed. -/
theorem g1_join (k : Fin 4) : (bigSep Finset.univ fun o : Fin 7 => gotR X W c (t1 k o))
    = iprop(at' (g1L c) (g1S k) fullShare (g1C X W c) ∗ bigSep Finset.univ fun o : Fin 7 => semVal (rcell (t1 k o) c) 0) := by
  unfold gotR
  rw [deal, same fun o => land_t1 X W (sender (t1 k o) c) c k o]
  rw [g1_cut]
theorem g2_join (k : Fin 4) : (bigSep Finset.univ fun o : Fin 3 => gotR X W c (t2 k o))
    = iprop(at' (g2L c) (g2S k) fullShare (g2C X W c) ∗ bigSep Finset.univ fun o : Fin 3 => semVal (rcell (t2 k o) c) 0) := by
  unfold gotR
  rw [deal, same fun o => land_t2 X W (sender (t2 k o) c) c k o]
  rw [g2_cut]

/-- The device's rounded sum, kept and dealt to the three sends. -/
theorem rch_deal (k : Fin 4) : at' (achL c) (tileS (plc c) k) fullShare (rchC X W c)
    ⊣⊢ iprop(at' (achL c) (tileS (plc c) k) (shareDrop fullShare 3) (rchC X W c)
      ∗ bigSep Finset.univ fun o : Fin 3 => srcPts X W (t2 k o) c) := by
  rw [same fun o => src_t2 X W c k o]
  exact Transfers.pointsTo_toks fullShare 3

def R2 (k : Fin 4) : sProp 𝕄 :=
  iprop((bigSep Finset.univ fun o : Fin 7 => waitR (F := F) (.inr (t1 k o)) c)
    ∗ at' (achL c) (tileS (plc c) k) fullShare (achC X W c) ∗ some' (F := F) (redL c) (rcolS k)
    ∗ bigSep Finset.univ fun o : Fin 3 => sendF (F := F) c (t2 k o))
def T2 (k : Fin 4) : sProp 𝕄 :=
  iprop((bigSep Finset.univ fun o : Fin 7 => semVal (rcell (t1 k o) c) 0)
    ∗ at' (g1L c) (g1S k) fullShare (g1C X W c) ∗ at' (redL c) (rcolS k) fullShare (redC X W c)
    ∗ at' (achL c) (tileS (plc c) k) (shareDrop fullShare 3) (rchC X W c)
    ∗ bigSep Finset.univ fun o : Fin 3 => credS (F := F) c (t2 k o))

theorem phase2_step (k : Fin 4) (O : CellTallies nD τ sig Unit) (hO : Above 2 (ox2 c k + O)) :
    iprop(ctx X W K ∗ R2 X W c k ∗ at' (accL c) Finset.univ fullShare (accC X W c) ∗ ow c (ox2 c k + O))
      ⊢ runs c (phase2 (route c) k) iprop(T2 X W c k ∗ at' (accL c) Finset.univ fullShare (accC X W c) ∗ ow c O) := by
  unfold phase2 R2 T2
  rw [runs_bind, runs_bind]
  iintro ⟨#Hc, ⟨Hw, Hown, Hr, Hf⟩, Ha, HO⟩
  iapply (runs_wand c (each (recv1P (route c) k) l7) _ _)
  isplitl [Hw HO]
  · iapply (recv_all X W K c l7 all7 (t1 k) (fun o => le_of_eq (lvs_r1 k o)) _ hO)
    isplitr; · iexact Hc
    isplitl [Hw]; · iexact Hw
    iexact HO
  iintro ⟨Hg, HO⟩
  ihave Hg := (Entails.of_eq (g1_join X W c k)) $$ Hg
  icases Hg with ⟨Hg, Hz⟩
  iapply (runs_wand c (sum1P (route c) k) _ _)
  isplitl [Ha Hg Hr Hown]
  · iapply (sum1_step X W c k)
    isplitl [Ha]; · iexact Ha
    isplitl [Hg]; · iexact Hg
    isplitl [Hr]; · iexact Hr
    iexists _; iexact Hown
  iintro ⟨Ha, Hg, Hr, Hown⟩
  ihave Hown := (rch_deal X W c k).1 $$ Hown
  icases Hown with ⟨Hown, Hs⟩
  iapply (runs_wand c (each (send2P (route c) k) l3) _ _)
  isplitl [Hs Hf HO]
  · iapply (send_all X W K c l3 all3 (t2 k) O)
    isplitr; · iexact Hc
    isplitl [Hs Hf]
    · rw [deal]
      isplitl [Hs]; · iexact Hs
      iexact Hf
    iexact HO
  iintro ⟨Hcr, HO⟩
  isplitl [Hz Hg Hr Hown Hcr]
  · isplitl [Hz]; · iexact Hz
    isplitl [Hg]; · iexact Hg
    isplitl [Hr]; · iexact Hr
    isplitl [Hown]; · iexact Hown
    iexact Hcr
  isplitl [Ha]; · iexact Ha
  iexact HO

/-! ## Third phase: receive the group's sums, add them and send the result -/

/-- The device's own tile of the result: half to read, half dealt to the seven sends. -/
theorem out_deal (k : Fin 4) : at' (outL c) (tileS (plc c) k) fullShare (outC X W c)
    ⊣⊢ iprop(at' (outL c) (tileS (plc c) k) fullShare.left (outC X W c)
      ∗ at' (outL c) (tileS (plc c) k) (shareDrop fullShare.right 7) (outC X W c)
      ∗ bigSep Finset.univ fun o : Fin 7 => srcPts X W (t4 k o) c) := by
  rw [same fun o => src_t4 X W c k o]
  have h := halves (F := F) (ℓ := outL c) (tileS (plc c) k) (outC X W c)
  have h' := Transfers.pointsTo_toks (nD := nD) (ℓ := outL c) (S := tileS (plc c) k) (f := outC X W c) (Ix := Unit) (Name := ℕ) (U := UU)
    (Lvl := ℕ) (Val := Elt F) fullShare.right 7
  constructor
  · iintro H
    ihave H := h.1 $$ H
    icases H with ⟨H1, H2⟩
    ihave H2 := h'.1 $$ H2
    isplitl [H1]; · iexact H1
    iexact H2
  · iintro ⟨H1, H2⟩
    ihave H2 := h'.2 $$ H2
    iapply h.2
    isplitl [H1]; · iexact H1
    iexact H2

def R3 (k : Fin 4) : sProp 𝕄 :=
  iprop((bigSep Finset.univ fun o : Fin 3 => waitR (F := F) (.inr (t2 k o)) c)
    ∗ at' (redL c) (rcolS k) fullShare (redC X W c) ∗ some' (F := F) (outL c) (tileS (plc c) k)
    ∗ bigSep Finset.univ fun o : Fin 7 => sendF (F := F) c (t4 k o))
def T3 (k : Fin 4) : sProp 𝕄 :=
  iprop((bigSep Finset.univ fun o : Fin 3 => semVal (rcell (t2 k o) c) 0)
    ∗ at' (g2L c) (g2S k) fullShare (g2C X W c) ∗ at' (redL c) (rcolS k) fullShare (redC X W c)
    ∗ at' (outL c) (tileS (plc c) k) fullShare.left (outC X W c)
    ∗ at' (outL c) (tileS (plc c) k) (shareDrop fullShare.right 7) (outC X W c)
    ∗ bigSep Finset.univ fun o : Fin 7 => credS (F := F) c (t4 k o))

theorem phase3_step (k : Fin 4) (O : CellTallies nD τ sig Unit) (hO : Above 3 (ox4 c k + O)) :
    iprop(ctx X W K ∗ R3 X W c k ∗ ow c (ox4 c k + O)) ⊢ runs c (phase3 (route c) k) iprop(T3 X W c k ∗ ow c O) := by
  unfold phase3 R3 T3
  rw [runs_bind, runs_bind]
  iintro ⟨#Hc, ⟨Hw, Hr, Ho, Hf⟩, HO⟩
  iapply (runs_wand c (each (recv2P (route c) k) l3) _ _)
  isplitl [Hw HO]
  · iapply (recv_all X W K c l3 all3 (t2 k) (fun o => le_of_eq (lvs_r2 k o)) _ hO)
    isplitr; · iexact Hc
    isplitl [Hw]; · iexact Hw
    iexact HO
  iintro ⟨Hg, HO⟩
  ihave Hg := (Entails.of_eq (g2_join X W c k)) $$ Hg
  icases Hg with ⟨Hg, Hz⟩
  iapply (runs_wand c (sum2P (route c) k) _ _)
  isplitl [Hg Hr Ho]
  · iapply (sum2_step X W c k)
    isplitl [Hr]; · iexact Hr
    isplitl [Hg]; · iexact Hg
    iexact Ho
  iintro ⟨Hr, Hg, Ho⟩
  ihave Ho := (out_deal X W c k).1 $$ Ho
  icases Ho with ⟨Ho, Hd, Hs⟩
  iapply (runs_wand c (each (send4P (route c) k) l7) _ _)
  isplitl [Hs Hf HO]
  · iapply (send_all X W K c l7 all7 (t4 k) O)
    isplitr; · iexact Hc
    isplitl [Hs Hf]
    · rw [deal]
      isplitl [Hs]; · iexact Hs
      iexact Hf
    iexact HO
  iintro ⟨Hcr, HO⟩
  isplitr [HO]
  · isplitl [Hz]; · iexact Hz
    isplitl [Hg]; · iexact Hg
    isplitl [Hr]; · iexact Hr
    isplitl [Ho]; · iexact Ho
    isplitl [Hd]; · iexact Hd
    iexact Hcr
  iexact HO

/-! ## Fourth phase: receive the cube's results and widen the chunk -/

/-- The seven tiles of the result that landed: half of each to read, half to keep. -/
theorem got4 (k : Fin 4) : (bigSep Finset.univ fun o : Fin 7 => gotR X W c (t4 k o))
    ⊢ iprop((bigSep Finset.univ fun o : Fin 7 => at' (outL c) (tileS (plc (cubFrom o c)) k) fullShare.left (outC X W c))
      ∗ (bigSep Finset.univ fun o : Fin 7 => at' (outL c) (tileS (plc (cubFrom o c)) k) fullShare.right (outC X W c))
      ∗ bigSep Finset.univ fun o : Fin 7 => semVal (rcell (t4 k o) c) 0) := by
  unfold gotR
  rw [← deal, ← deal]
  refine each_of fun o => ?_
  rw [show land X W (t4 k o) (sender (t4 k o) c) c = _ from land_t4 X W (sender (t4 k o) c) c k o]
  iintro ⟨H, Hz⟩
  ihave H := (halves (F := F) (ℓ := outL c) _ _).1 $$ H
  icases H with ⟨H1, H2⟩
  isplitl [H1]; · iexact H1
  isplitl [H2]; · iexact H2
  iexact Hz

/-- A chunk of the result is the device's own tile and the seven it received. -/
theorem out_col (k : Fin 4) (q : PosShare TreeShare) : at' (outL c) (colS k) q (outC X W c)
    = iprop(at' (outL c) (tileS (plc c) k) q (outC X W c)
      ∗ bigSep Finset.univ fun o : Fin 7 => at' (outL c) (tileS (plc (cubFrom o c)) k) q (outC X W c)) := by
  rw [out_cut, places_from c]

def R4 (k : Fin 4) : sProp 𝕄 :=
  iprop((bigSep Finset.univ fun o : Fin 7 => waitR (F := F) (.inr (t4 k o)) c)
    ∗ at' (outL c) (tileS (plc c) k) fullShare.left (outC X W c) ∗ some' (F := F) (oL c) (colS k))
def T4 (k : Fin 4) : sProp 𝕄 :=
  iprop((bigSep Finset.univ fun o : Fin 7 => semVal (rcell (t4 k o) c) 0)
    ∗ at' (outL c) (colS k) fullShare.left (outC X W c)
    ∗ (bigSep Finset.univ fun o : Fin 7 => at' (outL c) (tileS (plc (cubFrom o c)) k) fullShare.right (outC X W c))
    ∗ at' (oL c) (colS k) fullShare (resC X W c))

theorem phase4_step (k : Fin 4) :
    iprop(ctx X W K ∗ R4 X W c k ∗ ow c 0) ⊢ runs c (phase4 (route c) k) iprop(T4 X W c k ∗ ow c 0) := by
  unfold phase4 R4 T4
  rw [runs_bind]
  iintro ⟨#Hc, ⟨Hw, Ho, Hres⟩, HO⟩
  iapply (runs_wand c (each (recv4P (route c) k) l7) _ _)
  isplitl [Hw HO]
  · iapply (recv_all X W K c l7 all7 (t4 k) (fun o => le_of_eq (lvs_r4 k o)) 0 (above_zero 4))
    isplitr; · iexact Hc
    isplitl [Hw]; · iexact Hw
    iexact HO
  iintro ⟨Hg, HO⟩
  ihave Hg := (got4 X W c k) $$ Hg
  icases Hg with ⟨Hl, Hr, Hz⟩
  iapply (runs_wand c (outP k) _ _)
  isplitl [Ho Hl Hres]
  · iapply (out_step X W c k fullShare.left)
    isplitl [Ho Hl]
    · rw [out_col]
      isplitl [Ho]; · iexact Ho
      iexact Hl
    iexact Hres
  iintro ⟨Ho, Hres⟩
  isplitr [HO]
  · isplitl [Hz]; · iexact Hz
    isplitl [Ho]; · iexact Ho
    isplitl [Hr]; · iexact Hr
    iexact Hres
  iexact HO

end Phases

end Cert.IdealRun

end

end
-- ==== Proof.Ideal.Body.lean ====
/-
The body of a device as a whole: what it needs at launch, and what it leaves.
-/
module

public import proofs.«01_k».proof.Proof.Ideal.Phases

@[expose] public section

noncomputable section

namespace Cert.IdealRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## Cutting a whole buffer by chunks -/

section Whole

variable (c : Dev nD)

theorem of_univ {ι T : Type} [Fintype ι] {Kf : T → Finset ι} {key : ι → T} (h : ∀ t i, Iff (i ∈ Kf t) (key i = t)) :
    ∀ t i, Iff (i ∈ Kf t) (i ∈ (Finset.univ : Finset ι) ∧ key i = t) :=
  fun t i => (h t i).trans ⟨fun e => ⟨Finset.mem_univ i, e⟩, fun e => e.2⟩

theorem ach_cols : some' (F := F) (achL c) Finset.univ ⊢ bigSep Finset.univ fun k : Fin 4 => some' (F := F) (achL c) (colS k) :=
  cut_some (ℓ := achL c) (Kf := colS) (fun i : S1024x1024.Idx => chunk (i 1)) (of_univ mem_col)
theorem ach_whole : (bigSep Finset.univ fun k : Fin 4 => some' (F := F) (achL c) (colS k)) ⊢ some' (F := F) (achL c) Finset.univ :=
  join_some (ℓ := achL c) (Kf := colS) (fun i : S1024x1024.Idx => chunk (i 1)) 0 (of_univ mem_col)
theorem out_cols : some' (F := F) (outL c) Finset.univ ⊢ bigSep Finset.univ fun k : Fin 4 => some' (F := F) (outL c) (colS k) :=
  cut_some (ℓ := outL c) (Kf := colS) (fun i : S1024x1024.Idx => chunk (i 1)) (of_univ mem_col)
theorem out_whole : (bigSep Finset.univ fun k : Fin 4 => some' (F := F) (outL c) (colS k)) ⊢ some' (F := F) (outL c) Finset.univ :=
  join_some (ℓ := outL c) (Kf := colS) (fun i : S1024x1024.Idx => chunk (i 1)) 0 (of_univ mem_col)
theorem res_cols : some' (F := F) (oL c) Finset.univ ⊢ bigSep Finset.univ fun k : Fin 4 => some' (F := F) (oL c) (colS k) :=
  cut_some (ℓ := oL c) (Kf := colS) (fun i : S1024x1024.Idx => chunk (i 1)) (of_univ mem_col)
theorem res_whole (f : Buf (Elt F) (oL c)) :
    at' (oL c) Finset.univ fullShare f = bigSep Finset.univ fun k : Fin 4 => at' (oL c) (colS k) fullShare f :=
  cut (ℓ := oL c) (Kf := colS) (fun i : S1024x1024.Idx => chunk (i 1)) (of_univ mem_col) fullShare f
theorem red_cols : some' (F := F) (redL c) Finset.univ ⊢ bigSep Finset.univ fun k : Fin 4 => some' (F := F) (redL c) (rcolS k) :=
  cut_some (ℓ := redL c) (Kf := rcolS) (fun i : S128x1024.Idx => chunk (i 1)) (of_univ mem_rcol)
theorem red_whole : (bigSep Finset.univ fun k : Fin 4 => some' (F := F) (redL c) (rcolS k)) ⊢ some' (F := F) (redL c) Finset.univ :=
  join_some (ℓ := redL c) (Kf := rcolS) (fun i : S128x1024.Idx => chunk (i 1)) 0 (of_univ mem_rcol)
theorem g1_cols : some' (F := F) (g1L c) Finset.univ ⊢ bigSep Finset.univ fun k : Fin 4 => some' (F := F) (g1L c) (g1S k) :=
  cut_some (ℓ := g1L c) (Kf := g1S) (fun i : S7x128x1024.Idx => chunk (i 2)) (of_univ mem_g1)
theorem g1_whole : (bigSep Finset.univ fun k : Fin 4 => some' (F := F) (g1L c) (g1S k)) ⊢ some' (F := F) (g1L c) Finset.univ :=
  join_some (ℓ := g1L c) (Kf := g1S) (fun i : S7x128x1024.Idx => chunk (i 2)) 0 (of_univ mem_g1)
theorem g2_cols : some' (F := F) (g2L c) Finset.univ ⊢ bigSep Finset.univ fun k : Fin 4 => some' (F := F) (g2L c) (g2S k) :=
  cut_some (ℓ := g2L c) (Kf := g2S) (fun i : S3x128x1024.Idx => chunk (i 2)) (of_univ mem_g2)
theorem g2_whole : (bigSep Finset.univ fun k : Fin 4 => some' (F := F) (g2L c) (g2S k)) ⊢ some' (F := F) (g2L c) Finset.univ :=
  join_some (ℓ := g2L c) (Kf := g2S) (fun i : S3x128x1024.Idx => chunk (i 2)) 0 (of_univ mem_g2)

/-- A chunk's slots and tiles, at some content. -/
theorem g1_slots (k : Fin 4) : some' (F := F) (g1L c) (g1S k) ⊢ bigSep Finset.univ fun o : Fin 7 => some' (F := F) (g1L c) (slot1S o k) :=
  cut_some (ℓ := g1L c) (Kf := fun o => slot1S o k) (fun i : S7x128x1024.Idx => (i 0 : Fin 7))
    (fun o i => (mem_slot1 o k i).trans (and_congr_left' (mem_g1 k i).symm))
theorem g2_slots (k : Fin 4) : some' (F := F) (g2L c) (g2S k) ⊢ bigSep Finset.univ fun o : Fin 3 => some' (F := F) (g2L c) (slot2S o k) :=
  cut_some (ℓ := g2L c) (Kf := fun o => slot2S o k) (fun i : S3x128x1024.Idx => (i 0 : Fin 3))
    (fun o i => (mem_slot2 o k i).trans (and_congr_left' (mem_g2 k i).symm))
theorem out_tiles (k : Fin 4) : some' (F := F) (outL c) (colS k) ⊢ iprop(some' (F := F) (outL c) (tileS (plc c) k)
    ∗ bigSep Finset.univ fun o : Fin 7 => some' (F := F) (outL c) (tileS (plc (cub o c)) k)) := by
  have h := cut_some (F := F) (ℓ := outL c) (Kf := fun p : Fin 8 => tileS p k) (fun i : S1024x1024.Idx => rowBlk (i 0))
    (fun p i => (mem_tile p k i).trans (and_congr_left' (mem_col k i).symm))
  rw [places c] at h
  exact h
theorem ach_tiles_join (k : Fin 4) : iprop(some' (F := F) (achL c) (tileS (plc c) k)
    ∗ bigSep Finset.univ fun o : Fin 7 => some' (F := F) (achL c) (tileS (plc (cub o c)) k)) ⊢ some' (F := F) (achL c) (colS k) := by
  have h := join_some (F := F) (ℓ := achL c) (Kf := fun p : Fin 8 => tileS p k) (fun i : S1024x1024.Idx => rowBlk (i 0)) 0
    (fun p i => (mem_tile p k i).trans (and_congr_left' (mem_col k i).symm))
  rw [places c] at h
  exact h

end Whole

/-! ## The barrier's hand-over -/

section Barrier

variable (c : Dev nD)

theorem bar_cub : ∀ (o : Fin 7) (c : Dev nD), bar (Fin.castAdd 3 o) c = cub o c := by decide +kernel
theorem bar_col : ∀ (o : Fin 3) (c : Dev nD), bar (Fin.natAdd 7 o) c = col o c := by decide +kernel
theorem back_cub : ∀ o : Fin 7, back (Fin.castAdd 3 o) = Fin.castAdd 3 (Fin.rev o) := by decide
theorem back_col : ∀ o : Fin 3, back (Fin.natAdd 7 o) = Fin.natAdd 7 (Fin.rev o) := by decide
theorem cub_rev (o : Fin 7) (c : Dev nD) : cub (Fin.rev o) (cub o c) = c := by
  have h := bar_back (Fin.castAdd 3 o) c
  rwa [back_cub, bar_cub, bar_cub] at h
theorem col_rev (o : Fin 3) (c : Dev nD) : col (Fin.rev o) (col o c) = c := by
  have h := bar_back (Fin.natAdd 7 o) c
  rwa [back_col, bar_col, bar_col] at h

theorem pay_cub (o : Fin 7) : barPay (F := F) c (Fin.castAdd 3 o)
    = bigSep Finset.univ fun k : Fin 4 => iprop(free (F := F) (t1 k o) c (cub o c) ∗ free (F := F) (t4 k o) c (cub o c)) := by
  unfold barPay
  rw [dif_pos (show (Fin.castAdd 3 o).val < 7 from o.isLt), all4, bar_cub]
  rfl
theorem pay_col (o : Fin 3) : barPay (F := F) c (Fin.natAdd 7 o)
    = bigSep Finset.univ fun k : Fin 4 => free (F := F) (t2 k o) c (col o c) := by
  unfold barPay
  rw [dif_neg (show ¬ (Fin.natAdd 7 o).val < 7 from Nat.not_lt.mpr (Nat.le_add_right 7 o.val)), all4, bar_col]
  have h : ∀ h', (⟨(Fin.natAdd 7 o).val - 7, h'⟩ : Fin 3) = o := fun h' => Fin.ext (Nat.add_sub_cancel_left 7 o.val)
  rw [h]

/-- All ten payments of a device's barrier: the targets of all its transfers. -/
theorem pay_all : bigSepL l10 (barPay (F := F) c) = iprop(
    ((bigSep Finset.univ fun k : Fin 4 => bigSep Finset.univ fun o : Fin 7 => free (F := F) (t1 k o) c (peer (t1 k o) c))
      ∗ bigSep Finset.univ fun k : Fin 4 => bigSep Finset.univ fun o : Fin 7 => free (F := F) (t4 k o) c (peer (t4 k o) c))
    ∗ bigSep Finset.univ fun k : Fin 4 => bigSep Finset.univ fun o : Fin 3 => free (F := F) (t2 k o) c (peer (t2 k o) c)) := by
  rw [← all10, ten, same fun o => pay_cub c o, same fun o => pay_col c o, same fun o => deal _ _, deal,
    bigSep_univ_comm, bigSep_univ_comm (fun (o : Fin 7) (k : Fin 4) => free (F := F) (t4 k o) c (cub o c)),
    bigSep_univ_comm (fun (o : Fin 3) (k : Fin 4) => free (F := F) (t2 k o) c (col o c))]
  rfl

/-- The ten payments a device makes: its landing slots, and its tiles of every other place. -/
theorem pay_out : (bigSep Finset.univ fun i : Fin 10 => barPay (F := F) (bar i c) (back i)) = iprop(
    ((bigSep Finset.univ fun o : Fin 7 => bigSep Finset.univ fun k : Fin 4 => some' (F := F) (g1L c) (slot1S o k))
      ∗ bigSep Finset.univ fun o : Fin 7 => bigSep Finset.univ fun k : Fin 4 => some' (F := F) (outL c) (tileS (plc (cub o c)) k))
    ∗ bigSep Finset.univ fun o : Fin 3 => bigSep Finset.univ fun k : Fin 4 => some' (F := F) (g2L c) (slot2S o k)) := by
  have h1 : ∀ o : Fin 7, barPay (F := F) (bar (Fin.castAdd 3 o) c) (back (Fin.castAdd 3 o))
      = iprop((bigSep Finset.univ fun k : Fin 4 => some' (F := F) (g1L c) (slot1S (Fin.rev o) k))
        ∗ bigSep Finset.univ fun k : Fin 4 => some' (F := F) (outL c) (tileS (plc (cub o c)) k)) := fun o => by
    rw [back_cub, bar_cub, pay_cub, cub_rev, deal, same fun k => free_t1 (cub o c) c k (Fin.rev o), same fun k => free_t4 (cub o c) c k (Fin.rev o)]
  have h2 : ∀ o : Fin 3, barPay (F := F) (bar (Fin.natAdd 7 o) c) (back (Fin.natAdd 7 o))
      = bigSep Finset.univ fun k : Fin 4 => some' (F := F) (g2L c) (slot2S (Fin.rev o) k) := fun o => by
    rw [back_col, bar_col, pay_col, col_rev, same fun k => free_t2 (col o c) c k (Fin.rev o)]
  rw [ten, same h1, same h2, deal,
    bigSep_univ_equiv Fin.revPerm (fun o : Fin 7 => bigSep Finset.univ fun k : Fin 4 => some' (F := F) (g1L c) (slot1S o k)),
    bigSep_univ_equiv Fin.revPerm (fun o : Fin 3 => bigSep Finset.univ fun k : Fin 4 => some' (F := F) (g2L c) (slot2S o k))]
  rfl

/-- The landing buffers and the result buffer give what the device's signals hand over; the device's own tiles stay. -/
theorem give : iprop(some' (F := F) (g1L c) Finset.univ ∗ some' (F := F) (g2L c) Finset.univ ∗ some' (F := F) (outL c) Finset.univ)
    ⊢ iprop((bigSep Finset.univ fun i : Fin 10 => barPay (F := F) (bar i c) (back i))
      ∗ bigSep Finset.univ fun k : Fin 4 => some' (F := F) (outL c) (tileS (plc c) k)) := by
  rw [pay_out, bigSep_univ_comm (fun (o : Fin 7) (k : Fin 4) => some' (F := F) (g1L c) (slot1S o k)),
    bigSep_univ_comm (fun (o : Fin 7) (k : Fin 4) => some' (F := F) (outL c) (tileS (plc (cub o c)) k)),
    bigSep_univ_comm (fun (o : Fin 3) (k : Fin 4) => some' (F := F) (g2L c) (slot2S o k))]
  have h1 := (g1_cols (F := F) c).trans (each_of fun k => g1_slots c k)
  have h2 := (g2_cols (F := F) c).trans (each_of fun k => g2_slots c k)
  have h3 := (out_cols (F := F) c).trans (each_of fun k => out_tiles c k)
  rw [deal] at h3
  iintro ⟨H1, H2, H3⟩
  ihave H1 := h1 $$ H1
  ihave H2 := h2 $$ H2
  ihave H3 := h3 $$ H3
  icases H3 with ⟨Ho, H3⟩
  isplitr [Ho]
  · isplitr [H2]
    · isplitl [H1]; · iexact H1
      iexact H3
    iexact H2
  iexact Ho

end Barrier

section Body

variable (X : Dev nD → Vec F S1024x32 .f32) (W : Dev nD → Vec F S32x1024 .f32)
variable (K : Dev nD × (Unit ⊕ (Xf ⊕ Xf)) → ℕ) (c : Dev nD)

/-! ## The buffers at the end -/

/-- Sources and kept tiles join to the whole rounding buffer. -/
theorem ach_end : iprop((bigSep Finset.univ fun k : Fin 4 => at' (achL c) (tileS (plc c) k) (shareDrop fullShare 3) (rchC X W c))
      ∗ (bigSep Finset.univ fun k : Fin 4 => bigSep Finset.univ fun o : Fin 7 => srcPts X W (t1 k o) c)
      ∗ bigSep Finset.univ fun k : Fin 4 => bigSep Finset.univ fun o : Fin 3 => srcPts X W (t2 k o) c)
    ⊢ some' (F := F) (achL c) Finset.univ := by
  rw [← deal, ← deal]
  refine BI.Entails.trans (each_of fun k => ?_) (ach_whole c)
  have h : (bigSep Finset.univ fun o : Fin 7 => srcPts X W (t1 k o) c)
      ⊢ bigSep Finset.univ fun o : Fin 7 => some' (F := F) (achL c) (tileS (plc (cub o c)) k) :=
    each_of fun o => (Entails.of_eq (src_t1 X W c k o)).trans (some_intro _ _)
  iintro ⟨H1, H2, H3⟩
  iapply (ach_tiles_join (F := F) c k)
  isplitl [H1 H3]
  · iexists (rchC X W c)
    iapply (rch_deal X W c k).2
    isplitl [H1]; · iexact H1
    iexact H3
  iapply h
  iexact H2

/-- The pieces of the result buffer join to the whole. -/
theorem out_end : iprop((bigSep Finset.univ fun k : Fin 4 => at' (outL c) (tileS (plc c) k) (shareDrop fullShare.right 7) (outC X W c))
      ∗ (bigSep Finset.univ fun k : Fin 4 => bigSep Finset.univ fun o : Fin 7 => srcPts X W (t4 k o) c)
      ∗ (bigSep Finset.univ fun k : Fin 4 => bigSep Finset.univ fun o : Fin 7 =>
          at' (outL c) (tileS (plc (cubFrom o c)) k) fullShare.right (outC X W c))
      ∗ bigSep Finset.univ fun k : Fin 4 => at' (outL c) (colS k) fullShare.left (outC X W c))
    ⊢ some' (F := F) (outL c) Finset.univ := by
  rw [← deal, ← deal, ← deal]
  refine BI.Entails.trans (each_of fun k => ?_) (out_whole c)
  have h : iprop(at' (outL c) (tileS (plc c) k) (shareDrop fullShare.right 7) (outC X W c)
      ∗ bigSep Finset.univ fun o : Fin 7 => srcPts X W (t4 k o) c)
      ⊢ at' (outL c) (tileS (plc c) k) fullShare.right (outC X W c) := by
    rw [same fun o => src_t4 X W c k o]
    exact (Transfers.pointsTo_toks fullShare.right 7).2
  iintro ⟨H1, H2, H3, H4⟩
  iexists (outC X W c)
  iapply (halves (F := F) (ℓ := outL c) (colS k) (outC X W c)).2
  isplitl [H4]; · iexact H4
  iapply (Entails.of_eq (out_col X W c k fullShare.right).symm)
  isplitl [H1 H2]
  · iapply h
    isplitl [H1]; · iexact H1
    iexact H2
  iexact H3

/-! ## What a device starts from and ends with -/

/-- The tokens and positions of a device at launch. -/
def seed : sProp 𝕄 :=
  iprop((bigSep Finset.univ fun x : Xf => sendT (F := F) x c)
    ∗ (bigSep Finset.univ fun x : Xf => waitR (F := F) (.inr x) c)
    ∗ (bigSep Finset.univ fun x : Xf => atPos ER (scell x c) 0 ∅ 0)
    ∗ (bigSep Finset.univ fun i : Fin 10 => dutyTok ER (bcell (bar i c)) 0 (back i))
    ∗ atPos ER (bcell c) 0 ∅ 0 ∗ cred (tallyAt (bcell c) () 10))

/-- A device's scratch buffers, at some content. -/
def scratch : sProp 𝕄 :=
  iprop(some' (F := F) (accL c) Finset.univ ∗ some' (F := F) (achL c) Finset.univ ∗ some' (F := F) (redL c) Finset.univ
    ∗ some' (F := F) (outL c) Finset.univ ∗ some' (F := F) (g1L c) Finset.univ ∗ some' (F := F) (g2L c) Finset.univ)

/-- A device's semaphores, closed. -/
def closed : sProp 𝕄 :=
  iprop((bigSep Finset.univ fun x : Xf => semVal (scell x c) 0) ∗ (bigSep Finset.univ fun x : Xf => semVal (rcell x c) 0)
    ∗ semVal (bcell c) 0)

/-! ## The loops over the chunks -/

theorem signals : iprop(ctx X W K ∗ (bigSep Finset.univ fun i : Fin 10 => sigR (F := F) c i) ∗ ow c (O₀ c))
    ⊢ runs c (each (sigP (route c)) l10) (ow c (Otx c)) := by
  have h := runs_all c l10 all10 (sigP (F := F) (route c)) (ctx X W K) (fun i => sigR (F := F) c i) (fun _ => iprop(emp))
    (fun r => ow c (obs (ob c) r + Otx c)) (fun i rest => by
      have e : obs (ob c) (i :: rest) + Otx c = ob c i + (obs (ob c) rest + Otx c) := add_assoc _ _ _
      rw [e]
      refine (sig_step X W K c i _).trans (runs_mono c _ ?_)
      iintro H
      isplitr; · iempintro
      iexact H)
  have e0 : obs (ob c) [] + Otx c = Otx c := zero_add _
  rw [e0] at h
  refine h.trans (runs_mono c _ ?_)
  iintro ⟨-, H⟩
  iexact H

abbrev accP : sProp 𝕄 := at' (accL c) Finset.univ fullShare (accC X W c)

theorem loop1 : iprop(ctx X W K ∗ (bigSep Finset.univ fun k : Fin 4 => R1 (F := F) c k) ∗ accP X W c ∗ ow c (Otx c))
    ⊢ runs c (each (phase1 (route c)) l4) iprop((bigSep Finset.univ fun k : Fin 4 => T1 X W c k) ∗ accP X W c
      ∗ ow c (obs (ox2 c) l4 + obs (ox4 c) l4)) := by
  have h := runs_all c l4 all4 (phase1 (F := F) (route c)) (ctx X W K) (fun k => R1 (F := F) c k) (fun k => T1 X W c k)
    (fun r => iprop(accP X W c ∗ ow c (obs (ox1 c) r + (obs (ox2 c) l4 + obs (ox4 c) l4)))) (fun k rest => by
      have e : obs (ox1 c) (k :: rest) + (obs (ox2 c) l4 + obs (ox4 c) l4)
        = ox1 c k + (obs (ox1 c) rest + (obs (ox2 c) l4 + obs (ox4 c) l4)) := add_assoc _ _ _
      rw [e]
      exact phase1_step X W K c k _)
  have e0 : obs (ox1 c) [] + (obs (ox2 c) l4 + obs (ox4 c) l4) = obs (ox2 c) l4 + obs (ox4 c) l4 := zero_add _
  rw [e0] at h
  exact h

theorem loop2 : iprop(ctx X W K ∗ (bigSep Finset.univ fun k : Fin 4 => R2 X W c k) ∗ accP X W c
      ∗ ow c (obs (ox2 c) l4 + obs (ox4 c) l4))
    ⊢ runs c (each (phase2 (route c)) l4) iprop((bigSep Finset.univ fun k : Fin 4 => T2 X W c k) ∗ accP X W c
      ∗ ow c (obs (ox4 c) l4)) := by
  have h := runs_all c l4 all4 (phase2 (F := F) (route c)) (ctx X W K) (fun k => R2 X W c k) (fun k => T2 X W c k)
    (fun r => iprop(accP X W c ∗ ow c (obs (ox2 c) r + obs (ox4 c) l4))) (fun k rest => by
      have e : obs (ox2 c) (k :: rest) + obs (ox4 c) l4 = ox2 c k + (obs (ox2 c) rest + obs (ox4 c) l4) := add_assoc _ _ _
      rw [e]
      exact phase2_step X W K c k _ (above_add (above_ox2 (by decide) c k)
        (above_add (above_obs (above_ox2 (by decide) c) _) (above_obs (above_ox4 (by decide) c) _))))
  have e0 : obs (ox2 c) [] + obs (ox4 c) l4 = obs (ox4 c) l4 := zero_add _
  rw [e0] at h
  exact h

theorem loop3 : iprop(ctx X W K ∗ (bigSep Finset.univ fun k : Fin 4 => R3 X W c k) ∗ ow c (obs (ox4 c) l4))
    ⊢ runs c (each (phase3 (route c)) l4) iprop((bigSep Finset.univ fun k : Fin 4 => T3 X W c k) ∗ ow c 0) :=
  runs_all c l4 all4 (phase3 (F := F) (route c)) (ctx X W K) (fun k => R3 X W c k) (fun k => T3 X W c k)
    (fun r => ow c (obs (ox4 c) r)) fun k rest =>
      phase3_step X W K c k _ (above_add (above_ox4 (by decide) c k) (above_obs (above_ox4 (by decide) c) _))

theorem loop4 : iprop(ctx X W K ∗ (bigSep Finset.univ fun k : Fin 4 => R4 X W c k) ∗ ow c 0)
    ⊢ runs c (each (phase4 (route c)) l4) iprop((bigSep Finset.univ fun k : Fin 4 => T4 X W c k) ∗ ow c 0) :=
  runs_all c l4 all4 (phase4 (F := F) (route c)) (ctx X W K) (fun k => R4 X W c k) (fun k => T4 X W c k)
    (fun _ => ow c 0) fun k rest => phase4_step X W K c k

/-- The waits of an exchange on its send semaphores. -/
theorem drain {ι : Type} [Fintype ι] (l : List ι) (hl : ∀ Φ : ι → sProp 𝕄, bigSep Finset.univ Φ = bigSepL l Φ) (xs : Fin 4 → ι → Xf) :
    iprop(ctx X W K ∗ (bigSep Finset.univ fun k => bigSep Finset.univ fun o => waitR (F := F) (.inl (xs k o)) c) ∗ ow c 0)
      ⊢ runs c (each (fun k => each (fun o => doneP c (xs k o)) l) l4)
        iprop((bigSep Finset.univ fun k => bigSep Finset.univ fun o => backR X W c (xs k o)) ∗ ow c 0) :=
  runs_all c l4 all4 (fun k => each (fun o => doneP (F := F) c (xs k o)) l) (ctx X W K) _
    (fun k => bigSep Finset.univ fun o => backR X W c (xs k o)) (fun _ => ow c 0) fun k rest => done_all X W K c l hl (xs k)

/-! ## The whole body -/

theorem deal2 {ι κ : Type} [Fintype ι] [Fintype κ] (Φ Ψ : ι → κ → sProp 𝕄) :
    (bigSep Finset.univ fun i => bigSep Finset.univ fun j => iprop(Φ i j ∗ Ψ i j))
      = iprop((bigSep Finset.univ fun i => bigSep Finset.univ fun j => Φ i j) ∗ bigSep Finset.univ fun i => bigSep Finset.univ fun j => Ψ i j) := by
  rw [same fun i => deal _ _, deal]

/-- The families below, each dealt into its parts. -/
theorem sends_eq {κ : Type} [Fintype κ] (xs : Fin 4 → κ → Xf) : (bigSep Finset.univ fun k => bigSep Finset.univ fun o => sendF (F := F) c (xs k o))
    = iprop((bigSep Finset.univ fun k => bigSep Finset.univ fun o => free (F := F) (xs k o) c (peer (xs k o) c))
      ∗ bigSep Finset.univ fun k => bigSep Finset.univ fun o => sendT (F := F) (xs k o) c) := deal2 _ _
theorem waits_eq {κ : Type} [Fintype κ] (xs : Fin 4 → κ → Xf) :
    (bigSep Finset.univ fun k => bigSep Finset.univ fun o => waitR (F := F) (.inl (xs k o)) c)
    = iprop((bigSep Finset.univ fun k => bigSep Finset.univ fun o => credS (F := F) c (xs k o))
      ∗ bigSep Finset.univ fun k => bigSep Finset.univ fun o => atPos ER (scell (xs k o) c) 0 ∅ 0) := deal2 _ _
theorem backs_eq {κ : Type} [Fintype κ] (xs : Fin 4 → κ → Xf) :
    (bigSep Finset.univ fun k => bigSep Finset.univ fun o => backR X W c (xs k o))
    = iprop((bigSep Finset.univ fun k => bigSep Finset.univ fun o => srcPts X W (xs k o) c)
      ∗ bigSep Finset.univ fun k => bigSep Finset.univ fun o => semVal (scell (xs k o) c) 0) := deal2 _ _
theorem sigs_eq : (bigSep Finset.univ fun i : Fin 10 => sigR (F := F) c i)
    = iprop((bigSep Finset.univ fun i : Fin 10 => dutyTok ER (bcell (bar i c)) 0 (back i))
      ∗ bigSep Finset.univ fun i : Fin 10 => barPay (F := F) (bar i c) (back i)) := deal _ _
theorem R1_eq : (bigSep Finset.univ fun k : Fin 4 => R1 (F := F) c k)
    = iprop((bigSep Finset.univ fun k : Fin 4 => some' (F := F) (achL c) (colS k))
      ∗ bigSep Finset.univ fun k : Fin 4 => bigSep Finset.univ fun o : Fin 7 => sendF (F := F) c (t1 k o)) := deal _ _
theorem T1_eq : (bigSep Finset.univ fun k : Fin 4 => T1 X W c k)
    = iprop((bigSep Finset.univ fun k : Fin 4 => at' (achL c) (tileS (plc c) k) fullShare (achC X W c))
      ∗ bigSep Finset.univ fun k : Fin 4 => bigSep Finset.univ fun o : Fin 7 => credS (F := F) c (t1 k o)) := deal _ _
theorem R2_eq : (bigSep Finset.univ fun k : Fin 4 => R2 X W c k)
    = iprop((bigSep Finset.univ fun k : Fin 4 => bigSep Finset.univ fun o : Fin 7 => waitR (F := F) (.inr (t1 k o)) c)
      ∗ (bigSep Finset.univ fun k : Fin 4 => at' (achL c) (tileS (plc c) k) fullShare (achC X W c))
      ∗ (bigSep Finset.univ fun k : Fin 4 => some' (F := F) (redL c) (rcolS k))
      ∗ bigSep Finset.univ fun k : Fin 4 => bigSep Finset.univ fun o : Fin 3 => sendF (F := F) c (t2 k o)) := by
  rw [← deal, ← deal, ← deal]; rfl
theorem T2_eq : (bigSep Finset.univ fun k : Fin 4 => T2 X W c k)
    = iprop((bigSep Finset.univ fun k : Fin 4 => bigSep Finset.univ fun o : Fin 7 => semVal (rcell (t1 k o) c) 0)
      ∗ (bigSep Finset.univ fun k : Fin 4 => at' (g1L c) (g1S k) fullShare (g1C X W c))
      ∗ (bigSep Finset.univ fun k : Fin 4 => at' (redL c) (rcolS k) fullShare (redC X W c))
      ∗ (bigSep Finset.univ fun k : Fin 4 => at' (achL c) (tileS (plc c) k) (shareDrop fullShare 3) (rchC X W c))
      ∗ bigSep Finset.univ fun k : Fin 4 => bigSep Finset.univ fun o : Fin 3 => credS (F := F) c (t2 k o)) := by
  rw [← deal, ← deal, ← deal, ← deal]; rfl
theorem R3_eq : (bigSep Finset.univ fun k : Fin 4 => R3 X W c k)
    = iprop((bigSep Finset.univ fun k : Fin 4 => bigSep Finset.univ fun o : Fin 3 => waitR (F := F) (.inr (t2 k o)) c)
      ∗ (bigSep Finset.univ fun k : Fin 4 => at' (redL c) (rcolS k) fullShare (redC X W c))
      ∗ (bigSep Finset.univ fun k : Fin 4 => some' (F := F) (outL c) (tileS (plc c) k))
      ∗ bigSep Finset.univ fun k : Fin 4 => bigSep Finset.univ fun o : Fin 7 => sendF (F := F) c (t4 k o)) := by
  rw [← deal, ← deal, ← deal]; rfl
theorem T3_eq : (bigSep Finset.univ fun k : Fin 4 => T3 X W c k)
    = iprop((bigSep Finset.univ fun k : Fin 4 => bigSep Finset.univ fun o : Fin 3 => semVal (rcell (t2 k o) c) 0)
      ∗ (bigSep Finset.univ fun k : Fin 4 => at' (g2L c) (g2S k) fullShare (g2C X W c))
      ∗ (bigSep Finset.univ fun k : Fin 4 => at' (redL c) (rcolS k) fullShare (redC X W c))
      ∗ (bigSep Finset.univ fun k : Fin 4 => at' (outL c) (tileS (plc c) k) fullShare.left (outC X W c))
      ∗ (bigSep Finset.univ fun k : Fin 4 => at' (outL c) (tileS (plc c) k) (shareDrop fullShare.right 7) (outC X W c))
      ∗ bigSep Finset.univ fun k : Fin 4 => bigSep Finset.univ fun o : Fin 7 => credS (F := F) c (t4 k o)) := by
  rw [← deal, ← deal, ← deal, ← deal, ← deal]; rfl
theorem R4_eq : (bigSep Finset.univ fun k : Fin 4 => R4 X W c k)
    = iprop((bigSep Finset.univ fun k : Fin 4 => bigSep Finset.univ fun o : Fin 7 => waitR (F := F) (.inr (t4 k o)) c)
      ∗ (bigSep Finset.univ fun k : Fin 4 => at' (outL c) (tileS (plc c) k) fullShare.left (outC X W c))
      ∗ bigSep Finset.univ fun k : Fin 4 => some' (F := F) (oL c) (colS k)) := by
  rw [← deal, ← deal]; rfl
theorem T4_eq : (bigSep Finset.univ fun k : Fin 4 => T4 X W c k)
    = iprop((bigSep Finset.univ fun k : Fin 4 => bigSep Finset.univ fun o : Fin 7 => semVal (rcell (t4 k o) c) 0)
      ∗ (bigSep Finset.univ fun k : Fin 4 => at' (outL c) (colS k) fullShare.left (outC X W c))
      ∗ (bigSep Finset.univ fun k : Fin 4 => bigSep Finset.univ fun o : Fin 7 =>
          at' (outL c) (tileS (plc (cubFrom o c)) k) fullShare.right (outC X W c))
      ∗ bigSep Finset.univ fun k : Fin 4 => at' (oL c) (colS k) fullShare (resC X W c)) := by
  rw [← deal, ← deal, ← deal]; rfl

/-- The body, from its tokens, its two blocks and its buffers, to its result, its buffers and its semaphores at zero. -/
theorem body_run : iprop(ctx X W K ∗ seed (F := F) c ∗ scratch (F := F) c ∗ ow c (O₀ c)
      ∗ at' (xL c) Finset.univ fullShare (X c) ∗ at' (wL c) Finset.univ fullShare (W c) ∗ some' (F := F) (oL c) Finset.univ)
    ⊢ runs c (bodyP (route c)) iprop(scratch (F := F) c ∗ closed (F := F) c ∗ ow c 0
      ∗ at' (xL c) Finset.univ fullShare (X c) ∗ at' (wL c) Finset.univ fullShare (W c)
      ∗ at' (oL c) Finset.univ fullShare (resC X W c)) := by
  unfold bodyP seed scratch closed
  simp only [runs_bind]
  rw [xfers fun x => sendT (F := F) x c, xfers fun x => waitR (F := F) (.inr x) c, xfers fun x => atPos ER (scell x c) 0 ∅ 0,
    xfers fun x => semVal (scell x c) 0, xfers fun x => semVal (rcell x c) 0]
  iintro ⟨#Hc, ⟨⟨Hs1, Hs2, Hs4⟩, ⟨Hw1, Hw2, Hw4⟩, ⟨Hp1, Hp2, Hp4⟩, Htok, Hbar⟩,
    ⟨Hacc, Hach, Hred, Hout, Hg1, Hg2⟩, HO, Hx, Hw, Hres⟩
  -- the signals
  ihave Hgive := (give (F := F) c) $$ [Hg1 Hg2 Hout]
  · isplitl [Hg1]; · iexact Hg1
    isplitl [Hg2]; · iexact Hg2
    iexact Hout
  icases Hgive with ⟨Hpay, Hout⟩
  iapply (runs_wand c _ _ _)
  isplitl [Htok Hpay HO]
  · iapply (signals X W K c)
    isplitr; · iexact Hc
    isplitl [Htok Hpay]
    · rw [sigs_eq]
      isplitl [Htok]; · iexact Htok
      iexact Hpay
    iexact HO
  iintro HO
  -- the barrier
  iapply (runs_wand c _ _ _)
  isplitl [Hbar HO]
  · iapply (bar_step X W K c)
    isplitr; · iexact Hc
    isplitl [Hbar]; · iexact Hbar
    iexact HO
  iintro ⟨⟨Hpay, Hzb⟩, HO⟩
  ihave Hpay := (Entails.of_eq (pay_all (F := F) c)) $$ Hpay
  icases Hpay with ⟨⟨Hf1, Hf4⟩, Hf2⟩
  -- the product
  iapply (runs_wand c _ _ _)
  isplitl [Hx Hw Hacc]
  · iapply (dot_step X W c)
    isplitl [Hx]; · iexact Hx
    isplitl [Hw]; · iexact Hw
    iexact Hacc
  iintro ⟨Hx, Hw, Hacc⟩
  -- the four phases
  ihave Hach := (ach_cols (F := F) c) $$ Hach
  iapply (runs_wand c _ _ _)
  isplitl [Hach Hf1 Hs1 Hacc HO]
  · iapply (loop1 X W K c)
    isplitr; · iexact Hc
    isplitl [Hach Hf1 Hs1]
    · rw [R1_eq]
      isplitl [Hach]; · iexact Hach
      rw [sends_eq]
      isplitl [Hf1]; · iexact Hf1
      iexact Hs1
    isplitl [Hacc]; · iexact Hacc
    iexact HO
  iintro ⟨HT, Hacc, HO⟩
  ihave HT := (Entails.of_eq (T1_eq X W c)) $$ HT
  icases HT with ⟨Hown, Hc1⟩
  ihave Hred := (red_cols (F := F) c) $$ Hred
  iapply (runs_wand c _ _ _)
  isplitl [Hw1 Hown Hred Hf2 Hs2 Hacc HO]
  · iapply (loop2 X W K c)
    isplitr; · iexact Hc
    isplitl [Hw1 Hown Hred Hf2 Hs2]
    · rw [R2_eq]
      isplitl [Hw1]; · iexact Hw1
      isplitl [Hown]; · iexact Hown
      isplitl [Hred]; · iexact Hred
      rw [sends_eq]
      isplitl [Hf2]; · iexact Hf2
      iexact Hs2
    isplitl [Hacc]; · iexact Hacc
    iexact HO
  iintro ⟨HT, Hacc, HO⟩
  ihave HT := (Entails.of_eq (T2_eq X W c)) $$ HT
  icases HT with ⟨Hz1, Hg1, Hred, Hown, Hc2⟩
  iapply (runs_wand c _ _ _)
  isplitl [Hw2 Hred Hout Hf4 Hs4 HO]
  · iapply (loop3 X W K c)
    isplitr; · iexact Hc
    isplitl [Hw2 Hred Hout Hf4 Hs4]
    · rw [R3_eq]
      isplitl [Hw2]; · iexact Hw2
      isplitl [Hred]; · iexact Hred
      isplitl [Hout]; · iexact Hout
      rw [sends_eq]
      isplitl [Hf4]; · iexact Hf4
      iexact Hs4
    iexact HO
  iintro ⟨HT, HO⟩
  ihave HT := (Entails.of_eq (T3_eq X W c)) $$ HT
  icases HT with ⟨Hz2, Hg2, Hred, Hl, Hkeep, Hc4⟩
  ihave Hres := (res_cols (F := F) c) $$ Hres
  iapply (runs_wand c _ _ _)
  isplitl [Hw4 Hl Hres HO]
  · iapply (loop4 X W K c)
    isplitr; · iexact Hc
    isplitl [Hw4 Hl Hres]
    · rw [R4_eq]
      isplitl [Hw4]; · iexact Hw4
      isplitl [Hl]; · iexact Hl
      iexact Hres
    iexact HO
  iintro ⟨HT, HO⟩
  ihave HT := (Entails.of_eq (T4_eq X W c)) $$ HT
  icases HT with ⟨Hz4, Hcol, Hright, Hres⟩
  -- the waits for the sends
  iapply (runs_wand c (each (fun k => each (done1P (route c) k) l7) l4) _ _)
  isplitl [Hc1 Hp1 HO]
  · iapply (drain X W K c l7 all7 t1)
    isplitr; · iexact Hc
    isplitl [Hc1 Hp1]
    · rw [waits_eq]
      isplitl [Hc1]; · iexact Hc1
      iexact Hp1
    iexact HO
  iintro ⟨HB, HO⟩
  ihave HB := (Entails.of_eq (backs_eq X W c t1)) $$ HB
  icases HB with ⟨Hb1, Hy1⟩
  iapply (runs_wand c (each (fun k => each (done2P (route c) k) l3) l4) _ _)
  isplitl [Hc2 Hp2 HO]
  · iapply (drain X W K c l3 all3 t2)
    isplitr; · iexact Hc
    isplitl [Hc2 Hp2]
    · rw [waits_eq]
      isplitl [Hc2]; · iexact Hc2
      iexact Hp2
    iexact HO
  iintro ⟨HB, HO⟩
  ihave HB := (Entails.of_eq (backs_eq X W c t2)) $$ HB
  icases HB with ⟨Hb2, Hy2⟩
  iapply (runs_wand c (each (fun k => each (done4P (route c) k) l7) l4) _ _)
  isplitl [Hc4 Hp4 HO]
  · iapply (drain X W K c l7 all7 t4)
    isplitr; · iexact Hc
    isplitl [Hc4 Hp4]
    · rw [waits_eq]
      isplitl [Hc4]; · iexact Hc4
      iexact Hp4
    iexact HO
  iintro ⟨HB, HO⟩
  ihave HB := (Entails.of_eq (backs_eq X W c t4)) $$ HB
  icases HB with ⟨Hb4, Hy4⟩
  -- the buffers whole again
  isplitl [Hacc Hown Hb1 Hb2 Hred Hkeep Hb4 Hright Hcol Hg1 Hg2]
  · isplitl [Hacc]; · iexists _; iexact Hacc
    isplitl [Hown Hb1 Hb2]
    · iapply (ach_end X W c)
      isplitl [Hown]; · iexact Hown
      isplitl [Hb1]; · iexact Hb1
      iexact Hb2
    isplitl [Hred]
    · iapply ((each_of fun k => some_intro (F := F) (ℓ := redL c) (rcolS k) (redC X W c)).trans (red_whole c))
      iexact Hred
    isplitl [Hkeep Hb4 Hright Hcol]
    · iapply (out_end X W c)
      isplitl [Hkeep]; · iexact Hkeep
      isplitl [Hb4]; · iexact Hb4
      isplitl [Hright]; · iexact Hright
      iexact Hcol
    isplitl [Hg1]
    · iapply ((each_of fun k => some_intro (F := F) (ℓ := g1L c) (g1S k) (g1C X W c)).trans (g1_whole c))
      iexact Hg1
    iapply ((each_of fun k => some_intro (F := F) (ℓ := g2L c) (g2S k) (g2C X W c)).trans (g2_whole c))
    iexact Hg2
  isplitl [Hy1 Hy2 Hy4 Hz1 Hz2 Hz4 Hzb]
  · isplitl [Hy1 Hy2 Hy4]
    · isplitl [Hy1]; · iexact Hy1
      isplitl [Hy2]; · iexact Hy2
      iexact Hy4
    isplitr [Hzb]
    · isplitl [Hz1]; · iexact Hz1
      isplitl [Hz2]; · iexact Hz2
      iexact Hz4
    iexact Hzb
  isplitl [HO]; · iexact HO
  isplitl [Hx]; · iexact Hx
  isplitl [Hw]; · iexact Hw
  rw [res_whole]
  iexact Hres

end Body

end Cert.IdealRun

end

end
-- ==== Proof.Ideal.Start.lean ====
/-
The launch: how the semaphores at zero and the launch's ghost state become what every device's body starts from.

Every semaphore of the exchange becomes a cell with its invariant, known to all devices. Every duty's token goes to the
device that pays it, and every cell's position and launch credit to the device that waits on it.
-/
module

public import proofs.«01_k».proof.Proof.Ideal.Body
public import proofs.«01_k».proof.Proof.Gen.KernelIdeal.Points

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-- Every semaphore of a device in the exchange: its barrier, and its transfers' send and receive semaphores. -/
abbrev Own : Type := Unit ⊕ (Xf ⊕ Xf)

/-- The semaphores of the transfers are the kernel's own, and none is a staging buffer's. -/
theorem ownSemFacts : Pipeline.OwnSemFacts cfg0.spec osem where
  isScoped := by
    have hs : ∀ x : Xf, (SemLoc.dma (sS x)).isScoped .tc = true := by decide +kernel
    have hr : ∀ x : Xf, (SemLoc.dma (rS x)).isScoped .tc = true := by decide +kernel
    rintro (x | x)
    · exact hs x
    · exact hr x
  inj := osem_inj
  disj := by
    have hs : ∀ (x : Xf) (w : Fin 3) (s : Fin (cfg0.spec w).nbuf), SemLoc.dma (sS x) ≠ .dma ((cfg0.spec w).sem s) := by decide +kernel
    have hr : ∀ (x : Xf) (w : Fin 3) (s : Fin (cfg0.spec w).nbuf), SemLoc.dma (rS x) ≠ .dma ((cfg0.spec w).sem s) := by decide +kernel
    rintro (x | x)
    · exact hs x
    · exact hr x

theorem kcell_inj : Function.Injective (kcell : Dev nD × Own → GSem nD τ sig) := by
  rintro ⟨c, k⟩ ⟨c', k'⟩ h
  have h1 : c = c' := congrArg (fun g : GSem nD τ sig => g.1.1) h
  have h2 : k = k' := csem_inj (congrArg Prod.snd h)
  rw [h1, h2]

def cells : Finset (GSem nD τ sig) := Finset.univ.map ⟨kcell, kcell_inj⟩

/-- A cell's duties: a barrier's ten, and one for each of the others. -/
abbrev tokOf : Dev nD × (Fin 10 ⊕ (Xf ⊕ Xf)) → GSem nD τ sig × ℕ × Fin 10
  | (c, .inl i) => (kcell (c, .inl ()), 0, i)
  | (c, .inr k) => (kcell (c, .inr k), 0, 0)
theorem tokOf_inj : Function.Injective tokOf := by
  rintro ⟨c, i | k⟩ ⟨c', i' | k'⟩ h
  · have h1 := kcell_inj (congrArg Prod.fst h)
    have h2 : i = i' := congrArg (fun x : GSem nD τ sig × ℕ × Fin 10 => x.2.2) h
    rw [show c = c' from congrArg Prod.fst h1, h2]
  · have h1 := congrArg Prod.snd (kcell_inj (congrArg Prod.fst h))
    cases h1
  · have h1 := congrArg Prod.snd (kcell_inj (congrArg Prod.fst h))
    cases h1
  · have h1 := kcell_inj (congrArg Prod.fst h)
    have h2 : k = k' := Sum.inr.inj (congrArg Prod.snd h1)
    rw [show c = c' from congrArg Prod.fst h1, h2]
def tokens : Finset (GSem nD τ sig × ℕ × Fin 10) := Finset.univ.map ⟨tokOf, tokOf_inj⟩

/-- The launch's ghost state: the pipeline's beside the exchange's. -/
def u₀ : UU := (initOf (Pipeline.cells cfgs cellOf_inj) (Pipeline.launchToks cfgs cellOf_inj), initOf cells tokens)

section Ghost

variable (X : Dev nD → Vec F S1024x32 .f32) (W : Dev nD → Vec F S32x1024 .f32)

/-- The tokens of a device's own cells. -/
def toks (c : Dev nD) : sProp 𝕄 :=
  iprop((bigSep Finset.univ fun i : Fin 10 => dutyTok ER (bcell c) 0 i)
    ∗ (bigSep Finset.univ fun x : Xf => dutyTok ER (scell x c) 0 0) ∗ bigSep Finset.univ fun x : Xf => dutyTok ER (rcell x c) 0 0)

/-- What the launch deals a device. -/
def G (c : Dev nD) : sProp 𝕄 :=
  iprop((bigSep Finset.univ fun k : Own => roundState ER (Rd X W) (kcell (c, k)) 0)
    ∗ ((bigSep Finset.univ fun k : Own => atPos ER (kcell (c, k)) 0 ∅ 0) ∗ bigSep Finset.univ fun k : Own => reached ER (kcell (c, k)) 0)
    ∗ toks c)

theorem fund_cells : BI.own (ER (initOf cells tokens)) ⊢ (|==> bigSep Finset.univ (G X W) : sProp 𝕄) := by
  have hX (Φ : GSem nD τ sig → sProp 𝕄) : bigSep cells Φ = bigSep Finset.univ fun c : Dev nD => bigSep Finset.univ fun k : Own => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    unfold toks
    rw [bigSep_univ_sum, bigSep_univ_sum]
    rfl
  iintro HX
  imod (Rounds.fund ER (Rd X W) cells tokens) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfers' semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun x : Xf => semVal (scell x c) 0) ∗ bigSep Finset.univ fun x : Xf => semVal (rcell x c) 0) := by
  unfold Pipeline.ownSems0
  rw [bigSep_univ_sum]
  rfl
/-- the barrier semaphore is the runtime's. -/
theorem unscopedSems0_eq (c : Dev nD) : (unscopedSems0 c : sProp 𝕄) = semVal (bcell c) 0 := by
  unfold unscopedSems0; rw [bigSep_eq_bigSepL_of_eq [SemLoc.reg barS] (by decide) (by decide)]; rfl

/-- All of a device's own cells at once: the barrier, the sends, the receives. -/
theorem own_all (Φ : Own → sProp 𝕄) : bigSep Finset.univ Φ = iprop(Φ (.inl ())
    ∗ (bigSep Finset.univ fun x : Xf => Φ (.inr (.inl x))) ∗ bigSep Finset.univ fun x : Xf => Φ (.inr (.inr x))) := by
  rw [bigSep_univ_sum, bigSep_univ_sum, show (Finset.univ : Finset Unit) = {()} from rfl, bigSep_singleton]
  rfl

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Own => iprop(∃ κ : ℕ, cellInv ER (Rd X W) κ (kcell (c, k))))
          ∗ ((bigSep Finset.univ fun k : Own => atPos ER (kcell (c, k)) 0 ∅ 0) ∗ bigSep Finset.univ fun k : Own => reached ER (kcell (c, k)) 0) ∗ toks c) := by
  unfold G
  rw [ownSems0_eq, unscopedSems0_eq]
  iintro ⟨Hos, Hus, Hst, Hat, Htok⟩
  ihave Hv := (show iprop(((bigSep Finset.univ fun x : Xf => semVal (scell x c) 0) ∗ bigSep Finset.univ fun x : Xf => semVal (rcell x c) 0) ∗ semVal (bcell c) 0)
      ⊢ (bigSep Finset.univ fun k : Own => semVal (kcell (c, k)) 0 : sProp 𝕄) from by
        rw [own_all]
        iintro ⟨H, HB⟩
        isplitl [HB]; · iexact HB
        iexact H) $$ [Hos Hus]
  · isplitl [Hos] <;> iassumption
  imod (show iprop((bigSep Finset.univ fun k : Own => semVal (kcell (c, k)) 0) ∗ bigSep Finset.univ fun k : Own => roundState ER (Rd X W) (kcell (c, k)) 0)
      ⊢ (|={Set.univ}=> bigSep Finset.univ fun k : Own => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays. -/
def payToks (c : Dev nD) : sProp 𝕄 :=
  iprop((bigSep Finset.univ fun i : Fin 10 => dutyTok ER (bcell (bar i c)) 0 (back i))
    ∗ (bigSep Finset.univ fun x : Xf => dutyTok ER (scell x c) 0 0) ∗ bigSep Finset.univ fun x : Xf => dutyTok ER (rcell x (peer x c)) 0 0)

theorem back_back : ∀ i : Fin 10, back (back i) = i := by decide
theorem bar_of_back (i : Fin 10) (c : Dev nD) : bar i (bar (back i) c) = c := by
  have h := bar_back (back i) c
  rwa [back_back] at h

def backE : Fin 10 ≃ Fin 10 := ⟨back, back, back_back, back_back⟩
def barE (i : Fin 10) : Dev nD ≃ Dev nD := ⟨bar i, bar (back i), bar_back i, bar_of_back i⟩
def peerE (x : Xf) : Dev nD ≃ Dev nD := ⟨peer x, sender x, sender_peer x, peer_sender x⟩

/-- Every token goes to the device that pays its duty. -/
theorem toks_around : (bigSep Finset.univ fun c : Dev nD => (toks c : sProp 𝕄)) ⊢ bigSep Finset.univ fun c : Dev nD => payToks c := by
  have h1 : (bigSep Finset.univ fun c : Dev nD => bigSep Finset.univ fun i : Fin 10 => (dutyTok ER (bcell c) 0 i : sProp 𝕄))
      = bigSep Finset.univ fun c : Dev nD => bigSep Finset.univ fun i : Fin 10 => dutyTok ER (bcell (bar i c)) 0 (back i) := by
    rw [bigSep_univ_comm, bigSep_univ_comm (fun (c : Dev nD) (i : Fin 10) => (dutyTok ER (bcell (bar i c)) 0 (back i) : sProp 𝕄)),
      bigSep_univ_equiv backE]
    exact bigSep_congr fun i _ => bigSep_univ_equiv (barE i) (fun c : Dev nD => (dutyTok ER (bcell c) 0 (back i) : sProp 𝕄))
  have h2 : (bigSep Finset.univ fun c : Dev nD => bigSep Finset.univ fun x : Xf => (dutyTok ER (rcell x c) 0 0 : sProp 𝕄))
      = bigSep Finset.univ fun c : Dev nD => bigSep Finset.univ fun x : Xf => dutyTok ER (rcell x (peer x c)) 0 0 := by
    rw [bigSep_univ_comm, bigSep_univ_comm (fun (c : Dev nD) (x : Xf) => (dutyTok ER (rcell x (peer x c)) 0 0 : sProp 𝕄))]
    exact bigSep_congr fun x _ => bigSep_univ_equiv (peerE x) (fun c : Dev nD => (dutyTok ER (rcell x c) 0 0 : sProp 𝕄))
  unfold toks payToks
  rw [bigSep_sep', bigSep_sep', bigSep_sep', bigSep_sep', h1, h2]

/-- What a device's body gets of the launch's ghost state. -/
def G' (c : Dev nD) : sProp 𝕄 :=
  iprop((∃ K, records X W K) ∗ (bigSep Finset.univ fun k : Own => atPos ER (kcell (c, k)) 0 ∅ 0) ∗ payToks c)

/-- A fact for everyone goes to everyone. -/
theorem share_out {ι : Type} [Fintype ι] [DecidableEq ι] (R : sProp 𝕄) [BI.Persistent R] {Φ Ψ : ι → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k : Own => iprop(∃ κ : ℕ, cellInv ER (Rd X W) κ (kcell (c, k))))
          ∗ ((bigSep Finset.univ fun k : Own => atPos ER (kcell (c, k)) 0 ∅ 0) ∗ bigSep Finset.univ fun k : Own => reached ER (kcell (c, k)) 0) ∗ toks c) : sProp 𝕄)
      ⊢ bigSep Finset.univ (G' X W) := by
  rw [bigSep_sep', bigSep_sep', bigSep_sep', ← bigSep_univ_prod (fun ck : Dev nD × Own => iprop(∃ κ : ℕ, cellInv ER (Rd X W) κ (kcell ck))),
    ← bigSep_univ_prod (fun ck : Dev nD × Own => (reached ER (kcell ck) 0 : sProp 𝕄))]
  iintro ⟨HI, ⟨Hat, #HR⟩, Htok⟩
  ihave HK := (BI.bigSep_exists_pi Finset.univ (fun (ck : Dev nD × Own) (κ : ℕ) => (cellInv ER (Rd X W) κ (kcell ck) : sProp 𝕄))) $$ HI
  icases HK with ⟨%K, #HI⟩
  ihave Htk := (toks_around (F := F)) $$ Htok
  iapply (share_out (records X W K)
    (Φ := fun c : Dev nD => iprop((bigSep Finset.univ fun k : Own => atPos ER (kcell (c, k)) 0 ∅ 0) ∗ payToks c)) fun c => by
      unfold G'
      iintro ⟨HR, H⟩
      isplitl [HR]
      · iexists K; iexact HR
      iexact H)
  isplitr
  · unfold records; isplitl; · iexact HI
    iexact HR
  · rw [bigSep_sep']
    isplitl [Hat]; · iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

end Ghost

/-! ## The launch credit: what the devices together owe a cell -/

theorem obs_eq_sum {ι : Type} (f : ι → CellTallies nD τ sig Unit) : ∀ l : List ι, obs f l = (l.map f).sum
  | [] => rfl
  | i :: l => by rw [List.map_cons, List.sum_cons, ← obs_eq_sum f l]; rfl
theorem obs_univ {ι : Type} [Fintype ι] [DecidableEq ι] (f : ι → CellTallies nD τ sig Unit) (l : List ι)
    (h : Finset.univ = l.toFinset) (hl : l.Nodup) : obs f l = ∑ i, f i := by
  rw [obs_eq_sum, h, List.sum_toFinset f hl]

theorem O₀_sum (d : Dev nD) : O₀ d = (∑ i, ob d i) + ∑ x, tx d x := by
  unfold O₀ Otx ox1 ox2 ox4
  rw [obs_univ _ l10 (by decide) (by decide), obs_univ _ l4 (by decide) (by decide), obs_univ _ l4 (by decide) (by decide),
    obs_univ _ l4 (by decide) (by decide), Fintype.sum_sum_type, Fintype.sum_sum_type,
    Fintype.sum_prod_type, Fintype.sum_prod_type, Fintype.sum_prod_type]
  simp only [obs_univ _ l7 (by decide) (by decide), obs_univ _ l3 (by decide) (by decide)]

theorem tally_cell (a b : Dev nD × Own) (n : ℕ) :
    (tallyAt (kcell a) () n : CellTallies nD τ sig Unit) (kcell b) () = if b = a then n else 0 := by
  rw [tallyAt_apply]
  by_cases h : b = a
  · rw [if_pos h, if_pos ⟨congrArg kcell h, rfl⟩]
  · rw [if_neg h, if_neg fun e => h (kcell_inj e.1)]

theorem sum_at {ι : Type} [Fintype ι] (f : ι → CellTallies nD τ sig Unit) (g : GSem nD τ sig) (u : Unit) :
    (∑ i, f i) g u = ∑ i, f i g u := by
  rw [Finset.sum_apply, Finsupp.finset_sum_apply]

theorem O₀_at (d : Dev nD) (b : Dev nD × Own) : O₀ d (kcell b) ()
    = (∑ i, if b = (bar i d, Sum.inl ()) then 1 else 0) + ∑ x : Xf, if b = (peer x d, Sum.inr (Sum.inr x)) then N else 0 := by
  rw [O₀_sum, Pi.add_apply, Finsupp.add_apply, sum_at, sum_at]
  exact congrArg₂ (· + ·) (Finset.sum_congr rfl fun i _ => tally_cell (bar i d, .inl ()) b 1)
    (Finset.sum_congr rfl fun x _ => tally_cell (peer x d, .inr (.inr x)) b N)

theorem owed_bar (c : Dev nD) : ∑ d, O₀ d (bcell c) () = 10 := by
  have h : ∀ d, O₀ d (bcell c) () = ∑ i : Fin 10, if d = bar (back i) c then 1 else 0 := fun d => by
    have h0 : ∀ x : Xf, (if (c, (Sum.inl () : Own)) = (peer x d, Sum.inr (Sum.inr x)) then N else 0) = 0 := fun x =>
      if_neg fun e => Sum.inl_ne_inr (congrArg Prod.snd e)
    have h1 : ∀ i : Fin 10, (if (c, (Sum.inl () : Own)) = (bar i d, Sum.inl ()) then 1 else 0) = if d = bar (back i) c then 1 else 0 := fun i => by
      by_cases e : d = bar (back i) c
      · rw [if_pos e, e, bar_of_back, if_pos rfl]
      · rw [if_neg e, if_neg fun e' => e (by rw [show c = bar i d from congrArg Prod.fst e', bar_back])]
    refine (O₀_at d (c, .inl ())).trans ?_
    rw [Finset.sum_congr rfl fun x _ => h0 x, Finset.sum_congr rfl fun i _ => h1 i, Finset.sum_const_zero, Nat.add_zero]
  rw [Finset.sum_congr rfl fun d _ => h d, Finset.sum_comm,
    Finset.sum_congr rfl fun i _ => Finset.sum_ite_eq' Finset.univ (bar (back i) c) fun _ => 1]
  simp

theorem owed_rcv (x : Xf) (c : Dev nD) : ∑ d, O₀ d (rcell x c) () = N := by
  have h : ∀ d, O₀ d (rcell x c) () = if d = sender x c then N else 0 := fun d => by
    have h0 : ∀ i : Fin 10, (if (c, (Sum.inr (Sum.inr x) : Own)) = (bar i d, Sum.inl ()) then 1 else 0) = 0 := fun i =>
      if_neg fun e => Sum.inr_ne_inl (congrArg Prod.snd e)
    have h1 : ∀ y : Xf, (if (c, (Sum.inr (Sum.inr x) : Own)) = (peer y d, Sum.inr (Sum.inr y)) then N else 0)
        = if y = x then (if d = sender x c then N else 0) else 0 := fun y => by
      by_cases e : y = x
      · rw [if_pos e, e]
        by_cases e2 : d = sender x c
        · rw [if_pos e2, e2, peer_sender, if_pos rfl]
        · rw [if_neg e2, if_neg fun e' => e2 (by rw [show c = peer x d from congrArg Prod.fst e', sender_peer])]
      · rw [if_neg e, if_neg fun e' => e (Sum.inr.inj (Sum.inr.inj (congrArg Prod.snd e'))).symm]
    refine (O₀_at d (c, .inr (.inr x))).trans ?_
    rw [Finset.sum_congr rfl fun i _ => h0 i, Finset.sum_congr rfl fun y _ => h1 y, Finset.sum_const_zero, Nat.zero_add,
      Finset.sum_ite_eq' Finset.univ x fun _ => if d = sender x c then N else 0, if_pos (Finset.mem_univ _)]
  rw [Finset.sum_congr rfl fun d _ => h d, Finset.sum_ite_eq' Finset.univ (sender x c) fun _ => N, if_pos (Finset.mem_univ _)]

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A device's launch credit covers its barrier's ten units and every receive. -/
theorem creds (c : Dev nD) : (Pipeline.launchCred O₀ c : sProp 𝕄) ⊢ iprop(cred (tallyAt (bcell c) () 10)
    ∗ bigSep Finset.univ fun x : Xf => cred (tallyAt (rcell x c) () N)) := by
  unfold Pipeline.launchCred
  have hs : (bigSep Finset.univ fun sm : SemLoc sig => cred (tallyOn ((c : Thread nD τ), sm) (launchCredit (Pipeline.owing O₀) 0 ((c : Thread nD τ), sm))) : sProp 𝕄)
      ⊢ bigSep (Finset.univ.map ⟨csem, csem_inj⟩) fun sm : SemLoc sig => cred (tallyOn ((c : Thread nD τ), sm) (launchCredit (Pipeline.owing O₀) 0 ((c : Thread nD τ), sm))) :=
    bigSep_subset (Finset.subset_univ _)
  rw [bigSep_map, own_all] at hs
  iintro H
  ihave H' := hs $$ H
  icases H' with ⟨HB, -, H⟩
  isplitl [HB]
  · iapply (show (cred (tallyOn (bcell c) (launchCredit (Pipeline.owing O₀) 0 (bcell c))) : sProp 𝕄) ⊢ cred (tallyAt (bcell c) () 10) from
      Entails.of_eq (congrArg cred (launch_at _ _ (owed_bar c))))
    iexact HB
  iapply (show (bigSep Finset.univ fun x : Xf => (cred (tallyOn (rcell x c) (launchCredit (Pipeline.owing O₀) 0 (rcell x c))) : sProp 𝕄))
    ⊢ bigSep Finset.univ fun x : Xf => cred (tallyAt (rcell x c) () N) from
      bigSep_mono fun x _ => Entails.of_eq (congrArg cred (launch_at _ _ (owed_rcv x c))))
  iexact H

section Ready

variable (X : Dev nD → Vec F S1024x32 .f32) (W : Dev nD → Vec F S32x1024 .f32)

/-- What a body starts from, but for the buffers. -/
def start (c : Dev nD) : sProp 𝕄 := iprop((∃ K, ctx X W K) ∗ seed c)

theorem start_of (c : Dev nD) : iprop(levAts L lv ∗ Pipeline.launchCred O₀ c ∗ G' X W c) ⊢ start X W c := by
  unfold start seed G' payToks sendT waitR ctx
  rw [own_all, bigSep_sep', bigSep_sep', levs_eq]
  iintro ⟨Hl, Hcr, ⟨%K, HK⟩, ⟨Hab, Has, Har⟩, Hb, Hs, Hr⟩
  ihave Hc := (creds (F := F) c) $$ Hcr
  icases Hc with ⟨H1, HN⟩
  isplitl [HK Hl]
  · iexists K
    isplitl [HK]; · iexact HK
    iexact Hl
  isplitl [Hs Hr]
  · isplitl [Hs]; · iexact Hs
    iexact Hr
  isplitl [HN Har]
  · isplitl [HN]; · iexact HN
    iexact Har
  isplitl [Has]; · iexact Has
  isplitl [Hb]; · iexact Hb
  isplitl [Hab]; · iexact Hab
  iexact H1

end Ready

end Cert.IdealRun

end

end
-- ==== Proof.Ideal.BodyEq.lean ====
/-
The printed body is the looped program of `Loops`.
-/
module

public import proofs.«01_k».proof.Proof.Ideal.Loops

@[expose] public section

noncomputable section

namespace Cert.IdealRun

open Cert.KernelIdeal Cert.KernelIdeal.Gen
open Idealize.ShloMosaic Idealize.SL.Sem

variable {F : FTy → Type} [FloatOps F]

set_option maxRecDepth 1000000 in
set_option maxHeartbeats 0 in
/-- The printed body reads its device number and then runs the looped program at the printed table. -/
theorem body_printed :
    cc0_body (F := F) xM (Memref.isWhole_whole _) wM (Memref.isWhole_whole _) oM (Memref.isWhole_whole _)
      accM (Memref.isWhole_whole _) achM (Memref.isWhole_whole _) redM (Memref.isWhole_whole _)
      outM (Memref.isWhole_whole _) g1M (Memref.isWhole_whole _) g2M (Memref.isWhole_whole _)
      cc0_scratch6 cc0_scratch7 cc0_scratch8 cc0_scratch9 cc0_scratch10 cc0_scratch11
      = Prog.op .deviceId (fun d => bodyP (printed d)) := by
  rw [cc0_body_eq_skeleton]
  rfl

end Cert.IdealRun

end

end
-- ==== Proof.Ideal.Run.lean ====
/-
The run: from any memory with all counters at zero, the launch of the kernel on the whole mesh terminates, and leaves the
arguments unchanged, every counter at zero, and every device's result array at the content `resC`.
-/
module

public import proofs.«01_k».proof.Proof.Ideal.Start
public import proofs.«01_k».proof.Proof.Ideal.BodyEq
public import Idealize.ShloMosaic.Lib.Pipeline.CollectiveSegs

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Transfers (shareTok shareDrop)

variable {F : FTy → Type} [FloatOps F]

local notation "𝕄" => MT nD τ sig Unit (Elt F) ℕ UU ℕ

variable (m : (l : Loc nD τ sig) → Buf (Elt F) l) (ρ : Dev nD → PrngReg)

/-- The memory at launch: any contents, every counter at zero. -/
def s₀ : MemSt nD τ sig (Elt F) := ⟨m, fun _ => 0, ρ⟩

/-- A device's two blocks, as the pipeline fetches them. -/
def xin (c : Dev nD) : Vec F S1024x32 .f32 := (win0_0.blk t0_0).view.read (Elt F) (m ((c : Thread nD τ).loc main_arg0))
def win (c : Dev nD) : Vec F S32x1024 .f32 := (win0_1.blk t0_0).view.read (Elt F) (m ((c : Thread nD τ).loc main_arg1))

/-- Before the body and after it. -/
def Φ₀ (c : Dev nD) : sProp 𝕄 := iprop(start (xin m) (win m) c ∗ scratch c)
def Φ₁ (c : Dev nD) : sProp 𝕄 := iprop(scratch c ∗ closed c)

/-- What the pipeline's one point does: it leaves the inputs and writes the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => resC (xin m) (win m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

/-- A staging buffer held at a content is the buffer at it. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
def bodyPost (c : Dev nD) : sProp 𝕄 :=
  iprop(Φ₁ c ∗ (dats m ρ 0 c).owesAt () t0_0.succ ∗ held c cc0_stg0_0 (xin m c) ∗ held c cc0_stg1_0 (win m c)
    ∗ held c cc0_stg2_0 (resC (xin m) (win m) c))

/-- The body's run, in the pipeline's terms. -/
theorem body_at (c : Dev nD) : bodyPre m ρ c ⊢ runs c (bodyP (route c)) (bodyPost m ρ c) := by
  unfold bodyPre Φ₀ start
  iintro ⟨⟨⟨⟨%K, #Hc⟩, Hseed⟩, Hscr⟩, Ho, ⟨%d0, %g0, %hg0, Hx⟩, ⟨%d1, %g1, %hg1, Hw⟩, ⟨%d2, %g2, %hg2, Hres⟩⟩
  have hx : g0 = xin m c := by rw [hg0]; unfold Dat.before; rw [if_pos (fetch0_0 t0_0)]; rfl
  have hw : g1 = win m c := by rw [hg1]; unfold Dat.before; rw [if_pos (fetch0_1 t0_0)]; rfl
  subst hx
  subst hw
  unfold Dat.owesAt Pipeline.owesWithin
  icases Ho with ⟨%V, %hV, HO⟩
  rw [show (dats m ρ 0 c).owed t0_0.castSucc = O₀ c from rfl]
  iapply (runs_wand c (bodyP (route c)) iprop(scratch (F := F) c ∗ closed (F := F) c ∗ ow c 0
    ∗ at' (xL c) Finset.univ fullShare (xin m c) ∗ at' (wL c) Finset.univ fullShare (win m c)
    ∗ at' (oL c) Finset.univ fullShare (resC (xin m) (win m) c)))
  isplitl [Hseed Hscr HO Hx Hw Hres]
  · iapply (body_run (xin m) (win m) K c)
    isplitr; · iexact Hc
    isplitl [Hseed]; · iexact Hseed
    isplitl [Hscr]; · iexact Hscr
    isplitl [HO]
    · unfold ow; iexists V; iexact HO
    isplitl [Hx]; · iexact Hx
    isplitl [Hw]; · iexact Hw
    iexists g2; iexact Hres
  iintro ⟨Hscr, Hcl, HO, Hx, Hw, Hres⟩
  unfold ow bodyPost Φ₁ Dat.owesAt Pipeline.owesWithin
  icases HO with ⟨%V', HO⟩
  rw [show (dats m ρ 0 c).owed t0_0.succ = 0 from rfl]
  isplitl [Hscr Hcl]
  · isplitl [Hscr] <;> iassumption
  isplitl [HO]
  · iexists V'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hres

set_option maxRecDepth 40000 in
/-- The pipeline's obligation of the body. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  show bodyPre m ρ c ⊢ wp frame (wpE (defs₀ (F := F)) 𝒱₀ c none) Set.univ
    (cc0_body (F := F) xM (Memref.isWhole_whole _) wM (Memref.isWhole_whole _) oM (Memref.isWhole_whole _)
      accM (Memref.isWhole_whole _) achM (Memref.isWhole_whole _) redM (Memref.isWhole_whole _)
      outM (Memref.isWhole_whole _) g1M (Memref.isWhole_whole _) g2M (Memref.isWhole_whole _)
      cc0_scratch6 cc0_scratch7 cc0_scratch8 cc0_scratch9 cc0_scratch10 cc0_scratch11) (fun _ => bodyPost m ρ c)
  rw [body_printed]
  simp only [wp_deviceId, route_eq]
  exact body_at m ρ c

/-! ## The launch theorem's side conditions -/

theorem share_eq (c : Dev nD) (w : Fin cfg0.W) : (dats m ρ 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xin m) (win m) c)
      ⊢ |={Set.univ}=> iprop(start (xin m) (win m) c ∗ emp) := by
  iintro ⟨-, Hlev, Hcr, -, HG⟩
  imodintro
  isplitl
  · iapply (start_of (xin m) (win m) c)
    isplitl [Hlev]; · iexact Hlev
    isplitl [Hcr]; · iexact Hcr
    iexact HG
  · iempintro

theorem scratch_eq (c : Dev nD) : (Pipeline.scopedRest (Ix := Unit) (Name := ℕ) (U := UU) (Lvl := ℕ) (Val := Elt F) cfg0.spec c : sProp 𝕄) = scratch c :=
  scopedRest0_eq c

theorem phi0_intro (c : Dev nD) :
    iprop(start (xin m) (win m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq]
  unfold Φ₁ closed
  iintro ⟨Hr, HzS, HzR, HzB⟩
  isplitl [HzB]; · iexact HzB
  isplitl [HzS HzR]
  · isplitl [HzS] <;> iassumption
  iexact Hr

/-- A staging semaphore is none of the exchange's, so it stands at level 0. -/
theorem lvs_stage (w : Fin 3) (s : Fin (cfg0.spec w).nbuf) : lvs (.dma ((cfg0.spec w).sem s)) ≤ 0 := by
  unfold lvs
  rcases h : which (.dma ((cfg0.spec w).sem s)) with _ | k
  · exact Nat.le_refl 0
  have hk : csem k = .dma ((cfg0.spec w).sem s) := by
    unfold which at h
    exact (Function.partialInv_of_injective csem_inj k _).mp h
  rcases k with k | k
  · cases hk
  · exact absurd hk (ownSemFacts.disj k w s)

theorem waits (c : Dev nD) : (levAts L lv : sProp 𝕄) ⊢ Pipeline.cellsWaits cfgs (dats m ρ) () 0 c :=
  Pipeline.cellsWaits_intro cfgs (dats m ρ) () 0 c fun w s t => by
    rw [← levs_eq]
    refine mayWait c _ (n := 0) (lvs_stage w s) ?_
    rcases t with ⟨_ | _, ht⟩
    · exact above_O₀ c
    · exact above_zero 0

/-! ## The run -/

/-- What a run leaves: every array of the launch at its final content, and every counter at zero. -/
def Left (r : PUnit × MemSt nD τ sig (Elt F)) : Prop :=
  (∀ (c : Dev nD) (w : Fin cfg0.W), r.2.mem ((cfg0.win w).arr.view.loc (c : Thread nD τ)) = (dats m ρ 0 c).arrAt w cfg0.N)
    ∧ r.2.sem = fun _ => 0

set_option maxRecDepth 40000 in
/-- For any float values and from any memory with all counters at zero, every weakly fair run on the mesh terminates and
    leaves `Left`. -/
theorem run_main : θ_run defs (onTc (τ := τ) (main (F := F))) (s₀ m ρ) (Left m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xin m) (win m)) (G' := G' (xin m) (win m)) (u₀ := u₀)
    (hu₀ := by
      unfold u₀
      iintro Hu
      ihave H := (ownU_pair _ _) $$ Hu
      icases H with ⟨HP, HX⟩
      imod (fund_cells (xin m) (win m)) $$ HX with HG
      imodintro
      isplitl [HP] <;> iassumption)
    (hglob := glob (xin m) (win m))
    (hA := fun _ _ => rfl) (hpf := fun _ k => k.elim0)
    (X := start (xin m) (win m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem arg0_kept (c : Dev nD) : (dats (F := F) m ρ 0 c).arrAt (0 : Fin 3) cfg0.N = m ((c : Thread nD τ).loc main_arg0) :=
  (dats (F := F) m ρ 0 c).arrAt_in (0 : Fin 3) rfl _
theorem arg1_kept (c : Dev nD) : (dats (F := F) m ρ 0 c).arrAt (1 : Fin 3) cfg0.N = m ((c : Thread nD τ).loc main_arg1) :=
  (dats (F := F) m ρ 0 c).arrAt_in (1 : Fin 3) rfl _

end Cert.IdealRun

end

end
-- ==== Proof.Ideal.Value.lean ====
/-
The kernel against the product of the whole arrays.

Every device's result array ends holding the relu of the sum of the thirty-two partial products. Where the devices hold
the column blocks of one matrix and the row blocks of another, that sum is the product of the two matrices, so the
result is what the reference computes.
-/
module

public import proofs.«01_k».proof.Proof.Ideal.Sums
public import proofs.«01_k».proof.Proof.Ideal.Run
public import proofs.«01_k».proof.Proof.Gen.ReferenceIdeal.Run
public import Idealize.ShloMosaic.Lib.Layout
public import Idealize.ShloMosaic.Lib.Pipeline.Value

@[expose] public section

noncomputable section

namespace Cert.IdealRun

open Cert.KernelIdeal Cert.KernelIdeal.Gen
open Idealize.ShloMosaic hiding ix2 ix3 eq_ix2
open Idealize.ShloMosaic.ValueIdx
open Idealize.ShloMosaic.TcCoe
open Idealize.ShloMosaic.Pipeline (Dat)

/-! ## The arrays and their one block -/

section Windows

variable {F : FTy → Type} [FloatOps F]
variable (m : (l : Loc nD τ sig) → Buf (Elt F) l) (ρ : Dev nD → PrngReg)

/-- Each window's one block is its whole array. -/
theorem xin_eq (c : Dev nD) : xin m c = m ((c : Thread nD τ).loc main_arg0) :=
  Memref.read_access_unit_zero (Elt F) main_arg0 (funext fun a => by fin_cases a <;> decide) _ _
theorem win_eq (c : Dev nD) : win m c = m ((c : Thread nD τ).loc main_arg1) :=
  Memref.read_access_unit_zero (Elt F) main_arg1 (funext fun a => by fin_cases a <;> decide) _ _
theorem res_read (f : Vec F S1024x1024 .f32) : (win0_2.blk t0_0).view.read (Elt F) f = f :=
  Memref.read_access_unit_zero (Elt F) main_v1 (funext fun a => by fin_cases a <;> decide) _ _

/-- The result array after the run. -/
theorem result_at (c : Dev nD) : (dats m ρ 0 c).arrAt (2 : Fin 3) cfg0.N = resC (xin m) (win m) c :=
  (dats m ρ 0 c).arrAt_eq_of_cover (2 : Fin 3) (resC (xin m) (win m) c)
    (fun t _ => by
      obtain rfl := fin_N0 t
      exact (res_read (resC (xin m) (win m) c)).symm)
    fun i => ⟨t0_0, flush0_2 t0_0, by
      show i ∈ ((View.whole main_v1).slice (win0_2.rect t0_0)).set
      rw [View.set_slice_whole, Rect.mem_set_unit]
      have z : ∀ a, win0_2.kind.off (win0_2.index t0_0 a) (win0_2.size a) = 0 := by intro a; fin_cases a <;> decide +kernel
      have e : ∀ a, win0_2.xsize (grid0.coords t0_0) a = main_v1.ty.shape.size a := by
        intro a; fin_cases a <;> decide +kernel
      intro a
      exact ⟨(z a).le.trans (Nat.zero_le _),
        ((i a).isLt.trans_eq (e a).symm).trans_le (Nat.le_add_left _ _)⟩⟩

end Windows

/-! ## The reference at an element -/

/-- The sum over 1024 places, taken block by block. -/
theorem sum_blocks {M : Type} [AddCommMonoid M] (g : Fin 1024 → M) :
    ∑ k : Fin 1024, g k = ∑ d : Fin 32, ∑ j : Fin 32, g ⟨d.val * 32 + j.val, by omega⟩ := by
  have h := Equiv.sum_comp (finProdFinEquiv (m := 32) (n := 32)) g
  rw [← h, Fintype.sum_prod_type]
  exact Finset.sum_congr rfl fun d _ => Finset.sum_congr rfl fun j _ =>
    congrArg g (Fin.ext (by show j.val + 32 * d.val = d.val * 32 + j.val; omega))

/-- The reference's result as a function of the two whole arrays. -/
def refOf (A B : Vec Ideal Cert.ReferenceIdeal.S1024x1024 .f32) : Vec Ideal Cert.ReferenceIdeal.S1024x1024 .f32 :=
  maximumf (φ := .f32)
    (Host.dotGeneral (φ₁ := .f32) (φ₂ := .f32) Cert.ReferenceIdeal.dot_S1024x1024_S1024x1024_S1024x1024_1_0_0_1_n_n none A B)
    (broadcastInDim Cert.ReferenceIdeal.S1024x1024 ![] Cert.ReferenceIdeal.Gen.bcast_S_S1024x1024
      (constant (F := Ideal) Cert.ReferenceIdeal.S_ .f32 0x00000000#32))

theorem refOf_at (A B : Vec Ideal Cert.ReferenceIdeal.S1024x1024 .f32) (x y : Fin 1024) :
    refOf A B (ix2 x y) = max (∑ k : Fin 1024, A (ix2 x k) * B (ix2 k y)) (0 : EReal) := by
  unfold refOf
  pointwise
  rfl

/-! ## The equation -/

/-- On the blocks of two matrices the kernel's result is the reference's on the matrices. -/
theorem resC_eq_ref (A B : Vec Ideal Cert.ReferenceIdeal.S1024x1024 .f32) (X : Dev nD → Vec Ideal S1024x32 .f32)
    (W : Dev nD → Vec Ideal S32x1024 .f32)
    (hX : ∀ c, X c = Layout.block ⟨2, ![1024, 32]⟩ ⟨2, ![1024, 1024]⟩ 1 32 c A)
    (hW : ∀ c, W c = Layout.block ⟨2, ![32, 1024]⟩ ⟨2, ![1024, 1024]⟩ 0 32 c B) (c : Dev nD) :
    resC X W c = refOf A B := by
  funext i
  obtain ⟨x, y, rfl⟩ : ∃ x y : Fin 1024, i = ix2 x y := ⟨i 0, i 1, eq_ix2 i⟩
  refine (resC_at X W c x y).trans (Eq.trans (congrArg (fun s : EReal => max s 0) ?_) (refOf_at A B x y).symm)
  refine Eq.trans (Finset.sum_congr rfl fun d _ => Finset.sum_congr rfl fun k _ => ?_)
    (sum_blocks fun k => A (ix2 x k) * B (ix2 k y)).symm
  rw [hX d, hW d]
  refine congrArg₂ (fun a b : EReal => a * b) (congrArg A (funext fun a => ?_)) (congrArg B (funext fun a => ?_))
  · match a with
    | ⟨0, _⟩ => rfl
    | ⟨1, _⟩ => rfl
  · match a with
    | ⟨0, _⟩ => rfl
    | ⟨1, _⟩ => rfl

end Cert.IdealRun

end

end
-- ==== Proof.lean ====
/-
The five claims, put together.

The three frames and the value claim are the runs of the two programs: `run_main` of the kernel, proved once over any
float values and used at the float words and at the extended reals, and the run of the reference. `preserves` has
nothing to prove, since no operation was rewritten between the two readings of the kernel.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Run
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The kernel as printed runs on the mesh, keeps its arguments and ends with every counter at zero. -/
theorem frame_kernel : Cert.quiescent_Kernel := fun m ρ _ =>
  (θ_run Cert.Kernel.defs _ _).mono
    (fun _ h => ⟨fun c => ⟨(h.1 c (0 : Fin 3)).trans (Cert.BitsRun.arg0_kept m ρ c), (h.1 c (1 : Fin 3)).trans (Cert.BitsRun.arg1_kept m ρ c)⟩, h.2⟩)
    (Cert.BitsRun.run_main (F := Bits) m ρ)

/-- So does the kernel read over the extended reals, -/
theorem frame_ideal : Cert.quiescent_KernelIdeal := fun m ρ _ =>
  (θ_run Cert.KernelIdeal.defs _ _).mono
    (fun _ h => ⟨fun c => ⟨(h.1 c (0 : Fin 3)).trans (Cert.IdealRun.arg0_kept m ρ c), (h.1 c (1 : Fin 3)).trans (Cert.IdealRun.arg1_kept m ρ c)⟩, h.2⟩)
    (Cert.IdealRun.run_main (F := Ideal) m ρ)

/-- and so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the blocks of two matrices every device of the kernel ends with the reference's result on the matrices. -/
theorem value : Cert.algebraic_KernelIdeal_ReferenceIdeal := fun m ρ m' ρ' _ hb =>
  ⟨_, (θ_run Cert.KernelIdeal.defs _ _).mono
      (fun _ h c => ⟨((h.1 c (2 : Fin 3)).trans (Cert.IdealRun.result_at m ρ c)).trans
          (Cert.IdealRun.resC_eq_ref _ _ _ _ (fun d => (Cert.IdealRun.xin_eq m d).trans (hb d).1)
            (fun d => (Cert.IdealRun.win_eq m d).trans (hb d).2) c),
        (h.1 c (0 : Fin 3)).trans (Cert.IdealRun.arg0_kept m ρ c), (h.1 c (1 : Fin 3)).trans (Cert.IdealRun.arg1_kept m ρ c)⟩)
      (Cert.IdealRun.run_main (F := Ideal) m ρ),
    (θ_run Cert.ReferenceIdeal.defs _ _).mono (fun _ h => h 0) (Cert.ReferenceIdeal.Value.run (F := Ideal) m' ρ')⟩

/-- The certificate. -/
theorem claim : Cert.Claim := ⟨Cert.Kernel.Gen.facts, Cert.KernelIdeal.Gen.facts, Cert.ReferenceIdeal.Gen.facts,
  frame_kernel, frame_ideal, frame_reference, trivial, value⟩

end Cert.Proof

end
